-- ==== Defs.lean ====
def Pre_DnOut (m : (ℓ : Loc Cert.DnOut.nD Cert.DnOut.τ Cert.DnOut.sig) → Buf (Elt Bits) ℓ) : Prop :=
  True

def Pre_DnOutIdeal (m : (ℓ : Loc Cert.DnOutIdeal.nD Cert.DnOutIdeal.τ Cert.DnOutIdeal.sig) → Buf (Elt Ideal) ℓ) : Prop :=
  True

def Pre_DnOutRefIdeal (m : (ℓ : Loc Cert.DnOutRefIdeal.nD Cert.DnOutRefIdeal.τ Cert.DnOutRefIdeal.sig) → Buf (Elt Ideal) ℓ) : Prop :=
  True

def Pre_FfnB (m : (ℓ : Loc Cert.FfnB.nD Cert.FfnB.τ Cert.FfnB.sig) → Buf (Elt Bits) ℓ) : Prop :=
  True

def Pre_FfnBIdeal (m : (ℓ : Loc Cert.FfnBIdeal.nD Cert.FfnBIdeal.τ Cert.FfnBIdeal.sig) → Buf (Elt Ideal) ℓ) : Prop :=
  True

def Pre_FfnBIdeal_finite_cotangent [hPre_finite_cotangent : Cert.Pre_finite_cotangent.Facts] (m : (ℓ : Loc Cert.FfnBIdeal.nD Cert.FfnBIdeal.τ Cert.FfnBIdeal.sig) → Buf (Elt Ideal) ℓ) : Prop :=
  ∀ c : Dev Cert.FfnBIdeal.nD,
    (Cert.Pre_finite_cotangent.fn (F := Ideal) (m ((c.tc : Thread Cert.FfnBIdeal.nD Cert.FfnBIdeal.τ).loc Cert.FfnBIdeal.main_arg0)) (m ((c.tc : Thread Cert.FfnBIdeal.nD Cert.FfnBIdeal.τ).loc Cert.FfnBIdeal.main_arg1)) (m ((c.tc : Thread Cert.FfnBIdeal.nD Cert.FfnBIdeal.τ).loc Cert.FfnBIdeal.main_arg2)) (m ((c.tc : Thread Cert.FfnBIdeal.nD Cert.FfnBIdeal.τ).loc Cert.FfnBIdeal.main_arg3)) (m ((c.tc : Thread Cert.FfnBIdeal.nD Cert.FfnBIdeal.τ).loc Cert.FfnBIdeal.main_arg4)) (m ((c.tc : Thread Cert.FfnBIdeal.nD Cert.FfnBIdeal.τ).loc Cert.FfnBIdeal.main_arg5))) = (fun _ => 1#1)

def Pre_FfnBRefIdeal (m : (ℓ : Loc Cert.FfnBRefIdeal.nD Cert.FfnBRefIdeal.τ Cert.FfnBRefIdeal.sig) → Buf (Elt Ideal) ℓ) : Prop :=
  True

def Pre_FfnBRefIdeal_finite_cotangent [hPre_finite_cotangent : Cert.Pre_finite_cotangent.Facts] (m : (ℓ : Loc Cert.FfnBRefIdeal.nD Cert.FfnBRefIdeal.τ Cert.FfnBRefIdeal.sig) → Buf (Elt Ideal) ℓ) : Prop :=
  ∀ c : Dev Cert.FfnBRefIdeal.nD,
    (Cert.Pre_finite_cotangent.fn (F := Ideal) (m ((c.tc : Thread Cert.FfnBRefIdeal.nD Cert.FfnBRefIdeal.τ).loc Cert.FfnBRefIdeal.main_arg0)) (m ((c.tc : Thread Cert.FfnBRefIdeal.nD Cert.FfnBRefIdeal.τ).loc Cert.FfnBRefIdeal.main_arg1)) (m ((c.tc : Thread Cert.FfnBRefIdeal.nD Cert.FfnBRefIdeal.τ).loc Cert.FfnBRefIdeal.main_arg2)) (m ((c.tc : Thread Cert.FfnBRefIdeal.nD Cert.FfnBRefIdeal.τ).loc Cert.FfnBRefIdeal.main_arg3)) (m ((c.tc : Thread Cert.FfnBRefIdeal.nD Cert.FfnBRefIdeal.τ).loc Cert.FfnBRefIdeal.main_arg4)) (m ((c.tc : Thread Cert.FfnBRefIdeal.nD Cert.FfnBRefIdeal.τ).loc Cert.FfnBRefIdeal.main_arg5))) = (fun _ => 1#1)

def Pre_Dwg (m : (ℓ : Loc Cert.Dwg.nD Cert.Dwg.τ Cert.Dwg.sig) → Buf (Elt Bits) ℓ) : Prop :=
  True

def Pre_DwgIdeal (m : (ℓ : Loc Cert.DwgIdeal.nD Cert.DwgIdeal.τ Cert.DwgIdeal.sig) → Buf (Elt Ideal) ℓ) : Prop :=
  True

def Pre_DwgRefIdeal (m : (ℓ : Loc Cert.DwgRefIdeal.nD Cert.DwgRefIdeal.τ Cert.DwgRefIdeal.sig) → Buf (Elt Ideal) ℓ) : Prop :=
  True

def Pre_Dwd (m : (ℓ : Loc Cert.Dwd.nD Cert.Dwd.τ Cert.Dwd.sig) → Buf (Elt Bits) ℓ) : Prop :=
  True

def Pre_DwdIdeal (m : (ℓ : Loc Cert.DwdIdeal.nD Cert.DwdIdeal.τ Cert.DwdIdeal.sig) → Buf (Elt Ideal) ℓ) : Prop :=
  True

def Pre_DwdRefIdeal (m : (ℓ : Loc Cert.DwdRefIdeal.nD Cert.DwdRefIdeal.τ Cert.DwdRefIdeal.sig) → Buf (Elt Ideal) ℓ) : Prop :=
  True

def Pre_DH (m : (ℓ : Loc Cert.DH.nD Cert.DH.τ Cert.DH.sig) → Buf (Elt Bits) ℓ) : Prop :=
  True

def Pre_DHIdeal (m : (ℓ : Loc Cert.DHIdeal.nD Cert.DHIdeal.τ Cert.DHIdeal.sig) → Buf (Elt Ideal) ℓ) : Prop :=
  True

def Pre_DHRefIdeal (m : (ℓ : Loc Cert.DHRefIdeal.nD Cert.DHRefIdeal.τ Cert.DHRefIdeal.sig) → Buf (Elt Ideal) ℓ) : Prop :=
  True

def Pre_DWcat (m : (ℓ : Loc Cert.DWcat.nD Cert.DWcat.τ Cert.DWcat.sig) → Buf (Elt Bits) ℓ) : Prop :=
  True

def Pre_DWcatIdeal (m : (ℓ : Loc Cert.DWcatIdeal.nD Cert.DWcatIdeal.τ Cert.DWcatIdeal.sig) → Buf (Elt Ideal) ℓ) : Prop :=
  True

def Pre_DWcatRefIdeal (m : (ℓ : Loc Cert.DWcatRefIdeal.nD Cert.DWcatRefIdeal.τ Cert.DWcatRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_DMerged (m : (ℓ : Loc Cert.DMerged.nD Cert.DMerged.τ Cert.DMerged.sig) → Buf (Elt Bits) ℓ) : Prop :=
  True

def Pre_DMergedIdeal (m : (ℓ : Loc Cert.DMergedIdeal.nD Cert.DMergedIdeal.τ Cert.DMergedIdeal.sig) → Buf (Elt Ideal) ℓ) : Prop :=
  True

def Pre_DMergedRefIdeal (m : (ℓ : Loc Cert.DMergedRefIdeal.nD Cert.DMergedRefIdeal.τ Cert.DMergedRefIdeal.sig) → Buf (Elt Ideal) ℓ) : Prop :=
  True

def Pre_DWout (m : (ℓ : Loc Cert.DWout.nD Cert.DWout.τ Cert.DWout.sig) → Buf (Elt Bits) ℓ) : Prop :=
  True

def Pre_DWoutIdeal (m : (ℓ : Loc Cert.DWoutIdeal.nD Cert.DWoutIdeal.τ Cert.DWoutIdeal.sig) → Buf (Elt Ideal) ℓ) : Prop :=
  True

def Pre_DWoutRefIdeal (m : (ℓ : Loc Cert.DWoutRefIdeal.nD Cert.DWoutRefIdeal.τ Cert.DWoutRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Pa (m : (ℓ : Loc Cert.Pa.nD Cert.Pa.τ Cert.Pa.sig) → Buf (Elt Bits) ℓ) : Prop :=
  True

def Pre_PaIdeal (m : (ℓ : Loc Cert.PaIdeal.nD Cert.PaIdeal.τ Cert.PaIdeal.sig) → Buf (Elt Ideal) ℓ) : Prop :=
  True

def Pre_PaRefIdeal (m : (ℓ : Loc Cert.PaRefIdeal.nD Cert.PaRefIdeal.τ Cert.PaRefIdeal.sig) → Buf (Elt Ideal) ℓ) : Prop :=
  True

def Pre_DPa (m : (ℓ : Loc Cert.DPa.nD Cert.DPa.τ Cert.DPa.sig) → Buf (Elt Bits) ℓ) : Prop :=
  True

def Pre_DPaIdeal (m : (ℓ : Loc Cert.DPaIdeal.nD Cert.DPaIdeal.τ Cert.DPaIdeal.sig) → Buf (Elt Ideal) ℓ) : Prop :=
  True

def Pre_DPaRefIdeal (m : (ℓ : Loc Cert.DPaRefIdeal.nD Cert.DPaRefIdeal.τ Cert.DPaRefIdeal.sig) → Buf (Elt Ideal) ℓ) : Prop :=
  True

def Pre_DWpa (m : (ℓ : Loc Cert.DWpa.nD Cert.DWpa.τ Cert.DWpa.sig) → Buf (Elt Bits) ℓ) : Prop :=
  True

def Pre_DWpaIdeal (m : (ℓ : Loc Cert.DWpaIdeal.nD Cert.DWpaIdeal.τ Cert.DWpaIdeal.sig) → Buf (Elt Ideal) ℓ) : Prop :=
  True

def Pre_DWpaRefIdeal (m : (ℓ : Loc Cert.DWpaRefIdeal.nD Cert.DWpaRefIdeal.τ Cert.DWpaRefIdeal.sig) → Buf (Elt Ideal) ℓ) : Prop :=
  True

def Pre_Pc (m : (ℓ : Loc Cert.Pc.nD Cert.Pc.τ Cert.Pc.sig) → Buf (Elt Bits) ℓ) : Prop :=
  True

def Pre_PcIdeal (m : (ℓ : Loc Cert.PcIdeal.nD Cert.PcIdeal.τ Cert.PcIdeal.sig) → Buf (Elt Ideal) ℓ) : Prop :=
  True

def Pre_PcRefIdeal (m : (ℓ : Loc Cert.PcRefIdeal.nD Cert.PcRefIdeal.τ Cert.PcRefIdeal.sig) → Buf (Elt Ideal) ℓ) : Prop :=
  True

def Pre_DPc (m : (ℓ : Loc Cert.DPc.nD Cert.DPc.τ Cert.DPc.sig) → Buf (Elt Bits) ℓ) : Prop :=
  True

def Pre_DPcIdeal (m : (ℓ : Loc Cert.DPcIdeal.nD Cert.DPcIdeal.τ Cert.DPcIdeal.sig) → Buf (Elt Ideal) ℓ) : Prop :=
  True

def Pre_DPcRefIdeal (m : (ℓ : Loc Cert.DPcRefIdeal.nD Cert.DPcRefIdeal.τ Cert.DPcRefIdeal.sig) → Buf (Elt Ideal) ℓ) : Prop :=
  True

def Pre_DWpc (m : (ℓ : Loc Cert.DWpc.nD Cert.DWpc.τ Cert.DWpc.sig) → Buf (Elt Bits) ℓ) : Prop :=
  True

def Pre_DWpcIdeal (m : (ℓ : Loc Cert.DWpcIdeal.nD Cert.DWpcIdeal.τ Cert.DWpcIdeal.sig) → Buf (Elt Ideal) ℓ) : Prop :=
  True

def Pre_DWpcRefIdeal (m : (ℓ : Loc Cert.DWpcRefIdeal.nD Cert.DWpcRefIdeal.τ Cert.DWpcRefIdeal.sig) → Buf (Elt Ideal) ℓ) : Prop :=
  True

def Pre_GatesB (m : (ℓ : Loc Cert.GatesB.nD Cert.GatesB.τ Cert.GatesB.sig) → Buf (Elt Bits) ℓ) : Prop :=
  True

def Pre_GatesBIdeal (m : (ℓ : Loc Cert.GatesBIdeal.nD Cert.GatesBIdeal.τ Cert.GatesBIdeal.sig) → Buf (Elt Ideal) ℓ) : Prop :=
  True

def Pre_GatesBRefIdeal (m : (ℓ : Loc Cert.GatesBRefIdeal.nD Cert.GatesBRefIdeal.τ Cert.GatesBRefIdeal.sig) → Buf (Elt Ideal) ℓ) : Prop :=
  True

def Pre_NormB (m : (ℓ : Loc Cert.NormB.nD Cert.NormB.τ Cert.NormB.sig) → Buf (Elt Bits) ℓ) : Prop :=
  True

def Pre_NormBIdeal (m : (ℓ : Loc Cert.NormBIdeal.nD Cert.NormBIdeal.τ Cert.NormBIdeal.sig) → Buf (Elt Ideal) ℓ) : Prop :=
  True

def Pre_NormBRefIdeal (m : (ℓ : Loc Cert.NormBRefIdeal.nD Cert.NormBRefIdeal.τ Cert.NormBRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_GateNorm (m : (ℓ : Loc Cert.GateNorm.nD Cert.GateNorm.τ Cert.GateNorm.sig) → Buf (Elt Bits) ℓ) : Prop :=
  True

def Pre_GateNormIdeal (m : (ℓ : Loc Cert.GateNormIdeal.nD Cert.GateNormIdeal.τ Cert.GateNormIdeal.sig) → Buf (Elt Ideal) ℓ) : Prop :=
  True

def Pre_GateNormRefIdeal (m : (ℓ : Loc Cert.GateNormRefIdeal.nD Cert.GateNormRefIdeal.τ Cert.GateNormRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_ProjBa (m : (ℓ : Loc Cert.ProjBa.nD Cert.ProjBa.τ Cert.ProjBa.sig) → Buf (Elt Bits) ℓ) : Prop :=
  True

def Pre_ProjBaIdeal (m : (ℓ : Loc Cert.ProjBaIdeal.nD Cert.ProjBaIdeal.τ Cert.ProjBaIdeal.sig) → Buf (Elt Ideal) ℓ) : Prop :=
  True

def Pre_ProjBaRefIdeal (m : (ℓ : Loc Cert.ProjBaRefIdeal.nD Cert.ProjBaRefIdeal.τ Cert.ProjBaRefIdeal.sig) → Buf (Elt Ideal) ℓ) : Prop :=
  True

def quiescent_DnOut [hDnOut : Cert.DnOut.Facts] : Prop :=
  ∀ (m : (ℓ : Loc Cert.DnOut.nD Cert.DnOut.τ Cert.DnOut.sig) → Buf (Elt Bits) ℓ) (g : Dev Cert.DnOut.nD → PrngReg), Pre_DnOut m →
    θ_run (Cert.DnOut.defs (F := Bits)) (onTc (τ := Cert.DnOut.τ) (Cert.DnOut.main (F := Bits))) ⟨m, fun _ => 0, g⟩ (fun r => (∀ c : Dev Cert.DnOut.nD,
      r.2.mem ((c.tc : Thread Cert.DnOut.nD Cert.DnOut.τ).loc Cert.DnOut.main_arg0) = m ((c.tc : Thread Cert.DnOut.nD Cert.DnOut.τ).loc Cert.DnOut.main_arg0)
      ∧ r.2.mem ((c.tc : Thread Cert.DnOut.nD Cert.DnOut.τ).loc Cert.DnOut.main_arg1) = m ((c.tc : Thread Cert.DnOut.nD Cert.DnOut.τ).loc Cert.DnOut.main_arg1)
      ∧ r.2.mem ((c.tc : Thread Cert.DnOut.nD Cert.DnOut.τ).loc Cert.DnOut.main_arg2) = m ((c.tc : Thread Cert.DnOut.nD Cert.DnOut.τ).loc Cert.DnOut.main_arg2)
      ∧ r.2.mem ((c.tc : Thread Cert.DnOut.nD Cert.DnOut.τ).loc Cert.DnOut.main_arg3) = m ((c.tc : Thread Cert.DnOut.nD Cert.DnOut.τ).loc Cert.DnOut.main_arg3))
      ∧ r.2.sem = fun _ => 0)

def quiescent_DnOutIdeal [hDnOutIdeal : Cert.DnOutIdeal.Facts] : Prop :=
  ∀ (m : (ℓ : Loc Cert.DnOutIdeal.nD Cert.DnOutIdeal.τ Cert.DnOutIdeal.sig) → Buf (Elt Ideal) ℓ) (g : Dev Cert.DnOutIdeal.nD → PrngReg), Pre_DnOutIdeal m →
    θ_run (Cert.DnOutIdeal.defs (F := Ideal)) (onTc (τ := Cert.DnOutIdeal.τ) (Cert.DnOutIdeal.main (F := Ideal))) ⟨m, fun _ => 0, g⟩ (fun r => (∀ c : Dev Cert.DnOutIdeal.nD,
      r.2.mem ((c.tc : Thread Cert.DnOutIdeal.nD Cert.DnOutIdeal.τ).loc Cert.DnOutIdeal.main_arg0) = m ((c.tc : Thread Cert.DnOutIdeal.nD Cert.DnOutIdeal.τ).loc Cert.DnOutIdeal.main_arg0)
      ∧ r.2.mem ((c.tc : Thread Cert.DnOutIdeal.nD Cert.DnOutIdeal.τ).loc Cert.DnOutIdeal.main_arg1) = m ((c.tc : Thread Cert.DnOutIdeal.nD Cert.DnOutIdeal.τ).loc Cert.DnOutIdeal.main_arg1)
      ∧ r.2.mem ((c.tc : Thread Cert.DnOutIdeal.nD Cert.DnOutIdeal.τ).loc Cert.DnOutIdeal.main_arg2) = m ((c.tc : Thread Cert.DnOutIdeal.nD Cert.DnOutIdeal.τ).loc Cert.DnOutIdeal.main_arg2)
      ∧ r.2.mem ((c.tc : Thread Cert.DnOutIdeal.nD Cert.DnOutIdeal.τ).loc Cert.DnOutIdeal.main_arg3) = m ((c.tc : Thread Cert.DnOutIdeal.nD Cert.DnOutIdeal.τ).loc Cert.DnOutIdeal.main_arg3))
      ∧ r.2.sem = fun _ => 0)

def quiescent_DnOutRefIdeal [hDnOutRefIdeal : Cert.DnOutRefIdeal.Facts] : Prop :=
  ∀ (m : (ℓ : Loc Cert.DnOutRefIdeal.nD Cert.DnOutRefIdeal.τ Cert.DnOutRefIdeal.sig) → Buf (Elt Ideal) ℓ) (g : Dev Cert.DnOutRefIdeal.nD → PrngReg), Pre_DnOutRefIdeal m →
    θ_run (Cert.DnOutRefIdeal.defs (F := Ideal)) (onTc (τ := Cert.DnOutRefIdeal.τ) (Cert.DnOutRefIdeal.main (F := Ideal))) ⟨m, fun _ => 0, g⟩ (fun r => (∀ c : Dev Cert.DnOutRefIdeal.nD,
      r.2.mem ((c.tc : Thread Cert.DnOutRefIdeal.nD Cert.DnOutRefIdeal.τ).loc Cert.DnOutRefIdeal.main_arg0) = m ((c.tc : Thread Cert.DnOutRefIdeal.nD Cert.DnOutRefIdeal.τ).loc Cert.DnOutRefIdeal.main_arg0)
      ∧ r.2.mem ((c.tc : Thread Cert.DnOutRefIdeal.nD Cert.DnOutRefIdeal.τ).loc Cert.DnOutRefIdeal.main_arg1) = m ((c.tc : Thread Cert.DnOutRefIdeal.nD Cert.DnOutRefIdeal.τ).loc Cert.DnOutRefIdeal.main_arg1)
      ∧ r.2.mem ((c.tc : Thread Cert.DnOutRefIdeal.nD Cert.DnOutRefIdeal.τ).loc Cert.DnOutRefIdeal.main_arg2) = m ((c.tc : Thread Cert.DnOutRefIdeal.nD Cert.DnOutRefIdeal.τ).loc Cert.DnOutRefIdeal.main_arg2)
      ∧ r.2.mem ((c.tc : Thread Cert.DnOutRefIdeal.nD Cert.DnOutRefIdeal.τ).loc Cert.DnOutRefIdeal.main_arg3) = m ((c.tc : Thread Cert.DnOutRefIdeal.nD Cert.DnOutRefIdeal.τ).loc Cert.DnOutRefIdeal.main_arg3))
      ∧ r.2.sem = fun _ => 0)

def quiescent_FfnB [hFfnB : Cert.FfnB.Facts] : Prop :=
  ∀ (m : (ℓ : Loc Cert.FfnB.nD Cert.FfnB.τ Cert.FfnB.sig) → Buf (Elt Bits) ℓ) (g : Dev Cert.FfnB.nD → PrngReg), Pre_FfnB m →
    θ_run (Cert.FfnB.defs (F := Bits)) (onTc (τ := Cert.FfnB.τ) (Cert.FfnB.main (F := Bits))) ⟨m, fun _ => 0, g⟩ (fun r => (∀ c : Dev Cert.FfnB.nD,
      r.2.mem ((c.tc : Thread Cert.FfnB.nD Cert.FfnB.τ).loc Cert.FfnB.main_arg0) = m ((c.tc : Thread Cert.FfnB.nD Cert.FfnB.τ).loc Cert.FfnB.main_arg0)
      ∧ r.2.mem ((c.tc : Thread Cert.FfnB.nD Cert.FfnB.τ).loc Cert.FfnB.main_arg1) = m ((c.tc : Thread Cert.FfnB.nD Cert.FfnB.τ).loc Cert.FfnB.main_arg1)
      ∧ r.2.mem ((c.tc : Thread Cert.FfnB.nD Cert.FfnB.τ).loc Cert.FfnB.main_arg2) = m ((c.tc : Thread Cert.FfnB.nD Cert.FfnB.τ).loc Cert.FfnB.main_arg2)
      ∧ r.2.mem ((c.tc : Thread Cert.FfnB.nD Cert.FfnB.τ).loc Cert.FfnB.main_arg3) = m ((c.tc : Thread Cert.FfnB.nD Cert.FfnB.τ).loc Cert.FfnB.main_arg3)
      ∧ r.2.mem ((c.tc : Thread Cert.FfnB.nD Cert.FfnB.τ).loc Cert.FfnB.main_arg4) = m ((c.tc : Thread Cert.FfnB.nD Cert.FfnB.τ).loc Cert.FfnB.main_arg4)
      ∧ r.2.mem ((c.tc : Thread Cert.FfnB.nD Cert.FfnB.τ).loc Cert.FfnB.main_arg5) = m ((c.tc : Thread Cert.FfnB.nD Cert.FfnB.τ).loc Cert.FfnB.main_arg5))
      ∧ r.2.sem = fun _ => 0)

def quiescent_FfnBIdeal [hFfnBIdeal : Cert.FfnBIdeal.Facts] : Prop :=
  ∀ (m : (ℓ : Loc Cert.FfnBIdeal.nD Cert.FfnBIdeal.τ Cert.FfnBIdeal.sig) → Buf (Elt Ideal) ℓ) (g : Dev Cert.FfnBIdeal.nD → PrngReg), Pre_FfnBIdeal m →
    θ_run (Cert.FfnBIdeal.defs (F := Ideal)) (onTc (τ := Cert.FfnBIdeal.τ) (Cert.FfnBIdeal.main (F := Ideal))) ⟨m, fun _ => 0, g⟩ (fun r => (∀ c : Dev Cert.FfnBIdeal.nD,
      r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
      ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
      ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
      ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
      ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4)
      ∧ r.2.mem ((c.tc : Thread Cert.FfnBIdeal.nD Cert.FfnBIdeal.τ).loc Cert.FfnBIdeal.main_arg5) = m ((c.tc : Thread Cert.FfnBIdeal.nD Cert.FfnBIdeal.τ).loc Cert.FfnBIdeal.main_arg5))
      ∧ r.2.sem = fun _ => 0)

def quiescent_FfnBIdeal_pre_finite_cotangent [hFfnBIdeal : Cert.FfnBIdeal.Facts] [hPre_finite_cotangent : Cert.Pre_finite_cotangent.Facts] : Prop :=
  ∀ (m : (ℓ : Loc Cert.FfnBIdeal.nD Cert.FfnBIdeal.τ Cert.FfnBIdeal.sig) → Buf (Elt Ideal) ℓ) (g : Dev Cert.FfnBIdeal.nD → PrngReg), Pre_FfnBIdeal_finite_cotangent m →
    θ_run (Cert.FfnBIdeal.defs (F := Ideal)) (onTc (τ := Cert.FfnBIdeal.τ) (Cert.FfnBIdeal.main (F := Ideal))) ⟨m, fun _ => 0, g⟩ (fun r => (∀ c : Dev Cert.FfnBIdeal.nD,
      r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
      ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
      ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
      ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
      ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4)
      ∧ r.2.mem ((c.tc : Thread Cert.FfnBIdeal.nD Cert.FfnBIdeal.τ).loc Cert.FfnBIdeal.main_arg5) = m ((c.tc : Thread Cert.FfnBIdeal.nD Cert.FfnBIdeal.τ).loc Cert.FfnBIdeal.main_arg5))
      ∧ r.2.sem = fun _ => 0)

def quiescent_FfnBRefIdeal [hFfnBRefIdeal : Cert.FfnBRefIdeal.Facts] : Prop :=
  ∀ (m : (ℓ : Loc Cert.FfnBRefIdeal.nD Cert.FfnBRefIdeal.τ Cert.FfnBRefIdeal.sig) → Buf (Elt Ideal) ℓ) (g : Dev Cert.FfnBRefIdeal.nD → PrngReg), Pre_FfnBRefIdeal m →
    θ_run (Cert.FfnBRefIdeal.defs (F := Ideal)) (onTc (τ := Cert.FfnBRefIdeal.τ) (Cert.FfnBRefIdeal.main (F := Ideal))) ⟨m, fun _ => 0, g⟩ (fun r => (∀ c : Dev Cert.FfnBRefIdeal.nD,
      r.2.mem ((c.tc : Thread Cert.FfnBRefIdeal.nD Cert.FfnBRefIdeal.τ).loc Cert.FfnBRefIdeal.main_arg0) = m ((c.tc : Thread Cert.FfnBRefIdeal.nD Cert.FfnBRefIdeal.τ).loc Cert.FfnBRefIdeal.main_arg0)
      ∧ r.2.mem ((c.tc : Thread Cert.FfnBRefIdeal.nD Cert.FfnBRefIdeal.τ).loc Cert.FfnBRefIdeal.main_arg1) = m ((c.tc : Thread Cert.FfnBRefIdeal.nD Cert.FfnBRefIdeal.τ).loc Cert.FfnBRefIdeal.main_arg1)
      ∧ r.2.mem ((c.tc : Thread Cert.FfnBRefIdeal.nD Cert.FfnBRefIdeal.τ).loc Cert.FfnBRefIdeal.main_arg2) = m ((c.tc : Thread Cert.FfnBRefIdeal.nD Cert.FfnBRefIdeal.τ).loc Cert.FfnBRefIdeal.main_arg2)
      ∧ r.2.mem ((c.tc : Thread Cert.FfnBRefIdeal.nD Cert.FfnBRefIdeal.τ).loc Cert.FfnBRefIdeal.main_arg3) = m ((c.tc : Thread Cert.FfnBRefIdeal.nD Cert.FfnBRefIdeal.τ).loc Cert.FfnBRefIdeal.main_arg3)
      ∧ r.2.mem ((c.tc : Thread Cert.FfnBRefIdeal.nD Cert.FfnBRefIdeal.τ).loc Cert.FfnBRefIdeal.main_arg4) = m ((c.tc : Thread Cert.FfnBRefIdeal.nD Cert.FfnBRefIdeal.τ).loc Cert.FfnBRefIdeal.main_arg4)
      ∧ r.2.mem ((c.tc : Thread Cert.FfnBRefIdeal.nD Cert.FfnBRefIdeal.τ).loc Cert.FfnBRefIdeal.main_arg5) = m ((c.tc : Thread Cert.FfnBRefIdeal.nD Cert.FfnBRefIdeal.τ).loc Cert.FfnBRefIdeal.main_arg5))
      ∧ r.2.sem = fun _ => 0)

def quiescent_FfnBRefIdeal_pre_finite_cotangent [hFfnBRefIdeal : Cert.FfnBRefIdeal.Facts] [hPre_finite_cotangent : Cert.Pre_finite_cotangent.Facts] : Prop :=
  ∀ (m : (ℓ : Loc Cert.FfnBRefIdeal.nD Cert.FfnBRefIdeal.τ Cert.FfnBRefIdeal.sig) → Buf (Elt Ideal) ℓ) (g : Dev Cert.FfnBRefIdeal.nD → PrngReg), Pre_FfnBRefIdeal_finite_cotangent m →
    θ_run (Cert.FfnBRefIdeal.defs (F := Ideal)) (onTc (τ := Cert.FfnBRefIdeal.τ) (Cert.FfnBRefIdeal.main (F := Ideal))) ⟨m, fun _ => 0, g⟩ (fun r => (∀ c : Dev Cert.FfnBRefIdeal.nD,
      r.2.mem ((c.tc : Thread Cert.FfnBRefIdeal.nD Cert.FfnBRefIdeal.τ).loc Cert.FfnBRefIdeal.main_arg0) = m ((c.tc : Thread Cert.FfnBRefIdeal.nD Cert.FfnBRefIdeal.τ).loc Cert.FfnBRefIdeal.main_arg0)
      ∧ r.2.mem ((c.tc : Thread Cert.FfnBRefIdeal.nD Cert.FfnBRefIdeal.τ).loc Cert.FfnBRefIdeal.main_arg1) = m ((c.tc : Thread Cert.FfnBRefIdeal.nD Cert.FfnBRefIdeal.τ).loc Cert.FfnBRefIdeal.main_arg1)
      ∧ r.2.mem ((c.tc : Thread Cert.FfnBRefIdeal.nD Cert.FfnBRefIdeal.τ).loc Cert.FfnBRefIdeal.main_arg2) = m ((c.tc : Thread Cert.FfnBRefIdeal.nD Cert.FfnBRefIdeal.τ).loc Cert.FfnBRefIdeal.main_arg2)
      ∧ r.2.mem ((c.tc : Thread Cert.FfnBRefIdeal.nD Cert.FfnBRefIdeal.τ).loc Cert.FfnBRefIdeal.main_arg3) = m ((c.tc : Thread Cert.FfnBRefIdeal.nD Cert.FfnBRefIdeal.τ).loc Cert.FfnBRefIdeal.main_arg3)
      ∧ r.2.mem ((c.tc : Thread Cert.FfnBRefIdeal.nD Cert.FfnBRefIdeal.τ).loc Cert.FfnBRefIdeal.main_arg4) = m ((c.tc : Thread Cert.FfnBRefIdeal.nD Cert.FfnBRefIdeal.τ).loc Cert.FfnBRefIdeal.main_arg4)
      ∧ r.2.mem ((c.tc : Thread Cert.FfnBRefIdeal.nD Cert.FfnBRefIdeal.τ).loc Cert.FfnBRefIdeal.main_arg5) = m ((c.tc : Thread Cert.FfnBRefIdeal.nD Cert.FfnBRefIdeal.τ).loc Cert.FfnBRefIdeal.main_arg5))
      ∧ r.2.sem = fun _ => 0)

def quiescent_Dwg [hDwg : Cert.Dwg.Facts] : Prop :=
  ∀ (m : (ℓ : Loc Cert.Dwg.nD Cert.Dwg.τ Cert.Dwg.sig) → Buf (Elt Bits) ℓ) (g : Dev Cert.Dwg.nD → PrngReg), Pre_Dwg m →
    θ_run (Cert.Dwg.defs (F := Bits)) (onTc (τ := Cert.Dwg.τ) (Cert.Dwg.main (F := Bits))) ⟨m, fun _ => 0, g⟩ (fun r => (∀ c : Dev Cert.Dwg.nD,
      r.2.mem ((c.tc : Thread Cert.Dwg.nD Cert.Dwg.τ).loc Cert.Dwg.main_arg0) = m ((c.tc : Thread Cert.Dwg.nD Cert.Dwg.τ).loc Cert.Dwg.main_arg0)
      ∧ r.2.mem ((c.tc : Thread Cert.Dwg.nD Cert.Dwg.τ).loc Cert.Dwg.main_arg1) = m ((c.tc : Thread Cert.Dwg.nD Cert.Dwg.τ).loc Cert.Dwg.main_arg1))
      ∧ r.2.sem = fun _ => 0)

def quiescent_DwgIdeal [hDwgIdeal : Cert.DwgIdeal.Facts] : Prop :=
  ∀ (m : (ℓ : Loc Cert.DwgIdeal.nD Cert.DwgIdeal.τ Cert.DwgIdeal.sig) → Buf (Elt Ideal) ℓ) (g : Dev Cert.DwgIdeal.nD → PrngReg), Pre_DwgIdeal m →
    θ_run (Cert.DwgIdeal.defs (F := Ideal)) (onTc (τ := Cert.DwgIdeal.τ) (Cert.DwgIdeal.main (F := Ideal))) ⟨m, fun _ => 0, g⟩ (fun r => (∀ c : Dev Cert.DwgIdeal.nD,
      r.2.mem ((c.tc : Thread Cert.DwgIdeal.nD Cert.DwgIdeal.τ).loc Cert.DwgIdeal.main_arg0) = m ((c.tc : Thread Cert.DwgIdeal.nD Cert.DwgIdeal.τ).loc Cert.DwgIdeal.main_arg0)
      ∧ r.2.mem ((c.tc : Thread Cert.DwgIdeal.nD Cert.DwgIdeal.τ).loc Cert.DwgIdeal.main_arg1) = m ((c.tc : Thread Cert.DwgIdeal.nD Cert.DwgIdeal.τ).loc Cert.DwgIdeal.main_arg1))
      ∧ r.2.sem = fun _ => 0)

def quiescent_DwgRefIdeal [hDwgRefIdeal : Cert.DwgRefIdeal.Facts] : Prop :=
  ∀ (m : (ℓ : Loc Cert.DwgRefIdeal.nD Cert.DwgRefIdeal.τ Cert.DwgRefIdeal.sig) → Buf (Elt Ideal) ℓ) (g : Dev Cert.DwgRefIdeal.nD → PrngReg), Pre_DwgRefIdeal m →
    θ_run (Cert.DwgRefIdeal.defs (F := Ideal)) (onTc (τ := Cert.DwgRefIdeal.τ) (Cert.DwgRefIdeal.main (F := Ideal))) ⟨m, fun _ => 0, g⟩ (fun r => (∀ c : Dev Cert.DwgRefIdeal.nD,
      r.2.mem ((c.tc : Thread Cert.DwgRefIdeal.nD Cert.DwgRefIdeal.τ).loc Cert.DwgRefIdeal.main_arg0) = m ((c.tc : Thread Cert.DwgRefIdeal.nD Cert.DwgRefIdeal.τ).loc Cert.DwgRefIdeal.main_arg0)
      ∧ r.2.mem ((c.tc : Thread Cert.DwgRefIdeal.nD Cert.DwgRefIdeal.τ).loc Cert.DwgRefIdeal.main_arg1) = m ((c.tc : Thread Cert.DwgRefIdeal.nD Cert.DwgRefIdeal.τ).loc Cert.DwgRefIdeal.main_arg1))
      ∧ r.2.sem = fun _ => 0)

def quiescent_Dwd [hDwd : Cert.Dwd.Facts] : Prop :=
  ∀ (m : (ℓ : Loc Cert.Dwd.nD Cert.Dwd.τ Cert.Dwd.sig) → Buf (Elt Bits) ℓ) (g : Dev Cert.Dwd.nD → PrngReg), Pre_Dwd m →
    θ_run (Cert.Dwd.defs (F := Bits)) (onTc (τ := Cert.Dwd.τ) (Cert.Dwd.main (F := Bits))) ⟨m, fun _ => 0, g⟩ (fun r => (∀ c : Dev Cert.Dwd.nD,
      r.2.mem ((c.tc : Thread Cert.Dwd.nD Cert.Dwd.τ).loc Cert.Dwd.main_arg0) = m ((c.tc : Thread Cert.Dwd.nD Cert.Dwd.τ).loc Cert.Dwd.main_arg0)
      ∧ r.2.mem ((c.tc : Thread Cert.Dwd.nD Cert.Dwd.τ).loc Cert.Dwd.main_arg1) = m ((c.tc : Thread Cert.Dwd.nD Cert.Dwd.τ).loc Cert.Dwd.main_arg1))
      ∧ r.2.sem = fun _ => 0)

def quiescent_DwdIdeal [hDwdIdeal : Cert.DwdIdeal.Facts] : Prop :=
  ∀ (m : (ℓ : Loc Cert.DwdIdeal.nD Cert.DwdIdeal.τ Cert.DwdIdeal.sig) → Buf (Elt Ideal) ℓ) (g : Dev Cert.DwdIdeal.nD → PrngReg), Pre_DwdIdeal m →
    θ_run (Cert.DwdIdeal.defs (F := Ideal)) (onTc (τ := Cert.DwdIdeal.τ) (Cert.DwdIdeal.main (F := Ideal))) ⟨m, fun _ => 0, g⟩ (fun r => (∀ c : Dev Cert.DwdIdeal.nD,
      r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
      ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1))
      ∧ r.2.sem = fun _ => 0)

def quiescent_DwdRefIdeal [hDwdRefIdeal : Cert.DwdRefIdeal.Facts] : Prop :=
  ∀ (m : (ℓ : Loc Cert.DwdRefIdeal.nD Cert.DwdRefIdeal.τ Cert.DwdRefIdeal.sig) → Buf (Elt Ideal) ℓ) (g : Dev Cert.DwdRefIdeal.nD → PrngReg), Pre_DwdRefIdeal m →
    θ_run (Cert.DwdRefIdeal.defs (F := Ideal)) (onTc (τ := Cert.DwdRefIdeal.τ) (Cert.DwdRefIdeal.main (F := Ideal))) ⟨m, fun _ => 0, g⟩ (fun r => (∀ c : Dev Cert.DwdRefIdeal.nD,
      r.2.mem ((c.tc : Thread Cert.DwdRefIdeal.nD Cert.DwdRefIdeal.τ).loc Cert.DwdRefIdeal.main_arg0) = m ((c.tc : Thread Cert.DwdRefIdeal.nD Cert.DwdRefIdeal.τ).loc Cert.DwdRefIdeal.main_arg0)
      ∧ r.2.mem ((c.tc : Thread Cert.DwdRefIdeal.nD Cert.DwdRefIdeal.τ).loc Cert.DwdRefIdeal.main_arg1) = m ((c.tc : Thread Cert.DwdRefIdeal.nD Cert.DwdRefIdeal.τ).loc Cert.DwdRefIdeal.main_arg1))
      ∧ r.2.sem = fun _ => 0)

def quiescent_DH [hDH : Cert.DH.Facts] : Prop :=
  ∀ (m : (ℓ : Loc Cert.DH.nD Cert.DH.τ Cert.DH.sig) → Buf (Elt Bits) ℓ) (g : Dev Cert.DH.nD → PrngReg), Pre_DH m →
    θ_run (Cert.DH.defs (F := Bits)) (onTc (τ := Cert.DH.τ) (Cert.DH.main (F := Bits))) ⟨m, fun _ => 0, g⟩ (fun r => (∀ c : Dev Cert.DH.nD,
      r.2.mem ((c.tc : Thread Cert.DH.nD Cert.DH.τ).loc Cert.DH.main_arg0) = m ((c.tc : Thread Cert.DH.nD Cert.DH.τ).loc Cert.DH.main_arg0)
      ∧ r.2.mem ((c.tc : Thread Cert.DH.nD Cert.DH.τ).loc Cert.DH.main_arg1) = m ((c.tc : Thread Cert.DH.nD Cert.DH.τ).loc Cert.DH.main_arg1)
      ∧ r.2.mem ((c.tc : Thread Cert.DH.nD Cert.DH.τ).loc Cert.DH.main_arg2) = m ((c.tc : Thread Cert.DH.nD Cert.DH.τ).loc Cert.DH.main_arg2)
      ∧ r.2.mem ((c.tc : Thread Cert.DH.nD Cert.DH.τ).loc Cert.DH.main_arg3) = m ((c.tc : Thread Cert.DH.nD Cert.DH.τ).loc Cert.DH.main_arg3)
      ∧ r.2.mem ((c.tc : Thread Cert.DH.nD Cert.DH.τ).loc Cert.DH.main_arg4) = m ((c.tc : Thread Cert.DH.nD Cert.DH.τ).loc Cert.DH.main_arg4)
      ∧ r.2.mem ((c.tc : Thread Cert.DH.nD Cert.DH.τ).loc Cert.DH.main_arg5) = m ((c.tc : Thread Cert.DH.nD Cert.DH.τ).loc Cert.DH.main_arg5)
      ∧ r.2.mem ((c.tc : Thread Cert.DH.nD Cert.DH.τ).loc Cert.DH.main_arg6) = m ((c.tc : Thread Cert.DH.nD Cert.DH.τ).loc Cert.DH.main_arg6)
      ∧ r.2.mem ((c.tc : Thread Cert.DH.nD Cert.DH.τ).loc Cert.DH.main_arg7) = m ((c.tc : Thread Cert.DH.nD Cert.DH.τ).loc Cert.DH.main_arg7)
      ∧ r.2.mem ((c.tc : Thread Cert.DH.nD Cert.DH.τ).loc Cert.DH.main_arg8) = m ((c.tc : Thread Cert.DH.nD Cert.DH.τ).loc Cert.DH.main_arg8))
      ∧ r.2.sem = fun _ => 0)

def quiescent_DHIdeal [hDHIdeal : Cert.DHIdeal.Facts] : Prop :=
  ∀ (m : (ℓ : Loc Cert.DHIdeal.nD Cert.DHIdeal.τ Cert.DHIdeal.sig) → Buf (Elt Ideal) ℓ) (g : Dev Cert.DHIdeal.nD → PrngReg), Pre_DHIdeal m →
    θ_run (Cert.DHIdeal.defs (F := Ideal)) (onTc (τ := Cert.DHIdeal.τ) (Cert.DHIdeal.main (F := Ideal))) ⟨m, fun _ => 0, g⟩ (fun r => (∀ c : Dev Cert.DHIdeal.nD,
      r.2.mem ((c.tc : Thread Cert.DHIdeal.nD Cert.DHIdeal.τ).loc Cert.DHIdeal.main_arg0) = m ((c.tc : Thread Cert.DHIdeal.nD Cert.DHIdeal.τ).loc Cert.DHIdeal.main_arg0)
      ∧ r.2.mem ((c.tc : Thread Cert.DHIdeal.nD Cert.DHIdeal.τ).loc Cert.DHIdeal.main_arg1) = m ((c.tc : Thread Cert.DHIdeal.nD Cert.DHIdeal.τ).loc Cert.DHIdeal.main_arg1)
      ∧ r.2.mem ((c.tc : Thread Cert.DHIdeal.nD Cert.DHIdeal.τ).loc Cert.DHIdeal.main_arg2) = m ((c.tc : Thread Cert.DHIdeal.nD Cert.DHIdeal.τ).loc Cert.DHIdeal.main_arg2)
      ∧ r.2.mem ((c.tc : Thread Cert.DHIdeal.nD Cert.DHIdeal.τ).loc Cert.DHIdeal.main_arg3) = m ((c.tc : Thread Cert.DHIdeal.nD Cert.DHIdeal.τ).loc Cert.DHIdeal.main_arg3)
      ∧ r.2.mem ((c.tc : Thread Cert.DHIdeal.nD Cert.DHIdeal.τ).loc Cert.DHIdeal.main_arg4) = m ((c.tc : Thread Cert.DHIdeal.nD Cert.DHIdeal.τ).loc Cert.DHIdeal.main_arg4)
      ∧ r.2.mem ((c.tc : Thread Cert.DHIdeal.nD Cert.DHIdeal.τ).loc Cert.DHIdeal.main_arg5) = m ((c.tc : Thread Cert.DHIdeal.nD Cert.DHIdeal.τ).loc Cert.DHIdeal.main_arg5)
      ∧ r.2.mem ((c.tc : Thread Cert.DHIdeal.nD Cert.DHIdeal.τ).loc Cert.DHIdeal.main_arg6) = m ((c.tc : Thread Cert.DHIdeal.nD Cert.DHIdeal.τ).loc Cert.DHIdeal.main_arg6)
      ∧ r.2.mem ((c.tc : Thread Cert.DHIdeal.nD Cert.DHIdeal.τ).loc Cert.DHIdeal.main_arg7) = m ((c.tc : Thread Cert.DHIdeal.nD Cert.DHIdeal.τ).loc Cert.DHIdeal.main_arg7)
      ∧ r.2.mem ((c.tc : Thread Cert.DHIdeal.nD Cert.DHIdeal.τ).loc Cert.DHIdeal.main_arg8) = m ((c.tc : Thread Cert.DHIdeal.nD Cert.DHIdeal.τ).loc Cert.DHIdeal.main_arg8))
      ∧ r.2.sem = fun _ => 0)

def quiescent_DHRefIdeal [hDHRefIdeal : Cert.DHRefIdeal.Facts] : Prop :=
  ∀ (m : (ℓ : Loc Cert.DHRefIdeal.nD Cert.DHRefIdeal.τ Cert.DHRefIdeal.sig) → Buf (Elt Ideal) ℓ) (g : Dev Cert.DHRefIdeal.nD → PrngReg), Pre_DHRefIdeal m →
    θ_run (Cert.DHRefIdeal.defs (F := Ideal)) (onTc (τ := Cert.DHRefIdeal.τ) (Cert.DHRefIdeal.main (F := Ideal))) ⟨m, fun _ => 0, g⟩ (fun r => (∀ c : Dev Cert.DHRefIdeal.nD,
      r.2.mem ((c.tc : Thread Cert.DHRefIdeal.nD Cert.DHRefIdeal.τ).loc Cert.DHRefIdeal.main_arg0) = m ((c.tc : Thread Cert.DHRefIdeal.nD Cert.DHRefIdeal.τ).loc Cert.DHRefIdeal.main_arg0)
      ∧ r.2.mem ((c.tc : Thread Cert.DHRefIdeal.nD Cert.DHRefIdeal.τ).loc Cert.DHRefIdeal.main_arg1) = m ((c.tc : Thread Cert.DHRefIdeal.nD Cert.DHRefIdeal.τ).loc Cert.DHRefIdeal.main_arg1)
      ∧ r.2.mem ((c.tc : Thread Cert.DHRefIdeal.nD Cert.DHRefIdeal.τ).loc Cert.DHRefIdeal.main_arg2) = m ((c.tc : Thread Cert.DHRefIdeal.nD Cert.DHRefIdeal.τ).loc Cert.DHRefIdeal.main_arg2)
      ∧ r.2.mem ((c.tc : Thread Cert.DHRefIdeal.nD Cert.DHRefIdeal.τ).loc Cert.DHRefIdeal.main_arg3) = m ((c.tc : Thread Cert.DHRefIdeal.nD Cert.DHRefIdeal.τ).loc Cert.DHRefIdeal.main_arg3)
      ∧ r.2.mem ((c.tc : Thread Cert.DHRefIdeal.nD Cert.DHRefIdeal.τ).loc Cert.DHRefIdeal.main_arg4) = m ((c.tc : Thread Cert.DHRefIdeal.nD Cert.DHRefIdeal.τ).loc Cert.DHRefIdeal.main_arg4)
      ∧ r.2.mem ((c.tc : Thread Cert.DHRefIdeal.nD Cert.DHRefIdeal.τ).loc Cert.DHRefIdeal.main_arg5) = m ((c.tc : Thread Cert.DHRefIdeal.nD Cert.DHRefIdeal.τ).loc Cert.DHRefIdeal.main_arg5)
      ∧ r.2.mem ((c.tc : Thread Cert.DHRefIdeal.nD Cert.DHRefIdeal.τ).loc Cert.DHRefIdeal.main_arg6) = m ((c.tc : Thread Cert.DHRefIdeal.nD Cert.DHRefIdeal.τ).loc Cert.DHRefIdeal.main_arg6)
      ∧ r.2.mem ((c.tc : Thread Cert.DHRefIdeal.nD Cert.DHRefIdeal.τ).loc Cert.DHRefIdeal.main_arg7) = m ((c.tc : Thread Cert.DHRefIdeal.nD Cert.DHRefIdeal.τ).loc Cert.DHRefIdeal.main_arg7)
      ∧ r.2.mem ((c.tc : Thread Cert.DHRefIdeal.nD Cert.DHRefIdeal.τ).loc Cert.DHRefIdeal.main_arg8) = m ((c.tc : Thread Cert.DHRefIdeal.nD Cert.DHRefIdeal.τ).loc Cert.DHRefIdeal.main_arg8))
      ∧ r.2.sem = fun _ => 0)

def quiescent_DWcat [hDWcat : Cert.DWcat.Facts] : Prop :=
  ∀ (m : (ℓ : Loc Cert.DWcat.nD Cert.DWcat.τ Cert.DWcat.sig) → Buf (Elt Bits) ℓ) (g : Dev Cert.DWcat.nD → PrngReg), Pre_DWcat m →
    θ_run (Cert.DWcat.defs (F := Bits)) (onTc (τ := Cert.DWcat.τ) (Cert.DWcat.main (F := Bits))) ⟨m, fun _ => 0, g⟩ (fun r => (∀ c : Dev Cert.DWcat.nD,
      r.2.mem ((c.tc : Thread Cert.DWcat.nD Cert.DWcat.τ).loc Cert.DWcat.main_arg0) = m ((c.tc : Thread Cert.DWcat.nD Cert.DWcat.τ).loc Cert.DWcat.main_arg0)
      ∧ r.2.mem ((c.tc : Thread Cert.DWcat.nD Cert.DWcat.τ).loc Cert.DWcat.main_arg1) = m ((c.tc : Thread Cert.DWcat.nD Cert.DWcat.τ).loc Cert.DWcat.main_arg1)
      ∧ r.2.mem ((c.tc : Thread Cert.DWcat.nD Cert.DWcat.τ).loc Cert.DWcat.main_arg2) = m ((c.tc : Thread Cert.DWcat.nD Cert.DWcat.τ).loc Cert.DWcat.main_arg2)
      ∧ r.2.mem ((c.tc : Thread Cert.DWcat.nD Cert.DWcat.τ).loc Cert.DWcat.main_arg3) = m ((c.tc : Thread Cert.DWcat.nD Cert.DWcat.τ).loc Cert.DWcat.main_arg3)
      ∧ r.2.mem ((c.tc : Thread Cert.DWcat.nD Cert.DWcat.τ).loc Cert.DWcat.main_arg4) = m ((c.tc : Thread Cert.DWcat.nD Cert.DWcat.τ).loc Cert.DWcat.main_arg4)
      ∧ r.2.mem ((c.tc : Thread Cert.DWcat.nD Cert.DWcat.τ).loc Cert.DWcat.main_arg5) = m ((c.tc : Thread Cert.DWcat.nD Cert.DWcat.τ).loc Cert.DWcat.main_arg5)
      ∧ r.2.mem ((c.tc : Thread Cert.DWcat.nD Cert.DWcat.τ).loc Cert.DWcat.main_arg6) = m ((c.tc : Thread Cert.DWcat.nD Cert.DWcat.τ).loc Cert.DWcat.main_arg6)
      ∧ r.2.mem ((c.tc : Thread Cert.DWcat.nD Cert.DWcat.τ).loc Cert.DWcat.main_arg7) = m ((c.tc : Thread Cert.DWcat.nD Cert.DWcat.τ).loc Cert.DWcat.main_arg7))
      ∧ r.2.sem = fun _ => 0)

def quiescent_DWcatIdeal [hDWcatIdeal : Cert.DWcatIdeal.Facts] : Prop :=
  ∀ (m : (ℓ : Loc Cert.DWcatIdeal.nD Cert.DWcatIdeal.τ Cert.DWcatIdeal.sig) → Buf (Elt Ideal) ℓ) (g : Dev Cert.DWcatIdeal.nD → PrngReg), Pre_DWcatIdeal m →
    θ_run (Cert.DWcatIdeal.defs (F := Ideal)) (onTc (τ := Cert.DWcatIdeal.τ) (Cert.DWcatIdeal.main (F := Ideal))) ⟨m, fun _ => 0, g⟩ (fun r => (∀ c : Dev Cert.DWcatIdeal.nD,
      r.2.mem ((c.tc : Thread Cert.DWcatIdeal.nD Cert.DWcatIdeal.τ).loc Cert.DWcatIdeal.main_arg0) = m ((c.tc : Thread Cert.DWcatIdeal.nD Cert.DWcatIdeal.τ).loc Cert.DWcatIdeal.main_arg0)
      ∧ r.2.mem ((c.tc : Thread Cert.DWcatIdeal.nD Cert.DWcatIdeal.τ).loc Cert.DWcatIdeal.main_arg1) = m ((c.tc : Thread Cert.DWcatIdeal.nD Cert.DWcatIdeal.τ).loc Cert.DWcatIdeal.main_arg1)
      ∧ r.2.mem ((c.tc : Thread Cert.DWcatIdeal.nD Cert.DWcatIdeal.τ).loc Cert.DWcatIdeal.main_arg2) = m ((c.tc : Thread Cert.DWcatIdeal.nD Cert.DWcatIdeal.τ).loc Cert.DWcatIdeal.main_arg2)
      ∧ r.2.mem ((c.tc : Thread Cert.DWcatIdeal.nD Cert.DWcatIdeal.τ).loc Cert.DWcatIdeal.main_arg3) = m ((c.tc : Thread Cert.DWcatIdeal.nD Cert.DWcatIdeal.τ).loc Cert.DWcatIdeal.main_arg3)
      ∧ r.2.mem ((c.tc : Thread Cert.DWcatIdeal.nD Cert.DWcatIdeal.τ).loc Cert.DWcatIdeal.main_arg4) = m ((c.tc : Thread Cert.DWcatIdeal.nD Cert.DWcatIdeal.τ).loc Cert.DWcatIdeal.main_arg4)
      ∧ r.2.mem ((c.tc : Thread Cert.DWcatIdeal.nD Cert.DWcatIdeal.τ).loc Cert.DWcatIdeal.main_arg5) = m ((c.tc : Thread Cert.DWcatIdeal.nD Cert.DWcatIdeal.τ).loc Cert.DWcatIdeal.main_arg5)
      ∧ r.2.mem ((c.tc : Thread Cert.DWcatIdeal.nD Cert.DWcatIdeal.τ).loc Cert.DWcatIdeal.main_arg6) = m ((c.tc : Thread Cert.DWcatIdeal.nD Cert.DWcatIdeal.τ).loc Cert.DWcatIdeal.main_arg6)
      ∧ r.2.mem ((c.tc : Thread Cert.DWcatIdeal.nD Cert.DWcatIdeal.τ).loc Cert.DWcatIdeal.main_arg7) = m ((c.tc : Thread Cert.DWcatIdeal.nD Cert.DWcatIdeal.τ).loc Cert.DWcatIdeal.main_arg7))
      ∧ r.2.sem = fun _ => 0)

def quiescent_DWcatRefIdeal [hDWcatRefIdeal : Cert.DWcatRefIdeal.Facts] : Prop :=
  ∀ (m : (ℓ : Loc Cert.DWcatRefIdeal.nD Cert.DWcatRefIdeal.τ Cert.DWcatRefIdeal.sig) → Buf (Elt Ideal) ℓ) (g : Dev Cert.DWcatRefIdeal.nD → PrngReg), Pre_DWcatRefIdeal m →
    θ_run (Cert.DWcatRefIdeal.defs (F := Ideal)) (onTc (τ := Cert.DWcatRefIdeal.τ) (Cert.DWcatRefIdeal.main (F := Ideal))) ⟨m, fun _ => 0, g⟩ (fun r => (∀ c : Dev Cert.DWcatRefIdeal.nD,
      r.2.mem ((c.tc : Thread Cert.DWcatRefIdeal.nD Cert.DWcatRefIdeal.τ).loc Cert.DWcatRefIdeal.main_arg0) = m ((c.tc : Thread Cert.DWcatRefIdeal.nD Cert.DWcatRefIdeal.τ).loc Cert.DWcatRefIdeal.main_arg0)
      ∧ r.2.mem ((c.tc : Thread Cert.DWcatRefIdeal.nD Cert.DWcatRefIdeal.τ).loc Cert.DWcatRefIdeal.main_arg1) = m ((c.tc : Thread Cert.DWcatRefIdeal.nD Cert.DWcatRefIdeal.τ).loc Cert.DWcatRefIdeal.main_arg1)
      ∧ r.2.mem ((c.tc : Thread Cert.DWcatRefIdeal.nD Cert.DWcatRefIdeal.τ).loc Cert.DWcatRefIdeal.main_arg2) = m ((c.tc : Thread Cert.DWcatRefIdeal.nD Cert.DWcatRefIdeal.τ).loc Cert.DWcatRefIdeal.main_arg2)
      ∧ r.2.mem ((c.tc : Thread Cert.DWcatRefIdeal.nD Cert.DWcatRefIdeal.τ).loc Cert.DWcatRefIdeal.main_arg3) = m ((c.tc : Thread Cert.DWcatRefIdeal.nD Cert.DWcatRefIdeal.τ).loc Cert.DWcatRefIdeal.main_arg3)
      ∧ r.2.mem ((c.tc : Thread Cert.DWcatRefIdeal.nD Cert.DWcatRefIdeal.τ).loc Cert.DWcatRefIdeal.main_arg4) = m ((c.tc : Thread Cert.DWcatRefIdeal.nD Cert.DWcatRefIdeal.τ).loc Cert.DWcatRefIdeal.main_arg4)
      ∧ r.2.mem ((c.tc : Thread Cert.DWcatRefIdeal.nD Cert.DWcatRefIdeal.τ).loc Cert.DWcatRefIdeal.main_arg5) = m ((c.tc : Thread Cert.DWcatRefIdeal.nD Cert.DWcatRefIdeal.τ).loc Cert.DWcatRefIdeal.main_arg5)
      ∧ r.2.mem ((c.tc : Thread Cert.DWcatRefIdeal.nD Cert.DWcatRefIdeal.τ).loc Cert.DWcatRefIdeal.main_arg6) = m ((c.tc : Thread Cert.DWcatRefIdeal.nD Cert.DWcatRefIdeal.τ).loc Cert.DWcatRefIdeal.main_arg6)
      ∧ r.2.mem ((c.tc : Thread Cert.DWcatRefIdeal.nD Cert.DWcatRefIdeal.τ).loc Cert.DWcatRefIdeal.main_arg7) = m ((c.tc : Thread Cert.DWcatRefIdeal.nD Cert.DWcatRefIdeal.τ).loc Cert.DWcatRefIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_DMerged [hDMerged : Cert.DMerged.Facts] : Prop :=
  ∀ (m : (ℓ : Loc Cert.DMerged.nD Cert.DMerged.τ Cert.DMerged.sig) → Buf (Elt Bits) ℓ) (g : Dev Cert.DMerged.nD → PrngReg), Pre_DMerged m →
    θ_run (Cert.DMerged.defs (F := Bits)) (onTc (τ := Cert.DMerged.τ) (Cert.DMerged.main (F := Bits))) ⟨m, fun _ => 0, g⟩ (fun r => (∀ c : Dev Cert.DMerged.nD,
      r.2.mem ((c.tc : Thread Cert.DMerged.nD Cert.DMerged.τ).loc Cert.DMerged.main_arg0) = m ((c.tc : Thread Cert.DMerged.nD Cert.DMerged.τ).loc Cert.DMerged.main_arg0)
      ∧ r.2.mem ((c.tc : Thread Cert.DMerged.nD Cert.DMerged.τ).loc Cert.DMerged.main_arg1) = m ((c.tc : Thread Cert.DMerged.nD Cert.DMerged.τ).loc Cert.DMerged.main_arg1))
      ∧ r.2.sem = fun _ => 0)

def quiescent_DMergedIdeal [hDMergedIdeal : Cert.DMergedIdeal.Facts] : Prop :=
  ∀ (m : (ℓ : Loc Cert.DMergedIdeal.nD Cert.DMergedIdeal.τ Cert.DMergedIdeal.sig) → Buf (Elt Ideal) ℓ) (g : Dev Cert.DMergedIdeal.nD → PrngReg), Pre_DMergedIdeal m →
    θ_run (Cert.DMergedIdeal.defs (F := Ideal)) (onTc (τ := Cert.DMergedIdeal.τ) (Cert.DMergedIdeal.main (F := Ideal))) ⟨m, fun _ => 0, g⟩ (fun r => (∀ c : Dev Cert.DMergedIdeal.nD,
      r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
      ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ r.2.sem = fun _ => 0)

def quiescent_DMergedRefIdeal [hDMergedRefIdeal : Cert.DMergedRefIdeal.Facts] : Prop :=
  ∀ (m : (ℓ : Loc Cert.DMergedRefIdeal.nD Cert.DMergedRefIdeal.τ Cert.DMergedRefIdeal.sig) → Buf (Elt Ideal) ℓ) (g : Dev Cert.DMergedRefIdeal.nD → PrngReg), Pre_DMergedRefIdeal m →
    θ_run (Cert.DMergedRefIdeal.defs (F := Ideal)) (onTc (τ := Cert.DMergedRefIdeal.τ) (Cert.DMergedRefIdeal.main (F := Ideal))) ⟨m, fun _ => 0, g⟩ (fun r => (∀ c : Dev Cert.DMergedRefIdeal.nD,
      r.2.mem ((c.tc : Thread Cert.DMergedRefIdeal.nD Cert.DMergedRefIdeal.τ).loc Cert.DMergedRefIdeal.main_arg0) = m ((c.tc : Thread Cert.DMergedRefIdeal.nD Cert.DMergedRefIdeal.τ).loc Cert.DMergedRefIdeal.main_arg0)
      ∧ r.2.mem ((c.tc : Thread Cert.DMergedRefIdeal.nD Cert.DMergedRefIdeal.τ).loc Cert.DMergedRefIdeal.main_arg1) = m ((c.tc : Thread Cert.DMergedRefIdeal.nD Cert.DMergedRefIdeal.τ).loc Cert.DMergedRefIdeal.main_arg1))
      ∧ r.2.sem = fun _ => 0)

def quiescent_DWout [hDWout : Cert.DWout.Facts] : Prop :=
  ∀ (m : (ℓ : Loc Cert.DWout.nD Cert.DWout.τ Cert.DWout.sig) → Buf (Elt Bits) ℓ) (g : Dev Cert.DWout.nD → PrngReg), Pre_DWout m →
    θ_run (Cert.DWout.defs (F := Bits)) (onTc (τ := Cert.DWout.τ) (Cert.DWout.main (F := Bits))) ⟨m, fun _ => 0, g⟩ (fun r => (∀ c : Dev Cert.DWout.nD,
      r.2.mem ((c.tc : Thread Cert.DWout.nD Cert.DWout.τ).loc Cert.DWout.main_arg0) = m ((c.tc : Thread Cert.DWout.nD Cert.DWout.τ).loc Cert.DWout.main_arg0)
      ∧ r.2.mem ((c.tc : Thread Cert.DWout.nD Cert.DWout.τ).loc Cert.DWout.main_arg1) = m ((c.tc : Thread Cert.DWout.nD Cert.DWout.τ).loc Cert.DWout.main_arg1))
      ∧ r.2.sem = fun _ => 0)

def quiescent_DWoutIdeal [hDWoutIdeal : Cert.DWoutIdeal.Facts] : Prop :=
  ∀ (m : (ℓ : Loc Cert.DWoutIdeal.nD Cert.DWoutIdeal.τ Cert.DWoutIdeal.sig) → Buf (Elt Ideal) ℓ) (g : Dev Cert.DWoutIdeal.nD → PrngReg), Pre_DWoutIdeal m →
    θ_run (Cert.DWoutIdeal.defs (F := Ideal)) (onTc (τ := Cert.DWoutIdeal.τ) (Cert.DWoutIdeal.main (F := Ideal))) ⟨m, fun _ => 0, g⟩ (fun r => (∀ c : Dev Cert.DWoutIdeal.nD,
      r.2.mem ((c.tc : Thread Cert.DWoutIdeal.nD Cert.DWoutIdeal.τ).loc Cert.DWoutIdeal.main_arg0) = m ((c.tc : Thread Cert.DWoutIdeal.nD Cert.DWoutIdeal.τ).loc Cert.DWoutIdeal.main_arg0)
      ∧ r.2.mem ((c.tc : Thread Cert.DWoutIdeal.nD Cert.DWoutIdeal.τ).loc Cert.DWoutIdeal.main_arg1) = m ((c.tc : Thread Cert.DWoutIdeal.nD Cert.DWoutIdeal.τ).loc Cert.DWoutIdeal.main_arg1))
      ∧ r.2.sem = fun _ => 0)

def quiescent_DWoutRefIdeal [hDWoutRefIdeal : Cert.DWoutRefIdeal.Facts] : Prop :=
  ∀ (m : (ℓ : Loc Cert.DWoutRefIdeal.nD Cert.DWoutRefIdeal.τ Cert.DWoutRefIdeal.sig) → Buf (Elt Ideal) ℓ) (g : Dev Cert.DWoutRefIdeal.nD → PrngReg), Pre_DWoutRefIdeal m →
    θ_run (Cert.DWoutRefIdeal.defs (F := Ideal)) (onTc (τ := Cert.DWoutRefIdeal.τ) (Cert.DWoutRefIdeal.main (F := Ideal))) ⟨m, fun _ => 0, g⟩ (fun r => (∀ c : Dev Cert.DWoutRefIdeal.nD,
      r.2.mem ((c.tc : Thread Cert.DWoutRefIdeal.nD Cert.DWoutRefIdeal.τ).loc Cert.DWoutRefIdeal.main_arg0) = m ((c.tc : Thread Cert.DWoutRefIdeal.nD Cert.DWoutRefIdeal.τ).loc Cert.DWoutRefIdeal.main_arg0)
      ∧ r.2.mem ((c.tc : Thread Cert.DWoutRefIdeal.nD Cert.DWoutRefIdeal.τ).loc Cert.DWoutRefIdeal.main_arg1) = m ((c.tc : Thread Cert.DWoutRefIdeal.nD Cert.DWoutRefIdeal.τ).loc Cert.DWoutRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Pa [hPa : Cert.Pa.Facts] : Prop :=
  ∀ (m : (ℓ : Loc Cert.Pa.nD Cert.Pa.τ Cert.Pa.sig) → Buf (Elt Bits) ℓ) (g : Dev Cert.Pa.nD → PrngReg), Pre_Pa m →
    θ_run (Cert.Pa.defs (F := Bits)) (onTc (τ := Cert.Pa.τ) (Cert.Pa.main (F := Bits))) ⟨m, fun _ => 0, g⟩ (fun r => (∀ c : Dev Cert.Pa.nD,
      r.2.mem ((c.tc : Thread Cert.Pa.nD Cert.Pa.τ).loc Cert.Pa.main_arg0) = m ((c.tc : Thread Cert.Pa.nD Cert.Pa.τ).loc Cert.Pa.main_arg0)
      ∧ r.2.mem ((c.tc : Thread Cert.Pa.nD Cert.Pa.τ).loc Cert.Pa.main_arg1) = m ((c.tc : Thread Cert.Pa.nD Cert.Pa.τ).loc Cert.Pa.main_arg1))
      ∧ r.2.sem = fun _ => 0)

def quiescent_PaIdeal [hPaIdeal : Cert.PaIdeal.Facts] : Prop :=
  ∀ (m : (ℓ : Loc Cert.PaIdeal.nD Cert.PaIdeal.τ Cert.PaIdeal.sig) → Buf (Elt Ideal) ℓ) (g : Dev Cert.PaIdeal.nD → PrngReg), Pre_PaIdeal m →
    θ_run (Cert.PaIdeal.defs (F := Ideal)) (onTc (τ := Cert.PaIdeal.τ) (Cert.PaIdeal.main (F := Ideal))) ⟨m, fun _ => 0, g⟩ (fun r => (∀ c : Dev Cert.PaIdeal.nD,
      r.2.mem ((c.tc : Thread Cert.PaIdeal.nD Cert.PaIdeal.τ).loc Cert.PaIdeal.main_arg0) = m ((c.tc : Thread Cert.PaIdeal.nD Cert.PaIdeal.τ).loc Cert.PaIdeal.main_arg0)
      ∧ r.2.mem ((c.tc : Thread Cert.PaIdeal.nD Cert.PaIdeal.τ).loc Cert.PaIdeal.main_arg1) = m ((c.tc : Thread Cert.PaIdeal.nD Cert.PaIdeal.τ).loc Cert.PaIdeal.main_arg1))
      ∧ r.2.sem = fun _ => 0)

def quiescent_PaRefIdeal [hPaRefIdeal : Cert.PaRefIdeal.Facts] : Prop :=
  ∀ (m : (ℓ : Loc Cert.PaRefIdeal.nD Cert.PaRefIdeal.τ Cert.PaRefIdeal.sig) → Buf (Elt Ideal) ℓ) (g : Dev Cert.PaRefIdeal.nD → PrngReg), Pre_PaRefIdeal m →
    θ_run (Cert.PaRefIdeal.defs (F := Ideal)) (onTc (τ := Cert.PaRefIdeal.τ) (Cert.PaRefIdeal.main (F := Ideal))) ⟨m, fun _ => 0, g⟩ (fun r => (∀ c : Dev Cert.PaRefIdeal.nD,
      r.2.mem ((c.tc : Thread Cert.PaRefIdeal.nD Cert.PaRefIdeal.τ).loc Cert.PaRefIdeal.main_arg0) = m ((c.tc : Thread Cert.PaRefIdeal.nD Cert.PaRefIdeal.τ).loc Cert.PaRefIdeal.main_arg0)
      ∧ r.2.mem ((c.tc : Thread Cert.PaRefIdeal.nD Cert.PaRefIdeal.τ).loc Cert.PaRefIdeal.main_arg1) = m ((c.tc : Thread Cert.PaRefIdeal.nD Cert.PaRefIdeal.τ).loc Cert.PaRefIdeal.main_arg1))
      ∧ r.2.sem = fun _ => 0)

def quiescent_DPa [hDPa : Cert.DPa.Facts] : Prop :=
  ∀ (m : (ℓ : Loc Cert.DPa.nD Cert.DPa.τ Cert.DPa.sig) → Buf (Elt Bits) ℓ) (g : Dev Cert.DPa.nD → PrngReg), Pre_DPa m →
    θ_run (Cert.DPa.defs (F := Bits)) (onTc (τ := Cert.DPa.τ) (Cert.DPa.main (F := Bits))) ⟨m, fun _ => 0, g⟩ (fun r => (∀ c : Dev Cert.DPa.nD,
      r.2.mem ((c.tc : Thread Cert.DPa.nD Cert.DPa.τ).loc Cert.DPa.main_arg0) = m ((c.tc : Thread Cert.DPa.nD Cert.DPa.τ).loc Cert.DPa.main_arg0)
      ∧ r.2.mem ((c.tc : Thread Cert.DPa.nD Cert.DPa.τ).loc Cert.DPa.main_arg1) = m ((c.tc : Thread Cert.DPa.nD Cert.DPa.τ).loc Cert.DPa.main_arg1))
      ∧ r.2.sem = fun _ => 0)

def quiescent_DPaIdeal [hDPaIdeal : Cert.DPaIdeal.Facts] : Prop :=
  ∀ (m : (ℓ : Loc Cert.DPaIdeal.nD Cert.DPaIdeal.τ Cert.DPaIdeal.sig) → Buf (Elt Ideal) ℓ) (g : Dev Cert.DPaIdeal.nD → PrngReg), Pre_DPaIdeal m →
    θ_run (Cert.DPaIdeal.defs (F := Ideal)) (onTc (τ := Cert.DPaIdeal.τ) (Cert.DPaIdeal.main (F := Ideal))) ⟨m, fun _ => 0, g⟩ (fun r => (∀ c : Dev Cert.DPaIdeal.nD,
      r.2.mem ((c.tc : Thread Cert.DPaIdeal.nD Cert.DPaIdeal.τ).loc Cert.DPaIdeal.main_arg0) = m ((c.tc : Thread Cert.DPaIdeal.nD Cert.DPaIdeal.τ).loc Cert.DPaIdeal.main_arg0)
      ∧ r.2.mem ((c.tc : Thread Cert.DPaIdeal.nD Cert.DPaIdeal.τ).loc Cert.DPaIdeal.main_arg1) = m ((c.tc : Thread Cert.DPaIdeal.nD Cert.DPaIdeal.τ).loc Cert.DPaIdeal.main_arg1))
      ∧ r.2.sem = fun _ => 0)

def quiescent_DPaRefIdeal [hDPaRefIdeal : Cert.DPaRefIdeal.Facts] : Prop :=
  ∀ (m : (ℓ : Loc Cert.DPaRefIdeal.nD Cert.DPaRefIdeal.τ Cert.DPaRefIdeal.sig) → Buf (Elt Ideal) ℓ) (g : Dev Cert.DPaRefIdeal.nD → PrngReg), Pre_DPaRefIdeal m →
    θ_run (Cert.DPaRefIdeal.defs (F := Ideal)) (onTc (τ := Cert.DPaRefIdeal.τ) (Cert.DPaRefIdeal.main (F := Ideal))) ⟨m, fun _ => 0, g⟩ (fun r => (∀ c : Dev Cert.DPaRefIdeal.nD,
      r.2.mem ((c.tc : Thread Cert.DPaRefIdeal.nD Cert.DPaRefIdeal.τ).loc Cert.DPaRefIdeal.main_arg0) = m ((c.tc : Thread Cert.DPaRefIdeal.nD Cert.DPaRefIdeal.τ).loc Cert.DPaRefIdeal.main_arg0)
      ∧ r.2.mem ((c.tc : Thread Cert.DPaRefIdeal.nD Cert.DPaRefIdeal.τ).loc Cert.DPaRefIdeal.main_arg1) = m ((c.tc : Thread Cert.DPaRefIdeal.nD Cert.DPaRefIdeal.τ).loc Cert.DPaRefIdeal.main_arg1))
      ∧ r.2.sem = fun _ => 0)

def quiescent_DWpa [hDWpa : Cert.DWpa.Facts] : Prop :=
  ∀ (m : (ℓ : Loc Cert.DWpa.nD Cert.DWpa.τ Cert.DWpa.sig) → Buf (Elt Bits) ℓ) (g : Dev Cert.DWpa.nD → PrngReg), Pre_DWpa m →
    θ_run (Cert.DWpa.defs (F := Bits)) (onTc (τ := Cert.DWpa.τ) (Cert.DWpa.main (F := Bits))) ⟨m, fun _ => 0, g⟩ (fun r => (∀ c : Dev Cert.DWpa.nD,
      r.2.mem ((c.tc : Thread Cert.DWpa.nD Cert.DWpa.τ).loc Cert.DWpa.main_arg0) = m ((c.tc : Thread Cert.DWpa.nD Cert.DWpa.τ).loc Cert.DWpa.main_arg0)
      ∧ r.2.mem ((c.tc : Thread Cert.DWpa.nD Cert.DWpa.τ).loc Cert.DWpa.main_arg1) = m ((c.tc : Thread Cert.DWpa.nD Cert.DWpa.τ).loc Cert.DWpa.main_arg1))
      ∧ r.2.sem = fun _ => 0)

def quiescent_DWpaIdeal [hDWpaIdeal : Cert.DWpaIdeal.Facts] : Prop :=
  ∀ (m : (ℓ : Loc Cert.DWpaIdeal.nD Cert.DWpaIdeal.τ Cert.DWpaIdeal.sig) → Buf (Elt Ideal) ℓ) (g : Dev Cert.DWpaIdeal.nD → PrngReg), Pre_DWpaIdeal m →
    θ_run (Cert.DWpaIdeal.defs (F := Ideal)) (onTc (τ := Cert.DWpaIdeal.τ) (Cert.DWpaIdeal.main (F := Ideal))) ⟨m, fun _ => 0, g⟩ (fun r => (∀ c : Dev Cert.DWpaIdeal.nD,
      r.2.mem ((c.tc : Thread Cert.DWpaIdeal.nD Cert.DWpaIdeal.τ).loc Cert.DWpaIdeal.main_arg0) = m ((c.tc : Thread Cert.DWpaIdeal.nD Cert.DWpaIdeal.τ).loc Cert.DWpaIdeal.main_arg0)
      ∧ r.2.mem ((c.tc : Thread Cert.DWpaIdeal.nD Cert.DWpaIdeal.τ).loc Cert.DWpaIdeal.main_arg1) = m ((c.tc : Thread Cert.DWpaIdeal.nD Cert.DWpaIdeal.τ).loc Cert.DWpaIdeal.main_arg1))
      ∧ r.2.sem = fun _ => 0)

def quiescent_DWpaRefIdeal [hDWpaRefIdeal : Cert.DWpaRefIdeal.Facts] : Prop :=
  ∀ (m : (ℓ : Loc Cert.DWpaRefIdeal.nD Cert.DWpaRefIdeal.τ Cert.DWpaRefIdeal.sig) → Buf (Elt Ideal) ℓ) (g : Dev Cert.DWpaRefIdeal.nD → PrngReg), Pre_DWpaRefIdeal m →
    θ_run (Cert.DWpaRefIdeal.defs (F := Ideal)) (onTc (τ := Cert.DWpaRefIdeal.τ) (Cert.DWpaRefIdeal.main (F := Ideal))) ⟨m, fun _ => 0, g⟩ (fun r => (∀ c : Dev Cert.DWpaRefIdeal.nD,
      r.2.mem ((c.tc : Thread Cert.DWpaRefIdeal.nD Cert.DWpaRefIdeal.τ).loc Cert.DWpaRefIdeal.main_arg0) = m ((c.tc : Thread Cert.DWpaRefIdeal.nD Cert.DWpaRefIdeal.τ).loc Cert.DWpaRefIdeal.main_arg0)
      ∧ r.2.mem ((c.tc : Thread Cert.DWpaRefIdeal.nD Cert.DWpaRefIdeal.τ).loc Cert.DWpaRefIdeal.main_arg1) = m ((c.tc : Thread Cert.DWpaRefIdeal.nD Cert.DWpaRefIdeal.τ).loc Cert.DWpaRefIdeal.main_arg1))
      ∧ r.2.sem = fun _ => 0)

def quiescent_Pc [hPc : Cert.Pc.Facts] : Prop :=
  ∀ (m : (ℓ : Loc Cert.Pc.nD Cert.Pc.τ Cert.Pc.sig) → Buf (Elt Bits) ℓ) (g : Dev Cert.Pc.nD → PrngReg), Pre_Pc m →
    θ_run (Cert.Pc.defs (F := Bits)) (onTc (τ := Cert.Pc.τ) (Cert.Pc.main (F := Bits))) ⟨m, fun _ => 0, g⟩ (fun r => (∀ c : Dev Cert.Pc.nD,
      r.2.mem ((c.tc : Thread Cert.Pc.nD Cert.Pc.τ).loc Cert.Pc.main_arg0) = m ((c.tc : Thread Cert.Pc.nD Cert.Pc.τ).loc Cert.Pc.main_arg0)
      ∧ r.2.mem ((c.tc : Thread Cert.Pc.nD Cert.Pc.τ).loc Cert.Pc.main_arg1) = m ((c.tc : Thread Cert.Pc.nD Cert.Pc.τ).loc Cert.Pc.main_arg1))
      ∧ r.2.sem = fun _ => 0)

def quiescent_PcIdeal [hPcIdeal : Cert.PcIdeal.Facts] : Prop :=
  ∀ (m : (ℓ : Loc Cert.PcIdeal.nD Cert.PcIdeal.τ Cert.PcIdeal.sig) → Buf (Elt Ideal) ℓ) (g : Dev Cert.PcIdeal.nD → PrngReg), Pre_PcIdeal m →
    θ_run (Cert.PcIdeal.defs (F := Ideal)) (onTc (τ := Cert.PcIdeal.τ) (Cert.PcIdeal.main (F := Ideal))) ⟨m, fun _ => 0, g⟩ (fun r => (∀ c : Dev Cert.PcIdeal.nD,
      r.2.mem ((c.tc : Thread Cert.PcIdeal.nD Cert.PcIdeal.τ).loc Cert.PcIdeal.main_arg0) = m ((c.tc : Thread Cert.PcIdeal.nD Cert.PcIdeal.τ).loc Cert.PcIdeal.main_arg0)
      ∧ r.2.mem ((c.tc : Thread Cert.PcIdeal.nD Cert.PcIdeal.τ).loc Cert.PcIdeal.main_arg1) = m ((c.tc : Thread Cert.PcIdeal.nD Cert.PcIdeal.τ).loc Cert.PcIdeal.main_arg1))
      ∧ r.2.sem = fun _ => 0)

def quiescent_PcRefIdeal [hPcRefIdeal : Cert.PcRefIdeal.Facts] : Prop :=
  ∀ (m : (ℓ : Loc Cert.PcRefIdeal.nD Cert.PcRefIdeal.τ Cert.PcRefIdeal.sig) → Buf (Elt Ideal) ℓ) (g : Dev Cert.PcRefIdeal.nD → PrngReg), Pre_PcRefIdeal m →
    θ_run (Cert.PcRefIdeal.defs (F := Ideal)) (onTc (τ := Cert.PcRefIdeal.τ) (Cert.PcRefIdeal.main (F := Ideal))) ⟨m, fun _ => 0, g⟩ (fun r => (∀ c : Dev Cert.PcRefIdeal.nD,
      r.2.mem ((c.tc : Thread Cert.PcRefIdeal.nD Cert.PcRefIdeal.τ).loc Cert.PcRefIdeal.main_arg0) = m ((c.tc : Thread Cert.PcRefIdeal.nD Cert.PcRefIdeal.τ).loc Cert.PcRefIdeal.main_arg0)
      ∧ r.2.mem ((c.tc : Thread Cert.PcRefIdeal.nD Cert.PcRefIdeal.τ).loc Cert.PcRefIdeal.main_arg1) = m ((c.tc : Thread Cert.PcRefIdeal.nD Cert.PcRefIdeal.τ).loc Cert.PcRefIdeal.main_arg1))
      ∧ r.2.sem = fun _ => 0)

def quiescent_DPc [hDPc : Cert.DPc.Facts] : Prop :=
  ∀ (m : (ℓ : Loc Cert.DPc.nD Cert.DPc.τ Cert.DPc.sig) → Buf (Elt Bits) ℓ) (g : Dev Cert.DPc.nD → PrngReg), Pre_DPc m →
    θ_run (Cert.DPc.defs (F := Bits)) (onTc (τ := Cert.DPc.τ) (Cert.DPc.main (F := Bits))) ⟨m, fun _ => 0, g⟩ (fun r => (∀ c : Dev Cert.DPc.nD,
      r.2.mem ((c.tc : Thread Cert.DPc.nD Cert.DPc.τ).loc Cert.DPc.main_arg0) = m ((c.tc : Thread Cert.DPc.nD Cert.DPc.τ).loc Cert.DPc.main_arg0)
      ∧ r.2.mem ((c.tc : Thread Cert.DPc.nD Cert.DPc.τ).loc Cert.DPc.main_arg1) = m ((c.tc : Thread Cert.DPc.nD Cert.DPc.τ).loc Cert.DPc.main_arg1))
      ∧ r.2.sem = fun _ => 0)

def quiescent_DPcIdeal [hDPcIdeal : Cert.DPcIdeal.Facts] : Prop :=
  ∀ (m : (ℓ : Loc Cert.DPcIdeal.nD Cert.DPcIdeal.τ Cert.DPcIdeal.sig) → Buf (Elt Ideal) ℓ) (g : Dev Cert.DPcIdeal.nD → PrngReg), Pre_DPcIdeal m →
    θ_run (Cert.DPcIdeal.defs (F := Ideal)) (onTc (τ := Cert.DPcIdeal.τ) (Cert.DPcIdeal.main (F := Ideal))) ⟨m, fun _ => 0, g⟩ (fun r => (∀ c : Dev Cert.DPcIdeal.nD,
      r.2.mem ((c.tc : Thread Cert.DPcIdeal.nD Cert.DPcIdeal.τ).loc Cert.DPcIdeal.main_arg0) = m ((c.tc : Thread Cert.DPcIdeal.nD Cert.DPcIdeal.τ).loc Cert.DPcIdeal.main_arg0)
      ∧ r.2.mem ((c.tc : Thread Cert.DPcIdeal.nD Cert.DPcIdeal.τ).loc Cert.DPcIdeal.main_arg1) = m ((c.tc : Thread Cert.DPcIdeal.nD Cert.DPcIdeal.τ).loc Cert.DPcIdeal.main_arg1))
      ∧ r.2.sem = fun _ => 0)

def quiescent_DPcRefIdeal [hDPcRefIdeal : Cert.DPcRefIdeal.Facts] : Prop :=
  ∀ (m : (ℓ : Loc Cert.DPcRefIdeal.nD Cert.DPcRefIdeal.τ Cert.DPcRefIdeal.sig) → Buf (Elt Ideal) ℓ) (g : Dev Cert.DPcRefIdeal.nD → PrngReg), Pre_DPcRefIdeal m →
    θ_run (Cert.DPcRefIdeal.defs (F := Ideal)) (onTc (τ := Cert.DPcRefIdeal.τ) (Cert.DPcRefIdeal.main (F := Ideal))) ⟨m, fun _ => 0, g⟩ (fun r => (∀ c : Dev Cert.DPcRefIdeal.nD,
      r.2.mem ((c.tc : Thread Cert.DPcRefIdeal.nD Cert.DPcRefIdeal.τ).loc Cert.DPcRefIdeal.main_arg0) = m ((c.tc : Thread Cert.DPcRefIdeal.nD Cert.DPcRefIdeal.τ).loc Cert.DPcRefIdeal.main_arg0)
      ∧ r.2.mem ((c.tc : Thread Cert.DPcRefIdeal.nD Cert.DPcRefIdeal.τ).loc Cert.DPcRefIdeal.main_arg1) = m ((c.tc : Thread Cert.DPcRefIdeal.nD Cert.DPcRefIdeal.τ).loc Cert.DPcRefIdeal.main_arg1))
      ∧ r.2.sem = fun _ => 0)

def quiescent_DWpc [hDWpc : Cert.DWpc.Facts] : Prop :=
  ∀ (m : (ℓ : Loc Cert.DWpc.nD Cert.DWpc.τ Cert.DWpc.sig) → Buf (Elt Bits) ℓ) (g : Dev Cert.DWpc.nD → PrngReg), Pre_DWpc m →
    θ_run (Cert.DWpc.defs (F := Bits)) (onTc (τ := Cert.DWpc.τ) (Cert.DWpc.main (F := Bits))) ⟨m, fun _ => 0, g⟩ (fun r => (∀ c : Dev Cert.DWpc.nD,
      r.2.mem ((c.tc : Thread Cert.DWpc.nD Cert.DWpc.τ).loc Cert.DWpc.main_arg0) = m ((c.tc : Thread Cert.DWpc.nD Cert.DWpc.τ).loc Cert.DWpc.main_arg0)
      ∧ r.2.mem ((c.tc : Thread Cert.DWpc.nD Cert.DWpc.τ).loc Cert.DWpc.main_arg1) = m ((c.tc : Thread Cert.DWpc.nD Cert.DWpc.τ).loc Cert.DWpc.main_arg1))
      ∧ r.2.sem = fun _ => 0)

def quiescent_DWpcIdeal [hDWpcIdeal : Cert.DWpcIdeal.Facts] : Prop :=
  ∀ (m : (ℓ : Loc Cert.DWpcIdeal.nD Cert.DWpcIdeal.τ Cert.DWpcIdeal.sig) → Buf (Elt Ideal) ℓ) (g : Dev Cert.DWpcIdeal.nD → PrngReg), Pre_DWpcIdeal m →
    θ_run (Cert.DWpcIdeal.defs (F := Ideal)) (onTc (τ := Cert.DWpcIdeal.τ) (Cert.DWpcIdeal.main (F := Ideal))) ⟨m, fun _ => 0, g⟩ (fun r => (∀ c : Dev Cert.DWpcIdeal.nD,
      r.2.mem ((c.tc : Thread Cert.DWpcIdeal.nD Cert.DWpcIdeal.τ).loc Cert.DWpcIdeal.main_arg0) = m ((c.tc : Thread Cert.DWpcIdeal.nD Cert.DWpcIdeal.τ).loc Cert.DWpcIdeal.main_arg0)
      ∧ r.2.mem ((c.tc : Thread Cert.DWpcIdeal.nD Cert.DWpcIdeal.τ).loc Cert.DWpcIdeal.main_arg1) = m ((c.tc : Thread Cert.DWpcIdeal.nD Cert.DWpcIdeal.τ).loc Cert.DWpcIdeal.main_arg1))
      ∧ r.2.sem = fun _ => 0)

def quiescent_DWpcRefIdeal [hDWpcRefIdeal : Cert.DWpcRefIdeal.Facts] : Prop :=
  ∀ (m : (ℓ : Loc Cert.DWpcRefIdeal.nD Cert.DWpcRefIdeal.τ Cert.DWpcRefIdeal.sig) → Buf (Elt Ideal) ℓ) (g : Dev Cert.DWpcRefIdeal.nD → PrngReg), Pre_DWpcRefIdeal m →
    θ_run (Cert.DWpcRefIdeal.defs (F := Ideal)) (onTc (τ := Cert.DWpcRefIdeal.τ) (Cert.DWpcRefIdeal.main (F := Ideal))) ⟨m, fun _ => 0, g⟩ (fun r => (∀ c : Dev Cert.DWpcRefIdeal.nD,
      r.2.mem ((c.tc : Thread Cert.DWpcRefIdeal.nD Cert.DWpcRefIdeal.τ).loc Cert.DWpcRefIdeal.main_arg0) = m ((c.tc : Thread Cert.DWpcRefIdeal.nD Cert.DWpcRefIdeal.τ).loc Cert.DWpcRefIdeal.main_arg0)
      ∧ r.2.mem ((c.tc : Thread Cert.DWpcRefIdeal.nD Cert.DWpcRefIdeal.τ).loc Cert.DWpcRefIdeal.main_arg1) = m ((c.tc : Thread Cert.DWpcRefIdeal.nD Cert.DWpcRefIdeal.τ).loc Cert.DWpcRefIdeal.main_arg1))
      ∧ r.2.sem = fun _ => 0)

def quiescent_GatesB [hGatesB : Cert.GatesB.Facts] : Prop :=
  ∀ (m : (ℓ : Loc Cert.GatesB.nD Cert.GatesB.τ Cert.GatesB.sig) → Buf (Elt Bits) ℓ) (g : Dev Cert.GatesB.nD → PrngReg), Pre_GatesB m →
    θ_run (Cert.GatesB.defs (F := Bits)) (onTc (τ := Cert.GatesB.τ) (Cert.GatesB.main (F := Bits))) ⟨m, fun _ => 0, g⟩ (fun r => (∀ c : Dev Cert.GatesB.nD,
      r.2.mem ((c.tc : Thread Cert.GatesB.nD Cert.GatesB.τ).loc Cert.GatesB.main_arg0) = m ((c.tc : Thread Cert.GatesB.nD Cert.GatesB.τ).loc Cert.GatesB.main_arg0)
      ∧ r.2.mem ((c.tc : Thread Cert.GatesB.nD Cert.GatesB.τ).loc Cert.GatesB.main_arg1) = m ((c.tc : Thread Cert.GatesB.nD Cert.GatesB.τ).loc Cert.GatesB.main_arg1)
      ∧ r.2.mem ((c.tc : Thread Cert.GatesB.nD Cert.GatesB.τ).loc Cert.GatesB.main_arg2) = m ((c.tc : Thread Cert.GatesB.nD Cert.GatesB.τ).loc Cert.GatesB.main_arg2)
      ∧ r.2.mem ((c.tc : Thread Cert.GatesB.nD Cert.GatesB.τ).loc Cert.GatesB.main_arg3) = m ((c.tc : Thread Cert.GatesB.nD Cert.GatesB.τ).loc Cert.GatesB.main_arg3)
      ∧ r.2.mem ((c.tc : Thread Cert.GatesB.nD Cert.GatesB.τ).loc Cert.GatesB.main_arg4) = m ((c.tc : Thread Cert.GatesB.nD Cert.GatesB.τ).loc Cert.GatesB.main_arg4)
      ∧ r.2.mem ((c.tc : Thread Cert.GatesB.nD Cert.GatesB.τ).loc Cert.GatesB.main_arg5) = m ((c.tc : Thread Cert.GatesB.nD Cert.GatesB.τ).loc Cert.GatesB.main_arg5))
      ∧ r.2.sem = fun _ => 0)

def quiescent_GatesBIdeal [hGatesBIdeal : Cert.GatesBIdeal.Facts] : Prop :=
  ∀ (m : (ℓ : Loc Cert.GatesBIdeal.nD Cert.GatesBIdeal.τ Cert.GatesBIdeal.sig) → Buf (Elt Ideal) ℓ) (g : Dev Cert.GatesBIdeal.nD → PrngReg), Pre_GatesBIdeal m →
    θ_run (Cert.GatesBIdeal.defs (F := Ideal)) (onTc (τ := Cert.GatesBIdeal.τ) (Cert.GatesBIdeal.main (F := Ideal))) ⟨m, fun _ => 0, g⟩ (fun r => (∀ c : Dev Cert.GatesBIdeal.nD,
      r.2.mem ((c.tc : Thread Cert.GatesBIdeal.nD Cert.GatesBIdeal.τ).loc Cert.GatesBIdeal.main_arg0) = m ((c.tc : Thread Cert.GatesBIdeal.nD Cert.GatesBIdeal.τ).loc Cert.GatesBIdeal.main_arg0)
      ∧ r.2.mem ((c.tc : Thread Cert.GatesBIdeal.nD Cert.GatesBIdeal.τ).loc Cert.GatesBIdeal.main_arg1) = m ((c.tc : Thread Cert.GatesBIdeal.nD Cert.GatesBIdeal.τ).loc Cert.GatesBIdeal.main_arg1)
      ∧ r.2.mem ((c.tc : Thread Cert.GatesBIdeal.nD Cert.GatesBIdeal.τ).loc Cert.GatesBIdeal.main_arg2) = m ((c.tc : Thread Cert.GatesBIdeal.nD Cert.GatesBIdeal.τ).loc Cert.GatesBIdeal.main_arg2)
      ∧ r.2.mem ((c.tc : Thread Cert.GatesBIdeal.nD Cert.GatesBIdeal.τ).loc Cert.GatesBIdeal.main_arg3) = m ((c.tc : Thread Cert.GatesBIdeal.nD Cert.GatesBIdeal.τ).loc Cert.GatesBIdeal.main_arg3)
      ∧ r.2.mem ((c.tc : Thread Cert.GatesBIdeal.nD Cert.GatesBIdeal.τ).loc Cert.GatesBIdeal.main_arg4) = m ((c.tc : Thread Cert.GatesBIdeal.nD Cert.GatesBIdeal.τ).loc Cert.GatesBIdeal.main_arg4)
      ∧ r.2.mem ((c.tc : Thread Cert.GatesBIdeal.nD Cert.GatesBIdeal.τ).loc Cert.GatesBIdeal.main_arg5) = m ((c.tc : Thread Cert.GatesBIdeal.nD Cert.GatesBIdeal.τ).loc Cert.GatesBIdeal.main_arg5))
      ∧ r.2.sem = fun _ => 0)

def quiescent_GatesBRefIdeal [hGatesBRefIdeal : Cert.GatesBRefIdeal.Facts] : Prop :=
  ∀ (m : (ℓ : Loc Cert.GatesBRefIdeal.nD Cert.GatesBRefIdeal.τ Cert.GatesBRefIdeal.sig) → Buf (Elt Ideal) ℓ) (g : Dev Cert.GatesBRefIdeal.nD → PrngReg), Pre_GatesBRefIdeal m →
    θ_run (Cert.GatesBRefIdeal.defs (F := Ideal)) (onTc (τ := Cert.GatesBRefIdeal.τ) (Cert.GatesBRefIdeal.main (F := Ideal))) ⟨m, fun _ => 0, g⟩ (fun r => (∀ c : Dev Cert.GatesBRefIdeal.nD,
      r.2.mem ((c.tc : Thread Cert.GatesBRefIdeal.nD Cert.GatesBRefIdeal.τ).loc Cert.GatesBRefIdeal.main_arg0) = m ((c.tc : Thread Cert.GatesBRefIdeal.nD Cert.GatesBRefIdeal.τ).loc Cert.GatesBRefIdeal.main_arg0)
      ∧ r.2.mem ((c.tc : Thread Cert.GatesBRefIdeal.nD Cert.GatesBRefIdeal.τ).loc Cert.GatesBRefIdeal.main_arg1) = m ((c.tc : Thread Cert.GatesBRefIdeal.nD Cert.GatesBRefIdeal.τ).loc Cert.GatesBRefIdeal.main_arg1)
      ∧ r.2.mem ((c.tc : Thread Cert.GatesBRefIdeal.nD Cert.GatesBRefIdeal.τ).loc Cert.GatesBRefIdeal.main_arg2) = m ((c.tc : Thread Cert.GatesBRefIdeal.nD Cert.GatesBRefIdeal.τ).loc Cert.GatesBRefIdeal.main_arg2)
      ∧ r.2.mem ((c.tc : Thread Cert.GatesBRefIdeal.nD Cert.GatesBRefIdeal.τ).loc Cert.GatesBRefIdeal.main_arg3) = m ((c.tc : Thread Cert.GatesBRefIdeal.nD Cert.GatesBRefIdeal.τ).loc Cert.GatesBRefIdeal.main_arg3)
      ∧ r.2.mem ((c.tc : Thread Cert.GatesBRefIdeal.nD Cert.GatesBRefIdeal.τ).loc Cert.GatesBRefIdeal.main_arg4) = m ((c.tc : Thread Cert.GatesBRefIdeal.nD Cert.GatesBRefIdeal.τ).loc Cert.GatesBRefIdeal.main_arg4)
      ∧ r.2.mem ((c.tc : Thread Cert.GatesBRefIdeal.nD Cert.GatesBRefIdeal.τ).loc Cert.GatesBRefIdeal.main_arg5) = m ((c.tc : Thread Cert.GatesBRefIdeal.nD Cert.GatesBRefIdeal.τ).loc Cert.GatesBRefIdeal.main_arg5))
      ∧ r.2.sem = fun _ => 0)

def quiescent_NormB [hNormB : Cert.NormB.Facts] : Prop :=
  ∀ (m : (ℓ : Loc Cert.NormB.nD Cert.NormB.τ Cert.NormB.sig) → Buf (Elt Bits) ℓ) (g : Dev Cert.NormB.nD → PrngReg), Pre_NormB m →
    θ_run (Cert.NormB.defs (F := Bits)) (onTc (τ := Cert.NormB.τ) (Cert.NormB.main (F := Bits))) ⟨m, fun _ => 0, g⟩ (fun r => (∀ c : Dev Cert.NormB.nD,
      r.2.mem ((c.tc : Thread Cert.NormB.nD Cert.NormB.τ).loc Cert.NormB.main_arg0) = m ((c.tc : Thread Cert.NormB.nD Cert.NormB.τ).loc Cert.NormB.main_arg0)
      ∧ r.2.mem ((c.tc : Thread Cert.NormB.nD Cert.NormB.τ).loc Cert.NormB.main_arg1) = m ((c.tc : Thread Cert.NormB.nD Cert.NormB.τ).loc Cert.NormB.main_arg1)
      ∧ r.2.mem ((c.tc : Thread Cert.NormB.nD Cert.NormB.τ).loc Cert.NormB.main_arg2) = m ((c.tc : Thread Cert.NormB.nD Cert.NormB.τ).loc Cert.NormB.main_arg2)
      ∧ r.2.mem ((c.tc : Thread Cert.NormB.nD Cert.NormB.τ).loc Cert.NormB.main_arg3) = m ((c.tc : Thread Cert.NormB.nD Cert.NormB.τ).loc Cert.NormB.main_arg3))
      ∧ r.2.sem = fun _ => 0)

def quiescent_NormBIdeal [hNormBIdeal : Cert.NormBIdeal.Facts] : Prop :=
  ∀ (m : (ℓ : Loc Cert.NormBIdeal.nD Cert.NormBIdeal.τ Cert.NormBIdeal.sig) → Buf (Elt Ideal) ℓ) (g : Dev Cert.NormBIdeal.nD → PrngReg), Pre_NormBIdeal m →
    θ_run (Cert.NormBIdeal.defs (F := Ideal)) (onTc (τ := Cert.NormBIdeal.τ) (Cert.NormBIdeal.main (F := Ideal))) ⟨m, fun _ => 0, g⟩ (fun r => (∀ c : Dev Cert.NormBIdeal.nD,
      r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
      ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
      ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2)
      ∧ r.2.mem ((c.tc : Thread Cert.NormBIdeal.nD Cert.NormBIdeal.τ).loc Cert.NormBIdeal.main_arg3) = m ((c.tc : Thread Cert.NormBIdeal.nD Cert.NormBIdeal.τ).loc Cert.NormBIdeal.main_arg3))
      ∧ r.2.sem = fun _ => 0)

def quiescent_NormBRefIdeal [hNormBRefIdeal : Cert.NormBRefIdeal.Facts] : Prop :=
  ∀ (m : (ℓ : Loc Cert.NormBRefIdeal.nD Cert.NormBRefIdeal.τ Cert.NormBRefIdeal.sig) → Buf (Elt Ideal) ℓ) (g : Dev Cert.NormBRefIdeal.nD → PrngReg), Pre_NormBRefIdeal m →
    θ_run (Cert.NormBRefIdeal.defs (F := Ideal)) (onTc (τ := Cert.NormBRefIdeal.τ) (Cert.NormBRefIdeal.main (F := Ideal))) ⟨m, fun _ => 0, g⟩ (fun r => (∀ c : Dev Cert.NormBRefIdeal.nD,
      r.2.mem ((c.tc : Thread Cert.NormBRefIdeal.nD Cert.NormBRefIdeal.τ).loc Cert.NormBRefIdeal.main_arg0) = m ((c.tc : Thread Cert.NormBRefIdeal.nD Cert.NormBRefIdeal.τ).loc Cert.NormBRefIdeal.main_arg0)
      ∧ r.2.mem ((c.tc : Thread Cert.NormBRefIdeal.nD Cert.NormBRefIdeal.τ).loc Cert.NormBRefIdeal.main_arg1) = m ((c.tc : Thread Cert.NormBRefIdeal.nD Cert.NormBRefIdeal.τ).loc Cert.NormBRefIdeal.main_arg1)
      ∧ r.2.mem ((c.tc : Thread Cert.NormBRefIdeal.nD Cert.NormBRefIdeal.τ).loc Cert.NormBRefIdeal.main_arg2) = m ((c.tc : Thread Cert.NormBRefIdeal.nD Cert.NormBRefIdeal.τ).loc Cert.NormBRefIdeal.main_arg2)
      ∧ r.2.mem ((c.tc : Thread Cert.NormBRefIdeal.nD Cert.NormBRefIdeal.τ).loc Cert.NormBRefIdeal.main_arg3) = m ((c.tc : Thread Cert.NormBRefIdeal.nD Cert.NormBRefIdeal.τ).loc Cert.NormBRefIdeal.main_arg3))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3)
      ∧ r.2.mem ((c.tc : Thread Cert.GatesRefIdeal.nD Cert.GatesRefIdeal.τ).loc Cert.GatesRefIdeal.main_arg4) = m ((c.tc : Thread Cert.GatesRefIdeal.nD Cert.GatesRefIdeal.τ).loc Cert.GatesRefIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_GateNorm [hGateNorm : Cert.GateNorm.Facts] : Prop :=
  ∀ (m : (ℓ : Loc Cert.GateNorm.nD Cert.GateNorm.τ Cert.GateNorm.sig) → Buf (Elt Bits) ℓ) (g : Dev Cert.GateNorm.nD → PrngReg), Pre_GateNorm m →
    θ_run (Cert.GateNorm.defs (F := Bits)) (onTc (τ := Cert.GateNorm.τ) (Cert.GateNorm.main (F := Bits))) ⟨m, fun _ => 0, g⟩ (fun r => (∀ c : Dev Cert.GateNorm.nD,
      r.2.mem ((c.tc : Thread Cert.GateNorm.nD Cert.GateNorm.τ).loc Cert.GateNorm.main_arg0) = m ((c.tc : Thread Cert.GateNorm.nD Cert.GateNorm.τ).loc Cert.GateNorm.main_arg0)
      ∧ r.2.mem ((c.tc : Thread Cert.GateNorm.nD Cert.GateNorm.τ).loc Cert.GateNorm.main_arg1) = m ((c.tc : Thread Cert.GateNorm.nD Cert.GateNorm.τ).loc Cert.GateNorm.main_arg1)
      ∧ r.2.mem ((c.tc : Thread Cert.GateNorm.nD Cert.GateNorm.τ).loc Cert.GateNorm.main_arg2) = m ((c.tc : Thread Cert.GateNorm.nD Cert.GateNorm.τ).loc Cert.GateNorm.main_arg2))
      ∧ r.2.sem = fun _ => 0)

def quiescent_GateNormIdeal [hGateNormIdeal : Cert.GateNormIdeal.Facts] : Prop :=
  ∀ (m : (ℓ : Loc Cert.GateNormIdeal.nD Cert.GateNormIdeal.τ Cert.GateNormIdeal.sig) → Buf (Elt Ideal) ℓ) (g : Dev Cert.GateNormIdeal.nD → PrngReg), Pre_GateNormIdeal m →
    θ_run (Cert.GateNormIdeal.defs (F := Ideal)) (onTc (τ := Cert.GateNormIdeal.τ) (Cert.GateNormIdeal.main (F := Ideal))) ⟨m, fun _ => 0, g⟩ (fun r => (∀ c : Dev Cert.GateNormIdeal.nD,
      r.2.mem ((c.tc : Thread Cert.GateNormIdeal.nD Cert.GateNormIdeal.τ).loc Cert.GateNormIdeal.main_arg0) = m ((c.tc : Thread Cert.GateNormIdeal.nD Cert.GateNormIdeal.τ).loc Cert.GateNormIdeal.main_arg0)
      ∧ r.2.mem ((c.tc : Thread Cert.GateNormIdeal.nD Cert.GateNormIdeal.τ).loc Cert.GateNormIdeal.main_arg1) = m ((c.tc : Thread Cert.GateNormIdeal.nD Cert.GateNormIdeal.τ).loc Cert.GateNormIdeal.main_arg1)
      ∧ r.2.mem ((c.tc : Thread Cert.GateNormIdeal.nD Cert.GateNormIdeal.τ).loc Cert.GateNormIdeal.main_arg2) = m ((c.tc : Thread Cert.GateNormIdeal.nD Cert.GateNormIdeal.τ).loc Cert.GateNormIdeal.main_arg2))
      ∧ r.2.sem = fun _ => 0)

def quiescent_GateNormRefIdeal [hGateNormRefIdeal : Cert.GateNormRefIdeal.Facts] : Prop :=
  ∀ (m : (ℓ : Loc Cert.GateNormRefIdeal.nD Cert.GateNormRefIdeal.τ Cert.GateNormRefIdeal.sig) → Buf (Elt Ideal) ℓ) (g : Dev Cert.GateNormRefIdeal.nD → PrngReg), Pre_GateNormRefIdeal m →
    θ_run (Cert.GateNormRefIdeal.defs (F := Ideal)) (onTc (τ := Cert.GateNormRefIdeal.τ) (Cert.GateNormRefIdeal.main (F := Ideal))) ⟨m, fun _ => 0, g⟩ (fun r => (∀ c : Dev Cert.GateNormRefIdeal.nD,
      r.2.mem ((c.tc : Thread Cert.GateNormRefIdeal.nD Cert.GateNormRefIdeal.τ).loc Cert.GateNormRefIdeal.main_arg0) = m ((c.tc : Thread Cert.GateNormRefIdeal.nD Cert.GateNormRefIdeal.τ).loc Cert.GateNormRefIdeal.main_arg0)
      ∧ r.2.mem ((c.tc : Thread Cert.GateNormRefIdeal.nD Cert.GateNormRefIdeal.τ).loc Cert.GateNormRefIdeal.main_arg1) = m ((c.tc : Thread Cert.GateNormRefIdeal.nD Cert.GateNormRefIdeal.τ).loc Cert.GateNormRefIdeal.main_arg1)
      ∧ r.2.mem ((c.tc : Thread Cert.GateNormRefIdeal.nD Cert.GateNormRefIdeal.τ).loc Cert.GateNormRefIdeal.main_arg2) = m ((c.tc : Thread Cert.GateNormRefIdeal.nD Cert.GateNormRefIdeal.τ).loc Cert.GateNormRefIdeal.main_arg2))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def quiescent_ProjBa [hProjBa : Cert.ProjBa.Facts] : Prop :=
  ∀ (m : (ℓ : Loc Cert.ProjBa.nD Cert.ProjBa.τ Cert.ProjBa.sig) → Buf (Elt Bits) ℓ) (g : Dev Cert.ProjBa.nD → PrngReg), Pre_ProjBa m →
    θ_run (Cert.ProjBa.defs (F := Bits)) (onTc (τ := Cert.ProjBa.τ) (Cert.ProjBa.main (F := Bits))) ⟨m, fun _ => 0, g⟩ (fun r => (∀ c : Dev Cert.ProjBa.nD,
      r.2.mem ((c.tc : Thread Cert.ProjBa.nD Cert.ProjBa.τ).loc Cert.ProjBa.main_arg0) = m ((c.tc : Thread Cert.ProjBa.nD Cert.ProjBa.τ).loc Cert.ProjBa.main_arg0)
      ∧ r.2.mem ((c.tc : Thread Cert.ProjBa.nD Cert.ProjBa.τ).loc Cert.ProjBa.main_arg1) = m ((c.tc : Thread Cert.ProjBa.nD Cert.ProjBa.τ).loc Cert.ProjBa.main_arg1)
      ∧ r.2.mem ((c.tc : Thread Cert.ProjBa.nD Cert.ProjBa.τ).loc Cert.ProjBa.main_arg2) = m ((c.tc : Thread Cert.ProjBa.nD Cert.ProjBa.τ).loc Cert.ProjBa.main_arg2))
      ∧ r.2.sem = fun _ => 0)

def quiescent_ProjBaIdeal [hProjBaIdeal : Cert.ProjBaIdeal.Facts] : Prop :=
  ∀ (m : (ℓ : Loc Cert.ProjBaIdeal.nD Cert.ProjBaIdeal.τ Cert.ProjBaIdeal.sig) → Buf (Elt Ideal) ℓ) (g : Dev Cert.ProjBaIdeal.nD → PrngReg), Pre_ProjBaIdeal m →
    θ_run (Cert.ProjBaIdeal.defs (F := Ideal)) (onTc (τ := Cert.ProjBaIdeal.τ) (Cert.ProjBaIdeal.main (F := Ideal))) ⟨m, fun _ => 0, g⟩ (fun r => (∀ c : Dev Cert.ProjBaIdeal.nD,
      r.2.mem ((c.tc : Thread Cert.ProjBaIdeal.nD Cert.ProjBaIdeal.τ).loc Cert.ProjBaIdeal.main_arg0) = m ((c.tc : Thread Cert.ProjBaIdeal.nD Cert.ProjBaIdeal.τ).loc Cert.ProjBaIdeal.main_arg0)
      ∧ r.2.mem ((c.tc : Thread Cert.ProjBaIdeal.nD Cert.ProjBaIdeal.τ).loc Cert.ProjBaIdeal.main_arg1) = m ((c.tc : Thread Cert.ProjBaIdeal.nD Cert.ProjBaIdeal.τ).loc Cert.ProjBaIdeal.main_arg1)
      ∧ r.2.mem ((c.tc : Thread Cert.ProjBaIdeal.nD Cert.ProjBaIdeal.τ).loc Cert.ProjBaIdeal.main_arg2) = m ((c.tc : Thread Cert.ProjBaIdeal.nD Cert.ProjBaIdeal.τ).loc Cert.ProjBaIdeal.main_arg2))
      ∧ r.2.sem = fun _ => 0)

def quiescent_ProjBaRefIdeal [hProjBaRefIdeal : Cert.ProjBaRefIdeal.Facts] : Prop :=
  ∀ (m : (ℓ : Loc Cert.ProjBaRefIdeal.nD Cert.ProjBaRefIdeal.τ Cert.ProjBaRefIdeal.sig) → Buf (Elt Ideal) ℓ) (g : Dev Cert.ProjBaRefIdeal.nD → PrngReg), Pre_ProjBaRefIdeal m →
    θ_run (Cert.ProjBaRefIdeal.defs (F := Ideal)) (onTc (τ := Cert.ProjBaRefIdeal.τ) (Cert.ProjBaRefIdeal.main (F := Ideal))) ⟨m, fun _ => 0, g⟩ (fun r => (∀ c : Dev Cert.ProjBaRefIdeal.nD,
      r.2.mem ((c.tc : Thread Cert.ProjBaRefIdeal.nD Cert.ProjBaRefIdeal.τ).loc Cert.ProjBaRefIdeal.main_arg0) = m ((c.tc : Thread Cert.ProjBaRefIdeal.nD Cert.ProjBaRefIdeal.τ).loc Cert.ProjBaRefIdeal.main_arg0)
      ∧ r.2.mem ((c.tc : Thread Cert.ProjBaRefIdeal.nD Cert.ProjBaRefIdeal.τ).loc Cert.ProjBaRefIdeal.main_arg1) = m ((c.tc : Thread Cert.ProjBaRefIdeal.nD Cert.ProjBaRefIdeal.τ).loc Cert.ProjBaRefIdeal.main_arg1)
      ∧ r.2.mem ((c.tc : Thread Cert.ProjBaRefIdeal.nD Cert.ProjBaRefIdeal.τ).loc Cert.ProjBaRefIdeal.main_arg2) = m ((c.tc : Thread Cert.ProjBaRefIdeal.nD Cert.ProjBaRefIdeal.τ).loc Cert.ProjBaRefIdeal.main_arg2))
      ∧ r.2.sem = fun _ => 0)

def preserves_DnOut_DnOutIdeal : Prop :=
  True

def algebraic_DnOutIdeal_DnOutRefIdeal [hDnOutIdeal : Cert.DnOutIdeal.Facts] [hDnOutRefIdeal : Cert.DnOutRefIdeal.Facts] : Prop :=
  ∀ (m : (ℓ : Loc Cert.DnOutIdeal.nD Cert.DnOutIdeal.τ Cert.DnOutIdeal.sig) → Buf (Elt Ideal) ℓ) (g : Dev Cert.DnOutIdeal.nD → PrngReg)
    (m' : (ℓ : Loc Cert.DnOutRefIdeal.nD Cert.DnOutRefIdeal.τ Cert.DnOutRefIdeal.sig) → Buf (Elt Ideal) ℓ) (g' : Dev Cert.DnOutRefIdeal.nD → PrngReg), Pre_DnOutIdeal m →
    (∀ c : Dev Cert.DnOutIdeal.nD,
      m' ((c.tc : Thread Cert.DnOutRefIdeal.nD Cert.DnOutRefIdeal.τ).loc Cert.DnOutRefIdeal.main_arg0) = m ((c.tc : Thread Cert.DnOutIdeal.nD Cert.DnOutIdeal.τ).loc Cert.DnOutIdeal.main_arg0)
      ∧ m' ((c.tc : Thread Cert.DnOutRefIdeal.nD Cert.DnOutRefIdeal.τ).loc Cert.DnOutRefIdeal.main_arg1) = m ((c.tc : Thread Cert.DnOutIdeal.nD Cert.DnOutIdeal.τ).loc Cert.DnOutIdeal.main_arg1)
      ∧ m' ((c.tc : Thread Cert.DnOutRefIdeal.nD Cert.DnOutRefIdeal.τ).loc Cert.DnOutRefIdeal.main_arg2) = m ((c.tc : Thread Cert.DnOutIdeal.nD Cert.DnOutIdeal.τ).loc Cert.DnOutIdeal.main_arg2)
      ∧ m' ((c.tc : Thread Cert.DnOutRefIdeal.nD Cert.DnOutRefIdeal.τ).loc Cert.DnOutRefIdeal.main_arg3) = m ((c.tc : Thread Cert.DnOutIdeal.nD Cert.DnOutIdeal.τ).loc Cert.DnOutIdeal.main_arg3)) →
    ∃ (v0 : (c : Dev Cert.DnOutIdeal.nD) → Buf (Elt Ideal) ((c.tc : Thread Cert.DnOutIdeal.nD Cert.DnOutIdeal.τ).loc Cert.DnOutIdeal.main_v0_0)) (v1 : (c : Dev Cert.DnOutIdeal.nD) → Buf (Elt Ideal) ((c.tc : Thread Cert.DnOutIdeal.nD Cert.DnOutIdeal.τ).loc Cert.DnOutIdeal.main_v0_1)) (v2 : (c : Dev Cert.DnOutIdeal.nD) → Buf (Elt Ideal) ((c.tc : Thread Cert.DnOutIdeal.nD Cert.DnOutIdeal.τ).loc Cert.DnOutIdeal.main_v0_2)) (v3 : (c : Dev Cert.DnOutIdeal.nD) → Buf (Elt Ideal) ((c.tc : Thread Cert.DnOutIdeal.nD Cert.DnOutIdeal.τ).loc Cert.DnOutIdeal.main_v0_3)),
      θ_run (Cert.DnOutIdeal.defs (F := Ideal)) (onTc (τ := Cert.DnOutIdeal.τ) (Cert.DnOutIdeal.main (F := Ideal))) ⟨m, fun _ => 0, g⟩ (fun r => ∀ c : Dev Cert.DnOutIdeal.nD,
          r.2.mem ((c.tc : Thread Cert.DnOutIdeal.nD Cert.DnOutIdeal.τ).loc Cert.DnOutIdeal.main_v0_0) = v0 c
          ∧ r.2.mem ((c.tc : Thread Cert.DnOutIdeal.nD Cert.DnOutIdeal.τ).loc Cert.DnOutIdeal.main_v0_1) = v1 c
          ∧ r.2.mem ((c.tc : Thread Cert.DnOutIdeal.nD Cert.DnOutIdeal.τ).loc Cert.DnOutIdeal.main_v0_2) = v2 c
          ∧ r.2.mem ((c.tc : Thread Cert.DnOutIdeal.nD Cert.DnOutIdeal.τ).loc Cert.DnOutIdeal.main_v0_3) = v3 c
          ∧ r.2.mem ((c.tc : Thread Cert.DnOutIdeal.nD Cert.DnOutIdeal.τ).loc Cert.DnOutIdeal.main_arg0) = m ((c.tc : Thread Cert.DnOutIdeal.nD Cert.DnOutIdeal.τ).loc Cert.DnOutIdeal.main_arg0)
          ∧ r.2.mem ((c.tc : Thread Cert.DnOutIdeal.nD Cert.DnOutIdeal.τ).loc Cert.DnOutIdeal.main_arg1) = m ((c.tc : Thread Cert.DnOutIdeal.nD Cert.DnOutIdeal.τ).loc Cert.DnOutIdeal.main_arg1)
          ∧ r.2.mem ((c.tc : Thread Cert.DnOutIdeal.nD Cert.DnOutIdeal.τ).loc Cert.DnOutIdeal.main_arg2) = m ((c.tc : Thread Cert.DnOutIdeal.nD Cert.DnOutIdeal.τ).loc Cert.DnOutIdeal.main_arg2)
          ∧ r.2.mem ((c.tc : Thread Cert.DnOutIdeal.nD Cert.DnOutIdeal.τ).loc Cert.DnOutIdeal.main_arg3) = m ((c.tc : Thread Cert.DnOutIdeal.nD Cert.DnOutIdeal.τ).loc Cert.DnOutIdeal.main_arg3))
      ∧ θ_run (Cert.DnOutRefIdeal.defs (F := Ideal)) (onTc (τ := Cert.DnOutRefIdeal.τ) (Cert.DnOutRefIdeal.main (F := Ideal))) ⟨m', fun _ => 0, g'⟩ (fun r => ∀ c : Dev Cert.DnOutRefIdeal.nD,
          r.2.mem ((c.tc : Thread Cert.DnOutRefIdeal.nD Cert.DnOutRefIdeal.τ).loc Cert.DnOutRefIdeal.main_v54) = v0 c
          ∧ r.2.mem ((c.tc : Thread Cert.DnOutRefIdeal.nD Cert.DnOutRefIdeal.τ).loc Cert.DnOutRefIdeal.main_v54) = v1 c
          ∧ r.2.mem ((c.tc : Thread Cert.DnOutRefIdeal.nD Cert.DnOutRefIdeal.τ).loc Cert.DnOutRefIdeal.main_v55) = v2 c
          ∧ r.2.mem ((c.tc : Thread Cert.DnOutRefIdeal.nD Cert.DnOutRefIdeal.τ).loc Cert.DnOutRefIdeal.main_v56) = v3 c
          ∧ r.2.mem ((c.tc : Thread Cert.DnOutRefIdeal.nD Cert.DnOutRefIdeal.τ).loc Cert.DnOutRefIdeal.main_arg0) = m' ((c.tc : Thread Cert.DnOutRefIdeal.nD Cert.DnOutRefIdeal.τ).loc Cert.DnOutRefIdeal.main_arg0)
          ∧ r.2.mem ((c.tc : Thread Cert.DnOutRefIdeal.nD Cert.DnOutRefIdeal.τ).loc Cert.DnOutRefIdeal.main_arg1) = m' ((c.tc : Thread Cert.DnOutRefIdeal.nD Cert.DnOutRefIdeal.τ).loc Cert.DnOutRefIdeal.main_arg1)
          ∧ r.2.mem ((c.tc : Thread Cert.DnOutRefIdeal.nD Cert.DnOutRefIdeal.τ).loc Cert.DnOutRefIdeal.main_arg2) = m' ((c.tc : Thread Cert.DnOutRefIdeal.nD Cert.DnOutRefIdeal.τ).loc Cert.DnOutRefIdeal.main_arg2)
          ∧ r.2.mem ((c.tc : Thread Cert.DnOutRefIdeal.nD Cert.DnOutRefIdeal.τ).loc Cert.DnOutRefIdeal.main_arg3) = m' ((c.tc : Thread Cert.DnOutRefIdeal.nD Cert.DnOutRefIdeal.τ).loc Cert.DnOutRefIdeal.main_arg3))

def preserves_FfnB_FfnBIdeal : Prop :=
  True

def algebraic_FfnBIdeal_FfnBRefIdeal_pre_finite_cotangent [hFfnBIdeal : Cert.FfnBIdeal.Facts] [hFfnBRefIdeal : Cert.FfnBRefIdeal.Facts] [hPre_finite_cotangent : Cert.Pre_finite_cotangent.Facts] : Prop :=
  ∀ (m : (ℓ : Loc Cert.FfnBIdeal.nD Cert.FfnBIdeal.τ Cert.FfnBIdeal.sig) → Buf (Elt Ideal) ℓ) (g : Dev Cert.FfnBIdeal.nD → PrngReg)
    (m' : (ℓ : Loc Cert.FfnBRefIdeal.nD Cert.FfnBRefIdeal.τ Cert.FfnBRefIdeal.sig) → Buf (Elt Ideal) ℓ) (g' : Dev Cert.FfnBRefIdeal.nD → PrngReg), Pre_FfnBIdeal_finite_cotangent m →
    (∀ c : Dev Cert.FfnBIdeal.nD,
      m' ((c.tc : Thread Cert.FfnBRefIdeal.nD Cert.FfnBRefIdeal.τ).loc Cert.FfnBRefIdeal.main_arg0) = m ((c.tc : Thread Cert.FfnBIdeal.nD Cert.FfnBIdeal.τ).loc Cert.FfnBIdeal.main_arg0)
      ∧ m' ((c.tc : Thread Cert.FfnBRefIdeal.nD Cert.FfnBRefIdeal.τ).loc Cert.FfnBRefIdeal.main_arg1) = m ((c.tc : Thread Cert.FfnBIdeal.nD Cert.FfnBIdeal.τ).loc Cert.FfnBIdeal.main_arg1)
      ∧ m' ((c.tc : Thread Cert.FfnBRefIdeal.nD Cert.FfnBRefIdeal.τ).loc Cert.FfnBRefIdeal.main_arg2) = m ((c.tc : Thread Cert.FfnBIdeal.nD Cert.FfnBIdeal.τ).loc Cert.FfnBIdeal.main_arg2)
      ∧ m' ((c.tc : Thread Cert.FfnBRefIdeal.nD Cert.FfnBRefIdeal.τ).loc Cert.FfnBRefIdeal.main_arg3) = m ((c.tc : Thread Cert.FfnBIdeal.nD Cert.FfnBIdeal.τ).loc Cert.FfnBIdeal.main_arg3)
      ∧ m' ((c.tc : Thread Cert.FfnBRefIdeal.nD Cert.FfnBRefIdeal.τ).loc Cert.FfnBRefIdeal.main_arg4) = m ((c.tc : Thread Cert.FfnBIdeal.nD Cert.FfnBIdeal.τ).loc Cert.FfnBIdeal.main_arg4)
      ∧ m' ((c.tc : Thread Cert.FfnBRefIdeal.nD Cert.FfnBRefIdeal.τ).loc Cert.FfnBRefIdeal.main_arg5) = m ((c.tc : Thread Cert.FfnBIdeal.nD Cert.FfnBIdeal.τ).loc Cert.FfnBIdeal.main_arg5)) →
    ∃ (v0 : (c : Dev Cert.FfnBIdeal.nD) → Buf (Elt Ideal) ((c.tc : Thread Cert.FfnBIdeal.nD Cert.FfnBIdeal.τ).loc Cert.FfnBIdeal.main_v6_0)) (v1 : (c : Dev Cert.FfnBIdeal.nD) → Buf (Elt Ideal) ((c.tc : Thread Cert.FfnBIdeal.nD Cert.FfnBIdeal.τ).loc Cert.FfnBIdeal.main_v6_1)) (v2 : (c : Dev Cert.FfnBIdeal.nD) → Buf (Elt Ideal) ((c.tc : Thread Cert.FfnBIdeal.nD Cert.FfnBIdeal.τ).loc Cert.FfnBIdeal.main_v6_2)) (v3 : (c : Dev Cert.FfnBIdeal.nD) → Buf (Elt Ideal) ((c.tc : Thread Cert.FfnBIdeal.nD Cert.FfnBIdeal.τ).loc Cert.FfnBIdeal.main_v6_3)) (v4 : (c : Dev Cert.FfnBIdeal.nD) → Buf (Elt Ideal) ((c.tc : Thread Cert.FfnBIdeal.nD Cert.FfnBIdeal.τ).loc Cert.FfnBIdeal.main_v6_4)) (v5 : (c : Dev Cert.FfnBIdeal.nD) → Buf (Elt Ideal) ((c.tc : Thread Cert.FfnBIdeal.nD Cert.FfnBIdeal.τ).loc Cert.FfnBIdeal.main_v6_5)) (v6 : (c : Dev Cert.FfnBIdeal.nD) → Buf (Elt Ideal) ((c.tc : Thread Cert.FfnBIdeal.nD Cert.FfnBIdeal.τ).loc Cert.FfnBIdeal.main_v6_6)),
      θ_run (Cert.FfnBIdeal.defs (F := Ideal)) (onTc (τ := Cert.FfnBIdeal.τ) (Cert.FfnBIdeal.main (F := Ideal))) ⟨m, fun _ => 0, g⟩ (fun r => ∀ c : Dev Cert.FfnBIdeal.nD,
          r.2.mem ((c.tc : Thread Cert.FfnBIdeal.nD Cert.FfnBIdeal.τ).loc Cert.FfnBIdeal.main_v6_0) = v0 c
          ∧ r.2.mem ((c.tc : Thread Cert.FfnBIdeal.nD Cert.FfnBIdeal.τ).loc Cert.FfnBIdeal.main_v6_1) = v1 c
          ∧ r.2.mem ((c.tc : Thread Cert.FfnBIdeal.nD Cert.FfnBIdeal.τ).loc Cert.FfnBIdeal.main_v6_2) = v2 c
          ∧ r.2.mem ((c.tc : Thread Cert.FfnBIdeal.nD Cert.FfnBIdeal.τ).loc Cert.FfnBIdeal.main_v6_3) = v3 c
          ∧ r.2.mem ((c.tc : Thread Cert.FfnBIdeal.nD Cert.FfnBIdeal.τ).loc Cert.FfnBIdeal.main_v6_4) = v4 c
          ∧ r.2.mem ((c.tc : Thread Cert.FfnBIdeal.nD Cert.FfnBIdeal.τ).loc Cert.FfnBIdeal.main_v6_5) = v5 c
          ∧ r.2.mem ((c.tc : Thread Cert.FfnBIdeal.nD Cert.FfnBIdeal.τ).loc Cert.FfnBIdeal.main_v6_6) = v6 c
          ∧ r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
          ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
          ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
          ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
          ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4)
          ∧ r.2.mem ((c.tc : Thread Cert.FfnBIdeal.nD Cert.FfnBIdeal.τ).loc Cert.FfnBIdeal.main_arg5) = m ((c.tc : Thread Cert.FfnBIdeal.nD Cert.FfnBIdeal.τ).loc Cert.FfnBIdeal.main_arg5))
      ∧ θ_run (Cert.FfnBRefIdeal.defs (F := Ideal)) (onTc (τ := Cert.FfnBRefIdeal.τ) (Cert.FfnBRefIdeal.main (F := Ideal))) ⟨m', fun _ => 0, g'⟩ (fun r => ∀ c : Dev Cert.FfnBRefIdeal.nD,
          r.2.mem ((c.tc : Thread Cert.FfnBRefIdeal.nD Cert.FfnBRefIdeal.τ).loc Cert.FfnBRefIdeal.main_v58) = v0 c
          ∧ r.2.mem ((c.tc : Thread Cert.FfnBRefIdeal.nD Cert.FfnBRefIdeal.τ).loc Cert.FfnBRefIdeal.main_v59) = v1 c
          ∧ r.2.mem ((c.tc : Thread Cert.FfnBRefIdeal.nD Cert.FfnBRefIdeal.τ).loc Cert.FfnBRefIdeal.main_v61) = v2 c
          ∧ r.2.mem ((c.tc : Thread Cert.FfnBRefIdeal.nD Cert.FfnBRefIdeal.τ).loc Cert.FfnBRefIdeal.main_v63) = v3 c
          ∧ r.2.mem ((c.tc : Thread Cert.FfnBRefIdeal.nD Cert.FfnBRefIdeal.τ).loc Cert.FfnBRefIdeal.main_v65) = v4 c
          ∧ r.2.mem ((c.tc : Thread Cert.FfnBRefIdeal.nD Cert.FfnBRefIdeal.τ).loc Cert.FfnBRefIdeal.main_v66) = v5 c
          ∧ r.2.mem ((c.tc : Thread Cert.FfnBRefIdeal.nD Cert.FfnBRefIdeal.τ).loc Cert.FfnBRefIdeal.main_v69) = v6 c
          ∧ r.2.mem ((c.tc : Thread Cert.FfnBRefIdeal.nD Cert.FfnBRefIdeal.τ).loc Cert.FfnBRefIdeal.main_arg0) = m' ((c.tc : Thread Cert.FfnBRefIdeal.nD Cert.FfnBRefIdeal.τ).loc Cert.FfnBRefIdeal.main_arg0)
          ∧ r.2.mem ((c.tc : Thread Cert.FfnBRefIdeal.nD Cert.FfnBRefIdeal.τ).loc Cert.FfnBRefIdeal.main_arg1) = m' ((c.tc : Thread Cert.FfnBRefIdeal.nD Cert.FfnBRefIdeal.τ).loc Cert.FfnBRefIdeal.main_arg1)
          ∧ r.2.mem ((c.tc : Thread Cert.FfnBRefIdeal.nD Cert.FfnBRefIdeal.τ).loc Cert.FfnBRefIdeal.main_arg2) = m' ((c.tc : Thread Cert.FfnBRefIdeal.nD Cert.FfnBRefIdeal.τ).loc Cert.FfnBRefIdeal.main_arg2)
          ∧ r.2.mem ((c.tc : Thread Cert.FfnBRefIdeal.nD Cert.FfnBRefIdeal.τ).loc Cert.FfnBRefIdeal.main_arg3) = m' ((c.tc : Thread Cert.FfnBRefIdeal.nD Cert.FfnBRefIdeal.τ).loc Cert.FfnBRefIdeal.main_arg3)
          ∧ r.2.mem ((c.tc : Thread Cert.FfnBRefIdeal.nD Cert.FfnBRefIdeal.τ).loc Cert.FfnBRefIdeal.main_arg4) = m' ((c.tc : Thread Cert.FfnBRefIdeal.nD Cert.FfnBRefIdeal.τ).loc Cert.FfnBRefIdeal.main_arg4)
          ∧ r.2.mem ((c.tc : Thread Cert.FfnBRefIdeal.nD Cert.FfnBRefIdeal.τ).loc Cert.FfnBRefIdeal.main_arg5) = m' ((c.tc : Thread Cert.FfnBRefIdeal.nD Cert.FfnBRefIdeal.τ).loc Cert.FfnBRefIdeal.main_arg5))

def preserves_Dwg_DwgIdeal : Prop :=
  True

def algebraic_DwgIdeal_DwgRefIdeal [hDwgIdeal : Cert.DwgIdeal.Facts] [hDwgRefIdeal : Cert.DwgRefIdeal.Facts] : Prop :=
  ∀ (m : (ℓ : Loc Cert.DwgIdeal.nD Cert.DwgIdeal.τ Cert.DwgIdeal.sig) → Buf (Elt Ideal) ℓ) (g : Dev Cert.DwgIdeal.nD → PrngReg)
    (m' : (ℓ : Loc Cert.DwgRefIdeal.nD Cert.DwgRefIdeal.τ Cert.DwgRefIdeal.sig) → Buf (Elt Ideal) ℓ) (g' : Dev Cert.DwgRefIdeal.nD → PrngReg), Pre_DwgIdeal m →
    (∀ c : Dev Cert.DwgIdeal.nD,
      m' ((c.tc : Thread Cert.DwgRefIdeal.nD Cert.DwgRefIdeal.τ).loc Cert.DwgRefIdeal.main_arg0) = m ((c.tc : Thread Cert.DwgIdeal.nD Cert.DwgIdeal.τ).loc Cert.DwgIdeal.main_arg0)
      ∧ m' ((c.tc : Thread Cert.DwgRefIdeal.nD Cert.DwgRefIdeal.τ).loc Cert.DwgRefIdeal.main_arg1) = m ((c.tc : Thread Cert.DwgIdeal.nD Cert.DwgIdeal.τ).loc Cert.DwgIdeal.main_arg1)) →
    ∃ (v0 : (c : Dev Cert.DwgIdeal.nD) → Buf (Elt Ideal) ((c.tc : Thread Cert.DwgIdeal.nD Cert.DwgIdeal.τ).loc Cert.DwgIdeal.main_v0)),
      θ_run (Cert.DwgIdeal.defs (F := Ideal)) (onTc (τ := Cert.DwgIdeal.τ) (Cert.DwgIdeal.main (F := Ideal))) ⟨m, fun _ => 0, g⟩ (fun r => ∀ c : Dev Cert.DwgIdeal.nD,
          r.2.mem ((c.tc : Thread Cert.DwgIdeal.nD Cert.DwgIdeal.τ).loc Cert.DwgIdeal.main_v0) = v0 c
          ∧ r.2.mem ((c.tc : Thread Cert.DwgIdeal.nD Cert.DwgIdeal.τ).loc Cert.DwgIdeal.main_arg0) = m ((c.tc : Thread Cert.DwgIdeal.nD Cert.DwgIdeal.τ).loc Cert.DwgIdeal.main_arg0)
          ∧ r.2.mem ((c.tc : Thread Cert.DwgIdeal.nD Cert.DwgIdeal.τ).loc Cert.DwgIdeal.main_arg1) = m ((c.tc : Thread Cert.DwgIdeal.nD Cert.DwgIdeal.τ).loc Cert.DwgIdeal.main_arg1))
      ∧ θ_run (Cert.DwgRefIdeal.defs (F := Ideal)) (onTc (τ := Cert.DwgRefIdeal.τ) (Cert.DwgRefIdeal.main (F := Ideal))) ⟨m', fun _ => 0, g'⟩ (fun r => ∀ c : Dev Cert.DwgRefIdeal.nD,
          r.2.mem ((c.tc : Thread Cert.DwgRefIdeal.nD Cert.DwgRefIdeal.τ).loc Cert.DwgRefIdeal.main_v6) = v0 c
          ∧ r.2.mem ((c.tc : Thread Cert.DwgRefIdeal.nD Cert.DwgRefIdeal.τ).loc Cert.DwgRefIdeal.main_arg0) = m' ((c.tc : Thread Cert.DwgRefIdeal.nD Cert.DwgRefIdeal.τ).loc Cert.DwgRefIdeal.main_arg0)
          ∧ r.2.mem ((c.tc : Thread Cert.DwgRefIdeal.nD Cert.DwgRefIdeal.τ).loc Cert.DwgRefIdeal.main_arg1) = m' ((c.tc : Thread Cert.DwgRefIdeal.nD Cert.DwgRefIdeal.τ).loc Cert.DwgRefIdeal.main_arg1))

def preserves_Dwd_DwdIdeal : Prop :=
  True

def algebraic_DwdIdeal_DwdRefIdeal [hDwdIdeal : Cert.DwdIdeal.Facts] [hDwdRefIdeal : Cert.DwdRefIdeal.Facts] : Prop :=
  ∀ (m : (ℓ : Loc Cert.DwdIdeal.nD Cert.DwdIdeal.τ Cert.DwdIdeal.sig) → Buf (Elt Ideal) ℓ) (g : Dev Cert.DwdIdeal.nD → PrngReg)
    (m' : (ℓ : Loc Cert.DwdRefIdeal.nD Cert.DwdRefIdeal.τ Cert.DwdRefIdeal.sig) → Buf (Elt Ideal) ℓ) (g' : Dev Cert.DwdRefIdeal.nD → PrngReg), Pre_DwdIdeal m →
    (∀ c : Dev Cert.DwdIdeal.nD,
      m' ((c.tc : Thread Cert.DwdRefIdeal.nD Cert.DwdRefIdeal.τ).loc Cert.DwdRefIdeal.main_arg0) = m ((c.tc : Thread Cert.DwdIdeal.nD Cert.DwdIdeal.τ).loc Cert.DwdIdeal.main_arg0)
      ∧ m' ((c.tc : Thread Cert.DwdRefIdeal.nD Cert.DwdRefIdeal.τ).loc Cert.DwdRefIdeal.main_arg1) = m ((c.tc : Thread Cert.DwdIdeal.nD Cert.DwdIdeal.τ).loc Cert.DwdIdeal.main_arg1)) →
    ∃ (v0 : (c : Dev Cert.DwdIdeal.nD) → Buf (Elt Ideal) ((c.tc : Thread Cert.DwdIdeal.nD Cert.DwdIdeal.τ).loc Cert.DwdIdeal.main_v0)),
      θ_run (Cert.DwdIdeal.defs (F := Ideal)) (onTc (τ := Cert.DwdIdeal.τ) (Cert.DwdIdeal.main (F := Ideal))) ⟨m, fun _ => 0, g⟩ (fun r => ∀ c : Dev Cert.DwdIdeal.nD,
          r.2.mem ((c.tc : Thread Cert.DwdIdeal.nD Cert.DwdIdeal.τ).loc Cert.DwdIdeal.main_v0) = v0 c
          ∧ r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
          ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1))
      ∧ θ_run (Cert.DwdRefIdeal.defs (F := Ideal)) (onTc (τ := Cert.DwdRefIdeal.τ) (Cert.DwdRefIdeal.main (F := Ideal))) ⟨m', fun _ => 0, g'⟩ (fun r => ∀ c : Dev Cert.DwdRefIdeal.nD,
          r.2.mem ((c.tc : Thread Cert.DwdRefIdeal.nD Cert.DwdRefIdeal.τ).loc Cert.DwdRefIdeal.main_v6) = v0 c
          ∧ r.2.mem ((c.tc : Thread Cert.DwdRefIdeal.nD Cert.DwdRefIdeal.τ).loc Cert.DwdRefIdeal.main_arg0) = m' ((c.tc : Thread Cert.DwdRefIdeal.nD Cert.DwdRefIdeal.τ).loc Cert.DwdRefIdeal.main_arg0)
          ∧ r.2.mem ((c.tc : Thread Cert.DwdRefIdeal.nD Cert.DwdRefIdeal.τ).loc Cert.DwdRefIdeal.main_arg1) = m' ((c.tc : Thread Cert.DwdRefIdeal.nD Cert.DwdRefIdeal.τ).loc Cert.DwdRefIdeal.main_arg1))

def preserves_DH_DHIdeal : Prop :=
  True

def algebraic_DHIdeal_DHRefIdeal [hDHIdeal : Cert.DHIdeal.Facts] [hDHRefIdeal : Cert.DHRefIdeal.Facts] : Prop :=
  ∀ (m : (ℓ : Loc Cert.DHIdeal.nD Cert.DHIdeal.τ Cert.DHIdeal.sig) → Buf (Elt Ideal) ℓ) (g : Dev Cert.DHIdeal.nD → PrngReg)
    (m' : (ℓ : Loc Cert.DHRefIdeal.nD Cert.DHRefIdeal.τ Cert.DHRefIdeal.sig) → Buf (Elt Ideal) ℓ) (g' : Dev Cert.DHRefIdeal.nD → PrngReg), Pre_DHIdeal m →
    (∀ c : Dev Cert.DHIdeal.nD,
      m' ((c.tc : Thread Cert.DHRefIdeal.nD Cert.DHRefIdeal.τ).loc Cert.DHRefIdeal.main_arg0) = m ((c.tc : Thread Cert.DHIdeal.nD Cert.DHIdeal.τ).loc Cert.DHIdeal.main_arg0)
      ∧ m' ((c.tc : Thread Cert.DHRefIdeal.nD Cert.DHRefIdeal.τ).loc Cert.DHRefIdeal.main_arg1) = m ((c.tc : Thread Cert.DHIdeal.nD Cert.DHIdeal.τ).loc Cert.DHIdeal.main_arg1)
      ∧ m' ((c.tc : Thread Cert.DHRefIdeal.nD Cert.DHRefIdeal.τ).loc Cert.DHRefIdeal.main_arg2) = m ((c.tc : Thread Cert.DHIdeal.nD Cert.DHIdeal.τ).loc Cert.DHIdeal.main_arg2)
      ∧ m' ((c.tc : Thread Cert.DHRefIdeal.nD Cert.DHRefIdeal.τ).loc Cert.DHRefIdeal.main_arg3) = m ((c.tc : Thread Cert.DHIdeal.nD Cert.DHIdeal.τ).loc Cert.DHIdeal.main_arg3)
      ∧ m' ((c.tc : Thread Cert.DHRefIdeal.nD Cert.DHRefIdeal.τ).loc Cert.DHRefIdeal.main_arg4) = m ((c.tc : Thread Cert.DHIdeal.nD Cert.DHIdeal.τ).loc Cert.DHIdeal.main_arg4)
      ∧ m' ((c.tc : Thread Cert.DHRefIdeal.nD Cert.DHRefIdeal.τ).loc Cert.DHRefIdeal.main_arg5) = m ((c.tc : Thread Cert.DHIdeal.nD Cert.DHIdeal.τ).loc Cert.DHIdeal.main_arg5)
      ∧ m' ((c.tc : Thread Cert.DHRefIdeal.nD Cert.DHRefIdeal.τ).loc Cert.DHRefIdeal.main_arg6) = m ((c.tc : Thread Cert.DHIdeal.nD Cert.DHIdeal.τ).loc Cert.DHIdeal.main_arg6)
      ∧ m' ((c.tc : Thread Cert.DHRefIdeal.nD Cert.DHRefIdeal.τ).loc Cert.DHRefIdeal.main_arg7) = m ((c.tc : Thread Cert.DHIdeal.nD Cert.DHIdeal.τ).loc Cert.DHIdeal.main_arg7)
      ∧ m' ((c.tc : Thread Cert.DHRefIdeal.nD Cert.DHRefIdeal.τ).loc Cert.DHRefIdeal.main_arg8) = m ((c.tc : Thread Cert.DHIdeal.nD Cert.DHIdeal.τ).loc Cert.DHIdeal.main_arg8)) →
    ∃ (v0 : (c : Dev Cert.DHIdeal.nD) → Buf (Elt Ideal) ((c.tc : Thread Cert.DHIdeal.nD Cert.DHIdeal.τ).loc Cert.DHIdeal.main_v13)),
      θ_run (Cert.DHIdeal.defs (F := Ideal)) (onTc (τ := Cert.DHIdeal.τ) (Cert.DHIdeal.main (F := Ideal))) ⟨m, fun _ => 0, g⟩ (fun r => ∀ c : Dev Cert.DHIdeal.nD,
          r.2.mem ((c.tc : Thread Cert.DHIdeal.nD Cert.DHIdeal.τ).loc Cert.DHIdeal.main_v13) = v0 c
          ∧ r.2.mem ((c.tc : Thread Cert.DHIdeal.nD Cert.DHIdeal.τ).loc Cert.DHIdeal.main_arg0) = m ((c.tc : Thread Cert.DHIdeal.nD Cert.DHIdeal.τ).loc Cert.DHIdeal.main_arg0)
          ∧ r.2.mem ((c.tc : Thread Cert.DHIdeal.nD Cert.DHIdeal.τ).loc Cert.DHIdeal.main_arg1) = m ((c.tc : Thread Cert.DHIdeal.nD Cert.DHIdeal.τ).loc Cert.DHIdeal.main_arg1)
          ∧ r.2.mem ((c.tc : Thread Cert.DHIdeal.nD Cert.DHIdeal.τ).loc Cert.DHIdeal.main_arg2) = m ((c.tc : Thread Cert.DHIdeal.nD Cert.DHIdeal.τ).loc Cert.DHIdeal.main_arg2)
          ∧ r.2.mem ((c.tc : Thread Cert.DHIdeal.nD Cert.DHIdeal.τ).loc Cert.DHIdeal.main_arg3) = m ((c.tc : Thread Cert.DHIdeal.nD Cert.DHIdeal.τ).loc Cert.DHIdeal.main_arg3)
          ∧ r.2.mem ((c.tc : Thread Cert.DHIdeal.nD Cert.DHIdeal.τ).loc Cert.DHIdeal.main_arg4) = m ((c.tc : Thread Cert.DHIdeal.nD Cert.DHIdeal.τ).loc Cert.DHIdeal.main_arg4)
          ∧ r.2.mem ((c.tc : Thread Cert.DHIdeal.nD Cert.DHIdeal.τ).loc Cert.DHIdeal.main_arg5) = m ((c.tc : Thread Cert.DHIdeal.nD Cert.DHIdeal.τ).loc Cert.DHIdeal.main_arg5)
          ∧ r.2.mem ((c.tc : Thread Cert.DHIdeal.nD Cert.DHIdeal.τ).loc Cert.DHIdeal.main_arg6) = m ((c.tc : Thread Cert.DHIdeal.nD Cert.DHIdeal.τ).loc Cert.DHIdeal.main_arg6)
          ∧ r.2.mem ((c.tc : Thread Cert.DHIdeal.nD Cert.DHIdeal.τ).loc Cert.DHIdeal.main_arg7) = m ((c.tc : Thread Cert.DHIdeal.nD Cert.DHIdeal.τ).loc Cert.DHIdeal.main_arg7)
          ∧ r.2.mem ((c.tc : Thread Cert.DHIdeal.nD Cert.DHIdeal.τ).loc Cert.DHIdeal.main_arg8) = m ((c.tc : Thread Cert.DHIdeal.nD Cert.DHIdeal.τ).loc Cert.DHIdeal.main_arg8))
      ∧ θ_run (Cert.DHRefIdeal.defs (F := Ideal)) (onTc (τ := Cert.DHRefIdeal.τ) (Cert.DHRefIdeal.main (F := Ideal))) ⟨m', fun _ => 0, g'⟩ (fun r => ∀ c : Dev Cert.DHRefIdeal.nD,
          r.2.mem ((c.tc : Thread Cert.DHRefIdeal.nD Cert.DHRefIdeal.τ).loc Cert.DHRefIdeal.main_v13) = v0 c
          ∧ r.2.mem ((c.tc : Thread Cert.DHRefIdeal.nD Cert.DHRefIdeal.τ).loc Cert.DHRefIdeal.main_arg0) = m' ((c.tc : Thread Cert.DHRefIdeal.nD Cert.DHRefIdeal.τ).loc Cert.DHRefIdeal.main_arg0)
          ∧ r.2.mem ((c.tc : Thread Cert.DHRefIdeal.nD Cert.DHRefIdeal.τ).loc Cert.DHRefIdeal.main_arg1) = m' ((c.tc : Thread Cert.DHRefIdeal.nD Cert.DHRefIdeal.τ).loc Cert.DHRefIdeal.main_arg1)
          ∧ r.2.mem ((c.tc : Thread Cert.DHRefIdeal.nD Cert.DHRefIdeal.τ).loc Cert.DHRefIdeal.main_arg2) = m' ((c.tc : Thread Cert.DHRefIdeal.nD Cert.DHRefIdeal.τ).loc Cert.DHRefIdeal.main_arg2)
          ∧ r.2.mem ((c.tc : Thread Cert.DHRefIdeal.nD Cert.DHRefIdeal.τ).loc Cert.DHRefIdeal.main_arg3) = m' ((c.tc : Thread Cert.DHRefIdeal.nD Cert.DHRefIdeal.τ).loc Cert.DHRefIdeal.main_arg3)
          ∧ r.2.mem ((c.tc : Thread Cert.DHRefIdeal.nD Cert.DHRefIdeal.τ).loc Cert.DHRefIdeal.main_arg4) = m' ((c.tc : Thread Cert.DHRefIdeal.nD Cert.DHRefIdeal.τ).loc Cert.DHRefIdeal.main_arg4)
          ∧ r.2.mem ((c.tc : Thread Cert.DHRefIdeal.nD Cert.DHRefIdeal.τ).loc Cert.DHRefIdeal.main_arg5) = m' ((c.tc : Thread Cert.DHRefIdeal.nD Cert.DHRefIdeal.τ).loc Cert.DHRefIdeal.main_arg5)
          ∧ r.2.mem ((c.tc : Thread Cert.DHRefIdeal.nD Cert.DHRefIdeal.τ).loc Cert.DHRefIdeal.main_arg6) = m' ((c.tc : Thread Cert.DHRefIdeal.nD Cert.DHRefIdeal.τ).loc Cert.DHRefIdeal.main_arg6)
          ∧ r.2.mem ((c.tc : Thread Cert.DHRefIdeal.nD Cert.DHRefIdeal.τ).loc Cert.DHRefIdeal.main_arg7) = m' ((c.tc : Thread Cert.DHRefIdeal.nD Cert.DHRefIdeal.τ).loc Cert.DHRefIdeal.main_arg7)
          ∧ r.2.mem ((c.tc : Thread Cert.DHRefIdeal.nD Cert.DHRefIdeal.τ).loc Cert.DHRefIdeal.main_arg8) = m' ((c.tc : Thread Cert.DHRefIdeal.nD Cert.DHRefIdeal.τ).loc Cert.DHRefIdeal.main_arg8))

def preserves_DWcat_DWcatIdeal : Prop :=
  True

def algebraic_DWcatIdeal_DWcatRefIdeal [hDWcatIdeal : Cert.DWcatIdeal.Facts] [hDWcatRefIdeal : Cert.DWcatRefIdeal.Facts] : Prop :=
  ∀ (m : (ℓ : Loc Cert.DWcatIdeal.nD Cert.DWcatIdeal.τ Cert.DWcatIdeal.sig) → Buf (Elt Ideal) ℓ) (g : Dev Cert.DWcatIdeal.nD → PrngReg)
    (m' : (ℓ : Loc Cert.DWcatRefIdeal.nD Cert.DWcatRefIdeal.τ Cert.DWcatRefIdeal.sig) → Buf (Elt Ideal) ℓ) (g' : Dev Cert.DWcatRefIdeal.nD → PrngReg), Pre_DWcatIdeal m →
    (∀ c : Dev Cert.DWcatIdeal.nD,
      m' ((c.tc : Thread Cert.DWcatRefIdeal.nD Cert.DWcatRefIdeal.τ).loc Cert.DWcatRefIdeal.main_arg0) = m ((c.tc : Thread Cert.DWcatIdeal.nD Cert.DWcatIdeal.τ).loc Cert.DWcatIdeal.main_arg0)
      ∧ m' ((c.tc : Thread Cert.DWcatRefIdeal.nD Cert.DWcatRefIdeal.τ).loc Cert.DWcatRefIdeal.main_arg1) = m ((c.tc : Thread Cert.DWcatIdeal.nD Cert.DWcatIdeal.τ).loc Cert.DWcatIdeal.main_arg1)
      ∧ m' ((c.tc : Thread Cert.DWcatRefIdeal.nD Cert.DWcatRefIdeal.τ).loc Cert.DWcatRefIdeal.main_arg2) = m ((c.tc : Thread Cert.DWcatIdeal.nD Cert.DWcatIdeal.τ).loc Cert.DWcatIdeal.main_arg2)
      ∧ m' ((c.tc : Thread Cert.DWcatRefIdeal.nD Cert.DWcatRefIdeal.τ).loc Cert.DWcatRefIdeal.main_arg3) = m ((c.tc : Thread Cert.DWcatIdeal.nD Cert.DWcatIdeal.τ).loc Cert.DWcatIdeal.main_arg3)
      ∧ m' ((c.tc : Thread Cert.DWcatRefIdeal.nD Cert.DWcatRefIdeal.τ).loc Cert.DWcatRefIdeal.main_arg4) = m ((c.tc : Thread Cert.DWcatIdeal.nD Cert.DWcatIdeal.τ).loc Cert.DWcatIdeal.main_arg4)
      ∧ m' ((c.tc : Thread Cert.DWcatRefIdeal.nD Cert.DWcatRefIdeal.τ).loc Cert.DWcatRefIdeal.main_arg5) = m ((c.tc : Thread Cert.DWcatIdeal.nD Cert.DWcatIdeal.τ).loc Cert.DWcatIdeal.main_arg5)
      ∧ m' ((c.tc : Thread Cert.DWcatRefIdeal.nD Cert.DWcatRefIdeal.τ).loc Cert.DWcatRefIdeal.main_arg6) = m ((c.tc : Thread Cert.DWcatIdeal.nD Cert.DWcatIdeal.τ).loc Cert.DWcatIdeal.main_arg6)
      ∧ m' ((c.tc : Thread Cert.DWcatRefIdeal.nD Cert.DWcatRefIdeal.τ).loc Cert.DWcatRefIdeal.main_arg7) = m ((c.tc : Thread Cert.DWcatIdeal.nD Cert.DWcatIdeal.τ).loc Cert.DWcatIdeal.main_arg7)) →
    ∃ (v0 : (c : Dev Cert.DWcatIdeal.nD) → Buf (Elt Ideal) ((c.tc : Thread Cert.DWcatIdeal.nD Cert.DWcatIdeal.τ).loc Cert.DWcatIdeal.main_v5)),
      θ_run (Cert.DWcatIdeal.defs (F := Ideal)) (onTc (τ := Cert.DWcatIdeal.τ) (Cert.DWcatIdeal.main (F := Ideal))) ⟨m, fun _ => 0, g⟩ (fun r => ∀ c : Dev Cert.DWcatIdeal.nD,
          r.2.mem ((c.tc : Thread Cert.DWcatIdeal.nD Cert.DWcatIdeal.τ).loc Cert.DWcatIdeal.main_v5) = v0 c
          ∧ r.2.mem ((c.tc : Thread Cert.DWcatIdeal.nD Cert.DWcatIdeal.τ).loc Cert.DWcatIdeal.main_arg0) = m ((c.tc : Thread Cert.DWcatIdeal.nD Cert.DWcatIdeal.τ).loc Cert.DWcatIdeal.main_arg0)
          ∧ r.2.mem ((c.tc : Thread Cert.DWcatIdeal.nD Cert.DWcatIdeal.τ).loc Cert.DWcatIdeal.main_arg1) = m ((c.tc : Thread Cert.DWcatIdeal.nD Cert.DWcatIdeal.τ).loc Cert.DWcatIdeal.main_arg1)
          ∧ r.2.mem ((c.tc : Thread Cert.DWcatIdeal.nD Cert.DWcatIdeal.τ).loc Cert.DWcatIdeal.main_arg2) = m ((c.tc : Thread Cert.DWcatIdeal.nD Cert.DWcatIdeal.τ).loc Cert.DWcatIdeal.main_arg2)
          ∧ r.2.mem ((c.tc : Thread Cert.DWcatIdeal.nD Cert.DWcatIdeal.τ).loc Cert.DWcatIdeal.main_arg3) = m ((c.tc : Thread Cert.DWcatIdeal.nD Cert.DWcatIdeal.τ).loc Cert.DWcatIdeal.main_arg3)
          ∧ r.2.mem ((c.tc : Thread Cert.DWcatIdeal.nD Cert.DWcatIdeal.τ).loc Cert.DWcatIdeal.main_arg4) = m ((c.tc : Thread Cert.DWcatIdeal.nD Cert.DWcatIdeal.τ).loc Cert.DWcatIdeal.main_arg4)
          ∧ r.2.mem ((c.tc : Thread Cert.DWcatIdeal.nD Cert.DWcatIdeal.τ).loc Cert.DWcatIdeal.main_arg5) = m ((c.tc : Thread Cert.DWcatIdeal.nD Cert.DWcatIdeal.τ).loc Cert.DWcatIdeal.main_arg5)
          ∧ r.2.mem ((c.tc : Thread Cert.DWcatIdeal.nD Cert.DWcatIdeal.τ).loc Cert.DWcatIdeal.main_arg6) = m ((c.tc : Thread Cert.DWcatIdeal.nD Cert.DWcatIdeal.τ).loc Cert.DWcatIdeal.main_arg6)
          ∧ r.2.mem ((c.tc : Thread Cert.DWcatIdeal.nD Cert.DWcatIdeal.τ).loc Cert.DWcatIdeal.main_arg7) = m ((c.tc : Thread Cert.DWcatIdeal.nD Cert.DWcatIdeal.τ).loc Cert.DWcatIdeal.main_arg7))
      ∧ θ_run (Cert.DWcatRefIdeal.defs (F := Ideal)) (onTc (τ := Cert.DWcatRefIdeal.τ) (Cert.DWcatRefIdeal.main (F := Ideal))) ⟨m', fun _ => 0, g'⟩ (fun r => ∀ c : Dev Cert.DWcatRefIdeal.nD,
          r.2.mem ((c.tc : Thread Cert.DWcatRefIdeal.nD Cert.DWcatRefIdeal.τ).loc Cert.DWcatRefIdeal.main_v23) = v0 c
          ∧ r.2.mem ((c.tc : Thread Cert.DWcatRefIdeal.nD Cert.DWcatRefIdeal.τ).loc Cert.DWcatRefIdeal.main_arg0) = m' ((c.tc : Thread Cert.DWcatRefIdeal.nD Cert.DWcatRefIdeal.τ).loc Cert.DWcatRefIdeal.main_arg0)
          ∧ r.2.mem ((c.tc : Thread Cert.DWcatRefIdeal.nD Cert.DWcatRefIdeal.τ).loc Cert.DWcatRefIdeal.main_arg1) = m' ((c.tc : Thread Cert.DWcatRefIdeal.nD Cert.DWcatRefIdeal.τ).loc Cert.DWcatRefIdeal.main_arg1)
          ∧ r.2.mem ((c.tc : Thread Cert.DWcatRefIdeal.nD Cert.DWcatRefIdeal.τ).loc Cert.DWcatRefIdeal.main_arg2) = m' ((c.tc : Thread Cert.DWcatRefIdeal.nD Cert.DWcatRefIdeal.τ).loc Cert.DWcatRefIdeal.main_arg2)
          ∧ r.2.mem ((c.tc : Thread Cert.DWcatRefIdeal.nD Cert.DWcatRefIdeal.τ).loc Cert.DWcatRefIdeal.main_arg3) = m' ((c.tc : Thread Cert.DWcatRefIdeal.nD Cert.DWcatRefIdeal.τ).loc Cert.DWcatRefIdeal.main_arg3)
          ∧ r.2.mem ((c.tc : Thread Cert.DWcatRefIdeal.nD Cert.DWcatRefIdeal.τ).loc Cert.DWcatRefIdeal.main_arg4) = m' ((c.tc : Thread Cert.DWcatRefIdeal.nD Cert.DWcatRefIdeal.τ).loc Cert.DWcatRefIdeal.main_arg4)
          ∧ r.2.mem ((c.tc : Thread Cert.DWcatRefIdeal.nD Cert.DWcatRefIdeal.τ).loc Cert.DWcatRefIdeal.main_arg5) = m' ((c.tc : Thread Cert.DWcatRefIdeal.nD Cert.DWcatRefIdeal.τ).loc Cert.DWcatRefIdeal.main_arg5)
          ∧ r.2.mem ((c.tc : Thread Cert.DWcatRefIdeal.nD Cert.DWcatRefIdeal.τ).loc Cert.DWcatRefIdeal.main_arg6) = m' ((c.tc : Thread Cert.DWcatRefIdeal.nD Cert.DWcatRefIdeal.τ).loc Cert.DWcatRefIdeal.main_arg6)
          ∧ r.2.mem ((c.tc : Thread Cert.DWcatRefIdeal.nD Cert.DWcatRefIdeal.τ).loc Cert.DWcatRefIdeal.main_arg7) = m' ((c.tc : Thread Cert.DWcatRefIdeal.nD Cert.DWcatRefIdeal.τ).loc Cert.DWcatRefIdeal.main_arg7))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v8)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v8) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v10) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v21) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_DMerged_DMergedIdeal : Prop :=
  True

def algebraic_DMergedIdeal_DMergedRefIdeal [hDMergedIdeal : Cert.DMergedIdeal.Facts] [hDMergedRefIdeal : Cert.DMergedRefIdeal.Facts] : Prop :=
  ∀ (m : (ℓ : Loc Cert.DMergedIdeal.nD Cert.DMergedIdeal.τ Cert.DMergedIdeal.sig) → Buf (Elt Ideal) ℓ) (g : Dev Cert.DMergedIdeal.nD → PrngReg)
    (m' : (ℓ : Loc Cert.DMergedRefIdeal.nD Cert.DMergedRefIdeal.τ Cert.DMergedRefIdeal.sig) → Buf (Elt Ideal) ℓ) (g' : Dev Cert.DMergedRefIdeal.nD → PrngReg), Pre_DMergedIdeal m →
    (∀ c : Dev Cert.DMergedIdeal.nD,
      m' ((c.tc : Thread Cert.DMergedRefIdeal.nD Cert.DMergedRefIdeal.τ).loc Cert.DMergedRefIdeal.main_arg0) = m ((c.tc : Thread Cert.DMergedIdeal.nD Cert.DMergedIdeal.τ).loc Cert.DMergedIdeal.main_arg0)
      ∧ m' ((c.tc : Thread Cert.DMergedRefIdeal.nD Cert.DMergedRefIdeal.τ).loc Cert.DMergedRefIdeal.main_arg1) = m ((c.tc : Thread Cert.DMergedIdeal.nD Cert.DMergedIdeal.τ).loc Cert.DMergedIdeal.main_arg1)) →
    ∃ (v0 : (c : Dev Cert.DMergedIdeal.nD) → Buf (Elt Ideal) ((c.tc : Thread Cert.DMergedIdeal.nD Cert.DMergedIdeal.τ).loc Cert.DMergedIdeal.main_v1)),
      θ_run (Cert.DMergedIdeal.defs (F := Ideal)) (onTc (τ := Cert.DMergedIdeal.τ) (Cert.DMergedIdeal.main (F := Ideal))) ⟨m, fun _ => 0, g⟩ (fun r => ∀ c : Dev Cert.DMergedIdeal.nD,
          r.2.mem ((c.tc : Thread Cert.DMergedIdeal.nD Cert.DMergedIdeal.τ).loc Cert.DMergedIdeal.main_v1) = v0 c
          ∧ r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
          ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ θ_run (Cert.DMergedRefIdeal.defs (F := Ideal)) (onTc (τ := Cert.DMergedRefIdeal.τ) (Cert.DMergedRefIdeal.main (F := Ideal))) ⟨m', fun _ => 0, g'⟩ (fun r => ∀ c : Dev Cert.DMergedRefIdeal.nD,
          r.2.mem ((c.tc : Thread Cert.DMergedRefIdeal.nD Cert.DMergedRefIdeal.τ).loc Cert.DMergedRefIdeal.main_v3) = v0 c
          ∧ r.2.mem ((c.tc : Thread Cert.DMergedRefIdeal.nD Cert.DMergedRefIdeal.τ).loc Cert.DMergedRefIdeal.main_arg0) = m' ((c.tc : Thread Cert.DMergedRefIdeal.nD Cert.DMergedRefIdeal.τ).loc Cert.DMergedRefIdeal.main_arg0)
          ∧ r.2.mem ((c.tc : Thread Cert.DMergedRefIdeal.nD Cert.DMergedRefIdeal.τ).loc Cert.DMergedRefIdeal.main_arg1) = m' ((c.tc : Thread Cert.DMergedRefIdeal.nD Cert.DMergedRefIdeal.τ).loc Cert.DMergedRefIdeal.main_arg1))

def preserves_DWout_DWoutIdeal : Prop :=
  True

def algebraic_DWoutIdeal_DWoutRefIdeal [hDWoutIdeal : Cert.DWoutIdeal.Facts] [hDWoutRefIdeal : Cert.DWoutRefIdeal.Facts] : Prop :=
  ∀ (m : (ℓ : Loc Cert.DWoutIdeal.nD Cert.DWoutIdeal.τ Cert.DWoutIdeal.sig) → Buf (Elt Ideal) ℓ) (g : Dev Cert.DWoutIdeal.nD → PrngReg)
    (m' : (ℓ : Loc Cert.DWoutRefIdeal.nD Cert.DWoutRefIdeal.τ Cert.DWoutRefIdeal.sig) → Buf (Elt Ideal) ℓ) (g' : Dev Cert.DWoutRefIdeal.nD → PrngReg), Pre_DWoutIdeal m →
    (∀ c : Dev Cert.DWoutIdeal.nD,
      m' ((c.tc : Thread Cert.DWoutRefIdeal.nD Cert.DWoutRefIdeal.τ).loc Cert.DWoutRefIdeal.main_arg0) = m ((c.tc : Thread Cert.DWoutIdeal.nD Cert.DWoutIdeal.τ).loc Cert.DWoutIdeal.main_arg0)
      ∧ m' ((c.tc : Thread Cert.DWoutRefIdeal.nD Cert.DWoutRefIdeal.τ).loc Cert.DWoutRefIdeal.main_arg1) = m ((c.tc : Thread Cert.DWoutIdeal.nD Cert.DWoutIdeal.τ).loc Cert.DWoutIdeal.main_arg1)) →
    ∃ (v0 : (c : Dev Cert.DWoutIdeal.nD) → Buf (Elt Ideal) ((c.tc : Thread Cert.DWoutIdeal.nD Cert.DWoutIdeal.τ).loc Cert.DWoutIdeal.main_v0)),
      θ_run (Cert.DWoutIdeal.defs (F := Ideal)) (onTc (τ := Cert.DWoutIdeal.τ) (Cert.DWoutIdeal.main (F := Ideal))) ⟨m, fun _ => 0, g⟩ (fun r => ∀ c : Dev Cert.DWoutIdeal.nD,
          r.2.mem ((c.tc : Thread Cert.DWoutIdeal.nD Cert.DWoutIdeal.τ).loc Cert.DWoutIdeal.main_v0) = v0 c
          ∧ r.2.mem ((c.tc : Thread Cert.DWoutIdeal.nD Cert.DWoutIdeal.τ).loc Cert.DWoutIdeal.main_arg0) = m ((c.tc : Thread Cert.DWoutIdeal.nD Cert.DWoutIdeal.τ).loc Cert.DWoutIdeal.main_arg0)
          ∧ r.2.mem ((c.tc : Thread Cert.DWoutIdeal.nD Cert.DWoutIdeal.τ).loc Cert.DWoutIdeal.main_arg1) = m ((c.tc : Thread Cert.DWoutIdeal.nD Cert.DWoutIdeal.τ).loc Cert.DWoutIdeal.main_arg1))
      ∧ θ_run (Cert.DWoutRefIdeal.defs (F := Ideal)) (onTc (τ := Cert.DWoutRefIdeal.τ) (Cert.DWoutRefIdeal.main (F := Ideal))) ⟨m', fun _ => 0, g'⟩ (fun r => ∀ c : Dev Cert.DWoutRefIdeal.nD,
          r.2.mem ((c.tc : Thread Cert.DWoutRefIdeal.nD Cert.DWoutRefIdeal.τ).loc Cert.DWoutRefIdeal.main_v4) = v0 c
          ∧ r.2.mem ((c.tc : Thread Cert.DWoutRefIdeal.nD Cert.DWoutRefIdeal.τ).loc Cert.DWoutRefIdeal.main_arg0) = m' ((c.tc : Thread Cert.DWoutRefIdeal.nD Cert.DWoutRefIdeal.τ).loc Cert.DWoutRefIdeal.main_arg0)
          ∧ r.2.mem ((c.tc : Thread Cert.DWoutRefIdeal.nD Cert.DWoutRefIdeal.τ).loc Cert.DWoutRefIdeal.main_arg1) = m' ((c.tc : Thread Cert.DWoutRefIdeal.nD Cert.DWoutRefIdeal.τ).loc Cert.DWoutRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Pa_PaIdeal : Prop :=
  True

def algebraic_PaIdeal_PaRefIdeal [hPaIdeal : Cert.PaIdeal.Facts] [hPaRefIdeal : Cert.PaRefIdeal.Facts] : Prop :=
  ∀ (m : (ℓ : Loc Cert.PaIdeal.nD Cert.PaIdeal.τ Cert.PaIdeal.sig) → Buf (Elt Ideal) ℓ) (g : Dev Cert.PaIdeal.nD → PrngReg)
    (m' : (ℓ : Loc Cert.PaRefIdeal.nD Cert.PaRefIdeal.τ Cert.PaRefIdeal.sig) → Buf (Elt Ideal) ℓ) (g' : Dev Cert.PaRefIdeal.nD → PrngReg), Pre_PaIdeal m →
    (∀ c : Dev Cert.PaIdeal.nD,
      m' ((c.tc : Thread Cert.PaRefIdeal.nD Cert.PaRefIdeal.τ).loc Cert.PaRefIdeal.main_arg0) = m ((c.tc : Thread Cert.PaIdeal.nD Cert.PaIdeal.τ).loc Cert.PaIdeal.main_arg0)
      ∧ m' ((c.tc : Thread Cert.PaRefIdeal.nD Cert.PaRefIdeal.τ).loc Cert.PaRefIdeal.main_arg1) = m ((c.tc : Thread Cert.PaIdeal.nD Cert.PaIdeal.τ).loc Cert.PaIdeal.main_arg1)) →
    ∃ (v0 : (c : Dev Cert.PaIdeal.nD) → Buf (Elt Ideal) ((c.tc : Thread Cert.PaIdeal.nD Cert.PaIdeal.τ).loc Cert.PaIdeal.main_v1)),
      θ_run (Cert.PaIdeal.defs (F := Ideal)) (onTc (τ := Cert.PaIdeal.τ) (Cert.PaIdeal.main (F := Ideal))) ⟨m, fun _ => 0, g⟩ (fun r => ∀ c : Dev Cert.PaIdeal.nD,
          r.2.mem ((c.tc : Thread Cert.PaIdeal.nD Cert.PaIdeal.τ).loc Cert.PaIdeal.main_v1) = v0 c
          ∧ r.2.mem ((c.tc : Thread Cert.PaIdeal.nD Cert.PaIdeal.τ).loc Cert.PaIdeal.main_arg0) = m ((c.tc : Thread Cert.PaIdeal.nD Cert.PaIdeal.τ).loc Cert.PaIdeal.main_arg0)
          ∧ r.2.mem ((c.tc : Thread Cert.PaIdeal.nD Cert.PaIdeal.τ).loc Cert.PaIdeal.main_arg1) = m ((c.tc : Thread Cert.PaIdeal.nD Cert.PaIdeal.τ).loc Cert.PaIdeal.main_arg1))
      ∧ θ_run (Cert.PaRefIdeal.defs (F := Ideal)) (onTc (τ := Cert.PaRefIdeal.τ) (Cert.PaRefIdeal.main (F := Ideal))) ⟨m', fun _ => 0, g'⟩ (fun r => ∀ c : Dev Cert.PaRefIdeal.nD,
          r.2.mem ((c.tc : Thread Cert.PaRefIdeal.nD Cert.PaRefIdeal.τ).loc Cert.PaRefIdeal.main_v2) = v0 c
          ∧ r.2.mem ((c.tc : Thread Cert.PaRefIdeal.nD Cert.PaRefIdeal.τ).loc Cert.PaRefIdeal.main_arg0) = m' ((c.tc : Thread Cert.PaRefIdeal.nD Cert.PaRefIdeal.τ).loc Cert.PaRefIdeal.main_arg0)
          ∧ r.2.mem ((c.tc : Thread Cert.PaRefIdeal.nD Cert.PaRefIdeal.τ).loc Cert.PaRefIdeal.main_arg1) = m' ((c.tc : Thread Cert.PaRefIdeal.nD Cert.PaRefIdeal.τ).loc Cert.PaRefIdeal.main_arg1))

def preserves_DPa_DPaIdeal : Prop :=
  True

def algebraic_DPaIdeal_DPaRefIdeal [hDPaIdeal : Cert.DPaIdeal.Facts] [hDPaRefIdeal : Cert.DPaRefIdeal.Facts] : Prop :=
  ∀ (m : (ℓ : Loc Cert.DPaIdeal.nD Cert.DPaIdeal.τ Cert.DPaIdeal.sig) → Buf (Elt Ideal) ℓ) (g : Dev Cert.DPaIdeal.nD → PrngReg)
    (m' : (ℓ : Loc Cert.DPaRefIdeal.nD Cert.DPaRefIdeal.τ Cert.DPaRefIdeal.sig) → Buf (Elt Ideal) ℓ) (g' : Dev Cert.DPaRefIdeal.nD → PrngReg), Pre_DPaIdeal m →
    (∀ c : Dev Cert.DPaIdeal.nD,
      m' ((c.tc : Thread Cert.DPaRefIdeal.nD Cert.DPaRefIdeal.τ).loc Cert.DPaRefIdeal.main_arg0) = m ((c.tc : Thread Cert.DPaIdeal.nD Cert.DPaIdeal.τ).loc Cert.DPaIdeal.main_arg0)
      ∧ m' ((c.tc : Thread Cert.DPaRefIdeal.nD Cert.DPaRefIdeal.τ).loc Cert.DPaRefIdeal.main_arg1) = m ((c.tc : Thread Cert.DPaIdeal.nD Cert.DPaIdeal.τ).loc Cert.DPaIdeal.main_arg1)) →
    ∃ (v0 : (c : Dev Cert.DPaIdeal.nD) → Buf (Elt Ideal) ((c.tc : Thread Cert.DPaIdeal.nD Cert.DPaIdeal.τ).loc Cert.DPaIdeal.main_v1)),
      θ_run (Cert.DPaIdeal.defs (F := Ideal)) (onTc (τ := Cert.DPaIdeal.τ) (Cert.DPaIdeal.main (F := Ideal))) ⟨m, fun _ => 0, g⟩ (fun r => ∀ c : Dev Cert.DPaIdeal.nD,
          r.2.mem ((c.tc : Thread Cert.DPaIdeal.nD Cert.DPaIdeal.τ).loc Cert.DPaIdeal.main_v1) = v0 c
          ∧ r.2.mem ((c.tc : Thread Cert.DPaIdeal.nD Cert.DPaIdeal.τ).loc Cert.DPaIdeal.main_arg0) = m ((c.tc : Thread Cert.DPaIdeal.nD Cert.DPaIdeal.τ).loc Cert.DPaIdeal.main_arg0)
          ∧ r.2.mem ((c.tc : Thread Cert.DPaIdeal.nD Cert.DPaIdeal.τ).loc Cert.DPaIdeal.main_arg1) = m ((c.tc : Thread Cert.DPaIdeal.nD Cert.DPaIdeal.τ).loc Cert.DPaIdeal.main_arg1))
      ∧ θ_run (Cert.DPaRefIdeal.defs (F := Ideal)) (onTc (τ := Cert.DPaRefIdeal.τ) (Cert.DPaRefIdeal.main (F := Ideal))) ⟨m', fun _ => 0, g'⟩ (fun r => ∀ c : Dev Cert.DPaRefIdeal.nD,
          r.2.mem ((c.tc : Thread Cert.DPaRefIdeal.nD Cert.DPaRefIdeal.τ).loc Cert.DPaRefIdeal.main_v3) = v0 c
          ∧ r.2.mem ((c.tc : Thread Cert.DPaRefIdeal.nD Cert.DPaRefIdeal.τ).loc Cert.DPaRefIdeal.main_arg0) = m' ((c.tc : Thread Cert.DPaRefIdeal.nD Cert.DPaRefIdeal.τ).loc Cert.DPaRefIdeal.main_arg0)
          ∧ r.2.mem ((c.tc : Thread Cert.DPaRefIdeal.nD Cert.DPaRefIdeal.τ).loc Cert.DPaRefIdeal.main_arg1) = m' ((c.tc : Thread Cert.DPaRefIdeal.nD Cert.DPaRefIdeal.τ).loc Cert.DPaRefIdeal.main_arg1))

def preserves_DWpa_DWpaIdeal : Prop :=
  True

def algebraic_DWpaIdeal_DWpaRefIdeal [hDWpaIdeal : Cert.DWpaIdeal.Facts] [hDWpaRefIdeal : Cert.DWpaRefIdeal.Facts] : Prop :=
  ∀ (m : (ℓ : Loc Cert.DWpaIdeal.nD Cert.DWpaIdeal.τ Cert.DWpaIdeal.sig) → Buf (Elt Ideal) ℓ) (g : Dev Cert.DWpaIdeal.nD → PrngReg)
    (m' : (ℓ : Loc Cert.DWpaRefIdeal.nD Cert.DWpaRefIdeal.τ Cert.DWpaRefIdeal.sig) → Buf (Elt Ideal) ℓ) (g' : Dev Cert.DWpaRefIdeal.nD → PrngReg), Pre_DWpaIdeal m →
    (∀ c : Dev Cert.DWpaIdeal.nD,
      m' ((c.tc : Thread Cert.DWpaRefIdeal.nD Cert.DWpaRefIdeal.τ).loc Cert.DWpaRefIdeal.main_arg0) = m ((c.tc : Thread Cert.DWpaIdeal.nD Cert.DWpaIdeal.τ).loc Cert.DWpaIdeal.main_arg0)
      ∧ m' ((c.tc : Thread Cert.DWpaRefIdeal.nD Cert.DWpaRefIdeal.τ).loc Cert.DWpaRefIdeal.main_arg1) = m ((c.tc : Thread Cert.DWpaIdeal.nD Cert.DWpaIdeal.τ).loc Cert.DWpaIdeal.main_arg1)) →
    ∃ (v0 : (c : Dev Cert.DWpaIdeal.nD) → Buf (Elt Ideal) ((c.tc : Thread Cert.DWpaIdeal.nD Cert.DWpaIdeal.τ).loc Cert.DWpaIdeal.main_v0)),
      θ_run (Cert.DWpaIdeal.defs (F := Ideal)) (onTc (τ := Cert.DWpaIdeal.τ) (Cert.DWpaIdeal.main (F := Ideal))) ⟨m, fun _ => 0, g⟩ (fun r => ∀ c : Dev Cert.DWpaIdeal.nD,
          r.2.mem ((c.tc : Thread Cert.DWpaIdeal.nD Cert.DWpaIdeal.τ).loc Cert.DWpaIdeal.main_v0) = v0 c
          ∧ r.2.mem ((c.tc : Thread Cert.DWpaIdeal.nD Cert.DWpaIdeal.τ).loc Cert.DWpaIdeal.main_arg0) = m ((c.tc : Thread Cert.DWpaIdeal.nD Cert.DWpaIdeal.τ).loc Cert.DWpaIdeal.main_arg0)
          ∧ r.2.mem ((c.tc : Thread Cert.DWpaIdeal.nD Cert.DWpaIdeal.τ).loc Cert.DWpaIdeal.main_arg1) = m ((c.tc : Thread Cert.DWpaIdeal.nD Cert.DWpaIdeal.τ).loc Cert.DWpaIdeal.main_arg1))
      ∧ θ_run (Cert.DWpaRefIdeal.defs (F := Ideal)) (onTc (τ := Cert.DWpaRefIdeal.τ) (Cert.DWpaRefIdeal.main (F := Ideal))) ⟨m', fun _ => 0, g'⟩ (fun r => ∀ c : Dev Cert.DWpaRefIdeal.nD,
          r.2.mem ((c.tc : Thread Cert.DWpaRefIdeal.nD Cert.DWpaRefIdeal.τ).loc Cert.DWpaRefIdeal.main_v5) = v0 c
          ∧ r.2.mem ((c.tc : Thread Cert.DWpaRefIdeal.nD Cert.DWpaRefIdeal.τ).loc Cert.DWpaRefIdeal.main_arg0) = m' ((c.tc : Thread Cert.DWpaRefIdeal.nD Cert.DWpaRefIdeal.τ).loc Cert.DWpaRefIdeal.main_arg0)
          ∧ r.2.mem ((c.tc : Thread Cert.DWpaRefIdeal.nD Cert.DWpaRefIdeal.τ).loc Cert.DWpaRefIdeal.main_arg1) = m' ((c.tc : Thread Cert.DWpaRefIdeal.nD Cert.DWpaRefIdeal.τ).loc Cert.DWpaRefIdeal.main_arg1))

def preserves_Pc_PcIdeal : Prop :=
  True

def algebraic_PcIdeal_PcRefIdeal [hPcIdeal : Cert.PcIdeal.Facts] [hPcRefIdeal : Cert.PcRefIdeal.Facts] : Prop :=
  ∀ (m : (ℓ : Loc Cert.PcIdeal.nD Cert.PcIdeal.τ Cert.PcIdeal.sig) → Buf (Elt Ideal) ℓ) (g : Dev Cert.PcIdeal.nD → PrngReg)
    (m' : (ℓ : Loc Cert.PcRefIdeal.nD Cert.PcRefIdeal.τ Cert.PcRefIdeal.sig) → Buf (Elt Ideal) ℓ) (g' : Dev Cert.PcRefIdeal.nD → PrngReg), Pre_PcIdeal m →
    (∀ c : Dev Cert.PcIdeal.nD,
      m' ((c.tc : Thread Cert.PcRefIdeal.nD Cert.PcRefIdeal.τ).loc Cert.PcRefIdeal.main_arg0) = m ((c.tc : Thread Cert.PcIdeal.nD Cert.PcIdeal.τ).loc Cert.PcIdeal.main_arg0)
      ∧ m' ((c.tc : Thread Cert.PcRefIdeal.nD Cert.PcRefIdeal.τ).loc Cert.PcRefIdeal.main_arg1) = m ((c.tc : Thread Cert.PcIdeal.nD Cert.PcIdeal.τ).loc Cert.PcIdeal.main_arg1)) →
    ∃ (v0 : (c : Dev Cert.PcIdeal.nD) → Buf (Elt Ideal) ((c.tc : Thread Cert.PcIdeal.nD Cert.PcIdeal.τ).loc Cert.PcIdeal.main_v1)),
      θ_run (Cert.PcIdeal.defs (F := Ideal)) (onTc (τ := Cert.PcIdeal.τ) (Cert.PcIdeal.main (F := Ideal))) ⟨m, fun _ => 0, g⟩ (fun r => ∀ c : Dev Cert.PcIdeal.nD,
          r.2.mem ((c.tc : Thread Cert.PcIdeal.nD Cert.PcIdeal.τ).loc Cert.PcIdeal.main_v1) = v0 c
          ∧ r.2.mem ((c.tc : Thread Cert.PcIdeal.nD Cert.PcIdeal.τ).loc Cert.PcIdeal.main_arg0) = m ((c.tc : Thread Cert.PcIdeal.nD Cert.PcIdeal.τ).loc Cert.PcIdeal.main_arg0)
          ∧ r.2.mem ((c.tc : Thread Cert.PcIdeal.nD Cert.PcIdeal.τ).loc Cert.PcIdeal.main_arg1) = m ((c.tc : Thread Cert.PcIdeal.nD Cert.PcIdeal.τ).loc Cert.PcIdeal.main_arg1))
      ∧ θ_run (Cert.PcRefIdeal.defs (F := Ideal)) (onTc (τ := Cert.PcRefIdeal.τ) (Cert.PcRefIdeal.main (F := Ideal))) ⟨m', fun _ => 0, g'⟩ (fun r => ∀ c : Dev Cert.PcRefIdeal.nD,
          r.2.mem ((c.tc : Thread Cert.PcRefIdeal.nD Cert.PcRefIdeal.τ).loc Cert.PcRefIdeal.main_v2) = v0 c
          ∧ r.2.mem ((c.tc : Thread Cert.PcRefIdeal.nD Cert.PcRefIdeal.τ).loc Cert.PcRefIdeal.main_arg0) = m' ((c.tc : Thread Cert.PcRefIdeal.nD Cert.PcRefIdeal.τ).loc Cert.PcRefIdeal.main_arg0)
          ∧ r.2.mem ((c.tc : Thread Cert.PcRefIdeal.nD Cert.PcRefIdeal.τ).loc Cert.PcRefIdeal.main_arg1) = m' ((c.tc : Thread Cert.PcRefIdeal.nD Cert.PcRefIdeal.τ).loc Cert.PcRefIdeal.main_arg1))

def preserves_DPc_DPcIdeal : Prop :=
  True

def algebraic_DPcIdeal_DPcRefIdeal [hDPcIdeal : Cert.DPcIdeal.Facts] [hDPcRefIdeal : Cert.DPcRefIdeal.Facts] : Prop :=
  ∀ (m : (ℓ : Loc Cert.DPcIdeal.nD Cert.DPcIdeal.τ Cert.DPcIdeal.sig) → Buf (Elt Ideal) ℓ) (g : Dev Cert.DPcIdeal.nD → PrngReg)
    (m' : (ℓ : Loc Cert.DPcRefIdeal.nD Cert.DPcRefIdeal.τ Cert.DPcRefIdeal.sig) → Buf (Elt Ideal) ℓ) (g' : Dev Cert.DPcRefIdeal.nD → PrngReg), Pre_DPcIdeal m →
    (∀ c : Dev Cert.DPcIdeal.nD,
      m' ((c.tc : Thread Cert.DPcRefIdeal.nD Cert.DPcRefIdeal.τ).loc Cert.DPcRefIdeal.main_arg0) = m ((c.tc : Thread Cert.DPcIdeal.nD Cert.DPcIdeal.τ).loc Cert.DPcIdeal.main_arg0)
      ∧ m' ((c.tc : Thread Cert.DPcRefIdeal.nD Cert.DPcRefIdeal.τ).loc Cert.DPcRefIdeal.main_arg1) = m ((c.tc : Thread Cert.DPcIdeal.nD Cert.DPcIdeal.τ).loc Cert.DPcIdeal.main_arg1)) →
    ∃ (v0 : (c : Dev Cert.DPcIdeal.nD) → Buf (Elt Ideal) ((c.tc : Thread Cert.DPcIdeal.nD Cert.DPcIdeal.τ).loc Cert.DPcIdeal.main_v1)),
      θ_run (Cert.DPcIdeal.defs (F := Ideal)) (onTc (τ := Cert.DPcIdeal.τ) (Cert.DPcIdeal.main (F := Ideal))) ⟨m, fun _ => 0, g⟩ (fun r => ∀ c : Dev Cert.DPcIdeal.nD,
          r.2.mem ((c.tc : Thread Cert.DPcIdeal.nD Cert.DPcIdeal.τ).loc Cert.DPcIdeal.main_v1) = v0 c
          ∧ r.2.mem ((c.tc : Thread Cert.DPcIdeal.nD Cert.DPcIdeal.τ).loc Cert.DPcIdeal.main_arg0) = m ((c.tc : Thread Cert.DPcIdeal.nD Cert.DPcIdeal.τ).loc Cert.DPcIdeal.main_arg0)
          ∧ r.2.mem ((c.tc : Thread Cert.DPcIdeal.nD Cert.DPcIdeal.τ).loc Cert.DPcIdeal.main_arg1) = m ((c.tc : Thread Cert.DPcIdeal.nD Cert.DPcIdeal.τ).loc Cert.DPcIdeal.main_arg1))
      ∧ θ_run (Cert.DPcRefIdeal.defs (F := Ideal)) (onTc (τ := Cert.DPcRefIdeal.τ) (Cert.DPcRefIdeal.main (F := Ideal))) ⟨m', fun _ => 0, g'⟩ (fun r => ∀ c : Dev Cert.DPcRefIdeal.nD,
          r.2.mem ((c.tc : Thread Cert.DPcRefIdeal.nD Cert.DPcRefIdeal.τ).loc Cert.DPcRefIdeal.main_v3) = v0 c
          ∧ r.2.mem ((c.tc : Thread Cert.DPcRefIdeal.nD Cert.DPcRefIdeal.τ).loc Cert.DPcRefIdeal.main_arg0) = m' ((c.tc : Thread Cert.DPcRefIdeal.nD Cert.DPcRefIdeal.τ).loc Cert.DPcRefIdeal.main_arg0)
          ∧ r.2.mem ((c.tc : Thread Cert.DPcRefIdeal.nD Cert.DPcRefIdeal.τ).loc Cert.DPcRefIdeal.main_arg1) = m' ((c.tc : Thread Cert.DPcRefIdeal.nD Cert.DPcRefIdeal.τ).loc Cert.DPcRefIdeal.main_arg1))

def preserves_DWpc_DWpcIdeal : Prop :=
  True

def algebraic_DWpcIdeal_DWpcRefIdeal [hDWpcIdeal : Cert.DWpcIdeal.Facts] [hDWpcRefIdeal : Cert.DWpcRefIdeal.Facts] : Prop :=
  ∀ (m : (ℓ : Loc Cert.DWpcIdeal.nD Cert.DWpcIdeal.τ Cert.DWpcIdeal.sig) → Buf (Elt Ideal) ℓ) (g : Dev Cert.DWpcIdeal.nD → PrngReg)
    (m' : (ℓ : Loc Cert.DWpcRefIdeal.nD Cert.DWpcRefIdeal.τ Cert.DWpcRefIdeal.sig) → Buf (Elt Ideal) ℓ) (g' : Dev Cert.DWpcRefIdeal.nD → PrngReg), Pre_DWpcIdeal m →
    (∀ c : Dev Cert.DWpcIdeal.nD,
      m' ((c.tc : Thread Cert.DWpcRefIdeal.nD Cert.DWpcRefIdeal.τ).loc Cert.DWpcRefIdeal.main_arg0) = m ((c.tc : Thread Cert.DWpcIdeal.nD Cert.DWpcIdeal.τ).loc Cert.DWpcIdeal.main_arg0)
      ∧ m' ((c.tc : Thread Cert.DWpcRefIdeal.nD Cert.DWpcRefIdeal.τ).loc Cert.DWpcRefIdeal.main_arg1) = m ((c.tc : Thread Cert.DWpcIdeal.nD Cert.DWpcIdeal.τ).loc Cert.DWpcIdeal.main_arg1)) →
    ∃ (v0 : (c : Dev Cert.DWpcIdeal.nD) → Buf (Elt Ideal) ((c.tc : Thread Cert.DWpcIdeal.nD Cert.DWpcIdeal.τ).loc Cert.DWpcIdeal.main_v0)),
      θ_run (Cert.DWpcIdeal.defs (F := Ideal)) (onTc (τ := Cert.DWpcIdeal.τ) (Cert.DWpcIdeal.main (F := Ideal))) ⟨m, fun _ => 0, g⟩ (fun r => ∀ c : Dev Cert.DWpcIdeal.nD,
          r.2.mem ((c.tc : Thread Cert.DWpcIdeal.nD Cert.DWpcIdeal.τ).loc Cert.DWpcIdeal.main_v0) = v0 c
          ∧ r.2.mem ((c.tc : Thread Cert.DWpcIdeal.nD Cert.DWpcIdeal.τ).loc Cert.DWpcIdeal.main_arg0) = m ((c.tc : Thread Cert.DWpcIdeal.nD Cert.DWpcIdeal.τ).loc Cert.DWpcIdeal.main_arg0)
          ∧ r.2.mem ((c.tc : Thread Cert.DWpcIdeal.nD Cert.DWpcIdeal.τ).loc Cert.DWpcIdeal.main_arg1) = m ((c.tc : Thread Cert.DWpcIdeal.nD Cert.DWpcIdeal.τ).loc Cert.DWpcIdeal.main_arg1))
      ∧ θ_run (Cert.DWpcRefIdeal.defs (F := Ideal)) (onTc (τ := Cert.DWpcRefIdeal.τ) (Cert.DWpcRefIdeal.main (F := Ideal))) ⟨m', fun _ => 0, g'⟩ (fun r => ∀ c : Dev Cert.DWpcRefIdeal.nD,
          r.2.mem ((c.tc : Thread Cert.DWpcRefIdeal.nD Cert.DWpcRefIdeal.τ).loc Cert.DWpcRefIdeal.main_v5) = v0 c
          ∧ r.2.mem ((c.tc : Thread Cert.DWpcRefIdeal.nD Cert.DWpcRefIdeal.τ).loc Cert.DWpcRefIdeal.main_arg0) = m' ((c.tc : Thread Cert.DWpcRefIdeal.nD Cert.DWpcRefIdeal.τ).loc Cert.DWpcRefIdeal.main_arg0)
          ∧ r.2.mem ((c.tc : Thread Cert.DWpcRefIdeal.nD Cert.DWpcRefIdeal.τ).loc Cert.DWpcRefIdeal.main_arg1) = m' ((c.tc : Thread Cert.DWpcRefIdeal.nD Cert.DWpcRefIdeal.τ).loc Cert.DWpcRefIdeal.main_arg1))

def preserves_GatesB_GatesBIdeal : Prop :=
  True

def algebraic_GatesBIdeal_GatesBRefIdeal [hGatesBIdeal : Cert.GatesBIdeal.Facts] [hGatesBRefIdeal : Cert.GatesBRefIdeal.Facts] : Prop :=
  ∀ (m : (ℓ : Loc Cert.GatesBIdeal.nD Cert.GatesBIdeal.τ Cert.GatesBIdeal.sig) → Buf (Elt Ideal) ℓ) (g : Dev Cert.GatesBIdeal.nD → PrngReg)
    (m' : (ℓ : Loc Cert.GatesBRefIdeal.nD Cert.GatesBRefIdeal.τ Cert.GatesBRefIdeal.sig) → Buf (Elt Ideal) ℓ) (g' : Dev Cert.GatesBRefIdeal.nD → PrngReg), Pre_GatesBIdeal m →
    (∀ c : Dev Cert.GatesBIdeal.nD,
      m' ((c.tc : Thread Cert.GatesBRefIdeal.nD Cert.GatesBRefIdeal.τ).loc Cert.GatesBRefIdeal.main_arg0) = m ((c.tc : Thread Cert.GatesBIdeal.nD Cert.GatesBIdeal.τ).loc Cert.GatesBIdeal.main_arg0)
      ∧ m' ((c.tc : Thread Cert.GatesBRefIdeal.nD Cert.GatesBRefIdeal.τ).loc Cert.GatesBRefIdeal.main_arg1) = m ((c.tc : Thread Cert.GatesBIdeal.nD Cert.GatesBIdeal.τ).loc Cert.GatesBIdeal.main_arg1)
      ∧ m' ((c.tc : Thread Cert.GatesBRefIdeal.nD Cert.GatesBRefIdeal.τ).loc Cert.GatesBRefIdeal.main_arg2) = m ((c.tc : Thread Cert.GatesBIdeal.nD Cert.GatesBIdeal.τ).loc Cert.GatesBIdeal.main_arg2)
      ∧ m' ((c.tc : Thread Cert.GatesBRefIdeal.nD Cert.GatesBRefIdeal.τ).loc Cert.GatesBRefIdeal.main_arg3) = m ((c.tc : Thread Cert.GatesBIdeal.nD Cert.GatesBIdeal.τ).loc Cert.GatesBIdeal.main_arg3)
      ∧ m' ((c.tc : Thread Cert.GatesBRefIdeal.nD Cert.GatesBRefIdeal.τ).loc Cert.GatesBRefIdeal.main_arg4) = m ((c.tc : Thread Cert.GatesBIdeal.nD Cert.GatesBIdeal.τ).loc Cert.GatesBIdeal.main_arg4)
      ∧ m' ((c.tc : Thread Cert.GatesBRefIdeal.nD Cert.GatesBRefIdeal.τ).loc Cert.GatesBRefIdeal.main_arg5) = m ((c.tc : Thread Cert.GatesBIdeal.nD Cert.GatesBIdeal.τ).loc Cert.GatesBIdeal.main_arg5)) →
    ∃ (v0 : (c : Dev Cert.GatesBIdeal.nD) → Buf (Elt Ideal) ((c.tc : Thread Cert.GatesBIdeal.nD Cert.GatesBIdeal.τ).loc Cert.GatesBIdeal.main_v4_0)) (v1 : (c : Dev Cert.GatesBIdeal.nD) → Buf (Elt Ideal) ((c.tc : Thread Cert.GatesBIdeal.nD Cert.GatesBIdeal.τ).loc Cert.GatesBIdeal.main_v4_1)) (v2 : (c : Dev Cert.GatesBIdeal.nD) → Buf (Elt Ideal) ((c.tc : Thread Cert.GatesBIdeal.nD Cert.GatesBIdeal.τ).loc Cert.GatesBIdeal.main_v4_2)) (v3 : (c : Dev Cert.GatesBIdeal.nD) → Buf (Elt Ideal) ((c.tc : Thread Cert.GatesBIdeal.nD Cert.GatesBIdeal.τ).loc Cert.GatesBIdeal.main_v4_3)) (v4 : (c : Dev Cert.GatesBIdeal.nD) → Buf (Elt Ideal) ((c.tc : Thread Cert.GatesBIdeal.nD Cert.GatesBIdeal.τ).loc Cert.GatesBIdeal.main_v4_4)) (v5 : (c : Dev Cert.GatesBIdeal.nD) → Buf (Elt Ideal) ((c.tc : Thread Cert.GatesBIdeal.nD Cert.GatesBIdeal.τ).loc Cert.GatesBIdeal.main_v4_5)) (v6 : (c : Dev Cert.GatesBIdeal.nD) → Buf (Elt Ideal) ((c.tc : Thread Cert.GatesBIdeal.nD Cert.GatesBIdeal.τ).loc Cert.GatesBIdeal.main_v4_6)) (v7 : (c : Dev Cert.GatesBIdeal.nD) → Buf (Elt Ideal) ((c.tc : Thread Cert.GatesBIdeal.nD Cert.GatesBIdeal.τ).loc Cert.GatesBIdeal.main_v4_7)) (v8 : (c : Dev Cert.GatesBIdeal.nD) → Buf (Elt Ideal) ((c.tc : Thread Cert.GatesBIdeal.nD Cert.GatesBIdeal.τ).loc Cert.GatesBIdeal.main_v4_8)),
      θ_run (Cert.GatesBIdeal.defs (F := Ideal)) (onTc (τ := Cert.GatesBIdeal.τ) (Cert.GatesBIdeal.main (F := Ideal))) ⟨m, fun _ => 0, g⟩ (fun r => ∀ c : Dev Cert.GatesBIdeal.nD,
          r.2.mem ((c.tc : Thread Cert.GatesBIdeal.nD Cert.GatesBIdeal.τ).loc Cert.GatesBIdeal.main_v4_0) = v0 c
          ∧ r.2.mem ((c.tc : Thread Cert.GatesBIdeal.nD Cert.GatesBIdeal.τ).loc Cert.GatesBIdeal.main_v4_1) = v1 c
          ∧ r.2.mem ((c.tc : Thread Cert.GatesBIdeal.nD Cert.GatesBIdeal.τ).loc Cert.GatesBIdeal.main_v4_2) = v2 c
          ∧ r.2.mem ((c.tc : Thread Cert.GatesBIdeal.nD Cert.GatesBIdeal.τ).loc Cert.GatesBIdeal.main_v4_3) = v3 c
          ∧ r.2.mem ((c.tc : Thread Cert.GatesBIdeal.nD Cert.GatesBIdeal.τ).loc Cert.GatesBIdeal.main_v4_4) = v4 c
          ∧ r.2.mem ((c.tc : Thread Cert.GatesBIdeal.nD Cert.GatesBIdeal.τ).loc Cert.GatesBIdeal.main_v4_5) = v5 c
          ∧ r.2.mem ((c.tc : Thread Cert.GatesBIdeal.nD Cert.GatesBIdeal.τ).loc Cert.GatesBIdeal.main_v4_6) = v6 c
          ∧ r.2.mem ((c.tc : Thread Cert.GatesBIdeal.nD Cert.GatesBIdeal.τ).loc Cert.GatesBIdeal.main_v4_7) = v7 c
          ∧ r.2.mem ((c.tc : Thread Cert.GatesBIdeal.nD Cert.GatesBIdeal.τ).loc Cert.GatesBIdeal.main_v4_8) = v8 c
          ∧ r.2.mem ((c.tc : Thread Cert.GatesBIdeal.nD Cert.GatesBIdeal.τ).loc Cert.GatesBIdeal.main_arg0) = m ((c.tc : Thread Cert.GatesBIdeal.nD Cert.GatesBIdeal.τ).loc Cert.GatesBIdeal.main_arg0)
          ∧ r.2.mem ((c.tc : Thread Cert.GatesBIdeal.nD Cert.GatesBIdeal.τ).loc Cert.GatesBIdeal.main_arg1) = m ((c.tc : Thread Cert.GatesBIdeal.nD Cert.GatesBIdeal.τ).loc Cert.GatesBIdeal.main_arg1)
          ∧ r.2.mem ((c.tc : Thread Cert.GatesBIdeal.nD Cert.GatesBIdeal.τ).loc Cert.GatesBIdeal.main_arg2) = m ((c.tc : Thread Cert.GatesBIdeal.nD Cert.GatesBIdeal.τ).loc Cert.GatesBIdeal.main_arg2)
          ∧ r.2.mem ((c.tc : Thread Cert.GatesBIdeal.nD Cert.GatesBIdeal.τ).loc Cert.GatesBIdeal.main_arg3) = m ((c.tc : Thread Cert.GatesBIdeal.nD Cert.GatesBIdeal.τ).loc Cert.GatesBIdeal.main_arg3)
          ∧ r.2.mem ((c.tc : Thread Cert.GatesBIdeal.nD Cert.GatesBIdeal.τ).loc Cert.GatesBIdeal.main_arg4) = m ((c.tc : Thread Cert.GatesBIdeal.nD Cert.GatesBIdeal.τ).loc Cert.GatesBIdeal.main_arg4)
          ∧ r.2.mem ((c.tc : Thread Cert.GatesBIdeal.nD Cert.GatesBIdeal.τ).loc Cert.GatesBIdeal.main_arg5) = m ((c.tc : Thread Cert.GatesBIdeal.nD Cert.GatesBIdeal.τ).loc Cert.GatesBIdeal.main_arg5))
      ∧ θ_run (Cert.GatesBRefIdeal.defs (F := Ideal)) (onTc (τ := Cert.GatesBRefIdeal.τ) (Cert.GatesBRefIdeal.main (F := Ideal))) ⟨m', fun _ => 0, g'⟩ (fun r => ∀ c : Dev Cert.GatesBRefIdeal.nD,
          r.2.mem ((c.tc : Thread Cert.GatesBRefIdeal.nD Cert.GatesBRefIdeal.τ).loc Cert.GatesBRefIdeal.main_v52) = v0 c
          ∧ r.2.mem ((c.tc : Thread Cert.GatesBRefIdeal.nD Cert.GatesBRefIdeal.τ).loc Cert.GatesBRefIdeal.main_v53) = v1 c
          ∧ r.2.mem ((c.tc : Thread Cert.GatesBRefIdeal.nD Cert.GatesBRefIdeal.τ).loc Cert.GatesBRefIdeal.main_v54) = v2 c
          ∧ r.2.mem ((c.tc : Thread Cert.GatesBRefIdeal.nD Cert.GatesBRefIdeal.τ).loc Cert.GatesBRefIdeal.main_v55) = v3 c
          ∧ r.2.mem ((c.tc : Thread Cert.GatesBRefIdeal.nD Cert.GatesBRefIdeal.τ).loc Cert.GatesBRefIdeal.main_v56) = v4 c
          ∧ r.2.mem ((c.tc : Thread Cert.GatesBRefIdeal.nD Cert.GatesBRefIdeal.τ).loc Cert.GatesBRefIdeal.main_v57) = v5 c
          ∧ r.2.mem ((c.tc : Thread Cert.GatesBRefIdeal.nD Cert.GatesBRefIdeal.τ).loc Cert.GatesBRefIdeal.main_v59) = v6 c
          ∧ r.2.mem ((c.tc : Thread Cert.GatesBRefIdeal.nD Cert.GatesBRefIdeal.τ).loc Cert.GatesBRefIdeal.main_v61) = v7 c
          ∧ r.2.mem ((c.tc : Thread Cert.GatesBRefIdeal.nD Cert.GatesBRefIdeal.τ).loc Cert.GatesBRefIdeal.main_v63) = v8 c
          ∧ r.2.mem ((c.tc : Thread Cert.GatesBRefIdeal.nD Cert.GatesBRefIdeal.τ).loc Cert.GatesBRefIdeal.main_arg0) = m' ((c.tc : Thread Cert.GatesBRefIdeal.nD Cert.GatesBRefIdeal.τ).loc Cert.GatesBRefIdeal.main_arg0)
          ∧ r.2.mem ((c.tc : Thread Cert.GatesBRefIdeal.nD Cert.GatesBRefIdeal.τ).loc Cert.GatesBRefIdeal.main_arg1) = m' ((c.tc : Thread Cert.GatesBRefIdeal.nD Cert.GatesBRefIdeal.τ).loc Cert.GatesBRefIdeal.main_arg1)
          ∧ r.2.mem ((c.tc : Thread Cert.GatesBRefIdeal.nD Cert.GatesBRefIdeal.τ).loc Cert.GatesBRefIdeal.main_arg2) = m' ((c.tc : Thread Cert.GatesBRefIdeal.nD Cert.GatesBRefIdeal.τ).loc Cert.GatesBRefIdeal.main_arg2)
          ∧ r.2.mem ((c.tc : Thread Cert.GatesBRefIdeal.nD Cert.GatesBRefIdeal.τ).loc Cert.GatesBRefIdeal.main_arg3) = m' ((c.tc : Thread Cert.GatesBRefIdeal.nD Cert.GatesBRefIdeal.τ).loc Cert.GatesBRefIdeal.main_arg3)
          ∧ r.2.mem ((c.tc : Thread Cert.GatesBRefIdeal.nD Cert.GatesBRefIdeal.τ).loc Cert.GatesBRefIdeal.main_arg4) = m' ((c.tc : Thread Cert.GatesBRefIdeal.nD Cert.GatesBRefIdeal.τ).loc Cert.GatesBRefIdeal.main_arg4)
          ∧ r.2.mem ((c.tc : Thread Cert.GatesBRefIdeal.nD Cert.GatesBRefIdeal.τ).loc Cert.GatesBRefIdeal.main_arg5) = m' ((c.tc : Thread Cert.GatesBRefIdeal.nD Cert.GatesBRefIdeal.τ).loc Cert.GatesBRefIdeal.main_arg5))

def preserves_NormB_NormBIdeal : Prop :=
  True

def algebraic_NormBIdeal_NormBRefIdeal [hNormBIdeal : Cert.NormBIdeal.Facts] [hNormBRefIdeal : Cert.NormBRefIdeal.Facts] : Prop :=
  ∀ (m : (ℓ : Loc Cert.NormBIdeal.nD Cert.NormBIdeal.τ Cert.NormBIdeal.sig) → Buf (Elt Ideal) ℓ) (g : Dev Cert.NormBIdeal.nD → PrngReg)
    (m' : (ℓ : Loc Cert.NormBRefIdeal.nD Cert.NormBRefIdeal.τ Cert.NormBRefIdeal.sig) → Buf (Elt Ideal) ℓ) (g' : Dev Cert.NormBRefIdeal.nD → PrngReg), Pre_NormBIdeal m →
    (∀ c : Dev Cert.NormBIdeal.nD,
      m' ((c.tc : Thread Cert.NormBRefIdeal.nD Cert.NormBRefIdeal.τ).loc Cert.NormBRefIdeal.main_arg0) = m ((c.tc : Thread Cert.NormBIdeal.nD Cert.NormBIdeal.τ).loc Cert.NormBIdeal.main_arg0)
      ∧ m' ((c.tc : Thread Cert.NormBRefIdeal.nD Cert.NormBRefIdeal.τ).loc Cert.NormBRefIdeal.main_arg1) = m ((c.tc : Thread Cert.NormBIdeal.nD Cert.NormBIdeal.τ).loc Cert.NormBIdeal.main_arg1)
      ∧ m' ((c.tc : Thread Cert.NormBRefIdeal.nD Cert.NormBRefIdeal.τ).loc Cert.NormBRefIdeal.main_arg2) = m ((c.tc : Thread Cert.NormBIdeal.nD Cert.NormBIdeal.τ).loc Cert.NormBIdeal.main_arg2)
      ∧ m' ((c.tc : Thread Cert.NormBRefIdeal.nD Cert.NormBRefIdeal.τ).loc Cert.NormBRefIdeal.main_arg3) = m ((c.tc : Thread Cert.NormBIdeal.nD Cert.NormBIdeal.τ).loc Cert.NormBIdeal.main_arg3)) →
    ∃ (v0 : (c : Dev Cert.NormBIdeal.nD) → Buf (Elt Ideal) ((c.tc : Thread Cert.NormBIdeal.nD Cert.NormBIdeal.τ).loc Cert.NormBIdeal.main_v0_0)) (v1 : (c : Dev Cert.NormBIdeal.nD) → Buf (Elt Ideal) ((c.tc : Thread Cert.NormBIdeal.nD Cert.NormBIdeal.τ).loc Cert.NormBIdeal.main_v0_1)),
      θ_run (Cert.NormBIdeal.defs (F := Ideal)) (onTc (τ := Cert.NormBIdeal.τ) (Cert.NormBIdeal.main (F := Ideal))) ⟨m, fun _ => 0, g⟩ (fun r => ∀ c : Dev Cert.NormBIdeal.nD,
          r.2.mem ((c.tc : Thread Cert.NormBIdeal.nD Cert.NormBIdeal.τ).loc Cert.NormBIdeal.main_v0_0) = v0 c
          ∧ r.2.mem ((c.tc : Thread Cert.NormBIdeal.nD Cert.NormBIdeal.τ).loc Cert.NormBIdeal.main_v0_1) = v1 c
          ∧ r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
          ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
          ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2)
          ∧ r.2.mem ((c.tc : Thread Cert.NormBIdeal.nD Cert.NormBIdeal.τ).loc Cert.NormBIdeal.main_arg3) = m ((c.tc : Thread Cert.NormBIdeal.nD Cert.NormBIdeal.τ).loc Cert.NormBIdeal.main_arg3))
      ∧ θ_run (Cert.NormBRefIdeal.defs (F := Ideal)) (onTc (τ := Cert.NormBRefIdeal.τ) (Cert.NormBRefIdeal.main (F := Ideal))) ⟨m', fun _ => 0, g'⟩ (fun r => ∀ c : Dev Cert.NormBRefIdeal.nD,
          r.2.mem ((c.tc : Thread Cert.NormBRefIdeal.nD Cert.NormBRefIdeal.τ).loc Cert.NormBRefIdeal.main_v37) = v0 c
          ∧ r.2.mem ((c.tc : Thread Cert.NormBRefIdeal.nD Cert.NormBRefIdeal.τ).loc Cert.NormBRefIdeal.main_v38) = v1 c
          ∧ r.2.mem ((c.tc : Thread Cert.NormBRefIdeal.nD Cert.NormBRefIdeal.τ).loc Cert.NormBRefIdeal.main_arg0) = m' ((c.tc : Thread Cert.NormBRefIdeal.nD Cert.NormBRefIdeal.τ).loc Cert.NormBRefIdeal.main_arg0)
          ∧ r.2.mem ((c.tc : Thread Cert.NormBRefIdeal.nD Cert.NormBRefIdeal.τ).loc Cert.NormBRefIdeal.main_arg1) = m' ((c.tc : Thread Cert.NormBRefIdeal.nD Cert.NormBRefIdeal.τ).loc Cert.NormBRefIdeal.main_arg1)
          ∧ r.2.mem ((c.tc : Thread Cert.NormBRefIdeal.nD Cert.NormBRefIdeal.τ).loc Cert.NormBRefIdeal.main_arg2) = m' ((c.tc : Thread Cert.NormBRefIdeal.nD Cert.NormBRefIdeal.τ).loc Cert.NormBRefIdeal.main_arg2)
          ∧ r.2.mem ((c.tc : Thread Cert.NormBRefIdeal.nD Cert.NormBRefIdeal.τ).loc Cert.NormBRefIdeal.main_arg3) = m' ((c.tc : Thread Cert.NormBRefIdeal.nD Cert.NormBRefIdeal.τ).loc Cert.NormBRefIdeal.main_arg3))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)
      ∧ m' ((c.tc : Thread Cert.GatesRefIdeal.nD Cert.GatesRefIdeal.τ).loc Cert.GatesRefIdeal.main_arg3) = m ((c.tc : Thread Cert.GatesIdeal.nD Cert.GatesIdeal.τ).loc Cert.GatesIdeal.main_arg3)
      ∧ m' ((c.tc : Thread Cert.GatesRefIdeal.nD Cert.GatesRefIdeal.τ).loc Cert.GatesRefIdeal.main_arg4) = m ((c.tc : Thread Cert.GatesIdeal.nD Cert.GatesIdeal.τ).loc Cert.GatesIdeal.main_arg4)) →
    ∃ (v0 : (c : Dev Cert.GatesIdeal.nD) → Buf (Elt Ideal) ((c.tc : Thread Cert.GatesIdeal.nD Cert.GatesIdeal.τ).loc Cert.GatesIdeal.main_v4)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v4) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v26) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3)
          ∧ r.2.mem ((c.tc : Thread Cert.GatesRefIdeal.nD Cert.GatesRefIdeal.τ).loc Cert.GatesRefIdeal.main_arg4) = m' ((c.tc : Thread Cert.GatesRefIdeal.nD Cert.GatesRefIdeal.τ).loc Cert.GatesRefIdeal.main_arg4))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v14) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_GateNorm_GateNormIdeal : Prop :=
  True

def algebraic_GateNormIdeal_GateNormRefIdeal [hGateNormIdeal : Cert.GateNormIdeal.Facts] [hGateNormRefIdeal : Cert.GateNormRefIdeal.Facts] : Prop :=
  ∀ (m : (ℓ : Loc Cert.GateNormIdeal.nD Cert.GateNormIdeal.τ Cert.GateNormIdeal.sig) → Buf (Elt Ideal) ℓ) (g : Dev Cert.GateNormIdeal.nD → PrngReg)
    (m' : (ℓ : Loc Cert.GateNormRefIdeal.nD Cert.GateNormRefIdeal.τ Cert.GateNormRefIdeal.sig) → Buf (Elt Ideal) ℓ) (g' : Dev Cert.GateNormRefIdeal.nD → PrngReg), Pre_GateNormIdeal m →
    (∀ c : Dev Cert.GateNormIdeal.nD,
      m' ((c.tc : Thread Cert.GateNormRefIdeal.nD Cert.GateNormRefIdeal.τ).loc Cert.GateNormRefIdeal.main_arg0) = m ((c.tc : Thread Cert.GateNormIdeal.nD Cert.GateNormIdeal.τ).loc Cert.GateNormIdeal.main_arg0)
      ∧ m' ((c.tc : Thread Cert.GateNormRefIdeal.nD Cert.GateNormRefIdeal.τ).loc Cert.GateNormRefIdeal.main_arg1) = m ((c.tc : Thread Cert.GateNormIdeal.nD Cert.GateNormIdeal.τ).loc Cert.GateNormIdeal.main_arg1)
      ∧ m' ((c.tc : Thread Cert.GateNormRefIdeal.nD Cert.GateNormRefIdeal.τ).loc Cert.GateNormRefIdeal.main_arg2) = m ((c.tc : Thread Cert.GateNormIdeal.nD Cert.GateNormIdeal.τ).loc Cert.GateNormIdeal.main_arg2)) →
    ∃ (v0 : (c : Dev Cert.GateNormIdeal.nD) → Buf (Elt Ideal) ((c.tc : Thread Cert.GateNormIdeal.nD Cert.GateNormIdeal.τ).loc Cert.GateNormIdeal.main_v0)),
      θ_run (Cert.GateNormIdeal.defs (F := Ideal)) (onTc (τ := Cert.GateNormIdeal.τ) (Cert.GateNormIdeal.main (F := Ideal))) ⟨m, fun _ => 0, g⟩ (fun r => ∀ c : Dev Cert.GateNormIdeal.nD,
          r.2.mem ((c.tc : Thread Cert.GateNormIdeal.nD Cert.GateNormIdeal.τ).loc Cert.GateNormIdeal.main_v0) = v0 c
          ∧ r.2.mem ((c.tc : Thread Cert.GateNormIdeal.nD Cert.GateNormIdeal.τ).loc Cert.GateNormIdeal.main_arg0) = m ((c.tc : Thread Cert.GateNormIdeal.nD Cert.GateNormIdeal.τ).loc Cert.GateNormIdeal.main_arg0)
          ∧ r.2.mem ((c.tc : Thread Cert.GateNormIdeal.nD Cert.GateNormIdeal.τ).loc Cert.GateNormIdeal.main_arg1) = m ((c.tc : Thread Cert.GateNormIdeal.nD Cert.GateNormIdeal.τ).loc Cert.GateNormIdeal.main_arg1)
          ∧ r.2.mem ((c.tc : Thread Cert.GateNormIdeal.nD Cert.GateNormIdeal.τ).loc Cert.GateNormIdeal.main_arg2) = m ((c.tc : Thread Cert.GateNormIdeal.nD Cert.GateNormIdeal.τ).loc Cert.GateNormIdeal.main_arg2))
      ∧ θ_run (Cert.GateNormRefIdeal.defs (F := Ideal)) (onTc (τ := Cert.GateNormRefIdeal.τ) (Cert.GateNormRefIdeal.main (F := Ideal))) ⟨m', fun _ => 0, g'⟩ (fun r => ∀ c : Dev Cert.GateNormRefIdeal.nD,
          r.2.mem ((c.tc : Thread Cert.GateNormRefIdeal.nD Cert.GateNormRefIdeal.τ).loc Cert.GateNormRefIdeal.main_v24) = v0 c
          ∧ r.2.mem ((c.tc : Thread Cert.GateNormRefIdeal.nD Cert.GateNormRefIdeal.τ).loc Cert.GateNormRefIdeal.main_arg0) = m' ((c.tc : Thread Cert.GateNormRefIdeal.nD Cert.GateNormRefIdeal.τ).loc Cert.GateNormRefIdeal.main_arg0)
          ∧ r.2.mem ((c.tc : Thread Cert.GateNormRefIdeal.nD Cert.GateNormRefIdeal.τ).loc Cert.GateNormRefIdeal.main_arg1) = m' ((c.tc : Thread Cert.GateNormRefIdeal.nD Cert.GateNormRefIdeal.τ).loc Cert.GateNormRefIdeal.main_arg1)
          ∧ r.2.mem ((c.tc : Thread Cert.GateNormRefIdeal.nD Cert.GateNormRefIdeal.τ).loc Cert.GateNormRefIdeal.main_arg2) = m' ((c.tc : Thread Cert.GateNormRefIdeal.nD Cert.GateNormRefIdeal.τ).loc Cert.GateNormRefIdeal.main_arg2))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v24_0)) (v1 : (c : Dev Cert.RopeIdeal.nD) → Buf (Elt Ideal) ((c.tc : Thread Cert.RopeIdeal.nD Cert.RopeIdeal.τ).loc Cert.RopeIdeal.main_v24_1)) (v2 : (c : Dev Cert.RopeIdeal.nD) → Buf (Elt Ideal) ((c.tc : Thread Cert.RopeIdeal.nD Cert.RopeIdeal.τ).loc Cert.RopeIdeal.main_v24_2)) (v3 : (c : Dev Cert.RopeIdeal.nD) → Buf (Elt Ideal) ((c.tc : Thread Cert.RopeIdeal.nD Cert.RopeIdeal.τ).loc Cert.RopeIdeal.main_v24_3)) (v4 : (c : Dev Cert.RopeIdeal.nD) → Buf (Elt Ideal) ((c.tc : Thread Cert.RopeIdeal.nD Cert.RopeIdeal.τ).loc Cert.RopeIdeal.main_v24_4)) (v5 : (c : Dev Cert.RopeIdeal.nD) → Buf (Elt Ideal) ((c.tc : Thread Cert.RopeIdeal.nD Cert.RopeIdeal.τ).loc Cert.RopeIdeal.main_v24_5)) (v6 : (c : Dev Cert.RopeIdeal.nD) → Buf (Elt Ideal) ((c.tc : Thread Cert.RopeIdeal.nD Cert.RopeIdeal.τ).loc Cert.RopeIdeal.main_v24_6)) (v7 : (c : Dev Cert.RopeIdeal.nD) → Buf (Elt Ideal) ((c.tc : Thread Cert.RopeIdeal.nD Cert.RopeIdeal.τ).loc Cert.RopeIdeal.main_v24_7)) (v8 : (c : Dev Cert.RopeIdeal.nD) → Buf (Elt Ideal) ((c.tc : Thread Cert.RopeIdeal.nD Cert.RopeIdeal.τ).loc Cert.RopeIdeal.main_v24_8)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v24_0) = v0 c
          ∧ r.2.mem ((c.tc : Thread Cert.RopeIdeal.nD Cert.RopeIdeal.τ).loc Cert.RopeIdeal.main_v24_1) = v1 c
          ∧ r.2.mem ((c.tc : Thread Cert.RopeIdeal.nD Cert.RopeIdeal.τ).loc Cert.RopeIdeal.main_v24_2) = v2 c
          ∧ r.2.mem ((c.tc : Thread Cert.RopeIdeal.nD Cert.RopeIdeal.τ).loc Cert.RopeIdeal.main_v24_3) = v3 c
          ∧ r.2.mem ((c.tc : Thread Cert.RopeIdeal.nD Cert.RopeIdeal.τ).loc Cert.RopeIdeal.main_v24_4) = v4 c
          ∧ r.2.mem ((c.tc : Thread Cert.RopeIdeal.nD Cert.RopeIdeal.τ).loc Cert.RopeIdeal.main_v24_5) = v5 c
          ∧ r.2.mem ((c.tc : Thread Cert.RopeIdeal.nD Cert.RopeIdeal.τ).loc Cert.RopeIdeal.main_v24_6) = v6 c
          ∧ r.2.mem ((c.tc : Thread Cert.RopeIdeal.nD Cert.RopeIdeal.τ).loc Cert.RopeIdeal.main_v24_7) = v7 c
          ∧ r.2.mem ((c.tc : Thread Cert.RopeIdeal.nD Cert.RopeIdeal.τ).loc Cert.RopeIdeal.main_v24_8) = v8 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v155) = v0 c
          ∧ r.2.mem ((c.tc : Thread Cert.RopeRefIdeal.nD Cert.RopeRefIdeal.τ).loc Cert.RopeRefIdeal.main_v156) = v1 c
          ∧ r.2.mem ((c.tc : Thread Cert.RopeRefIdeal.nD Cert.RopeRefIdeal.τ).loc Cert.RopeRefIdeal.main_v157) = v2 c
          ∧ r.2.mem ((c.tc : Thread Cert.RopeRefIdeal.nD Cert.RopeRefIdeal.τ).loc Cert.RopeRefIdeal.main_v158) = v3 c
          ∧ r.2.mem ((c.tc : Thread Cert.RopeRefIdeal.nD Cert.RopeRefIdeal.τ).loc Cert.RopeRefIdeal.main_v159) = v4 c
          ∧ r.2.mem ((c.tc : Thread Cert.RopeRefIdeal.nD Cert.RopeRefIdeal.τ).loc Cert.RopeRefIdeal.main_v160) = v5 c
          ∧ r.2.mem ((c.tc : Thread Cert.RopeRefIdeal.nD Cert.RopeRefIdeal.τ).loc Cert.RopeRefIdeal.main_v161) = v6 c
          ∧ r.2.mem ((c.tc : Thread Cert.RopeRefIdeal.nD Cert.RopeRefIdeal.τ).loc Cert.RopeRefIdeal.main_v162) = v7 c
          ∧ r.2.mem ((c.tc : Thread Cert.RopeRefIdeal.nD Cert.RopeRefIdeal.τ).loc Cert.RopeRefIdeal.main_v163) = v8 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v52) = v0 c
          ∧ r.2.mem ((c.tc : Thread Cert.LossHeadRefIdeal.nD Cert.LossHeadRefIdeal.τ).loc Cert.LossHeadRefIdeal.main_v51) = v1 c
          ∧ r.2.mem ((c.tc : Thread Cert.LossHeadRefIdeal.nD Cert.LossHeadRefIdeal.τ).loc Cert.LossHeadRefIdeal.main_v53) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v4_0)) (v1 : (c : Dev Cert.AdamWIdeal.nD) → Buf (Elt Ideal) ((c.tc : Thread Cert.AdamWIdeal.nD Cert.AdamWIdeal.τ).loc Cert.AdamWIdeal.main_v4_1)) (v2 : (c : Dev Cert.AdamWIdeal.nD) → Buf (Elt Ideal) ((c.tc : Thread Cert.AdamWIdeal.nD Cert.AdamWIdeal.τ).loc Cert.AdamWIdeal.main_v4_2)) (v3 : (c : Dev Cert.AdamWIdeal.nD) → Buf (Elt Ideal) ((c.tc : Thread Cert.AdamWIdeal.nD Cert.AdamWIdeal.τ).loc Cert.AdamWIdeal.main_v4_3)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v4_0) = v0 c
          ∧ r.2.mem ((c.tc : Thread Cert.AdamWIdeal.nD Cert.AdamWIdeal.τ).loc Cert.AdamWIdeal.main_v4_1) = v1 c
          ∧ r.2.mem ((c.tc : Thread Cert.AdamWIdeal.nD Cert.AdamWIdeal.τ).loc Cert.AdamWIdeal.main_v4_2) = v2 c
          ∧ r.2.mem ((c.tc : Thread Cert.AdamWIdeal.nD Cert.AdamWIdeal.τ).loc Cert.AdamWIdeal.main_v4_3) = v3 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v26) = v0 c
          ∧ r.2.mem ((c.tc : Thread Cert.AdamWRefIdeal.nD Cert.AdamWRefIdeal.τ).loc Cert.AdamWRefIdeal.main_v27) = v1 c
          ∧ r.2.mem ((c.tc : Thread Cert.AdamWRefIdeal.nD Cert.AdamWRefIdeal.τ).loc Cert.AdamWRefIdeal.main_v28) = v2 c
          ∧ r.2.mem ((c.tc : Thread Cert.AdamWRefIdeal.nD Cert.AdamWRefIdeal.τ).loc Cert.AdamWRefIdeal.main_v29) = v3 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def preserves_ProjBa_ProjBaIdeal : Prop :=
  True

def algebraic_ProjBaIdeal_ProjBaRefIdeal [hProjBaIdeal : Cert.ProjBaIdeal.Facts] [hProjBaRefIdeal : Cert.ProjBaRefIdeal.Facts] : Prop :=
  ∀ (m : (ℓ : Loc Cert.ProjBaIdeal.nD Cert.ProjBaIdeal.τ Cert.ProjBaIdeal.sig) → Buf (Elt Ideal) ℓ) (g : Dev Cert.ProjBaIdeal.nD → PrngReg)
    (m' : (ℓ : Loc Cert.ProjBaRefIdeal.nD Cert.ProjBaRefIdeal.τ Cert.ProjBaRefIdeal.sig) → Buf (Elt Ideal) ℓ) (g' : Dev Cert.ProjBaRefIdeal.nD → PrngReg), Pre_ProjBaIdeal m →
    (∀ c : Dev Cert.ProjBaIdeal.nD,
      m' ((c.tc : Thread Cert.ProjBaRefIdeal.nD Cert.ProjBaRefIdeal.τ).loc Cert.ProjBaRefIdeal.main_arg0) = m ((c.tc : Thread Cert.ProjBaIdeal.nD Cert.ProjBaIdeal.τ).loc Cert.ProjBaIdeal.main_arg0)
      ∧ m' ((c.tc : Thread Cert.ProjBaRefIdeal.nD Cert.ProjBaRefIdeal.τ).loc Cert.ProjBaRefIdeal.main_arg1) = m ((c.tc : Thread Cert.ProjBaIdeal.nD Cert.ProjBaIdeal.τ).loc Cert.ProjBaIdeal.main_arg1)
      ∧ m' ((c.tc : Thread Cert.ProjBaRefIdeal.nD Cert.ProjBaRefIdeal.τ).loc Cert.ProjBaRefIdeal.main_arg2) = m ((c.tc : Thread Cert.ProjBaIdeal.nD Cert.ProjBaIdeal.τ).loc Cert.ProjBaIdeal.main_arg2)) →
    ∃ (v0 : (c : Dev Cert.ProjBaIdeal.nD) → Buf (Elt Ideal) ((c.tc : Thread Cert.ProjBaIdeal.nD Cert.ProjBaIdeal.τ).loc Cert.ProjBaIdeal.main_v9)),
      θ_run (Cert.ProjBaIdeal.defs (F := Ideal)) (onTc (τ := Cert.ProjBaIdeal.τ) (Cert.ProjBaIdeal.main (F := Ideal))) ⟨m, fun _ => 0, g⟩ (fun r => ∀ c : Dev Cert.ProjBaIdeal.nD,
          r.2.mem ((c.tc : Thread Cert.ProjBaIdeal.nD Cert.ProjBaIdeal.τ).loc Cert.ProjBaIdeal.main_v9) = v0 c
          ∧ r.2.mem ((c.tc : Thread Cert.ProjBaIdeal.nD Cert.ProjBaIdeal.τ).loc Cert.ProjBaIdeal.main_arg0) = m ((c.tc : Thread Cert.ProjBaIdeal.nD Cert.ProjBaIdeal.τ).loc Cert.ProjBaIdeal.main_arg0)
          ∧ r.2.mem ((c.tc : Thread Cert.ProjBaIdeal.nD Cert.ProjBaIdeal.τ).loc Cert.ProjBaIdeal.main_arg1) = m ((c.tc : Thread Cert.ProjBaIdeal.nD Cert.ProjBaIdeal.τ).loc Cert.ProjBaIdeal.main_arg1)
          ∧ r.2.mem ((c.tc : Thread Cert.ProjBaIdeal.nD Cert.ProjBaIdeal.τ).loc Cert.ProjBaIdeal.main_arg2) = m ((c.tc : Thread Cert.ProjBaIdeal.nD Cert.ProjBaIdeal.τ).loc Cert.ProjBaIdeal.main_arg2))
      ∧ θ_run (Cert.ProjBaRefIdeal.defs (F := Ideal)) (onTc (τ := Cert.ProjBaRefIdeal.τ) (Cert.ProjBaRefIdeal.main (F := Ideal))) ⟨m', fun _ => 0, g'⟩ (fun r => ∀ c : Dev Cert.ProjBaRefIdeal.nD,
          r.2.mem ((c.tc : Thread Cert.ProjBaRefIdeal.nD Cert.ProjBaRefIdeal.τ).loc Cert.ProjBaRefIdeal.main_v3) = v0 c
          ∧ r.2.mem ((c.tc : Thread Cert.ProjBaRefIdeal.nD Cert.ProjBaRefIdeal.τ).loc Cert.ProjBaRefIdeal.main_arg0) = m' ((c.tc : Thread Cert.ProjBaRefIdeal.nD Cert.ProjBaRefIdeal.τ).loc Cert.ProjBaRefIdeal.main_arg0)
          ∧ r.2.mem ((c.tc : Thread Cert.ProjBaRefIdeal.nD Cert.ProjBaRefIdeal.τ).loc Cert.ProjBaRefIdeal.main_arg1) = m' ((c.tc : Thread Cert.ProjBaRefIdeal.nD Cert.ProjBaRefIdeal.τ).loc Cert.ProjBaRefIdeal.main_arg1)
          ∧ r.2.mem ((c.tc : Thread Cert.ProjBaRefIdeal.nD Cert.ProjBaRefIdeal.τ).loc Cert.ProjBaRefIdeal.main_arg2) = m' ((c.tc : Thread Cert.ProjBaRefIdeal.nD Cert.ProjBaRefIdeal.τ).loc Cert.ProjBaRefIdeal.main_arg2))

def Claim : Prop :=
  ∃ (hDnOut : Cert.DnOut.Facts) (hDnOutIdeal : Cert.DnOutIdeal.Facts) (hDnOutRefIdeal : Cert.DnOutRefIdeal.Facts) (hFfnB : Cert.FfnB.Facts) (hFfnBIdeal : Cert.FfnBIdeal.Facts) (hFfnBRefIdeal : Cert.FfnBRefIdeal.Facts) (hDwg : Cert.Dwg.Facts) (hDwgIdeal : Cert.DwgIdeal.Facts) (hDwgRefIdeal : Cert.DwgRefIdeal.Facts) (hDwd : Cert.Dwd.Facts) (hDwdIdeal : Cert.DwdIdeal.Facts) (hDwdRefIdeal : Cert.DwdRefIdeal.Facts) (hDH : Cert.DH.Facts) (hDHIdeal : Cert.DHIdeal.Facts) (hDHRefIdeal : Cert.DHRefIdeal.Facts) (hDWcat : Cert.DWcat.Facts) (hDWcatIdeal : Cert.DWcatIdeal.Facts) (hDWcatRefIdeal : Cert.DWcatRefIdeal.Facts) (hProj : Cert.Proj.Facts) (hProjIdeal : Cert.ProjIdeal.Facts) (hProjRefIdeal : Cert.ProjRefIdeal.Facts) (hFfn : Cert.Ffn.Facts) (hFfnIdeal : Cert.FfnIdeal.Facts) (hFfnRefIdeal : Cert.FfnRefIdeal.Facts) (hDMerged : Cert.DMerged.Facts) (hDMergedIdeal : Cert.DMergedIdeal.Facts) (hDMergedRefIdeal : Cert.DMergedRefIdeal.Facts) (hDWout : Cert.DWout.Facts) (hDWoutIdeal : Cert.DWoutIdeal.Facts) (hDWoutRefIdeal : Cert.DWoutRefIdeal.Facts) (hOut : Cert.Out.Facts) (hOutIdeal : Cert.OutIdeal.Facts) (hOutRefIdeal : Cert.OutRefIdeal.Facts) (hPa : Cert.Pa.Facts) (hPaIdeal : Cert.PaIdeal.Facts) (hPaRefIdeal : Cert.PaRefIdeal.Facts) (hDPa : Cert.DPa.Facts) (hDPaIdeal : Cert.DPaIdeal.Facts) (hDPaRefIdeal : Cert.DPaRefIdeal.Facts) (hDWpa : Cert.DWpa.Facts) (hDWpaIdeal : Cert.DWpaIdeal.Facts) (hDWpaRefIdeal : Cert.DWpaRefIdeal.Facts) (hPc : Cert.Pc.Facts) (hPcIdeal : Cert.PcIdeal.Facts) (hPcRefIdeal : Cert.PcRefIdeal.Facts) (hDPc : Cert.DPc.Facts) (hDPcIdeal : Cert.DPcIdeal.Facts) (hDPcRefIdeal : Cert.DPcRefIdeal.Facts) (hDWpc : Cert.DWpc.Facts) (hDWpcIdeal : Cert.DWpcIdeal.Facts) (hDWpcRefIdeal : Cert.DWpcRefIdeal.Facts) (hGatesB : Cert.GatesB.Facts) (hGatesBIdeal : Cert.GatesBIdeal.Facts) (hGatesBRefIdeal : Cert.GatesBRefIdeal.Facts) (hNormB : Cert.NormB.Facts) (hNormBIdeal : Cert.NormBIdeal.Facts) (hNormBRefIdeal : Cert.NormBRefIdeal.Facts) (hGates : Cert.Gates.Facts) (hGatesIdeal : Cert.GatesIdeal.Facts) (hGatesRefIdeal : Cert.GatesRefIdeal.Facts) (hNorm : Cert.Norm.Facts) (hNormIdeal : Cert.NormIdeal.Facts) (hNormRefIdeal : Cert.NormRefIdeal.Facts) (hGateNorm : Cert.GateNorm.Facts) (hGateNormIdeal : Cert.GateNormIdeal.Facts) (hGateNormRefIdeal : Cert.GateNormRefIdeal.Facts) (hRope : Cert.Rope.Facts) (hRopeIdeal : Cert.RopeIdeal.Facts) (hRopeRefIdeal : Cert.RopeRefIdeal.Facts) (hLossHead : Cert.LossHead.Facts) (hLossHeadIdeal : Cert.LossHeadIdeal.Facts) (hLossHeadRefIdeal : Cert.LossHeadRefIdeal.Facts) (hAdamW : Cert.AdamW.Facts) (hAdamWIdeal : Cert.AdamWIdeal.Facts) (hAdamWRefIdeal : Cert.AdamWRefIdeal.Facts) (hProjBa : Cert.ProjBa.Facts) (hProjBaIdeal : Cert.ProjBaIdeal.Facts) (hProjBaRefIdeal : Cert.ProjBaRefIdeal.Facts) (hPre_finite_cotangent : Cert.Pre_finite_cotangent.Facts),
    quiescent_DnOut (hDnOut := hDnOut)
    ∧ quiescent_DnOutIdeal (hDnOutIdeal := hDnOutIdeal)
    ∧ quiescent_DnOutRefIdeal (hDnOutRefIdeal := hDnOutRefIdeal)
    ∧ quiescent_FfnB (hFfnB := hFfnB)
    ∧ quiescent_FfnBIdeal (hFfnBIdeal := hFfnBIdeal)
    ∧ quiescent_FfnBIdeal_pre_finite_cotangent (hFfnBIdeal := hFfnBIdeal) (hPre_finite_cotangent := hPre_finite_cotangent)
    ∧ quiescent_FfnBRefIdeal (hFfnBRefIdeal := hFfnBRefIdeal)
    ∧ quiescent_FfnBRefIdeal_pre_finite_cotangent (hFfnBRefIdeal := hFfnBRefIdeal) (hPre_finite_cotangent := hPre_finite_cotangent)
    ∧ quiescent_Dwg (hDwg := hDwg)
    ∧ quiescent_DwgIdeal (hDwgIdeal := hDwgIdeal)
    ∧ quiescent_DwgRefIdeal (hDwgRefIdeal := hDwgRefIdeal)
    ∧ quiescent_Dwd (hDwd := hDwd)
    ∧ quiescent_DwdIdeal (hDwdIdeal := hDwdIdeal)
    ∧ quiescent_DwdRefIdeal (hDwdRefIdeal := hDwdRefIdeal)
    ∧ quiescent_DH (hDH := hDH)
    ∧ quiescent_DHIdeal (hDHIdeal := hDHIdeal)
    ∧ quiescent_DHRefIdeal (hDHRefIdeal := hDHRefIdeal)
    ∧ quiescent_DWcat (hDWcat := hDWcat)
    ∧ quiescent_DWcatIdeal (hDWcatIdeal := hDWcatIdeal)
    ∧ quiescent_DWcatRefIdeal (hDWcatRefIdeal := hDWcatRefIdeal)
    ∧ quiescent_Proj (hProj := hProj)
    ∧ quiescent_ProjIdeal (hProjIdeal := hProjIdeal)
    ∧ quiescent_ProjRefIdeal (hProjRefIdeal := hProjRefIdeal)
    ∧ quiescent_Ffn (hFfn := hFfn)
    ∧ quiescent_FfnIdeal (hFfnIdeal := hFfnIdeal)
    ∧ quiescent_FfnRefIdeal (hFfnRefIdeal := hFfnRefIdeal)
    ∧ quiescent_DMerged (hDMerged := hDMerged)
    ∧ quiescent_DMergedIdeal (hDMergedIdeal := hDMergedIdeal)
    ∧ quiescent_DMergedRefIdeal (hDMergedRefIdeal := hDMergedRefIdeal)
    ∧ quiescent_DWout (hDWout := hDWout)
    ∧ quiescent_DWoutIdeal (hDWoutIdeal := hDWoutIdeal)
    ∧ quiescent_DWoutRefIdeal (hDWoutRefIdeal := hDWoutRefIdeal)
    ∧ quiescent_Out (hOut := hOut)
    ∧ quiescent_OutIdeal (hOutIdeal := hOutIdeal)
    ∧ quiescent_OutRefIdeal (hOutRefIdeal := hOutRefIdeal)
    ∧ quiescent_Pa (hPa := hPa)
    ∧ quiescent_PaIdeal (hPaIdeal := hPaIdeal)
    ∧ quiescent_PaRefIdeal (hPaRefIdeal := hPaRefIdeal)
    ∧ quiescent_DPa (hDPa := hDPa)
    ∧ quiescent_DPaIdeal (hDPaIdeal := hDPaIdeal)
    ∧ quiescent_DPaRefIdeal (hDPaRefIdeal := hDPaRefIdeal)
    ∧ quiescent_DWpa (hDWpa := hDWpa)
    ∧ quiescent_DWpaIdeal (hDWpaIdeal := hDWpaIdeal)
    ∧ quiescent_DWpaRefIdeal (hDWpaRefIdeal := hDWpaRefIdeal)
    ∧ quiescent_Pc (hPc := hPc)
    ∧ quiescent_PcIdeal (hPcIdeal := hPcIdeal)
    ∧ quiescent_PcRefIdeal (hPcRefIdeal := hPcRefIdeal)
    ∧ quiescent_DPc (hDPc := hDPc)
    ∧ quiescent_DPcIdeal (hDPcIdeal := hDPcIdeal)
    ∧ quiescent_DPcRefIdeal (hDPcRefIdeal := hDPcRefIdeal)
    ∧ quiescent_DWpc (hDWpc := hDWpc)
    ∧ quiescent_DWpcIdeal (hDWpcIdeal := hDWpcIdeal)
    ∧ quiescent_DWpcRefIdeal (hDWpcRefIdeal := hDWpcRefIdeal)
    ∧ quiescent_GatesB (hGatesB := hGatesB)
    ∧ quiescent_GatesBIdeal (hGatesBIdeal := hGatesBIdeal)
    ∧ quiescent_GatesBRefIdeal (hGatesBRefIdeal := hGatesBRefIdeal)
    ∧ quiescent_NormB (hNormB := hNormB)
    ∧ quiescent_NormBIdeal (hNormBIdeal := hNormBIdeal)
    ∧ quiescent_NormBRefIdeal (hNormBRefIdeal := hNormBRefIdeal)
    ∧ quiescent_Gates (hGates := hGates)
    ∧ quiescent_GatesIdeal (hGatesIdeal := hGatesIdeal)
    ∧ quiescent_GatesRefIdeal (hGatesRefIdeal := hGatesRefIdeal)
    ∧ quiescent_Norm (hNorm := hNorm)
    ∧ quiescent_NormIdeal (hNormIdeal := hNormIdeal)
    ∧ quiescent_NormRefIdeal (hNormRefIdeal := hNormRefIdeal)
    ∧ quiescent_GateNorm (hGateNorm := hGateNorm)
    ∧ quiescent_GateNormIdeal (hGateNormIdeal := hGateNormIdeal)
    ∧ quiescent_GateNormRefIdeal (hGateNormRefIdeal := hGateNormRefIdeal)
    ∧ quiescent_Rope (hRope := hRope)
    ∧ quiescent_RopeIdeal (hRopeIdeal := hRopeIdeal)
    ∧ quiescent_RopeRefIdeal (hRopeRefIdeal := hRopeRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_ProjBa (hProjBa := hProjBa)
    ∧ quiescent_ProjBaIdeal (hProjBaIdeal := hProjBaIdeal)
    ∧ quiescent_ProjBaRefIdeal (hProjBaRefIdeal := hProjBaRefIdeal)
    ∧ preserves_DnOut_DnOutIdeal
    ∧ algebraic_DnOutIdeal_DnOutRefIdeal (hDnOutIdeal := hDnOutIdeal) (hDnOutRefIdeal := hDnOutRefIdeal)
    ∧ preserves_FfnB_FfnBIdeal
    ∧ algebraic_FfnBIdeal_FfnBRefIdeal_pre_finite_cotangent (hFfnBIdeal := hFfnBIdeal) (hFfnBRefIdeal := hFfnBRefIdeal) (hPre_finite_cotangent := hPre_finite_cotangent)
    ∧ preserves_Dwg_DwgIdeal
    ∧ algebraic_DwgIdeal_DwgRefIdeal (hDwgIdeal := hDwgIdeal) (hDwgRefIdeal := hDwgRefIdeal)
    ∧ preserves_Dwd_DwdIdeal
    ∧ algebraic_DwdIdeal_DwdRefIdeal (hDwdIdeal := hDwdIdeal) (hDwdRefIdeal := hDwdRefIdeal)
    ∧ preserves_DH_DHIdeal
    ∧ algebraic_DHIdeal_DHRefIdeal (hDHIdeal := hDHIdeal) (hDHRefIdeal := hDHRefIdeal)
    ∧ preserves_DWcat_DWcatIdeal
    ∧ algebraic_DWcatIdeal_DWcatRefIdeal (hDWcatIdeal := hDWcatIdeal) (hDWcatRefIdeal := hDWcatRefIdeal)
    ∧ preserves_Proj_ProjIdeal
    ∧ algebraic_ProjIdeal_ProjRefIdeal (hProjIdeal := hProjIdeal) (hProjRefIdeal := hProjRefIdeal)
    ∧ preserves_Ffn_FfnIdeal
    ∧ algebraic_FfnIdeal_FfnRefIdeal (hFfnIdeal := hFfnIdeal) (hFfnRefIdeal := hFfnRefIdeal)
    ∧ preserves_DMerged_DMergedIdeal
    ∧ algebraic_DMergedIdeal_DMergedRefIdeal (hDMergedIdeal := hDMergedIdeal) (hDMergedRefIdeal := hDMergedRefIdeal)
    ∧ preserves_DWout_DWoutIdeal
    ∧ algebraic_DWoutIdeal_DWoutRefIdeal (hDWoutIdeal := hDWoutIdeal) (hDWoutRefIdeal := hDWoutRefIdeal)
    ∧ preserves_Out_OutIdeal
    ∧ algebraic_OutIdeal_OutRefIdeal (hOutIdeal := hOutIdeal) (hOutRefIdeal := hOutRefIdeal)
    ∧ preserves_Pa_PaIdeal
    ∧ algebraic_PaIdeal_PaRefIdeal (hPaIdeal := hPaIdeal) (hPaRefIdeal := hPaRefIdeal)
    ∧ preserves_DPa_DPaIdeal
    ∧ algebraic_DPaIdeal_DPaRefIdeal (hDPaIdeal := hDPaIdeal) (hDPaRefIdeal := hDPaRefIdeal)
    ∧ preserves_DWpa_DWpaIdeal
    ∧ algebraic_DWpaIdeal_DWpaRefIdeal (hDWpaIdeal := hDWpaIdeal) (hDWpaRefIdeal := hDWpaRefIdeal)
    ∧ preserves_Pc_PcIdeal
    ∧ algebraic_PcIdeal_PcRefIdeal (hPcIdeal := hPcIdeal) (hPcRefIdeal := hPcRefIdeal)
    ∧ preserves_DPc_DPcIdeal
    ∧ algebraic_DPcIdeal_DPcRefIdeal (hDPcIdeal := hDPcIdeal) (hDPcRefIdeal := hDPcRefIdeal)
    ∧ preserves_DWpc_DWpcIdeal
    ∧ algebraic_DWpcIdeal_DWpcRefIdeal (hDWpcIdeal := hDWpcIdeal) (hDWpcRefIdeal := hDWpcRefIdeal)
    ∧ preserves_GatesB_GatesBIdeal
    ∧ algebraic_GatesBIdeal_GatesBRefIdeal (hGatesBIdeal := hGatesBIdeal) (hGatesBRefIdeal := hGatesBRefIdeal)
    ∧ preserves_NormB_NormBIdeal
    ∧ algebraic_NormBIdeal_NormBRefIdeal (hNormBIdeal := hNormBIdeal) (hNormBRefIdeal := hNormBRefIdeal)
    ∧ preserves_Gates_GatesIdeal
    ∧ algebraic_GatesIdeal_GatesRefIdeal (hGatesIdeal := hGatesIdeal) (hGatesRefIdeal := hGatesRefIdeal)
    ∧ preserves_Norm_NormIdeal
    ∧ algebraic_NormIdeal_NormRefIdeal (hNormIdeal := hNormIdeal) (hNormRefIdeal := hNormRefIdeal)
    ∧ preserves_GateNorm_GateNormIdeal
    ∧ algebraic_GateNormIdeal_GateNormRefIdeal (hGateNormIdeal := hGateNormIdeal) (hGateNormRefIdeal := hGateNormRefIdeal)
    ∧ preserves_Rope_RopeIdeal
    ∧ algebraic_RopeIdeal_RopeRefIdeal (hRopeIdeal := hRopeIdeal) (hRopeRefIdeal := hRopeRefIdeal)
    ∧ preserves_LossHead_LossHeadIdeal
    ∧ algebraic_LossHeadIdeal_LossHeadRefIdeal (hLossHeadIdeal := hLossHeadIdeal) (hLossHeadRefIdeal := hLossHeadRefIdeal)
    ∧ preserves_AdamW_AdamWIdeal
    ∧ algebraic_AdamWIdeal_AdamWRefIdeal (hAdamWIdeal := hAdamWIdeal) (hAdamWRefIdeal := hAdamWRefIdeal)
    ∧ preserves_ProjBa_ProjBaIdeal
    ∧ algebraic_ProjBaIdeal_ProjBaRefIdeal (hProjBaIdeal := hProjBaIdeal) (hProjBaRefIdeal := hProjBaRefIdeal)
-- ==== Pre_finite_cotangent.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192x2816 : Shape := ⟨2, ![8192, 2816]⟩
abbrev S1024 : Shape := ⟨1, ![1024]⟩
abbrev S8192 : Shape := ⟨1, ![8192]⟩
abbrev S8192x1 : Shape := ⟨2, ![8192, 1]⟩

class Facts : Prop where
  bcast_S_S8192x1024 : S_.BroadcastsInDim S8192x1024 (![] : Fin 0 → Fin S8192x1024.rank)
  transposes_S2816x1024_S1024x2816_1_0 : S2816x1024.Transposes [1, 0] S1024x2816
  shapeCasts_S1x1024_S1024 : S1x1024.ShapeCasts S1024
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x2816 : S_.BroadcastsInDim S8192x2816 (![] : Fin 0 → Fin S8192x2816.rank)
  dot_S8192x1024_S1024x2816_S8192x2816_1_0_0_1_n_n_wf : DotDims.WF S8192x1024 S1024x2816 S8192x2816 [1] [0] [0] [1] [] []

variable [Facts]

def dot_S8192x1024_S1024x2816_S8192x2816_1_0_0_1_n_n : DotDims S8192x1024 S1024x2816 S8192x2816 where
  lhsContracting := [1]
  rhsContracting := [0]
  lhsNonContracting := [0]
  rhsNonContracting := [1]
  lhsBatch := []
  rhsBatch := []
  wf := dot_S8192x1024_S1024x2816_S8192x2816_1_0_0_1_n_n_wf
def fn_part1 {F : FTy → Type} [FloatOps F] (main_v19 : FVec F S8192x2816 .f32) : IVec S8192x2816 1 :=
  let main_v20 : FVec F S8192x2816 .f32 := Host.absf main_v19
  let main_cst_3 : FVec F S_ .f32 := constant S_ .f32 0x7F800000#32
  let main_v21 : FVec F S8192x2816 .f32 := broadcastInDim S8192x2816 ![] bcast_S_S8192x2816 main_cst_3
  let main_v22 : IVec S8192x2816 1 := cmpf .olt main_v20 main_v21
  main_v22

def fn {F : FTy → Type} [FloatOps F] (main_arg0 : FVec F S8192x1024 .f32) (main_arg1 : FVec F S1x1024 .f32) (main_arg2 : FVec F S1024x2816 .f32) (main_arg3 : FVec F S1024x2816 .f32) (main_arg4 : FVec F S2816x1024 .f32) (main_arg5 : FVec F S8192x1024 .f32) : IVec S8192x2816 1 :=
  let main_cst : FVec F S_ .f32 := constant S_ .f32 0x3F000000#32
  let main_v0 : FVec F S8192x1024 .f32 := broadcastInDim S8192x1024 ![] bcast_S_S8192x1024 main_cst
  let main_v1 : FVec F S8192x1024 .f32 := mulf main_v0 main_arg5
  let main_v2 : FVec F S1024x2816 .f32 := (transpose S1024x2816 [1, 0] · transposes_S2816x1024_S1024x2816_1_0) main_arg4
  let main_v3 : FVec F S8192x2816 .f32 := (fun l r => Host.dotGeneral dot_S8192x1024_S1024x2816_S8192x2816_1_0_0_1_n_n none l r) main_v1 main_v2
  let main_v4 : FVec F S1024 .f32 := shapeCast S1024 main_arg1 shapeCasts_S1x1024_S1024
  let main_v5 : FVec F S8192x1024 .f32 := mulf main_arg0 main_arg0
  let main_cst_0 : FVec F S_ .f32 := constant S_ .f32 0x00000000#32
  let main_v6 : FVec F S8192 .f32 := (fun x v => Host.reduceAdd x v reducesTo_S8192x1024_S8192_d1 h_S_) main_v5 main_cst_0
  let main_v7 : FVec F S8192x1 .f32 := broadcastInDim S8192x1 ![0] bcast_S8192_S8192x1_0 main_v6
  let main_cst_1 : FVec F S_ .f32 := constant S_ .f32 0x44800000#32
  let main_v8 : FVec F S8192x1 .f32 := broadcastInDim S8192x1 ![] bcast_S_S8192x1 main_cst_1
  let main_v9 : FVec F S8192x1 .f32 := Host.divf main_v7 main_v8
  let main_cst_2 : FVec F S_ .f32 := constant S_ .f32 0x358637BD#32
  let main_v10 : FVec F S8192x1 .f32 := broadcastInDim S8192x1 ![] bcast_S_S8192x1 main_cst_2
  let main_v11 : FVec F S8192x1 .f32 := addf main_v9 main_v10
  let main_v12 : FVec F S8192x1 .f32 := Host.rsqrt main_v11
  let main_v13 : FVec F S8192x1024 .f32 := broadcastInDim S8192x1024 ![0, 1] bcast_S8192x1_S8192x1024_0_1 main_v12
  let main_v14 : FVec F S8192x1024 .f32 := mulf main_arg0 main_v13
  let main_v15 : FVec F S1x1024 .f32 := broadcastInDim S1x1024 ![1] bcast_S1024_S1x1024_1 main_v4
  let main_v16 : FVec F S8192x1024 .f32 := broadcastInDim S8192x1024 ![0, 1] bcast_S1x1024_S8192x1024_0_1 main_v15
  let main_v17 : FVec F S8192x1024 .f32 := mulf main_v14 main_v16
  let main_v18 : FVec F S8192x2816 .f32 := (fun l r => Host.dotGeneral dot_S8192x1024_S1024x2816_S8192x2816_1_0_0_1_n_n none l r) main_v17 main_arg3
  let main_v19 : FVec F S8192x2816 .f32 := mulf main_v3 main_v18
  fn_part1 (F := F) main_v19
-- ==== DnOut.lean ====
abbrev S8x8192x128 : Shape := ⟨3, ![8, 8192, 128]⟩
abbrev S8192x8064 : Shape := ⟨2, ![8192, 8064]⟩
abbrev S1x128 : Shape := ⟨2, ![1, 128]⟩
abbrev S8192x512 : Shape := ⟨2, ![8192, 512]⟩
abbrev S4x8192x128 : Shape := ⟨3, ![4, 8192, 128]⟩
abbrev S1x2048x128 : Shape := ⟨3, ![1, 2048, 128]⟩
abbrev S2048x128 : Shape := ⟨2, ![2048, 128]⟩
abbrev S2048 : Shape := ⟨1, ![2048]⟩
abbrev S2048x1 : Shape := ⟨2, ![2048, 1]⟩
abbrev S128 : Shape := ⟨1, ![128]⟩

abbrev nBuf : Space → Nat
  | .hbm => 8
  | .vmem => 16
  | .smem => 0
  | _ => 0

abbrev bufTy : (tb : Table) → Fin (tcTables nBuf tb) → BufTy
  | .hbm, ⟨0, _⟩ => ⟨S8x8192x128, .f32⟩
  | .hbm, ⟨1, _⟩ => ⟨S8192x8064, .bf16⟩
  | .hbm, ⟨2, _⟩ => ⟨S1x128, .f32⟩
  | .hbm, ⟨3, _⟩ => ⟨S8192x512, .f32⟩
  | .hbm, ⟨4, _⟩ => ⟨S4x8192x128, .f32⟩
  | .hbm, ⟨5, _⟩ => ⟨S4x8192x128, .f32⟩
  | .hbm, ⟨6, _⟩ => ⟨S8192x512, .bf16⟩
  | .hbm, ⟨7, _⟩ => ⟨S1x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S2048x128, .bf16⟩
  | .local _ .vmem, ⟨5, _⟩ => ⟨S2048x128, .bf16⟩
  | .local _ .vmem, ⟨6, _⟩ => ⟨S1x128, .f32⟩
  | .local _ .vmem, ⟨7, _⟩ => ⟨S2048x128, .f32⟩
  | .local _ .vmem, ⟨8, _⟩ => ⟨S2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S2048x128, .bf16⟩
  | .local _ .vmem, ⟨14, _⟩ => ⟨S2048x128, .bf16⟩
  | .local _ .vmem, ⟨15, _⟩ => ⟨S1x128, .f32⟩
  | _, _ => ⟨S8x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v68 : BitVec 1 := Scalar.cmpi .eq arg0 c0_i32
  let arg1 : BitVec 32 := BitVec.ofNat 32 (i 1).val
  let c0_i32_25 : BitVec 32 := 0#32
  let v69 : BitVec 1 := Scalar.cmpi .eq arg1 c0_i32_25
  let v70 : BitVec 1 := Scalar.andi v68 v69
  let v79 : BitVec 32 := Scalar.extui v70
  let c0_i32_34 : BitVec 32 := 0#32
  let v80 : BitVec 1 := Scalar.cmpi .ne v79 c0_i32_34
  v80

def k0_cond2 (i : grid0.Coords) : BitVec 1 :=
  let arg0 : BitVec 32 := BitVec.ofNat 32 (i 0).val
  let c0_i32 : BitVec 32 := 0#32
  let v68 : BitVec 1 := Scalar.cmpi .eq arg0 c0_i32
  let arg1 : BitVec 32 := BitVec.ofNat 32 (i 1).val
  let c0_i32_25 : BitVec 32 := 0#32
  let v69 : BitVec 1 := Scalar.cmpi .eq arg1 c0_i32_25
  let v70 : BitVec 1 := Scalar.andi v68 v69
  let v_true : BitVec 1 := 1#1
  let v81 : BitVec 1 := Scalar.xori v70 v_true
  let v82 : BitVec 32 := Scalar.extui v81
  let c0_i32_35 : BitVec 32 := 0#32
  let v83 : BitVec 1 := Scalar.cmpi .ne v82 c0_i32_35
  v83

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c54_i32 : BitVec 32 := 54#32
  let v0 : BitVec 32 := Scalar.addi c54_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== DnOutRefIdeal.lean ====
abbrev S8x8192x128 : Shape := ⟨3, ![8, 8192, 128]⟩
abbrev S8192x8064 : Shape := ⟨2, ![8192, 8064]⟩
abbrev S1x128 : Shape := ⟨2, ![1, 128]⟩
abbrev S8192x512 : Shape := ⟨2, ![8192, 512]⟩
abbrev S4x8192x128 : Shape := ⟨3, ![4, 8192, 128]⟩
abbrev S128 : Shape := ⟨1, ![128]⟩
abbrev S8192x4x128 : Shape := ⟨3, ![8192, 4, 128]⟩
abbrev S32768x128 : Shape := ⟨2, ![32768, 128]⟩
abbrev S_ : Shape := ⟨0, ![]⟩
abbrev S32768 : Shape := ⟨1, ![32768]⟩
abbrev S32768x1 : Shape := ⟨2, ![32768, 1]⟩

abbrev nBuf : Space → Nat
  | .hbm => 85
  | .vmem => 0
  | .smem => 0
  | _ => 0

abbrev bufTy : (tb : Table) → Fin (tcTables nBuf tb) → BufTy
  | .hbm, ⟨0, _⟩ => ⟨S8x8192x128, .f32⟩
  | .hbm, ⟨1, _⟩ => ⟨S8192x8064, .bf16⟩
  | .hbm, ⟨2, _⟩ => ⟨S1x128, .f32⟩
  | .hbm, ⟨3, _⟩ => ⟨S8192x512, .f32⟩
  | .hbm, ⟨4, _⟩ => ⟨S8192x512, .bf16⟩
  | .hbm, ⟨5, _⟩ => ⟨S8192x512, .f32⟩
  | .hbm, ⟨6, _⟩ => ⟨S4x8192x128, .f32⟩
  | .hbm, ⟨7, _⟩ => ⟨S4x8192x128, .f32⟩
  | .hbm, ⟨8, _⟩ => ⟨S128, .f32⟩
  | .hbm, ⟨9, _⟩ => ⟨S4x8192x128, .f32⟩
  | .hbm, ⟨10, _⟩ => ⟨S8192x4x128, .f32⟩
  | .hbm, ⟨11, _⟩ => ⟨S32768x128, .f32⟩
  | .hbm, ⟨12, _⟩ => ⟨S32768x128, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x128, .f32⟩
  | .hbm, ⟨28, _⟩ => ⟨S32768x128, .f32⟩
  | .hbm, ⟨29, _⟩ => ⟨S1x128, .f32⟩
  | .hbm, ⟨30, _⟩ => ⟨S32768x128, .f32⟩
  | .hbm, ⟨31, _⟩ => ⟨S32768x128, .f32⟩
  | .hbm, ⟨32, _⟩ => ⟨S32768x128, .f32⟩
  | .hbm, ⟨33, _⟩ => ⟨S32768x128, .f32⟩
  | .hbm, ⟨34, _⟩ => ⟨S32768x128, .f32⟩
  | .hbm, ⟨35, _⟩ => ⟨S_, .f32⟩
  | .hbm, ⟨36, _⟩ => ⟨S32768x128, .f32⟩
  | .hbm, ⟨37, _⟩ => ⟨S32768x128, .f32⟩
  | .hbm, ⟨38, _⟩ => ⟨S_, .f32⟩
  | .hbm, ⟨39, _⟩ => ⟨S32768x128, .f32⟩
  | .hbm, ⟨40, _⟩ => ⟨S32768x128, .f32⟩
  | .hbm, ⟨41, _⟩ => ⟨S_, .f32⟩
  | .hbm, ⟨42, _⟩ => ⟨S32768x128, .f32⟩
  | .hbm, ⟨43, _⟩ => ⟨S32768x128, .f32⟩
  | .hbm, ⟨44, _⟩ => ⟨S32768x128, .f32⟩
  | .hbm, ⟨45, _⟩ => ⟨S32768x128, .f32⟩
  | .hbm, ⟨46, _⟩ => ⟨S32768x128, .f32⟩
  | .hbm, ⟨47, _⟩ => ⟨S8192x512, .f32⟩
  | .hbm, ⟨48, _⟩ => ⟨S32768x128, .f32⟩
  | .hbm, ⟨49, _⟩ => ⟨S32768x128, .f32⟩
  | .hbm, ⟨50, _⟩ => ⟨S32768x128, .f32⟩
  | .hbm, ⟨51, _⟩ => ⟨S32768x128, .f32⟩
  | .hbm, ⟨52, _⟩ => ⟨S32768x128, .f32⟩
  | .hbm, ⟨53, _⟩ => ⟨S32768x128, .f32⟩
  | .hbm, ⟨54, _⟩ => ⟨S32768x128, .f32⟩
  | .hbm, ⟨55, _⟩ => ⟨S8192x512, .f32⟩
  | .hbm, ⟨56, _⟩ => ⟨S32768x128, .f32⟩
  | .hbm, ⟨57, _⟩ => ⟨S_, .f32⟩
  | .hbm, ⟨58, _⟩ => ⟨S128, .f32⟩
  | .hbm, ⟨59, _⟩ => ⟨S1x128, .f32⟩
  | .hbm, ⟨60, _⟩ => ⟨S32768x128, .f32⟩
  | .hbm, ⟨61, _⟩ => ⟨S32768x128, .f32⟩
  | .hbm, ⟨62, _⟩ => ⟨S_, .f32⟩
  | .hbm, ⟨63, _⟩ => ⟨S128, .f32⟩
  | .hbm, ⟨64, _⟩ => ⟨S32768x128, .f32⟩
  | .hbm, ⟨65, _⟩ => ⟨S_, .f32⟩
  | .hbm, ⟨66, _⟩ => ⟨S32768, .f32⟩
  | .hbm, ⟨67, _⟩ => ⟨S32768x1, .f32⟩
  | .hbm, ⟨68, _⟩ => ⟨S32768x128, .f32⟩
  | .hbm, ⟨69, _⟩ => ⟨S32768x128, .f32⟩
  | .hbm, ⟨70, _⟩ => ⟨S32768x1, .f32⟩
  | .hbm, ⟨71, _⟩ => ⟨S_, .f32⟩
  | .hbm, ⟨72, _⟩ => ⟨S32768x1, .f32⟩
  | .hbm, ⟨73, _⟩ => ⟨S32768x1, .f32⟩
  | .hbm, ⟨74, _⟩ => ⟨S_, .f32⟩
  | .hbm, ⟨75, _⟩ => ⟨S32768, .f32⟩
  | .hbm, ⟨76, _⟩ => ⟨S32768x128, .f32⟩
  | .hbm, ⟨77, _⟩ => ⟨S32768x128, .f32⟩
  | .hbm, ⟨78, _⟩ => ⟨S32768x128, .f32⟩
  | .hbm, ⟨79, _⟩ => ⟨S32768x128, .f32⟩
  | .hbm, ⟨80, _⟩ => ⟨S32768x128, .f32⟩
  | .hbm, ⟨81, _⟩ => ⟨S8192x4x128, .f32⟩
  | .hbm, ⟨82, _⟩ => ⟨S4x8192x128, .f32⟩
  | .hbm, ⟨83, _⟩ => ⟨S8192x512, .bf16⟩
  | .hbm, ⟨84, _⟩ => ⟨S1x128, .f32⟩
  | _, _ => ⟨S8x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v25_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v25_1 : Ref sig .tc := ⟨.hbm, 44, rfl⟩
abbrev main_v25_0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_3 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_4 : Ref sig .tc := ⟨.hbm, 62, rfl⟩
abbrev main_v38 : Ref sig .tc := ⟨.hbm, 63, rfl⟩
abbrev main_v39 : Ref sig .tc := ⟨.hbm, 64, rfl⟩
abbrev main_cst_5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩

abbrev nD : Nat := 1
abbrev τ : Topo := Topo.v7x

variable {F : FTy → Type} [FloatOps F]
-- ==== FfnB.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S1024x3072 : Shape := ⟨2, ![1024, 3072]⟩
abbrev S3072x1024 : Shape := ⟨2, ![3072, 1024]⟩
abbrev S8192x3072 : Shape := ⟨2, ![8192, 3072]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩
abbrev S1024 : Shape := ⟨1, ![1024]⟩

abbrev nBuf : Space → Nat
  | .hbm => 25
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S_, .i32⟩
  | .hbm, ⟨10, _⟩ => ⟨S_, .bf16⟩
  | .hbm, ⟨11, _⟩ => ⟨S1024x3072, .bf16⟩
  | .hbm, ⟨12, _⟩ => ⟨S_, .i32⟩
  | .hbm, ⟨13, _⟩ => ⟨S_, .bf16⟩
  | .hbm, ⟨14, _⟩ => ⟨S1024x3072, .bf16⟩
  | .hbm, ⟨15, _⟩ => ⟨S_, .i32⟩
  | .hbm, ⟨16, _⟩ => ⟨S_, .bf16⟩
  | .hbm, ⟨17, _⟩ => ⟨S3072x1024, .bf16⟩
  | .hbm, ⟨18, _⟩ => ⟨S8192x1024, .f32⟩
  | .hbm, ⟨19, _⟩ => ⟨S1x1024, .f32⟩
  | .hbm, ⟨20, _⟩ => ⟨S8192x3072, .bf16⟩
  | .hbm, ⟨21, _⟩ => ⟨S8192x3072, .bf16⟩
  | .hbm, ⟨22, _⟩ => ⟨S8192x3072, .bf16⟩
  | .hbm, ⟨23, _⟩ => ⟨S8192x1024, .bf16⟩
  | .hbm, ⟨24, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_c_1 : Ref sig .tc := ⟨.hbm, 15, rfl⟩
abbrev main_call2_v0 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v6_3 : Ref sig .tc := ⟨.hbm, 21, rfl⟩
abbrev main_v6_4 : Ref sig .tc := ⟨.hbm, 22, rfl⟩
abbrev main_v6_5 : Ref sig .tc := ⟨.hbm, 23, rfl⟩
abbrev main_v6_6 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![16, 6], ![false, false]⟩

def k0_cond2 (i : grid0.Coords) : BitVec 1 :=
  let arg1 : BitVec 32 := BitVec.ofNat 32 (i 1).val
  let c5_i32 : BitVec 32 := 5#32
  let v52 : BitVec 1 := Scalar.cmpi .eq arg1 c5_i32
  let v53 : BitVec 32 := Scalar.extui v52
  let c0_i32_33 : BitVec 32 := 0#32
  let v54 : BitVec 1 := Scalar.cmpi .ne v53 c0_i32_33
  v54

def k0_cond3 (i : grid0.Coords) : BitVec 1 :=
  let arg0 : BitVec 32 := BitVec.ofNat 32 (i 0).val
  let c0_i32_52 : BitVec 32 := 0#32
  let v94 : BitVec 1 := Scalar.cmpi .eq arg0 c0_i32_52
  let v95 : BitVec 32 := Scalar.extui v94
  let c0_i32_53 : BitVec 32 := 0#32
  let v96 : BitVec 1 := Scalar.cmpi .ne v95 c0_i32_53
  v96

def k0_cond4 (i : grid0.Coords) : BitVec 1 :=
  let arg0 : BitVec 32 := BitVec.ofNat 32 (i 0).val
  let c0_i32_54 : BitVec 32 := 0#32
  let v97 : BitVec 1 := Scalar.cmpi .ne arg0 c0_i32_54
  let v98 : BitVec 32 := Scalar.extui v97
  let c0_i32_55 : BitVec 32 := 0#32
  let v99 : BitVec 1 := Scalar.cmpi .ne v98 c0_i32_55
  v99

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== FfnBRefIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192x2816 : Shape := ⟨2, ![8192, 2816]⟩
abbrev S1024 : Shape := ⟨1, ![1024]⟩
abbrev S8192 : Shape := ⟨1, ![8192]⟩
abbrev S8192x1 : Shape := ⟨2, ![8192, 1]⟩
abbrev S8192x3072 : Shape := ⟨2, ![8192, 3072]⟩

abbrev nBuf : Space → Nat
  | .hbm => 110
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192x2816, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x2816, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S1024, .f32⟩
  | .hbm, ⟨74, _⟩ => ⟨S8192x1024, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S1x1024, .f32⟩
  | .hbm, ⟨93, _⟩ => ⟨S_, .i32⟩
  | .hbm, ⟨94, _⟩ => ⟨S_, .f32⟩
  | .hbm, ⟨95, _⟩ => ⟨S8192x3072, .f32⟩
  | .hbm, ⟨96, _⟩ => ⟨S8192x3072, .bf16⟩
  | .hbm, ⟨97, _⟩ => ⟨S_, .i32⟩
  | .hbm, ⟨98, _⟩ => ⟨S_, .f32⟩
  | .hbm, ⟨99, _⟩ => ⟨S8192x3072, .f32⟩
  | .hbm, ⟨100, _⟩ => ⟨S8192x3072, .bf16⟩
  | .hbm, ⟨101, _⟩ => ⟨S_, .i32⟩
  | .hbm, ⟨102, _⟩ => ⟨S_, .f32⟩
  | .hbm, ⟨103, _⟩ => ⟨S8192x3072, .f32⟩
  | .hbm, ⟨104, _⟩ => ⟨S8192x3072, .bf16⟩
  | .hbm, ⟨105, _⟩ => ⟨S8192x1024, .bf16⟩
  | .hbm, ⟨106, _⟩ => ⟨S_, .f32⟩
  | .hbm, ⟨107, _⟩ => ⟨S8192x1024, .f32⟩
  | .hbm, ⟨108, _⟩ => ⟨S8192x1024, .f32⟩
  | .hbm, ⟨109, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v22_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v22_1 : Ref sig .tc := ⟨.hbm, 44, rfl⟩
abbrev main_v22_0 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_5 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_7 : Ref sig .tc := ⟨.hbm, 72, rfl⟩
abbrev main_v43 : Ref sig .tc := ⟨.hbm, 73, rfl⟩
abbrev main_v44 : Ref sig .tc := ⟨.hbm, 74, rfl⟩
abbrev main_cst_8 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_9 : Ref sig .tc := ⟨.hbm, 82, rfl⟩
abbrev main_v51 : Ref sig .tc := ⟨.hbm, 83, rfl⟩
abbrev main_v52 : Ref sig .tc := ⟨.hbm, 84, rfl⟩
abbrev main_cst_10 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_c : Ref sig .tc := ⟨.hbm, 93, rfl⟩
abbrev main_call2_v0 : Ref sig .tc := ⟨.hbm, 94, rfl⟩
abbrev main_v60 : Ref sig .tc := ⟨.hbm, 95, rfl⟩
abbrev main_v61 : Ref sig .tc := ⟨.hbm, 96, rfl⟩
abbrev main_c_11 : Ref sig .tc := ⟨.hbm, 97, rfl⟩
abbrev main_call3_v0 : Ref sig .tc := ⟨.hbm, 98, rfl⟩
abbrev main_v62 : Ref sig .tc := ⟨.hbm, 99, rfl⟩
abbrev main_v63 : Ref sig .tc := ⟨.hbm, 100, rfl⟩
abbrev main_c_12 : Ref sig .tc := ⟨.hbm, 101, rfl⟩
abbrev main_call4_v0 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_13 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩

abbrev nD : Nat := 1
abbrev τ : Topo := Topo.v7x

variable {F : FTy → Type} [FloatOps F]
-- ==== Dwg.lean ====
abbrev S8192x1024 : Shape := ⟨2, ![8192, 1024]⟩
abbrev S8192x3072 : Shape := ⟨2, ![8192, 3072]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwgRefIdeal.lean ====
abbrev S8192x1024 : Shape := ⟨2, ![8192, 1024]⟩
abbrev S8192x3072 : Shape := ⟨2, ![8192, 3072]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8192x1024, .f32⟩
  | .hbm, ⟨3, _⟩ => ⟨S8192x2816, .bf16⟩
  | .hbm, ⟨4, _⟩ => ⟨S8192x2816, .f32⟩
  | .hbm, ⟨5, _⟩ => ⟨S_, .f32⟩
  | .hbm, ⟨6, _⟩ => ⟨S1024x2816, .f32⟩
  | .hbm, ⟨7, _⟩ => ⟨S8192x2816, .f32⟩
  | .hbm, ⟨8, _⟩ => ⟨S2816x1024, .f32⟩
  | .hbm, ⟨9, _⟩ => ⟨S1024x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dwd.lean ====
abbrev S8192x3072 : Shape := ⟨2, ![8192, 3072]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwdRefIdeal.lean ====
abbrev S8192x3072 : Shape := ⟨2, ![8192, 3072]⟩
abbrev S8192x1024 : Shape := ⟨2, ![8192, 1024]⟩
abbrev S8192x2816 : Shape := ⟨2, ![8192, 2816]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x2816, .bf16⟩
  | .hbm, ⟨3, _⟩ => ⟨S8192x2816, .f32⟩
  | .hbm, ⟨4, _⟩ => ⟨S8192x1024, .f32⟩
  | .hbm, ⟨5, _⟩ => ⟨S_, .f32⟩
  | .hbm, ⟨6, _⟩ => ⟨S2816x1024, .f32⟩
  | .hbm, ⟨7, _⟩ => ⟨S8192x1024, .f32⟩
  | .hbm, ⟨8, _⟩ => ⟨S1024x2816, .f32⟩
  | .hbm, ⟨9, _⟩ => ⟨S2816x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DH.lean ====
abbrev S8192x3072 : Shape := ⟨2, ![8192, 3072]⟩
abbrev S8192x2304 : Shape := ⟨2, ![8192, 2304]⟩
abbrev S8192x1536 : Shape := ⟨2, ![8192, 1536]⟩
abbrev S8192x512 : Shape := ⟨2, ![8192, 512]⟩
abbrev S8x8192 : Shape := ⟨2, ![8, 8192]⟩
abbrev S1024x3072 : Shape := ⟨2, ![1024, 3072]⟩
abbrev S1024x4880 : Shape := ⟨2, ![1024, 4880]⟩
abbrev S16x8192 : Shape := ⟨2, ![16, 8192]⟩
abbrev S8192x16 : Shape := ⟨2, ![8192, 16]⟩
abbrev S_ : Shape := ⟨0, ![]⟩
abbrev S8192x128 : Shape := ⟨2, ![8192, 128]⟩
abbrev S8192x8064 : Shape := ⟨2, ![8192, 8064]⟩
abbrev S1024x2304 : Shape := ⟨2, ![1024, 2304]⟩
abbrev S1024x1536 : Shape := ⟨2, ![1024, 1536]⟩
abbrev S1024x512 : Shape := ⟨2, ![1024, 512]⟩
abbrev S1024x16 : Shape := ⟨2, ![1024, 16]⟩
abbrev S1024x112 : Shape := ⟨2, ![1024, 112]⟩
abbrev S1024x8064 : Shape := ⟨2, ![1024, 8064]⟩
abbrev S8192x1024 : Shape := ⟨2, ![8192, 1024]⟩
abbrev S1024x2688 : Shape := ⟨2, ![1024, 2688]⟩
abbrev S1024x1024 : Shape := ⟨2, ![1024, 1024]⟩

abbrev nBuf : Space → Nat
  | .hbm => 26
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S8192x2304, .bf16⟩
  | .hbm, ⟨2, _⟩ => ⟨S8192x1536, .bf16⟩
  | .hbm, ⟨3, _⟩ => ⟨S8192x512, .bf16⟩
  | .hbm, ⟨4, _⟩ => ⟨S8192x512, .bf16⟩
  | .hbm, ⟨5, _⟩ => ⟨S8x8192, .f32⟩
  | .hbm, ⟨6, _⟩ => ⟨S8x8192, .f32⟩
  | .hbm, ⟨7, _⟩ => ⟨S1024x3072, .f32⟩
  | .hbm, ⟨8, _⟩ => ⟨S1024x4880, .f32⟩
  | .hbm, ⟨9, _⟩ => ⟨S16x8192, .f32⟩
  | .hbm, ⟨10, _⟩ => ⟨S8192x16, .f32⟩
  | .hbm, ⟨11, _⟩ => ⟨S8192x16, .bf16⟩
  | .hbm, ⟨12, _⟩ => ⟨S_, .i32⟩
  | .hbm, ⟨13, _⟩ => ⟨S_, .bf16⟩
  | .hbm, ⟨14, _⟩ => ⟨S8192x128, .bf16⟩
  | .hbm, ⟨15, _⟩ => ⟨S8192x8064, .bf16⟩
  | .hbm, ⟨16, _⟩ => ⟨S1024x2304, .f32⟩
  | .hbm, ⟨17, _⟩ => ⟨S1024x1536, .f32⟩
  | .hbm, ⟨18, _⟩ => ⟨S1024x512, .f32⟩
  | .hbm, ⟨19, _⟩ => ⟨S1024x512, .f32⟩
  | .hbm, ⟨20, _⟩ => ⟨S1024x16, .f32⟩
  | .hbm, ⟨21, _⟩ => ⟨S_, .f32⟩
  | .hbm, ⟨22, _⟩ => ⟨S1024x112, .f32⟩
  | .hbm, ⟨23, _⟩ => ⟨S1024x8064, .f32⟩
  | .hbm, ⟨24, _⟩ => ⟨S1024x8064, .bf16⟩
  | .hbm, ⟨25, _⟩ => ⟨S8192x1024, .f32⟩
  | .local _ .vmem, ⟨0, _⟩ => ⟨S1024x2688, .bf16⟩
  | .local _ .vmem, ⟨1, _⟩ => ⟨S1024x2688, .bf16⟩
  | .local _ .vmem, ⟨2, _⟩ => ⟨S1024x2688, .bf16⟩
  | .local _ .vmem, ⟨3, _⟩ => ⟨S1024x2688, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DHRefIdeal.lean ====
abbrev S8192x3072 : Shape := ⟨2, ![8192, 3072]⟩
abbrev S8192x2304 : Shape := ⟨2, ![8192, 2304]⟩
abbrev S8192x1536 : Shape := ⟨2, ![8192, 1536]⟩
abbrev S8192x512 : Shape := ⟨2, ![8192, 512]⟩
abbrev S8x8192 : Shape := ⟨2, ![8, 8192]⟩
abbrev S1024x3072 : Shape := ⟨2, ![1024, 3072]⟩
abbrev S1024x4880 : Shape := ⟨2, ![1024, 4880]⟩
abbrev S8192x8 : Shape := ⟨2, ![8192, 8]⟩
abbrev S8192x4880 : Shape := ⟨2, ![8192, 4880]⟩
abbrev S_ : Shape := ⟨0, ![]⟩
abbrev S8192x1024 : Shape := ⟨2, ![8192, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x2304, .bf16⟩
  | .hbm, ⟨2, _⟩ => ⟨S8192x1536, .bf16⟩
  | .hbm, ⟨3, _⟩ => ⟨S8192x512, .bf16⟩
  | .hbm, ⟨4, _⟩ => ⟨S8192x512, .bf16⟩
  | .hbm, ⟨5, _⟩ => ⟨S8x8192, .f32⟩
  | .hbm, ⟨6, _⟩ => ⟨S8x8192, .f32⟩
  | .hbm, ⟨7, _⟩ => ⟨S1024x3072, .f32⟩
  | .hbm, ⟨8, _⟩ => ⟨S1024x4880, .f32⟩
  | .hbm, ⟨9, _⟩ => ⟨S8192x1536, .f32⟩
  | .hbm, ⟨10, _⟩ => ⟨S8192x512, .f32⟩
  | .hbm, ⟨11, _⟩ => ⟨S8192x8, .f32⟩
  | .hbm, ⟨12, _⟩ => ⟨S8192x8, .f32⟩
  | .hbm, ⟨13, _⟩ => ⟨S8192x512, .f32⟩
  | .hbm, ⟨14, _⟩ => ⟨S8192x2304, .f32⟩
  | .hbm, ⟨15, _⟩ => ⟨S8192x4880, .f32⟩
  | .hbm, ⟨16, _⟩ => ⟨S_, .f32⟩
  | .hbm, ⟨17, _⟩ => ⟨S8192x1024, .f32⟩
  | .hbm, ⟨18, _⟩ => ⟨S8192x3072, .f32⟩
  | .hbm, ⟨19, _⟩ => ⟨S8192x4880, .f32⟩
  | .hbm, ⟨20, _⟩ => ⟨S8192x3072, .f32⟩
  | .hbm, ⟨21, _⟩ => ⟨S8192x1024, .f32⟩
  | .hbm, ⟨22, _⟩ => ⟨S8192x1024, .f32⟩
  | .hbm, ⟨23, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== DWcat.lean ====
abbrev S8192x1024 : Shape := ⟨2, ![8192, 1024]⟩
abbrev S8192x3072 : Shape := ⟨2, ![8192, 3072]⟩
abbrev S8192x2304 : Shape := ⟨2, ![8192, 2304]⟩
abbrev S8192x1536 : Shape := ⟨2, ![8192, 1536]⟩
abbrev S8192x512 : Shape := ⟨2, ![8192, 512]⟩
abbrev S8x8192 : Shape := ⟨2, ![8, 8192]⟩
abbrev S16x8192 : Shape := ⟨2, ![16, 8192]⟩
abbrev S8192x16 : Shape := ⟨2, ![8192, 16]⟩
abbrev S_ : Shape := ⟨0, ![]⟩
abbrev S8192x128 : Shape := ⟨2, ![8192, 128]⟩
abbrev S8192x8064 : Shape := ⟨2, ![8192, 8064]⟩
abbrev S1024x8064 : Shape := ⟨2, ![1024, 8064]⟩
abbrev S1024x1024 : Shape := ⟨2, ![1024, 1024]⟩
abbrev S1024x2688 : Shape := ⟨2, ![1024, 2688]⟩

abbrev nBuf : Space → Nat
  | .hbm => 16
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8192x2304, .bf16⟩
  | .hbm, ⟨3, _⟩ => ⟨S8192x1536, .bf16⟩
  | .hbm, ⟨4, _⟩ => ⟨S8192x512, .bf16⟩
  | .hbm, ⟨5, _⟩ => ⟨S8192x512, .bf16⟩
  | .hbm, ⟨6, _⟩ => ⟨S8x8192, .f32⟩
  | .hbm, ⟨7, _⟩ => ⟨S8x8192, .f32⟩
  | .hbm, ⟨8, _⟩ => ⟨S16x8192, .f32⟩
  | .hbm, ⟨9, _⟩ => ⟨S8192x16, .f32⟩
  | .hbm, ⟨10, _⟩ => ⟨S8192x16, .bf16⟩
  | .hbm, ⟨11, _⟩ => ⟨S_, .i32⟩
  | .hbm, ⟨12, _⟩ => ⟨S_, .bf16⟩
  | .hbm, ⟨13, _⟩ => ⟨S8192x128, .bf16⟩
  | .hbm, ⟨14, _⟩ => ⟨S8192x8064, .bf16⟩
  | .hbm, ⟨15, _⟩ => ⟨S1024x8064, .f32⟩
  | .local _ .vmem, ⟨0, _⟩ => ⟨S1024x1024, .bf16⟩
  | .local _ .vmem, ⟨1, _⟩ => ⟨S1024x1024, .bf16⟩
  | .local _ .vmem, ⟨2, _⟩ => ⟨S1024x2688, .bf16⟩
  | .local _ .vmem, ⟨3, _⟩ => ⟨S1024x2688, .bf16⟩
  | .local _ .vmem, ⟨4, _⟩ => ⟨S1024x2688, .f32⟩
  | .local _ .vmem, ⟨5, _⟩ => ⟨S1024x2688, .f32⟩
  | .local _ .vmem, ⟨6, _⟩ => ⟨S1024x2688, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWcatRefIdeal.lean ====
abbrev S8192x1024 : Shape := ⟨2, ![8192, 1024]⟩
abbrev S8192x3072 : Shape := ⟨2, ![8192, 3072]⟩
abbrev S8192x2304 : Shape := ⟨2, ![8192, 2304]⟩
abbrev S8192x1536 : Shape := ⟨2, ![8192, 1536]⟩
abbrev S8192x512 : Shape := ⟨2, ![8192, 512]⟩
abbrev S8x8192 : Shape := ⟨2, ![8, 8192]⟩
abbrev S8192x8 : Shape := ⟨2, ![8192, 8]⟩
abbrev S8192x4880 : Shape := ⟨2, ![8192, 4880]⟩
abbrev S_ : Shape := ⟨0, ![]⟩
abbrev S1024x3072 : Shape := ⟨2, ![1024, 3072]⟩
abbrev S1024x4880 : Shape := ⟨2, ![1024, 4880]⟩
abbrev S4880x1024 : Shape := ⟨2, ![4880, 1024]⟩
abbrev S3072x1024 : Shape := ⟨2, ![3072, 1024]⟩
abbrev S1024x2304 : Shape := ⟨2, ![1024, 2304]⟩
abbrev S1024x2048 : Shape := ⟨2, ![1024, 2048]⟩
abbrev S1024x512 : Shape := ⟨2, ![1024, 512]⟩
abbrev S1024x16 : Shape := ⟨2, ![1024, 16]⟩
abbrev S1024x7952 : Shape := ⟨2, ![1024, 7952]⟩
abbrev S1024x8064 : Shape := ⟨2, ![1024, 8064]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8192x2304, .bf16⟩
  | .hbm, ⟨3, _⟩ => ⟨S8192x1536, .bf16⟩
  | .hbm, ⟨4, _⟩ => ⟨S8192x512, .bf16⟩
  | .hbm, ⟨5, _⟩ => ⟨S8192x512, .bf16⟩
  | .hbm, ⟨6, _⟩ => ⟨S8x8192, .f32⟩
  | .hbm, ⟨7, _⟩ => ⟨S8x8192, .f32⟩
  | .hbm, ⟨8, _⟩ => ⟨S8192x1536, .f32⟩
  | .hbm, ⟨9, _⟩ => ⟨S8192x512, .f32⟩
  | .hbm, ⟨10, _⟩ => ⟨S8192x8, .f32⟩
  | .hbm, ⟨11, _⟩ => ⟨S8192x8, .f32⟩
  | .hbm, ⟨12, _⟩ => ⟨S8192x512, .f32⟩
  | .hbm, ⟨13, _⟩ => ⟨S8192x2304, .f32⟩
  | .hbm, ⟨14, _⟩ => ⟨S8192x4880, .f32⟩
  | .hbm, ⟨15, _⟩ => ⟨S_, .f32⟩
  | .hbm, ⟨16, _⟩ => ⟨S1024x3072, .f32⟩
  | .hbm, ⟨17, _⟩ => ⟨S_, .f32⟩
  | .hbm, ⟨18, _⟩ => ⟨S1024x4880, .f32⟩
  | .hbm, ⟨19, _⟩ => ⟨S8192x1024, .f32⟩
  | .hbm, ⟨20, _⟩ => ⟨S8192x3072, .f32⟩
  | .hbm, ⟨21, _⟩ => ⟨S8192x1024, .f32⟩
  | .hbm, ⟨22, _⟩ => ⟨S8192x4880, .f32⟩
  | .hbm, ⟨23, _⟩ => ⟨S8192x3072, .f32⟩
  | .hbm, ⟨24, _⟩ => ⟨S4880x1024, .f32⟩
  | .hbm, ⟨25, _⟩ => ⟨S1024x4880, .f32⟩
  | .hbm, ⟨26, _⟩ => ⟨S3072x1024, .f32⟩
  | .hbm, ⟨27, _⟩ => ⟨S1024x3072, .f32⟩
  | .hbm, ⟨28, _⟩ => ⟨S1024x2304, .f32⟩
  | .hbm, ⟨29, _⟩ => ⟨S1024x2048, .f32⟩
  | .hbm, ⟨30, _⟩ => ⟨S1024x512, .f32⟩
  | .hbm, ⟨31, _⟩ => ⟨S1024x16, .f32⟩
  | .hbm, ⟨32, _⟩ => ⟨S1024x7952, .f32⟩
  | .hbm, ⟨33, _⟩ => ⟨S_, .i32⟩
  | .hbm, ⟨34, _⟩ => ⟨S_, .f32⟩
  | .hbm, ⟨35, _⟩ => ⟨S1024x8064, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_call0_v0 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== Proj.lean ====
abbrev S8192x1024 : Shape := ⟨2, ![8192, 1024]⟩
abbrev S1024x3072 : Shape := ⟨2, ![1024, 3072]⟩
abbrev S1024x4880 : Shape := ⟨2, ![1024, 4880]⟩
abbrev S1024x2304 : Shape := ⟨2, ![1024, 2304]⟩
abbrev S1024x1536 : Shape := ⟨2, ![1024, 1536]⟩
abbrev S1024x512 : Shape := ⟨2, ![1024, 512]⟩
abbrev S1024x16 : Shape := ⟨2, ![1024, 16]⟩
abbrev S_ : Shape := ⟨0, ![]⟩
abbrev S1024x112 : Shape := ⟨2, ![1024, 112]⟩
abbrev S1024x8064 : Shape := ⟨2, ![1024, 8064]⟩
abbrev S8192x8064 : Shape := ⟨2, ![8192, 8064]⟩
abbrev S1024x1024 : Shape := ⟨2, ![1024, 1024]⟩
abbrev S1024x2688 : Shape := ⟨2, ![1024, 2688]⟩

abbrev nBuf : Space → Nat
  | .hbm => 13
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .f32⟩
  | .hbm, ⟨2, _⟩ => ⟨S1024x4880, .f32⟩
  | .hbm, ⟨3, _⟩ => ⟨S1024x2304, .f32⟩
  | .hbm, ⟨4, _⟩ => ⟨S1024x1536, .f32⟩
  | .hbm, ⟨5, _⟩ => ⟨S1024x512, .f32⟩
  | .hbm, ⟨6, _⟩ => ⟨S1024x512, .f32⟩
  | .hbm, ⟨7, _⟩ => ⟨S1024x16, .f32⟩
  | .hbm, ⟨8, _⟩ => ⟨S_, .f32⟩
  | .hbm, ⟨9, _⟩ => ⟨S1024x112, .f32⟩
  | .hbm, ⟨10, _⟩ => ⟨S1024x8064, .f32⟩
  | .hbm, ⟨11, _⟩ => ⟨S1024x8064, .bf16⟩
  | .hbm, ⟨12, _⟩ => ⟨S8192x8064, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2688, .bf16⟩
  | .local _ .vmem, ⟨3, _⟩ => ⟨S1024x2688, .bf16⟩
  | .local _ .vmem, ⟨4, _⟩ => ⟨S1024x2688, .bf16⟩
  | .local _ .vmem, ⟨5, _⟩ => ⟨S1024x2688, .bf16⟩
  | .local _ .vmem, ⟨6, _⟩ => ⟨S1024x2688, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2688 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S8192x1024 : Shape := ⟨2, ![8192, 1024]⟩
abbrev S1024x3072 : Shape := ⟨2, ![1024, 3072]⟩
abbrev S1024x4880 : Shape := ⟨2, ![1024, 4880]⟩
abbrev S8192x3072 : Shape := ⟨2, ![8192, 3072]⟩
abbrev S8192x4880 : Shape := ⟨2, ![8192, 4880]⟩
abbrev S8192x2304 : Shape := ⟨2, ![8192, 2304]⟩
abbrev S8192x2048 : Shape := ⟨2, ![8192, 2048]⟩
abbrev S8192x512 : Shape := ⟨2, ![8192, 512]⟩
abbrev S8192x16 : Shape := ⟨2, ![8192, 16]⟩
abbrev S8192x7952 : Shape := ⟨2, ![8192, 7952]⟩
abbrev S_ : Shape := ⟨0, ![]⟩
abbrev S8192x8064 : Shape := ⟨2, ![8192, 8064]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .f32⟩
  | .hbm, ⟨2, _⟩ => ⟨S1024x4880, .f32⟩
  | .hbm, ⟨3, _⟩ => ⟨S8192x1024, .f32⟩
  | .hbm, ⟨4, _⟩ => ⟨S8192x3072, .f32⟩
  | .hbm, ⟨5, _⟩ => ⟨S8192x1024, .f32⟩
  | .hbm, ⟨6, _⟩ => ⟨S8192x4880, .f32⟩
  | .hbm, ⟨7, _⟩ => ⟨S8192x2304, .f32⟩
  | .hbm, ⟨8, _⟩ => ⟨S8192x2048, .f32⟩
  | .hbm, ⟨9, _⟩ => ⟨S8192x512, .f32⟩
  | .hbm, ⟨10, _⟩ => ⟨S8192x16, .f32⟩
  | .hbm, ⟨11, _⟩ => ⟨S8192x7952, .f32⟩
  | .hbm, ⟨12, _⟩ => ⟨S_, .i32⟩
  | .hbm, ⟨13, _⟩ => ⟨S_, .f32⟩
  | .hbm, ⟨14, _⟩ => ⟨S8192x8064, .f32⟩
  | .hbm, ⟨15, _⟩ => ⟨S8192x8064, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Ffn.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S1024x1024 : Shape := ⟨2, ![1024, 1024]⟩
abbrev S1024x256 : Shape := ⟨2, ![1024, 256]⟩
abbrev S256x1024 : Shape := ⟨2, ![256, 1024]⟩
abbrev S1024 : Shape := ⟨1, ![1024]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S256x1024, .bf16⟩
  | .local _ .vmem, ⟨8, _⟩ => ⟨S256x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== DMerged.lean ====
abbrev S8192x1024 : Shape := ⟨2, ![8192, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .bf16⟩
  | .hbm, ⟨3, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMergedRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DWout.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DWoutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Out.lean ====
abbrev S8192x1024 : Shape := ⟨2, ![8192, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Pa.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S512x1024, .f32⟩
  | .hbm, ⟨2, _⟩ => ⟨S512x1024, .bf16⟩
  | .hbm, ⟨3, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PaIdeal.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S512x1024, .f32⟩
  | .hbm, ⟨2, _⟩ => ⟨S512x1024, .bf16⟩
  | .hbm, ⟨3, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PaRefIdeal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .f32⟩
  | .hbm, ⟨2, _⟩ => ⟨S8192x512, .f32⟩
  | .hbm, ⟨3, _⟩ => ⟨S8192x1024, .f32⟩
  | .hbm, ⟨4, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DPa.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S512x1024, .f32⟩
  | .hbm, ⟨2, _⟩ => ⟨S512x1024, .bf16⟩
  | .hbm, ⟨3, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DPaIdeal.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S512x1024, .f32⟩
  | .hbm, ⟨2, _⟩ => ⟨S512x1024, .bf16⟩
  | .hbm, ⟨3, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DPaRefIdeal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .f32⟩
  | .hbm, ⟨2, _⟩ => ⟨S_, .f32⟩
  | .hbm, ⟨3, _⟩ => ⟨S8192x512, .f32⟩
  | .hbm, ⟨4, _⟩ => ⟨S8192x1024, .f32⟩
  | .hbm, ⟨5, _⟩ => ⟨S8192x1024, .f32⟩
  | .hbm, ⟨6, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DWpa.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DWpaIdeal.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DWpaRefIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Pc.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S256x1024, .f32⟩
  | .hbm, ⟨2, _⟩ => ⟨S256x1024, .bf16⟩
  | .hbm, ⟨3, _⟩ => ⟨S8192x1024, .bf16⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PcRefIdeal.lean ====
abbrev S8192x256 : Shape := ⟨2, ![8192, 256]⟩
abbrev S256x1024 : Shape := ⟨2, ![256, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x1024, .f32⟩
  | .hbm, ⟨2, _⟩ => ⟨S8192x256, .f32⟩
  | .hbm, ⟨3, _⟩ => ⟨S8192x1024, .f32⟩
  | .hbm, ⟨4, _⟩ => ⟨S8192x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DPc.lean ====
abbrev S8192x1024 : Shape := ⟨2, ![8192, 1024]⟩
abbrev S256x1024 : Shape := ⟨2, ![256, 1024]⟩
abbrev S8192x256 : Shape := ⟨2, ![8192, 256]⟩
abbrev S1024x1024 : Shape := ⟨2, ![1024, 1024]⟩
abbrev S1024x256 : Shape := ⟨2, ![1024, 256]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S256x1024, .f32⟩
  | .hbm, ⟨2, _⟩ => ⟨S256x1024, .bf16⟩
  | .hbm, ⟨3, _⟩ => ⟨S8192x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DPcRefIdeal.lean ====
abbrev S8192x1024 : Shape := ⟨2, ![8192, 1024]⟩
abbrev S256x1024 : Shape := ⟨2, ![256, 1024]⟩
abbrev S_ : Shape := ⟨0, ![]⟩
abbrev S8192x256 : Shape := ⟨2, ![8192, 256]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x1024, .f32⟩
  | .hbm, ⟨2, _⟩ => ⟨S_, .f32⟩
  | .hbm, ⟨3, _⟩ => ⟨S8192x256, .f32⟩
  | .hbm, ⟨4, _⟩ => ⟨S8192x1024, .f32⟩
  | .hbm, ⟨5, _⟩ => ⟨S8192x1024, .f32⟩
  | .hbm, ⟨6, _⟩ => ⟨S8192x256, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DWpc.lean ====
abbrev S8192x256 : Shape := ⟨2, ![8192, 256]⟩
abbrev S8192x1024 : Shape := ⟨2, ![8192, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S256x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | .local _ .vmem, ⟨5, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DWpcRefIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S_, .f32⟩
  | .hbm, ⟨3, _⟩ => ⟨S256x1024, .f32⟩
  | .hbm, ⟨4, _⟩ => ⟨S8192x256, .f32⟩
  | .hbm, ⟨5, _⟩ => ⟨S8192x1024, .f32⟩
  | .hbm, ⟨6, _⟩ => ⟨S8192x1024, .f32⟩
  | .hbm, ⟨7, _⟩ => ⟨S1024x256, .f32⟩
  | .hbm, ⟨8, _⟩ => ⟨S256x1024, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GatesB.lean ====
abbrev S8192x8064 : Shape := ⟨2, ![8192, 8064]⟩
abbrev S8192x1024 : Shape := ⟨2, ![8192, 1024]⟩
abbrev S3072 : Shape := ⟨1, ![3072]⟩
abbrev S3x1024 : Shape := ⟨2, ![3, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 19
  | .vmem => 32
  | .smem => 0
  | _ => 0

abbrev bufTy : (tb : Table) → Fin (tcTables nBuf tb) → BufTy
  | .hbm, ⟨0, _⟩ => ⟨S8192x8064, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S3072, .f32⟩
  | .hbm, ⟨5, _⟩ => ⟨S8192x1024, .bf16⟩
  | .hbm, ⟨6, _⟩ => ⟨S3x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S8192x1024, .bf16⟩
  | .hbm, ⟨14, _⟩ => ⟨S8192x1024, .bf16⟩
  | .hbm, ⟨15, _⟩ => ⟨S8192x1024, .bf16⟩
  | .hbm, ⟨16, _⟩ => ⟨S1x1024, .f32⟩
  | .hbm, ⟨17, _⟩ => ⟨S1x1024, .f32⟩
  | .hbm, ⟨18, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S1x1024, .f32⟩
  | .local _ .vmem, ⟨30, _⟩ => ⟨S1x1024, .f32⟩
  | .local _ .vmem, ⟨31, _⟩ => ⟨S1x1024, .f32⟩
  | _, _ => ⟨S8192x8064, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_v4_6 : Ref sig .tc := ⟨.hbm, 16, rfl⟩
abbrev main_v4_7 : Ref sig .tc := ⟨.hbm, 17, rfl⟩
abbrev main_v4_8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem17_0 : DmaSem sig := 30
abbrev cc0_sem18_0 : DmaSem sig := 31

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v92 : BitVec 1 := Scalar.cmpi .eq arg0 c0_i32
  let v105 : BitVec 32 := Scalar.extui v92
  let c0_i32_54 : BitVec 32 := 0#32
  let v106 : BitVec 1 := Scalar.cmpi .ne v105 c0_i32_54
  v106

def k0_cond2 (i : grid0.Coords) : BitVec 1 :=
  let arg0 : BitVec 32 := BitVec.ofNat 32 (i 0).val
  let c0_i32 : BitVec 32 := 0#32
  let v92 : BitVec 1 := Scalar.cmpi .eq arg0 c0_i32
  let v_true : BitVec 1 := 1#1
  let v107 : BitVec 1 := Scalar.xori v92 v_true
  let v108 : BitVec 32 := Scalar.extui v107
  let c0_i32_55 : BitVec 32 := 0#32
  let v109 : BitVec 1 := Scalar.cmpi .ne v108 c0_i32_55
  v109

def k0_cond3 (i : grid0.Coords) : BitVec 1 :=
  let arg0 : BitVec 32 := BitVec.ofNat 32 (i 0).val
  let c0_i32 : BitVec 32 := 0#32
  let v92 : BitVec 1 := Scalar.cmpi .eq arg0 c0_i32
  let v110 : BitVec 32 := Scalar.extui v92
  let c0_i32_56 : BitVec 32 := 0#32
  let v111 : BitVec 1 := Scalar.cmpi .ne v110 c0_i32_56
  v111

def k0_cond4 (i : grid0.Coords) : BitVec 1 :=
  let arg0 : BitVec 32 := BitVec.ofNat 32 (i 0).val
  let c0_i32 : BitVec 32 := 0#32
  let v92 : BitVec 1 := Scalar.cmpi .eq arg0 c0_i32
  let true_57 : BitVec 1 := 1#1
  let v112 : BitVec 1 := Scalar.xori v92 true_57
  let v113 : BitVec 32 := Scalar.extui v112
  let c0_i32_58 : BitVec 32 := 0#32
  let v114 : BitVec 1 := Scalar.cmpi .ne v113 c0_i32_58
  v114

def k0_cond5 (i : grid0.Coords) : BitVec 1 :=
  let arg0 : BitVec 32 := BitVec.ofNat 32 (i 0).val
  let c0_i32 : BitVec 32 := 0#32
  let v92 : BitVec 1 := Scalar.cmpi .eq arg0 c0_i32
  let v115 : BitVec 32 := Scalar.extui v92
  let c0_i32_59 : BitVec 32 := 0#32
  let v116 : BitVec 1 := Scalar.cmpi .ne v115 c0_i32_59
  v116

def k0_cond6 (i : grid0.Coords) : BitVec 1 :=
  let arg0 : BitVec 32 := BitVec.ofNat 32 (i 0).val
  let c0_i32 : BitVec 32 := 0#32
  let v92 : BitVec 1 := Scalar.cmpi .eq arg0 c0_i32
  let true_60 : BitVec 1 := 1#1
  let v117 : BitVec 1 := Scalar.xori v92 true_60
  let v118 : BitVec 32 := Scalar.extui v117
  let c0_i32_61 : BitVec 32 := 0#32
  let v119 : BitVec 1 := Scalar.cmpi .ne v118 c0_i32_61
  v119

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== GatesBRefIdeal.lean ====
abbrev S8192x8064 : Shape := ⟨2, ![8192, 8064]⟩
abbrev S8192x1024 : Shape := ⟨2, ![8192, 1024]⟩
abbrev S3072 : Shape := ⟨1, ![3072]⟩
abbrev S8192x3072 : Shape := ⟨2, ![8192, 3072]⟩
abbrev S1x3072 : Shape := ⟨2, ![1, 3072]⟩
abbrev S_ : Shape := ⟨0, ![]⟩
abbrev S8192x3x1024 : Shape := ⟨3, ![8192, 3, 1024]⟩
abbrev S8192x1x1024 : Shape := ⟨3, ![8192, 1, 1024]⟩
abbrev S1024 : Shape := ⟨1, ![1024]⟩
abbrev S1x1024 : Shape := ⟨2, ![1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S8192x8064, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S3072, .f32⟩
  | .hbm, ⟨5, _⟩ => ⟨S8192x1024, .bf16⟩
  | .hbm, ⟨6, _⟩ => ⟨S8192x3072, .bf16⟩
  | .hbm, ⟨7, _⟩ => ⟨S8192x3072, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S1x3072, .f32⟩
  | .hbm, ⟨13, _⟩ => ⟨S8192x3072, .f32⟩
  | .hbm, ⟨14, _⟩ => ⟨S8192x3072, .f32⟩
  | .hbm, ⟨15, _⟩ => ⟨S8192x3072, .f32⟩
  | .hbm, ⟨16, _⟩ => ⟨S8192x3072, .f32⟩
  | .hbm, ⟨17, _⟩ => ⟨S_, .f32⟩
  | .hbm, ⟨18, _⟩ => ⟨S8192x3072, .f32⟩
  | .hbm, ⟨19, _⟩ => ⟨S8192x3072, .f32⟩
  | .hbm, ⟨20, _⟩ => ⟨S_, .f32⟩
  | .hbm, ⟨21, _⟩ => ⟨S8192x3072, .f32⟩
  | .hbm, ⟨22, _⟩ => ⟨S8192x3072, .f32⟩
  | .hbm, ⟨23, _⟩ => ⟨S_, .f32⟩
  | .hbm, ⟨24, _⟩ => ⟨S8192x3072, .f32⟩
  | .hbm, ⟨25, _⟩ => ⟨S8192x3072, .f32⟩
  | .hbm, ⟨26, _⟩ => ⟨S8192x3072, .f32⟩
  | .hbm, ⟨27, _⟩ => ⟨S8192x3x1024, .f32⟩
  | .hbm, ⟨28, _⟩ => ⟨S8192x1x1024, .f32⟩
  | .hbm, ⟨29, _⟩ => ⟨S8192x1024, .f32⟩
  | .hbm, ⟨30, _⟩ => ⟨S8192x1024, .f32⟩
  | .hbm, ⟨31, _⟩ => ⟨S8192x1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1x1024, .f32⟩
  | .hbm, ⟨42, _⟩ => ⟨S_, .f32⟩
  | .hbm, ⟨43, _⟩ => ⟨S8192x3x1024, .f32⟩
  | .hbm, ⟨44, _⟩ => ⟨S8192x1024, .f32⟩
  | .hbm, ⟨45, _⟩ => ⟨S8192x1024, .f32⟩
  | .hbm, ⟨46, _⟩ => ⟨S8192x1x1024, .f32⟩
  | .hbm, ⟨47, _⟩ => ⟨S_, .f32⟩
  | .hbm, ⟨48, _⟩ => ⟨S8192x3x1024, .f32⟩
  | .hbm, ⟨49, _⟩ => ⟨S8192x3x1024, .f32⟩
  | .hbm, ⟨50, _⟩ => ⟨S8192x1024, .f32⟩
  | .hbm, ⟨51, _⟩ => ⟨S8192x1024, .f32⟩
  | .hbm, ⟨52, _⟩ => ⟨S8192x1x1024, .f32⟩
  | .hbm, ⟨53, _⟩ => ⟨S_, .f32⟩
  | .hbm, ⟨54, _⟩ => ⟨S8192x3x1024, .f32⟩
  | .hbm, ⟨55, _⟩ => ⟨S8192x3x1024, .f32⟩
  | .hbm, ⟨56, _⟩ => ⟨S8192x3072, .f32⟩
  | .hbm, ⟨57, _⟩ => ⟨S8192x3072, .f32⟩
  | .hbm, ⟨58, _⟩ => ⟨S_, .f32⟩
  | .hbm, ⟨59, _⟩ => ⟨S3072, .f32⟩
  | .hbm, ⟨60, _⟩ => ⟨S1x3072, .f32⟩
  | .hbm, ⟨61, _⟩ => ⟨S_, .f32⟩
  | .hbm, ⟨62, _⟩ => ⟨S3072, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .bf16⟩
  | .hbm, ⟨67, _⟩ => ⟨S8192x1024, .bf16⟩
  | .hbm, ⟨68, _⟩ => ⟨S8192x1024, .bf16⟩
  | .hbm, ⟨69, _⟩ => ⟨S8192x1024, .bf16⟩
  | .hbm, ⟨70, _⟩ => ⟨S8192x1024, .bf16⟩
  | .hbm, ⟨71, _⟩ => ⟨S8192x1024, .bf16⟩
  | .hbm, ⟨72, _⟩ => ⟨S1024, .f32⟩
  | .hbm, ⟨73, _⟩ => ⟨S1x1024, .f32⟩
  | .hbm, ⟨74, _⟩ => ⟨S1024, .f32⟩
  | .hbm, ⟨75, _⟩ => ⟨S1x1024, .f32⟩
  | .hbm, ⟨76, _⟩ => ⟨S1024, .f32⟩
  | .hbm, ⟨77, _⟩ => ⟨S1x1024, .f32⟩
  | _, _ => ⟨S8192x8064, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_5 : Ref sig .tc := ⟨.hbm, 58, rfl⟩
abbrev main_v46 : Ref sig .tc := ⟨.hbm, 59, rfl⟩
abbrev main_v47 : Ref sig .tc := ⟨.hbm, 60, rfl⟩
abbrev main_cst_6 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩

abbrev nD : Nat := 1
abbrev τ : Topo := Topo.v7x

variable {F : FTy → Type} [FloatOps F]
-- ==== NormB.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v40 : BitVec 32 := Scalar.extui v36
  let c0_i32_16 : BitVec 32 := 0#32
  let v41 : BitVec 1 := Scalar.cmpi .ne v40 c0_i32_16
  v41

def k0_cond2 (i : grid0.Coords) : BitVec 1 :=
  let arg0 : BitVec 32 := BitVec.ofNat 32 (i 0).val
  let c0_i32 : BitVec 32 := 0#32
  let v36 : BitVec 1 := Scalar.cmpi .eq arg0 c0_i32
  let v_true : BitVec 1 := 1#1
  let v42 : BitVec 1 := Scalar.xori v36 v_true
  let v43 : BitVec 32 := Scalar.extui v42
  let c0_i32_17 : BitVec 32 := 0#32
  let v44 : BitVec 1 := Scalar.cmpi .ne v43 c0_i32_17
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Gates.lean ====
abbrev S8192x8064 : Shape := ⟨2, ![8192, 8064]⟩
abbrev S8192x1024 : Shape := ⟨2, ![8192, 1024]⟩
abbrev S3072 : Shape := ⟨1, ![3072]⟩
abbrev S3x1024 : Shape := ⟨2, ![3, 1024]⟩
abbrev S1x1024 : Shape := ⟨2, ![1, 1024]⟩
abbrev S512x1024 : Shape := ⟨2, ![512, 1024]⟩

abbrev nBuf : Space → Nat
  | .hbm => 10
  | .vmem => 17
  | .smem => 0
  | _ => 0

abbrev bufTy : (tb : Table) → Fin (tcTables nBuf tb) → BufTy
  | .hbm, ⟨0, _⟩ => ⟨S8192x8064, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S3072, .f32⟩
  | .hbm, ⟨5, _⟩ => ⟨S3x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | _, _ => ⟨S8192x8064, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== GatesRefIdeal.lean ====
abbrev S8192x8064 : Shape := ⟨2, ![8192, 8064]⟩
abbrev S8192x1024 : Shape := ⟨2, ![8192, 1024]⟩
abbrev S3072 : Shape := ⟨1, ![3072]⟩
abbrev S8192x3072 : Shape := ⟨2, ![8192, 3072]⟩
abbrev S1x3072 : Shape := ⟨2, ![1, 3072]⟩
abbrev S_ : Shape := ⟨0, ![]⟩
abbrev S8192x3x1024 : Shape := ⟨3, ![8192, 3, 1024]⟩
abbrev S8192x1x1024 : Shape := ⟨3, ![8192, 1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8192x8064, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S3072, .f32⟩
  | .hbm, ⟨5, _⟩ => ⟨S8192x3072, .bf16⟩
  | .hbm, ⟨6, _⟩ => ⟨S8192x3072, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S1x3072, .f32⟩
  | .hbm, ⟨11, _⟩ => ⟨S8192x3072, .f32⟩
  | .hbm, ⟨12, _⟩ => ⟨S8192x3072, .f32⟩
  | .hbm, ⟨13, _⟩ => ⟨S8192x3072, .f32⟩
  | .hbm, ⟨14, _⟩ => ⟨S8192x3072, .f32⟩
  | .hbm, ⟨15, _⟩ => ⟨S_, .f32⟩
  | .hbm, ⟨16, _⟩ => ⟨S8192x3072, .f32⟩
  | .hbm, ⟨17, _⟩ => ⟨S8192x3072, .f32⟩
  | .hbm, ⟨18, _⟩ => ⟨S_, .f32⟩
  | .hbm, ⟨19, _⟩ => ⟨S8192x3072, .f32⟩
  | .hbm, ⟨20, _⟩ => ⟨S8192x3072, .f32⟩
  | .hbm, ⟨21, _⟩ => ⟨S8192x3x1024, .f32⟩
  | .hbm, ⟨22, _⟩ => ⟨S8192x1x1024, .f32⟩
  | .hbm, ⟨23, _⟩ => ⟨S8192x1024, .f32⟩
  | .hbm, ⟨24, _⟩ => ⟨S8192x1024, .f32⟩
  | .hbm, ⟨25, _⟩ => ⟨S8192x1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .bf16⟩
  | _, _ => ⟨S8192x8064, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Norm.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== GateNorm.lean ====
abbrev S8x8192x128 : Shape := ⟨3, ![8, 8192, 128]⟩
abbrev S8192x8064 : Shape := ⟨2, ![8192, 8064]⟩
abbrev S1x128 : Shape := ⟨2, ![1, 128]⟩
abbrev S8192x512 : Shape := ⟨2, ![8192, 512]⟩
abbrev S1x2048x128 : Shape := ⟨3, ![1, 2048, 128]⟩
abbrev S2048x128 : Shape := ⟨2, ![2048, 128]⟩
abbrev S2048 : Shape := ⟨1, ![2048]⟩
abbrev S2048x1 : Shape := ⟨2, ![2048, 1]⟩

abbrev nBuf : Space → Nat
  | .hbm => 4
  | .vmem => 9
  | .smem => 0
  | _ => 0

abbrev bufTy : (tb : Table) → Fin (tcTables nBuf tb) → BufTy
  | .hbm, ⟨0, _⟩ => ⟨S8x8192x128, .f32⟩
  | .hbm, ⟨1, _⟩ => ⟨S8192x8064, .bf16⟩
  | .hbm, ⟨2, _⟩ => ⟨S1x128, .f32⟩
  | .hbm, ⟨3, _⟩ => ⟨S8192x512, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S2048x128, .bf16⟩
  | .local _ .vmem, ⟨5, _⟩ => ⟨S2048x128, .bf16⟩
  | .local _ .vmem, ⟨6, _⟩ => ⟨S1x128, .f32⟩
  | .local _ .vmem, ⟨7, _⟩ => ⟨S2048x128, .bf16⟩
  | .local _ .vmem, ⟨8, _⟩ => ⟨S2048x128, .bf16⟩
  | _, _ => ⟨S8x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c54_i32 : BitVec 32 := 54#32
  let v0 : BitVec 32 := Scalar.addi c54_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GateNormRefIdeal.lean ====
abbrev S8x8192x128 : Shape := ⟨3, ![8, 8192, 128]⟩
abbrev S8192x8064 : Shape := ⟨2, ![8192, 8064]⟩
abbrev S1x128 : Shape := ⟨2, ![1, 128]⟩
abbrev S4x8192x128 : Shape := ⟨3, ![4, 8192, 128]⟩
abbrev S8192x4x128 : Shape := ⟨3, ![8192, 4, 128]⟩
abbrev S8192x512 : Shape := ⟨2, ![8192, 512]⟩
abbrev S128 : Shape := ⟨1, ![128]⟩
abbrev S_ : Shape := ⟨0, ![]⟩
abbrev S8192x4 : Shape := ⟨2, ![8192, 4]⟩
abbrev S8192x4x1 : Shape := ⟨3, ![8192, 4, 1]⟩
abbrev S1x1x128 : Shape := ⟨3, ![1, 1, 128]⟩

abbrev nBuf : Space → Nat
  | .hbm => 39
  | .vmem => 0
  | .smem => 0
  | _ => 0

abbrev bufTy : (tb : Table) → Fin (tcTables nBuf tb) → BufTy
  | .hbm, ⟨0, _⟩ => ⟨S8x8192x128, .f32⟩
  | .hbm, ⟨1, _⟩ => ⟨S8192x8064, .bf16⟩
  | .hbm, ⟨2, _⟩ => ⟨S1x128, .f32⟩
  | .hbm, ⟨3, _⟩ => ⟨S4x8192x128, .f32⟩
  | .hbm, ⟨4, _⟩ => ⟨S4x8192x128, .f32⟩
  | .hbm, ⟨5, _⟩ => ⟨S4x8192x128, .f32⟩
  | .hbm, ⟨6, _⟩ => ⟨S8192x4x128, .f32⟩
  | .hbm, ⟨7, _⟩ => ⟨S8192x512, .bf16⟩
  | .hbm, ⟨8, _⟩ => ⟨S8192x512, .f32⟩
  | .hbm, ⟨9, _⟩ => ⟨S8192x4x128, .f32⟩
  | .hbm, ⟨10, _⟩ => ⟨S128, .f32⟩
  | .hbm, ⟨11, _⟩ => ⟨S8192x4x128, .f32⟩
  | .hbm, ⟨12, _⟩ => ⟨S_, .f32⟩
  | .hbm, ⟨13, _⟩ => ⟨S8192x4, .f32⟩
  | .hbm, ⟨14, _⟩ => ⟨S8192x4x1, .f32⟩
  | .hbm, ⟨15, _⟩ => ⟨S_, .f32⟩
  | .hbm, ⟨16, _⟩ => ⟨S8192x4x1, .f32⟩
  | .hbm, ⟨17, _⟩ => ⟨S8192x4x1, .f32⟩
  | .hbm, ⟨18, _⟩ => ⟨S_, .f32⟩
  | .hbm, ⟨19, _⟩ => ⟨S8192x4x1, .f32⟩
  | .hbm, ⟨20, _⟩ => ⟨S8192x4x1, .f32⟩
  | .hbm, ⟨21, _⟩ => ⟨S8192x4x1, .f32⟩
  | .hbm, ⟨22, _⟩ => ⟨S8192x4x128, .f32⟩
  | .hbm, ⟨23, _⟩ => ⟨S8192x4x128, .f32⟩
  | .hbm, ⟨24, _⟩ => ⟨S1x1x128, .f32⟩
  | .hbm, ⟨25, _⟩ => ⟨S8192x4x128, .f32⟩
  | .hbm, ⟨26, _⟩ => ⟨S8192x4x128, .f32⟩
  | .hbm, ⟨27, _⟩ => ⟨S8192x4x128, .f32⟩
  | .hbm, ⟨28, _⟩ => ⟨S8192x4x128, .f32⟩
  | .hbm, ⟨29, _⟩ => ⟨S_, .f32⟩
  | .hbm, ⟨30, _⟩ => ⟨S8192x4x128, .f32⟩
  | .hbm, ⟨31, _⟩ => ⟨S8192x4x128, .f32⟩
  | .hbm, ⟨32, _⟩ => ⟨S_, .f32⟩
  | .hbm, ⟨33, _⟩ => ⟨S8192x4x128, .f32⟩
  | .hbm, ⟨34, _⟩ => ⟨S8192x4x128, .f32⟩
  | .hbm, ⟨35, _⟩ => ⟨S8192x4x128, .f32⟩
  | .hbm, ⟨36, _⟩ => ⟨S8192x4x128, .f32⟩
  | .hbm, ⟨37, _⟩ => ⟨S8192x512, .f32⟩
  | .hbm, ⟨38, _⟩ => ⟨S8192x512, .bf16⟩
  | _, _ => ⟨S8x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Rope.lean ====
abbrev S8192x8064 : Shape := ⟨2, ![8192, 8064]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x4x64 : Shape := ⟨4, ![1, 2048, 4, 64]⟩
abbrev S2048x256 : Shape := ⟨2, ![2048, 256]⟩
abbrev S8192x256 : Shape := ⟨2, ![8192, 256]⟩
abbrev S512x256 : Shape := ⟨2, ![512, 256]⟩

abbrev nBuf : Space → Nat
  | .hbm => 36
  | .vmem => 40
  | .smem => 0
  | _ => 0

abbrev bufTy : (tb : Table) → Fin (tcTables nBuf tb) → BufTy
  | .hbm, ⟨0, _⟩ => ⟨S8192x8064, .bf16⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S2048, .f32⟩
  | .hbm, ⟨10, _⟩ => ⟨S2048x1, .f32⟩
  | .hbm, ⟨11, _⟩ => ⟨S1x32, .f32⟩
  | .hbm, ⟨12, _⟩ => ⟨S2048x32, .f32⟩
  | .hbm, ⟨13, _⟩ => ⟨S2048x32, .f32⟩
  | .hbm, ⟨14, _⟩ => ⟨S2048x32, .f32⟩
  | .hbm, ⟨15, _⟩ => ⟨S2048x32, .f32⟩
  | .hbm, ⟨16, _⟩ => ⟨S2048x32, .f32⟩
  | .hbm, ⟨17, _⟩ => ⟨S2048x64, .f32⟩
  | .hbm, ⟨18, _⟩ => ⟨S1x2048x1x64, .f32⟩
  | .hbm, ⟨19, _⟩ => ⟨S1x2048x4x64, .f32⟩
  | .hbm, ⟨20, _⟩ => ⟨S2048x256, .f32⟩
  | .hbm, ⟨21, _⟩ => ⟨S2048x32, .f32⟩
  | .hbm, ⟨22, _⟩ => ⟨S2048x32, .f32⟩
  | .hbm, ⟨23, _⟩ => ⟨S2048x64, .f32⟩
  | .hbm, ⟨24, _⟩ => ⟨S1x2048x1x64, .f32⟩
  | .hbm, ⟨25, _⟩ => ⟨S1x2048x4x64, .f32⟩
  | .hbm, ⟨26, _⟩ => ⟨S2048x256, .f32⟩
  | .hbm, ⟨27, _⟩ => ⟨S8192x256, .bf16⟩
  | .hbm, ⟨28, _⟩ => ⟨S8192x256, .bf16⟩
  | .hbm, ⟨29, _⟩ => ⟨S8192x256, .bf16⟩
  | .hbm, ⟨30, _⟩ => ⟨S8192x256, .bf16⟩
  | .hbm, ⟨31, _⟩ => ⟨S8192x256, .bf16⟩
  | .hbm, ⟨32, _⟩ => ⟨S8192x256, .bf16⟩
  | .hbm, ⟨33, _⟩ => ⟨S8192x256, .bf16⟩
  | .hbm, ⟨34, _⟩ => ⟨S8192x256, .bf16⟩
  | .hbm, ⟨35, _⟩ => ⟨S8192x256, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .bf16⟩
  | .local _ .vmem, ⟨23, _⟩ => ⟨S512x256, .bf16⟩
  | .local _ .vmem, ⟨24, _⟩ => ⟨S512x256, .bf16⟩
  | .local _ .vmem, ⟨25, _⟩ => ⟨S512x256, .bf16⟩
  | .local _ .vmem, ⟨26, _⟩ => ⟨S512x256, .bf16⟩
  | .local _ .vmem, ⟨27, _⟩ => ⟨S512x256, .bf16⟩
  | .local _ .vmem, ⟨28, _⟩ => ⟨S512x256, .bf16⟩
  | .local _ .vmem, ⟨29, _⟩ => ⟨S512x256, .bf16⟩
  | .local _ .vmem, ⟨30, _⟩ => ⟨S512x256, .bf16⟩
  | .local _ .vmem, ⟨31, _⟩ => ⟨S512x256, .bf16⟩
  | .local _ .vmem, ⟨32, _⟩ => ⟨S512x256, .bf16⟩
  | .local _ .vmem, ⟨33, _⟩ => ⟨S512x256, .bf16⟩
  | .local _ .vmem, ⟨34, _⟩ => ⟨S512x256, .bf16⟩
  | .local _ .vmem, ⟨35, _⟩ => ⟨S512x256, .bf16⟩
  | .local _ .vmem, ⟨36, _⟩ => ⟨S512x256, .bf16⟩
  | .local _ .vmem, ⟨37, _⟩ => ⟨S512x256, .bf16⟩
  | .local _ .vmem, ⟨38, _⟩ => ⟨S512x256, .bf16⟩
  | .local _ .vmem, ⟨39, _⟩ => ⟨S512x256, .bf16⟩
  | _, _ => ⟨S8192x8064, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24_0 : Ref sig .tc := ⟨.hbm, 27, rfl⟩
abbrev main_v24_1 : Ref sig .tc := ⟨.hbm, 28, rfl⟩
abbrev main_v24_2 : Ref sig .tc := ⟨.hbm, 29, rfl⟩
abbrev main_v24_3 : Ref sig .tc := ⟨.hbm, 30, rfl⟩
abbrev main_v24_4 : Ref sig .tc := ⟨.hbm, 31, rfl⟩
abbrev main_v24_5 : Ref sig .tc := ⟨.hbm, 32, rfl⟩
abbrev main_v24_6 : Ref sig .tc := ⟨.hbm, 33, rfl⟩
abbrev main_v24_7 : Ref sig .tc := ⟨.hbm, 34, rfl⟩
abbrev main_v24_8 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_1 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_2 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_3 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_4 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_5 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_6 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_7 (i : grid0.Coords) : Fin 2 → Nat :=
  let arg0 : BitVec 32 := BitVec.ofNat 32 (i 0).val
  let c19_i32 : BitVec 32 := 19#32
  let c0_i32 : BitVec 32 := 0#32
  ![arg0.toNat, c19_i32.toNat]

def cc0_transform_8 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== RopeRefIdeal.lean ====
abbrev S8192x8064 : Shape := ⟨2, ![8192, 8064]⟩
abbrev S8192x256 : Shape := ⟨2, ![8192, 256]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S4x2048x4x64 : Shape := ⟨4, ![4, 2048, 4, 64]⟩
abbrev S4x2048x4x32 : Shape := ⟨4, ![4, 2048, 4, 32]⟩
abbrev S1x2048x1x32 : Shape := ⟨4, ![1, 2048, 1, 32]⟩

abbrev nBuf : Space → Nat
  | .hbm => 170
  | .vmem => 0
  | .smem => 0
  | _ => 0

abbrev hbmTy0_0 (i : Nat) : BufTy := match i % 128 with
  | 0 => ⟨S8192x8064, .bf16⟩
  | 1 => ⟨S8192x256, .bf16⟩
  | 2 => ⟨S8192x256, .f32⟩
  | 3 => ⟨S8192x256, .bf16⟩
  | 4 => ⟨S8192x256, .f32⟩
  | 5 => ⟨S8192x256, .bf16⟩
  | 6 => ⟨S8192x256, .f32⟩
  | 7 => ⟨S8192x256, .bf16⟩
  | 8 => ⟨S8192x256, .f32⟩
  | 9 => ⟨S8192x256, .bf16⟩
  | 10 => ⟨S8192x256, .f32⟩
  | 11 => ⟨S8192x256, .bf16⟩
  | 12 => ⟨S8192x256, .f32⟩
  | 13 => ⟨S8192x256, .bf16⟩
  | 14 => ⟨S8192x256, .f32⟩
  | 15 => ⟨S8192x256, .bf16⟩
  | 16 => ⟨S8192x256, .f32⟩
  | 17 => ⟨S8192x256, .bf16⟩
  | 18 => ⟨S8192x256, .f32⟩
  | 19 => ⟨S32, .f32⟩
  | 20 => ⟨S32, .f32⟩
  | 21 => ⟨S_, .f32⟩
  | 22 => ⟨S32, .f32⟩
  | 23 => ⟨S32, .f32⟩
  | 24 => ⟨S_, .f32⟩
  | 25 => ⟨S32, .f32⟩
  | 26 => ⟨S32, .f32⟩
  | 27 => ⟨S2048, .i32⟩
  | 28 => ⟨S2048, .f32⟩
  | 29 => ⟨S2048x1, .f32⟩
  | 30 => ⟨S1x32, .f32⟩
  | 31 => ⟨S2048x32, .f32⟩
  | 32 => ⟨S2048x32, .f32⟩
  | 33 => ⟨S2048x32, .f32⟩
  | 34 => ⟨S2048x32, .f32⟩
  | 35 => ⟨S2048x1x32, .f32⟩
  | 36 => ⟨S2048x32, .f32⟩
  | 37 => ⟨S2048x1x32, .f32⟩
  | 38 => ⟨S4x2048x4x64, .f32⟩
  | 39 => ⟨S4x2048x4x32, .f32⟩
  | 40 => ⟨S4x2048x4x32, .f32⟩
  | 41 => ⟨S1x2048x1x32, .f32⟩
  | 42 => ⟨S4x2048x4x32, .f32⟩
  | 43 => ⟨S4x2048x4x32, .f32⟩
  | 44 => ⟨S1x2048x1x32, .f32⟩
  | 45 => ⟨S4x2048x4x32, .f32⟩
  | 46 => ⟨S4x2048x4x32, .f32⟩
  | 47 => ⟨S4x2048x4x32, .f32⟩
  | 48 => ⟨S1x2048x1x32, .f32⟩
  | 49 => ⟨S4x2048x4x32, .f32⟩
  | 50 => ⟨S4x2048x4x32, .f32⟩
  | 51 => ⟨S1x2048x1x32, .f32⟩
  | 52 => ⟨S4x2048x4x32, .f32⟩
  | 53 => ⟨S4x2048x4x32, .f32⟩
  | 54 => ⟨S4x2048x4x32, .f32⟩
  | 55 => ⟨S4x2048x4x64, .f32⟩
  | 56 => ⟨S8192x256, .f32⟩
  | 57 => ⟨S_, .f32⟩
  | 58 => ⟨S8192x256, .f32⟩
  | 59 => ⟨S8192x256, .f32⟩
  | 60 => ⟨S4x2048x4x64, .f32⟩
  | 61 => ⟨S4x2048x4x32, .f32⟩
  | 62 => ⟨S4x2048x4x32, .f32⟩
  | 63 => ⟨S1x2048x1x32, .f32⟩
  | 64 => ⟨S4x2048x4x32, .f32⟩
  | 65 => ⟨S4x2048x4x32, .f32⟩
  | 66 => ⟨S1x2048x1x32, .f32⟩
  | 67 => ⟨S4x2048x4x32, .f32⟩
  | 68 => ⟨S4x2048x4x32, .f32⟩
  | 69 => ⟨S4x2048x4x32, .f32⟩
  | 70 => ⟨S1x2048x1x32, .f32⟩
  | 71 => ⟨S4x2048x4x32, .f32⟩
  | 72 => ⟨S4x2048x4x32, .f32⟩
  | 73 => ⟨S1x2048x1x32, .f32⟩
  | 74 => ⟨S4x2048x4x32, .f32⟩
  | 75 => ⟨S4x2048x4x32, .f32⟩
  | 76 => ⟨S4x2048x4x32, .f32⟩
  | 77 => ⟨S4x2048x4x64, .f32⟩
  | 78 => ⟨S8192x256, .f32⟩
  | 79 => ⟨S_, .f32⟩
  | 80 => ⟨S8192x256, .f32⟩
  | 81 => ⟨S8192x256, .f32⟩
  | 82 => ⟨S4x2048x4x64, .f32⟩
  | 83 => ⟨S4x2048x4x32, .f32⟩
  | 84 => ⟨S4x2048x4x32, .f32⟩
  | 85 => ⟨S1x2048x1x32, .f32⟩
  | 86 => ⟨S4x2048x4x32, .f32⟩
  | 87 => ⟨S4x2048x4x32, .f32⟩
  | 88 => ⟨S1x2048x1x32, .f32⟩
  | 89 => ⟨S4x2048x4x32, .f32⟩
  | 90 => ⟨S4x2048x4x32, .f32⟩
  | 91 => ⟨S4x2048x4x32, .f32⟩
  | 92 => ⟨S1x2048x1x32, .f32⟩
  | 93 => ⟨S4x2048x4x32, .f32⟩
  | 94 => ⟨S4x2048x4x32, .f32⟩
  | 95 => ⟨S1x2048x1x32, .f32⟩
  | 96 => ⟨S4x2048x4x32, .f32⟩
  | 97 => ⟨S4x2048x4x32, .f32⟩
  | 98 => ⟨S4x2048x4x32, .f32⟩
  | 99 => ⟨S4x2048x4x64, .f32⟩
  | 100 => ⟨S8192x256, .f32⟩
  | 101 => ⟨S_, .f32⟩
  | 102 => ⟨S8192x256, .f32⟩
  | 103 => ⟨S8192x256, .f32⟩
  | 104 => ⟨S4x2048x4x64, .f32⟩
  | 105 => ⟨S4x2048x4x32, .f32⟩
  | 106 => ⟨S4x2048x4x32, .f32⟩
  | 107 => ⟨S1x2048x1x32, .f32⟩
  | 108 => ⟨S4x2048x4x32, .f32⟩
  | 109 => ⟨S4x2048x4x32, .f32⟩
  | 110 => ⟨S1x2048x1x32, .f32⟩
  | 111 => ⟨S4x2048x4x32, .f32⟩
  | 112 => ⟨S4x2048x4x32, .f32⟩
  | 113 => ⟨S4x2048x4x32, .f32⟩
  | 114 => ⟨S1x2048x1x32, .f32⟩
  | 115 => ⟨S4x2048x4x32, .f32⟩
  | 116 => ⟨S4x2048x4x32, .f32⟩
  | 117 => ⟨S1x2048x1x32, .f32⟩
  | 118 => ⟨S4x2048x4x32, .f32⟩
  | 119 => ⟨S4x2048x4x32, .f32⟩
  | 120 => ⟨S4x2048x4x32, .f32⟩
  | 121 => ⟨S4x2048x4x64, .f32⟩
  | 122 => ⟨S8192x256, .f32⟩
  | 123 => ⟨S4x2048x4x64, .f32⟩
  | 124 => ⟨S4x2048x4x32, .f32⟩
  | 125 => ⟨S4x2048x4x32, .f32⟩
  | 126 => ⟨S1x2048x1x32, .f32⟩
  | 127 => ⟨S4x2048x4x32, .f32⟩
  | _ => ⟨S8192x8064, .bf16⟩

abbrev hbmTy0_1 (i : Nat) : BufTy := match i % 128 with
  | 0 => ⟨S4x2048x4x32, .f32⟩
  | 1 => ⟨S1x2048x1x32, .f32⟩
  | 2 => ⟨S4x2048x4x32, .f32⟩
  | 3 => ⟨S4x2048x4x32, .f32⟩
  | 4 => ⟨S4x2048x4x32, .f32⟩
  | 5 => ⟨S1x2048x1x32, .f32⟩
  | 6 => ⟨S4x2048x4x32, .f32⟩
  | 7 => ⟨S4x2048x4x32, .f32⟩
  | 8 => ⟨S1x2048x1x32, .f32⟩
  | 9 => ⟨S4x2048x4x32, .f32⟩
  | 10 => ⟨S4x2048x4x32, .f32⟩
  | 11 => ⟨S4x2048x4x32, .f32⟩
  | 12 => ⟨S4x2048x4x64, .f32⟩
  | 13 => ⟨S8192x256, .f32⟩
  | 14 => ⟨S4x2048x4x64, .f32⟩
  | 15 => ⟨S4x2048x4x32, .f32⟩
  | 16 => ⟨S4x2048x4x32, .f32⟩
  | 17 => ⟨S1x2048x1x32, .f32⟩
  | 18 => ⟨S4x2048x4x32, .f32⟩
  | 19 => ⟨S4x2048x4x32, .f32⟩
  | 20 => ⟨S1x2048x1x32, .f32⟩
  | 21 => ⟨S4x2048x4x32, .f32⟩
  | 22 => ⟨S4x2048x4x32, .f32⟩
  | 23 => ⟨S4x2048x4x32, .f32⟩
  | 24 => ⟨S1x2048x1x32, .f32⟩
  | 25 => ⟨S4x2048x4x32, .f32⟩
  | 26 => ⟨S4x2048x4x32, .f32⟩
  | 27 => ⟨S1x2048x1x32, .f32⟩
  | 28 => ⟨S4x2048x4x32, .f32⟩
  | 29 => ⟨S4x2048x4x32, .f32⟩
  | 30 => ⟨S4x2048x4x32, .f32⟩
  | 31 => ⟨S4x2048x4x64, .f32⟩
  | 32 => ⟨S8192x256, .f32⟩
  | 33 => ⟨S8192x256, .bf16⟩
  | 34 => ⟨S8192x256, .bf16⟩
  | 35 => ⟨S8192x256, .bf16⟩
  | 36 => ⟨S8192x256, .bf16⟩
  | 37 => ⟨S8192x256, .bf16⟩
  | 38 => ⟨S8192x256, .bf16⟩
  | 39 => ⟨S8192x256, .bf16⟩
  | 40 => ⟨S8192x256, .bf16⟩
  | 41 => ⟨S8192x256, .bf16⟩
  | _ => ⟨S8192x8064, .bf16⟩

abbrev hbmTy (i : Nat) : BufTy := match i / 128 with
  | 0 => hbmTy0_0 i
  | 1 => hbmTy0_1 i
  | _ => ⟨S8192x8064, .bf16⟩

abbrev bufTy : (tb : Table) → Fin (tcTables nBuf tb) → BufTy
  | .hbm, ⟨i, _⟩ => hbmTy i
  | _, _ => ⟨S8192x8064, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_cst : Ref sig .tc := ⟨.hbm, 21, rfl⟩
abbrev main_v20 : Ref sig .tc := ⟨.hbm, 22, rfl⟩
abbrev main_v21 : Ref sig .tc := ⟨.hbm, 23, rfl⟩
abbrev main_cst_0 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_cst_1 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_cst_2 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_cst_3 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩

abbrev nD : Nat := 1
abbrev τ : Topo := Topo.v7x

variable {F : FTy → Type} [FloatOps F]
-- ==== LossHead.lean ====
abbrev S8192x1024 : Shape := ⟨2, ![8192, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8x128, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v61 : BitVec 1 := Scalar.cmpi .eq arg0 c0_i32
  let v62 : BitVec 32 := Scalar.extui v61
  let c0_i32_22 : BitVec 32 := 0#32
  let v63 : BitVec 1 := Scalar.cmpi .ne v62 c0_i32_22
  v63

def k0_cond2 (i : grid0.Coords) : BitVec 1 :=
  let arg0 : BitVec 32 := BitVec.ofNat 32 (i 0).val
  let c0_i32_23 : BitVec 32 := 0#32
  let v64 : BitVec 1 := Scalar.cmpi .ne arg0 c0_i32_23
  let v65 : BitVec 32 := Scalar.extui v64
  let c0_i32_24 : BitVec 32 := 0#32
  let v66 : BitVec 1 := Scalar.cmpi .ne v65 c0_i32_24
  v66

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8x128 : Shape := ⟨2, ![8, 128]⟩

abbrev nBuf : Space → Nat
  | .hbm => 74
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8x128, .f32⟩
  | .hbm, ⟨73, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== AdamW.lean ====
abbrev S8x4x352x1024 : Shape := ⟨4, ![8, 4, 352, 1024]⟩
abbrev S4x352x1024 : Shape := ⟨3, ![4, 352, 1024]⟩
abbrev S1408x1024 : Shape := ⟨2, ![1408, 1024]⟩
abbrev S8x1408x1024 : Shape := ⟨3, ![8, 1408, 1024]⟩
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 12
  | .vmem => 16
  | .smem => 0
  | _ => 0

abbrev bufTy : (tb : Table) → Fin (tcTables nBuf tb) → BufTy
  | .hbm, ⟨0, _⟩ => ⟨S8x4x352x1024, .bf16⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S8x1408x1024, .bf16⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S1408x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S8x4x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWRefIdeal.lean ====
abbrev S8x4x352x1024 : Shape := ⟨4, ![8, 4, 352, 1024]⟩
abbrev S4x352x1024 : Shape := ⟨3, ![4, 352, 1024]⟩
abbrev S_ : Shape := ⟨0, ![]⟩
abbrev S1408x1024 : Shape := ⟨2, ![1408, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8x4x352x1024, .bf16⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S8x4x352x1024, .f32⟩
  | .hbm, ⟨5, _⟩ => ⟨S_, .f32⟩
  | .hbm, ⟨6, _⟩ => ⟨S4x352x1024, .f32⟩
  | .hbm, ⟨7, _⟩ => ⟨S_, .f32⟩
  | .hbm, ⟨8, _⟩ => ⟨S4x352x1024, .f32⟩
  | .hbm, ⟨9, _⟩ => ⟨S4x352x1024, .f32⟩
  | .hbm, ⟨10, _⟩ => ⟨S_, .f32⟩
  | .hbm, ⟨11, _⟩ => ⟨S4x352x1024, .f32⟩
  | .hbm, ⟨12, _⟩ => ⟨S4x352x1024, .f32⟩
  | .hbm, ⟨13, _⟩ => ⟨S4x352x1024, .f32⟩
  | .hbm, ⟨14, _⟩ => ⟨S_, .f32⟩
  | .hbm, ⟨15, _⟩ => ⟨S4x352x1024, .f32⟩
  | .hbm, ⟨16, _⟩ => ⟨S4x352x1024, .f32⟩
  | .hbm, ⟨17, _⟩ => ⟨S4x352x1024, .f32⟩
  | .hbm, ⟨18, _⟩ => ⟨S_, .f32⟩
  | .hbm, ⟨19, _⟩ => ⟨S4x352x1024, .f32⟩
  | .hbm, ⟨20, _⟩ => ⟨S4x352x1024, .f32⟩
  | .hbm, ⟨21, _⟩ => ⟨S4x352x1024, .f32⟩
  | .hbm, ⟨22, _⟩ => ⟨S_, .f32⟩
  | .hbm, ⟨23, _⟩ => ⟨S4x352x1024, .f32⟩
  | .hbm, ⟨24, _⟩ => ⟨S4x352x1024, .f32⟩
  | .hbm, ⟨25, _⟩ => ⟨S_, .f32⟩
  | .hbm, ⟨26, _⟩ => ⟨S4x352x1024, .f32⟩
  | .hbm, ⟨27, _⟩ => ⟨S4x352x1024, .f32⟩
  | .hbm, ⟨28, _⟩ => ⟨S4x352x1024, .f32⟩
  | .hbm, ⟨29, _⟩ => ⟨S_, .f32⟩
  | .hbm, ⟨30, _⟩ => ⟨S4x352x1024, .f32⟩
  | .hbm, ⟨31, _⟩ => ⟨S4x352x1024, .f32⟩
  | .hbm, ⟨32, _⟩ => ⟨S4x352x1024, .f32⟩
  | .hbm, ⟨33, _⟩ => ⟨S_, .f32⟩
  | .hbm, ⟨34, _⟩ => ⟨S4x352x1024, .f32⟩
  | .hbm, ⟨35, _⟩ => ⟨S4x352x1024, .f32⟩
  | .hbm, ⟨36, _⟩ => ⟨S4x352x1024, .f32⟩
  | .hbm, ⟨37, _⟩ => ⟨S_, .f32⟩
  | .hbm, ⟨38, _⟩ => ⟨S4x352x1024, .f32⟩
  | .hbm, ⟨39, _⟩ => ⟨S4x352x1024, .f32⟩
  | .hbm, ⟨40, _⟩ => ⟨S1408x1024, .f32⟩
  | .hbm, ⟨41, _⟩ => ⟨S1408x1024, .f32⟩
  | .hbm, ⟨42, _⟩ => ⟨S1408x1024, .f32⟩
  | .hbm, ⟨43, _⟩ => ⟨S1408x1024, .f32⟩
  | _, _ => ⟨S8x4x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== ProjBa.lean ====
abbrev S8192x1024 : Shape := ⟨2, ![8192, 1024]⟩
abbrev S1024x3072 : Shape := ⟨2, ![1024, 3072]⟩
abbrev S1024x4880 : Shape := ⟨2, ![1024, 4880]⟩
abbrev S1024x2304 : Shape := ⟨2, ![1024, 2304]⟩
abbrev S1024x1536 : Shape := ⟨2, ![1024, 1536]⟩
abbrev S1024x512 : Shape := ⟨2, ![1024, 512]⟩
abbrev S1024x16 : Shape := ⟨2, ![1024, 16]⟩
abbrev S_ : Shape := ⟨0, ![]⟩
abbrev S1024x112 : Shape := ⟨2, ![1024, 112]⟩
abbrev S1024x8064 : Shape := ⟨2, ![1024, 8064]⟩
abbrev S1024x128 : Shape := ⟨2, ![1024, 128]⟩
abbrev S8192x128 : Shape := ⟨2, ![8192, 128]⟩
abbrev S1024x1024 : Shape := ⟨2, ![1024, 1024]⟩

abbrev nBuf : Space → Nat
  | .hbm => 14
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .f32⟩
  | .hbm, ⟨2, _⟩ => ⟨S1024x4880, .f32⟩
  | .hbm, ⟨3, _⟩ => ⟨S1024x2304, .f32⟩
  | .hbm, ⟨4, _⟩ => ⟨S1024x1536, .f32⟩
  | .hbm, ⟨5, _⟩ => ⟨S1024x512, .f32⟩
  | .hbm, ⟨6, _⟩ => ⟨S1024x512, .f32⟩
  | .hbm, ⟨7, _⟩ => ⟨S1024x16, .f32⟩
  | .hbm, ⟨8, _⟩ => ⟨S_, .f32⟩
  | .hbm, ⟨9, _⟩ => ⟨S1024x112, .f32⟩
  | .hbm, ⟨10, _⟩ => ⟨S1024x8064, .f32⟩
  | .hbm, ⟨11, _⟩ => ⟨S1024x8064, .bf16⟩
  | .hbm, ⟨12, _⟩ => ⟨S1024x128, .bf16⟩
  | .hbm, ⟨13, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBaRefIdeal.lean ====
abbrev S8192x1024 : Shape := ⟨2, ![8192, 1024]⟩
abbrev S1024x3072 : Shape := ⟨2, ![1024, 3072]⟩
abbrev S1024x4880 : Shape := ⟨2, ![1024, 4880]⟩
abbrev S8192x4880 : Shape := ⟨2, ![8192, 4880]⟩
abbrev S8192x16 : Shape := ⟨2, ![8192, 16]⟩
abbrev S_ : Shape := ⟨0, ![]⟩
abbrev S8192x128 : Shape := ⟨2, ![8192, 128]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .f32⟩
  | .hbm, ⟨2, _⟩ => ⟨S1024x4880, .f32⟩
  | .hbm, ⟨3, _⟩ => ⟨S8192x1024, .f32⟩
  | .hbm, ⟨4, _⟩ => ⟨S8192x4880, .f32⟩
  | .hbm, ⟨5, _⟩ => ⟨S8192x16, .f32⟩
  | .hbm, ⟨6, _⟩ => ⟨S_, .i32⟩
  | .hbm, ⟨7, _⟩ => ⟨S_, .f32⟩
  | .hbm, ⟨8, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Proof.DnOutValue.lean ====
/-
  The gradient of the gated RMS norm behind the DeltaNet heads: what the kernel `dnout_b` leaves in its four results, and
  that the reference's vector-Jacobian product is the same four arrays.

  A row is one head of one token, 128 numbers. `dRow`, `dGate` and `dGain` say what the gradient of one row is, in the
  scans' summed outputs, in the gate and in the gain; the kernel's payloads are these functions of its blocks' rows
  (`pay_row`, `pay_gate`, `pay_gain`), and so are the reference's composed terms of the arguments' rows (`ref_gradO`,
  `ref_gradZ`, `ref_gradG`). The gain's gradient is summed over the sixteen grid points by the kernel and over the 32768
  rows at once by the reference (`sum_rows`). The derivative of the sigmoid is written two ways (`sigm_deriv`).
  No hypothesis on the arguments: every step holds at the infinities too.
-/
module

public import proofs.«01_k».proof.Proof.Gen.DnOutIdeal.Value
public import proofs.«01_k».proof.Proof.Gen.DnOutRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DnOutIdeal.Value

open Cert.DnOutIdeal Cert.DnOutIdeal.Gen

variable (m : (ℓ : Loc nD τ sig) → Buf (Elt Ideal) ℓ) (ρ : Dev nD → PrngReg)

/-! ## One row of the gradient, as a function of the row -/

/-- The mean of the squares of a row of 128, plus the printed ε. -/
def meanSq (x : Fin 128 → EReal) : EReal :=
  Ideal.div (∑ l, x l * x l) (Ideal.ofBits .f32 0x43000000#32) + Ideal.ofBits .f32 0x358637BD#32

/-- `1 / (1 + e^(-z))`. -/
def sigm (z : EReal) : EReal := Ideal.div 1 (1 + Ideal.exp (-z))

/-- The cotangent of the normed row: what comes in, times `silu z`. -/
def dNorm (z ct : Fin 128 → EReal) (l : Fin 128) : EReal := ct l * (z l * sigm (z l))

/-- The part of the row's gradient that comes through the mean of the squares, before the factor `x`. -/
def dMean (x g z ct : Fin 128 → EReal) : EReal :=
  Ideal.div ((∑ l, x l * (dNorm z ct l * g l))
    * (Ideal.ofBits .f32 0xBF000000#32 * Ideal.div (Ideal.rsqrt (meanSq x)) (meanSq x))) (Ideal.ofBits .f32 0x43000000#32)

/-- The gradient in the row `x`. -/
def dRow (x g z ct : Fin 128 → EReal) (l : Fin 128) : EReal :=
  dNorm z ct l * g l * Ideal.rsqrt (meanSq x) + x l * dMean x g z ct + dMean x g z ct * x l

/-- The gradient in the gate `z`: that of `silu` times the normed row and the cotangent. -/
def dGate (x g z ct : Fin 128 → EReal) (l : Fin 128) : EReal :=
  x l * Ideal.rsqrt (meanSq x) * g l * ct l * sigm (z l)
    + z l * (x l * Ideal.rsqrt (meanSq x) * g l * ct l) * (sigm (z l) * (1 - sigm (z l)))

/-- A row's part of the gradient in the gain. -/
def dGain (x z ct : Fin 128 → EReal) (l : Fin 128) : EReal := x l * Ideal.rsqrt (meanSq x) * dNorm z ct l

/-- The derivative of the sigmoid as the kernel writes it, `e^(-z) / (1 + e^(-z))²` under two negations, is `σ (1 - σ)`,
    at the infinities too. -/
theorem sigm_deriv (A z : EReal) :
    0 - (0 - A * Ideal.div 1 ((1 + Ideal.exp (-z)) * (1 + Ideal.exp (-z)))) * Ideal.exp (-z)
      = A * (sigm z * (1 - sigm z)) := by
  rw [zero_sub, zero_sub, EReal.neg_mul, neg_neg, mul_assoc]
  congr 1
  unfold sigm
  induction z using EReal.rec with
  | bot =>
    have h1 : (1 : EReal) + ⊤ = ⊤ := EReal.add_top_of_ne_bot (by decide)
    have h2 : Ideal.div 1 ⊤ = 0 := by simp [Ideal.div]
    rw [EReal.neg_bot, show Ideal.exp ⊤ = ⊤ from rfl, h1, EReal.top_mul_top, h2, zero_mul, zero_mul]
  | top =>
    rw [EReal.neg_top, show Ideal.exp ⊥ = 0 from rfl]
    simp only [add_zero, mul_one, mul_zero]
    have h1 : Ideal.div 1 1 = 1 := by simp [Ideal.div]
    have h2 : (1 : EReal) - 1 = 0 := by rw [← EReal.coe_one, ← EReal.coe_sub, sub_self, EReal.coe_zero]
    rw [h1, h2, mul_zero]
  | coe r =>
    have he : Ideal.exp (-(r : EReal)) = ((Real.exp (-r) : ℝ) : EReal) := rfl
    rw [he]
    generalize hq : Real.exp (-r) = q
    have h0 : 0 < q := hq ▸ Real.exp_pos _
    have h1 : (1 + q) ≠ 0 := by positivity
    have h2 : (1 : EReal) + (q : EReal) = ((1 + q : ℝ) : EReal) := by norm_cast
    have h3 : ∀ y : ℝ, y ≠ 0 → Ideal.div 1 (y : EReal) = ((y⁻¹ : ℝ) : EReal) := fun y hy => by
      unfold Ideal.div
      rw [if_neg (by exact_mod_cast hy), one_mul, EReal.coe_inv]
    rw [h2, ← EReal.coe_mul, h3 _ (mul_ne_zero h1 h1), h3 _ h1]
    have h4 : (1 : EReal) - (((1 + q)⁻¹ : ℝ) : EReal) = ((1 - (1 + q)⁻¹ : ℝ) : EReal) := by norm_cast
    rw [h4, ← EReal.coe_mul, ← EReal.coe_mul]
    congr 1
    field_simp
    ring

/-! ## The payloads are these functions of the rows of the blocks -/

section Payloads

variable (a b : FVec Ideal S1x2048x128 .f32) (z : Vec Ideal S2048x128 .bf16) (g : Vec Ideal S1x128 .f32)
  (ct : Vec Ideal S2048x128 .f32)

theorem pay_row (u : Fin 1) (r : Fin 2048) (l : Fin 128) :
    k0_pay17 g (k0_pay3 a b) (k0_pay5 a b) (k0_pay6 a b) (k0_pay13 z ct) (ix3 u r l)
      = dRow (fun l => a (ix3 0 r l) + b (ix3 0 r l)) (fun l => g (ix2 0 l)) (fun l => z (ix2 r l)) (fun l => ct (ix2 r l)) l := by
  unfold dRow dMean dNorm meanSq sigm
  pointwise [k0_pay17, k0_pay16, k0_pay3, k0_pay5, k0_pay6, k0_pay13, k0_pay4, k0_pay10, k0_pay9, k0_pay8, k0_pay2]
  simp only [zero_sub, Fin.sum_univ_one, Finset.univ_unique, Finset.sum_const, Finset.card_singleton, one_smul]

theorem pay_row' (u : Fin 1) (r : Fin 2048) (l : Fin 128) :
    k0_pay18 g (k0_pay3 a b) (k0_pay5 a b) (k0_pay6 a b) (k0_pay13 z ct) (ix3 u r l)
      = dRow (fun l => a (ix3 0 r l) + b (ix3 0 r l)) (fun l => g (ix2 0 l)) (fun l => z (ix2 r l)) (fun l => ct (ix2 r l)) l :=
  pay_row a b z g ct u r l

theorem pay_gate (r : Fin 2048) (l : Fin 128) :
    k0_pay19 (k0_pay8 z) (k0_pay10 z) (k0_pay11 z) (k0_pay12 a b g ct) (k0_pay14 a b z g ct) (ix2 r l)
      = dGate (fun l => a (ix3 0 r l) + b (ix3 0 r l)) (fun l => g (ix2 0 l)) (fun l => z (ix2 r l)) (fun l => ct (ix2 r l)) l := by
  unfold dGate
  rw [← sigm_deriv]
  unfold meanSq sigm
  pointwise [k0_pay19, k0_pay3, k0_pay5, k0_pay7, k0_pay11, k0_pay12, k0_pay14, k0_pay4, k0_pay10, k0_pay9, k0_pay8, k0_pay2]
  simp only [zero_sub]

theorem pay_gain (u : Fin 1) (l : Fin 128) :
    k0_pay15 (k0_pay7 a b) (k0_pay13 z ct) (ix2 u l)
      = ∑ r : Fin 2048, dGain (fun l => a (ix3 0 r l) + b (ix3 0 r l)) (fun l => z (ix2 r l)) (fun l => ct (ix2 r l)) l := by
  unfold dGain dNorm meanSq sigm
  pointwise [k0_pay15, k0_pay3, k0_pay5, k0_pay7, k0_pay13, k0_pay4, k0_pay10, k0_pay9, k0_pay8, k0_pay2]
  simp only [zero_sub]

end Payloads

/-! ## The same rows in the arguments -/

section Rows

variable (O : FVec Ideal S8x8192x128 .f32) (P : Vec Ideal S8192x8064 .bf16) (g : Vec Ideal S1x128 .f32) (ct : Vec Ideal S8192x512 .f32)

/-- Head `h`'s row of token `t`: the forward and the backward scan's outputs added. -/
def rowO (h : Fin 4) (t : Fin 8192) (l : Fin 128) : EReal := O (ix3 ⟨h.val, by omega⟩ t l) + O (ix3 ⟨4 + h.val, by omega⟩ t l)
def rowZ (h : Fin 4) (t : Fin 8192) (l : Fin 128) : EReal := P (ix2 t ⟨6912 + (h.val * 128 + l.val), by omega⟩)
def rowG (l : Fin 128) : EReal := g (ix2 0 l)
def rowC (h : Fin 4) (t : Fin 8192) (l : Fin 128) : EReal := ct (ix2 t ⟨h.val * 128 + l.val, by omega⟩)

/-- The gradient in the two scans' outputs, one array for both. -/
def gradO : FVec Ideal S4x8192x128 .f32 := fun i =>
  dRow (rowO O (i 0) (i 1)) (rowG g) (rowZ P (i 0) (i 1)) (rowC ct (i 0) (i 1)) (i 2)

/-- The gradient in the gate's columns. -/
def gradZ : Vec Ideal S8192x512 .bf16 := fun i =>
  have h : Fin 4 := ⟨(i 1).val / 128, by have : (i 1).val < 512 := (i 1).isLt; omega⟩
  dGate (rowO O h (i 0)) (rowG g) (rowZ P h (i 0)) (rowC ct h (i 0)) ⟨(i 1).val % 128, Nat.mod_lt _ (by decide)⟩

/-- The gradient in the gain: the sum over all heads' rows, row `4 t + h` being head `h` of token `t`. -/
def gradG : FVec Ideal S1x128 .f32 := fun i =>
  ∑ n : Fin 32768, dGain (rowO O ⟨n.val % 4, by omega⟩ ⟨n.val / 4, by omega⟩) (rowZ P ⟨n.val % 4, by omega⟩ ⟨n.val / 4, by omega⟩)
    (rowC ct ⟨n.val % 4, by omega⟩ ⟨n.val / 4, by omega⟩) (i 1)

end Rows

/-! ## The reference's results are these arrays -/

section Reference

open Cert.DnOutRefIdeal.Read

variable (O : FVec Ideal S8x8192x128 .f32) (P : Vec Ideal S8192x8064 .bf16) (g : Vec Ideal S1x128 .f32) (ct : Vec Ideal S8192x512 .f32)

theorem ref_gradO : val_main_v54 (F := Ideal) O P g ct = gradO O P g ct := by
  funext i
  idx_vars i
  unfold gradO rowO rowG rowZ rowC dRow dMean dNorm meanSq sigm
  pointwise [val_main_v0, val_main_v1, val_main_v2, val_main_v3, val_main_v4, val_main_v5, val_main_v6, val_main_v7,
    val_main_v8, val_main_cst, val_main_v9, val_main_v10, val_main_cst_0, val_main_v11, val_main_v12,
    val_main_cst_1, val_main_v13, val_main_v14, val_main_v15, val_main_v16, val_main_cst_2, val_main_v17,
    val_main_v18, val_main_v19, val_main_v20, val_main_v21, val_main_v22, val_main_v23, val_main_v24,
    val_main_call0_v0, val_main_call0_v1, val_main_call0_cst, val_main_call0_v2, val_main_call0_v3,
    val_main_call0_cst_0, val_main_call0_v4, val_main_v25_2, val_main_call0_cst_1, val_main_call0_v6,
    val_main_call0_v7, val_main_v25_1, val_main_v25_0, val_main_v26, val_main_v27, val_main_v28, val_main_v29,
    val_main_v30, val_main_cst_3, val_main_v36, val_main_v37, val_main_cst_4, val_main_v39, val_main_cst_5,
    val_main_v40, val_main_v41, val_main_v42, val_main_v43, val_main_v44, val_main_cst_6, val_main_v45,
    val_main_v46, val_main_cst_7, val_main_v47, val_main_v48, val_main_v49, val_main_v50, val_main_v51,
    val_main_v52, val_main_v53, val_main_v54]
  simp only [Nat.reduceMul, zero_add, Fin.sum_univ_one, Finset.univ_unique, Finset.sum_const, Finset.card_singleton, one_smul]
  have e1 : (i1.val * 4 + i0.val) % 4 = i0.val := by omega
  simp only [e1]

theorem ref_gradZ : val_main_v55 (F := Ideal) O P g ct = gradZ O P g ct := by
  funext i
  idx_vars i
  unfold gradZ rowO rowG rowZ rowC dGate meanSq sigm
  pointwise [val_main_v0, val_main_v1, val_main_v2, val_main_v3, val_main_v4, val_main_v5, val_main_v6, val_main_v7,
    val_main_v8, val_main_cst, val_main_v9, val_main_v10, val_main_cst_0, val_main_v11, val_main_v12,
    val_main_cst_1, val_main_v13, val_main_v14, val_main_v15, val_main_v16, val_main_cst_2, val_main_v17,
    val_main_v18, val_main_v19, val_main_v20, val_main_v21, val_main_v22, val_main_v23, val_main_v24,
    val_main_call0_v0, val_main_call0_v1, val_main_call0_cst, val_main_call0_v2, val_main_call0_v3,
    val_main_call0_cst_0, val_main_call0_v4, val_main_v25_2, val_main_call0_cst_1, val_main_call0_v6,
    val_main_call0_v7, val_main_v25_1, val_main_v25_0, val_main_v26, val_main_v27, val_main_v28, val_main_v29,
    val_main_v30, val_main_call1_v0, val_main_call1_v1, val_main_call1_v2, val_main_v31, val_main_v32,
    val_main_v33, val_main_cst_3, val_main_v34, val_main_v35, val_main_v36, val_main_v37, val_main_cst_4,
    val_main_v38, val_main_v39, val_main_cst_5, val_main_v40, val_main_v41, val_main_v42, val_main_v43,
    val_main_v44, val_main_cst_6, val_main_v45, val_main_v46, val_main_cst_7, val_main_v47, val_main_v48,
    val_main_v49, val_main_v50, val_main_v51, val_main_v52, val_main_v53, val_main_v54, val_main_v55,
    val_main_v56]
  have e1 : (i0.val * 4 + i1.val / 128) % 4 = i1.val / 128 := by omega
  have e2 : i1.val / 128 * 128 + i1.val % 128 = i1.val := by omega
  simp only [e1, e2]

theorem ref_gradG : val_main_v56 (F := Ideal) O P ct = gradG O P ct := by
  funext i
  idx_vars i
  unfold gradG rowO rowZ rowC dGain dNorm meanSq sigm
  pointwise [val_main_v0, val_main_v1, val_main_v2, val_main_v3, val_main_v4, val_main_v5, val_main_v6, val_main_v7,
    val_main_v8, val_main_cst, val_main_v9, val_main_v10, val_main_cst_0, val_main_v11, val_main_v12,
    val_main_cst_1, val_main_v13, val_main_v14, val_main_v15, val_main_v16, val_main_cst_2, val_main_v17,
    val_main_v18, val_main_v19, val_main_v20, val_main_v21, val_main_v22, val_main_v23, val_main_v24,
    val_main_call0_v0, val_main_call0_v1, val_main_call0_cst, val_main_call0_v2, val_main_call0_v3,
    val_main_call0_cst_0, val_main_call0_v4, val_main_v25_2, val_main_call0_cst_1, val_main_call0_v6,
    val_main_call0_v7, val_main_v25_1, val_main_v25_0, val_main_v26, val_main_v27, val_main_v28, val_main_v29,
    val_main_v30, val_main_call1_v0, val_main_call1_v1, val_main_call1_v2, val_main_v31, val_main_v32,
    val_main_v33, val_main_cst_3, val_main_v34, val_main_v35, val_main_v36, val_main_v37, val_main_cst_4,
    val_main_v38, val_main_v39, val_main_cst_5, val_main_v40, val_main_v41, val_main_v42, val_main_v43,
    val_main_v44, val_main_cst_6, val_main_v45, val_main_v46, val_main_cst_7, val_main_v47, val_main_v48,
    val_main_v49, val_main_v50, val_main_v51, val_main_v52, val_main_v53, val_main_v54, val_main_v55,
    val_main_v56]
  simp only [Finset.univ_unique, Finset.sum_const, Finset.card_singleton, one_smul]

end Reference

/-! ## What the kernel leaves -/

/-- Where the windows lie: point `t` is batch `t / 4`, head `t % 4`. -/
theorem geom : ∀ t : Fin cfg0.N,
    win0_0.index t = ![t.val % 4, t.val / 4, 0] ∧ win0_1.index t = ![4 + t.val % 4, t.val / 4, 0]
    ∧ win0_2.index t = ![t.val / 4, 54 + t.val % 4] ∧ win0_3.index t = ![0, 0] ∧ win0_4.index t = ![t.val / 4, t.val % 4]
    ∧ win0_5.index t = ![t.val % 4, t.val / 4, 0] ∧ win0_6.index t = ![t.val % 4, t.val / 4, 0]
    ∧ win0_7.index t = ![t.val / 4, t.val % 4] ∧ win0_8.index t = ![0, 0] :=
  by decide +kernel

theorem pt_lt (t : Fin cfg0.N) : t.val < 16 := lt_of_lt_of_eq t.isLt N_0

/-- The head and the token of row `r` of point `t`'s blocks. -/
abbrev hd (t : Fin cfg0.N) : Fin 4 := ⟨t.val % 4, by omega⟩
abbrev tk (t : Fin cfg0.N) (r : Fin 2048) : Fin 8192 := ⟨t.val / 4 * 2048 + r.val, by have := pt_lt t; omega⟩

/-- The blocks' rows are the arguments' rows. -/
theorem blockO (c : Dev nD) (t : Fin cfg0.N) (r : Fin 2048) :
    (fun l : Fin 128 => HAdd.hAdd (α := EReal) (β := EReal) (γ := EReal) (iblk m c 0 t (ix3 0 r l)) (iblk m c 1 t (ix3 0 r l)))
      = rowO (m (c.tc.loc main_arg0)) (hd t) (tk t r) := by
  funext l
  unfold rowO
  refine congr (congrArg _ ?_) ?_ <;> blk_ext [iblk, V, geom t]

theorem blockZ (c : Dev nD) (t : Fin cfg0.N) (r : Fin 2048) :
    (fun l : Fin 128 => (iblk m c 2 t : Vec Ideal S2048x128 .bf16) (ix2 r l)) = rowZ (m (c.tc.loc main_arg1)) (hd t) (tk t r) := by
  funext l
  unfold rowZ
  blk_ext [iblk, V, geom t]

theorem blockG (c : Dev nD) (t : Fin cfg0.N) :
    (fun l : Fin 128 => (iblk m c 3 t : Vec Ideal S1x128 .f32) (ix2 0 l)) = rowG (m (c.tc.loc main_arg2)) := by
  funext l
  unfold rowG
  blk_ext [iblk, V, geom t]

theorem blockC (c : Dev nD) (t : Fin cfg0.N) (r : Fin 2048) :
    (fun l : Fin 128 => (iblk m c 4 t : Vec Ideal S2048x128 .f32) (ix2 r l)) = rowC (m (c.tc.loc main_arg3)) (hd t) (tk t r) := by
  funext l
  unfold rowC
  blk_ext [iblk, V, geom t]

/-- What every point leaves in the staging buffers of the three outputs written block by block. -/
theorem stored (c : Dev nD) (t : Fin cfg0.N) :
    (outsAt0 m c t.val t.isLt).1 = k0_pay17 (iblk m c 3 t) (k0_pay3 (iblk m c 0 t) (iblk m c 1 t))
        (k0_pay5 (iblk m c 0 t) (iblk m c 1 t)) (k0_pay6 (iblk m c 0 t) (iblk m c 1 t)) (k0_pay13 (iblk m c 2 t) (iblk m c 4 t))
    ∧ (outsAt0 m c t.val t.isLt).2.1 = k0_pay18 (iblk m c 3 t) (k0_pay3 (iblk m c 0 t) (iblk m c 1 t))
        (k0_pay5 (iblk m c 0 t) (iblk m c 1 t)) (k0_pay6 (iblk m c 0 t) (iblk m c 1 t)) (k0_pay13 (iblk m c 2 t) (iblk m c 4 t))
    ∧ (outsAt0 m c t.val t.isLt).2.2.1 = k0_pay19 (k0_pay8 (iblk m c 2 t)) (k0_pay10 (iblk m c 2 t)) (k0_pay11 (iblk m c 2 t))
        (k0_pay12 (iblk m c 0 t) (iblk m c 1 t) (iblk m c 3 t) (iblk m c 4 t))
        (k0_pay14 (iblk m c 0 t) (iblk m c 1 t) (iblk m c 2 t) (iblk m c 3 t) (iblk m c 4 t)) := by
  have hN := pt_lt t
  by_cases h : 1 ≤ t.val
  · rw [outsAt0_B m c t (by omega) h]
    refine ⟨?_, ?_, ?_⟩ <;> frame_out
  · rw [outsAt0_A m c t (by omega) h]
    refine ⟨?_, ?_, ?_⟩ <;> frame_out

/-- The four arguments' contents at launch. -/
abbrev argO (c : Dev nD) : FVec Ideal S8x8192x128 .f32 := m (c.tc.loc main_arg0)
abbrev argP (c : Dev nD) : Vec Ideal S8192x8064 .bf16 := m (c.tc.loc main_arg1)
abbrev argG (c : Dev nD) : Vec Ideal S1x128 .f32 := m (c.tc.loc main_arg2)
abbrev argC (c : Dev nD) : Vec Ideal S8192x512 .f32 := m (c.tc.loc main_arg3)

theorem final_fwd (c : Dev nD) : (dats m 0 c).arrAt 5 cfg0.N = gradO (argO m c) (argP m c) (argG m c) (argC m c) := by
  refine (dats m 0 c).arrAt_eq_of_covers 5 _ (by decide +kernel) fun t hf y => ?_
  obtain ⟨u, r, l, rfl⟩ : ∃ (u : Fin 1) (r : Fin 2048) (l : Fin 128), y = ix3 u r l := ⟨y 0, y 1, y 2, eq_ix3 y⟩
  have e : (((cfg0.win 5).blk t).view.emb (ix3 u r l) : S4x8192x128.Idx) = ix3 (hd t) (tk t r) l := by blk_ext [geom t]
  refine Eq.trans ?_ (congrArg _ e.symm)
  blk_simp
  rw [after0_5, (stored m c t).1]
  exact (pay_row _ _ _ _ _ u r l).trans (congrFun (congr (congr (congr (congrArg dRow (blockO m c t r)) (blockG m c t))
    (blockZ m c t r)) (blockC m c t r)) l)

theorem final_bwd (c : Dev nD) : (dats m 0 c).arrAt 6 cfg0.N = gradO (argO m c) (argP m c) (argG m c) (argC m c) := by
  refine (dats m 0 c).arrAt_eq_of_covers 6 _ (by decide +kernel) fun t hf y => ?_
  obtain ⟨u, r, l, rfl⟩ : ∃ (u : Fin 1) (r : Fin 2048) (l : Fin 128), y = ix3 u r l := ⟨y 0, y 1, y 2, eq_ix3 y⟩
  have e : (((cfg0.win 6).blk t).view.emb (ix3 u r l) : S4x8192x128.Idx) = ix3 (hd t) (tk t r) l := by blk_ext [geom t]
  refine Eq.trans ?_ (congrArg _ e.symm)
  blk_simp
  rw [after0_6, (stored m c t).2.1]
  exact (pay_row' _ _ _ _ _ u r l).trans (congrFun (congr (congr (congr (congrArg dRow (blockO m c t r)) (blockG m c t))
    (blockZ m c t r)) (blockC m c t r)) l)

theorem final_gate (c : Dev nD) : (dats m 0 c).arrAt 7 cfg0.N = gradZ (argO m c) (argP m c) (argG m c) (argC m c) := by
  refine (dats m 0 c).arrAt_eq_of_covers 7 _ (by decide +kernel) fun t hf y => ?_
  obtain ⟨r, l, rfl⟩ : ∃ (r : Fin 2048) (l : Fin 128), y = ix2 r l := ⟨y 0, y 1, eq_ix2 y⟩
  have e : (((cfg0.win 7).blk t).view.emb (ix2 r l) : S8192x512.Idx) = ix2 (tk t r) ⟨t.val % 4 * 128 + l.val, by omega⟩ := by
    blk_ext [geom t]
  refine Eq.trans ?_ (congrArg _ e.symm)
  blk_simp
  rw [after0_7, (stored m c t).2.2]
  refine (pay_gate _ _ _ _ _ r l).trans ((congrFun (congr (congr (congr (congrArg dGate (blockO m c t r)) (blockG m c t))
    (blockZ m c t r)) (blockC m c t r)) l).trans ?_)
  have e1 : (t.val % 4 * 128 + l.val) / 128 = t.val % 4 := by omega
  have e2 : (t.val % 4 * 128 + l.val) % 128 = l.val := by omega
  simp only [gradZ, ix2_0, ix2_1, e1, e2]

/-- The rows of all the points' blocks are the rows of the flattened array, each once. -/
def rowEquiv : Fin 16 × Fin 2048 ≃ Fin 32768 where
  toFun p := ⟨4 * (p.1.val / 4 * 2048 + p.2.val) + p.1.val % 4, by omega⟩
  invFun n := (⟨n.val / 4 / 2048 * 4 + n.val % 4, by omega⟩, ⟨n.val / 4 % 2048, by omega⟩)
  left_inv p := Prod.ext (Fin.ext (by dsimp only; omega)) (Fin.ext (by dsimp only; omega))
  right_inv n := Fin.ext (by dsimp only; omega)

theorem sum_rows (f : Fin 4 → Fin 8192 → EReal) :
    (∑ t : Fin 16, ∑ r : Fin 2048, f ⟨t.val % 4, by omega⟩ ⟨t.val / 4 * 2048 + r.val, by omega⟩)
      = ∑ n : Fin 32768, f ⟨n.val % 4, by omega⟩ ⟨n.val / 4, by omega⟩ := by
  rw [← Fintype.sum_prod_type' (f := fun (t : Fin 16) (r : Fin 2048) => f ⟨t.val % 4, by omega⟩ ⟨t.val / 4 * 2048 + r.val, by omega⟩)]
  refine Fintype.sum_equiv rowEquiv _ _ fun p => ?_
  congr 1 <;> exact Fin.ext (by simp only [rowEquiv, Equiv.coe_fn_mk]; omega)

/-- A point's part of the gradient in the gain: the sum over its block's rows. -/
def gainAt (c : Dev nD) (t : Fin cfg0.N) (j : S1x128.Idx) : EReal :=
  ∑ r : Fin 2048, dGain (rowO (argO m c) (hd t) (tk t r)) (rowZ (argP m c) (hd t) (tk t r)) (rowC (argC m c) (hd t) (tk t r)) (j 1)

theorem gainAt_eq (c : Dev nD) (t : Fin cfg0.N) (j : S1x128.Idx) :
    k0_pay15 (k0_pay7 (iblk m c 0 t) (iblk m c 1 t)) (k0_pay13 (iblk m c 2 t) (iblk m c 4 t)) j = gainAt m c t j := by
  obtain ⟨u, l, rfl⟩ : ∃ (u : Fin 1) (l : Fin 128), j = ix2 u l := ⟨j 0, j 1, eq_ix2 j⟩
  exact (pay_gain _ _ _ _ u l).trans (Finset.sum_congr rfl fun r _ =>
    congrFun (congr (congr (congrArg dGain (blockO m c t r)) (blockZ m c t r)) (blockC m c t r)) l)

theorem gain_first (c : Dev nD) (t : Fin cfg0.N) (h : t.val % 16 = 0) (j : S1x128.Idx) :
    (outsAt0 m c t.val t.isLt).2.2.2 j = 0 + gainAt m c t j := by
  have hN := pt_lt t
  rw [outsAt0_A m c t h (by omega), zero_add, ← gainAt_eq]
  frame_out

theorem gain_next (c : Dev nD) (t : Fin cfg0.N) (h : ¬ t.val % 16 = 0) (j : S1x128.Idx) :
    (outsAt0 m c t.val t.isLt).2.2.2 j
      = (outsAt0 m c (t.val - 1) (Nat.lt_of_le_of_lt (Nat.sub_le _ _) t.isLt)).2.2.2 j + gainAt m c t j := by
  have hN := pt_lt t
  rw [outsAt0_B m c t h (by omega), ← gainAt_eq]
  frame_out
  pointwise [k0_pay1]

theorem final_gain (c : Dev nD) : (dats m 0 c).arrAt 8 cfg0.N = gradG (argO m c) (argP m c) (argC m c) := by
  refine (dats m 0 c).arrAt_eq_of_after_last 8 t0_15 (by decide +kernel) _ fun j => ?_
  obtain ⟨u, l, rfl⟩ : ∃ (u : Fin 1) (l : Fin 128), j = ix2 u l := ⟨j 0, j 1, eq_ix2 j⟩
  blk_simp
  rw [after0_8]
  refine (Pipeline.eq_sum_fin_of_reset_step_apply_last (fun n h => (outsAt0 m c n h).2.2.2) 16 (fun _ => 0) (gainAt m c)
    (gain_first m c) (gain_next m c) (le_of_eq N_0) t0_15 rfl (ix2 u l)).trans ?_
  rw [zero_add]
  exact sum_rows fun h t => dGain (rowO (argO m c) h t) (rowZ (argP m c) h t) (rowC (argC m c) h t) l

end Cert.DnOutIdeal.Value

end
-- ==== Proof.FfnBRuns.lean ====
/-
  One grid point of the feed-forward block's backward kernel. The grid is 16 row blocks of 512 tokens by 6 column
  blocks of 512 hidden units, the column block innermost. At a row block's first column block the body stores the
  normalised rows `h` and half of the incoming gradient, and clears the accumulator; at every column block it writes
  the gradients of the two hidden products and the hidden activation, and adds this block's part of the rows'
  gradient to the accumulator; at the last column block it turns the accumulator into the gradient of `x` and adds
  the row block's part of the gain's gradient. So there are four kinds of point, and one triple for each, over all
  fourteen buffers at named contents.
-/
module

public import proofs.«01_k».proof.Proof.Gen.FfnBIdeal.Frame
public import proofs.«01_k».proof.Proof.Gen.FfnBIdeal.Skeleton
public import Idealize.ShloMosaic.Lib.Pipeline.ValueKit
public import Idealize.ShloMosaic.Lib.VecWindow

@[expose] public section

set_option maxRecDepth 16384

noncomputable section

namespace Cert.FfnBIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.FfnBIdeal Cert.FfnBIdeal.Gen

variable {F : FTy → Type} [FloatOps F]

local notation "𝕄" => MT nD τ sig Unit (Elt F) ℕ (UR sig nD τ) ℕ

/-- The gradient of the gate product at a column block. -/
def stepDa (h : Vec F S512x1024 .bf16) (wg wu : Vec F S1024x512 .bf16) (wd dv : Vec F S512x1024 .bf16) : Vec F S512x512 .bf16 :=
  k0_pay17 h wg wu dv wd
/-- The gradient of the up product at a column block. -/
def stepDb (h : Vec F S512x1024 .bf16) (wg : Vec F S1024x512 .bf16) (wd dv : Vec F S512x1024 .bf16) : Vec F S512x512 .bf16 :=
  k0_pay18 h wg dv wd
/-- The hidden activation at a column block. -/
def stepS (h : Vec F S512x1024 .bf16) (wg wu : Vec F S1024x512 .bf16) : Vec F S512x512 .bf16 :=
  k0_pay1 (k0_pay13 h wu) (k0_pay16 h wg)
/-- The accumulator after a column block. -/
def stepAcc (h : Vec F S512x1024 .bf16) (wg wu : Vec F S1024x512 .bf16) (wd dv : Vec F S512x1024 .bf16) (acc : Vec F S512x1024 .f32) :
    Vec F S512x1024 .f32 :=
  k0_pay2 (stepDa h wg wu wd dv) (stepDb h wg wd dv) acc wg wu

set_option maxHeartbeats 4000000 in
/-- The body at first column block. -/
theorem runA (c : Dev nD) (i : grid0.Coords)
    (a2 : Memref sig .tc .vmem S512x1024 .f32) (h2 : a2.IsWhole)
    (a3 : Memref sig .tc .vmem S1x1024 .f32) (h3 : a3.IsWhole)
    (a4 : Memref sig .tc .vmem S1024x512 .bf16) (h4 : a4.IsWhole)
    (a5 : Memref sig .tc .vmem S1024x512 .bf16) (h5 : a5.IsWhole)
    (a6 : Memref sig .tc .vmem S512x1024 .bf16) (h6 : a6.IsWhole)
    (a7 : Memref sig .tc .vmem S512x1024 .f32) (h7 : a7.IsWhole)
    (a8 : Memref sig .tc .vmem S512x1024 .f32) (h8 : a8.IsWhole)
    (a9 : Memref sig .tc .vmem S1x1024 .f32) (h9 : a9.IsWhole)
    (a10 : Memref sig .tc .vmem S512x512 .bf16) (h10 : a10.IsWhole)
    (a11 : Memref sig .tc .vmem S512x512 .bf16) (h11 : a11.IsWhole)
    (a12 : Memref sig .tc .vmem S512x512 .bf16) (h12 : a12.IsWhole)
    (a13 : Memref sig .tc .vmem S512x1024 .bf16) (h13 : a13.IsWhole)
    (a14 : Memref sig .tc .vmem S512x1024 .bf16) (h14 : a14.IsWhole)
    (a15 : Memref sig .tc .vmem S512x1024 .f32) (h15 : a15.IsWhole)
    (hc1 : k0_cond1 i = 1#1) (hc2 : ¬k0_cond2 i = 1#1)
    (x : Vec F S512x1024 .f32) (g : Vec F S1x1024 .f32) (wg : Vec F S1024x512 .bf16) (wu : Vec F S1024x512 .bf16) (wd : Vec F S512x1024 .bf16) (dy : Vec F S512x1024 .f32) (dx : Vec F S512x1024 .f32) (dg : Vec F S1x1024 .f32) (da : Vec F S512x512 .bf16) (db : Vec F S512x512 .bf16) (s : Vec F S512x512 .bf16) (h : Vec F S512x1024 .bf16) (dv : Vec F S512x1024 .bf16) (acc : Vec F S512x1024 .f32)
    (E : Set ℕ) (K : PUnit → sProp 𝕄) :
    iprop(owns (c : Thread nD τ) a2 fullShare x ∗ owns (c : Thread nD τ) a3 fullShare g ∗ owns (c : Thread nD τ) a4 fullShare wg ∗ owns (c : Thread nD τ) a5 fullShare wu ∗ owns (c : Thread nD τ) a6 fullShare wd ∗ owns (c : Thread nD τ) a7 fullShare dy ∗ owns (c : Thread nD τ) a8 fullShare dx ∗ owns (c : Thread nD τ) a9 fullShare dg ∗ owns (c : Thread nD τ) a10 fullShare da ∗ owns (c : Thread nD τ) a11 fullShare db ∗ owns (c : Thread nD τ) a12 fullShare s ∗ owns (c : Thread nD τ) a13 fullShare h ∗ owns (c : Thread nD τ) a14 fullShare dv ∗ owns (c : Thread nD τ) a15 fullShare acc
        ∗ (iprop(owns (c : Thread nD τ) a2 fullShare x ∗ owns (c : Thread nD τ) a3 fullShare g ∗ owns (c : Thread nD τ) a4 fullShare wg ∗ owns (c : Thread nD τ) a5 fullShare wu ∗ owns (c : Thread nD τ) a6 fullShare wd ∗ owns (c : Thread nD τ) a7 fullShare dy ∗ owns (c : Thread nD τ) a8 fullShare dx ∗ owns (c : Thread nD τ) a9 fullShare dg ∗ owns (c : Thread nD τ) a10 fullShare (stepDa (k0_pay8 x g) wg wu wd (k0_pay9 dy)) ∗ owns (c : Thread nD τ) a11 fullShare (stepDb (k0_pay8 x g) wg wd (k0_pay9 dy)) ∗ owns (c : Thread nD τ) a12 fullShare (stepS (k0_pay8 x g) wg wu) ∗ owns (c : Thread nD τ) a13 fullShare (k0_pay8 x g) ∗ owns (c : Thread nD τ) a14 fullShare (k0_pay9 dy) ∗ owns (c : Thread nD τ) a15 fullShare (stepAcc (k0_pay8 x g) wg wu wd (k0_pay9 dy) k0_pay10)) -∗ K ⟨⟩))
      ⊢ wp frame (wpE (defs₀ (F := F)) Variants.none c none) E
          (cc0_ffn_b i a2 h2 a3 h3 a4 h4 a5 h5 a6 h6 a7 h7 a8 h8 a9 h9 a10 h10 a11 h11 a12 h12 a13 h13 a14 h14 a15 h15) K := by
  simp only [cc0_ffn_b_eq_skeleton]; unfold cc0_ffn_b_skel
  simp only [k0_part1_eq_skeleton, k0_part2_eq_skeleton]; unfold k0_part1_skel k0_part2_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, Hk⟩
  obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11; obtain rfl := h12.eq_unread e12; obtain rfl := h13.eq_unread e13; obtain rfl := h14.eq_unread e14; obtain rfl := h15.eq_unread e15
  sl_exec (disch := first | sl_exact hc1 | sl_exact hc2)
  sl_step
  iapply Hk
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro; exact h5.read_unread _
  isplitl [H6]
  · iexists _; isplitr; swap; · iexact H6
    ipureintro; exact h6.read_unread _
  isplitl [H7]
  · iexists _; isplitr; swap; · iexact H7
    ipureintro; exact h7.read_unread _
  isplitl [H8]
  · iexists _; isplitr; swap; · iexact H8
    ipureintro; exact h8.read_unread _
  isplitl [H9]
  · iexists _; isplitr; swap; · iexact H9
    ipureintro; exact h9.read_unread _
  isplitl [H10]
  · iexists _; isplitr; swap; · iexact H10
    ipureintro; frame_out; exact View.read_writes_full _ _ _ _ _
  isplitl [H11]
  · iexists _; isplitr; swap; · iexact H11
    ipureintro; frame_out; exact View.read_writes_full _ _ _ _ _
  isplitl [H12]
  · iexists _; isplitr; swap; · iexact H12
    ipureintro; frame_out; exact View.read_writes_full _ _ _ _ _
  isplitl [H13]
  · iexists _; isplitr; swap; · iexact H13
    ipureintro; frame_out; exact View.read_writes_full _ _ _ _ _
  isplitl [H14]
  · iexists _; isplitr; swap; · iexact H14
    ipureintro; frame_out; exact View.read_writes_full _ _ _ _ _
  iexists _; isplitr; swap; · iexact H15
  ipureintro; frame_out; exact View.read_writes_full _ _ _ _ _

set_option maxHeartbeats 4000000 in
/-- The body at a middle column block. -/
theorem runB (c : Dev nD) (i : grid0.Coords)
    (a2 : Memref sig .tc .vmem S512x1024 .f32) (h2 : a2.IsWhole)
    (a3 : Memref sig .tc .vmem S1x1024 .f32) (h3 : a3.IsWhole)
    (a4 : Memref sig .tc .vmem S1024x512 .bf16) (h4 : a4.IsWhole)
    (a5 : Memref sig .tc .vmem S1024x512 .bf16) (h5 : a5.IsWhole)
    (a6 : Memref sig .tc .vmem S512x1024 .bf16) (h6 : a6.IsWhole)
    (a7 : Memref sig .tc .vmem S512x1024 .f32) (h7 : a7.IsWhole)
    (a8 : Memref sig .tc .vmem S512x1024 .f32) (h8 : a8.IsWhole)
    (a9 : Memref sig .tc .vmem S1x1024 .f32) (h9 : a9.IsWhole)
    (a10 : Memref sig .tc .vmem S512x512 .bf16) (h10 : a10.IsWhole)
    (a11 : Memref sig .tc .vmem S512x512 .bf16) (h11 : a11.IsWhole)
    (a12 : Memref sig .tc .vmem S512x512 .bf16) (h12 : a12.IsWhole)
    (a13 : Memref sig .tc .vmem S512x1024 .bf16) (h13 : a13.IsWhole)
    (a14 : Memref sig .tc .vmem S512x1024 .bf16) (h14 : a14.IsWhole)
    (a15 : Memref sig .tc .vmem S512x1024 .f32) (h15 : a15.IsWhole)
    (hc1 : ¬k0_cond1 i = 1#1) (hc2 : ¬k0_cond2 i = 1#1)
    (x : Vec F S512x1024 .f32) (g : Vec F S1x1024 .f32) (wg : Vec F S1024x512 .bf16) (wu : Vec F S1024x512 .bf16) (wd : Vec F S512x1024 .bf16) (dy : Vec F S512x1024 .f32) (dx : Vec F S512x1024 .f32) (dg : Vec F S1x1024 .f32) (da : Vec F S512x512 .bf16) (db : Vec F S512x512 .bf16) (s : Vec F S512x512 .bf16) (h : Vec F S512x1024 .bf16) (dv : Vec F S512x1024 .bf16) (acc : Vec F S512x1024 .f32)
    (E : Set ℕ) (K : PUnit → sProp 𝕄) :
    iprop(owns (c : Thread nD τ) a2 fullShare x ∗ owns (c : Thread nD τ) a3 fullShare g ∗ owns (c : Thread nD τ) a4 fullShare wg ∗ owns (c : Thread nD τ) a5 fullShare wu ∗ owns (c : Thread nD τ) a6 fullShare wd ∗ owns (c : Thread nD τ) a7 fullShare dy ∗ owns (c : Thread nD τ) a8 fullShare dx ∗ owns (c : Thread nD τ) a9 fullShare dg ∗ owns (c : Thread nD τ) a10 fullShare da ∗ owns (c : Thread nD τ) a11 fullShare db ∗ owns (c : Thread nD τ) a12 fullShare s ∗ owns (c : Thread nD τ) a13 fullShare h ∗ owns (c : Thread nD τ) a14 fullShare dv ∗ owns (c : Thread nD τ) a15 fullShare acc
        ∗ (iprop(owns (c : Thread nD τ) a2 fullShare x ∗ owns (c : Thread nD τ) a3 fullShare g ∗ owns (c : Thread nD τ) a4 fullShare wg ∗ owns (c : Thread nD τ) a5 fullShare wu ∗ owns (c : Thread nD τ) a6 fullShare wd ∗ owns (c : Thread nD τ) a7 fullShare dy ∗ owns (c : Thread nD τ) a8 fullShare dx ∗ owns (c : Thread nD τ) a9 fullShare dg ∗ owns (c : Thread nD τ) a10 fullShare (stepDa h wg wu wd dv) ∗ owns (c : Thread nD τ) a11 fullShare (stepDb h wg wd dv) ∗ owns (c : Thread nD τ) a12 fullShare (stepS h wg wu) ∗ owns (c : Thread nD τ) a13 fullShare h ∗ owns (c : Thread nD τ) a14 fullShare dv ∗ owns (c : Thread nD τ) a15 fullShare (stepAcc h wg wu wd dv acc)) -∗ K ⟨⟩))
      ⊢ wp frame (wpE (defs₀ (F := F)) Variants.none c none) E
          (cc0_ffn_b i a2 h2 a3 h3 a4 h4 a5 h5 a6 h6 a7 h7 a8 h8 a9 h9 a10 h10 a11 h11 a12 h12 a13 h13 a14 h14 a15 h15) K := by
  simp only [cc0_ffn_b_eq_skeleton]; unfold cc0_ffn_b_skel
  simp only [k0_part1_eq_skeleton, k0_part2_eq_skeleton]; unfold k0_part1_skel k0_part2_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, Hk⟩
  obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11; obtain rfl := h12.eq_unread e12; obtain rfl := h13.eq_unread e13; obtain rfl := h14.eq_unread e14; obtain rfl := h15.eq_unread e15
  sl_exec (disch := first | sl_exact hc1 | sl_exact hc2)
  sl_step
  iapply Hk
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro; exact h5.read_unread _
  isplitl [H6]
  · iexists _; isplitr; swap; · iexact H6
    ipureintro; exact h6.read_unread _
  isplitl [H7]
  · iexists _; isplitr; swap; · iexact H7
    ipureintro; exact h7.read_unread _
  isplitl [H8]
  · iexists _; isplitr; swap; · iexact H8
    ipureintro; exact h8.read_unread _
  isplitl [H9]
  · iexists _; isplitr; swap; · iexact H9
    ipureintro; exact h9.read_unread _
  isplitl [H10]
  · iexists _; isplitr; swap; · iexact H10
    ipureintro; frame_out; exact View.read_writes_full _ _ _ _ _
  isplitl [H11]
  · iexists _; isplitr; swap; · iexact H11
    ipureintro; frame_out; exact View.read_writes_full _ _ _ _ _
  isplitl [H12]
  · iexists _; isplitr; swap; · iexact H12
    ipureintro; frame_out; exact View.read_writes_full _ _ _ _ _
  isplitl [H13]
  · iexists _; isplitr; swap; · iexact H13
    ipureintro; exact h13.read_unread _
  isplitl [H14]
  · iexists _; isplitr; swap; · iexact H14
    ipureintro; exact h14.read_unread _
  iexists _; isplitr; swap; · iexact H15
  ipureintro; frame_out; exact View.read_writes_full _ _ _ _ _

set_option maxHeartbeats 4000000 in
/-- The body at the last column block of the first row block. -/
theorem runC (c : Dev nD) (i : grid0.Coords)
    (a2 : Memref sig .tc .vmem S512x1024 .f32) (h2 : a2.IsWhole)
    (a3 : Memref sig .tc .vmem S1x1024 .f32) (h3 : a3.IsWhole)
    (a4 : Memref sig .tc .vmem S1024x512 .bf16) (h4 : a4.IsWhole)
    (a5 : Memref sig .tc .vmem S1024x512 .bf16) (h5 : a5.IsWhole)
    (a6 : Memref sig .tc .vmem S512x1024 .bf16) (h6 : a6.IsWhole)
    (a7 : Memref sig .tc .vmem S512x1024 .f32) (h7 : a7.IsWhole)
    (a8 : Memref sig .tc .vmem S512x1024 .f32) (h8 : a8.IsWhole)
    (a9 : Memref sig .tc .vmem S1x1024 .f32) (h9 : a9.IsWhole)
    (a10 : Memref sig .tc .vmem S512x512 .bf16) (h10 : a10.IsWhole)
    (a11 : Memref sig .tc .vmem S512x512 .bf16) (h11 : a11.IsWhole)
    (a12 : Memref sig .tc .vmem S512x512 .bf16) (h12 : a12.IsWhole)
    (a13 : Memref sig .tc .vmem S512x1024 .bf16) (h13 : a13.IsWhole)
    (a14 : Memref sig .tc .vmem S512x1024 .bf16) (h14 : a14.IsWhole)
    (a15 : Memref sig .tc .vmem S512x1024 .f32) (h15 : a15.IsWhole)
    (hc1 : ¬k0_cond1 i = 1#1) (hc2 : k0_cond2 i = 1#1) (hc3 : k0_cond3 i = 1#1) (hc4 : ¬k0_cond4 i = 1#1)
    (x : Vec F S512x1024 .f32) (g : Vec F S1x1024 .f32) (wg : Vec F S1024x512 .bf16) (wu : Vec F S1024x512 .bf16) (wd : Vec F S512x1024 .bf16) (dy : Vec F S512x1024 .f32) (dx : Vec F S512x1024 .f32) (dg : Vec F S1x1024 .f32) (da : Vec F S512x512 .bf16) (db : Vec F S512x512 .bf16) (s : Vec F S512x512 .bf16) (h : Vec F S512x1024 .bf16) (dv : Vec F S512x1024 .bf16) (acc : Vec F S512x1024 .f32)
    (E : Set ℕ) (K : PUnit → sProp 𝕄) :
    iprop(owns (c : Thread nD τ) a2 fullShare x ∗ owns (c : Thread nD τ) a3 fullShare g ∗ owns (c : Thread nD τ) a4 fullShare wg ∗ owns (c : Thread nD τ) a5 fullShare wu ∗ owns (c : Thread nD τ) a6 fullShare wd ∗ owns (c : Thread nD τ) a7 fullShare dy ∗ owns (c : Thread nD τ) a8 fullShare dx ∗ owns (c : Thread nD τ) a9 fullShare dg ∗ owns (c : Thread nD τ) a10 fullShare da ∗ owns (c : Thread nD τ) a11 fullShare db ∗ owns (c : Thread nD τ) a12 fullShare s ∗ owns (c : Thread nD τ) a13 fullShare h ∗ owns (c : Thread nD τ) a14 fullShare dv ∗ owns (c : Thread nD τ) a15 fullShare acc
        ∗ (iprop(owns (c : Thread nD τ) a2 fullShare x ∗ owns (c : Thread nD τ) a3 fullShare g ∗ owns (c : Thread nD τ) a4 fullShare wg ∗ owns (c : Thread nD τ) a5 fullShare wu ∗ owns (c : Thread nD τ) a6 fullShare wd ∗ owns (c : Thread nD τ) a7 fullShare dy ∗ owns (c : Thread nD τ) a8 fullShare (k0_pay7 x g (stepAcc h wg wu wd dv acc) dy) ∗ owns (c : Thread nD τ) a9 fullShare (k0_pay6 x (stepAcc h wg wu wd dv acc)) ∗ owns (c : Thread nD τ) a10 fullShare (stepDa h wg wu wd dv) ∗ owns (c : Thread nD τ) a11 fullShare (stepDb h wg wd dv) ∗ owns (c : Thread nD τ) a12 fullShare (stepS h wg wu) ∗ owns (c : Thread nD τ) a13 fullShare h ∗ owns (c : Thread nD τ) a14 fullShare dv ∗ owns (c : Thread nD τ) a15 fullShare (stepAcc h wg wu wd dv acc)) -∗ K ⟨⟩))
      ⊢ wp frame (wpE (defs₀ (F := F)) Variants.none c none) E
          (cc0_ffn_b i a2 h2 a3 h3 a4 h4 a5 h5 a6 h6 a7 h7 a8 h8 a9 h9 a10 h10 a11 h11 a12 h12 a13 h13 a14 h14 a15 h15) K := by
  simp only [cc0_ffn_b_eq_skeleton]; unfold cc0_ffn_b_skel
  simp only [k0_part1_eq_skeleton, k0_part2_eq_skeleton]; unfold k0_part1_skel k0_part2_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, Hk⟩
  obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11; obtain rfl := h12.eq_unread e12; obtain rfl := h13.eq_unread e13; obtain rfl := h14.eq_unread e14; obtain rfl := h15.eq_unread e15
  sl_exec (disch := first | sl_exact hc1 | sl_exact hc2 | sl_exact hc3 | sl_exact hc4)
  sl_step
  iapply Hk
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro; exact h5.read_unread _
  isplitl [H6]
  · iexists _; isplitr; swap; · iexact H6
    ipureintro; exact h6.read_unread _
  isplitl [H7]
  · iexists _; isplitr; swap; · iexact H7
    ipureintro; exact h7.read_unread _
  isplitl [H8]
  · iexists _; isplitr; swap; · iexact H8
    ipureintro; frame_out; exact View.read_writes_full _ _ _ _ _
  isplitl [H9]
  · iexists _; isplitr; swap; · iexact H9
    ipureintro; frame_out; exact View.read_writes_full _ _ _ _ _
  isplitl [H10]
  · iexists _; isplitr; swap; · iexact H10
    ipureintro; frame_out; exact View.read_writes_full _ _ _ _ _
  isplitl [H11]
  · iexists _; isplitr; swap; · iexact H11
    ipureintro; frame_out; exact View.read_writes_full _ _ _ _ _
  isplitl [H12]
  · iexists _; isplitr; swap; · iexact H12
    ipureintro; frame_out; exact View.read_writes_full _ _ _ _ _
  isplitl [H13]
  · iexists _; isplitr; swap; · iexact H13
    ipureintro; exact h13.read_unread _
  isplitl [H14]
  · iexists _; isplitr; swap; · iexact H14
    ipureintro; exact h14.read_unread _
  iexists _; isplitr; swap; · iexact H15
  ipureintro; frame_out; exact View.read_writes_full _ _ _ _ _

set_option maxHeartbeats 4000000 in
/-- The body at the last column block of a later row block. -/
theorem runD (c : Dev nD) (i : grid0.Coords)
    (a2 : Memref sig .tc .vmem S512x1024 .f32) (h2 : a2.IsWhole)
    (a3 : Memref sig .tc .vmem S1x1024 .f32) (h3 : a3.IsWhole)
    (a4 : Memref sig .tc .vmem S1024x512 .bf16) (h4 : a4.IsWhole)
    (a5 : Memref sig .tc .vmem S1024x512 .bf16) (h5 : a5.IsWhole)
    (a6 : Memref sig .tc .vmem S512x1024 .bf16) (h6 : a6.IsWhole)
    (a7 : Memref sig .tc .vmem S512x1024 .f32) (h7 : a7.IsWhole)
    (a8 : Memref sig .tc .vmem S512x1024 .f32) (h8 : a8.IsWhole)
    (a9 : Memref sig .tc .vmem S1x1024 .f32) (h9 : a9.IsWhole)
    (a10 : Memref sig .tc .vmem S512x512 .bf16) (h10 : a10.IsWhole)
    (a11 : Memref sig .tc .vmem S512x512 .bf16) (h11 : a11.IsWhole)
    (a12 : Memref sig .tc .vmem S512x512 .bf16) (h12 : a12.IsWhole)
    (a13 : Memref sig .tc .vmem S512x1024 .bf16) (h13 : a13.IsWhole)
    (a14 : Memref sig .tc .vmem S512x1024 .bf16) (h14 : a14.IsWhole)
    (a15 : Memref sig .tc .vmem S512x1024 .f32) (h15 : a15.IsWhole)
    (hc1 : ¬k0_cond1 i = 1#1) (hc2 : k0_cond2 i = 1#1) (hc3 : ¬k0_cond3 i = 1#1) (hc4 : k0_cond4 i = 1#1)
    (x : Vec F S512x1024 .f32) (g : Vec F S1x1024 .f32) (wg : Vec F S1024x512 .bf16) (wu : Vec F S1024x512 .bf16) (wd : Vec F S512x1024 .bf16) (dy : Vec F S512x1024 .f32) (dx : Vec F S512x1024 .f32) (dg : Vec F S1x1024 .f32) (da : Vec F S512x512 .bf16) (db : Vec F S512x512 .bf16) (s : Vec F S512x512 .bf16) (h : Vec F S512x1024 .bf16) (dv : Vec F S512x1024 .bf16) (acc : Vec F S512x1024 .f32)
    (E : Set ℕ) (K : PUnit → sProp 𝕄) :
    iprop(owns (c : Thread nD τ) a2 fullShare x ∗ owns (c : Thread nD τ) a3 fullShare g ∗ owns (c : Thread nD τ) a4 fullShare wg ∗ owns (c : Thread nD τ) a5 fullShare wu ∗ owns (c : Thread nD τ) a6 fullShare wd ∗ owns (c : Thread nD τ) a7 fullShare dy ∗ owns (c : Thread nD τ) a8 fullShare dx ∗ owns (c : Thread nD τ) a9 fullShare dg ∗ owns (c : Thread nD τ) a10 fullShare da ∗ owns (c : Thread nD τ) a11 fullShare db ∗ owns (c : Thread nD τ) a12 fullShare s ∗ owns (c : Thread nD τ) a13 fullShare h ∗ owns (c : Thread nD τ) a14 fullShare dv ∗ owns (c : Thread nD τ) a15 fullShare acc
        ∗ (iprop(owns (c : Thread nD τ) a2 fullShare x ∗ owns (c : Thread nD τ) a3 fullShare g ∗ owns (c : Thread nD τ) a4 fullShare wg ∗ owns (c : Thread nD τ) a5 fullShare wu ∗ owns (c : Thread nD τ) a6 fullShare wd ∗ owns (c : Thread nD τ) a7 fullShare dy ∗ owns (c : Thread nD τ) a8 fullShare (k0_pay7 x g (stepAcc h wg wu wd dv acc) dy) ∗ owns (c : Thread nD τ) a9 fullShare (k0_pay3 (k0_pay6 x (stepAcc h wg wu wd dv acc)) dg) ∗ owns (c : Thread nD τ) a10 fullShare (stepDa h wg wu wd dv) ∗ owns (c : Thread nD τ) a11 fullShare (stepDb h wg wd dv) ∗ owns (c : Thread nD τ) a12 fullShare (stepS h wg wu) ∗ owns (c : Thread nD τ) a13 fullShare h ∗ owns (c : Thread nD τ) a14 fullShare dv ∗ owns (c : Thread nD τ) a15 fullShare (stepAcc h wg wu wd dv acc)) -∗ K ⟨⟩))
      ⊢ wp frame (wpE (defs₀ (F := F)) Variants.none c none) E
          (cc0_ffn_b i a2 h2 a3 h3 a4 h4 a5 h5 a6 h6 a7 h7 a8 h8 a9 h9 a10 h10 a11 h11 a12 h12 a13 h13 a14 h14 a15 h15) K := by
  simp only [cc0_ffn_b_eq_skeleton]; unfold cc0_ffn_b_skel
  simp only [k0_part1_eq_skeleton, k0_part2_eq_skeleton]; unfold k0_part1_skel k0_part2_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, Hk⟩
  obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11; obtain rfl := h12.eq_unread e12; obtain rfl := h13.eq_unread e13; obtain rfl := h14.eq_unread e14; obtain rfl := h15.eq_unread e15
  sl_exec (disch := first | sl_exact hc1 | sl_exact hc2 | sl_exact hc3 | sl_exact hc4)
  sl_step
  iapply Hk
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro; exact h5.read_unread _
  isplitl [H6]
  · iexists _; isplitr; swap; · iexact H6
    ipureintro; exact h6.read_unread _
  isplitl [H7]
  · iexists _; isplitr; swap; · iexact H7
    ipureintro; exact h7.read_unread _
  isplitl [H8]
  · iexists _; isplitr; swap; · iexact H8
    ipureintro; frame_out; exact View.read_writes_full _ _ _ _ _
  isplitl [H9]
  · iexists _; isplitr; swap; · iexact H9
    ipureintro; frame_out; exact View.read_writes_full _ _ _ _ _
  isplitl [H10]
  · iexists _; isplitr; swap; · iexact H10
    ipureintro; frame_out; exact View.read_writes_full _ _ _ _ _
  isplitl [H11]
  · iexists _; isplitr; swap; · iexact H11
    ipureintro; frame_out; exact View.read_writes_full _ _ _ _ _
  isplitl [H12]
  · iexists _; isplitr; swap; · iexact H12
    ipureintro; frame_out; exact View.read_writes_full _ _ _ _ _
  isplitl [H13]
  · iexists _; isplitr; swap; · iexact H13
    ipureintro; exact h13.read_unread _
  isplitl [H14]
  · iexists _; isplitr; swap; · iexact H14
    ipureintro; exact h14.read_unread _
  iexists _; isplitr; swap; · iexact H15
  ipureintro; frame_out; exact View.read_writes_full _ _ _ _ _

end Cert.FfnBIdeal.Body

end
-- ==== Proof.FfnBBody.lean ====
/-
  The backward kernel of the feed-forward block, run whole: what every buffer holds after every grid point, and from
  it the body obligation, the run and the frame. The rows `h` and `dv` of a row block are stored at its first column
  block and stay for the other five; the accumulator is the kernel's scratch; the gain's gradient stays in its buffer
  through the whole grid and is added to once per row block.
-/
module

public import proofs.«01_k».proof.Proof.FfnBRuns
public import Idealize.ShloMosaic.Lib.Pipeline.TableIdle
public import Idealize.ShloMosaic.Lib.Claim

@[expose] public section

set_option maxRecDepth 16384

noncomputable section

namespace Cert.FfnBIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnBIdeal Cert.FfnBIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions, by the point's number -/

theorem pt_lt (t : Fin cfg0.N) : t.val < 96 := lt_of_lt_of_eq t.isLt N_0

theorem cond1_iff : ∀ t : Fin cfg0.N, k0_cond1 (grid0.coords t) = 1#1 ↔ t.val % 6 = 0 := by decide +kernel
theorem cond2_iff : ∀ t : Fin cfg0.N, k0_cond2 (grid0.coords t) = 1#1 ↔ t.val % 6 = 5 := by decide +kernel
theorem cond3_iff : ∀ t : Fin cfg0.N, k0_cond3 (grid0.coords t) = 1#1 ↔ t.val < 6 := by decide +kernel
theorem cond4_iff : ∀ t : Fin cfg0.N, k0_cond4 (grid0.coords t) = 1#1 ↔ ¬t.val < 6 := by decide +kernel

theorem idle6 : ∀ t : Fin cfg0.N, cfg0.idle 6 (grid0.coords t) = !(t.val % 6 == 5) := by decide +kernel
theorem idle7 : ∀ t : Fin cfg0.N, cfg0.idle 7 (grid0.coords t) = !(t.val % 6 == 5) := by decide +kernel
theorem idle11 : ∀ t : Fin cfg0.N, cfg0.idle 11 (grid0.coords t) = !(t.val % 6 == 0) := by decide +kernel
theorem idle12 : ∀ t : Fin cfg0.N, cfg0.idle 12 (grid0.coords t) = !(t.val % 6 == 0) := by decide +kernel

/-- The row and half-gradient buffers hold nothing of the body's exactly at a row block's first point, -/
theorem fresh11 : ∀ n, n ≤ cfg0.N → cfg0.fresh 11 n = (n % 6 == 0) :=
  cfg0.fresh_tab 11 (fun n => n % 6 == 0) rfl (by decide +kernel)
theorem fresh12 : ∀ n, n ≤ cfg0.N → cfg0.fresh 12 n = (n % 6 == 0) :=
  cfg0.fresh_tab 12 (fun n => n % 6 == 0) rfl (by decide +kernel)
/-- and the gain gradient's until the first row block is through. -/
theorem fresh7 : ∀ n, n ≤ cfg0.N → cfg0.fresh 7 n = (decide (n ≤ 5) || n == 96) :=
  cfg0.fresh_tab 7 (fun n => decide (n ≤ 5) || n == 96) rfl (by decide +kernel)

/-! ## What the buffers hold -/

/-- The first point of a point's row block. -/
def row (t : Fin cfg0.N) : Fin cfg0.N := ⟨t.val - t.val % 6, Nat.lt_of_le_of_lt (Nat.sub_le _ _) t.isLt⟩

theorem row_self (t : Fin cfg0.N) (h : t.val % 6 = 0) : row t = t := Fin.ext (by show t.val - t.val % 6 = t.val; omega)
theorem row_pred (t : Fin cfg0.N) (h : t.val % 6 ≠ 0) (h' : t.val - 1 < cfg0.N) : row ⟨t.val - 1, h'⟩ = row t :=
  Fin.ext (by show (t.val - 1) - (t.val - 1) % 6 = t.val - t.val % 6; omega)

/-- The normalised rows a point works on. -/
def hAt (c : Dev nD) (t : Fin cfg0.N) : Vec F S512x1024 .bf16 := k0_pay8 (iblk m c 0 (row t)) (iblk m c 1 (row t))
/-- Half of the rows' incoming gradient. -/
def dvAt (c : Dev nD) (t : Fin cfg0.N) : Vec F S512x1024 .bf16 := k0_pay9 (iblk m c 5 (row t))
/-- The accumulator after point `n`. -/
def accAt (c : Dev nD) : (n : ℕ) → n < cfg0.N → Vec F S512x1024 .f32
  | 0, hn => stepAcc (hAt m c ⟨0, hn⟩) (iblk m c 2 ⟨0, hn⟩) (iblk m c 3 ⟨0, hn⟩) (iblk m c 4 ⟨0, hn⟩) (dvAt m c ⟨0, hn⟩) k0_pay10
  | n + 1, hn => stepAcc (hAt m c ⟨n + 1, hn⟩) (iblk m c 2 ⟨n + 1, hn⟩) (iblk m c 3 ⟨n + 1, hn⟩) (iblk m c 4 ⟨n + 1, hn⟩) (dvAt m c ⟨n + 1, hn⟩)
      (if (n + 1) % 6 = 0 then k0_pay10 else accAt c n (Nat.lt_of_succ_lt hn))
/-- The gain's gradient after point `n`. -/
def dgAt (c : Dev nD) : (n : ℕ) → n < cfg0.N → Vec F S1x1024 .f32
  | 0, hn => k0_pay6 (iblk m c 0 ⟨0, hn⟩) (accAt m c 0 hn)
  | n + 1, hn =>
    if (n + 1) % 6 = 5 then
      if n + 1 < 6 then k0_pay6 (iblk m c 0 ⟨n + 1, hn⟩) (accAt m c (n + 1) hn)
      else k0_pay3 (k0_pay6 (iblk m c 0 ⟨n + 1, hn⟩) (accAt m c (n + 1) hn)) (dgAt c n (Nat.lt_of_succ_lt hn))
    else dgAt c n (Nat.lt_of_succ_lt hn)

/-- At a row block's first point the accumulator starts from zero, -/
theorem accAt_first (c : Dev nD) (t : Fin cfg0.N) (h : t.val % 6 = 0) :
    accAt m c t.val t.isLt = stepAcc (hAt m c t) (iblk m c 2 t) (iblk m c 3 t) (iblk m c 4 t) (dvAt m c t) k0_pay10 := by
  obtain ⟨n, hn⟩ := t
  cases n with
  | zero => rfl
  | succ n => unfold accAt; rw [if_pos h]
/-- and elsewhere from what the point before left. -/
theorem accAt_next (c : Dev nD) (t : Fin cfg0.N) (h : ¬t.val % 6 = 0) :
    accAt m c t.val t.isLt = stepAcc (hAt m c t) (iblk m c 2 t) (iblk m c 3 t) (iblk m c 4 t) (dvAt m c t)
      (accAt m c (t.val - 1) (Nat.lt_of_le_of_lt (Nat.sub_le _ _) t.isLt)) := by
  obtain ⟨n, hn⟩ := t
  cases n with
  | zero => exact absurd (Nat.zero_mod _) h
  | succ n => conv_lhs => unfold accAt
              rw [if_neg h]; rfl

/-- The gain's gradient is stored at the first row block's last point, -/
theorem dgAt_first (c : Dev nD) (t : Fin cfg0.N) (h : t.val % 6 = 5) (h' : t.val < 6) :
    dgAt m c t.val t.isLt = k0_pay6 (iblk m c 0 t) (accAt m c t.val t.isLt) := by
  obtain ⟨n, hn⟩ := t
  cases n with
  | zero => exact absurd h (by show ¬0 % 6 = 5; decide)
  | succ n => unfold dgAt; rw [if_pos h, if_pos h']
/-- added to at a later row block's last point, -/
theorem dgAt_next (c : Dev nD) (t : Fin cfg0.N) (h : t.val % 6 = 5) (h' : ¬t.val < 6) :
    dgAt m c t.val t.isLt = k0_pay3 (k0_pay6 (iblk m c 0 t) (accAt m c t.val t.isLt))
      (dgAt m c (t.val - 1) (Nat.lt_of_le_of_lt (Nat.sub_le _ _) t.isLt)) := by
  obtain ⟨n, hn⟩ := t
  cases n with
  | zero => exact absurd h (by show ¬0 % 6 = 5; decide)
  | succ n => conv_lhs => unfold dgAt
              rw [if_pos h, if_neg h']; rfl
/-- and kept at every other point. -/
theorem dgAt_keep (c : Dev nD) (t : Fin cfg0.N) (h : ¬t.val % 6 = 5) (h0 : t.val ≠ 0) :
    dgAt m c t.val t.isLt = dgAt m c (t.val - 1) (Nat.lt_of_le_of_lt (Nat.sub_le _ _) t.isLt) := by
  obtain ⟨n, hn⟩ := t
  cases n with
  | zero => exact absurd rfl h0
  | succ n => conv_lhs => unfold dgAt
              rw [if_neg h]; rfl

/-! ## The proof data -/

/-- The kernel's one scratch buffer. -/
abbrev scr : Memref sig .tc .vmem S512x1024 .f32 := Memref.whole cc0_scratch0

theorem rest_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- What the loop keeps between points: the accumulator at `accAt` (anything before the first point) and the
    generator register. -/
def keep (c : Dev nD) : (n : ℕ) → n ≤ cfg0.N → sProp 𝕄
  | 0, _ => Pipeline.ΦA spec0 c
  | n + 1, hn => iprop(iprop(owns (c : Thread nD τ) scr fullShare (accAt m c n hn)) ∗ (∃ r, prngReg c r))

theorem keep_zero (c : Dev nD) (n : ℕ) (h : n ≤ cfg0.N) (hz : n = 0) : keep m c n h = Pipeline.ΦA spec0 c := by subst hz; rfl
theorem keep_succ (c : Dev nD) (n : ℕ) (hn : n < cfg0.N) :
    keep m c (n + 1) hn = iprop(iprop(owns (c : Thread nD τ) scr fullShare (accAt m c n hn)) ∗ (∃ r, prngReg c r)) := rfl
theorem keep_pos (c : Dev nD) (n : ℕ) (h : n ≤ cfg0.N) (hz : n ≠ 0) :
    keep m c n h = iprop(iprop(owns (c : Thread nD τ) scr fullShare (accAt m c (n - 1) (by omega))) ∗ (∃ r, prngReg c r)) := by
  cases n with
  | zero => exact absurd rfl hz
  | succ n => rfl

/-- Before any point there is an accumulator, at some contents — at what the point before left, if there is one — and
    the generator register. -/
theorem keep_open (c : Dev nD) (n : ℕ) (h : n ≤ cfg0.N) :
    keep m c n h ⊢ (iprop((∃ d, owns (c : Thread nD τ) scr fullShare d) ∗ (∃ r, prngReg c r)) : sProp 𝕄) := by
  cases n with
  | zero => rw [keep_zero m c 0 h rfl, rest_eq]
  | succ n =>
    rw [keep_succ]
    iintro ⟨H, Hg⟩
    isplitl [H]
    · iexists _; iexact H
    iexact Hg

/-- The proof data of the kernel's one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay7 (iblk m c 0 t) (iblk m c 1 t) (accAt m c t.val t.isLt) (iblk m c 5 t)
    | ⟨7, _⟩ => dgAt m c t.val t.isLt
    | ⟨8, _⟩ => stepDa (hAt m c t) (iblk m c 2 t) (iblk m c 3 t) (iblk m c 4 t) (dvAt m c t)
    | ⟨9, _⟩ => stepDb (hAt m c t) (iblk m c 2 t) (iblk m c 4 t) (dvAt m c t)
    | ⟨10, _⟩ => stepS (hAt m c t) (iblk m c 2 t) (iblk m c 3 t)
    | ⟨11, _⟩ => hAt m c t
    | ⟨12, _⟩ => dvAt m c t
  Φ t := keep m c t.val (Nat.le_of_lt_succ t.isLt)
  q _ := fullShare
  owed _ := 0

theorem A_eq (c : Dev nD) (w : Fin cfg0.W) : (dats m 0 c).A w = V m c (Pipeline.arrRef spec0 w) := by dsimp only [dats]

theorem keep_castSucc (c : Dev nD) (t : Fin cfg0.N) : (dats m 0 c).Φ t.castSucc = keep m c t.val (Nat.le_of_lt t.isLt) := by
  dsimp only [dats]; exact Pipeline.Dat.Φ_castSucc (keep m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = k0_pay7 (iblk m c 0 t) (iblk m c 1 t) (accAt m c t.val t.isLt) (iblk m c 5 t) := by dsimp only [dats]
theorem after_7 (c : Dev nD) (t : Fin cfg0.N) : (dats m 0 c).after 7 t = dgAt m c t.val t.isLt := by dsimp only [dats]
theorem after_8 (c : Dev nD) (t : Fin cfg0.N) : (dats m 0 c).after 8 t = stepDa (hAt m c t) (iblk m c 2 t) (iblk m c 3 t) (iblk m c 4 t) (dvAt m c t) := by dsimp only [dats]
theorem after_9 (c : Dev nD) (t : Fin cfg0.N) : (dats m 0 c).after 9 t = stepDb (hAt m c t) (iblk m c 2 t) (iblk m c 4 t) (dvAt m c t) := by dsimp only [dats]
theorem after_10 (c : Dev nD) (t : Fin cfg0.N) : (dats m 0 c).after 10 t = stepS (hAt m c t) (iblk m c 2 t) (iblk m c 3 t) := by dsimp only [dats]
theorem after_11 (c : Dev nD) (t : Fin cfg0.N) : (dats m 0 c).after 11 t = hAt m c t := by dsimp only [dats]
theorem after_12 (c : Dev nD) (t : Fin cfg0.N) : (dats m 0 c).after 12 t = dvAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- Past a row block's first point the row buffer holds the row block's rows, -/
theorem before_11 (c : Dev nD) (t : Fin cfg0.N) (h : ¬t.val % 6 = 0) (d) : (dats m 0 c).before 11 t d = hAt m c t := by
  rw [Dat.before_out_traj (dats m 0 c) 11 rfl (fun _ _ => rfl) (fun t h0 hi _ => by
      have hm : ¬t.val % 6 = 0 := by rw [idle11] at hi; simpa using hi
      rw [after_11, after_11]; unfold hAt; rw [row_pred t hm]) t.val t rfl d,
    fresh11 t.val (Nat.le_of_lt t.isLt), if_neg (by simpa using h), after_11]
  unfold hAt; rw [row_pred t h]
/-- and the half-gradient buffer its half-gradient. -/
theorem before_12 (c : Dev nD) (t : Fin cfg0.N) (h : ¬t.val % 6 = 0) (d) : (dats m 0 c).before 12 t d = dvAt m c t := by
  rw [Dat.before_out_traj (dats m 0 c) 12 rfl (fun _ _ => rfl) (fun t h0 hi _ => by
      have hm : ¬t.val % 6 = 0 := by rw [idle12] at hi; simpa using hi
      rw [after_12, after_12]; unfold dvAt; rw [row_pred t hm]) t.val t rfl d,
    fresh12 t.val (Nat.le_of_lt t.isLt), if_neg (by simpa using h), after_12]
  unfold dvAt; rw [row_pred t h]
/-- Past the first row block the gain gradient's buffer holds what the point before left. -/
theorem before_7 (c : Dev nD) (t : Fin cfg0.N) (h : ¬t.val < 6) (d) :
    (dats m 0 c).before 7 t d = dgAt m c (t.val - 1) (Nat.lt_of_le_of_lt (Nat.sub_le _ _) t.isLt) := by
  have hN := pt_lt t
  rw [Dat.before_out_traj (dats m 0 c) 7 rfl (fun _ _ => rfl) (fun t h0 hi _ => by
      have hm : ¬t.val % 6 = 5 := by rw [idle7] at hi; simpa using hi
      rw [after_7, after_7]; exact dgAt_keep m c t hm h0) t.val t rfl d,
    fresh7 t.val (Nat.le_of_lt t.isLt), if_neg (by simp; omega), after_7]

/-! ## The body obligation -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- What it gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

theorem leaves_0 (c : Dev nD) (t : Fin cfg0.N) : ((dats m 0 c).leavesExact 0 t : sProp 𝕄) = owns (c : Thread nD τ) (st0_0 t) fullShare (iblk m c 0 t) := by
  unfold Dat.leavesExact; rw [show cfg0.idle 0 (cfg0.grid.coords t) = false from rfl, after_0]
theorem leaves_1 (c : Dev nD) (t : Fin cfg0.N) : ((dats m 0 c).leavesExact 1 t : sProp 𝕄) = owns (c : Thread nD τ) (st0_1 t) fullShare (iblk m c 1 t) := by
  unfold Dat.leavesExact; rw [show cfg0.idle 1 (cfg0.grid.coords t) = false from rfl, after_1]
theorem leaves_2 (c : Dev nD) (t : Fin cfg0.N) : ((dats m 0 c).leavesExact 2 t : sProp 𝕄) = owns (c : Thread nD τ) (st0_2 t) fullShare (iblk m c 2 t) := by
  unfold Dat.leavesExact; rw [show cfg0.idle 2 (cfg0.grid.coords t) = false from rfl, after_2]
theorem leaves_3 (c : Dev nD) (t : Fin cfg0.N) : ((dats m 0 c).leavesExact 3 t : sProp 𝕄) = owns (c : Thread nD τ) (st0_3 t) fullShare (iblk m c 3 t) := by
  unfold Dat.leavesExact; rw [show cfg0.idle 3 (cfg0.grid.coords t) = false from rfl, after_3]
theorem leaves_4 (c : Dev nD) (t : Fin cfg0.N) : ((dats m 0 c).leavesExact 4 t : sProp 𝕄) = owns (c : Thread nD τ) (st0_4 t) fullShare (iblk m c 4 t) := by
  unfold Dat.leavesExact; rw [show cfg0.idle 4 (cfg0.grid.coords t) = false from rfl, after_4]
theorem leaves_5 (c : Dev nD) (t : Fin cfg0.N) : ((dats m 0 c).leavesExact 5 t : sProp 𝕄) = owns (c : Thread nD τ) (st0_5 t) fullShare (iblk m c 5 t) := by
  unfold Dat.leavesExact; rw [show cfg0.idle 5 (cfg0.grid.coords t) = false from rfl, after_5]
theorem leaves_8 (c : Dev nD) (t : Fin cfg0.N) : ((dats m 0 c).leavesExact 8 t : sProp 𝕄) = owns (c : Thread nD τ) (st0_8 t) fullShare (stepDa (hAt m c t) (iblk m c 2 t) (iblk m c 3 t) (iblk m c 4 t) (dvAt m c t)) := by
  unfold Dat.leavesExact; rw [show cfg0.idle 8 (cfg0.grid.coords t) = false from rfl, after_8]
theorem leaves_9 (c : Dev nD) (t : Fin cfg0.N) : ((dats m 0 c).leavesExact 9 t : sProp 𝕄) = owns (c : Thread nD τ) (st0_9 t) fullShare (stepDb (hAt m c t) (iblk m c 2 t) (iblk m c 4 t) (dvAt m c t)) := by
  unfold Dat.leavesExact; rw [show cfg0.idle 9 (cfg0.grid.coords t) = false from rfl, after_9]
theorem leaves_10 (c : Dev nD) (t : Fin cfg0.N) : ((dats m 0 c).leavesExact 10 t : sProp 𝕄) = owns (c : Thread nD τ) (st0_10 t) fullShare (stepS (hAt m c t) (iblk m c 2 t) (iblk m c 3 t)) := by
  unfold Dat.leavesExact; rw [show cfg0.idle 10 (cfg0.grid.coords t) = false from rfl, after_10]

/-- The windows stored at some points only: the one stored at a point holds what the proof data says, -/
theorem leaves_live (c : Dev nD) (w : Fin cfg0.W) (t : Fin cfg0.N) (h : cfg0.idle w (cfg0.grid.coords t) = false) :
    ((dats m 0 c).leavesExact w t : sProp 𝕄)
      = owns (c : Thread nD τ) ((cfg0.win w).stage (cfg0.slots t w)) fullShare ((dats m 0 c).after w t) := by
  unfold Dat.leavesExact; rw [h]
/-- so does one that keeps its contents and already holds it, -/
theorem leaves_kept (c : Dev nD) (w : Fin cfg0.W) (t : Fin cfg0.N) (d) (h : (dats m 0 c).before w t d = (dats m 0 c).after w t) :
    (owns (c : Thread nD τ) ((cfg0.win w).stage (cfg0.slots t w)) fullShare ((dats m 0 c).before w t d) : sProp 𝕄)
      ⊢ (dats m 0 c).leavesExact w t := by
  unfold Dat.leavesExact
  split
  · split
    · iintro H; iexists d; iexact H
    · rw [h]
      try exact .rfl
  · rw [h]
    try exact .rfl
/-- and one that is not written back at the point may hold what it held. -/
theorem leaves_same (c : Dev nD) (w : Fin cfg0.W) (t : Fin cfg0.N) (d) (hi : cfg0.idle w (cfg0.grid.coords t) = true)
    (hf : (cfg0.win w).flush t = false) :
    (owns (c : Thread nD τ) ((cfg0.win w).stage (cfg0.slots t w)) fullShare ((dats m 0 c).before w t d) : sProp 𝕄)
      ⊢ (dats m 0 c).leavesExact w t := by
  rw [Dat.leavesExact_idle (dats m 0 c) w t hi hf]
  iintro H; iexists d; iexact H

set_option maxHeartbeats 4000000 in
/-- A point of kind A. -/
theorem soundA (c : Dev nD) (t : Fin cfg0.N) (h0 : t.val % 6 = 0) :
    bodyPre m c t ⊢ wp frame (wpE (defs₀ (F := F)) Variants.none c none) Set.univ (bodyAt0 t) (fun _ => bodyPost m c t) := by
  have hN := pt_lt t
  unfold bodyPre bodyPost bodyAt0
  simp only [before_0, before_1, before_2, before_3, before_4, before_5]
  rw [show (dats m 0 c).owesAt () t.succ = (dats m 0 c).owesAt () t.castSucc from rfl]
  rw [show (dats m 0 c).Φ t.succ = keep m c (t.val + 1) t.isLt from rfl, keep_succ, keep_castSucc]
  rw [leaves_0, leaves_1, leaves_2, leaves_3, leaves_4, leaves_5, leaves_8, leaves_9, leaves_10]
  have er : row t = t := row_self t h0
  rw [leaves_live m c 11 t (by rw [show cfg0.idle 11 (cfg0.grid.coords t) = _ from idle11 t]; simp [h0]), leaves_live m c 12 t (by rw [show cfg0.idle 12 (cfg0.grid.coords t) = _ from idle12 t]; simp [h0]), after_11, after_12]
  rw [accAt_first m c t h0]
  unfold hAt dvAt; rw [er]
  refine (sep_mono_l (keep_open m c t.val _)).trans ?_
  show (iprop(_ ∗ _) : sProp 𝕄) ⊢ _
  iintro ⟨⟨⟨%dS, HS⟩, Hg⟩, Ho, HW⟩
  icases HW with ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runA c (grid0.coords t) _ _ _ _ _ _ _ _ _ _ _ _ _ _ _ _ _ _ _ _ _ _ _ _ _ _ _ _ ((cond1_iff t).mpr h0) (fun h => absurd ((cond2_iff t).mp h) (by omega)) _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS]; · iexact HS
  iintro ⟨H0, H1, H2, H3, H4, H5, H6, H7, H8, H9, H10, H11, H12, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leaves_same m c 6 t _ (by rw [show cfg0.idle 6 (cfg0.grid.coords t) = _ from idle6 t]; simp; omega) (Bool.eq_false_iff.mpr fun h => absurd ((flush0_6 t).mp h) (by omega))); iexact H6
  isplitl [H7]; · iapply (leaves_same m c 7 t _ (by rw [show cfg0.idle 7 (cfg0.grid.coords t) = _ from idle7 t]; simp; omega) (Bool.eq_false_iff.mpr fun h => absurd ((flush0_7 t).mp h) (by omega))); iexact H7
  isplitl [H8]; · iexact H8
  isplitl [H9]; · iexact H9
  isplitl [H10]; · iexact H10
  isplitl [H11]; · iexact H11
  iexact H12

set_option maxHeartbeats 4000000 in
/-- A point of kind B. -/
theorem soundB (c : Dev nD) (t : Fin cfg0.N) (h0 : ¬t.val % 6 = 0) (h5 : ¬t.val % 6 = 5) :
    bodyPre m c t ⊢ wp frame (wpE (defs₀ (F := F)) Variants.none c none) Set.univ (bodyAt0 t) (fun _ => bodyPost m c t) := by
  have hN := pt_lt t
  unfold bodyPre bodyPost bodyAt0
  simp only [before_0, before_1, before_2, before_3, before_4, before_5]
  have hr : ¬t.val % 6 = 0 := by omega
  simp only [before_11 m c t hr, before_12 m c t hr]
  rw [show (dats m 0 c).owesAt () t.succ = (dats m 0 c).owesAt () t.castSucc from rfl]
  rw [show (dats m 0 c).Φ t.succ = keep m c (t.val + 1) t.isLt from rfl, keep_succ, keep_castSucc]
  rw [leaves_0, leaves_1, leaves_2, leaves_3, leaves_4, leaves_5, leaves_8, leaves_9, leaves_10]
  rw [accAt_next m c t hr, keep_pos m c t.val _ (by omega)]
  iintro ⟨⟨HS, Hg⟩, Ho, HW⟩
  icases HW with ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runB c (grid0.coords t) _ _ _ _ _ _ _ _ _ _ _ _ _ _ _ _ _ _ _ _ _ _ _ _ _ _ _ _ (fun h => h0 ((cond1_iff t).mp h)) (fun h => h5 ((cond2_iff t).mp h)) _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS]; · iexact HS
  iintro ⟨H0, H1, H2, H3, H4, H5, H6, H7, H8, H9, H10, H11, H12, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leaves_same m c 6 t _ (by rw [show cfg0.idle 6 (cfg0.grid.coords t) = _ from idle6 t]; simp; omega) (Bool.eq_false_iff.mpr fun h => absurd ((flush0_6 t).mp h) (by omega))); iexact H6
  isplitl [H7]; · iapply (leaves_same m c 7 t _ (by rw [show cfg0.idle 7 (cfg0.grid.coords t) = _ from idle7 t]; simp; omega) (Bool.eq_false_iff.mpr fun h => absurd ((flush0_7 t).mp h) (by omega))); iexact H7
  isplitl [H8]; · iexact H8
  isplitl [H9]; · iexact H9
  isplitl [H10]; · iexact H10
  isplitl [H11]; · iapply (leaves_kept m c 11 t d11 ((before_11 m c t hr d11).trans (after_11 m c t).symm)); rw [before_11 m c t hr]; iexact H11
  iapply (leaves_kept m c 12 t d12 ((before_12 m c t hr d12).trans (after_12 m c t).symm)); rw [before_12 m c t hr]; iexact H12

set_option maxHeartbeats 4000000 in
/-- A point of kind C. -/
theorem soundC (c : Dev nD) (t : Fin cfg0.N) (h5 : t.val % 6 = 5) (h6 : t.val < 6) :
    bodyPre m c t ⊢ wp frame (wpE (defs₀ (F := F)) Variants.none c none) Set.univ (bodyAt0 t) (fun _ => bodyPost m c t) := by
  have hN := pt_lt t
  unfold bodyPre bodyPost bodyAt0
  simp only [before_0, before_1, before_2, before_3, before_4, before_5]
  have hr : ¬t.val % 6 = 0 := by omega
  simp only [before_11 m c t hr, before_12 m c t hr]
  rw [show (dats m 0 c).owesAt () t.succ = (dats m 0 c).owesAt () t.castSucc from rfl]
  rw [show (dats m 0 c).Φ t.succ = keep m c (t.val + 1) t.isLt from rfl, keep_succ, keep_castSucc]
  rw [leaves_0, leaves_1, leaves_2, leaves_3, leaves_4, leaves_5, leaves_8, leaves_9, leaves_10]
  rw [leaves_live m c 6 t (by rw [show cfg0.idle 6 (cfg0.grid.coords t) = _ from idle6 t]; simp [h5]), leaves_live m c 7 t (by rw [show cfg0.idle 7 (cfg0.grid.coords t) = _ from idle7 t]; simp [h5]), after_6, after_7]
  rw [dgAt_first m c t h5 h6]
  rw [accAt_next m c t hr, keep_pos m c t.val _ (by omega)]
  iintro ⟨⟨HS, Hg⟩, Ho, HW⟩
  icases HW with ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runC c (grid0.coords t) _ _ _ _ _ _ _ _ _ _ _ _ _ _ _ _ _ _ _ _ _ _ _ _ _ _ _ _ (fun h => absurd ((cond1_iff t).mp h) (by omega)) ((cond2_iff t).mpr h5) ((cond3_iff t).mpr h6) (fun h => (cond4_iff t).mp h h6) _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS]; · iexact HS
  iintro ⟨H0, H1, H2, H3, H4, H5, H6, H7, H8, H9, H10, H11, H12, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply (leaves_kept m c 11 t d11 ((before_11 m c t hr d11).trans (after_11 m c t).symm)); rw [before_11 m c t hr]; iexact H11
  iapply (leaves_kept m c 12 t d12 ((before_12 m c t hr d12).trans (after_12 m c t).symm)); rw [before_12 m c t hr]; iexact H12

set_option maxHeartbeats 4000000 in
/-- A point of kind D. -/
theorem soundD (c : Dev nD) (t : Fin cfg0.N) (h5 : t.val % 6 = 5) (h6 : ¬t.val < 6) :
    bodyPre m c t ⊢ wp frame (wpE (defs₀ (F := F)) Variants.none c none) Set.univ (bodyAt0 t) (fun _ => bodyPost m c t) := by
  have hN := pt_lt t
  unfold bodyPre bodyPost bodyAt0
  simp only [before_0, before_1, before_2, before_3, before_4, before_5]
  have hr : ¬t.val % 6 = 0 := by omega
  simp only [before_11 m c t hr, before_12 m c t hr]
  simp only [before_7 m c t h6]
  rw [show (dats m 0 c).owesAt () t.succ = (dats m 0 c).owesAt () t.castSucc from rfl]
  rw [show (dats m 0 c).Φ t.succ = keep m c (t.val + 1) t.isLt from rfl, keep_succ, keep_castSucc]
  rw [leaves_0, leaves_1, leaves_2, leaves_3, leaves_4, leaves_5, leaves_8, leaves_9, leaves_10]
  rw [leaves_live m c 6 t (by rw [show cfg0.idle 6 (cfg0.grid.coords t) = _ from idle6 t]; simp [h5]), leaves_live m c 7 t (by rw [show cfg0.idle 7 (cfg0.grid.coords t) = _ from idle7 t]; simp [h5]), after_6, after_7]
  rw [dgAt_next m c t h5 h6]
  rw [accAt_next m c t hr, keep_pos m c t.val _ (by omega)]
  iintro ⟨⟨HS, Hg⟩, Ho, HW⟩
  icases HW with ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runD c (grid0.coords t) _ _ _ _ _ _ _ _ _ _ _ _ _ _ _ _ _ _ _ _ _ _ _ _ _ _ _ _ (fun h => absurd ((cond1_iff t).mp h) (by omega)) ((cond2_iff t).mpr h5) (fun h => h6 ((cond3_iff t).mp h)) ((cond4_iff t).mpr h6) _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS]; · iexact HS
  iintro ⟨H0, H1, H2, H3, H4, H5, H6, H7, H8, H9, H10, H11, H12, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply (leaves_kept m c 11 t d11 ((before_11 m c t hr d11).trans (after_11 m c t).symm)); rw [before_11 m c t hr]; iexact H11
  iapply (leaves_kept m c 12 t d12 ((before_12 m c t hr d12).trans (after_12 m c t).symm)); rw [before_12 m c t hr]; iexact H12

/-- The body at any point. -/
theorem sound (c : Dev nD) (t : Fin cfg0.N) :
    bodyPre m c t ⊢ wp frame (wpE (defs₀ (F := F)) Variants.none c none) Set.univ (bodyAt0 t) (fun _ => bodyPost m c t) := by
  by_cases h0 : t.val % 6 = 0
  · exact soundA m c t h0
  by_cases h5 : t.val % 6 = 5
  · by_cases h6 : t.val < 6
    · exact soundC m c t h5 h6
    · exact soundD m c t h5 h6
  · exact soundB m c t h0 h5

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound m c t) rfl .rfl fun _ => .rfl

theorem hin (c : Dev nD) : Pipeline.ΦA spec0 c ⊢ (dats m 0 c).Φ 0 := by
  rw [show (dats m 0 c).Φ 0 = keep m c 0 (Nat.zero_le _) from rfl, keep_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = keep m c cfg0.N (Nat.le_refl _) from rfl, rest_eq]
  exact keep_open m c _ _

/-! ## The run and the frame -/

-- the launch theorem's implicit arguments are found by unifying its conclusion with this one
set_option backward.isDefEq.respectTransparency.types false in
/-- Every execution ends with every array of the pipeline at what the proof data says and every counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

/-- The frame, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiet m ρ))

end Cert.FfnBIdeal.Body

end
-- ==== Proof.FfnBValue.lean ====
/-
  The gradient of the feed-forward block: what the kernel leaves in its seven results.
-/
module

public import proofs.«01_k».proof.Proof.FfnBBody
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnBIdeal.Value

open Cert.FfnBIdeal Cert.FfnBIdeal.Gen Cert.FfnBIdeal.Body

/-! ## One row and one hidden column -/

/-- The mean of the squares of a row of 1024, plus the printed ε. -/
def meanSq (x : Fin 1024 → EReal) : EReal :=
  Ideal.div (∑ l, x l * x l) (Ideal.ofBits .f32 0x44800000#32) + Ideal.ofBits .f32 0x358637BD#32

/-- The row over the root of that mean, times the gain. -/
def normed (x g : Fin 1024 → EReal) (l : Fin 1024) : EReal := x l * Ideal.rsqrt (meanSq x) * g l

/-- Half of a row. -/
def half (d : Fin 1024 → EReal) (l : Fin 1024) : EReal := Ideal.ofBits .f32 0x3F000000#32 * d l

/-- `1 / (1 + e^(-z))`. -/
def sigm (z : EReal) : EReal := Ideal.div 1 (1 + Ideal.exp (-z))

/-- The product of two rows. -/
def dot (u v : Fin 1024 → EReal) : EReal := ∑ l, u l * v l

/-- The gradient in the gate's product at a row `h` with incoming gradient `d` and the hidden column whose three weight
    vectors are `wg`, `wu` and `wd`, -/
def gA (h wg wu wd d : Fin 1024 → EReal) : EReal :=
  dot d wd * dot h wu * (sigm (dot h wg) * (1 + dot h wg * (1 - sigm (dot h wg))))
/-- that in the other product, -/
def gB (h wg wd d : Fin 1024 → EReal) : EReal := dot d wd * (dot h wg * sigm (dot h wg))
/-- and the hidden value. -/
def gS (h wg wu : Fin 1024 → EReal) : EReal := dot h wg * sigm (dot h wg) * dot h wu

/-- What of a row's gradient comes through the mean of the squares, before the factor `x`: `p` is the gradient in the
    normed row times the gain. -/
def dMean (x p : Fin 1024 → EReal) : EReal :=
  Ideal.div ((∑ l, x l * p l) * (Ideal.ofBits .f32 0xBF000000#32 * Ideal.div (Ideal.rsqrt (meanSq x)) (meanSq x)))
    (Ideal.ofBits .f32 0x44800000#32)

/-- The gradient in the row: the residual's and the norm's. -/
def dRow (x g dh dy : Fin 1024 → EReal) (l : Fin 1024) : EReal :=
  dy l + dh l * g l * Ideal.rsqrt (meanSq x) + x l * dMean x (fun l => dh l * g l) + dMean x (fun l => dh l * g l) * x l

/-- A row's part of the gradient in the gain. -/
def dGain (x dh : Fin 1024 → EReal) (l : Fin 1024) : EReal := x l * Ideal.rsqrt (meanSq x) * dh l

/-! ## The payloads are these functions of the rows and columns of the blocks -/

section Payloads

variable (x dy : Vec Ideal S512x1024 .f32) (g : Vec Ideal S1x1024 .f32) (h dv : Vec Ideal S512x1024 .bf16)
  (wg wu : Vec Ideal S1024x512 .bf16) (wd : Vec Ideal S512x1024 .bf16) (acc : Vec Ideal S512x1024 .f32)

theorem pay_norm (r : Fin 512) (l : Fin 1024) :
    k0_pay8 x g (ix2 r l) = normed (fun l => x (ix2 r l)) (fun l => g (ix2 0 l)) l := by
  unfold normed meanSq
  pointwise [k0_pay8, k0_pay5, k0_pay4]

theorem pay_half (r : Fin 512) (l : Fin 1024) : k0_pay9 dy (ix2 r l) = half (fun l => dy (ix2 r l)) l := by
  unfold half
  pointwise [k0_pay9]

theorem pay_da (r f : Fin 512) :
    stepDa h wg wu wd dv (ix2 r f) = gA (fun l => h (ix2 r l)) (fun l => wg (ix2 l f)) (fun l => wu (ix2 l f))
      (fun l => wd (ix2 f l)) (fun l => dv (ix2 r l)) := by
  unfold gA dot sigm
  pointwise [stepDa, k0_pay17, k0_pay15, k0_pay14, k0_pay13, k0_pay12, k0_pay11]
  simp only [zero_sub]

theorem pay_db (r f : Fin 512) :
    stepDb h wg wd dv (ix2 r f) = gB (fun l => h (ix2 r l)) (fun l => wg (ix2 l f)) (fun l => wd (ix2 f l))
      (fun l => dv (ix2 r l)) := by
  unfold gB dot sigm
  pointwise [stepDb, k0_pay18, k0_pay16, k0_pay15, k0_pay14, k0_pay12, k0_pay11]
  simp only [zero_sub]

theorem pay_s (r f : Fin 512) :
    stepS h wg wu (ix2 r f) = gS (fun l => h (ix2 r l)) (fun l => wg (ix2 l f)) (fun l => wu (ix2 l f)) := by
  unfold gS dot sigm
  pointwise [stepS, k0_pay1, k0_pay16, k0_pay15, k0_pay13, k0_pay12, k0_pay11]
  simp only [zero_sub]

theorem pay_acc (da db : Vec Ideal S512x512 .bf16) (r : Fin 512) (l : Fin 1024) :
    k0_pay2 da db acc wg wu (ix2 r l) = acc (ix2 r l) + ((∑ f : Fin 512, da (ix2 r f) * wg (ix2 l f))
      + ∑ f : Fin 512, db (ix2 r f) * wu (ix2 l f)) := by
  pointwise [k0_pay2]

theorem pay_zero (r : Fin 512) (l : Fin 1024) : k0_pay10 (F := Ideal) (ix2 r l) = 0 := by
  pointwise [k0_pay10]

theorem pay_gain (u : Fin 1) (l : Fin 1024) :
    k0_pay6 x acc (ix2 u l) = ∑ r : Fin 512, dGain (fun l => x (ix2 r l)) (fun l => acc (ix2 r l)) l := by
  unfold dGain meanSq
  pointwise [k0_pay6, k0_pay5, k0_pay4]

theorem pay_row (r : Fin 512) (l : Fin 1024) :
    k0_pay7 x g acc dy (ix2 r l) = dRow (fun l => x (ix2 r l)) (fun l => g (ix2 0 l)) (fun l => acc (ix2 r l))
      (fun l => dy (ix2 r l)) l := by
  unfold dRow dMean meanSq
  pointwise [k0_pay7, k0_pay5, k0_pay4]
  simp only [Fin.sum_univ_one, Finset.univ_unique, Finset.sum_const, Finset.card_singleton, one_smul, add_assoc]

end Payloads

theorem pay_add (a b : Vec Ideal S1x1024 .f32) (u : Fin 1) (l : Fin 1024) : k0_pay3 a b (ix2 u l) = b (ix2 u l) + a (ix2 u l) := by
  pointwise [k0_pay3]

/-! ## The seven arrays -/

section Arrays

variable (x : FVec Ideal S8192x1024 .f32) (g : FVec Ideal S1x1024 .f32) (wg wu : FVec Ideal S1024x2816 .f32)
  (wd : FVec Ideal S2816x1024 .f32) (dy : FVec Ideal S8192x1024 .f32)

/-- A token's row, the gain, and what the body makes of them. -/
def rowOf (x : FVec Ideal S8192x1024 .f32) (t : Fin 8192) (l : Fin 1024) : EReal := x (ix2 t l)
def gainOf (l : Fin 1024) : EReal := g (ix2 0 l)
def hRow (t : Fin 8192) : Fin 1024 → EReal := normed (rowOf x t) (gainOf g)
def dRowOf (t : Fin 8192) : Fin 1024 → EReal := half (rowOf dy t)

/-- A hidden column's weight vectors, zero past the 2816 true columns. -/
def colOf (w : FVec Ideal S1024x2816 .f32) (f : Fin 3072) (l : Fin 1024) : EReal :=
  if h : f.val < 2816 then w (ix2 l ⟨f.val, h⟩) else 0
def colOfD (f : Fin 3072) (l : Fin 1024) : EReal := if h : f.val < 2816 then wd (ix2 ⟨f.val, h⟩ l) else 0

/-- The gradients in the two products, the hidden values, the normed rows and half the incoming gradient. -/
def outA : FVec Ideal S8192x3072 .bf16 := fun i =>
  gA (hRow x g (i 0)) (colOf wg (i 1)) (colOf wu (i 1)) (colOfD wd (i 1)) (dRowOf dy (i 0))
def outB : FVec Ideal S8192x3072 .bf16 := fun i => gB (hRow x g (i 0)) (colOf wg (i 1)) (colOfD wd (i 1)) (dRowOf dy (i 0))
def outS : FVec Ideal S8192x3072 .bf16 := fun i => gS (hRow x g (i 0)) (colOf wg (i 1)) (colOf wu (i 1))
def outH : FVec Ideal S8192x1024 .bf16 := fun i => hRow x g (i 0) (i 1)
def outV : FVec Ideal S8192x1024 .bf16 := fun i => dRowOf dy (i 0) (i 1)

/-- One hidden column's part of the gradient in the normed row, -/
def dhTerm (t : Fin 8192) (l : Fin 1024) (f : Fin 3072) : EReal :=
  gA (hRow x g t) (colOf wg f) (colOf wu f) (colOfD wd f) (dRowOf dy t) * colOf wg f l
    + gB (hRow x g t) (colOf wg f) (colOfD wd f) (dRowOf dy t) * colOf wu f l
/-- and the gradient. -/
def dhRow (t : Fin 8192) (l : Fin 1024) : EReal := ∑ f : Fin 3072, dhTerm x g wg wu wd dy t l f

/-- The gradients in the block's input and in the gain. -/
def outX : FVec Ideal S8192x1024 .f32 := fun i =>
  dRow (rowOf x (i 0)) (gainOf g) (dhRow x g wg wu wd dy (i 0)) (rowOf dy (i 0)) (i 1)
def outG : FVec Ideal S1x1024 .f32 := fun i =>
  ∑ t : Fin 8192, dGain (rowOf x t) (dhRow x g wg wu wd dy t) (i 1)

end Arrays

/-! ## The blocks are rows and columns of the arguments -/

variable (m : (ℓ : Loc nD τ sig) → Buf (Elt Ideal) ℓ)

/-- Where the windows lie: point `t` is row block `t / 6` and column block `t % 6`. -/
theorem geom : ∀ t : Fin cfg0.N,
    win0_0.index t = ![t.val / 6, 0] ∧ win0_1.index t = ![0, 0] ∧ win0_2.index t = ![0, t.val % 6]
    ∧ win0_3.index t = ![0, t.val % 6] ∧ win0_4.index t = ![t.val % 6, 0] ∧ win0_5.index t = ![t.val / 6, 0]
    ∧ win0_6.index t = ![t.val / 6, 0] ∧ win0_7.index t = ![0, 0] ∧ win0_8.index t = ![t.val / 6, t.val % 6]
    ∧ win0_9.index t = ![t.val / 6, t.val % 6] ∧ win0_10.index t = ![t.val / 6, t.val % 6]
    ∧ win0_11.index t = ![t.val / 6, 0] ∧ win0_12.index t = ![t.val / 6, 0] :=
  by decide +kernel

/-- The six arguments' contents at launch. -/
abbrev argX (c : Dev nD) : FVec Ideal S8192x1024 .f32 := m (c.tc.loc main_arg0)
abbrev argG (c : Dev nD) : FVec Ideal S1x1024 .f32 := m (c.tc.loc main_arg1)
abbrev argWg (c : Dev nD) : FVec Ideal S1024x2816 .f32 := m (c.tc.loc main_arg2)
abbrev argWu (c : Dev nD) : FVec Ideal S1024x2816 .f32 := m (c.tc.loc main_arg3)
abbrev argWd (c : Dev nD) : FVec Ideal S2816x1024 .f32 := m (c.tc.loc main_arg4)
abbrev argD (c : Dev nD) : FVec Ideal S8192x1024 .f32 := m (c.tc.loc main_arg5)

/-- The integer zero the pads fill with. -/
theorem fill_zero : (FloatOps.sitofp (F := Ideal) .bf16 0#32 : EReal) = 0 := by
  show ((((0#32 : BitVec 32).toInt : ℤ) : ℝ) : EReal) = 0
  simp

/-- What the host's casts and pads leave of the weights. -/
theorem V_main_v3 (c : Dev nD) : V m c main_v3 = pad S1024x3072 ![0, 0] ![0, 256] ![0, 0]
    (truncf .bf16 (argWg m c) bitsLt_bf16_f32) (sitofp (F := Ideal) .bf16 (constantI S_ 32 0#32)) pads_S1024x2816_S1024x3072_000_02560 h_S_ := by
  unfold_abbrev_sides
  simp only [List.flatten_cons, List.flatten_nil, List.append_nil, List.cons_append, List.nil_append]
  after_results
  rfl
theorem V_main_v4 (c : Dev nD) : V m c main_v4 = pad S1024x3072 ![0, 0] ![0, 256] ![0, 0]
    (truncf .bf16 (argWu m c) bitsLt_bf16_f32) (sitofp (F := Ideal) .bf16 (constantI S_ 32 0#32)) pads_S1024x2816_S1024x3072_000_02560 h_S_ := by
  unfold_abbrev_sides
  simp only [List.flatten_cons, List.flatten_nil, List.append_nil, List.cons_append, List.nil_append]
  after_results
  rfl
theorem V_main_v5 (c : Dev nD) : V m c main_v5 = pad S3072x1024 ![0, 0] ![256, 0] ![0, 0]
    (truncf .bf16 (argWd m c) bitsLt_bf16_f32) (sitofp (F := Ideal) .bf16 (constantI S_ 32 0#32)) pads_S2816x1024_S3072x1024_02560_000 h_S_ := by
  unfold_abbrev_sides
  simp only [List.flatten_cons, List.flatten_nil, List.append_nil, List.cons_append, List.nil_append]
  after_results
  rfl

/-- The token of row `r` of point `t`'s blocks and the hidden column of column `f`. -/
abbrev tk (t : Fin cfg0.N) (r : Fin 512) : Fin 8192 := ⟨t.val / 6 * 512 + r.val, by have := pt_lt t; omega⟩
abbrev hc (t : Fin cfg0.N) (f : Fin 512) : Fin 3072 := ⟨t.val % 6 * 512 + f.val, by omega⟩

theorem tk_row (t : Fin cfg0.N) (r : Fin 512) : tk (row t) r = tk t r :=
  Fin.ext (by show (t.val - t.val % 6) / 6 * 512 + r.val = t.val / 6 * 512 + r.val; omega)

theorem blockX (c : Dev nD) (t : Fin cfg0.N) (r : Fin 512) :
    (fun l : Fin 1024 => (iblk m c 0 t : Vec Ideal S512x1024 .f32) (ix2 r l)) = rowOf (argX m c) (tk t r) := by
  funext l
  unfold rowOf
  refine Eq.trans ?_ (congrFun (V_main_arg0 m c) _)
  blk_ext [iblk, geom t]

theorem blockG (c : Dev nD) (t : Fin cfg0.N) :
    (fun l : Fin 1024 => (iblk m c 1 t : Vec Ideal S1x1024 .f32) (ix2 0 l)) = gainOf (argG m c) := by
  funext l
  unfold gainOf
  refine Eq.trans ?_ (congrFun (V_main_arg1 m c) _)
  blk_ext [iblk, geom t]

theorem blockD (c : Dev nD) (t : Fin cfg0.N) (r : Fin 512) :
    (fun l : Fin 1024 => (iblk m c 5 t : Vec Ideal S512x1024 .f32) (ix2 r l)) = rowOf (argD m c) (tk t r) := by
  funext l
  unfold rowOf
  refine Eq.trans ?_ (congrFun (V_main_arg5 m c) _)
  blk_ext [iblk, geom t]

theorem blockWg (c : Dev nD) (t : Fin cfg0.N) (f : Fin 512) :
    (fun l : Fin 1024 => (iblk m c 2 t : Vec Ideal S1024x512 .bf16) (ix2 l f)) = colOf (argWg m c) (hc t f) := by
  funext l
  have e : (iblk m c 2 t : Vec Ideal S1024x512 .bf16) (ix2 l f) = (V m c main_v3 : Vec Ideal S1024x3072 .bf16) (ix2 l (hc t f)) := by
    blk_ext [iblk, geom t]
  rw [e, V_main_v3]
  unfold colOf
  pointwise [fill_zero]

theorem blockWu (c : Dev nD) (t : Fin cfg0.N) (f : Fin 512) :
    (fun l : Fin 1024 => (iblk m c 3 t : Vec Ideal S1024x512 .bf16) (ix2 l f)) = colOf (argWu m c) (hc t f) := by
  funext l
  have e : (iblk m c 3 t : Vec Ideal S1024x512 .bf16) (ix2 l f) = (V m c main_v4 : Vec Ideal S1024x3072 .bf16) (ix2 l (hc t f)) := by
    blk_ext [iblk, geom t]
  rw [e, V_main_v4]
  unfold colOf
  pointwise [fill_zero]

theorem blockWd (c : Dev nD) (t : Fin cfg0.N) (f : Fin 512) :
    (fun l : Fin 1024 => (iblk m c 4 t : Vec Ideal S512x1024 .bf16) (ix2 f l)) = colOfD (argWd m c) (hc t f) := by
  funext l
  have e : (iblk m c 4 t : Vec Ideal S512x1024 .bf16) (ix2 f l) = (V m c main_v5 : Vec Ideal S3072x1024 .bf16) (ix2 (hc t f) l) := by
    blk_ext [iblk, geom t]
  rw [e, V_main_v5]
  unfold colOfD
  pointwise [fill_zero]

/-- The normed rows and the half gradient the body keeps for a row block. -/
theorem blockH (c : Dev nD) (t : Fin cfg0.N) (r : Fin 512) :
    (fun l : Fin 1024 => hAt m c t (ix2 r l)) = hRow (argX m c) (argG m c) (tk t r) := by
  funext l
  unfold hAt hRow
  rw [pay_norm, ← tk_row]
  exact congrFun (congr (congrArg normed (blockX m c (row t) r)) (blockG m c (row t))) l

theorem blockV (c : Dev nD) (t : Fin cfg0.N) (r : Fin 512) :
    (fun l : Fin 1024 => dvAt m c t (ix2 r l)) = dRowOf (argD m c) (tk t r) := by
  funext l
  unfold dvAt dRowOf
  rw [pay_half, ← tk_row]
  exact congrFun (congrArg half (blockD m c (row t) r)) l

/-! ## What a point stores -/

theorem stored_da (c : Dev nD) (t : Fin cfg0.N) (r f : Fin 512) :
    stepDa (hAt m c t) (iblk m c 2 t) (iblk m c 3 t) (iblk m c 4 t) (dvAt m c t) (ix2 r f)
      = gA (hRow (argX m c) (argG m c) (tk t r)) (colOf (argWg m c) (hc t f)) (colOf (argWu m c) (hc t f))
          (colOfD (argWd m c) (hc t f)) (dRowOf (argD m c) (tk t r)) :=
  (pay_da _ _ _ _ _ r f).trans (congr (congr (congr (congr (congrArg gA (blockH m c t r)) (blockWg m c t f)) (blockWu m c t f))
    (blockWd m c t f)) (blockV m c t r))

theorem stored_db (c : Dev nD) (t : Fin cfg0.N) (r f : Fin 512) :
    stepDb (hAt m c t) (iblk m c 2 t) (iblk m c 4 t) (dvAt m c t) (ix2 r f)
      = gB (hRow (argX m c) (argG m c) (tk t r)) (colOf (argWg m c) (hc t f)) (colOfD (argWd m c) (hc t f))
          (dRowOf (argD m c) (tk t r)) :=
  (pay_db _ _ _ _ r f).trans (congr (congr (congr (congrArg gB (blockH m c t r)) (blockWg m c t f)) (blockWd m c t f))
    (blockV m c t r))

theorem stored_s (c : Dev nD) (t : Fin cfg0.N) (r f : Fin 512) :
    stepS (hAt m c t) (iblk m c 2 t) (iblk m c 3 t) (ix2 r f)
      = gS (hRow (argX m c) (argG m c) (tk t r)) (colOf (argWg m c) (hc t f)) (colOf (argWu m c) (hc t f)) :=
  (pay_s _ _ _ r f).trans (congr (congr (congrArg gS (blockH m c t r)) (blockWg m c t f)) (blockWu m c t f))

/-- A column block's part of the gradient in the normed rows. -/
def accTerm (c : Dev nD) (t : Fin cfg0.N) (i : S512x1024.Idx) : EReal :=
  ∑ f : Fin 512, dhTerm (argX m c) (argG m c) (argWg m c) (argWu m c) (argWd m c) (argD m c) (tk t (i 0)) (i 1) (hc t f)

theorem stored_acc (c : Dev nD) (t : Fin cfg0.N) (acc : Vec Ideal S512x1024 .f32) (i : S512x1024.Idx) :
    stepAcc (hAt m c t) (iblk m c 2 t) (iblk m c 3 t) (iblk m c 4 t) (dvAt m c t) acc i
      = HAdd.hAdd (α := EReal) (β := EReal) (γ := EReal) (acc i) (accTerm m c t i) := by
  obtain ⟨r, l, rfl⟩ : ∃ (r : Fin 512) (l : Fin 1024), i = ix2 r l := ⟨i 0, i 1, eq_ix2 i⟩
  refine (pay_acc _ _ acc _ _ r l).trans (congrArg (HAdd.hAdd (α := EReal) (acc (ix2 r l))) ?_)
  unfold accTerm dhTerm
  rw [Finset.sum_add_distrib]
  refine congr (congrArg _ (Finset.sum_congr rfl fun f _ => ?_)) (Finset.sum_congr rfl fun f _ => ?_)
  · exact congr (congrArg (HMul.hMul (α := EReal)) (stored_da m c t r f)) (congrFun (blockWg m c t f) l)
  · exact congr (congrArg (HMul.hMul (α := EReal)) (stored_db m c t r f)) (congrFun (blockWu m c t f) l)

/-- At a row block's last point the accumulator holds the gradient in the normed rows. -/
theorem acc_last (c : Dev nD) (t : Fin cfg0.N) (h : t.val % 6 = 5) (r : Fin 512) (l : Fin 1024) :
    accAt m c t.val t.isLt (ix2 r l)
      = dhRow (argX m c) (argG m c) (argWg m c) (argWu m c) (argWd m c) (argD m c) (tk t r) l := by
  have hN := pt_lt t
  refine (Pipeline.eq_sum_fin_of_reset_step_apply_of_flush (M := EReal) (fun n h => accAt m c n h) 6 (fun _ => 0) (accTerm m c)
    (fun t h i => ?_) (fun t h i => ?_) t h (ix2 r l)).trans ?_
  · rw [accAt_first m c t h, stored_acc]
    exact congrArg (fun a : EReal => a + accTerm m c t i) ((congrArg _ (eq_ix2 i)).trans (pay_zero (i 0) (i 1)))
  · rw [accAt_next m c t h, stored_acc]
  · rw [zero_add]
    unfold dhRow accTerm
    refine Fin.sum_mul_add_congr fun s f hl => ?_
    have e1 : tk ⟨6 * (t.val / 6) + s.val, Pipeline.run_point_lt_of_flush t h s⟩ r = tk t r := Fin.ext (by
      show (6 * (t.val / 6) + s.val) / 6 * 512 + r.val = t.val / 6 * 512 + r.val; omega)
    have e2 : hc ⟨6 * (t.val / 6) + s.val, Pipeline.run_point_lt_of_flush t h s⟩ f = ⟨s.val * 512 + f.val, hl⟩ := Fin.ext (by
      show (6 * (t.val / 6) + s.val) % 6 * 512 + f.val = s.val * 512 + f.val; omega)
    show dhTerm _ _ _ _ _ _ (tk _ r) l (hc _ f) = _
    rw [e1, e2]

theorem acc_row (c : Dev nD) (t : Fin cfg0.N) (h : t.val % 6 = 5) (r : Fin 512) :
    (fun l : Fin 1024 => accAt m c t.val t.isLt (ix2 r l))
      = dhRow (argX m c) (argG m c) (argWg m c) (argWu m c) (argWd m c) (argD m c) (tk t r) :=
  funext fun l => acc_last m c t h r l

/-- The gain's gradient from row block `s`. -/
def gainTerm (c : Dev nD) (l : Fin 1024) (s : ℕ) : EReal :=
  if h : s < 16 then ∑ r : Fin 512, dGain (rowOf (argX m c) ⟨s * 512 + r.val, by omega⟩)
    (dhRow (argX m c) (argG m c) (argWg m c) (argWu m c) (argWd m c) (argD m c) ⟨s * 512 + r.val, by omega⟩) l
  else 0

theorem stored_gain (c : Dev nD) (t : Fin cfg0.N) (h : t.val % 6 = 5) (u : Fin 1) (l : Fin 1024) :
    k0_pay6 (iblk m c 0 t) (accAt m c t.val t.isLt) (ix2 u l) = gainTerm m c l (t.val / 6) := by
  have hN := pt_lt t
  unfold gainTerm
  rw [dif_pos (by omega)]
  exact (pay_gain _ _ u l).trans (Finset.sum_congr rfl fun r _ =>
    congrFun (congr (congrArg dGain (blockX m c t r)) (acc_row m c t h r)) l)

/-- The gain's gradient after point `n`: the row blocks that are through. -/
theorem gain_sum (c : Dev nD) (u : Fin 1) (l : Fin 1024) : ∀ (n : ℕ) (hn : n < cfg0.N), 5 ≤ n →
    dgAt m c n hn (ix2 u l) = ∑ s ∈ Finset.range ((n + 1) / 6), gainTerm m c l s := by
  intro n
  induction n with
  | zero => intro _ h; omega
  | succ n ih =>
    intro hn h5
    by_cases h : (n + 1) % 6 = 5
    · have e : (n + 1 + 1) / 6 = (n + 1) / 6 + 1 := by omega
      by_cases h' : n + 1 < 6
      · have e0 : (n + 1) / 6 = 0 := by omega
        rw [dgAt_first m c ⟨n + 1, hn⟩ h h', stored_gain m c ⟨n + 1, hn⟩ h, e, Finset.sum_range_succ, e0, Finset.sum_range_zero,
          zero_add]
      · rw [dgAt_next m c ⟨n + 1, hn⟩ h h', e, Finset.sum_range_succ]
        refine (pay_add _ _ u l).trans (congr (congrArg _ (ih (by omega) (by omega))) (stored_gain m c ⟨n + 1, hn⟩ h u l))
    · have e : (n + 1 + 1) / 6 = (n + 1) / 6 := by omega
      rw [dgAt_keep m c ⟨n + 1, hn⟩ h (by simp), e]
      exact ih (by omega) (by omega)

/-! ## What the kernel leaves -/

/-- The arrays at the arguments. -/
abbrev resX (c : Dev nD) := outX (argX m c) (argG m c) (argWg m c) (argWu m c) (argWd m c) (argD m c)
abbrev resG (c : Dev nD) := outG (argX m c) (argG m c) (argWg m c) (argWu m c) (argWd m c) (argD m c)
abbrev resA (c : Dev nD) := outA (argX m c) (argG m c) (argWg m c) (argWu m c) (argWd m c) (argD m c)
abbrev resB (c : Dev nD) := outB (argX m c) (argG m c) (argWg m c) (argWd m c) (argD m c)
abbrev resS (c : Dev nD) := outS (argX m c) (argG m c) (argWg m c) (argWu m c)
abbrev resH (c : Dev nD) := outH (argX m c) (argG m c)
abbrev resV (c : Dev nD) := outV (argD m c)

theorem flush6 : ∀ t : Fin cfg0.N, (cfg0.win 6).flush t = true → t.val % 6 = 5 := by decide +kernel

theorem final_x (c : Dev nD) : (dats m 0 c).arrAt 6 cfg0.N = resX m c := by
  refine (dats m 0 c).arrAt_eq_of_covers 6 _ (by decide +kernel) fun t hf y => ?_
  obtain ⟨r, l, rfl⟩ : ∃ (r : Fin 512) (l : Fin 1024), y = ix2 r l := ⟨y 0, y 1, eq_ix2 y⟩
  have e : (((cfg0.win 6).blk t).view.emb (ix2 r l) : S8192x1024.Idx) = ix2 (tk t r) l := by blk_ext [geom t]
  refine Eq.trans ?_ (congrArg _ e.symm)
  blk_simp
  rw [after_6]
  exact (pay_row _ _ _ _ r l).trans (congrFun (congr (congr (congr (congrArg dRow (blockX m c t r)) (blockG m c t))
    (acc_row m c t (flush6 t hf) r)) (blockD m c t r)) l)

theorem final_da (c : Dev nD) : (dats m 0 c).arrAt 8 cfg0.N = resA m c := by
  refine (dats m 0 c).arrAt_eq_of_covers 8 _ (by decide +kernel) fun t hf y => ?_
  obtain ⟨r, f, rfl⟩ : ∃ (r : Fin 512) (f : Fin 512), y = ix2 r f := ⟨y 0, y 1, eq_ix2 y⟩
  have e : (((cfg0.win 8).blk t).view.emb (ix2 r f) : S8192x3072.Idx) = ix2 (tk t r) (hc t f) := by blk_ext [geom t]
  refine Eq.trans ?_ (congrArg _ e.symm)
  blk_simp
  rw [after_8]
  exact stored_da m c t r f

theorem final_db (c : Dev nD) : (dats m 0 c).arrAt 9 cfg0.N = resB m c := by
  refine (dats m 0 c).arrAt_eq_of_covers 9 _ (by decide +kernel) fun t hf y => ?_
  obtain ⟨r, f, rfl⟩ : ∃ (r : Fin 512) (f : Fin 512), y = ix2 r f := ⟨y 0, y 1, eq_ix2 y⟩
  have e : (((cfg0.win 9).blk t).view.emb (ix2 r f) : S8192x3072.Idx) = ix2 (tk t r) (hc t f) := by blk_ext [geom t]
  refine Eq.trans ?_ (congrArg _ e.symm)
  blk_simp
  rw [after_9]
  exact stored_db m c t r f

theorem final_s (c : Dev nD) : (dats m 0 c).arrAt 10 cfg0.N = resS m c := by
  refine (dats m 0 c).arrAt_eq_of_covers 10 _ (by decide +kernel) fun t hf y => ?_
  obtain ⟨r, f, rfl⟩ : ∃ (r : Fin 512) (f : Fin 512), y = ix2 r f := ⟨y 0, y 1, eq_ix2 y⟩
  have e : (((cfg0.win 10).blk t).view.emb (ix2 r f) : S8192x3072.Idx) = ix2 (tk t r) (hc t f) := by blk_ext [geom t]
  refine Eq.trans ?_ (congrArg _ e.symm)
  blk_simp
  rw [after_10]
  exact stored_s m c t r f

theorem final_h (c : Dev nD) : (dats m 0 c).arrAt 11 cfg0.N = resH m c := by
  refine (dats m 0 c).arrAt_eq_of_covers 11 _ (by decide +kernel) fun t hf y => ?_
  obtain ⟨r, l, rfl⟩ : ∃ (r : Fin 512) (l : Fin 1024), y = ix2 r l := ⟨y 0, y 1, eq_ix2 y⟩
  have e : (((cfg0.win 11).blk t).view.emb (ix2 r l) : S8192x1024.Idx) = ix2 (tk t r) l := by blk_ext [geom t]
  refine Eq.trans ?_ (congrArg _ e.symm)
  blk_simp
  rw [after_11]
  exact congrFun (blockH m c t r) l

theorem final_v (c : Dev nD) : (dats m 0 c).arrAt 12 cfg0.N = resV m c := by
  refine (dats m 0 c).arrAt_eq_of_covers 12 _ (by decide +kernel) fun t hf y => ?_
  obtain ⟨r, l, rfl⟩ : ∃ (r : Fin 512) (l : Fin 1024), y = ix2 r l := ⟨y 0, y 1, eq_ix2 y⟩
  have e : (((cfg0.win 12).blk t).view.emb (ix2 r l) : S8192x1024.Idx) = ix2 (tk t r) l := by blk_ext [geom t]
  refine Eq.trans ?_ (congrArg _ e.symm)
  blk_simp
  rw [after_12]
  exact congrFun (blockV m c t r) l

/-- The last point. -/
abbrev endPt : Fin cfg0.N := ⟨95, by decide +kernel⟩

theorem final_g (c : Dev nD) : (dats m 0 c).arrAt 7 cfg0.N = resG m c := by
  refine (dats m 0 c).arrAt_eq_of_after_last 7 endPt (by decide +kernel) _ fun j => ?_
  obtain ⟨u, l, rfl⟩ : ∃ (u : Fin 1) (l : Fin 1024), j = ix2 u l := ⟨j 0, j 1, eq_ix2 j⟩
  blk_simp
  rw [after_7]
  refine (gain_sum m c u l 95 endPt.isLt (by decide)).trans ?_
  rw [show (95 + 1) / 6 = 16 from rfl, Finset.sum_range]
  refine (Finset.sum_congr rfl fun s _ => ?_).trans (Fin.sum_mul_add_fin 16 512 fun t =>
    dGain (rowOf (argX m c) t) (dhRow (argX m c) (argG m c) (argWg m c) (argWu m c) (argWd m c) (argD m c) t) l)
  unfold gainTerm
  rw [dif_pos s.isLt]

end Cert.FfnBIdeal.Value

end
-- ==== Proof.FfnBRef.lean ====
/-
  The gradient of the feed-forward block: the reference's vector-Jacobian product is the seven arrays of FfnBValue.lean.
-/
module

public import proofs.«01_k».proof.Proof.FfnBValue
public import proofs.«01_k».proof.Proof.Gen.FfnBRefIdeal.Read

@[expose] public section

set_option maxRecDepth 16384

noncomputable section

open Idealize.ShloMosaic Idealize.ShloMosaic.TcCoe Idealize.SL.Sem

namespace Cert.FfnBIdeal.Value

open Cert.FfnBIdeal Cert.FfnBIdeal.Gen Cert.FfnBRefIdeal.Read

/-- The sigmoid is a real number, at the infinities too. -/
theorem sigm_real (z : EReal) : ∃ s : ℝ, sigm z = (s : EReal) ∧ (z = ⊤ → s = 1) ∧ (z = ⊥ → s = 0) := by
  induction z using EReal.rec with
  | bot =>
    refine ⟨0, ?_, fun h => absurd h (by decide), fun _ => rfl⟩
    unfold sigm
    rw [EReal.neg_bot, show Ideal.exp ⊤ = ⊤ from rfl, EReal.add_top_of_ne_bot (by decide)]
    simp [Ideal.div]
  | top =>
    refine ⟨1, ?_, fun _ => rfl, fun h => absurd h (by decide)⟩
    unfold sigm
    rw [EReal.neg_top, show Ideal.exp ⊥ = 0 from rfl, add_zero]
    simp [Ideal.div]
  | coe r =>
    have h1 : (1 + Real.exp (-r)) ≠ 0 := by have := Real.exp_pos (-r); positivity
    refine ⟨(1 + Real.exp (-r))⁻¹, ?_, fun h => absurd h (EReal.coe_ne_top r), fun h => absurd h (EReal.coe_ne_bot r)⟩
    unfold sigm Ideal.div
    rw [show Ideal.exp (-(r : EReal)) = ((Real.exp (-r) : ℝ) : EReal) from rfl,
      show (1 : EReal) + ((Real.exp (-r) : ℝ) : EReal) = ((1 + Real.exp (-r) : ℝ) : EReal) by norm_cast,
      if_neg (by exact_mod_cast h1), one_mul, EReal.coe_inv]

/-- The derivative of `silu` times a FINITE number, factored as the kernel has it and multiplied out as the reference. -/
theorem silu_deriv (A z : EReal) (hT : A ≠ ⊤) (hB : A ≠ ⊥) :
    A * sigm z + z * A * (sigm z * (1 - sigm z)) = A * (sigm z * (1 + z * (1 - sigm z))) := by
  lift A to ℝ using ⟨hT, hB⟩
  obtain ⟨s, hs, h1, h0⟩ := sigm_real z
  rw [hs]
  have hd : (1 : EReal) - (s : EReal) = ((1 - s : ℝ) : EReal) := by norm_cast
  rw [hd]
  induction z using EReal.rec with
  | bot => rw [h0 rfl]; simp
  | top => rw [h1 rfl]; simp
  | coe r => norm_cast; ring

/-- A sum over the padded columns whose terms past 2816 are zero. -/
theorem sum_true (F : Fin 3072 → EReal) (h0 : ∀ f : Fin 3072, ¬f.val < 2816 → F f = 0) :
    ∑ f, F f = ∑ f : Fin 2816, F ⟨f.val, by omega⟩ := by
  have := Fin.sum_univ_add (a := 2816) (b := 256) F
  rw [this, show (∑ i : Fin 256, F (Fin.natAdd 2816 i)) = 0 from
    Finset.sum_eq_zero fun i _ => h0 _ (by show ¬2816 + i.val < 2816; omega), add_zero]
  rfl

section Columns

variable (w : FVec Ideal S1024x2816 .f32) (wd : FVec Ideal S2816x1024 .f32) (h d wg wu : Fin 1024 → EReal)

theorem colOf_true (f : Fin 3072) (hf : f.val < 2816) : colOf w f = fun l => w (ix2 l ⟨f.val, hf⟩) :=
  funext fun l => dif_pos hf
theorem colOf_pad (f : Fin 3072) (hf : ¬f.val < 2816) : colOf w f = fun _ => 0 := funext fun l => dif_neg hf
theorem colOfD_true (f : Fin 3072) (hf : f.val < 2816) : colOfD wd f = fun l => wd (ix2 ⟨f.val, hf⟩ l) :=
  funext fun l => dif_pos hf
theorem colOfD_pad (f : Fin 3072) (hf : ¬f.val < 2816) : colOfD wd f = fun _ => 0 := funext fun l => dif_neg hf

theorem dot_zero : dot h (fun _ => 0) = 0 := by unfold dot; simp
theorem gA_pad : gA h wg (fun _ => 0) (fun _ => 0) d = 0 := by unfold gA; rw [dot_zero, dot_zero, zero_mul, zero_mul]
theorem gB_pad : gB h wg (fun _ => 0) d = 0 := by unfold gB; rw [dot_zero, zero_mul]
theorem gS_pad : gS h wg (fun _ => 0) = 0 := by unfold gS; rw [dot_zero, mul_zero]

end Columns

section Reference

variable (x : FVec Ideal S8192x1024 .f32) (g : FVec Ideal S1x1024 .f32) (wg wu : FVec Ideal S1024x2816 .f32)
  (wd : FVec Ideal S2816x1024 .f32) (dy : FVec Ideal S8192x1024 .f32)

/-- A true hidden column's weight vectors. -/
def col (w : FVec Ideal S1024x2816 .f32) (f : Fin 2816) (l : Fin 1024) : EReal := w (ix2 l f)
def colD (f : Fin 2816) (l : Fin 1024) : EReal := wd (ix2 f l)

/-- What multiplies silu's derivative. -/
def cot (t : Fin 8192) (f : Fin 2816) : EReal := dot (dRowOf dy t) (colD wd f) * dot (hRow x g t) (col wu f)

theorem ref_h (t : Fin 8192) (l : Fin 1024) : val_main_v17 (F := Ideal) x g (ix2 t l) = hRow x g t l := by
  unfold hRow normed rowOf gainOf meanSq
  pointwise [val_main_v1, val_main_v2, val_main_cst_0, val_main_v3, val_main_v4, val_main_cst_1, val_main_v5, val_main_v6,
    val_main_cst_2, val_main_v7, val_main_v8, val_main_v9, val_main_v13, val_main_v14, val_main_v15, val_main_v16, val_main_v17]

theorem ref_a (t : Fin 8192) (f : Fin 2816) : val_main_v19 (F := Ideal) x g wg (ix2 t f) = dot (hRow x g t) (col wg f) := by
  unfold dot col
  pointwise [val_main_v19, val_main_v18, val_main_v0, val_main_cst, ref_h]

theorem ref_b (t : Fin 8192) (f : Fin 2816) : val_main_v21 (F := Ideal) x g wu (ix2 t f) = dot (hRow x g t) (col wu f) := by
  unfold dot col
  pointwise [val_main_v21, val_main_v20, val_main_v0, val_main_cst, ref_h]

theorem ref_ds (t : Fin 8192) (f : Fin 2816) : val_main_v31 (F := Ideal) wd dy (ix2 t f) = dot (dRowOf dy t) (colD wd f) := by
  unfold dot colD dRowOf half rowOf
  pointwise [val_main_v31, val_main_v30, val_main_v29, val_main_cst_5, val_main_v28]

theorem ref_sig (t : Fin 8192) (f : Fin 2816) :
    val_main_v22_2 (F := Ideal) x g wg (ix2 t f) = sigm (dot (hRow x g t) (col wg f)) := by
  unfold sigm
  pointwise [val_main_call0_v0, val_main_call0_v1, val_main_call0_cst, val_main_call0_v2, val_main_call0_v3,
    val_main_call0_cst_0, val_main_call0_v4, val_main_v22_2, ref_a]

theorem ref_s (t : Fin 8192) (f : Fin 2816) :
    val_main_v23 (F := Ideal) x g wg wu (ix2 t f) = gS (hRow x g t) (col wg f) (col wu f) := by
  unfold gS
  pointwise [val_main_v23, val_main_v22_0, ref_sig, ref_a, ref_b]

theorem ref_db (t : Fin 8192) (f : Fin 2816) :
    val_main_v32 (F := Ideal) x g wg wd dy (ix2 t f) = gB (hRow x g t) (col wg f) (colD wd f) (dRowOf dy t) := by
  unfold gB
  rw [mul_comm]
  pointwise [val_main_v32, val_main_v22_0, ref_sig, ref_a, ref_ds]

variable (hfin : ∀ t f, cot x g wu wd dy t f ≠ ⊤ ∧ cot x g wu wd dy t f ≠ ⊥)

include hfin in
theorem ref_da (t : Fin 8192) (f : Fin 2816) :
    val_main_v34 (F := Ideal) x g wg wu wd dy (ix2 t f)
      = gA (hRow x g t) (col wg f) (col wu f) (colD wd f) (dRowOf dy t) := by
  refine Eq.trans ?_ (silu_deriv _ _ (hfin t f).1 (hfin t f).2)
  pointwise [val_main_v34, val_main_v33, val_main_call1_v0, val_main_call1_v1, val_main_call1_v2, val_main_v22_1,
    val_main_call0_cst_1, val_main_call0_v6, val_main_call0_v7, ref_sig, ref_a, ref_b, ref_ds]

/-- The gradient in the normed rows, over the true columns. -/
theorem dhRow_true (t : Fin 8192) (l : Fin 1024) : dhRow x g wg wu wd dy t l
    = ∑ f : Fin 2816, (gA (hRow x g t) (col wg f) (col wu f) (colD wd f) (dRowOf dy t) * col wg f l
        + gB (hRow x g t) (col wg f) (colD wd f) (dRowOf dy t) * col wu f l) := by
  unfold dhRow
  rw [sum_true]
  · refine Finset.sum_congr rfl fun f _ => ?_
    unfold dhTerm
    rw [colOf_true wg _ f.isLt, colOf_true wu _ f.isLt, colOfD_true wd _ f.isLt]
    rfl
  · intro f hf
    unfold dhTerm
    rw [colOf_pad wg _ hf, colOf_pad wu _ hf]
    simp

include hfin in
theorem ref_dh (t : Fin 8192) (l : Fin 1024) :
    val_main_v37 (F := Ideal) x g wg wu wd dy (ix2 t l) = dhRow x g wg wu wd dy t l := by
  rw [dhRow_true, Finset.sum_add_distrib, add_comm]
  unfold col
  pointwise [val_main_v37, val_main_v36, val_main_v35, ref_da x g wg wu wd dy hfin, ref_db]
  rfl

include hfin in
theorem ref_outA : val_main_v61 (F := Ideal) x g wg wu wd dy = outA x g wg wu wd dy := by
  funext i
  idx_vars i
  by_cases h : i1.val < 2816
  · unfold outA
    rw [show ((ix2 i0 i1 : S8192x3072.Idx) 1) = i1 from rfl, colOf_true wg _ h, colOf_true wu _ h, colOfD_true wd _ h]
    pointwise [val_main_v61, val_main_v60, ref_da x g wg wu wd dy hfin]
    rw [dif_pos h]
    rfl
  · unfold outA
    rw [show ((ix2 i0 i1 : S8192x3072.Idx) 1) = i1 from rfl, colOf_pad wg _ h, colOf_pad wu _ h, colOfD_pad wd _ h, gA_pad]
    pointwise [val_main_v61, val_main_v60, val_main_call2_v0, val_main_c]
    rw [dif_neg h]
    exact fill_zero

theorem ref_outB : val_main_v63 (F := Ideal) x g wg wd dy = outB x g wg wd dy := by
  funext i
  idx_vars i
  by_cases h : i1.val < 2816
  · unfold outB
    rw [show ((ix2 i0 i1 : S8192x3072.Idx) 1) = i1 from rfl, colOf_true wg _ h, colOfD_true wd _ h]
    pointwise [val_main_v63, val_main_v62, ref_db]
    rw [dif_pos h]
    rfl
  · unfold outB
    rw [show ((ix2 i0 i1 : S8192x3072.Idx) 1) = i1 from rfl, colOfD_pad wd _ h, gB_pad]
    pointwise [val_main_v63, val_main_v62, val_main_call3_v0, val_main_c_11]
    rw [dif_neg h]
    exact fill_zero

theorem ref_outS : val_main_v65 (F := Ideal) x g wg wu = outS x g wg wu := by
  funext i
  idx_vars i
  by_cases h : i1.val < 2816
  · unfold outS
    rw [show ((ix2 i0 i1 : S8192x3072.Idx) 1) = i1 from rfl, colOf_true wg _ h, colOf_true wu _ h]
    pointwise [val_main_v65, val_main_v64, ref_s]
    rw [dif_pos h]
    rfl
  · unfold outS
    rw [show ((ix2 i0 i1 : S8192x3072.Idx) 1) = i1 from rfl, colOf_pad wu _ h, gS_pad]
    pointwise [val_main_v65, val_main_v64, val_main_call4_v0, val_main_c_12]
    rw [dif_neg h]
    exact fill_zero

theorem ref_outH : val_main_v66 (F := Ideal) x g = outH x g := by
  funext i
  idx_vars i
  unfold outH
  pointwise [val_main_v66, ref_h]

theorem ref_outV : val_main_v69 (F := Ideal) dy = outV dy := by
  funext i
  idx_vars i
  unfold outV dRowOf half rowOf
  pointwise [val_main_v69, val_main_v68, val_main_v67, val_main_cst_13]

include hfin in
theorem ref_outX : val_main_v58 (F := Ideal) x g wg wu wd dy = outX x g wg wu wd dy := by
  funext i
  idx_vars i
  unfold outX dRow dMean rowOf gainOf meanSq
  pointwise [val_main_v1, val_main_v2, val_main_cst_0, val_main_v3, val_main_v4, val_main_cst_1, val_main_v5, val_main_v6,
    val_main_cst_2, val_main_v7, val_main_v8, val_main_v9, val_main_v10, val_main_cst_3, val_main_v11, val_main_v12,
    val_main_v15, val_main_v41, val_main_v42, val_main_v44, val_main_cst_8, val_main_v45, val_main_v46, val_main_v47, val_main_v48,
    val_main_v49, val_main_v50, val_main_cst_9, val_main_v51, val_main_v52, val_main_cst_10, val_main_v53, val_main_v54,
    val_main_v55, val_main_v56, val_main_v57, val_main_v58, ref_dh x g wg wu wd dy hfin]
  simp only [Fin.sum_univ_one, Finset.univ_unique, Finset.sum_const, Finset.card_singleton, one_smul, zero_add]

include hfin in
theorem ref_outG : val_main_v59 (F := Ideal) x g wg wu wd dy = outG x g wg wu wd dy := by
  funext i
  idx_vars i
  unfold outG dGain rowOf meanSq
  pointwise [val_main_v2, val_main_cst_0, val_main_v3, val_main_v4, val_main_cst_1, val_main_v5, val_main_v6,
    val_main_cst_2, val_main_v7, val_main_v8, val_main_v9, val_main_v13, val_main_v14, val_main_v38, val_main_cst_6, val_main_v39,
    val_main_v40, val_main_cst_7, val_main_v43, val_main_v59, ref_dh x g wg wu wd dy hfin]
  simp only [Fin.sum_univ_one, Finset.univ_unique, Finset.sum_const, Finset.card_singleton, one_smul, zero_add]

end Reference

end Cert.FfnBIdeal.Value

end
-- ==== Proof.FfnBTame.lean ====
/-
  The precondition of the feed-forward claim, read as a property of the arguments: at every token and hidden unit the gate's
  cotangent `((dy/2) · wdᵀ) * (h · wu)` is a real number.
-/
module

public import proofs.«01_k».proof.Defs
public import proofs.«01_k».proof.Proof.Gen.FfnB
public import proofs.«01_k».proof.Proof.Gen.FfnBIdeal
public import proofs.«01_k».proof.Proof.Gen.Pre_finite_cotangent
public import proofs.«01_k».proof.Proof.FfnBRef

@[expose] public section

set_option maxRecDepth 16384

noncomputable section

open Idealize.ShloMosaic Idealize.ShloMosaic.TcCoe Idealize.SL.Sem

namespace Cert.FfnBIdeal.Value

open Cert.FfnBIdeal Cert.FfnBIdeal.Gen

theorem real_of_abs_lt (A : EReal)
    (h : BitVec.ofBool (decide ((FloatOps.absf (F := Ideal) (φ := .f32) A : EReal) < Ideal.ofBits FTy.f32 2139095040#32)) = 1#1) :
    A ≠ ⊤ ∧ A ≠ ⊥ := by
  have htop : Ideal.ofBits FTy.f32 2139095040#32 = ⊤ := by simp [Ideal.ofBits, Ideal.ieee]
  rw [htop] at h
  have h2 : max A (-A) < ⊤ := by
    by_contra hn
    have : decide ((FloatOps.absf (F := Ideal) (φ := .f32) A : EReal) < ⊤) = false := decide_eq_false hn
    rw [this] at h
    exact absurd h (by decide)
  refine ⟨fun e => ?_, fun e => ?_⟩ <;> · rw [e] at h2; simp at h2

theorem tame (x : FVec Ideal S8192x1024 .f32) (g : FVec Ideal S1x1024 .f32) (wg wu : FVec Ideal S1024x2816 .f32)
    (wd : FVec Ideal S2816x1024 .f32) (dy : FVec Ideal S8192x1024 .f32)
    (h : Cert.Pre_finite_cotangent.fn (F := Ideal) x g wg wu wd dy = fun _ => 1#1) (t : Fin 8192) (f : Fin 2816) :
    cot x g wu wd dy t f ≠ ⊤ ∧ cot x g wu wd dy t f ≠ ⊥ := by
  have := congrFun h (ix2 t f)
  unfold cot dot hRow normed rowOf gainOf meanSq col dRowOf colD half rowOf
  revert this
  pointwise [Cert.Pre_finite_cotangent.fn, Cert.Pre_finite_cotangent.fn_part1]
  exact fun hd => real_of_abs_lt _ hd

end Cert.FfnBIdeal.Value

end
-- ==== Proof.DwgValue.lean ====
/-
  The gate's and the up projection's weight products: what the kernel leaves, block by block over eight row blocks of
  tokens, is the transposed product over all 8192 tokens, and so is the reference's.
-/
module

public import proofs.«01_k».proof.Proof.Gen.DwgIdeal.Value
public import proofs.«01_k».proof.Proof.Gen.DwgRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwgIdeal.Value

open Cert.DwgIdeal Cert.DwgIdeal.Gen

variable (m : (ℓ : Loc nD τ sig) → Buf (Elt Ideal) ℓ) (ρ : Dev nD → PrngReg)

/-- The product over the tokens. -/
def prod (h : FVec Ideal S8192x1024 .bf16) (d : FVec Ideal S8192x3072 .bf16) : FVec Ideal S1024x2816 .f32 := fun i =>
  ∑ t : Fin 8192, h (ix2 t (i 0)) * d (ix2 t ⟨(i 1).val, by have : (i 1).val < 2816 := (i 1).isLt; omega⟩)

theorem ref_prod (h : FVec Ideal S8192x1024 .bf16) (d : FVec Ideal S8192x3072 .bf16) :
    Cert.DwgRefIdeal.Read.val_main_v6 (F := Ideal) h d = prod h d := by
  funext i
  idx_vars i
  unfold prod
  pointwise [Cert.DwgRefIdeal.Read.val_main_v0, Cert.DwgRefIdeal.Read.val_main_v1, Cert.DwgRefIdeal.Read.val_main_v2,
    Cert.DwgRefIdeal.Read.val_main_v5, Cert.DwgRefIdeal.Read.val_main_v6]
  exact Finset.sum_congr rfl fun t _ => mul_comm _ _

theorem pay_step (acc : Vec Ideal S1024x1408 .f32) (h : Vec Ideal S1024x1024 .bf16) (d : Vec Ideal S1024x1408 .bf16)
    (r : Fin 1024) (f : Fin 1408) :
    k0_pay2 acc h d (ix2 r f) = acc (ix2 r f) + ∑ k : Fin 1024, h (ix2 k r) * d (ix2 k f) := by
  pointwise [k0_pay2]

theorem pay_zero (r : Fin 1024) (f : Fin 1408) : k0_pay1 (F := Ideal) (ix2 r f) = 0 := by
  pointwise [k0_pay1]

/-- Point `t` is column block `t / 8` and token block `t % 8`. -/
theorem geom : ∀ t : Fin cfg0.N,
    win0_0.index t = ![t.val % 8, 0] ∧ win0_1.index t = ![t.val % 8, t.val / 8] ∧ win0_2.index t = ![0, t.val / 8] := by
  decide +kernel

theorem pt_lt (t : Fin cfg0.N) : t.val < 16 := lt_of_lt_of_eq t.isLt N_0

abbrev argH (c : Dev nD) : FVec Ideal S8192x1024 .bf16 := m (c.tc.loc main_arg0)
abbrev argD (c : Dev nD) : FVec Ideal S8192x3072 .bf16 := m (c.tc.loc main_arg1)

abbrev tk (t : Fin cfg0.N) (k : Fin 1024) : Fin 8192 := ⟨t.val % 8 * 1024 + k.val, by omega⟩
abbrev hc (t : Fin cfg0.N) (f : Fin 1408) : Fin 3072 := ⟨t.val / 8 * 1408 + f.val, by have := pt_lt t; omega⟩

theorem blockH (c : Dev nD) (t : Fin cfg0.N) (k r : Fin 1024) :
    (iblk m c 0 t : Vec Ideal S1024x1024 .bf16) (ix2 k r) = argH m c (ix2 (tk t k) r) := by
  blk_ext [iblk, V, geom t]

theorem blockD (c : Dev nD) (t : Fin cfg0.N) (k : Fin 1024) (f : Fin 1408) :
    (X0_1 m c t : Vec Ideal S1024x1408 .bf16) (ix2 k f) = argD m c (ix2 (tk t k) (hc t f)) := by
  unfold X0_1 Pipeline.Window.fill
  rw [dif_pos (moved0_1 t _)]
  blk_ext [iblk, V, geom t]

/-- A token block's part of the product. -/
def term (c : Dev nD) (t : Fin cfg0.N) (i : S1024x1408.Idx) : EReal :=
  ∑ k : Fin 1024, argH m c (ix2 (tk t k) (i 0)) * argD m c (ix2 (tk t k) (hc t (i 1)))

theorem step_eq (c : Dev nD) (t : Fin cfg0.N) (acc : Vec Ideal S1024x1408 .f32) (i : S1024x1408.Idx) :
    k0_pay2 acc (iblk m c 0 t) (X0_1 m c t) i = HAdd.hAdd (α := EReal) (β := EReal) (γ := EReal) (acc i) (term m c t i) := by
  obtain ⟨r, f, rfl⟩ : ∃ (r : Fin 1024) (f : Fin 1408), i = ix2 r f := ⟨i 0, i 1, eq_ix2 i⟩
  refine (pay_step acc _ _ r f).trans (congrArg (HAdd.hAdd (α := EReal) (acc (ix2 r f))) (Finset.sum_congr rfl fun k _ => ?_))
  exact congr (congrArg (HMul.hMul (α := EReal)) (blockH m c t k r)) (blockD m c t k f)

theorem acc_first (c : Dev nD) (t : Fin cfg0.N) (h : t.val % 8 = 0) (i : S1024x1408.Idx) :
    (outsAt0 m c t.val t.isLt).2 i = 0 + term m c t i := by
  rw [outsAt0_A m c t h (by omega)]
  refine Eq.trans ?_ ((step_eq m c t (k0_pay1 (F := Ideal)) i).trans
    (congrArg (fun a : EReal => a + term m c t i) ((congrArg _ (eq_ix2 i)).trans (pay_zero (i 0) (i 1)))))
  frame_out

theorem acc_next (c : Dev nD) (t : Fin cfg0.N) (h : ¬t.val % 8 = 0) (i : S1024x1408.Idx) :
    (outsAt0 m c t.val t.isLt).2 i
      = (outsAt0 m c (t.val - 1) (Nat.lt_of_le_of_lt (Nat.sub_le _ _) t.isLt)).2 i + term m c t i := by
  refine Eq.trans ?_ (step_eq m c t _ i)
  by_cases h7 : t.val % 8 = 7
  · rw [outsAt0_C m c t h h7]
    frame_out
    rw [read_unread_whole]
  · rw [outsAt0_B m c t h h7]
    frame_out
    rw [read_unread_whole]

theorem out_last (c : Dev nD) (t : Fin cfg0.N) (h : t.val % 8 = 7) :
    (outsAt0 m c t.val t.isLt).1 = (outsAt0 m c t.val t.isLt).2 := by
  rw [outsAt0_C m c t (by omega) h]
  frame_out

theorem final (c : Dev nD) : (dats m 0 c).arrAt 2 cfg0.N = prod (argH m c) (argD m c) := by
  refine (dats m 0 c).arrAt_eq_of_covers 2 _ (by decide +kernel) fun t hf y => ?_
  obtain ⟨r, f, rfl⟩ : ∃ (r : Fin 1024) (f : Fin 1408), y = ix2 r f := ⟨y 0, y 1, eq_ix2 y⟩
  have hN := pt_lt t
  have e : (((cfg0.win 2).blk t).view.emb (ix2 r f) : S1024x2816.Idx) = ix2 r ⟨t.val / 8 * 1408 + f.val, by omega⟩ := by
    blk_ext [geom t]
  have hl : t.val % 8 = 7 := (flush0_2 t).mp hf
  refine Eq.trans ?_ (congrArg _ e.symm)
  blk_simp
  rw [after0_2, out_last m c t hl]
  refine (Pipeline.eq_sum_fin_of_reset_step_apply_of_flush (M := EReal) (fun n h => (outsAt0 m c n h).2) 8 (fun _ => 0) (term m c)
    (acc_first m c) (acc_next m c) t hl (ix2 r f)).trans ?_
  rw [zero_add]
  unfold term prod
  refine Fin.sum_mul_add_congr fun s k hl' => ?_
  have e1 : tk ⟨8 * (t.val / 8) + s.val, Pipeline.run_point_lt_of_flush t hl s⟩ k = ⟨s.val * 1024 + k.val, hl'⟩ := Fin.ext (by
    show (8 * (t.val / 8) + s.val) % 8 * 1024 + k.val = s.val * 1024 + k.val; omega)
  have e2 : hc ⟨8 * (t.val / 8) + s.val, Pipeline.run_point_lt_of_flush t hl s⟩ f = hc t f := Fin.ext (by
    show (8 * (t.val / 8) + s.val) / 8 * 1408 + f.val = t.val / 8 * 1408 + f.val; omega)
  show argH m c (ix2 (tk _ k) r) * argD m c (ix2 (tk _ k) (hc _ f)) = _
  rw [e1, e2]
  rfl

end Cert.DwgIdeal.Value

end
-- ==== Proof.DwdValue.lean ====
/-
  The down projection's weight product: what the kernel leaves, block by block, is the product of the two arrays it finds.
-/
module

public import proofs.«01_k».proof.Proof.Gen.DwdIdeal.Value
public import proofs.«01_k».proof.Proof.Gen.DwdRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwdIdeal.Value

open Cert.DwdIdeal Cert.DwdIdeal.Gen

variable (m : (ℓ : Loc nD τ sig) → Buf (Elt Ideal) ℓ) (ρ : Dev nD → PrngReg)

abbrev arrA (c : Dev nD) : FVec Ideal S8192x3072 .bf16 := V m c (Pipeline.arrRef spec0 0)
abbrev arrB (c : Dev nD) : FVec Ideal S8192x1024 .bf16 := V m c (Pipeline.arrRef spec0 1)

/-- The product. -/
def prod (a : FVec Ideal S8192x3072 .bf16) (b : FVec Ideal S8192x1024 .bf16) : FVec Ideal S2816x1024 .f32 := fun i =>
  ∑ k : Fin 8192, a (ix2 k ⟨(i 0).val, by have : (i 0).val < 2816 := (i 0).isLt; omega⟩) * b (ix2 k (i 1))

theorem pay_step (acc : Vec Ideal S1408x1024 .f32) (a : Vec Ideal S1024x1408 .bf16) (b : Vec Ideal S1024x1024 .bf16)
    (r : Fin 1408) (f : Fin 1024) :
    k0_pay2 acc a b (ix2 r f) = acc (ix2 r f) + ∑ k : Fin 1024, a (ix2 k r) * b (ix2 k f) := by
  pointwise [k0_pay2]

theorem pay_zero (r : Fin 1408) (f : Fin 1024) : k0_pay1 (F := Ideal) (ix2 r f) = 0 := by
  pointwise [k0_pay1]

theorem geom : ∀ t : Fin cfg0.N,
    win0_0.index t = ![t.val % 8, t.val / 8] ∧ win0_1.index t = ![t.val % 8, 0] ∧ win0_2.index t = ![t.val / 8, 0] := by
  decide +kernel

theorem pt_lt (t : Fin cfg0.N) : t.val < 16 := lt_of_lt_of_eq t.isLt N_0

abbrev atK (t : Fin cfg0.N) (k : Fin 1024) : Fin 8192 := ⟨t.val % 8 * 1024 + k.val, by have := pt_lt t; omega⟩
abbrev atR (t : Fin cfg0.N) (r : Fin 1408) : Fin 3072 := ⟨t.val / 8 * 1408 + r.val, by have := pt_lt t; omega⟩
abbrev atC (t : Fin cfg0.N) (f : Fin 1024) : Fin 1024 := f

theorem blockA (c : Dev nD) (t : Fin cfg0.N) (k : Fin 1024) (r : Fin 1408) :
    (X0_0 m c t : Vec Ideal S1024x1408 .bf16) (ix2 k r) = arrA m c (ix2 (atK t k) (atR t r)) := by
  unfold X0_0 Pipeline.Window.fill
  rw [dif_pos (moved0_0 t _)]
  blk_ext [iblk, geom t]

theorem blockB (c : Dev nD) (t : Fin cfg0.N) (k : Fin 1024) (f : Fin 1024) :
    (iblk m c 1 t : Vec Ideal S1024x1024 .bf16) (ix2 k f) = arrB m c (ix2 (atK t k) (atC t f)) := by
  blk_ext [iblk, geom t]

/-- A block of the contracted axis' part of the product. -/
def term (c : Dev nD) (t : Fin cfg0.N) (i : S1408x1024.Idx) : EReal :=
  ∑ k : Fin 1024, arrA m c (ix2 (atK t k) (atR t (i 0))) * arrB m c (ix2 (atK t k) (atC t (i 1)))

theorem step_eq (c : Dev nD) (t : Fin cfg0.N) (acc : Vec Ideal S1408x1024 .f32) (i : S1408x1024.Idx) :
    k0_pay2 acc (X0_0 m c t) (iblk m c 1 t) i = HAdd.hAdd (α := EReal) (β := EReal) (γ := EReal) (acc i) (term m c t i) := by
  obtain ⟨r, f, rfl⟩ : ∃ (r : Fin 1408) (f : Fin 1024), i = ix2 r f := ⟨i 0, i 1, eq_ix2 i⟩
  refine (pay_step acc _ _ r f).trans (congrArg (HAdd.hAdd (α := EReal) (acc (ix2 r f))) (Finset.sum_congr rfl fun k _ => ?_))
  exact congr (congrArg (HMul.hMul (α := EReal)) (blockA m c t k r)) (blockB m c t k f)

theorem first_eq (c : Dev nD) (t : Fin cfg0.N) (i : S1408x1024.Idx) :
    k0_pay2 (k0_pay1 (F := Ideal)) (X0_0 m c t) (iblk m c 1 t) i = 0 + term m c t i :=
  (step_eq m c t (k0_pay1 (F := Ideal)) i).trans
    (congrArg (fun a : EReal => a + term m c t i) ((congrArg _ (eq_ix2 i)).trans (pay_zero (i 0) (i 1))))

theorem acc_first (c : Dev nD) (t : Fin cfg0.N) (h : t.val % 8 = 0) (i : S1408x1024.Idx) :
    (outsAt0 m c t.val t.isLt).2 i = 0 + term m c t i := by
  rw [outsAt0_A m c t h (by omega)]
  refine Eq.trans ?_ (first_eq m c t i)
  frame_out

theorem acc_next (c : Dev nD) (t : Fin cfg0.N) (h : ¬t.val % 8 = 0) (i : S1408x1024.Idx) :
    (outsAt0 m c t.val t.isLt).2 i
      = (outsAt0 m c (t.val - 1) (Nat.lt_of_le_of_lt (Nat.sub_le _ _) t.isLt)).2 i + term m c t i := by
  refine Eq.trans ?_ (step_eq m c t _ i)
  by_cases hl : t.val % 8 = 7
  · rw [outsAt0_C m c t h hl]
    frame_out
    rw [read_unread_whole]
  · rw [outsAt0_B m c t h hl]
    frame_out
    rw [read_unread_whole]

theorem out_last (c : Dev nD) (t : Fin cfg0.N) (h : t.val % 8 = 7) :
    (outsAt0 m c t.val t.isLt).1 = (outsAt0 m c t.val t.isLt).2 := by
  rw [outsAt0_C m c t (by omega) h]
  frame_out

theorem final (c : Dev nD) : (dats m 0 c).arrAt 2 cfg0.N = prod (arrA m c) (arrB m c) := by
  refine (dats m 0 c).arrAt_eq_of_covers 2 _ (by decide +kernel) fun t hf y => ?_
  obtain ⟨r, f, rfl⟩ : ∃ (r : Fin 1408) (f : Fin 1024), y = ix2 r f := ⟨y 0, y 1, eq_ix2 y⟩
  have hN := pt_lt t
  have e : (((cfg0.win 2).blk t).view.emb (ix2 r f) : S2816x1024.Idx) = ix2 ⟨t.val / 8 * 1408 + r.val, by have := pt_lt t; omega⟩ f := by
    blk_ext [geom t]
  have hl : t.val % 8 = 7 := (flush0_2 t).mp hf
  refine Eq.trans ?_ (congrArg _ e.symm)
  blk_simp
  rw [after0_2, out_last m c t hl]
  refine (Pipeline.eq_sum_fin_of_reset_step_apply_of_flush (M := EReal) (fun n h => (outsAt0 m c n h).2) 8 (fun _ => 0) (term m c)
    (acc_first m c) (acc_next m c) t hl (ix2 r f)).trans ?_
  rw [zero_add]
  unfold term prod
  refine Fin.sum_mul_add_congr fun s k hl' => ?_
  have e1 : atK ⟨8 * (t.val / 8) + s.val, Pipeline.run_point_lt_of_flush t hl s⟩ k = ⟨s.val * 1024 + k.val, hl'⟩ := Fin.ext (by
    show (8 * (t.val / 8) + s.val) % 8 * 1024 + k.val = s.val * 1024 + k.val; omega)
  have e2 : atR ⟨8 * (t.val / 8) + s.val, Pipeline.run_point_lt_of_flush t hl s⟩ r = atR t r := Fin.ext (by
    show (8 * (t.val / 8) + s.val) / 8 * 1408 + r.val = t.val / 8 * 1408 + r.val; omega)
  show arrA m c (ix2 (atK _ k) (atR _ r)) * arrB m c (ix2 (atK _ k) (atC _ f)) = _
  rw [e1, e2]
  rfl
theorem ref_prod (a : FVec Ideal S8192x3072 .bf16) (b : FVec Ideal S8192x1024 .bf16) :
    Cert.DwdRefIdeal.Read.val_main_v6 (F := Ideal) a b = prod a b := by
  funext i
  idx_vars i
  unfold prod
  pointwise [Cert.DwdRefIdeal.Read.val_main_v0, Cert.DwdRefIdeal.Read.val_main_v1, Cert.DwdRefIdeal.Read.val_main_v2, Cert.DwdRefIdeal.Read.val_main_v3, Cert.DwdRefIdeal.Read.val_main_v4, Cert.DwdRefIdeal.Read.val_main_v5, Cert.DwdRefIdeal.Read.val_main_v6]
  exact Finset.sum_congr rfl fun t _ => mul_comm _ _

theorem value (c : Dev nD) : (dats m 0 c).arrAt 2 cfg0.N
    = prod (m ((c : Thread nD τ).loc main_arg0)) (m ((c : Thread nD τ).loc main_arg1)) := by
  refine (final m c).trans ?_
  rfl

end Cert.DwdIdeal.Value

end
-- ==== Proof.DHValue.lean ====
/-
  The combined projection's gradient in its input: what the kernel leaves, block by block, is the product of the two arrays it finds.
-/
module

public import proofs.«01_k».proof.Proof.Gen.DHIdeal.Value
public import proofs.«01_k».proof.Proof.Gen.DHRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DHIdeal.Value

open Cert.DHIdeal Cert.DHIdeal.Gen

variable (m : (ℓ : Loc nD τ sig) → Buf (Elt Ideal) ℓ) (ρ : Dev nD → PrngReg)

abbrev arrA (c : Dev nD) : FVec Ideal S8192x8064 .bf16 := V m c (Pipeline.arrRef spec0 0)
abbrev arrB (c : Dev nD) : FVec Ideal S1024x8064 .bf16 := V m c (Pipeline.arrRef spec0 1)

/-- The product. -/
def prod (a : FVec Ideal S8192x8064 .bf16) (b : FVec Ideal S1024x8064 .bf16) : FVec Ideal S8192x1024 .f32 := fun i =>
  ∑ k : Fin 8064, a (ix2 (i 0) k) * b (ix2 (i 1) k)

theorem pay_step (acc : Vec Ideal S1024x1024 .f32) (a : Vec Ideal S1024x2688 .bf16) (b : Vec Ideal S1024x2688 .bf16)
    (r : Fin 1024) (f : Fin 1024) :
    k0_pay2 acc a b (ix2 r f) = acc (ix2 r f) + ∑ k : Fin 2688, a (ix2 r k) * b (ix2 f k) := by
  pointwise [k0_pay2]

theorem pay_zero (r : Fin 1024) (f : Fin 1024) : k0_pay1 (F := Ideal) (ix2 r f) = 0 := by
  pointwise [k0_pay1]

theorem geom : ∀ t : Fin cfg0.N,
    win0_0.index t = ![t.val / 3, t.val % 3] ∧ win0_1.index t = ![0, t.val % 3] ∧ win0_2.index t = ![t.val / 3, 0] := by
  decide +kernel

theorem pt_lt (t : Fin cfg0.N) : t.val < 24 := lt_of_lt_of_eq t.isLt N_0

abbrev atK (t : Fin cfg0.N) (k : Fin 2688) : Fin 8064 := ⟨t.val % 3 * 2688 + k.val, by have := pt_lt t; omega⟩
abbrev atR (t : Fin cfg0.N) (r : Fin 1024) : Fin 8192 := ⟨t.val / 3 * 1024 + r.val, by have := pt_lt t; omega⟩
abbrev atC (t : Fin cfg0.N) (f : Fin 1024) : Fin 1024 := f

theorem blockA (c : Dev nD) (t : Fin cfg0.N) (k : Fin 2688) (r : Fin 1024) :
    (iblk m c 0 t : Vec Ideal S1024x2688 .bf16) (ix2 r k) = arrA m c (ix2 (atR t r) (atK t k)) := by
  blk_ext [iblk, geom t]

theorem blockB (c : Dev nD) (t : Fin cfg0.N) (k : Fin 2688) (f : Fin 1024) :
    (iblk m c 1 t : Vec Ideal S1024x2688 .bf16) (ix2 f k) = arrB m c (ix2 (atC t f) (atK t k)) := by
  blk_ext [iblk, geom t]

/-- A block of the contracted axis' part of the product. -/
def term (c : Dev nD) (t : Fin cfg0.N) (i : S1024x1024.Idx) : EReal :=
  ∑ k : Fin 2688, arrA m c (ix2 (atR t (i 0)) (atK t k)) * arrB m c (ix2 (atC t (i 1)) (atK t k))

theorem step_eq (c : Dev nD) (t : Fin cfg0.N) (acc : Vec Ideal S1024x1024 .f32) (i : S1024x1024.Idx) :
    k0_pay2 acc (iblk m c 0 t) (iblk m c 1 t) i = HAdd.hAdd (α := EReal) (β := EReal) (γ := EReal) (acc i) (term m c t i) := by
  obtain ⟨r, f, rfl⟩ : ∃ (r : Fin 1024) (f : Fin 1024), i = ix2 r f := ⟨i 0, i 1, eq_ix2 i⟩
  refine (pay_step acc _ _ r f).trans (congrArg (HAdd.hAdd (α := EReal) (acc (ix2 r f))) (Finset.sum_congr rfl fun k _ => ?_))
  exact congr (congrArg (HMul.hMul (α := EReal)) (blockA m c t k r)) (blockB m c t k f)

theorem first_eq (c : Dev nD) (t : Fin cfg0.N) (i : S1024x1024.Idx) :
    k0_pay2 (k0_pay1 (F := Ideal)) (iblk m c 0 t) (iblk m c 1 t) i = 0 + term m c t i :=
  (step_eq m c t (k0_pay1 (F := Ideal)) i).trans
    (congrArg (fun a : EReal => a + term m c t i) ((congrArg _ (eq_ix2 i)).trans (pay_zero (i 0) (i 1))))

theorem acc_first (c : Dev nD) (t : Fin cfg0.N) (h : t.val % 3 = 0) (i : S1024x1024.Idx) :
    (outsAt0 m c t.val t.isLt).2 i = 0 + term m c t i := by
  rw [outsAt0_A m c t h (by omega)]
  refine Eq.trans ?_ (first_eq m c t i)
  frame_out

theorem acc_next (c : Dev nD) (t : Fin cfg0.N) (h : ¬t.val % 3 = 0) (i : S1024x1024.Idx) :
    (outsAt0 m c t.val t.isLt).2 i
      = (outsAt0 m c (t.val - 1) (Nat.lt_of_le_of_lt (Nat.sub_le _ _) t.isLt)).2 i + term m c t i := by
  refine Eq.trans ?_ (step_eq m c t _ i)
  by_cases hl : t.val % 3 = 2
  · rw [outsAt0_C m c t h hl]
    frame_out
    rw [read_unread_whole]
  · rw [outsAt0_B m c t h hl]
    frame_out
    rw [read_unread_whole]

theorem out_last (c : Dev nD) (t : Fin cfg0.N) (h : t.val % 3 = 2) :
    (outsAt0 m c t.val t.isLt).1 = (outsAt0 m c t.val t.isLt).2 := by
  rw [outsAt0_C m c t (by omega) h]
  frame_out

theorem final (c : Dev nD) : (dats m 0 c).arrAt 2 cfg0.N = prod (arrA m c) (arrB m c) := by
  refine (dats m 0 c).arrAt_eq_of_covers 2 _ (by decide +kernel) fun t hf y => ?_
  obtain ⟨r, f, rfl⟩ : ∃ (r : Fin 1024) (f : Fin 1024), y = ix2 r f := ⟨y 0, y 1, eq_ix2 y⟩
  have hN := pt_lt t
  have e : (((cfg0.win 2).blk t).view.emb (ix2 r f) : S8192x1024.Idx) = ix2 ⟨t.val / 3 * 1024 + r.val, by have := pt_lt t; omega⟩ f := by
    blk_ext [geom t]
  have hl : t.val % 3 = 2 := (flush0_2 t).mp hf
  refine Eq.trans ?_ (congrArg _ e.symm)
  blk_simp
  rw [after0_2, out_last m c t hl]
  refine (Pipeline.eq_sum_fin_of_reset_step_apply_of_flush (M := EReal) (fun n h => (outsAt0 m c n h).2) 3 (fun _ => 0) (term m c)
    (acc_first m c) (acc_next m c) t hl (ix2 r f)).trans ?_
  rw [zero_add]
  unfold term prod
  refine Fin.sum_mul_add_congr fun s k hl' => ?_
  have e1 : atK ⟨3 * (t.val / 3) + s.val, Pipeline.run_point_lt_of_flush t hl s⟩ k = ⟨s.val * 2688 + k.val, hl'⟩ := Fin.ext (by
    show (3 * (t.val / 3) + s.val) % 3 * 2688 + k.val = s.val * 2688 + k.val; omega)
  have e2 : atR ⟨3 * (t.val / 3) + s.val, Pipeline.run_point_lt_of_flush t hl s⟩ r = atR t r := Fin.ext (by
    show (3 * (t.val / 3) + s.val) / 3 * 1024 + r.val = t.val / 3 * 1024 + r.val; omega)
  show arrA m c (ix2 (atR _ r) (atK _ k)) * arrB m c (ix2 (atC _ f) (atK _ k)) = _
  rw [e1, e2]
  rfl
/-- The weights' columns as the host orders them. -/
def cols (g : FVec Ideal S1024x3072 .f32) (w : FVec Ideal S1024x4880 .f32) : FVec Ideal S1024x8064 .bf16 :=
  truncf .bf16 (concatenate S1024x8064 1 [⟨S1024x3072, g⟩,
    ⟨S1024x2304, extractStridedSlice S1024x2304 ![0, 2576] w slices_S1024x4880_S1024x2304_0_2576⟩,
    ⟨S1024x1536, extractStridedSlice S1024x1536 ![0, 0] w slices_S1024x4880_S1024x1536_0_0⟩,
    ⟨S1024x512, extractStridedSlice S1024x512 ![0, 1536] w slices_S1024x4880_S1024x512_0_1536⟩,
    ⟨S1024x512, extractStridedSlice S1024x512 ![0, 2064] w slices_S1024x4880_S1024x512_0_2064⟩,
    ⟨S1024x16, extractStridedSlice S1024x16 ![0, 2048] w slices_S1024x4880_S1024x16_0_2048⟩,
    ⟨S1024x112, broadcastInDim S1024x112 ![] bcast_S_S1024x112 (constant S_ .f32 0x00000000#32 : FVec Ideal S_ .f32)⟩]
    concatenates_S1024x3072_S1024x2304_S1024x1536_S1024x512_S1024x512_S1024x16_S1024x112_S1024x8064_d1) bitsLt_bf16_f32

/-- The cotangents' columns as the host orders them. -/
def dcols (dg : FVec Ideal S8192x3072 .bf16) (dda : FVec Ideal S8192x2304 .bf16) (dq : FVec Ideal S8192x1536 .bf16)
    (dz dp : FVec Ideal S8192x512 .bf16) (db da : FVec Ideal S8x8192 .f32) : FVec Ideal S8192x8064 .bf16 :=
  concatenate S8192x8064 1 [⟨S8192x3072, dg⟩, ⟨S8192x2304, dda⟩, ⟨S8192x1536, dq⟩, ⟨S8192x512, dz⟩, ⟨S8192x512, dp⟩,
    ⟨S8192x128, pad S8192x128 ![0, 0] ![0, 112] ![0, 0]
      (truncf .bf16 (transpose S8192x16 [1, 0] (concatenate S16x8192 0 [⟨S8x8192, db⟩, ⟨S8x8192, da⟩] concatenates_S8x8192_S8x8192_S16x8192_d0)
        transposes_S16x8192_S8192x16_1_0) bitsLt_bf16_f32)
      (sitofp (F := Ideal) .bf16 (constantI S_ 32 0#32)) pads_S8192x16_S8192x128_000_01120 h_S_⟩]
    concatenates_S8192x3072_S8192x2304_S8192x1536_S8192x512_S8192x512_S8192x128_S8192x8064_d1

theorem read_a (c : Dev nD) : arrA m c = dcols (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show V m c main_v4 = _
  unfold_abbrev_sides
  simp only [List.flatten_cons, List.flatten_nil, List.append_nil, List.cons_append, List.nil_append]
  after_results
  rfl

theorem read_b (c : Dev nD) : arrB m c = cols (m ((c : Thread nD τ).loc main_arg7)) (m ((c : Thread nD τ).loc main_arg8)) := by
  show V m c main_v12 = _
  unfold_abbrev_sides
  simp only [List.flatten_cons, List.flatten_nil, List.append_nil, List.cons_append, List.nil_append]
  after_results
  rfl

theorem cols_g (g : FVec Ideal S1024x3072 .f32) (w : FVec Ideal S1024x4880 .f32) (i : Fin 1024) (k : Fin 3072) : cols g w (ix2 i ⟨k.val, by omega⟩) = g (ix2 i k) := by
  have hk := k.isLt
  unfold cols
  pointwise [Cert.DHRefIdeal.Read.val_main_cst, Cert.DHRefIdeal.Read.val_main_v0, Cert.DHRefIdeal.Read.val_main_v1, Cert.DHRefIdeal.Read.val_main_v10, Cert.DHRefIdeal.Read.val_main_v11, Cert.DHRefIdeal.Read.val_main_v12, Cert.DHRefIdeal.Read.val_main_v13, Cert.DHRefIdeal.Read.val_main_v2, Cert.DHRefIdeal.Read.val_main_v3, Cert.DHRefIdeal.Read.val_main_v4, Cert.DHRefIdeal.Read.val_main_v5, Cert.DHRefIdeal.Read.val_main_v6, Cert.DHRefIdeal.Read.val_main_v7, Cert.DHRefIdeal.Read.val_main_v8, Cert.DHRefIdeal.Read.val_main_v9] <;>
    rw [dif_pos (by omega)] <;>
    exact congrArg (fun p => g (ix2 i p)) (Fin.ext (by dsimp only; omega))

theorem cols_d (g : FVec Ideal S1024x3072 .f32) (w : FVec Ideal S1024x4880 .f32) (i : Fin 1024) (k : Fin 2304) : cols g w (ix2 i ⟨3072 + k.val, by omega⟩) = w (ix2 i ⟨2576 + k.val, by omega⟩) := by
  have hk := k.isLt
  unfold cols
  pointwise [Cert.DHRefIdeal.Read.val_main_cst, Cert.DHRefIdeal.Read.val_main_v0, Cert.DHRefIdeal.Read.val_main_v1, Cert.DHRefIdeal.Read.val_main_v10, Cert.DHRefIdeal.Read.val_main_v11, Cert.DHRefIdeal.Read.val_main_v12, Cert.DHRefIdeal.Read.val_main_v13, Cert.DHRefIdeal.Read.val_main_v2, Cert.DHRefIdeal.Read.val_main_v3, Cert.DHRefIdeal.Read.val_main_v4, Cert.DHRefIdeal.Read.val_main_v5, Cert.DHRefIdeal.Read.val_main_v6, Cert.DHRefIdeal.Read.val_main_v7, Cert.DHRefIdeal.Read.val_main_v8, Cert.DHRefIdeal.Read.val_main_v9] <;>
    rw [dif_neg (by omega), dif_pos (by omega)] <;>
    exact congrArg (fun p => w (ix2 i p)) (Fin.ext (by dsimp only; omega))

theorem cols_q (g : FVec Ideal S1024x3072 .f32) (w : FVec Ideal S1024x4880 .f32) (i : Fin 1024) (k : Fin 1536) : cols g w (ix2 i ⟨5376 + k.val, by omega⟩) = w (ix2 i ⟨k.val, by omega⟩) := by
  have hk := k.isLt
  unfold cols
  pointwise [Cert.DHRefIdeal.Read.val_main_cst, Cert.DHRefIdeal.Read.val_main_v0, Cert.DHRefIdeal.Read.val_main_v1, Cert.DHRefIdeal.Read.val_main_v10, Cert.DHRefIdeal.Read.val_main_v11, Cert.DHRefIdeal.Read.val_main_v12, Cert.DHRefIdeal.Read.val_main_v13, Cert.DHRefIdeal.Read.val_main_v2, Cert.DHRefIdeal.Read.val_main_v3, Cert.DHRefIdeal.Read.val_main_v4, Cert.DHRefIdeal.Read.val_main_v5, Cert.DHRefIdeal.Read.val_main_v6, Cert.DHRefIdeal.Read.val_main_v7, Cert.DHRefIdeal.Read.val_main_v8, Cert.DHRefIdeal.Read.val_main_v9] <;>
    rw [dif_neg (by omega), dif_neg (by omega), dif_pos (by omega)] <;>
    exact congrArg (fun p => w (ix2 i p)) (Fin.ext (by dsimp only; omega))

theorem cols_z (g : FVec Ideal S1024x3072 .f32) (w : FVec Ideal S1024x4880 .f32) (i : Fin 1024) (k : Fin 512) : cols g w (ix2 i ⟨6912 + k.val, by omega⟩) = w (ix2 i ⟨1536 + k.val, by omega⟩) := by
  have hk := k.isLt
  unfold cols
  pointwise [Cert.DHRefIdeal.Read.val_main_cst, Cert.DHRefIdeal.Read.val_main_v0, Cert.DHRefIdeal.Read.val_main_v1, Cert.DHRefIdeal.Read.val_main_v10, Cert.DHRefIdeal.Read.val_main_v11, Cert.DHRefIdeal.Read.val_main_v12, Cert.DHRefIdeal.Read.val_main_v13, Cert.DHRefIdeal.Read.val_main_v2, Cert.DHRefIdeal.Read.val_main_v3, Cert.DHRefIdeal.Read.val_main_v4, Cert.DHRefIdeal.Read.val_main_v5, Cert.DHRefIdeal.Read.val_main_v6, Cert.DHRefIdeal.Read.val_main_v7, Cert.DHRefIdeal.Read.val_main_v8, Cert.DHRefIdeal.Read.val_main_v9] <;>
    rw [dif_neg (by omega), dif_neg (by omega), dif_neg (by omega), dif_pos (by omega)] <;>
    exact congrArg (fun p => w (ix2 i p)) (Fin.ext (by dsimp only; omega))

theorem cols_p (g : FVec Ideal S1024x3072 .f32) (w : FVec Ideal S1024x4880 .f32) (i : Fin 1024) (k : Fin 512) : cols g w (ix2 i ⟨7424 + k.val, by omega⟩) = w (ix2 i ⟨2064 + k.val, by omega⟩) := by
  have hk := k.isLt
  unfold cols
  pointwise [Cert.DHRefIdeal.Read.val_main_cst, Cert.DHRefIdeal.Read.val_main_v0, Cert.DHRefIdeal.Read.val_main_v1, Cert.DHRefIdeal.Read.val_main_v10, Cert.DHRefIdeal.Read.val_main_v11, Cert.DHRefIdeal.Read.val_main_v12, Cert.DHRefIdeal.Read.val_main_v13, Cert.DHRefIdeal.Read.val_main_v2, Cert.DHRefIdeal.Read.val_main_v3, Cert.DHRefIdeal.Read.val_main_v4, Cert.DHRefIdeal.Read.val_main_v5, Cert.DHRefIdeal.Read.val_main_v6, Cert.DHRefIdeal.Read.val_main_v7, Cert.DHRefIdeal.Read.val_main_v8, Cert.DHRefIdeal.Read.val_main_v9] <;>
    rw [dif_neg (by omega), dif_neg (by omega), dif_neg (by omega), dif_neg (by omega), dif_pos (by omega)] <;>
    exact congrArg (fun p => w (ix2 i p)) (Fin.ext (by dsimp only; omega))

theorem cols_b (g : FVec Ideal S1024x3072 .f32) (w : FVec Ideal S1024x4880 .f32) (i : Fin 1024) (k : Fin 8) : cols g w (ix2 i ⟨7936 + k.val, by omega⟩) = w (ix2 i ⟨2048 + k.val, by omega⟩) := by
  have hk := k.isLt
  unfold cols
  pointwise [Cert.DHRefIdeal.Read.val_main_cst, Cert.DHRefIdeal.Read.val_main_v0, Cert.DHRefIdeal.Read.val_main_v1, Cert.DHRefIdeal.Read.val_main_v10, Cert.DHRefIdeal.Read.val_main_v11, Cert.DHRefIdeal.Read.val_main_v12, Cert.DHRefIdeal.Read.val_main_v13, Cert.DHRefIdeal.Read.val_main_v2, Cert.DHRefIdeal.Read.val_main_v3, Cert.DHRefIdeal.Read.val_main_v4, Cert.DHRefIdeal.Read.val_main_v5, Cert.DHRefIdeal.Read.val_main_v6, Cert.DHRefIdeal.Read.val_main_v7, Cert.DHRefIdeal.Read.val_main_v8, Cert.DHRefIdeal.Read.val_main_v9] <;>
    rw [dif_neg (by omega), dif_neg (by omega), dif_neg (by omega), dif_neg (by omega), dif_neg (by omega), dif_pos (by omega)] <;>
    exact congrArg (fun p => w (ix2 i p)) (Fin.ext (by dsimp only; omega))

theorem cols_a (g : FVec Ideal S1024x3072 .f32) (w : FVec Ideal S1024x4880 .f32) (i : Fin 1024) (k : Fin 8) : cols g w (ix2 i ⟨7944 + k.val, by omega⟩) = w (ix2 i ⟨2056 + k.val, by omega⟩) := by
  have hk := k.isLt
  unfold cols
  pointwise [Cert.DHRefIdeal.Read.val_main_cst, Cert.DHRefIdeal.Read.val_main_v0, Cert.DHRefIdeal.Read.val_main_v1, Cert.DHRefIdeal.Read.val_main_v10, Cert.DHRefIdeal.Read.val_main_v11, Cert.DHRefIdeal.Read.val_main_v12, Cert.DHRefIdeal.Read.val_main_v13, Cert.DHRefIdeal.Read.val_main_v2, Cert.DHRefIdeal.Read.val_main_v3, Cert.DHRefIdeal.Read.val_main_v4, Cert.DHRefIdeal.Read.val_main_v5, Cert.DHRefIdeal.Read.val_main_v6, Cert.DHRefIdeal.Read.val_main_v7, Cert.DHRefIdeal.Read.val_main_v8, Cert.DHRefIdeal.Read.val_main_v9] <;>
    rw [dif_neg (by omega), dif_neg (by omega), dif_neg (by omega), dif_neg (by omega), dif_neg (by omega), dif_pos (by omega)] <;>
    exact congrArg (fun p => w (ix2 i p)) (Fin.ext (by dsimp only; omega))

theorem cols_0 (g : FVec Ideal S1024x3072 .f32) (w : FVec Ideal S1024x4880 .f32) (i : Fin 1024) (k : Fin 112) : cols g w (ix2 i ⟨7952 + k.val, by omega⟩) = 0 := by
  have hk := k.isLt
  unfold cols
  pointwise [Cert.DHRefIdeal.Read.val_main_cst, Cert.DHRefIdeal.Read.val_main_v0, Cert.DHRefIdeal.Read.val_main_v1, Cert.DHRefIdeal.Read.val_main_v10, Cert.DHRefIdeal.Read.val_main_v11, Cert.DHRefIdeal.Read.val_main_v12, Cert.DHRefIdeal.Read.val_main_v13, Cert.DHRefIdeal.Read.val_main_v2, Cert.DHRefIdeal.Read.val_main_v3, Cert.DHRefIdeal.Read.val_main_v4, Cert.DHRefIdeal.Read.val_main_v5, Cert.DHRefIdeal.Read.val_main_v6, Cert.DHRefIdeal.Read.val_main_v7, Cert.DHRefIdeal.Read.val_main_v8, Cert.DHRefIdeal.Read.val_main_v9] <;>
    rw [dif_neg (by omega), dif_neg (by omega), dif_neg (by omega), dif_neg (by omega), dif_neg (by omega), dif_neg (by omega)]

theorem dcols_g (dg : FVec Ideal S8192x3072 .bf16) (dda : FVec Ideal S8192x2304 .bf16) (dq : FVec Ideal S8192x1536 .bf16)
    (dz dp : FVec Ideal S8192x512 .bf16) (db da : FVec Ideal S8x8192 .f32) (i : Fin 8192) (k : Fin 3072) : dcols dg dda dq dz dp db da (ix2 i ⟨k.val, by omega⟩) = dg (ix2 i k) := by
  have hk := k.isLt
  unfold dcols
  pointwise [Cert.DHRefIdeal.Read.val_main_cst, Cert.DHRefIdeal.Read.val_main_v0, Cert.DHRefIdeal.Read.val_main_v1, Cert.DHRefIdeal.Read.val_main_v10, Cert.DHRefIdeal.Read.val_main_v11, Cert.DHRefIdeal.Read.val_main_v12, Cert.DHRefIdeal.Read.val_main_v13, Cert.DHRefIdeal.Read.val_main_v2, Cert.DHRefIdeal.Read.val_main_v3, Cert.DHRefIdeal.Read.val_main_v4, Cert.DHRefIdeal.Read.val_main_v5, Cert.DHRefIdeal.Read.val_main_v6, Cert.DHRefIdeal.Read.val_main_v7, Cert.DHRefIdeal.Read.val_main_v8, Cert.DHRefIdeal.Read.val_main_v9] <;>
    rw [dif_pos (by omega)] <;>
    exact congrArg (fun p => dg (ix2 i p)) (Fin.ext (by dsimp only; omega))

theorem dcols_d (dg : FVec Ideal S8192x3072 .bf16) (dda : FVec Ideal S8192x2304 .bf16) (dq : FVec Ideal S8192x1536 .bf16)
    (dz dp : FVec Ideal S8192x512 .bf16) (db da : FVec Ideal S8x8192 .f32) (i : Fin 8192) (k : Fin 2304) : dcols dg dda dq dz dp db da (ix2 i ⟨3072 + k.val, by omega⟩) = dda (ix2 i k) := by
  have hk := k.isLt
  unfold dcols
  pointwise [Cert.DHRefIdeal.Read.val_main_cst, Cert.DHRefIdeal.Read.val_main_v0, Cert.DHRefIdeal.Read.val_main_v1, Cert.DHRefIdeal.Read.val_main_v10, Cert.DHRefIdeal.Read.val_main_v11, Cert.DHRefIdeal.Read.val_main_v12, Cert.DHRefIdeal.Read.val_main_v13, Cert.DHRefIdeal.Read.val_main_v2, Cert.DHRefIdeal.Read.val_main_v3, Cert.DHRefIdeal.Read.val_main_v4, Cert.DHRefIdeal.Read.val_main_v5, Cert.DHRefIdeal.Read.val_main_v6, Cert.DHRefIdeal.Read.val_main_v7, Cert.DHRefIdeal.Read.val_main_v8, Cert.DHRefIdeal.Read.val_main_v9] <;>
    rw [dif_neg (by omega), dif_pos (by omega)] <;>
    exact congrArg (fun p => dda (ix2 i p)) (Fin.ext (by dsimp only; omega))

theorem dcols_q (dg : FVec Ideal S8192x3072 .bf16) (dda : FVec Ideal S8192x2304 .bf16) (dq : FVec Ideal S8192x1536 .bf16)
    (dz dp : FVec Ideal S8192x512 .bf16) (db da : FVec Ideal S8x8192 .f32) (i : Fin 8192) (k : Fin 1536) : dcols dg dda dq dz dp db da (ix2 i ⟨5376 + k.val, by omega⟩) = dq (ix2 i k) := by
  have hk := k.isLt
  unfold dcols
  pointwise [Cert.DHRefIdeal.Read.val_main_cst, Cert.DHRefIdeal.Read.val_main_v0, Cert.DHRefIdeal.Read.val_main_v1, Cert.DHRefIdeal.Read.val_main_v10, Cert.DHRefIdeal.Read.val_main_v11, Cert.DHRefIdeal.Read.val_main_v12, Cert.DHRefIdeal.Read.val_main_v13, Cert.DHRefIdeal.Read.val_main_v2, Cert.DHRefIdeal.Read.val_main_v3, Cert.DHRefIdeal.Read.val_main_v4, Cert.DHRefIdeal.Read.val_main_v5, Cert.DHRefIdeal.Read.val_main_v6, Cert.DHRefIdeal.Read.val_main_v7, Cert.DHRefIdeal.Read.val_main_v8, Cert.DHRefIdeal.Read.val_main_v9] <;>
    rw [dif_neg (by omega), dif_neg (by omega), dif_pos (by omega)] <;>
    exact congrArg (fun p => dq (ix2 i p)) (Fin.ext (by dsimp only; omega))

theorem dcols_z (dg : FVec Ideal S8192x3072 .bf16) (dda : FVec Ideal S8192x2304 .bf16) (dq : FVec Ideal S8192x1536 .bf16)
    (dz dp : FVec Ideal S8192x512 .bf16) (db da : FVec Ideal S8x8192 .f32) (i : Fin 8192) (k : Fin 512) : dcols dg dda dq dz dp db da (ix2 i ⟨6912 + k.val, by omega⟩) = dz (ix2 i k) := by
  have hk := k.isLt
  unfold dcols
  pointwise [Cert.DHRefIdeal.Read.val_main_cst, Cert.DHRefIdeal.Read.val_main_v0, Cert.DHRefIdeal.Read.val_main_v1, Cert.DHRefIdeal.Read.val_main_v10, Cert.DHRefIdeal.Read.val_main_v11, Cert.DHRefIdeal.Read.val_main_v12, Cert.DHRefIdeal.Read.val_main_v13, Cert.DHRefIdeal.Read.val_main_v2, Cert.DHRefIdeal.Read.val_main_v3, Cert.DHRefIdeal.Read.val_main_v4, Cert.DHRefIdeal.Read.val_main_v5, Cert.DHRefIdeal.Read.val_main_v6, Cert.DHRefIdeal.Read.val_main_v7, Cert.DHRefIdeal.Read.val_main_v8, Cert.DHRefIdeal.Read.val_main_v9] <;>
    rw [dif_neg (by omega), dif_neg (by omega), dif_neg (by omega), dif_pos (by omega)] <;>
    exact congrArg (fun p => dz (ix2 i p)) (Fin.ext (by dsimp only; omega))

theorem dcols_p (dg : FVec Ideal S8192x3072 .bf16) (dda : FVec Ideal S8192x2304 .bf16) (dq : FVec Ideal S8192x1536 .bf16)
    (dz dp : FVec Ideal S8192x512 .bf16) (db da : FVec Ideal S8x8192 .f32) (i : Fin 8192) (k : Fin 512) : dcols dg dda dq dz dp db da (ix2 i ⟨7424 + k.val, by omega⟩) = dp (ix2 i k) := by
  have hk := k.isLt
  unfold dcols
  pointwise [Cert.DHRefIdeal.Read.val_main_cst, Cert.DHRefIdeal.Read.val_main_v0, Cert.DHRefIdeal.Read.val_main_v1, Cert.DHRefIdeal.Read.val_main_v10, Cert.DHRefIdeal.Read.val_main_v11, Cert.DHRefIdeal.Read.val_main_v12, Cert.DHRefIdeal.Read.val_main_v13, Cert.DHRefIdeal.Read.val_main_v2, Cert.DHRefIdeal.Read.val_main_v3, Cert.DHRefIdeal.Read.val_main_v4, Cert.DHRefIdeal.Read.val_main_v5, Cert.DHRefIdeal.Read.val_main_v6, Cert.DHRefIdeal.Read.val_main_v7, Cert.DHRefIdeal.Read.val_main_v8, Cert.DHRefIdeal.Read.val_main_v9] <;>
    rw [dif_neg (by omega), dif_neg (by omega), dif_neg (by omega), dif_neg (by omega), dif_pos (by omega)] <;>
    exact congrArg (fun p => dp (ix2 i p)) (Fin.ext (by dsimp only; omega))

theorem dcols_b (dg : FVec Ideal S8192x3072 .bf16) (dda : FVec Ideal S8192x2304 .bf16) (dq : FVec Ideal S8192x1536 .bf16)
    (dz dp : FVec Ideal S8192x512 .bf16) (db da : FVec Ideal S8x8192 .f32) (i : Fin 8192) (k : Fin 8) : dcols dg dda dq dz dp db da (ix2 i ⟨7936 + k.val, by omega⟩) = db (ix2 k i) := by
  have hk := k.isLt
  unfold dcols
  pointwise [Cert.DHRefIdeal.Read.val_main_cst, Cert.DHRefIdeal.Read.val_main_v0, Cert.DHRefIdeal.Read.val_main_v1, Cert.DHRefIdeal.Read.val_main_v10, Cert.DHRefIdeal.Read.val_main_v11, Cert.DHRefIdeal.Read.val_main_v12, Cert.DHRefIdeal.Read.val_main_v13, Cert.DHRefIdeal.Read.val_main_v2, Cert.DHRefIdeal.Read.val_main_v3, Cert.DHRefIdeal.Read.val_main_v4, Cert.DHRefIdeal.Read.val_main_v5, Cert.DHRefIdeal.Read.val_main_v6, Cert.DHRefIdeal.Read.val_main_v7, Cert.DHRefIdeal.Read.val_main_v8, Cert.DHRefIdeal.Read.val_main_v9] <;>
    rw [dif_neg (by omega), dif_neg (by omega), dif_neg (by omega), dif_neg (by omega), dif_neg (by omega), dif_pos (by omega), dif_pos (by omega)] <;>
    exact congrArg (fun p => db (ix2 p i)) (Fin.ext (by dsimp only; omega))

theorem dcols_a (dg : FVec Ideal S8192x3072 .bf16) (dda : FVec Ideal S8192x2304 .bf16) (dq : FVec Ideal S8192x1536 .bf16)
    (dz dp : FVec Ideal S8192x512 .bf16) (db da : FVec Ideal S8x8192 .f32) (i : Fin 8192) (k : Fin 8) : dcols dg dda dq dz dp db da (ix2 i ⟨7944 + k.val, by omega⟩) = da (ix2 k i) := by
  have hk := k.isLt
  unfold dcols
  pointwise [Cert.DHRefIdeal.Read.val_main_cst, Cert.DHRefIdeal.Read.val_main_v0, Cert.DHRefIdeal.Read.val_main_v1, Cert.DHRefIdeal.Read.val_main_v10, Cert.DHRefIdeal.Read.val_main_v11, Cert.DHRefIdeal.Read.val_main_v12, Cert.DHRefIdeal.Read.val_main_v13, Cert.DHRefIdeal.Read.val_main_v2, Cert.DHRefIdeal.Read.val_main_v3, Cert.DHRefIdeal.Read.val_main_v4, Cert.DHRefIdeal.Read.val_main_v5, Cert.DHRefIdeal.Read.val_main_v6, Cert.DHRefIdeal.Read.val_main_v7, Cert.DHRefIdeal.Read.val_main_v8, Cert.DHRefIdeal.Read.val_main_v9] <;>
    rw [dif_neg (by omega), dif_neg (by omega), dif_neg (by omega), dif_neg (by omega), dif_neg (by omega), dif_pos (by omega), dif_neg (by omega)] <;>
    exact congrArg (fun p => da (ix2 p i)) (Fin.ext (by dsimp only; omega))

theorem dcols_0 (dg : FVec Ideal S8192x3072 .bf16) (dda : FVec Ideal S8192x2304 .bf16) (dq : FVec Ideal S8192x1536 .bf16)
    (dz dp : FVec Ideal S8192x512 .bf16) (db da : FVec Ideal S8x8192 .f32) (i : Fin 8192) (k : Fin 112) : dcols dg dda dq dz dp db da (ix2 i ⟨7952 + k.val, by omega⟩) = 0 := by
  have hk := k.isLt
  unfold dcols
  pointwise [Cert.DHRefIdeal.Read.val_main_cst, Cert.DHRefIdeal.Read.val_main_v0, Cert.DHRefIdeal.Read.val_main_v1, Cert.DHRefIdeal.Read.val_main_v10, Cert.DHRefIdeal.Read.val_main_v11, Cert.DHRefIdeal.Read.val_main_v12, Cert.DHRefIdeal.Read.val_main_v13, Cert.DHRefIdeal.Read.val_main_v2, Cert.DHRefIdeal.Read.val_main_v3, Cert.DHRefIdeal.Read.val_main_v4, Cert.DHRefIdeal.Read.val_main_v5, Cert.DHRefIdeal.Read.val_main_v6, Cert.DHRefIdeal.Read.val_main_v7, Cert.DHRefIdeal.Read.val_main_v8, Cert.DHRefIdeal.Read.val_main_v9] <;>
    rw [dif_neg (by omega), dif_neg (by omega), dif_neg (by omega), dif_neg (by omega), dif_neg (by omega), dif_neg (by omega)]
  show ((((0#32 : BitVec 32).toInt : ℤ) : ℝ) : EReal) = 0
  simp

/-- The cotangents of the second projection in the problem's order. -/
abbrev dproj (dda : FVec Ideal S8192x2304 .bf16) (dq : FVec Ideal S8192x1536 .bf16)
    (dz dp : FVec Ideal S8192x512 .bf16) (db da : FVec Ideal S8x8192 .f32) : FVec Ideal Cert.DHRefIdeal.S8192x4880 .f32 :=
  Cert.DHRefIdeal.Read.val_main_v6 (F := Ideal) dda dq dz dp db da

theorem dproj_q (dda : FVec Ideal S8192x2304 .bf16) (dq : FVec Ideal S8192x1536 .bf16)
    (dz dp : FVec Ideal S8192x512 .bf16) (db da : FVec Ideal S8x8192 .f32) (i : Fin 8192) (k : Fin 1536) : dproj dda dq dz dp db da (ix2 i ⟨k.val, by omega⟩) = dq (ix2 i k) := by
  have hk := k.isLt
  unfold dproj
  pointwise [Cert.DHRefIdeal.Read.val_main_cst, Cert.DHRefIdeal.Read.val_main_v0, Cert.DHRefIdeal.Read.val_main_v1, Cert.DHRefIdeal.Read.val_main_v10, Cert.DHRefIdeal.Read.val_main_v11, Cert.DHRefIdeal.Read.val_main_v12, Cert.DHRefIdeal.Read.val_main_v13, Cert.DHRefIdeal.Read.val_main_v2, Cert.DHRefIdeal.Read.val_main_v3, Cert.DHRefIdeal.Read.val_main_v4, Cert.DHRefIdeal.Read.val_main_v5, Cert.DHRefIdeal.Read.val_main_v6, Cert.DHRefIdeal.Read.val_main_v7, Cert.DHRefIdeal.Read.val_main_v8, Cert.DHRefIdeal.Read.val_main_v9] <;>
    rw [dif_pos (by omega)] <;>
    exact congrArg (fun p => dq (ix2 i p)) (Fin.ext (by dsimp only; omega))

theorem dproj_z (dda : FVec Ideal S8192x2304 .bf16) (dq : FVec Ideal S8192x1536 .bf16)
    (dz dp : FVec Ideal S8192x512 .bf16) (db da : FVec Ideal S8x8192 .f32) (i : Fin 8192) (k : Fin 512) : dproj dda dq dz dp db da (ix2 i ⟨1536 + k.val, by omega⟩) = dz (ix2 i k) := by
  have hk := k.isLt
  unfold dproj
  pointwise [Cert.DHRefIdeal.Read.val_main_cst, Cert.DHRefIdeal.Read.val_main_v0, Cert.DHRefIdeal.Read.val_main_v1, Cert.DHRefIdeal.Read.val_main_v10, Cert.DHRefIdeal.Read.val_main_v11, Cert.DHRefIdeal.Read.val_main_v12, Cert.DHRefIdeal.Read.val_main_v13, Cert.DHRefIdeal.Read.val_main_v2, Cert.DHRefIdeal.Read.val_main_v3, Cert.DHRefIdeal.Read.val_main_v4, Cert.DHRefIdeal.Read.val_main_v5, Cert.DHRefIdeal.Read.val_main_v6, Cert.DHRefIdeal.Read.val_main_v7, Cert.DHRefIdeal.Read.val_main_v8, Cert.DHRefIdeal.Read.val_main_v9] <;>
    rw [dif_neg (by omega), dif_pos (by omega)] <;>
    exact congrArg (fun p => dz (ix2 i p)) (Fin.ext (by dsimp only; omega))

theorem dproj_b (dda : FVec Ideal S8192x2304 .bf16) (dq : FVec Ideal S8192x1536 .bf16)
    (dz dp : FVec Ideal S8192x512 .bf16) (db da : FVec Ideal S8x8192 .f32) (i : Fin 8192) (k : Fin 8) : dproj dda dq dz dp db da (ix2 i ⟨2048 + k.val, by omega⟩) = db (ix2 k i) := by
  have hk := k.isLt
  unfold dproj
  pointwise [Cert.DHRefIdeal.Read.val_main_cst, Cert.DHRefIdeal.Read.val_main_v0, Cert.DHRefIdeal.Read.val_main_v1, Cert.DHRefIdeal.Read.val_main_v10, Cert.DHRefIdeal.Read.val_main_v11, Cert.DHRefIdeal.Read.val_main_v12, Cert.DHRefIdeal.Read.val_main_v13, Cert.DHRefIdeal.Read.val_main_v2, Cert.DHRefIdeal.Read.val_main_v3, Cert.DHRefIdeal.Read.val_main_v4, Cert.DHRefIdeal.Read.val_main_v5, Cert.DHRefIdeal.Read.val_main_v6, Cert.DHRefIdeal.Read.val_main_v7, Cert.DHRefIdeal.Read.val_main_v8, Cert.DHRefIdeal.Read.val_main_v9] <;>
    rw [dif_neg (by omega), dif_neg (by omega), dif_pos (by omega)] <;>
    exact congrArg (fun p => db (ix2 p i)) (Fin.ext (by dsimp only; omega))

theorem dproj_a (dda : FVec Ideal S8192x2304 .bf16) (dq : FVec Ideal S8192x1536 .bf16)
    (dz dp : FVec Ideal S8192x512 .bf16) (db da : FVec Ideal S8x8192 .f32) (i : Fin 8192) (k : Fin 8) : dproj dda dq dz dp db da (ix2 i ⟨2056 + k.val, by omega⟩) = da (ix2 k i) := by
  have hk := k.isLt
  unfold dproj
  pointwise [Cert.DHRefIdeal.Read.val_main_cst, Cert.DHRefIdeal.Read.val_main_v0, Cert.DHRefIdeal.Read.val_main_v1, Cert.DHRefIdeal.Read.val_main_v10, Cert.DHRefIdeal.Read.val_main_v11, Cert.DHRefIdeal.Read.val_main_v12, Cert.DHRefIdeal.Read.val_main_v13, Cert.DHRefIdeal.Read.val_main_v2, Cert.DHRefIdeal.Read.val_main_v3, Cert.DHRefIdeal.Read.val_main_v4, Cert.DHRefIdeal.Read.val_main_v5, Cert.DHRefIdeal.Read.val_main_v6, Cert.DHRefIdeal.Read.val_main_v7, Cert.DHRefIdeal.Read.val_main_v8, Cert.DHRefIdeal.Read.val_main_v9] <;>
    rw [dif_neg (by omega), dif_neg (by omega), dif_neg (by omega), dif_pos (by omega)] <;>
    exact congrArg (fun p => da (ix2 p i)) (Fin.ext (by dsimp only; omega))

theorem dproj_p (dda : FVec Ideal S8192x2304 .bf16) (dq : FVec Ideal S8192x1536 .bf16)
    (dz dp : FVec Ideal S8192x512 .bf16) (db da : FVec Ideal S8x8192 .f32) (i : Fin 8192) (k : Fin 512) : dproj dda dq dz dp db da (ix2 i ⟨2064 + k.val, by omega⟩) = dp (ix2 i k) := by
  have hk := k.isLt
  unfold dproj
  pointwise [Cert.DHRefIdeal.Read.val_main_cst, Cert.DHRefIdeal.Read.val_main_v0, Cert.DHRefIdeal.Read.val_main_v1, Cert.DHRefIdeal.Read.val_main_v10, Cert.DHRefIdeal.Read.val_main_v11, Cert.DHRefIdeal.Read.val_main_v12, Cert.DHRefIdeal.Read.val_main_v13, Cert.DHRefIdeal.Read.val_main_v2, Cert.DHRefIdeal.Read.val_main_v3, Cert.DHRefIdeal.Read.val_main_v4, Cert.DHRefIdeal.Read.val_main_v5, Cert.DHRefIdeal.Read.val_main_v6, Cert.DHRefIdeal.Read.val_main_v7, Cert.DHRefIdeal.Read.val_main_v8, Cert.DHRefIdeal.Read.val_main_v9] <;>
    rw [dif_neg (by omega), dif_neg (by omega), dif_neg (by omega), dif_neg (by omega), dif_pos (by omega)] <;>
    exact congrArg (fun p => dp (ix2 i p)) (Fin.ext (by dsimp only; omega))

theorem dproj_d (dda : FVec Ideal S8192x2304 .bf16) (dq : FVec Ideal S8192x1536 .bf16)
    (dz dp : FVec Ideal S8192x512 .bf16) (db da : FVec Ideal S8x8192 .f32) (i : Fin 8192) (k : Fin 2304) : dproj dda dq dz dp db da (ix2 i ⟨2576 + k.val, by omega⟩) = dda (ix2 i k) := by
  have hk := k.isLt
  unfold dproj
  pointwise [Cert.DHRefIdeal.Read.val_main_cst, Cert.DHRefIdeal.Read.val_main_v0, Cert.DHRefIdeal.Read.val_main_v1, Cert.DHRefIdeal.Read.val_main_v10, Cert.DHRefIdeal.Read.val_main_v11, Cert.DHRefIdeal.Read.val_main_v12, Cert.DHRefIdeal.Read.val_main_v13, Cert.DHRefIdeal.Read.val_main_v2, Cert.DHRefIdeal.Read.val_main_v3, Cert.DHRefIdeal.Read.val_main_v4, Cert.DHRefIdeal.Read.val_main_v5, Cert.DHRefIdeal.Read.val_main_v6, Cert.DHRefIdeal.Read.val_main_v7, Cert.DHRefIdeal.Read.val_main_v8, Cert.DHRefIdeal.Read.val_main_v9] <;>
    rw [dif_neg (by omega), dif_neg (by omega), dif_neg (by omega), dif_neg (by omega), dif_neg (by omega)] <;>
    exact congrArg (fun p => dda (ix2 i p)) (Fin.ext (by dsimp only; omega))

/-- The columns of the two projections, summed in the problem's order and in the version's. -/
theorem regroup (E : Fin 3072 → EReal) (G : Fin 4880 → EReal) (F : Fin 8064 → EReal)
    (hg : ∀ k : Fin 3072, F ⟨k.val, by omega⟩ = E k)
    (hd : ∀ k : Fin 2304, F ⟨3072 + k.val, by omega⟩ = G ⟨2576 + k.val, by omega⟩)
    (hq : ∀ k : Fin 1536, F ⟨5376 + k.val, by omega⟩ = G ⟨k.val, by omega⟩)
    (hz : ∀ k : Fin 512, F ⟨6912 + k.val, by omega⟩ = G ⟨1536 + k.val, by omega⟩)
    (hp : ∀ k : Fin 512, F ⟨7424 + k.val, by omega⟩ = G ⟨2064 + k.val, by omega⟩)
    (hb : ∀ k : Fin 8, F ⟨7936 + k.val, by omega⟩ = G ⟨2048 + k.val, by omega⟩)
    (ha : ∀ k : Fin 8, F ⟨7944 + k.val, by omega⟩ = G ⟨2056 + k.val, by omega⟩)
    (h0 : ∀ k : Fin 112, F ⟨7952 + k.val, by omega⟩ = 0) :
    ∑ k, G k + ∑ k, E k = ∑ k, F k := by
  have hF := Fin.sum_univ_two_halves 3072 4992 (rfl : 3072 + 4992 = 8064) F
  rw [Fin.sum_univ_two_halves 2304 2688 (rfl : 2304 + 2688 = 4992), Fin.sum_univ_two_halves 1536 1152 (rfl : 1536 + 1152 = 2688), Fin.sum_univ_two_halves 512 640 (rfl : 512 + 640 = 1152), Fin.sum_univ_two_halves 512 128 (rfl : 512 + 128 = 640), Fin.sum_univ_two_halves 8 120 (rfl : 8 + 120 = 128), Fin.sum_univ_two_halves 8 112 (rfl : 8 + 112 = 120)] at hF
  have hG := Fin.sum_univ_two_halves 1536 3344 (rfl : 1536 + 3344 = 4880) G
  rw [Fin.sum_univ_two_halves 512 2832 (rfl : 512 + 2832 = 3344), Fin.sum_univ_two_halves 8 2824 (rfl : 8 + 2824 = 2832), Fin.sum_univ_two_halves 8 2816 (rfl : 8 + 2816 = 2824), Fin.sum_univ_two_halves 512 2304 (rfl : 512 + 2304 = 2816)] at hG
  simp only [← Nat.add_assoc, Nat.reduceAdd] at hF hG
  rw [hF, hG, Finset.sum_congr rfl fun k _ => hg k, Finset.sum_congr rfl fun k _ => hd k, Finset.sum_congr rfl fun k _ => hq k,
    Finset.sum_congr rfl fun k _ => hz k, Finset.sum_congr rfl fun k _ => hp k, Finset.sum_congr rfl fun k _ => hb k,
    Finset.sum_congr rfl fun k _ => ha k, Finset.sum_eq_zero fun k _ => h0 k, add_zero]
  ac_rfl

theorem ref_prod (dg : FVec Ideal S8192x3072 .bf16) (dda : FVec Ideal S8192x2304 .bf16) (dq : FVec Ideal S8192x1536 .bf16)
    (dz dp : FVec Ideal S8192x512 .bf16) (db da : FVec Ideal S8x8192 .f32)
    (g : FVec Ideal S1024x3072 .f32) (w : FVec Ideal S1024x4880 .f32) :
    Cert.DHRefIdeal.Read.val_main_v13 (F := Ideal) dg dda dq dz dp db da g w = prod (dcols dg dda dq dz dp db da) (cols g w) := by
  funext i
  idx_vars i
  have e : Cert.DHRefIdeal.Read.val_main_v13 (F := Ideal) dg dda dq dz dp db da g w (ix2 i0 i1)
      = ∑ k : Fin 4880, dproj dda dq dz dp db da (ix2 i0 k) * w (ix2 i1 k) + ∑ k : Fin 3072, dg (ix2 i0 k) * g (ix2 i1 k) := by
    pointwise [Cert.DHRefIdeal.Read.val_main_v10, Cert.DHRefIdeal.Read.val_main_v11, Cert.DHRefIdeal.Read.val_main_v12, Cert.DHRefIdeal.Read.val_main_v13] <;> rfl
  refine e.trans (regroup _ _ _ (fun k => ?_) (fun k => ?_) (fun k => ?_) (fun k => ?_) (fun k => ?_) (fun k => ?_) (fun k => ?_) (fun k => ?_))
  · exact congr (congrArg (HMul.hMul (α := EReal)) (dcols_g dg dda dq dz dp db da i0 k)) (cols_g g w i1 k)
  · exact congr (congrArg (HMul.hMul (α := EReal)) ((dcols_d dg dda dq dz dp db da i0 k).trans (dproj_d dda dq dz dp db da i0 k).symm)) (cols_d g w i1 k)
  · exact congr (congrArg (HMul.hMul (α := EReal)) ((dcols_q dg dda dq dz dp db da i0 k).trans (dproj_q dda dq dz dp db da i0 k).symm)) (cols_q g w i1 k)
  · exact congr (congrArg (HMul.hMul (α := EReal)) ((dcols_z dg dda dq dz dp db da i0 k).trans (dproj_z dda dq dz dp db da i0 k).symm)) (cols_z g w i1 k)
  · exact congr (congrArg (HMul.hMul (α := EReal)) ((dcols_p dg dda dq dz dp db da i0 k).trans (dproj_p dda dq dz dp db da i0 k).symm)) (cols_p g w i1 k)
  · exact congr (congrArg (HMul.hMul (α := EReal)) ((dcols_b dg dda dq dz dp db da i0 k).trans (dproj_b dda dq dz dp db da i0 k).symm)) (cols_b g w i1 k)
  · exact congr (congrArg (HMul.hMul (α := EReal)) ((dcols_a dg dda dq dz dp db da i0 k).trans (dproj_a dda dq dz dp db da i0 k).symm)) (cols_a g w i1 k)
  · exact (congr (congrArg (HMul.hMul (α := EReal)) (dcols_0 dg dda dq dz dp db da i0 k)) (cols_0 g w i1 k)).trans (mul_zero _)

theorem value (c : Dev nD) : (dats m 0 c).arrAt 2 cfg0.N = prod
    (dcols (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (cols (m ((c : Thread nD τ).loc main_arg7)) (m ((c : Thread nD τ).loc main_arg8))) := by
  refine (final m c).trans ?_
  rw [read_a, read_b]

end Cert.DHIdeal.Value

end
-- ==== Proof.DWcatValue.lean ====
/-
  The combined projection's weight product: what the kernel leaves, block by block, is the product of the two arrays it finds.
-/
module

public import proofs.«01_k».proof.Proof.Gen.DWcatIdeal.Value
public import proofs.«01_k».proof.Proof.Gen.DWcatRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DWcatIdeal.Value

open Cert.DWcatIdeal Cert.DWcatIdeal.Gen

variable (m : (ℓ : Loc nD τ sig) → Buf (Elt Ideal) ℓ) (ρ : Dev nD → PrngReg)

abbrev arrA (c : Dev nD) : FVec Ideal S8192x1024 .bf16 := V m c (Pipeline.arrRef spec0 0)
abbrev arrB (c : Dev nD) : FVec Ideal S8192x8064 .bf16 := V m c (Pipeline.arrRef spec0 1)

/-- The product. -/
def prod (a : FVec Ideal S8192x1024 .bf16) (b : FVec Ideal S8192x8064 .bf16) : FVec Ideal S1024x8064 .f32 := fun i =>
  ∑ k : Fin 8192, a (ix2 k (i 0)) * b (ix2 k (i 1))

theorem pay_step (acc : Vec Ideal S1024x2688 .f32) (a : Vec Ideal S1024x1024 .bf16) (b : Vec Ideal S1024x2688 .bf16)
    (r : Fin 1024) (f : Fin 2688) :
    k0_pay2 acc a b (ix2 r f) = acc (ix2 r f) + ∑ k : Fin 1024, a (ix2 k r) * b (ix2 k f) := by
  pointwise [k0_pay2]

theorem pay_zero (r : Fin 1024) (f : Fin 2688) : k0_pay1 (F := Ideal) (ix2 r f) = 0 := by
  pointwise [k0_pay1]

theorem geom : ∀ t : Fin cfg0.N,
    win0_0.index t = ![t.val % 8, 0] ∧ win0_1.index t = ![t.val % 8, t.val / 8] ∧ win0_2.index t = ![0, t.val / 8] := by
  decide +kernel

theorem pt_lt (t : Fin cfg0.N) : t.val < 24 := lt_of_lt_of_eq t.isLt N_0

abbrev atK (t : Fin cfg0.N) (k : Fin 1024) : Fin 8192 := ⟨t.val % 8 * 1024 + k.val, by have := pt_lt t; omega⟩
abbrev atR (t : Fin cfg0.N) (r : Fin 1024) : Fin 1024 := r
abbrev atC (t : Fin cfg0.N) (f : Fin 2688) : Fin 8064 := ⟨t.val / 8 * 2688 + f.val, by have := pt_lt t; omega⟩

theorem blockA (c : Dev nD) (t : Fin cfg0.N) (k : Fin 1024) (r : Fin 1024) :
    (iblk m c 0 t : Vec Ideal S1024x1024 .bf16) (ix2 k r) = arrA m c (ix2 (atK t k) (atR t r)) := by
  blk_ext [iblk, geom t]

theorem blockB (c : Dev nD) (t : Fin cfg0.N) (k : Fin 1024) (f : Fin 2688) :
    (iblk m c 1 t : Vec Ideal S1024x2688 .bf16) (ix2 k f) = arrB m c (ix2 (atK t k) (atC t f)) := by
  blk_ext [iblk, geom t]

/-- A block of the contracted axis' part of the product. -/
def term (c : Dev nD) (t : Fin cfg0.N) (i : S1024x2688.Idx) : EReal :=
  ∑ k : Fin 1024, arrA m c (ix2 (atK t k) (atR t (i 0))) * arrB m c (ix2 (atK t k) (atC t (i 1)))

theorem step_eq (c : Dev nD) (t : Fin cfg0.N) (acc : Vec Ideal S1024x2688 .f32) (i : S1024x2688.Idx) :
    k0_pay2 acc (iblk m c 0 t) (iblk m c 1 t) i = HAdd.hAdd (α := EReal) (β := EReal) (γ := EReal) (acc i) (term m c t i) := by
  obtain ⟨r, f, rfl⟩ : ∃ (r : Fin 1024) (f : Fin 2688), i = ix2 r f := ⟨i 0, i 1, eq_ix2 i⟩
  refine (pay_step acc _ _ r f).trans (congrArg (HAdd.hAdd (α := EReal) (acc (ix2 r f))) (Finset.sum_congr rfl fun k _ => ?_))
  exact congr (congrArg (HMul.hMul (α := EReal)) (blockA m c t k r)) (blockB m c t k f)

theorem first_eq (c : Dev nD) (t : Fin cfg0.N) (i : S1024x2688.Idx) :
    k0_pay2 (k0_pay1 (F := Ideal)) (iblk m c 0 t) (iblk m c 1 t) i = 0 + term m c t i :=
  (step_eq m c t (k0_pay1 (F := Ideal)) i).trans
    (congrArg (fun a : EReal => a + term m c t i) ((congrArg _ (eq_ix2 i)).trans (pay_zero (i 0) (i 1))))

theorem acc_first (c : Dev nD) (t : Fin cfg0.N) (h : t.val % 8 = 0) (i : S1024x2688.Idx) :
    (outsAt0 m c t.val t.isLt).2 i = 0 + term m c t i := by
  rw [outsAt0_A m c t h (by omega)]
  refine Eq.trans ?_ (first_eq m c t i)
  frame_out

theorem acc_next (c : Dev nD) (t : Fin cfg0.N) (h : ¬t.val % 8 = 0) (i : S1024x2688.Idx) :
    (outsAt0 m c t.val t.isLt).2 i
      = (outsAt0 m c (t.val - 1) (Nat.lt_of_le_of_lt (Nat.sub_le _ _) t.isLt)).2 i + term m c t i := by
  refine Eq.trans ?_ (step_eq m c t _ i)
  by_cases hl : t.val % 8 = 7
  · rw [outsAt0_C m c t h hl]
    frame_out
    rw [read_unread_whole]
  · rw [outsAt0_B m c t h hl]
    frame_out
    rw [read_unread_whole]

theorem out_last (c : Dev nD) (t : Fin cfg0.N) (h : t.val % 8 = 7) :
    (outsAt0 m c t.val t.isLt).1 = (outsAt0 m c t.val t.isLt).2 := by
  rw [outsAt0_C m c t (by omega) h]
  frame_out

theorem final (c : Dev nD) : (dats m 0 c).arrAt 2 cfg0.N = prod (arrA m c) (arrB m c) := by
  refine (dats m 0 c).arrAt_eq_of_covers 2 _ (by decide +kernel) fun t hf y => ?_
  obtain ⟨r, f, rfl⟩ : ∃ (r : Fin 1024) (f : Fin 2688), y = ix2 r f := ⟨y 0, y 1, eq_ix2 y⟩
  have hN := pt_lt t
  have e : (((cfg0.win 2).blk t).view.emb (ix2 r f) : S1024x8064.Idx) = ix2 r ⟨t.val / 8 * 2688 + f.val, by have := pt_lt t; omega⟩ := by
    blk_ext [geom t]
  have hl : t.val % 8 = 7 := (flush0_2 t).mp hf
  refine Eq.trans ?_ (congrArg _ e.symm)
  blk_simp
  rw [after0_2, out_last m c t hl]
  refine (Pipeline.eq_sum_fin_of_reset_step_apply_of_flush (M := EReal) (fun n h => (outsAt0 m c n h).2) 8 (fun _ => 0) (term m c)
    (acc_first m c) (acc_next m c) t hl (ix2 r f)).trans ?_
  rw [zero_add]
  unfold term prod
  refine Fin.sum_mul_add_congr fun s k hl' => ?_
  have e1 : atK ⟨8 * (t.val / 8) + s.val, Pipeline.run_point_lt_of_flush t hl s⟩ k = ⟨s.val * 1024 + k.val, hl'⟩ := Fin.ext (by
    show (8 * (t.val / 8) + s.val) % 8 * 1024 + k.val = s.val * 1024 + k.val; omega)
  have e3 : atC ⟨8 * (t.val / 8) + s.val, Pipeline.run_point_lt_of_flush t hl s⟩ f = atC t f := Fin.ext (by
    show (8 * (t.val / 8) + s.val) / 8 * 2688 + f.val = t.val / 8 * 2688 + f.val; omega)
  show arrA m c (ix2 (atK _ k) (atR _ r)) * arrB m c (ix2 (atK _ k) (atC _ f)) = _
  rw [e1, e3]
  rfl
/-- The cotangents' columns as the host orders them. -/
def dcols (dg : FVec Ideal S8192x3072 .bf16) (dda : FVec Ideal S8192x2304 .bf16) (dq : FVec Ideal S8192x1536 .bf16)
    (dz dp : FVec Ideal S8192x512 .bf16) (db da : FVec Ideal S8x8192 .f32) : FVec Ideal S8192x8064 .bf16 :=
  concatenate S8192x8064 1 [⟨S8192x3072, dg⟩, ⟨S8192x2304, dda⟩, ⟨S8192x1536, dq⟩, ⟨S8192x512, dz⟩, ⟨S8192x512, dp⟩,
    ⟨S8192x128, pad S8192x128 ![0, 0] ![0, 112] ![0, 0]
      (truncf .bf16 (transpose S8192x16 [1, 0] (concatenate S16x8192 0 [⟨S8x8192, db⟩, ⟨S8x8192, da⟩] concatenates_S8x8192_S8x8192_S16x8192_d0)
        transposes_S16x8192_S8192x16_1_0) bitsLt_bf16_f32)
      (sitofp (F := Ideal) .bf16 (constantI S_ 32 0#32)) pads_S8192x16_S8192x128_000_01120 h_S_⟩]
    concatenates_S8192x3072_S8192x2304_S8192x1536_S8192x512_S8192x512_S8192x128_S8192x8064_d1

theorem read_b (c : Dev nD) : arrB m c = dcols (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show V m c main_v4 = _
  unfold_abbrev_sides
  simp only [List.flatten_cons, List.flatten_nil, List.append_nil, List.cons_append, List.nil_append]
  after_results
  rfl

theorem dcols_g (dg : FVec Ideal S8192x3072 .bf16) (dda : FVec Ideal S8192x2304 .bf16) (dq : FVec Ideal S8192x1536 .bf16)
    (dz dp : FVec Ideal S8192x512 .bf16) (db da : FVec Ideal S8x8192 .f32) (i : Fin 8192) (k : Fin 3072) : dcols dg dda dq dz dp db da (ix2 i ⟨k.val, by omega⟩) = dg (ix2 i k) := by
  have hk := k.isLt
  unfold dcols
  pointwise [Cert.DWcatRefIdeal.Read.val_main_c, Cert.DWcatRefIdeal.Read.val_main_call0_v0, Cert.DWcatRefIdeal.Read.val_main_cst, Cert.DWcatRefIdeal.Read.val_main_cst_0, Cert.DWcatRefIdeal.Read.val_main_v0, Cert.DWcatRefIdeal.Read.val_main_v1, Cert.DWcatRefIdeal.Read.val_main_v10, Cert.DWcatRefIdeal.Read.val_main_v11, Cert.DWcatRefIdeal.Read.val_main_v12, Cert.DWcatRefIdeal.Read.val_main_v13, Cert.DWcatRefIdeal.Read.val_main_v14, Cert.DWcatRefIdeal.Read.val_main_v15, Cert.DWcatRefIdeal.Read.val_main_v16, Cert.DWcatRefIdeal.Read.val_main_v17, Cert.DWcatRefIdeal.Read.val_main_v18, Cert.DWcatRefIdeal.Read.val_main_v19, Cert.DWcatRefIdeal.Read.val_main_v2, Cert.DWcatRefIdeal.Read.val_main_v20, Cert.DWcatRefIdeal.Read.val_main_v21, Cert.DWcatRefIdeal.Read.val_main_v22, Cert.DWcatRefIdeal.Read.val_main_v23, Cert.DWcatRefIdeal.Read.val_main_v3, Cert.DWcatRefIdeal.Read.val_main_v4, Cert.DWcatRefIdeal.Read.val_main_v5, Cert.DWcatRefIdeal.Read.val_main_v6, Cert.DWcatRefIdeal.Read.val_main_v7, Cert.DWcatRefIdeal.Read.val_main_v8, Cert.DWcatRefIdeal.Read.val_main_v9] <;>
    rw [dif_pos (by omega)] <;>
    exact congrArg (fun p => dg (ix2 i p)) (Fin.ext (by dsimp only; omega))

theorem dcols_d (dg : FVec Ideal S8192x3072 .bf16) (dda : FVec Ideal S8192x2304 .bf16) (dq : FVec Ideal S8192x1536 .bf16)
    (dz dp : FVec Ideal S8192x512 .bf16) (db da : FVec Ideal S8x8192 .f32) (i : Fin 8192) (k : Fin 2304) : dcols dg dda dq dz dp db da (ix2 i ⟨3072 + k.val, by omega⟩) = dda (ix2 i k) := by
  have hk := k.isLt
  unfold dcols
  pointwise [Cert.DWcatRefIdeal.Read.val_main_c, Cert.DWcatRefIdeal.Read.val_main_call0_v0, Cert.DWcatRefIdeal.Read.val_main_cst, Cert.DWcatRefIdeal.Read.val_main_cst_0, Cert.DWcatRefIdeal.Read.val_main_v0, Cert.DWcatRefIdeal.Read.val_main_v1, Cert.DWcatRefIdeal.Read.val_main_v10, Cert.DWcatRefIdeal.Read.val_main_v11, Cert.DWcatRefIdeal.Read.val_main_v12, Cert.DWcatRefIdeal.Read.val_main_v13, Cert.DWcatRefIdeal.Read.val_main_v14, Cert.DWcatRefIdeal.Read.val_main_v15, Cert.DWcatRefIdeal.Read.val_main_v16, Cert.DWcatRefIdeal.Read.val_main_v17, Cert.DWcatRefIdeal.Read.val_main_v18, Cert.DWcatRefIdeal.Read.val_main_v19, Cert.DWcatRefIdeal.Read.val_main_v2, Cert.DWcatRefIdeal.Read.val_main_v20, Cert.DWcatRefIdeal.Read.val_main_v21, Cert.DWcatRefIdeal.Read.val_main_v22, Cert.DWcatRefIdeal.Read.val_main_v23, Cert.DWcatRefIdeal.Read.val_main_v3, Cert.DWcatRefIdeal.Read.val_main_v4, Cert.DWcatRefIdeal.Read.val_main_v5, Cert.DWcatRefIdeal.Read.val_main_v6, Cert.DWcatRefIdeal.Read.val_main_v7, Cert.DWcatRefIdeal.Read.val_main_v8, Cert.DWcatRefIdeal.Read.val_main_v9] <;>
    rw [dif_neg (by omega), dif_pos (by omega)] <;>
    exact congrArg (fun p => dda (ix2 i p)) (Fin.ext (by dsimp only; omega))

theorem dcols_q (dg : FVec Ideal S8192x3072 .bf16) (dda : FVec Ideal S8192x2304 .bf16) (dq : FVec Ideal S8192x1536 .bf16)
    (dz dp : FVec Ideal S8192x512 .bf16) (db da : FVec Ideal S8x8192 .f32) (i : Fin 8192) (k : Fin 1536) : dcols dg dda dq dz dp db da (ix2 i ⟨5376 + k.val, by omega⟩) = dq (ix2 i k) := by
  have hk := k.isLt
  unfold dcols
  pointwise [Cert.DWcatRefIdeal.Read.val_main_c, Cert.DWcatRefIdeal.Read.val_main_call0_v0, Cert.DWcatRefIdeal.Read.val_main_cst, Cert.DWcatRefIdeal.Read.val_main_cst_0, Cert.DWcatRefIdeal.Read.val_main_v0, Cert.DWcatRefIdeal.Read.val_main_v1, Cert.DWcatRefIdeal.Read.val_main_v10, Cert.DWcatRefIdeal.Read.val_main_v11, Cert.DWcatRefIdeal.Read.val_main_v12, Cert.DWcatRefIdeal.Read.val_main_v13, Cert.DWcatRefIdeal.Read.val_main_v14, Cert.DWcatRefIdeal.Read.val_main_v15, Cert.DWcatRefIdeal.Read.val_main_v16, Cert.DWcatRefIdeal.Read.val_main_v17, Cert.DWcatRefIdeal.Read.val_main_v18, Cert.DWcatRefIdeal.Read.val_main_v19, Cert.DWcatRefIdeal.Read.val_main_v2, Cert.DWcatRefIdeal.Read.val_main_v20, Cert.DWcatRefIdeal.Read.val_main_v21, Cert.DWcatRefIdeal.Read.val_main_v22, Cert.DWcatRefIdeal.Read.val_main_v23, Cert.DWcatRefIdeal.Read.val_main_v3, Cert.DWcatRefIdeal.Read.val_main_v4, Cert.DWcatRefIdeal.Read.val_main_v5, Cert.DWcatRefIdeal.Read.val_main_v6, Cert.DWcatRefIdeal.Read.val_main_v7, Cert.DWcatRefIdeal.Read.val_main_v8, Cert.DWcatRefIdeal.Read.val_main_v9] <;>
    rw [dif_neg (by omega), dif_neg (by omega), dif_pos (by omega)] <;>
    exact congrArg (fun p => dq (ix2 i p)) (Fin.ext (by dsimp only; omega))

theorem dcols_z (dg : FVec Ideal S8192x3072 .bf16) (dda : FVec Ideal S8192x2304 .bf16) (dq : FVec Ideal S8192x1536 .bf16)
    (dz dp : FVec Ideal S8192x512 .bf16) (db da : FVec Ideal S8x8192 .f32) (i : Fin 8192) (k : Fin 512) : dcols dg dda dq dz dp db da (ix2 i ⟨6912 + k.val, by omega⟩) = dz (ix2 i k) := by
  have hk := k.isLt
  unfold dcols
  pointwise [Cert.DWcatRefIdeal.Read.val_main_c, Cert.DWcatRefIdeal.Read.val_main_call0_v0, Cert.DWcatRefIdeal.Read.val_main_cst, Cert.DWcatRefIdeal.Read.val_main_cst_0, Cert.DWcatRefIdeal.Read.val_main_v0, Cert.DWcatRefIdeal.Read.val_main_v1, Cert.DWcatRefIdeal.Read.val_main_v10, Cert.DWcatRefIdeal.Read.val_main_v11, Cert.DWcatRefIdeal.Read.val_main_v12, Cert.DWcatRefIdeal.Read.val_main_v13, Cert.DWcatRefIdeal.Read.val_main_v14, Cert.DWcatRefIdeal.Read.val_main_v15, Cert.DWcatRefIdeal.Read.val_main_v16, Cert.DWcatRefIdeal.Read.val_main_v17, Cert.DWcatRefIdeal.Read.val_main_v18, Cert.DWcatRefIdeal.Read.val_main_v19, Cert.DWcatRefIdeal.Read.val_main_v2, Cert.DWcatRefIdeal.Read.val_main_v20, Cert.DWcatRefIdeal.Read.val_main_v21, Cert.DWcatRefIdeal.Read.val_main_v22, Cert.DWcatRefIdeal.Read.val_main_v23, Cert.DWcatRefIdeal.Read.val_main_v3, Cert.DWcatRefIdeal.Read.val_main_v4, Cert.DWcatRefIdeal.Read.val_main_v5, Cert.DWcatRefIdeal.Read.val_main_v6, Cert.DWcatRefIdeal.Read.val_main_v7, Cert.DWcatRefIdeal.Read.val_main_v8, Cert.DWcatRefIdeal.Read.val_main_v9] <;>
    rw [dif_neg (by omega), dif_neg (by omega), dif_neg (by omega), dif_pos (by omega)] <;>
    exact congrArg (fun p => dz (ix2 i p)) (Fin.ext (by dsimp only; omega))

theorem dcols_p (dg : FVec Ideal S8192x3072 .bf16) (dda : FVec Ideal S8192x2304 .bf16) (dq : FVec Ideal S8192x1536 .bf16)
    (dz dp : FVec Ideal S8192x512 .bf16) (db da : FVec Ideal S8x8192 .f32) (i : Fin 8192) (k : Fin 512) : dcols dg dda dq dz dp db da (ix2 i ⟨7424 + k.val, by omega⟩) = dp (ix2 i k) := by
  have hk := k.isLt
  unfold dcols
  pointwise [Cert.DWcatRefIdeal.Read.val_main_c, Cert.DWcatRefIdeal.Read.val_main_call0_v0, Cert.DWcatRefIdeal.Read.val_main_cst, Cert.DWcatRefIdeal.Read.val_main_cst_0, Cert.DWcatRefIdeal.Read.val_main_v0, Cert.DWcatRefIdeal.Read.val_main_v1, Cert.DWcatRefIdeal.Read.val_main_v10, Cert.DWcatRefIdeal.Read.val_main_v11, Cert.DWcatRefIdeal.Read.val_main_v12, Cert.DWcatRefIdeal.Read.val_main_v13, Cert.DWcatRefIdeal.Read.val_main_v14, Cert.DWcatRefIdeal.Read.val_main_v15, Cert.DWcatRefIdeal.Read.val_main_v16, Cert.DWcatRefIdeal.Read.val_main_v17, Cert.DWcatRefIdeal.Read.val_main_v18, Cert.DWcatRefIdeal.Read.val_main_v19, Cert.DWcatRefIdeal.Read.val_main_v2, Cert.DWcatRefIdeal.Read.val_main_v20, Cert.DWcatRefIdeal.Read.val_main_v21, Cert.DWcatRefIdeal.Read.val_main_v22, Cert.DWcatRefIdeal.Read.val_main_v23, Cert.DWcatRefIdeal.Read.val_main_v3, Cert.DWcatRefIdeal.Read.val_main_v4, Cert.DWcatRefIdeal.Read.val_main_v5, Cert.DWcatRefIdeal.Read.val_main_v6, Cert.DWcatRefIdeal.Read.val_main_v7, Cert.DWcatRefIdeal.Read.val_main_v8, Cert.DWcatRefIdeal.Read.val_main_v9] <;>
    rw [dif_neg (by omega), dif_neg (by omega), dif_neg (by omega), dif_neg (by omega), dif_pos (by omega)] <;>
    exact congrArg (fun p => dp (ix2 i p)) (Fin.ext (by dsimp only; omega))

theorem dcols_b (dg : FVec Ideal S8192x3072 .bf16) (dda : FVec Ideal S8192x2304 .bf16) (dq : FVec Ideal S8192x1536 .bf16)
    (dz dp : FVec Ideal S8192x512 .bf16) (db da : FVec Ideal S8x8192 .f32) (i : Fin 8192) (k : Fin 8) : dcols dg dda dq dz dp db da (ix2 i ⟨7936 + k.val, by omega⟩) = db (ix2 k i) := by
  have hk := k.isLt
  unfold dcols
  pointwise [Cert.DWcatRefIdeal.Read.val_main_c, Cert.DWcatRefIdeal.Read.val_main_call0_v0, Cert.DWcatRefIdeal.Read.val_main_cst, Cert.DWcatRefIdeal.Read.val_main_cst_0, Cert.DWcatRefIdeal.Read.val_main_v0, Cert.DWcatRefIdeal.Read.val_main_v1, Cert.DWcatRefIdeal.Read.val_main_v10, Cert.DWcatRefIdeal.Read.val_main_v11, Cert.DWcatRefIdeal.Read.val_main_v12, Cert.DWcatRefIdeal.Read.val_main_v13, Cert.DWcatRefIdeal.Read.val_main_v14, Cert.DWcatRefIdeal.Read.val_main_v15, Cert.DWcatRefIdeal.Read.val_main_v16, Cert.DWcatRefIdeal.Read.val_main_v17, Cert.DWcatRefIdeal.Read.val_main_v18, Cert.DWcatRefIdeal.Read.val_main_v19, Cert.DWcatRefIdeal.Read.val_main_v2, Cert.DWcatRefIdeal.Read.val_main_v20, Cert.DWcatRefIdeal.Read.val_main_v21, Cert.DWcatRefIdeal.Read.val_main_v22, Cert.DWcatRefIdeal.Read.val_main_v23, Cert.DWcatRefIdeal.Read.val_main_v3, Cert.DWcatRefIdeal.Read.val_main_v4, Cert.DWcatRefIdeal.Read.val_main_v5, Cert.DWcatRefIdeal.Read.val_main_v6, Cert.DWcatRefIdeal.Read.val_main_v7, Cert.DWcatRefIdeal.Read.val_main_v8, Cert.DWcatRefIdeal.Read.val_main_v9] <;>
    rw [dif_neg (by omega), dif_neg (by omega), dif_neg (by omega), dif_neg (by omega), dif_neg (by omega), dif_pos (by omega), dif_pos (by omega)] <;>
    exact congrArg (fun p => db (ix2 p i)) (Fin.ext (by dsimp only; omega))

theorem dcols_a (dg : FVec Ideal S8192x3072 .bf16) (dda : FVec Ideal S8192x2304 .bf16) (dq : FVec Ideal S8192x1536 .bf16)
    (dz dp : FVec Ideal S8192x512 .bf16) (db da : FVec Ideal S8x8192 .f32) (i : Fin 8192) (k : Fin 8) : dcols dg dda dq dz dp db da (ix2 i ⟨7944 + k.val, by omega⟩) = da (ix2 k i) := by
  have hk := k.isLt
  unfold dcols
  pointwise [Cert.DWcatRefIdeal.Read.val_main_c, Cert.DWcatRefIdeal.Read.val_main_call0_v0, Cert.DWcatRefIdeal.Read.val_main_cst, Cert.DWcatRefIdeal.Read.val_main_cst_0, Cert.DWcatRefIdeal.Read.val_main_v0, Cert.DWcatRefIdeal.Read.val_main_v1, Cert.DWcatRefIdeal.Read.val_main_v10, Cert.DWcatRefIdeal.Read.val_main_v11, Cert.DWcatRefIdeal.Read.val_main_v12, Cert.DWcatRefIdeal.Read.val_main_v13, Cert.DWcatRefIdeal.Read.val_main_v14, Cert.DWcatRefIdeal.Read.val_main_v15, Cert.DWcatRefIdeal.Read.val_main_v16, Cert.DWcatRefIdeal.Read.val_main_v17, Cert.DWcatRefIdeal.Read.val_main_v18, Cert.DWcatRefIdeal.Read.val_main_v19, Cert.DWcatRefIdeal.Read.val_main_v2, Cert.DWcatRefIdeal.Read.val_main_v20, Cert.DWcatRefIdeal.Read.val_main_v21, Cert.DWcatRefIdeal.Read.val_main_v22, Cert.DWcatRefIdeal.Read.val_main_v23, Cert.DWcatRefIdeal.Read.val_main_v3, Cert.DWcatRefIdeal.Read.val_main_v4, Cert.DWcatRefIdeal.Read.val_main_v5, Cert.DWcatRefIdeal.Read.val_main_v6, Cert.DWcatRefIdeal.Read.val_main_v7, Cert.DWcatRefIdeal.Read.val_main_v8, Cert.DWcatRefIdeal.Read.val_main_v9] <;>
    rw [dif_neg (by omega), dif_neg (by omega), dif_neg (by omega), dif_neg (by omega), dif_neg (by omega), dif_pos (by omega), dif_neg (by omega)] <;>
    exact congrArg (fun p => da (ix2 p i)) (Fin.ext (by dsimp only; omega))

theorem dcols_0 (dg : FVec Ideal S8192x3072 .bf16) (dda : FVec Ideal S8192x2304 .bf16) (dq : FVec Ideal S8192x1536 .bf16)
    (dz dp : FVec Ideal S8192x512 .bf16) (db da : FVec Ideal S8x8192 .f32) (i : Fin 8192) (k : Fin 112) : dcols dg dda dq dz dp db da (ix2 i ⟨7952 + k.val, by omega⟩) = 0 := by
  have hk := k.isLt
  unfold dcols
  pointwise [Cert.DWcatRefIdeal.Read.val_main_c, Cert.DWcatRefIdeal.Read.val_main_call0_v0, Cert.DWcatRefIdeal.Read.val_main_cst, Cert.DWcatRefIdeal.Read.val_main_cst_0, Cert.DWcatRefIdeal.Read.val_main_v0, Cert.DWcatRefIdeal.Read.val_main_v1, Cert.DWcatRefIdeal.Read.val_main_v10, Cert.DWcatRefIdeal.Read.val_main_v11, Cert.DWcatRefIdeal.Read.val_main_v12, Cert.DWcatRefIdeal.Read.val_main_v13, Cert.DWcatRefIdeal.Read.val_main_v14, Cert.DWcatRefIdeal.Read.val_main_v15, Cert.DWcatRefIdeal.Read.val_main_v16, Cert.DWcatRefIdeal.Read.val_main_v17, Cert.DWcatRefIdeal.Read.val_main_v18, Cert.DWcatRefIdeal.Read.val_main_v19, Cert.DWcatRefIdeal.Read.val_main_v2, Cert.DWcatRefIdeal.Read.val_main_v20, Cert.DWcatRefIdeal.Read.val_main_v21, Cert.DWcatRefIdeal.Read.val_main_v22, Cert.DWcatRefIdeal.Read.val_main_v23, Cert.DWcatRefIdeal.Read.val_main_v3, Cert.DWcatRefIdeal.Read.val_main_v4, Cert.DWcatRefIdeal.Read.val_main_v5, Cert.DWcatRefIdeal.Read.val_main_v6, Cert.DWcatRefIdeal.Read.val_main_v7, Cert.DWcatRefIdeal.Read.val_main_v8, Cert.DWcatRefIdeal.Read.val_main_v9] <;>
    rw [dif_neg (by omega), dif_neg (by omega), dif_neg (by omega), dif_neg (by omega), dif_neg (by omega), dif_neg (by omega)]
  show ((((0#32 : BitVec 32).toInt : ℤ) : ℝ) : EReal) = 0
  simp

/-- The cotangents of the second projection in the problem's order. -/
abbrev dproj (dda : FVec Ideal S8192x2304 .bf16) (dq : FVec Ideal S8192x1536 .bf16)
    (dz dp : FVec Ideal S8192x512 .bf16) (db da : FVec Ideal S8x8192 .f32) : FVec Ideal Cert.DWcatRefIdeal.S8192x4880 .f32 :=
  Cert.DWcatRefIdeal.Read.val_main_v6 (F := Ideal) dda dq dz dp db da

theorem dproj_q (dda : FVec Ideal S8192x2304 .bf16) (dq : FVec Ideal S8192x1536 .bf16)
    (dz dp : FVec Ideal S8192x512 .bf16) (db da : FVec Ideal S8x8192 .f32) (i : Fin 8192) (k : Fin 1536) : dproj dda dq dz dp db da (ix2 i ⟨k.val, by omega⟩) = dq (ix2 i k) := by
  have hk := k.isLt
  unfold dproj
  pointwise [Cert.DWcatRefIdeal.Read.val_main_c, Cert.DWcatRefIdeal.Read.val_main_call0_v0, Cert.DWcatRefIdeal.Read.val_main_cst, Cert.DWcatRefIdeal.Read.val_main_cst_0, Cert.DWcatRefIdeal.Read.val_main_v0, Cert.DWcatRefIdeal.Read.val_main_v1, Cert.DWcatRefIdeal.Read.val_main_v10, Cert.DWcatRefIdeal.Read.val_main_v11, Cert.DWcatRefIdeal.Read.val_main_v12, Cert.DWcatRefIdeal.Read.val_main_v13, Cert.DWcatRefIdeal.Read.val_main_v14, Cert.DWcatRefIdeal.Read.val_main_v15, Cert.DWcatRefIdeal.Read.val_main_v16, Cert.DWcatRefIdeal.Read.val_main_v17, Cert.DWcatRefIdeal.Read.val_main_v18, Cert.DWcatRefIdeal.Read.val_main_v19, Cert.DWcatRefIdeal.Read.val_main_v2, Cert.DWcatRefIdeal.Read.val_main_v20, Cert.DWcatRefIdeal.Read.val_main_v21, Cert.DWcatRefIdeal.Read.val_main_v22, Cert.DWcatRefIdeal.Read.val_main_v23, Cert.DWcatRefIdeal.Read.val_main_v3, Cert.DWcatRefIdeal.Read.val_main_v4, Cert.DWcatRefIdeal.Read.val_main_v5, Cert.DWcatRefIdeal.Read.val_main_v6, Cert.DWcatRefIdeal.Read.val_main_v7, Cert.DWcatRefIdeal.Read.val_main_v8, Cert.DWcatRefIdeal.Read.val_main_v9] <;>
    rw [dif_pos (by omega)] <;>
    exact congrArg (fun p => dq (ix2 i p)) (Fin.ext (by dsimp only; omega))

theorem dproj_z (dda : FVec Ideal S8192x2304 .bf16) (dq : FVec Ideal S8192x1536 .bf16)
    (dz dp : FVec Ideal S8192x512 .bf16) (db da : FVec Ideal S8x8192 .f32) (i : Fin 8192) (k : Fin 512) : dproj dda dq dz dp db da (ix2 i ⟨1536 + k.val, by omega⟩) = dz (ix2 i k) := by
  have hk := k.isLt
  unfold dproj
  pointwise [Cert.DWcatRefIdeal.Read.val_main_c, Cert.DWcatRefIdeal.Read.val_main_call0_v0, Cert.DWcatRefIdeal.Read.val_main_cst, Cert.DWcatRefIdeal.Read.val_main_cst_0, Cert.DWcatRefIdeal.Read.val_main_v0, Cert.DWcatRefIdeal.Read.val_main_v1, Cert.DWcatRefIdeal.Read.val_main_v10, Cert.DWcatRefIdeal.Read.val_main_v11, Cert.DWcatRefIdeal.Read.val_main_v12, Cert.DWcatRefIdeal.Read.val_main_v13, Cert.DWcatRefIdeal.Read.val_main_v14, Cert.DWcatRefIdeal.Read.val_main_v15, Cert.DWcatRefIdeal.Read.val_main_v16, Cert.DWcatRefIdeal.Read.val_main_v17, Cert.DWcatRefIdeal.Read.val_main_v18, Cert.DWcatRefIdeal.Read.val_main_v19, Cert.DWcatRefIdeal.Read.val_main_v2, Cert.DWcatRefIdeal.Read.val_main_v20, Cert.DWcatRefIdeal.Read.val_main_v21, Cert.DWcatRefIdeal.Read.val_main_v22, Cert.DWcatRefIdeal.Read.val_main_v23, Cert.DWcatRefIdeal.Read.val_main_v3, Cert.DWcatRefIdeal.Read.val_main_v4, Cert.DWcatRefIdeal.Read.val_main_v5, Cert.DWcatRefIdeal.Read.val_main_v6, Cert.DWcatRefIdeal.Read.val_main_v7, Cert.DWcatRefIdeal.Read.val_main_v8, Cert.DWcatRefIdeal.Read.val_main_v9] <;>
    rw [dif_neg (by omega), dif_pos (by omega)] <;>
    exact congrArg (fun p => dz (ix2 i p)) (Fin.ext (by dsimp only; omega))

theorem dproj_b (dda : FVec Ideal S8192x2304 .bf16) (dq : FVec Ideal S8192x1536 .bf16)
    (dz dp : FVec Ideal S8192x512 .bf16) (db da : FVec Ideal S8x8192 .f32) (i : Fin 8192) (k : Fin 8) : dproj dda dq dz dp db da (ix2 i ⟨2048 + k.val, by omega⟩) = db (ix2 k i) := by
  have hk := k.isLt
  unfold dproj
  pointwise [Cert.DWcatRefIdeal.Read.val_main_c, Cert.DWcatRefIdeal.Read.val_main_call0_v0, Cert.DWcatRefIdeal.Read.val_main_cst, Cert.DWcatRefIdeal.Read.val_main_cst_0, Cert.DWcatRefIdeal.Read.val_main_v0, Cert.DWcatRefIdeal.Read.val_main_v1, Cert.DWcatRefIdeal.Read.val_main_v10, Cert.DWcatRefIdeal.Read.val_main_v11, Cert.DWcatRefIdeal.Read.val_main_v12, Cert.DWcatRefIdeal.Read.val_main_v13, Cert.DWcatRefIdeal.Read.val_main_v14, Cert.DWcatRefIdeal.Read.val_main_v15, Cert.DWcatRefIdeal.Read.val_main_v16, Cert.DWcatRefIdeal.Read.val_main_v17, Cert.DWcatRefIdeal.Read.val_main_v18, Cert.DWcatRefIdeal.Read.val_main_v19, Cert.DWcatRefIdeal.Read.val_main_v2, Cert.DWcatRefIdeal.Read.val_main_v20, Cert.DWcatRefIdeal.Read.val_main_v21, Cert.DWcatRefIdeal.Read.val_main_v22, Cert.DWcatRefIdeal.Read.val_main_v23, Cert.DWcatRefIdeal.Read.val_main_v3, Cert.DWcatRefIdeal.Read.val_main_v4, Cert.DWcatRefIdeal.Read.val_main_v5, Cert.DWcatRefIdeal.Read.val_main_v6, Cert.DWcatRefIdeal.Read.val_main_v7, Cert.DWcatRefIdeal.Read.val_main_v8, Cert.DWcatRefIdeal.Read.val_main_v9] <;>
    rw [dif_neg (by omega), dif_neg (by omega), dif_pos (by omega)] <;>
    exact congrArg (fun p => db (ix2 p i)) (Fin.ext (by dsimp only; omega))

theorem dproj_a (dda : FVec Ideal S8192x2304 .bf16) (dq : FVec Ideal S8192x1536 .bf16)
    (dz dp : FVec Ideal S8192x512 .bf16) (db da : FVec Ideal S8x8192 .f32) (i : Fin 8192) (k : Fin 8) : dproj dda dq dz dp db da (ix2 i ⟨2056 + k.val, by omega⟩) = da (ix2 k i) := by
  have hk := k.isLt
  unfold dproj
  pointwise [Cert.DWcatRefIdeal.Read.val_main_c, Cert.DWcatRefIdeal.Read.val_main_call0_v0, Cert.DWcatRefIdeal.Read.val_main_cst, Cert.DWcatRefIdeal.Read.val_main_cst_0, Cert.DWcatRefIdeal.Read.val_main_v0, Cert.DWcatRefIdeal.Read.val_main_v1, Cert.DWcatRefIdeal.Read.val_main_v10, Cert.DWcatRefIdeal.Read.val_main_v11, Cert.DWcatRefIdeal.Read.val_main_v12, Cert.DWcatRefIdeal.Read.val_main_v13, Cert.DWcatRefIdeal.Read.val_main_v14, Cert.DWcatRefIdeal.Read.val_main_v15, Cert.DWcatRefIdeal.Read.val_main_v16, Cert.DWcatRefIdeal.Read.val_main_v17, Cert.DWcatRefIdeal.Read.val_main_v18, Cert.DWcatRefIdeal.Read.val_main_v19, Cert.DWcatRefIdeal.Read.val_main_v2, Cert.DWcatRefIdeal.Read.val_main_v20, Cert.DWcatRefIdeal.Read.val_main_v21, Cert.DWcatRefIdeal.Read.val_main_v22, Cert.DWcatRefIdeal.Read.val_main_v23, Cert.DWcatRefIdeal.Read.val_main_v3, Cert.DWcatRefIdeal.Read.val_main_v4, Cert.DWcatRefIdeal.Read.val_main_v5, Cert.DWcatRefIdeal.Read.val_main_v6, Cert.DWcatRefIdeal.Read.val_main_v7, Cert.DWcatRefIdeal.Read.val_main_v8, Cert.DWcatRefIdeal.Read.val_main_v9] <;>
    rw [dif_neg (by omega), dif_neg (by omega), dif_neg (by omega), dif_pos (by omega)] <;>
    exact congrArg (fun p => da (ix2 p i)) (Fin.ext (by dsimp only; omega))

theorem dproj_p (dda : FVec Ideal S8192x2304 .bf16) (dq : FVec Ideal S8192x1536 .bf16)
    (dz dp : FVec Ideal S8192x512 .bf16) (db da : FVec Ideal S8x8192 .f32) (i : Fin 8192) (k : Fin 512) : dproj dda dq dz dp db da (ix2 i ⟨2064 + k.val, by omega⟩) = dp (ix2 i k) := by
  have hk := k.isLt
  unfold dproj
  pointwise [Cert.DWcatRefIdeal.Read.val_main_c, Cert.DWcatRefIdeal.Read.val_main_call0_v0, Cert.DWcatRefIdeal.Read.val_main_cst, Cert.DWcatRefIdeal.Read.val_main_cst_0, Cert.DWcatRefIdeal.Read.val_main_v0, Cert.DWcatRefIdeal.Read.val_main_v1, Cert.DWcatRefIdeal.Read.val_main_v10, Cert.DWcatRefIdeal.Read.val_main_v11, Cert.DWcatRefIdeal.Read.val_main_v12, Cert.DWcatRefIdeal.Read.val_main_v13, Cert.DWcatRefIdeal.Read.val_main_v14, Cert.DWcatRefIdeal.Read.val_main_v15, Cert.DWcatRefIdeal.Read.val_main_v16, Cert.DWcatRefIdeal.Read.val_main_v17, Cert.DWcatRefIdeal.Read.val_main_v18, Cert.DWcatRefIdeal.Read.val_main_v19, Cert.DWcatRefIdeal.Read.val_main_v2, Cert.DWcatRefIdeal.Read.val_main_v20, Cert.DWcatRefIdeal.Read.val_main_v21, Cert.DWcatRefIdeal.Read.val_main_v22, Cert.DWcatRefIdeal.Read.val_main_v23, Cert.DWcatRefIdeal.Read.val_main_v3, Cert.DWcatRefIdeal.Read.val_main_v4, Cert.DWcatRefIdeal.Read.val_main_v5, Cert.DWcatRefIdeal.Read.val_main_v6, Cert.DWcatRefIdeal.Read.val_main_v7, Cert.DWcatRefIdeal.Read.val_main_v8, Cert.DWcatRefIdeal.Read.val_main_v9] <;>
    rw [dif_neg (by omega), dif_neg (by omega), dif_neg (by omega), dif_neg (by omega), dif_pos (by omega)] <;>
    exact congrArg (fun p => dp (ix2 i p)) (Fin.ext (by dsimp only; omega))

theorem dproj_d (dda : FVec Ideal S8192x2304 .bf16) (dq : FVec Ideal S8192x1536 .bf16)
    (dz dp : FVec Ideal S8192x512 .bf16) (db da : FVec Ideal S8x8192 .f32) (i : Fin 8192) (k : Fin 2304) : dproj dda dq dz dp db da (ix2 i ⟨2576 + k.val, by omega⟩) = dda (ix2 i k) := by
  have hk := k.isLt
  unfold dproj
  pointwise [Cert.DWcatRefIdeal.Read.val_main_c, Cert.DWcatRefIdeal.Read.val_main_call0_v0, Cert.DWcatRefIdeal.Read.val_main_cst, Cert.DWcatRefIdeal.Read.val_main_cst_0, Cert.DWcatRefIdeal.Read.val_main_v0, Cert.DWcatRefIdeal.Read.val_main_v1, Cert.DWcatRefIdeal.Read.val_main_v10, Cert.DWcatRefIdeal.Read.val_main_v11, Cert.DWcatRefIdeal.Read.val_main_v12, Cert.DWcatRefIdeal.Read.val_main_v13, Cert.DWcatRefIdeal.Read.val_main_v14, Cert.DWcatRefIdeal.Read.val_main_v15, Cert.DWcatRefIdeal.Read.val_main_v16, Cert.DWcatRefIdeal.Read.val_main_v17, Cert.DWcatRefIdeal.Read.val_main_v18, Cert.DWcatRefIdeal.Read.val_main_v19, Cert.DWcatRefIdeal.Read.val_main_v2, Cert.DWcatRefIdeal.Read.val_main_v20, Cert.DWcatRefIdeal.Read.val_main_v21, Cert.DWcatRefIdeal.Read.val_main_v22, Cert.DWcatRefIdeal.Read.val_main_v23, Cert.DWcatRefIdeal.Read.val_main_v3, Cert.DWcatRefIdeal.Read.val_main_v4, Cert.DWcatRefIdeal.Read.val_main_v5, Cert.DWcatRefIdeal.Read.val_main_v6, Cert.DWcatRefIdeal.Read.val_main_v7, Cert.DWcatRefIdeal.Read.val_main_v8, Cert.DWcatRefIdeal.Read.val_main_v9] <;>
    rw [dif_neg (by omega), dif_neg (by omega), dif_neg (by omega), dif_neg (by omega), dif_neg (by omega)] <;>
    exact congrArg (fun p => dda (ix2 i p)) (Fin.ext (by dsimp only; omega))

theorem ref_g (h : FVec Ideal S8192x1024 .bf16) (dg : FVec Ideal S8192x3072 .bf16) (dda : FVec Ideal S8192x2304 .bf16) (dq : FVec Ideal S8192x1536 .bf16)
    (dz dp : FVec Ideal S8192x512 .bf16) (db da : FVec Ideal S8x8192 .f32) (i : Fin 1024) (k : Fin 3072) : Cert.DWcatRefIdeal.Read.val_main_v23 (F := Ideal) h dg dda dq dz dp db da (ix2 i ⟨k.val, by omega⟩) = Cert.DWcatRefIdeal.Read.val_main_v17 (F := Ideal) h dg (ix2 i k) := by
  have hk := k.isLt
  pointwise [Cert.DWcatRefIdeal.Read.val_main_v18, Cert.DWcatRefIdeal.Read.val_main_v19, Cert.DWcatRefIdeal.Read.val_main_v20, Cert.DWcatRefIdeal.Read.val_main_v21, Cert.DWcatRefIdeal.Read.val_main_v22, Cert.DWcatRefIdeal.Read.val_main_v23, Cert.DWcatRefIdeal.Read.val_main_call0_v0, Cert.DWcatRefIdeal.Read.val_main_c] <;>
    (repeat (first | rw [dif_pos (by omega)] | rw [dif_neg (by omega)])) <;>
    exact congrArg (fun p => Cert.DWcatRefIdeal.Read.val_main_v17 (F := Ideal) h dg (ix2 i p)) (Fin.ext (by dsimp only; omega))

theorem ref_d (h : FVec Ideal S8192x1024 .bf16) (dg : FVec Ideal S8192x3072 .bf16) (dda : FVec Ideal S8192x2304 .bf16) (dq : FVec Ideal S8192x1536 .bf16)
    (dz dp : FVec Ideal S8192x512 .bf16) (db da : FVec Ideal S8x8192 .f32) (i : Fin 1024) (k : Fin 2304) : Cert.DWcatRefIdeal.Read.val_main_v23 (F := Ideal) h dg dda dq dz dp db da (ix2 i ⟨3072 + k.val, by omega⟩) = Cert.DWcatRefIdeal.Read.val_main_v15 (F := Ideal) h dda dq dz dp db da (ix2 i ⟨2576 + k.val, by omega⟩) := by
  have hk := k.isLt
  pointwise [Cert.DWcatRefIdeal.Read.val_main_v18, Cert.DWcatRefIdeal.Read.val_main_v19, Cert.DWcatRefIdeal.Read.val_main_v20, Cert.DWcatRefIdeal.Read.val_main_v21, Cert.DWcatRefIdeal.Read.val_main_v22, Cert.DWcatRefIdeal.Read.val_main_v23, Cert.DWcatRefIdeal.Read.val_main_call0_v0, Cert.DWcatRefIdeal.Read.val_main_c] <;>
    (repeat (first | rw [dif_pos (by omega)] | rw [dif_neg (by omega)])) <;>
    exact congrArg (fun p => Cert.DWcatRefIdeal.Read.val_main_v15 (F := Ideal) h dda dq dz dp db da (ix2 i p)) (Fin.ext (by dsimp only; omega))

theorem ref_q (h : FVec Ideal S8192x1024 .bf16) (dg : FVec Ideal S8192x3072 .bf16) (dda : FVec Ideal S8192x2304 .bf16) (dq : FVec Ideal S8192x1536 .bf16)
    (dz dp : FVec Ideal S8192x512 .bf16) (db da : FVec Ideal S8x8192 .f32) (i : Fin 1024) (k : Fin 1536) : Cert.DWcatRefIdeal.Read.val_main_v23 (F := Ideal) h dg dda dq dz dp db da (ix2 i ⟨5376 + k.val, by omega⟩) = Cert.DWcatRefIdeal.Read.val_main_v15 (F := Ideal) h dda dq dz dp db da (ix2 i ⟨k.val, by omega⟩) := by
  have hk := k.isLt
  pointwise [Cert.DWcatRefIdeal.Read.val_main_v18, Cert.DWcatRefIdeal.Read.val_main_v19, Cert.DWcatRefIdeal.Read.val_main_v20, Cert.DWcatRefIdeal.Read.val_main_v21, Cert.DWcatRefIdeal.Read.val_main_v22, Cert.DWcatRefIdeal.Read.val_main_v23, Cert.DWcatRefIdeal.Read.val_main_call0_v0, Cert.DWcatRefIdeal.Read.val_main_c] <;>
    (repeat (first | rw [dif_pos (by omega)] | rw [dif_neg (by omega)])) <;>
    exact congrArg (fun p => Cert.DWcatRefIdeal.Read.val_main_v15 (F := Ideal) h dda dq dz dp db da (ix2 i p)) (Fin.ext (by dsimp only; omega))

theorem ref_z (h : FVec Ideal S8192x1024 .bf16) (dg : FVec Ideal S8192x3072 .bf16) (dda : FVec Ideal S8192x2304 .bf16) (dq : FVec Ideal S8192x1536 .bf16)
    (dz dp : FVec Ideal S8192x512 .bf16) (db da : FVec Ideal S8x8192 .f32) (i : Fin 1024) (k : Fin 512) : Cert.DWcatRefIdeal.Read.val_main_v23 (F := Ideal) h dg dda dq dz dp db da (ix2 i ⟨6912 + k.val, by omega⟩) = Cert.DWcatRefIdeal.Read.val_main_v15 (F := Ideal) h dda dq dz dp db da (ix2 i ⟨1536 + k.val, by omega⟩) := by
  have hk := k.isLt
  pointwise [Cert.DWcatRefIdeal.Read.val_main_v18, Cert.DWcatRefIdeal.Read.val_main_v19, Cert.DWcatRefIdeal.Read.val_main_v20, Cert.DWcatRefIdeal.Read.val_main_v21, Cert.DWcatRefIdeal.Read.val_main_v22, Cert.DWcatRefIdeal.Read.val_main_v23, Cert.DWcatRefIdeal.Read.val_main_call0_v0, Cert.DWcatRefIdeal.Read.val_main_c] <;>
    (repeat (first | rw [dif_pos (by omega)] | rw [dif_neg (by omega)])) <;>
    exact congrArg (fun p => Cert.DWcatRefIdeal.Read.val_main_v15 (F := Ideal) h dda dq dz dp db da (ix2 i p)) (Fin.ext (by dsimp only; omega))

theorem ref_p (h : FVec Ideal S8192x1024 .bf16) (dg : FVec Ideal S8192x3072 .bf16) (dda : FVec Ideal S8192x2304 .bf16) (dq : FVec Ideal S8192x1536 .bf16)
    (dz dp : FVec Ideal S8192x512 .bf16) (db da : FVec Ideal S8x8192 .f32) (i : Fin 1024) (k : Fin 512) : Cert.DWcatRefIdeal.Read.val_main_v23 (F := Ideal) h dg dda dq dz dp db da (ix2 i ⟨7424 + k.val, by omega⟩) = Cert.DWcatRefIdeal.Read.val_main_v15 (F := Ideal) h dda dq dz dp db da (ix2 i ⟨2064 + k.val, by omega⟩) := by
  have hk := k.isLt
  pointwise [Cert.DWcatRefIdeal.Read.val_main_v18, Cert.DWcatRefIdeal.Read.val_main_v19, Cert.DWcatRefIdeal.Read.val_main_v20, Cert.DWcatRefIdeal.Read.val_main_v21, Cert.DWcatRefIdeal.Read.val_main_v22, Cert.DWcatRefIdeal.Read.val_main_v23, Cert.DWcatRefIdeal.Read.val_main_call0_v0, Cert.DWcatRefIdeal.Read.val_main_c] <;>
    (repeat (first | rw [dif_pos (by omega)] | rw [dif_neg (by omega)])) <;>
    exact congrArg (fun p => Cert.DWcatRefIdeal.Read.val_main_v15 (F := Ideal) h dda dq dz dp db da (ix2 i p)) (Fin.ext (by dsimp only; omega))

theorem ref_b (h : FVec Ideal S8192x1024 .bf16) (dg : FVec Ideal S8192x3072 .bf16) (dda : FVec Ideal S8192x2304 .bf16) (dq : FVec Ideal S8192x1536 .bf16)
    (dz dp : FVec Ideal S8192x512 .bf16) (db da : FVec Ideal S8x8192 .f32) (i : Fin 1024) (k : Fin 8) : Cert.DWcatRefIdeal.Read.val_main_v23 (F := Ideal) h dg dda dq dz dp db da (ix2 i ⟨7936 + k.val, by omega⟩) = Cert.DWcatRefIdeal.Read.val_main_v15 (F := Ideal) h dda dq dz dp db da (ix2 i ⟨2048 + k.val, by omega⟩) := by
  have hk := k.isLt
  pointwise [Cert.DWcatRefIdeal.Read.val_main_v18, Cert.DWcatRefIdeal.Read.val_main_v19, Cert.DWcatRefIdeal.Read.val_main_v20, Cert.DWcatRefIdeal.Read.val_main_v21, Cert.DWcatRefIdeal.Read.val_main_v22, Cert.DWcatRefIdeal.Read.val_main_v23, Cert.DWcatRefIdeal.Read.val_main_call0_v0, Cert.DWcatRefIdeal.Read.val_main_c] <;>
    (repeat (first | rw [dif_pos (by omega)] | rw [dif_neg (by omega)])) <;>
    exact congrArg (fun p => Cert.DWcatRefIdeal.Read.val_main_v15 (F := Ideal) h dda dq dz dp db da (ix2 i p)) (Fin.ext (by dsimp only; omega))

theorem ref_a (h : FVec Ideal S8192x1024 .bf16) (dg : FVec Ideal S8192x3072 .bf16) (dda : FVec Ideal S8192x2304 .bf16) (dq : FVec Ideal S8192x1536 .bf16)
    (dz dp : FVec Ideal S8192x512 .bf16) (db da : FVec Ideal S8x8192 .f32) (i : Fin 1024) (k : Fin 8) : Cert.DWcatRefIdeal.Read.val_main_v23 (F := Ideal) h dg dda dq dz dp db da (ix2 i ⟨7944 + k.val, by omega⟩) = Cert.DWcatRefIdeal.Read.val_main_v15 (F := Ideal) h dda dq dz dp db da (ix2 i ⟨2056 + k.val, by omega⟩) := by
  have hk := k.isLt
  pointwise [Cert.DWcatRefIdeal.Read.val_main_v18, Cert.DWcatRefIdeal.Read.val_main_v19, Cert.DWcatRefIdeal.Read.val_main_v20, Cert.DWcatRefIdeal.Read.val_main_v21, Cert.DWcatRefIdeal.Read.val_main_v22, Cert.DWcatRefIdeal.Read.val_main_v23, Cert.DWcatRefIdeal.Read.val_main_call0_v0, Cert.DWcatRefIdeal.Read.val_main_c] <;>
    (repeat (first | rw [dif_pos (by omega)] | rw [dif_neg (by omega)])) <;>
    exact congrArg (fun p => Cert.DWcatRefIdeal.Read.val_main_v15 (F := Ideal) h dda dq dz dp db da (ix2 i p)) (Fin.ext (by dsimp only; omega))

theorem ref_0 (h : FVec Ideal S8192x1024 .bf16) (dg : FVec Ideal S8192x3072 .bf16) (dda : FVec Ideal S8192x2304 .bf16) (dq : FVec Ideal S8192x1536 .bf16)
    (dz dp : FVec Ideal S8192x512 .bf16) (db da : FVec Ideal S8x8192 .f32) (i : Fin 1024) (k : Fin 112) : Cert.DWcatRefIdeal.Read.val_main_v23 (F := Ideal) h dg dda dq dz dp db da (ix2 i ⟨7952 + k.val, by omega⟩) = 0 := by
  have hk := k.isLt
  pointwise [Cert.DWcatRefIdeal.Read.val_main_v18, Cert.DWcatRefIdeal.Read.val_main_v19, Cert.DWcatRefIdeal.Read.val_main_v20, Cert.DWcatRefIdeal.Read.val_main_v21, Cert.DWcatRefIdeal.Read.val_main_v22, Cert.DWcatRefIdeal.Read.val_main_v23, Cert.DWcatRefIdeal.Read.val_main_call0_v0, Cert.DWcatRefIdeal.Read.val_main_c] <;>
    (repeat (first | rw [dif_pos (by omega)] | rw [dif_neg (by omega)]))
  show ((((0#32 : BitVec 32).toInt : ℤ) : ℝ) : EReal) = 0
  simp

theorem ref_gate (h : FVec Ideal S8192x1024 .bf16) (dg : FVec Ideal S8192x3072 .bf16) (i : Fin 1024) (j : Fin 3072) :
    Cert.DWcatRefIdeal.Read.val_main_v17 (F := Ideal) h dg (ix2 i j) = ∑ t : Fin 8192, h (ix2 t i) * dg (ix2 t j) := by
  pointwise [Cert.DWcatRefIdeal.Read.val_main_v9, Cert.DWcatRefIdeal.Read.val_main_v13, Cert.DWcatRefIdeal.Read.val_main_v16, Cert.DWcatRefIdeal.Read.val_main_v17]
  exact Finset.sum_congr rfl fun t _ => mul_comm _ _

theorem ref_in (h : FVec Ideal S8192x1024 .bf16) (dda : FVec Ideal S8192x2304 .bf16) (dq : FVec Ideal S8192x1536 .bf16)
    (dz dp : FVec Ideal S8192x512 .bf16) (db da : FVec Ideal S8x8192 .f32) (i : Fin 1024) (j : Fin 4880) :
    Cert.DWcatRefIdeal.Read.val_main_v15 (F := Ideal) h dda dq dz dp db da (ix2 i j) = ∑ t : Fin 8192, h (ix2 t i) * dproj dda dq dz dp db da (ix2 t j) := by
  pointwise [Cert.DWcatRefIdeal.Read.val_main_v11, Cert.DWcatRefIdeal.Read.val_main_v14, Cert.DWcatRefIdeal.Read.val_main_v15]
  exact Finset.sum_congr rfl fun t _ => mul_comm _ _

theorem ref_prod (h : FVec Ideal S8192x1024 .bf16) (dg : FVec Ideal S8192x3072 .bf16) (dda : FVec Ideal S8192x2304 .bf16) (dq : FVec Ideal S8192x1536 .bf16)
    (dz dp : FVec Ideal S8192x512 .bf16) (db da : FVec Ideal S8x8192 .f32) :
    Cert.DWcatRefIdeal.Read.val_main_v23 (F := Ideal) h dg dda dq dz dp db da = prod h (dcols dg dda dq dz dp db da) := by
  funext i
  idx_vars i
  unfold prod
  have at_col : ∀ (j j' : Fin 8064), j = j' →
      Cert.DWcatRefIdeal.Read.val_main_v23 (F := Ideal) h dg dda dq dz dp db da (ix2 i0 j') = ∑ t : Fin 8192, h (ix2 t i0) * dcols dg dda dq dz dp db da (ix2 t j') →
      Cert.DWcatRefIdeal.Read.val_main_v23 (F := Ideal) h dg dda dq dz dp db da (ix2 i0 j) = ∑ t : Fin 8192, h (ix2 t i0) * dcols dg dda dq dz dp db da (ix2 t j) := fun _ _ e h => e ▸ h
  have hi : i1.val < 8064 := i1.isLt
  by_cases hg : i1.val < 3072
  · refine at_col i1 ⟨i1.val, by omega⟩ rfl ((ref_g h dg dda dq dz dp db da i0 ⟨i1.val, by omega⟩).trans ?_)
    exact (ref_gate h dg i0 _).trans (Finset.sum_congr rfl fun t _ => congrArg (HMul.hMul (α := EReal) (h (ix2 t i0))) (dcols_g dg dda dq dz dp db da t ⟨i1.val, by omega⟩).symm)
  by_cases hd : i1.val < 5376
  · refine at_col i1 ⟨3072 + (i1.val - 3072), by omega⟩ (Fin.ext (by dsimp only; omega)) ((ref_d h dg dda dq dz dp db da i0 ⟨i1.val - 3072, by omega⟩).trans ?_)
    exact (ref_in h dda dq dz dp db da i0 _).trans (Finset.sum_congr rfl fun t _ =>
      congrArg (HMul.hMul (α := EReal) (h (ix2 t i0))) ((dproj_d dda dq dz dp db da t ⟨i1.val - 3072, by omega⟩).trans (dcols_d dg dda dq dz dp db da t ⟨i1.val - 3072, by omega⟩).symm))
  by_cases hq : i1.val < 6912
  · refine at_col i1 ⟨5376 + (i1.val - 5376), by omega⟩ (Fin.ext (by dsimp only; omega)) ((ref_q h dg dda dq dz dp db da i0 ⟨i1.val - 5376, by omega⟩).trans ?_)
    exact (ref_in h dda dq dz dp db da i0 _).trans (Finset.sum_congr rfl fun t _ =>
      congrArg (HMul.hMul (α := EReal) (h (ix2 t i0))) ((dproj_q dda dq dz dp db da t ⟨i1.val - 5376, by omega⟩).trans (dcols_q dg dda dq dz dp db da t ⟨i1.val - 5376, by omega⟩).symm))
  by_cases hz : i1.val < 7424
  · refine at_col i1 ⟨6912 + (i1.val - 6912), by omega⟩ (Fin.ext (by dsimp only; omega)) ((ref_z h dg dda dq dz dp db da i0 ⟨i1.val - 6912, by omega⟩).trans ?_)
    exact (ref_in h dda dq dz dp db da i0 _).trans (Finset.sum_congr rfl fun t _ =>
      congrArg (HMul.hMul (α := EReal) (h (ix2 t i0))) ((dproj_z dda dq dz dp db da t ⟨i1.val - 6912, by omega⟩).trans (dcols_z dg dda dq dz dp db da t ⟨i1.val - 6912, by omega⟩).symm))
  by_cases hp : i1.val < 7936
  · refine at_col i1 ⟨7424 + (i1.val - 7424), by omega⟩ (Fin.ext (by dsimp only; omega)) ((ref_p h dg dda dq dz dp db da i0 ⟨i1.val - 7424, by omega⟩).trans ?_)
    exact (ref_in h dda dq dz dp db da i0 _).trans (Finset.sum_congr rfl fun t _ =>
      congrArg (HMul.hMul (α := EReal) (h (ix2 t i0))) ((dproj_p dda dq dz dp db da t ⟨i1.val - 7424, by omega⟩).trans (dcols_p dg dda dq dz dp db da t ⟨i1.val - 7424, by omega⟩).symm))
  by_cases hb : i1.val < 7944
  · refine at_col i1 ⟨7936 + (i1.val - 7936), by omega⟩ (Fin.ext (by dsimp only; omega)) ((ref_b h dg dda dq dz dp db da i0 ⟨i1.val - 7936, by omega⟩).trans ?_)
    exact (ref_in h dda dq dz dp db da i0 _).trans (Finset.sum_congr rfl fun t _ =>
      congrArg (HMul.hMul (α := EReal) (h (ix2 t i0))) ((dproj_b dda dq dz dp db da t ⟨i1.val - 7936, by omega⟩).trans (dcols_b dg dda dq dz dp db da t ⟨i1.val - 7936, by omega⟩).symm))
  by_cases ha : i1.val < 7952
  · refine at_col i1 ⟨7944 + (i1.val - 7944), by omega⟩ (Fin.ext (by dsimp only; omega)) ((ref_a h dg dda dq dz dp db da i0 ⟨i1.val - 7944, by omega⟩).trans ?_)
    exact (ref_in h dda dq dz dp db da i0 _).trans (Finset.sum_congr rfl fun t _ =>
      congrArg (HMul.hMul (α := EReal) (h (ix2 t i0))) ((dproj_a dda dq dz dp db da t ⟨i1.val - 7944, by omega⟩).trans (dcols_a dg dda dq dz dp db da t ⟨i1.val - 7944, by omega⟩).symm))
  · have e0 : i1.val - 7952 < 112 := by clear at_col; omega
    have e1 : 7952 + (i1.val - 7952) < 8064 := by clear at_col; omega
    refine at_col i1 ⟨7952 + (i1.val - 7952), e1⟩ (Fin.ext (by dsimp only; omega)) ((ref_0 h dg dda dq dz dp db da i0 ⟨i1.val - 7952, e0⟩).trans ?_)
    exact (Finset.sum_eq_zero fun t _ => (congrArg (HMul.hMul (α := EReal) (h (ix2 t i0))) (dcols_0 dg dda dq dz dp db da t ⟨i1.val - 7952, e0⟩)).trans (mul_zero _)).symm

theorem value (c : Dev nD) : (dats m 0 c).arrAt 2 cfg0.N = prod (m ((c : Thread nD τ).loc main_arg0))
    (dcols (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (final m c).trans ?_
  rw [read_b]
  exact congrArg (fun a => prod a (dcols (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))) (V_main_arg0 m c)

end Cert.DWcatIdeal.Value

end
-- ==== Proof.ProjValue.lean ====
/-
  The combined projection: what the kernel leaves, block by block, is the product of the two arrays it finds.
-/
module

public import proofs.«01_k».proof.Proof.Gen.ProjIdeal.Value
public import proofs.«01_k».proof.Proof.Gen.ProjRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen

variable (m : (ℓ : Loc nD τ sig) → Buf (Elt Ideal) ℓ) (ρ : Dev nD → PrngReg)

abbrev arrA (c : Dev nD) : FVec Ideal S8192x1024 .bf16 := V m c (Pipeline.arrRef spec0 0)
abbrev arrB (c : Dev nD) : FVec Ideal S1024x8064 .bf16 := V m c (Pipeline.arrRef spec0 1)

/-- The product. -/
def prod (a : FVec Ideal S8192x1024 .bf16) (b : FVec Ideal S1024x8064 .bf16) : FVec Ideal S8192x8064 .bf16 := fun i =>
  ∑ k : Fin 1024, a (ix2 (i 0) k) * b (ix2 k (i 1))

theorem pay_step (acc : Vec Ideal S1024x2688 .f32) (a : Vec Ideal S1024x1024 .bf16) (b : Vec Ideal S1024x2688 .bf16)
    (r : Fin 1024) (f : Fin 2688) :
    k0_pay2 acc a b (ix2 r f) = acc (ix2 r f) + ∑ k : Fin 1024, a (ix2 r k) * b (ix2 k f) := by
  pointwise [k0_pay2]

theorem pay_zero (r : Fin 1024) (f : Fin 2688) : k0_pay1 (F := Ideal) (ix2 r f) = 0 := by
  pointwise [k0_pay1]

theorem geom : ∀ t : Fin cfg0.N,
    win0_0.index t = ![t.val / 3, 0] ∧ win0_1.index t = ![0, t.val % 3] ∧ win0_2.index t = ![t.val / 3, t.val % 3] := by
  decide +kernel

theorem pt_lt (t : Fin cfg0.N) : t.val < 24 := lt_of_lt_of_eq t.isLt N_0

abbrev atK (t : Fin cfg0.N) (k : Fin 1024) : Fin 1024 := k
abbrev atR (t : Fin cfg0.N) (r : Fin 1024) : Fin 8192 := ⟨t.val / 3 * 1024 + r.val, by have := pt_lt t; omega⟩
abbrev atC (t : Fin cfg0.N) (f : Fin 2688) : Fin 8064 := ⟨t.val % 3 * 2688 + f.val, by have := pt_lt t; omega⟩

theorem blockA (c : Dev nD) (t : Fin cfg0.N) (k : Fin 1024) (r : Fin 1024) :
    (iblk m c 0 t : Vec Ideal S1024x1024 .bf16) (ix2 r k) = arrA m c (ix2 (atR t r) (atK t k)) := by
  blk_ext [iblk, geom t]

theorem blockB (c : Dev nD) (t : Fin cfg0.N) (k : Fin 1024) (f : Fin 2688) :
    (iblk m c 1 t : Vec Ideal S1024x2688 .bf16) (ix2 k f) = arrB m c (ix2 (atK t k) (atC t f)) := by
  blk_ext [iblk, geom t]

/-- A block of the contracted axis' part of the product. -/
def term (c : Dev nD) (t : Fin cfg0.N) (i : S1024x2688.Idx) : EReal :=
  ∑ k : Fin 1024, arrA m c (ix2 (atR t (i 0)) (atK t k)) * arrB m c (ix2 (atK t k) (atC t (i 1)))

theorem step_eq (c : Dev nD) (t : Fin cfg0.N) (acc : Vec Ideal S1024x2688 .f32) (i : S1024x2688.Idx) :
    k0_pay2 acc (iblk m c 0 t) (iblk m c 1 t) i = HAdd.hAdd (α := EReal) (β := EReal) (γ := EReal) (acc i) (term m c t i) := by
  obtain ⟨r, f, rfl⟩ : ∃ (r : Fin 1024) (f : Fin 2688), i = ix2 r f := ⟨i 0, i 1, eq_ix2 i⟩
  refine (pay_step acc _ _ r f).trans (congrArg (HAdd.hAdd (α := EReal) (acc (ix2 r f))) (Finset.sum_congr rfl fun k _ => ?_))
  exact congr (congrArg (HMul.hMul (α := EReal)) (blockA m c t k r)) (blockB m c t k f)

theorem first_eq (c : Dev nD) (t : Fin cfg0.N) (i : S1024x2688.Idx) :
    k0_pay2 (k0_pay1 (F := Ideal)) (iblk m c 0 t) (iblk m c 1 t) i = 0 + term m c t i :=
  (step_eq m c t (k0_pay1 (F := Ideal)) i).trans
    (congrArg (fun a : EReal => a + term m c t i) ((congrArg _ (eq_ix2 i)).trans (pay_zero (i 0) (i 1))))

theorem out_eq (c : Dev nD) (t : Fin cfg0.N) (i : S1024x2688.Idx) : outsAt0 m c t i = 0 + term m c t i := by
  obtain ⟨r, f, rfl⟩ : ∃ (r : Fin 1024) (f : Fin 2688), i = ix2 r f := ⟨i 0, i 1, eq_ix2 i⟩
  have hp : ∀ p : Vec Ideal S1024x2688 .f32, k0_pay3 p (ix2 r f) = p (ix2 r f) := fun p => by
    pointwise [k0_pay3]
  refine Eq.trans ?_ ((hp _).trans (first_eq m c t (ix2 r f)))
  unfold outsAt0
  frame_out

theorem final (c : Dev nD) : (dats m 0 c).arrAt 2 cfg0.N = prod (arrA m c) (arrB m c) := by
  refine (dats m 0 c).arrAt_eq_of_covers 2 _ (by decide +kernel) fun t hf y => ?_
  obtain ⟨r, f, rfl⟩ : ∃ (r : Fin 1024) (f : Fin 2688), y = ix2 r f := ⟨y 0, y 1, eq_ix2 y⟩
  have hN := pt_lt t
  have e : (((cfg0.win 2).blk t).view.emb (ix2 r f) : S8192x8064.Idx) = ix2 ⟨t.val / 3 * 1024 + r.val, by have := pt_lt t; omega⟩ ⟨t.val % 3 * 2688 + f.val, by have := pt_lt t; omega⟩ := by
    blk_ext [geom t]
  refine Eq.trans ?_ (congrArg _ e.symm)
  blk_simp
  rw [after0_2, out_eq, zero_add]
  rfl
/-- The weights' columns as the host orders them. -/
def cols (g : FVec Ideal S1024x3072 .f32) (w : FVec Ideal S1024x4880 .f32) : FVec Ideal S1024x8064 .bf16 :=
  truncf .bf16 (concatenate S1024x8064 1 [⟨S1024x3072, g⟩,
    ⟨S1024x2304, extractStridedSlice S1024x2304 ![0, 2576] w slices_S1024x4880_S1024x2304_0_2576⟩,
    ⟨S1024x1536, extractStridedSlice S1024x1536 ![0, 0] w slices_S1024x4880_S1024x1536_0_0⟩,
    ⟨S1024x512, extractStridedSlice S1024x512 ![0, 1536] w slices_S1024x4880_S1024x512_0_1536⟩,
    ⟨S1024x512, extractStridedSlice S1024x512 ![0, 2064] w slices_S1024x4880_S1024x512_0_2064⟩,
    ⟨S1024x16, extractStridedSlice S1024x16 ![0, 2048] w slices_S1024x4880_S1024x16_0_2048⟩,
    ⟨S1024x112, broadcastInDim S1024x112 ![] bcast_S_S1024x112 (constant S_ .f32 0x00000000#32 : FVec Ideal S_ .f32)⟩]
    concatenates_S1024x3072_S1024x2304_S1024x1536_S1024x512_S1024x512_S1024x16_S1024x112_S1024x8064_d1) bitsLt_bf16_f32

theorem read_b (c : Dev nD) : arrB m c = cols (m ((c : Thread nD τ).loc main_arg1)) (m ((c : Thread nD τ).loc main_arg2)) := by
  show V m c main_v7 = _
  unfold_abbrev_sides
  after_results
  rfl

theorem ref_prod (h : FVec Ideal S8192x1024 .bf16) (g : FVec Ideal S1024x3072 .f32) (w : FVec Ideal S1024x4880 .f32) :
    Cert.ProjRefIdeal.Read.val_main_v10 (F := Ideal) h g w = prod h (cols g w) := by
  funext i
  idx_vars i
  unfold prod cols
  pointwise [Cert.ProjRefIdeal.Read.val_main_c, Cert.ProjRefIdeal.Read.val_main_call0_v0, Cert.ProjRefIdeal.Read.val_main_v0, Cert.ProjRefIdeal.Read.val_main_v1, Cert.ProjRefIdeal.Read.val_main_v10, Cert.ProjRefIdeal.Read.val_main_v2, Cert.ProjRefIdeal.Read.val_main_v3, Cert.ProjRefIdeal.Read.val_main_v4, Cert.ProjRefIdeal.Read.val_main_v5, Cert.ProjRefIdeal.Read.val_main_v6, Cert.ProjRefIdeal.Read.val_main_v7, Cert.ProjRefIdeal.Read.val_main_v8, Cert.ProjRefIdeal.Read.val_main_v9]
  by_cases h0 : i1.val < 3072
  · rw [dif_pos (by omega), dif_pos (by omega)]
    exact Finset.sum_congr rfl fun k _ => by rw [dif_pos (by omega)]
  by_cases h1 : i1.val < 5376
  · rw [dif_pos (by omega), dif_neg (by omega), dif_pos (by omega)]
    exact Finset.sum_congr rfl fun k _ => by rw [dif_neg (by omega), dif_pos (by omega)]
  by_cases h2 : i1.val < 6912
  · rw [dif_pos (by omega), dif_neg (by omega), dif_neg (by omega), dif_pos (by omega)]
    exact Finset.sum_congr rfl fun k _ => by rw [dif_neg (by omega), dif_neg (by omega), dif_pos (by omega)]
  by_cases h3 : i1.val < 7424
  · rw [dif_pos (by omega), dif_neg (by omega), dif_neg (by omega), dif_pos (by omega)]
    exact Finset.sum_congr rfl fun k _ => by rw [dif_neg (by omega), dif_neg (by omega), dif_neg (by omega), dif_pos (by omega)]; exact congrArg (fun j => h (ix2 i0 k) * w (ix2 k j)) (Fin.ext (by dsimp only; omega))
  by_cases h4 : i1.val < 7936
  · rw [dif_pos (by omega), dif_neg (by omega), dif_neg (by omega), dif_neg (by omega), dif_pos (by omega)]
    exact Finset.sum_congr rfl fun k _ => by rw [dif_neg (by omega), dif_neg (by omega), dif_neg (by omega), dif_neg (by omega), dif_pos (by omega)]; exact congrArg (fun j => h (ix2 i0 k) * w (ix2 k j)) (Fin.ext (by dsimp only; omega))
  by_cases h5 : i1.val < 7952
  · rw [dif_pos (by omega), dif_neg (by omega), dif_neg (by omega), dif_neg (by omega), dif_neg (by omega)]
    exact Finset.sum_congr rfl fun k _ => by rw [dif_neg (by omega), dif_neg (by omega), dif_neg (by omega), dif_neg (by omega), dif_neg (by omega), dif_pos (by omega)]; exact congrArg (fun j => h (ix2 i0 k) * w (ix2 k j)) (Fin.ext (by dsimp only; omega))
  · rw [dif_neg h5]
    refine (show (FloatOps.sitofp (F := Ideal) .f32 0#32 : EReal) = 0 from ?_).trans (Finset.sum_eq_zero fun k _ => ?_).symm
    · show ((((0#32 : BitVec 32).toInt : ℤ) : ℝ) : EReal) = 0
      simp
    · rw [dif_neg (by omega), dif_neg (by omega), dif_neg (by omega), dif_neg (by omega), dif_neg (by omega), dif_neg (by omega)]
      exact mul_zero _

theorem value (c : Dev nD) : (dats m 0 c).arrAt 2 cfg0.N = prod (m ((c : Thread nD τ).loc main_arg0))
    (cols (m ((c : Thread nD τ).loc main_arg1)) (m ((c : Thread nD τ).loc main_arg2))) := by
  refine (final m c).trans ?_
  rw [read_b]
  exact congrArg (fun a => prod a (cols (m ((c : Thread nD τ).loc main_arg1)) (m ((c : Thread nD τ).loc main_arg2)))) (V_main_arg0 m c)

end Cert.ProjIdeal.Value

end
-- ==== Proof.FfnValue.lean ====
/-
  The forward feed-forward block: what the kernel leaves, block by block, is half of the gated product added to the residual
  stream, and so is what the reference computes.
-/
module

public import proofs.«01_k».proof.Proof.FfnBValue
public import proofs.«01_k».proof.Proof.Gen.FfnIdeal.Value
public import proofs.«01_k».proof.Proof.Gen.FfnRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen
open Cert.FfnBIdeal.Value (meanSq normed sigm dot gS)

variable (m : (ℓ : Loc nD τ sig) → Buf (Elt Ideal) ℓ) (ρ : Dev nD → PrngReg)

/-! ## The result -/

section Result

variable (x : FVec Ideal S8192x1024 .f32) (g : FVec Ideal S1x1024 .f32) (wg wu : FVec Ideal S1024x2816 .f32)
  (wd : FVec Ideal S2816x1024 .f32)

/-- The normed row of a token. -/
def hRow (t : Fin 8192) : Fin 1024 → EReal := normed (fun l => x (ix2 t l)) (fun l => g (ix2 0 l))

/-- A token's hidden value. -/
def hid (t : Fin 8192) (f : Fin 2816) : EReal := gS (hRow x g t) (fun l => wg (ix2 l f)) (fun l => wu (ix2 l f))

/-- The block's result. -/
def res : FVec Ideal S8192x1024 .f32 := fun i =>
  x i + Ideal.ofBits .f32 0x3F000000#32 * ∑ f : Fin 2816, hid x g wg wu (i 0) f * wd (ix2 f (i 1))

end Result

/-! ## The payloads -/

theorem pay_norm (x : Vec Ideal S1024x1024 .f32) (g : Vec Ideal S1x1024 .f32) (r l : Fin 1024) :
    k0_pay1 x g (ix2 r l) = normed (fun l => x (ix2 r l)) (fun l => g (ix2 0 l)) l := by
  unfold normed meanSq
  pointwise [k0_pay1]

theorem pay_zero (r l : Fin 1024) : k0_pay2 (F := Ideal) (ix2 r l) = 0 := by
  pointwise [k0_pay2]

theorem pay_step (h : Vec Ideal S1024x1024 .bf16) (wg wu : Vec Ideal S1024x256 .bf16) (acc : Vec Ideal S1024x1024 .f32)
    (wd : Vec Ideal S256x1024 .bf16) (r l : Fin 1024) :
    k0_pay3 h wg wu acc wd (ix2 r l) = acc (ix2 r l) + ∑ f : Fin 256,
      gS (fun l => h (ix2 r l)) (fun l => wg (ix2 l f)) (fun l => wu (ix2 l f)) * wd (ix2 f l) := by
  unfold gS dot sigm
  pointwise [k0_pay3]
  simp only [zero_sub]

theorem pay_out (x acc : Vec Ideal S1024x1024 .f32) (r l : Fin 1024) :
    k0_pay4 x acc (ix2 r l) = x (ix2 r l) + Ideal.ofBits .f32 0x3F000000#32 * acc (ix2 r l) := by
  pointwise [k0_pay4]

/-! ## The blocks -/

theorem geom : ∀ t : Fin cfg0.N,
    win0_0.index t = ![t.val / 11, 0] ∧ win0_1.index t = ![0, 0] ∧ win0_2.index t = ![0, t.val % 11]
      ∧ win0_3.index t = ![0, t.val % 11] ∧ win0_4.index t = ![t.val % 11, 0] ∧ win0_5.index t = ![t.val / 11, 0] := by
  decide +kernel

theorem pt_lt (t : Fin cfg0.N) : t.val < 88 := lt_of_lt_of_eq t.isLt N_0

abbrev argX (c : Dev nD) : FVec Ideal S8192x1024 .f32 := m (c.tc.loc main_arg0)
abbrev argG (c : Dev nD) : FVec Ideal S1x1024 .f32 := m (c.tc.loc main_arg1)
abbrev argWg (c : Dev nD) : FVec Ideal S1024x2816 .f32 := m (c.tc.loc main_arg2)
abbrev argWu (c : Dev nD) : FVec Ideal S1024x2816 .f32 := m (c.tc.loc main_arg3)
abbrev argWd (c : Dev nD) : FVec Ideal S2816x1024 .f32 := m (c.tc.loc main_arg4)

/-- The host only casts the weights. -/
theorem V_main_v0 (c : Dev nD) : V m c main_v0 = truncf .bf16 (argWg m c) bitsLt_bf16_f32 := by
  unfold_abbrev_sides
  after_results
theorem V_main_v1 (c : Dev nD) : V m c main_v1 = truncf .bf16 (argWu m c) bitsLt_bf16_f32 := by
  unfold_abbrev_sides
  after_results
theorem V_main_v2 (c : Dev nD) : V m c main_v2 = truncf .bf16 (argWd m c) bitsLt_bf16_f32 := by
  unfold_abbrev_sides
  after_results

/-- The token of row `r` of point `t`'s blocks and the hidden column of column `f`. -/
abbrev tk (t : Fin cfg0.N) (r : Fin 1024) : Fin 8192 := ⟨t.val / 11 * 1024 + r.val, by have := pt_lt t; omega⟩
abbrev hc (t : Fin cfg0.N) (f : Fin 256) : Fin 2816 := ⟨t.val % 11 * 256 + f.val, by omega⟩

theorem blockX (c : Dev nD) (t : Fin cfg0.N) (r l : Fin 1024) :
    (iblk m c 0 t : Vec Ideal S1024x1024 .f32) (ix2 r l) = argX m c (ix2 (tk t r) l) := by
  refine Eq.trans ?_ (congrFun (V_main_arg0 m c) _)
  blk_ext [iblk, geom t]

theorem blockG (c : Dev nD) (t : Fin cfg0.N) (l : Fin 1024) :
    (iblk m c 1 t : Vec Ideal S1x1024 .f32) (ix2 0 l) = argG m c (ix2 0 l) := by
  refine Eq.trans ?_ (congrFun (V_main_arg1 m c) _)
  blk_ext [iblk, geom t]

theorem blockWg (c : Dev nD) (t : Fin cfg0.N) (l : Fin 1024) (f : Fin 256) :
    (iblk m c 2 t : Vec Ideal S1024x256 .bf16) (ix2 l f) = argWg m c (ix2 l (hc t f)) := by
  refine Eq.trans ?_ (congrFun (V_main_v0 m c) (ix2 l (hc t f)))
  blk_ext [iblk, geom t]

theorem blockWu (c : Dev nD) (t : Fin cfg0.N) (l : Fin 1024) (f : Fin 256) :
    (iblk m c 3 t : Vec Ideal S1024x256 .bf16) (ix2 l f) = argWu m c (ix2 l (hc t f)) := by
  refine Eq.trans ?_ (congrFun (V_main_v1 m c) (ix2 l (hc t f)))
  blk_ext [iblk, geom t]

theorem blockWd (c : Dev nD) (t : Fin cfg0.N) (f : Fin 256) (l : Fin 1024) :
    (iblk m c 4 t : Vec Ideal S256x1024 .bf16) (ix2 f l) = argWd m c (ix2 (hc t f) l) := by
  refine Eq.trans ?_ (congrFun (V_main_v2 m c) (ix2 (hc t f) l))
  blk_ext [iblk, geom t]

/-! ## The two buffers a row of points carries -/

theorem stored_norm (c : Dev nD) (t : Fin cfg0.N) (r l : Fin 1024) :
    k0_pay1 (iblk m c 0 t) (iblk m c 1 t) (ix2 r l) = hRow (argX m c) (argG m c) (tk t r) l :=
  (pay_norm _ _ r l).trans (congrFun (congr (congrArg normed (funext fun l => blockX m c t r l)) (funext fun l => blockG m c t l)) l)

/-- The first buffer holds the normed rows from a row's first point on. -/
theorem norm_at (c : Dev nD) (r l : Fin 1024) : ∀ (n : ℕ) (hn : n < cfg0.N),
    (outsAt0 m c n hn).2.1 (ix2 r l) = hRow (argX m c) (argG m c) (tk ⟨n, hn⟩ r) l := by
  intro n
  induction n with
  | zero =>
    intro hn
    rw [outsAt0_A m c ⟨0, hn⟩ rfl (by dsimp only; omega)]
    refine Eq.trans ?_ (stored_norm m c ⟨0, hn⟩ r l)
    frame_out
  | succ n ih =>
    intro hn
    by_cases h : (n + 1) % 11 = 0
    · rw [outsAt0_A m c ⟨n + 1, hn⟩ h (by dsimp only; omega)]
      refine Eq.trans ?_ (stored_norm m c ⟨n + 1, hn⟩ r l)
      frame_out
    · have e : tk ⟨n + 1, hn⟩ r = tk ⟨n, Nat.lt_of_succ_lt hn⟩ r := Fin.ext (by
        show (n + 1) / 11 * 1024 + r.val = n / 11 * 1024 + r.val; omega)
      rw [e]
      refine Eq.trans ?_ (ih (Nat.lt_of_succ_lt hn))
      by_cases hl : (n + 1) % 11 = 10
      · rw [outsAt0_C m c ⟨n + 1, hn⟩ h hl]
        rfl
      · rw [outsAt0_B m c ⟨n + 1, hn⟩ h hl]
        rfl

/-- A hidden block's part of the result's sum. -/
def term (c : Dev nD) (t : Fin cfg0.N) (i : S1024x1024.Idx) : EReal :=
  ∑ f : Fin 256, hid (argX m c) (argG m c) (argWg m c) (argWu m c) (tk t (i 0)) (hc t f) * argWd m c (ix2 (hc t f) (i 1))

theorem step_eq (c : Dev nD) (t : Fin cfg0.N) (h : Vec Ideal S1024x1024 .bf16)
    (hh : ∀ r l : Fin 1024, h (ix2 r l) = hRow (argX m c) (argG m c) (tk t r) l) (acc : Vec Ideal S1024x1024 .f32) (i : S1024x1024.Idx) :
    k0_pay3 h (iblk m c 2 t) (iblk m c 3 t) acc (iblk m c 4 t) i
      = HAdd.hAdd (α := EReal) (β := EReal) (γ := EReal) (acc i) (term m c t i) := by
  obtain ⟨r, l, rfl⟩ : ∃ (r l : Fin 1024), i = ix2 r l := ⟨i 0, i 1, eq_ix2 i⟩
  refine (pay_step h _ _ acc _ r l).trans (congrArg (HAdd.hAdd (α := EReal) (acc (ix2 r l))) (Finset.sum_congr rfl fun f _ => ?_))
  refine congr (congrArg (HMul.hMul (α := EReal)) ?_) (blockWd m c t f l)
  exact congr (congr (congrArg gS (funext fun l => hh r l)) (funext fun l => blockWg m c t l f)) (funext fun l => blockWu m c t l f)

theorem acc_first (c : Dev nD) (t : Fin cfg0.N) (h : t.val % 11 = 0) (i : S1024x1024.Idx) :
    (outsAt0 m c t.val t.isLt).2.2 i = 0 + term m c t i := by
  rw [outsAt0_A m c t h (by omega)]
  refine Eq.trans ?_ ((step_eq m c t _ (stored_norm m c t) (k0_pay2 (F := Ideal)) i).trans
    (congrArg (fun a : EReal => a + term m c t i) ((congrArg _ (eq_ix2 i)).trans (pay_zero (i 0) (i 1)))))
  frame_out

theorem norm_before (c : Dev nD) (t : Fin cfg0.N) (h : ¬t.val % 11 = 0) (r l : Fin 1024) :
    (outsAt0 m c (t.val - 1) (Nat.lt_of_le_of_lt (Nat.sub_le _ _) t.isLt)).2.1 (ix2 r l)
      = hRow (argX m c) (argG m c) (tk t r) l := by
  refine (norm_at m c r l _ _).trans (congrArg (fun q => hRow (argX m c) (argG m c) q l) (Fin.ext ?_))
  show (t.val - 1) / 11 * 1024 + r.val = t.val / 11 * 1024 + r.val
  omega

theorem acc_next (c : Dev nD) (t : Fin cfg0.N) (h : ¬t.val % 11 = 0) (i : S1024x1024.Idx) :
    (outsAt0 m c t.val t.isLt).2.2 i
      = (outsAt0 m c (t.val - 1) (Nat.lt_of_le_of_lt (Nat.sub_le _ _) t.isLt)).2.2 i + term m c t i := by
  refine Eq.trans ?_ (step_eq m c t _ (norm_before m c t h) _ i)
  by_cases hl : t.val % 11 = 10
  · rw [outsAt0_C m c t h hl]
    frame_out
    rw [read_unread_whole, read_unread_whole]
  · rw [outsAt0_B m c t h hl]
    frame_out
    rw [read_unread_whole, read_unread_whole]

theorem out_last (c : Dev nD) (t : Fin cfg0.N) (h : t.val % 11 = 10) :
    (outsAt0 m c t.val t.isLt).1 = k0_pay4 (iblk m c 0 t) (outsAt0 m c t.val t.isLt).2.2 := by
  rw [outsAt0_C m c t (by omega) h]
  frame_out

/-- At a row's last point the second buffer holds the products' sum. -/
theorem acc_last (c : Dev nD) (t : Fin cfg0.N) (h : t.val % 11 = 10) (r l : Fin 1024) :
    (outsAt0 m c t.val t.isLt).2.2 (ix2 r l)
      = ∑ f : Fin 2816, hid (argX m c) (argG m c) (argWg m c) (argWu m c) (tk t r) f * argWd m c (ix2 f l) := by
  have hN := pt_lt t
  refine (Pipeline.eq_sum_fin_of_reset_step_apply_of_flush (M := EReal) (fun n h => (outsAt0 m c n h).2.2) 11 (fun _ => 0) (term m c)
    (acc_first m c) (acc_next m c) t h (ix2 r l)).trans ?_
  rw [zero_add]
  unfold term
  refine Fin.sum_mul_add_congr fun s f hl => ?_
  have e1 : tk ⟨11 * (t.val / 11) + s.val, Pipeline.run_point_lt_of_flush t h s⟩ r = tk t r := Fin.ext (by
    show (11 * (t.val / 11) + s.val) / 11 * 1024 + r.val = t.val / 11 * 1024 + r.val; omega)
  have e2 : hc ⟨11 * (t.val / 11) + s.val, Pipeline.run_point_lt_of_flush t h s⟩ f = ⟨s.val * 256 + f.val, hl⟩ := Fin.ext (by
    show (11 * (t.val / 11) + s.val) % 11 * 256 + f.val = s.val * 256 + f.val; omega)
  show hid _ _ _ _ (tk _ r) (hc _ f) * argWd m c (ix2 (hc _ f) l) = _
  rw [e1, e2]

abbrev result (c : Dev nD) := res (argX m c) (argG m c) (argWg m c) (argWu m c) (argWd m c)

theorem final (c : Dev nD) : (dats m 0 c).arrAt 5 cfg0.N = result m c := by
  refine (dats m 0 c).arrAt_eq_of_covers 5 _ (by decide +kernel) fun t hf y => ?_
  obtain ⟨r, l, rfl⟩ : ∃ (r l : Fin 1024), y = ix2 r l := ⟨y 0, y 1, eq_ix2 y⟩
  have hl : t.val % 11 = 10 := (flush0_5 t).mp hf
  have e : (((cfg0.win 5).blk t).view.emb (ix2 r l) : S8192x1024.Idx) = ix2 (tk t r) l := by
    blk_ext [geom t]
  refine Eq.trans ?_ (congrArg _ e.symm)
  blk_simp
  rw [after0_5, out_last m c t hl]
  refine (pay_out _ _ r l).trans ?_
  exact congr (congrArg (HAdd.hAdd (α := EReal)) (blockX m c t r l)) (congrArg _ (acc_last m c t hl r l))

/-! ## The reference -/

section Reference

open Cert.FfnRefIdeal.Read

variable (x : FVec Ideal S8192x1024 .f32) (g : FVec Ideal S1x1024 .f32) (wg wu : FVec Ideal S1024x2816 .f32)
  (wd : FVec Ideal S2816x1024 .f32)

theorem ref_h (t : Fin 8192) (l : Fin 1024) : val_main_v13 (F := Ideal) x g (ix2 t l) = hRow x g t l := by
  unfold hRow normed meanSq
  pointwise [val_main_v0, val_main_v1, val_main_cst, val_main_v2, val_main_v3, val_main_cst_0, val_main_v4, val_main_v5,
    val_main_cst_1, val_main_v6, val_main_v7, val_main_v8, val_main_v9, val_main_v10, val_main_v11, val_main_v12, val_main_v13]

theorem ref_hid (t : Fin 8192) (f : Fin 2816) : val_main_v17 (F := Ideal) x g wg wu (ix2 t f) = hid x g wg wu t f := by
  unfold hid gS dot sigm
  pointwise [val_main_v14, val_main_call0_v0, val_main_call0_v1, val_main_call0_cst, val_main_call0_v2, val_main_call0_v3,
    val_main_call0_cst_0, val_main_call0_v4, val_main_call0_v5, val_main_v15, val_main_v16, val_main_v17, ref_h]

theorem ref_res : val_main_v21 (F := Ideal) x g wg wu wd = res x g wg wu wd := by
  funext i
  idx_vars i
  unfold res
  pointwise [val_main_v18, val_main_cst_2, val_main_v19, val_main_v20, val_main_v21, ref_hid]

end Reference

end Cert.FfnIdeal.Value

end
-- ==== Proof.DMergedValue.lean ====
/-
  The output projection's gradient in its input: what the kernel leaves, block by block, is the product of the two arrays it finds.
-/
module

public import proofs.«01_k».proof.Proof.Gen.DMergedIdeal.Value
public import proofs.«01_k».proof.Proof.Gen.DMergedRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DMergedIdeal.Value

open Cert.DMergedIdeal Cert.DMergedIdeal.Gen

variable (m : (ℓ : Loc nD τ sig) → Buf (Elt Ideal) ℓ) (ρ : Dev nD → PrngReg)

abbrev arrA (c : Dev nD) : FVec Ideal S8192x1024 .f32 := V m c (Pipeline.arrRef spec0 0)
abbrev arrB (c : Dev nD) : FVec Ideal S1024x1024 .bf16 := V m c (Pipeline.arrRef spec0 1)

/-- The product. -/
def prod (a : FVec Ideal S8192x1024 .f32) (b : FVec Ideal S1024x1024 .bf16) : FVec Ideal S8192x1024 .bf16 := fun i =>
  ∑ k : Fin 1024, a (ix2 (i 0) k) * b (ix2 (i 1) k)

theorem pay_step (acc : Vec Ideal S1024x1024 .f32) (a : Vec Ideal S1024x1024 .f32) (b : Vec Ideal S1024x1024 .bf16)
    (r : Fin 1024) (f : Fin 1024) :
    k0_pay2 acc a b (ix2 r f) = acc (ix2 r f) + ∑ k : Fin 1024, a (ix2 r k) * b (ix2 f k) := by
  pointwise [k0_pay2]

theorem pay_zero (r : Fin 1024) (f : Fin 1024) : k0_pay1 (F := Ideal) (ix2 r f) = 0 := by
  pointwise [k0_pay1]

theorem geom : ∀ t : Fin cfg0.N,
    win0_0.index t = ![t.val, 0] ∧ win0_1.index t = ![0, 0] ∧ win0_2.index t = ![t.val, 0] := by
  decide +kernel

theorem pt_lt (t : Fin cfg0.N) : t.val < 8 := lt_of_lt_of_eq t.isLt N_0

abbrev atK (t : Fin cfg0.N) (k : Fin 1024) : Fin 1024 := k
abbrev atR (t : Fin cfg0.N) (r : Fin 1024) : Fin 8192 := ⟨t.val * 1024 + r.val, by have := pt_lt t; omega⟩
abbrev atC (t : Fin cfg0.N) (f : Fin 1024) : Fin 1024 := f

theorem blockA (c : Dev nD) (t : Fin cfg0.N) (k : Fin 1024) (r : Fin 1024) :
    (iblk m c 0 t : Vec Ideal S1024x1024 .f32) (ix2 r k) = arrA m c (ix2 (atR t r) (atK t k)) := by
  blk_ext [iblk, geom t]

theorem blockB (c : Dev nD) (t : Fin cfg0.N) (k : Fin 1024) (f : Fin 1024) :
    (iblk m c 1 t : Vec Ideal S1024x1024 .bf16) (ix2 f k) = arrB m c (ix2 (atC t f) (atK t k)) := by
  blk_ext [iblk, geom t]

/-- A block of the contracted axis' part of the product. -/
def term (c : Dev nD) (t : Fin cfg0.N) (i : S1024x1024.Idx) : EReal :=
  ∑ k : Fin 1024, arrA m c (ix2 (atR t (i 0)) (atK t k)) * arrB m c (ix2 (atC t (i 1)) (atK t k))

theorem step_eq (c : Dev nD) (t : Fin cfg0.N) (acc : Vec Ideal S1024x1024 .f32) (i : S1024x1024.Idx) :
    k0_pay2 acc (iblk m c 0 t) (iblk m c 1 t) i = HAdd.hAdd (α := EReal) (β := EReal) (γ := EReal) (acc i) (term m c t i) := by
  obtain ⟨r, f, rfl⟩ : ∃ (r : Fin 1024) (f : Fin 1024), i = ix2 r f := ⟨i 0, i 1, eq_ix2 i⟩
  refine (pay_step acc _ _ r f).trans (congrArg (HAdd.hAdd (α := EReal) (acc (ix2 r f))) (Finset.sum_congr rfl fun k _ => ?_))
  exact congr (congrArg (HMul.hMul (α := EReal)) (blockA m c t k r)) (blockB m c t k f)

theorem first_eq (c : Dev nD) (t : Fin cfg0.N) (i : S1024x1024.Idx) :
    k0_pay2 (k0_pay1 (F := Ideal)) (iblk m c 0 t) (iblk m c 1 t) i = 0 + term m c t i :=
  (step_eq m c t (k0_pay1 (F := Ideal)) i).trans
    (congrArg (fun a : EReal => a + term m c t i) ((congrArg _ (eq_ix2 i)).trans (pay_zero (i 0) (i 1))))

theorem out_eq (c : Dev nD) (t : Fin cfg0.N) (i : S1024x1024.Idx) : outsAt0 m c t i = 0 + term m c t i := by
  obtain ⟨r, f, rfl⟩ : ∃ (r : Fin 1024) (f : Fin 1024), i = ix2 r f := ⟨i 0, i 1, eq_ix2 i⟩
  have hp : ∀ p : Vec Ideal S1024x1024 .f32, k0_pay3 p (ix2 r f) = p (ix2 r f) := fun p => by
    pointwise [k0_pay3]
  refine Eq.trans ?_ ((hp _).trans (first_eq m c t (ix2 r f)))
  unfold outsAt0
  frame_out

theorem final (c : Dev nD) : (dats m 0 c).arrAt 2 cfg0.N = prod (arrA m c) (arrB m c) := by
  refine (dats m 0 c).arrAt_eq_of_covers 2 _ (by decide +kernel) fun t hf y => ?_
  obtain ⟨r, f, rfl⟩ : ∃ (r : Fin 1024) (f : Fin 1024), y = ix2 r f := ⟨y 0, y 1, eq_ix2 y⟩
  have hN := pt_lt t
  have e : (((cfg0.win 2).blk t).view.emb (ix2 r f) : S8192x1024.Idx) = ix2 ⟨t.val * 1024 + r.val, by have := pt_lt t; omega⟩ f := by
    blk_ext [geom t]
  refine Eq.trans ?_ (congrArg _ e.symm)
  blk_simp
  rw [after0_2, out_eq, zero_add]
  rfl
theorem ref_prod (a : FVec Ideal S8192x1024 .f32) (b : FVec Ideal S1024x1024 .f32) :
    Cert.DMergedRefIdeal.Read.val_main_v3 (F := Ideal) a b = prod a (truncf .bf16 b bitsLt_bf16_f32) := by
  funext i
  idx_vars i
  unfold prod
  pointwise [Cert.DMergedRefIdeal.Read.val_main_v0, Cert.DMergedRefIdeal.Read.val_main_v1, Cert.DMergedRefIdeal.Read.val_main_v2, Cert.DMergedRefIdeal.Read.val_main_v3]

/-- The weights the kernel finds are the host's cast of them. -/
theorem read_b (c : Dev nD) : arrB m c = (truncf .bf16 (m ((c : Thread nD τ).loc main_arg1) : FVec Ideal S1024x1024 .f32) bitsLt_bf16_f32) := by
  show V m c main_v0 = _
  unfold_abbrev_sides
  after_results

theorem value (c : Dev nD) : (dats m 0 c).arrAt 2 cfg0.N
    = prod (m ((c : Thread nD τ).loc main_arg0)) (truncf .bf16 (m ((c : Thread nD τ).loc main_arg1) : FVec Ideal S1024x1024 .f32) bitsLt_bf16_f32) := by
  refine (final m c).trans ?_
  rw [read_b]
  exact congrArg (fun a => prod a (truncf .bf16 (m ((c : Thread nD τ).loc main_arg1) : FVec Ideal S1024x1024 .f32) bitsLt_bf16_f32)) (V_main_arg0 m c)

end Cert.DMergedIdeal.Value

end
-- ==== Proof.DWoutValue.lean ====
/-
  The output projection's weight product: what the kernel leaves, block by block, is the product of the two arrays it finds.
-/
module

public import proofs.«01_k».proof.Proof.Gen.DWoutIdeal.Value
public import proofs.«01_k».proof.Proof.Gen.DWoutRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DWoutIdeal.Value

open Cert.DWoutIdeal Cert.DWoutIdeal.Gen

variable (m : (ℓ : Loc nD τ sig) → Buf (Elt Ideal) ℓ) (ρ : Dev nD → PrngReg)

abbrev arrA (c : Dev nD) : FVec Ideal S8192x1024 .bf16 := V m c (Pipeline.arrRef spec0 0)
abbrev arrB (c : Dev nD) : FVec Ideal S8192x1024 .f32 := V m c (Pipeline.arrRef spec0 1)

/-- The product. -/
def prod (a : FVec Ideal S8192x1024 .bf16) (b : FVec Ideal S8192x1024 .f32) : FVec Ideal S1024x1024 .f32 := fun i =>
  ∑ k : Fin 8192, a (ix2 k (i 0)) * b (ix2 k (i 1))

theorem pay_step (acc : Vec Ideal S1024x1024 .f32) (a : Vec Ideal S1024x1024 .bf16) (b : Vec Ideal S1024x1024 .f32)
    (r : Fin 1024) (f : Fin 1024) :
    k0_pay2 acc a b (ix2 r f) = acc (ix2 r f) + ∑ k : Fin 1024, a (ix2 k r) * b (ix2 k f) := by
  pointwise [k0_pay2]

theorem pay_zero (r : Fin 1024) (f : Fin 1024) : k0_pay1 (F := Ideal) (ix2 r f) = 0 := by
  pointwise [k0_pay1]

theorem geom : ∀ t : Fin cfg0.N,
    win0_0.index t = ![t.val % 8, 0] ∧ win0_1.index t = ![t.val % 8, 0] ∧ win0_2.index t = ![0, 0] := by
  decide +kernel

theorem pt_lt (t : Fin cfg0.N) : t.val < 8 := lt_of_lt_of_eq t.isLt N_0

abbrev atK (t : Fin cfg0.N) (k : Fin 1024) : Fin 8192 := ⟨t.val % 8 * 1024 + k.val, by have := pt_lt t; omega⟩
abbrev atR (t : Fin cfg0.N) (r : Fin 1024) : Fin 1024 := r
abbrev atC (t : Fin cfg0.N) (f : Fin 1024) : Fin 1024 := f

theorem blockA (c : Dev nD) (t : Fin cfg0.N) (k : Fin 1024) (r : Fin 1024) :
    (iblk m c 0 t : Vec Ideal S1024x1024 .bf16) (ix2 k r) = arrA m c (ix2 (atK t k) (atR t r)) := by
  blk_ext [iblk, geom t]

theorem blockB (c : Dev nD) (t : Fin cfg0.N) (k : Fin 1024) (f : Fin 1024) :
    (iblk m c 1 t : Vec Ideal S1024x1024 .f32) (ix2 k f) = arrB m c (ix2 (atK t k) (atC t f)) := by
  blk_ext [iblk, geom t]

/-- A block of the contracted axis' part of the product. -/
def term (c : Dev nD) (t : Fin cfg0.N) (i : S1024x1024.Idx) : EReal :=
  ∑ k : Fin 1024, arrA m c (ix2 (atK t k) (atR t (i 0))) * arrB m c (ix2 (atK t k) (atC t (i 1)))

theorem step_eq (c : Dev nD) (t : Fin cfg0.N) (acc : Vec Ideal S1024x1024 .f32) (i : S1024x1024.Idx) :
    k0_pay2 acc (iblk m c 0 t) (iblk m c 1 t) i = HAdd.hAdd (α := EReal) (β := EReal) (γ := EReal) (acc i) (term m c t i) := by
  obtain ⟨r, f, rfl⟩ : ∃ (r : Fin 1024) (f : Fin 1024), i = ix2 r f := ⟨i 0, i 1, eq_ix2 i⟩
  refine (pay_step acc _ _ r f).trans (congrArg (HAdd.hAdd (α := EReal) (acc (ix2 r f))) (Finset.sum_congr rfl fun k _ => ?_))
  exact congr (congrArg (HMul.hMul (α := EReal)) (blockA m c t k r)) (blockB m c t k f)

theorem first_eq (c : Dev nD) (t : Fin cfg0.N) (i : S1024x1024.Idx) :
    k0_pay2 (k0_pay1 (F := Ideal)) (iblk m c 0 t) (iblk m c 1 t) i = 0 + term m c t i :=
  (step_eq m c t (k0_pay1 (F := Ideal)) i).trans
    (congrArg (fun a : EReal => a + term m c t i) ((congrArg _ (eq_ix2 i)).trans (pay_zero (i 0) (i 1))))

theorem acc_first (c : Dev nD) (t : Fin cfg0.N) (h : t.val % 8 = 0) (i : S1024x1024.Idx) :
    (outsAt0 m c t.val t.isLt).2 i = 0 + term m c t i := by
  rw [outsAt0_A m c t h (by omega)]
  refine Eq.trans ?_ (first_eq m c t i)
  frame_out

theorem acc_next (c : Dev nD) (t : Fin cfg0.N) (h : ¬t.val % 8 = 0) (i : S1024x1024.Idx) :
    (outsAt0 m c t.val t.isLt).2 i
      = (outsAt0 m c (t.val - 1) (Nat.lt_of_le_of_lt (Nat.sub_le _ _) t.isLt)).2 i + term m c t i := by
  refine Eq.trans ?_ (step_eq m c t _ i)
  by_cases hl : t.val % 8 = 7
  · rw [outsAt0_C m c t h hl]
    frame_out
    rw [read_unread_whole]
  · rw [outsAt0_B m c t h hl]
    frame_out
    rw [read_unread_whole]

theorem out_last (c : Dev nD) (t : Fin cfg0.N) (h : t.val % 8 = 7) :
    (outsAt0 m c t.val t.isLt).1 = (outsAt0 m c t.val t.isLt).2 := by
  rw [outsAt0_C m c t (by omega) h]
  frame_out

theorem final (c : Dev nD) : (dats m 0 c).arrAt 2 cfg0.N = prod (arrA m c) (arrB m c) := by
  refine (dats m 0 c).arrAt_eq_of_covers 2 _ (by decide +kernel) fun t hf y => ?_
  obtain ⟨r, f, rfl⟩ : ∃ (r : Fin 1024) (f : Fin 1024), y = ix2 r f := ⟨y 0, y 1, eq_ix2 y⟩
  have hN := pt_lt t
  have e : (((cfg0.win 2).blk t).view.emb (ix2 r f) : S1024x1024.Idx) = ix2 r f := by
    blk_ext [geom t]
  have hl : t.val % 8 = 7 := (flush0_2 t).mp hf
  refine Eq.trans ?_ (congrArg _ e.symm)
  blk_simp
  rw [after0_2, out_last m c t hl]
  refine (Pipeline.eq_sum_fin_of_reset_step_apply_of_flush (M := EReal) (fun n h => (outsAt0 m c n h).2) 8 (fun _ => 0) (term m c)
    (acc_first m c) (acc_next m c) t hl (ix2 r f)).trans ?_
  rw [zero_add]
  unfold term prod
  refine Fin.sum_mul_add_congr fun s k hl' => ?_
  have e1 : atK ⟨8 * (t.val / 8) + s.val, Pipeline.run_point_lt_of_flush t hl s⟩ k = ⟨s.val * 1024 + k.val, hl'⟩ := Fin.ext (by
    show (8 * (t.val / 8) + s.val) % 8 * 1024 + k.val = s.val * 1024 + k.val; omega)
  show arrA m c (ix2 (atK _ k) (atR _ r)) * arrB m c (ix2 (atK _ k) (atC _ f)) = _
  rw [e1]
  rfl
theorem ref_prod (a : FVec Ideal S8192x1024 .bf16) (b : FVec Ideal S8192x1024 .f32) :
    Cert.DWoutRefIdeal.Read.val_main_v4 (F := Ideal) a b = prod a b := by
  funext i
  idx_vars i
  unfold prod
  pointwise [Cert.DWoutRefIdeal.Read.val_main_v0, Cert.DWoutRefIdeal.Read.val_main_v1, Cert.DWoutRefIdeal.Read.val_main_v2, Cert.DWoutRefIdeal.Read.val_main_v3, Cert.DWoutRefIdeal.Read.val_main_v4]
  exact Finset.sum_congr rfl fun t _ => mul_comm _ _

theorem value (c : Dev nD) : (dats m 0 c).arrAt 2 cfg0.N
    = prod (m ((c : Thread nD τ).loc main_arg0)) (m ((c : Thread nD τ).loc main_arg1)) := by
  refine (final m c).trans ?_
  rfl

end Cert.DWoutIdeal.Value

end
-- ==== Proof.OutValue.lean ====
/-
  The output projection, added to the residual stream: what the kernel leaves, block by block, is the product of the two arrays it finds.
-/
module

public import proofs.«01_k».proof.Proof.Gen.OutIdeal.Value
public import proofs.«01_k».proof.Proof.Gen.OutRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutIdeal.Value

open Cert.OutIdeal Cert.OutIdeal.Gen

variable (m : (ℓ : Loc nD τ sig) → Buf (Elt Ideal) ℓ) (ρ : Dev nD → PrngReg)

abbrev arrA (c : Dev nD) : FVec Ideal S8192x1024 .bf16 := V m c (Pipeline.arrRef spec0 0)
abbrev arrB (c : Dev nD) : FVec Ideal S1024x1024 .bf16 := V m c (Pipeline.arrRef spec0 1)
abbrev arrX (c : Dev nD) : FVec Ideal S8192x1024 .f32 := V m c (Pipeline.arrRef spec0 2)

/-- The product, added to an array. -/
def prod (a : FVec Ideal S8192x1024 .bf16) (b : FVec Ideal S1024x1024 .bf16) (x : FVec Ideal S8192x1024 .f32) : FVec Ideal S8192x1024 .f32 := fun i =>
  (∑ k : Fin 1024, a (ix2 (i 0) k) * b (ix2 k (i 1))) + x i

theorem pay_step (acc : Vec Ideal S1024x1024 .f32) (a : Vec Ideal S1024x1024 .bf16) (b : Vec Ideal S1024x1024 .bf16)
    (r : Fin 1024) (f : Fin 1024) :
    k0_pay2 acc a b (ix2 r f) = acc (ix2 r f) + ∑ k : Fin 1024, a (ix2 r k) * b (ix2 k f) := by
  pointwise [k0_pay2]

theorem pay_zero (r : Fin 1024) (f : Fin 1024) : k0_pay1 (F := Ideal) (ix2 r f) = 0 := by
  pointwise [k0_pay1]

theorem geom : ∀ t : Fin cfg0.N,
    win0_0.index t = ![t.val, 0] ∧ win0_1.index t = ![0, 0] ∧ win0_2.index t = ![t.val, 0] ∧ win0_3.index t = ![t.val, 0] := by
  decide +kernel

theorem pt_lt (t : Fin cfg0.N) : t.val < 8 := lt_of_lt_of_eq t.isLt N_0

abbrev atK (t : Fin cfg0.N) (k : Fin 1024) : Fin 1024 := k
abbrev atR (t : Fin cfg0.N) (r : Fin 1024) : Fin 8192 := ⟨t.val * 1024 + r.val, by have := pt_lt t; omega⟩
abbrev atC (t : Fin cfg0.N) (f : Fin 1024) : Fin 1024 := f

theorem blockA (c : Dev nD) (t : Fin cfg0.N) (k : Fin 1024) (r : Fin 1024) :
    (iblk m c 0 t : Vec Ideal S1024x1024 .bf16) (ix2 r k) = arrA m c (ix2 (atR t r) (atK t k)) := by
  blk_ext [iblk, geom t]

theorem blockB (c : Dev nD) (t : Fin cfg0.N) (k : Fin 1024) (f : Fin 1024) :
    (iblk m c 1 t : Vec Ideal S1024x1024 .bf16) (ix2 k f) = arrB m c (ix2 (atK t k) (atC t f)) := by
  blk_ext [iblk, geom t]

theorem blockX (c : Dev nD) (t : Fin cfg0.N) (r : Fin 1024) (f : Fin 1024) :
    (iblk m c 2 t : Vec Ideal S1024x1024 .f32) (ix2 r f) = arrX m c (ix2 (atR t r) (atC t f)) := by
  blk_ext [iblk, geom t]

/-- A block of the contracted axis' part of the product. -/
def term (c : Dev nD) (t : Fin cfg0.N) (i : S1024x1024.Idx) : EReal :=
  ∑ k : Fin 1024, arrA m c (ix2 (atR t (i 0)) (atK t k)) * arrB m c (ix2 (atK t k) (atC t (i 1)))

theorem step_eq (c : Dev nD) (t : Fin cfg0.N) (acc : Vec Ideal S1024x1024 .f32) (i : S1024x1024.Idx) :
    k0_pay2 acc (iblk m c 0 t) (iblk m c 1 t) i = HAdd.hAdd (α := EReal) (β := EReal) (γ := EReal) (acc i) (term m c t i) := by
  obtain ⟨r, f, rfl⟩ : ∃ (r : Fin 1024) (f : Fin 1024), i = ix2 r f := ⟨i 0, i 1, eq_ix2 i⟩
  refine (pay_step acc _ _ r f).trans (congrArg (HAdd.hAdd (α := EReal) (acc (ix2 r f))) (Finset.sum_congr rfl fun k _ => ?_))
  exact congr (congrArg (HMul.hMul (α := EReal)) (blockA m c t k r)) (blockB m c t k f)

theorem first_eq (c : Dev nD) (t : Fin cfg0.N) (i : S1024x1024.Idx) :
    k0_pay2 (k0_pay1 (F := Ideal)) (iblk m c 0 t) (iblk m c 1 t) i = 0 + term m c t i :=
  (step_eq m c t (k0_pay1 (F := Ideal)) i).trans
    (congrArg (fun a : EReal => a + term m c t i) ((congrArg _ (eq_ix2 i)).trans (pay_zero (i 0) (i 1))))

theorem out_eq (c : Dev nD) (t : Fin cfg0.N) (i : S1024x1024.Idx) :
    outsAt0 m c t i = HAdd.hAdd (α := EReal) (β := EReal) (γ := EReal) (0 + term m c t i) (arrX m c (ix2 (atR t (i 0)) (atC t (i 1)))) := by
  obtain ⟨r, f, rfl⟩ : ∃ (r : Fin 1024) (f : Fin 1024), i = ix2 r f := ⟨i 0, i 1, eq_ix2 i⟩
  have hp : ∀ (p x : Vec Ideal S1024x1024 .f32), k0_pay3 p x (ix2 r f) = p (ix2 r f) + x (ix2 r f) := fun p x => by
    pointwise [k0_pay3]
  refine Eq.trans ?_ ((hp _ (iblk m c 2 t)).trans (congr (congrArg (HAdd.hAdd (α := EReal)) (first_eq m c t (ix2 r f))) (blockX m c t r f)))
  unfold outsAt0
  frame_out

theorem final (c : Dev nD) : (dats m 0 c).arrAt 3 cfg0.N = prod (arrA m c) (arrB m c) (arrX m c) := by
  refine (dats m 0 c).arrAt_eq_of_covers 3 _ (by decide +kernel) fun t hf y => ?_
  obtain ⟨r, f, rfl⟩ : ∃ (r : Fin 1024) (f : Fin 1024), y = ix2 r f := ⟨y 0, y 1, eq_ix2 y⟩
  have hN := pt_lt t
  have e : (((cfg0.win 3).blk t).view.emb (ix2 r f) : S8192x1024.Idx) = ix2 ⟨t.val * 1024 + r.val, by have := pt_lt t; omega⟩ f := by
    blk_ext [geom t]
  refine Eq.trans ?_ (congrArg _ e.symm)
  blk_simp
  rw [after0_3, out_eq, zero_add]
  rfl
theorem ref_prod (a : FVec Ideal S8192x1024 .bf16) (b : FVec Ideal S1024x1024 .f32) (x : FVec Ideal S8192x1024 .f32) :
    Cert.OutRefIdeal.Read.val_main_v2 (F := Ideal) a b x = prod a (truncf .bf16 b bitsLt_bf16_f32) x := by
  funext i
  idx_vars i
  unfold prod
  pointwise [Cert.OutRefIdeal.Read.val_main_v0, Cert.OutRefIdeal.Read.val_main_v1, Cert.OutRefIdeal.Read.val_main_v2]
  exact add_comm _ _

/-- The weights the kernel finds are the host's cast of them. -/
theorem read_b (c : Dev nD) : arrB m c = (truncf .bf16 (m ((c : Thread nD τ).loc main_arg1) : FVec Ideal S1024x1024 .f32) bitsLt_bf16_f32) := by
  show V m c main_v0 = _
  unfold_abbrev_sides
  after_results

theorem value (c : Dev nD) : (dats m 0 c).arrAt 3 cfg0.N
    = prod (m ((c : Thread nD τ).loc main_arg0)) (truncf .bf16 (m ((c : Thread nD τ).loc main_arg1) : FVec Ideal S1024x1024 .f32) bitsLt_bf16_f32) (m ((c : Thread nD τ).loc main_arg2)) := by
  refine (final m c).trans ?_
  rw [read_b]
  exact congr (congrArg (fun a => prod a (truncf .bf16 (m ((c : Thread nD τ).loc main_arg1) : FVec Ideal S1024x1024 .f32) bitsLt_bf16_f32)) (V_main_arg0 m c)) (V_main_arg2 m c)

end Cert.OutIdeal.Value

end
-- ==== Proof.PaValue.lean ====
/-
  The scan's and the pool's branch projection: what the kernel leaves, block by block, is the product of the two arrays it finds.
-/
module

public import proofs.«01_k».proof.Proof.Gen.PaIdeal.Value
public import proofs.«01_k».proof.Proof.Gen.PaRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PaIdeal.Value

open Cert.PaIdeal Cert.PaIdeal.Gen

variable (m : (ℓ : Loc nD τ sig) → Buf (Elt Ideal) ℓ) (ρ : Dev nD → PrngReg)

abbrev arrA (c : Dev nD) : FVec Ideal S8192x512 .bf16 := V m c (Pipeline.arrRef spec0 0)
abbrev arrB (c : Dev nD) : FVec Ideal S512x1024 .bf16 := V m c (Pipeline.arrRef spec0 1)

/-- The product. -/
def prod (a : FVec Ideal S8192x512 .bf16) (b : FVec Ideal S512x1024 .bf16) : FVec Ideal S8192x1024 .bf16 := fun i =>
  ∑ k : Fin 512, a (ix2 (i 0) k) * b (ix2 k (i 1))

theorem pay_step (acc : Vec Ideal S1024x1024 .f32) (a : Vec Ideal S1024x512 .bf16) (b : Vec Ideal S512x1024 .bf16)
    (r : Fin 1024) (f : Fin 1024) :
    k0_pay2 acc a b (ix2 r f) = acc (ix2 r f) + ∑ k : Fin 512, a (ix2 r k) * b (ix2 k f) := by
  pointwise [k0_pay2]

theorem pay_zero (r : Fin 1024) (f : Fin 1024) : k0_pay1 (F := Ideal) (ix2 r f) = 0 := by
  pointwise [k0_pay1]

theorem geom : ∀ t : Fin cfg0.N,
    win0_0.index t = ![t.val, 0] ∧ win0_1.index t = ![0, 0] ∧ win0_2.index t = ![t.val, 0] := by
  decide +kernel

theorem pt_lt (t : Fin cfg0.N) : t.val < 8 := lt_of_lt_of_eq t.isLt N_0

abbrev atK (t : Fin cfg0.N) (k : Fin 512) : Fin 512 := k
abbrev atR (t : Fin cfg0.N) (r : Fin 1024) : Fin 8192 := ⟨t.val * 1024 + r.val, by have := pt_lt t; omega⟩
abbrev atC (t : Fin cfg0.N) (f : Fin 1024) : Fin 1024 := f

theorem blockA (c : Dev nD) (t : Fin cfg0.N) (k : Fin 512) (r : Fin 1024) :
    (iblk m c 0 t : Vec Ideal S1024x512 .bf16) (ix2 r k) = arrA m c (ix2 (atR t r) (atK t k)) := by
  blk_ext [iblk, geom t]

theorem blockB (c : Dev nD) (t : Fin cfg0.N) (k : Fin 512) (f : Fin 1024) :
    (iblk m c 1 t : Vec Ideal S512x1024 .bf16) (ix2 k f) = arrB m c (ix2 (atK t k) (atC t f)) := by
  blk_ext [iblk, geom t]

/-- A block of the contracted axis' part of the product. -/
def term (c : Dev nD) (t : Fin cfg0.N) (i : S1024x1024.Idx) : EReal :=
  ∑ k : Fin 512, arrA m c (ix2 (atR t (i 0)) (atK t k)) * arrB m c (ix2 (atK t k) (atC t (i 1)))

theorem step_eq (c : Dev nD) (t : Fin cfg0.N) (acc : Vec Ideal S1024x1024 .f32) (i : S1024x1024.Idx) :
    k0_pay2 acc (iblk m c 0 t) (iblk m c 1 t) i = HAdd.hAdd (α := EReal) (β := EReal) (γ := EReal) (acc i) (term m c t i) := by
  obtain ⟨r, f, rfl⟩ : ∃ (r : Fin 1024) (f : Fin 1024), i = ix2 r f := ⟨i 0, i 1, eq_ix2 i⟩
  refine (pay_step acc _ _ r f).trans (congrArg (HAdd.hAdd (α := EReal) (acc (ix2 r f))) (Finset.sum_congr rfl fun k _ => ?_))
  exact congr (congrArg (HMul.hMul (α := EReal)) (blockA m c t k r)) (blockB m c t k f)

theorem first_eq (c : Dev nD) (t : Fin cfg0.N) (i : S1024x1024.Idx) :
    k0_pay2 (k0_pay1 (F := Ideal)) (iblk m c 0 t) (iblk m c 1 t) i = 0 + term m c t i :=
  (step_eq m c t (k0_pay1 (F := Ideal)) i).trans
    (congrArg (fun a : EReal => a + term m c t i) ((congrArg _ (eq_ix2 i)).trans (pay_zero (i 0) (i 1))))

theorem out_eq (c : Dev nD) (t : Fin cfg0.N) (i : S1024x1024.Idx) : outsAt0 m c t i = 0 + term m c t i := by
  obtain ⟨r, f, rfl⟩ : ∃ (r : Fin 1024) (f : Fin 1024), i = ix2 r f := ⟨i 0, i 1, eq_ix2 i⟩
  have hp : ∀ p : Vec Ideal S1024x1024 .f32, k0_pay3 p (ix2 r f) = p (ix2 r f) := fun p => by
    pointwise [k0_pay3]
  refine Eq.trans ?_ ((hp _).trans (first_eq m c t (ix2 r f)))
  unfold outsAt0
  frame_out

theorem final (c : Dev nD) : (dats m 0 c).arrAt 2 cfg0.N = prod (arrA m c) (arrB m c) := by
  refine (dats m 0 c).arrAt_eq_of_covers 2 _ (by decide +kernel) fun t hf y => ?_
  obtain ⟨r, f, rfl⟩ : ∃ (r : Fin 1024) (f : Fin 1024), y = ix2 r f := ⟨y 0, y 1, eq_ix2 y⟩
  have hN := pt_lt t
  have e : (((cfg0.win 2).blk t).view.emb (ix2 r f) : S8192x1024.Idx) = ix2 ⟨t.val * 1024 + r.val, by have := pt_lt t; omega⟩ f := by
    blk_ext [geom t]
  refine Eq.trans ?_ (congrArg _ e.symm)
  blk_simp
  rw [after0_2, out_eq, zero_add]
  rfl
theorem ref_prod (a : FVec Ideal S8192x512 .bf16) (b : FVec Ideal S512x1024 .f32) :
    Cert.PaRefIdeal.Read.val_main_v2 (F := Ideal) a b = prod a (truncf .bf16 b bitsLt_bf16_f32) := by
  funext i
  idx_vars i
  unfold prod
  pointwise [Cert.PaRefIdeal.Read.val_main_v0, Cert.PaRefIdeal.Read.val_main_v1, Cert.PaRefIdeal.Read.val_main_v2]

/-- The weights the kernel finds are the host's cast of them. -/
theorem read_b (c : Dev nD) : arrB m c = (truncf .bf16 (m ((c : Thread nD τ).loc main_arg1) : FVec Ideal S512x1024 .f32) bitsLt_bf16_f32) := by
  show V m c main_v0 = _
  unfold_abbrev_sides
  after_results

theorem value (c : Dev nD) : (dats m 0 c).arrAt 2 cfg0.N
    = prod (m ((c : Thread nD τ).loc main_arg0)) (truncf .bf16 (m ((c : Thread nD τ).loc main_arg1) : FVec Ideal S512x1024 .f32) bitsLt_bf16_f32) := by
  refine (final m c).trans ?_
  rw [read_b]
  exact congrArg (fun a => prod a (truncf .bf16 (m ((c : Thread nD τ).loc main_arg1) : FVec Ideal S512x1024 .f32) bitsLt_bf16_f32)) (V_main_arg0 m c)

end Cert.PaIdeal.Value

end
-- ==== Proof.DPaValue.lean ====
/-
  The scan's and the pool's branch projection's gradient in its input: what the kernel leaves, block by block, is the product of the two arrays it finds.
-/
module

public import proofs.«01_k».proof.Proof.Gen.DPaIdeal.Value
public import proofs.«01_k».proof.Proof.Gen.DPaRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DPaIdeal.Value

open Cert.DPaIdeal Cert.DPaIdeal.Gen

variable (m : (ℓ : Loc nD τ sig) → Buf (Elt Ideal) ℓ) (ρ : Dev nD → PrngReg)

abbrev arrA (c : Dev nD) : FVec Ideal S8192x1024 .bf16 := V m c (Pipeline.arrRef spec0 0)
abbrev arrB (c : Dev nD) : FVec Ideal S512x1024 .bf16 := V m c (Pipeline.arrRef spec0 1)

/-- The product. -/
def prod (a : FVec Ideal S8192x1024 .bf16) (b : FVec Ideal S512x1024 .bf16) : FVec Ideal S8192x512 .f32 := fun i =>
  ∑ k : Fin 1024, a (ix2 (i 0) k) * b (ix2 (i 1) k)

theorem pay_step (acc : Vec Ideal S1024x512 .f32) (a : Vec Ideal S1024x1024 .bf16) (b : Vec Ideal S512x1024 .bf16)
    (r : Fin 1024) (f : Fin 512) :
    k0_pay2 acc a b (ix2 r f) = acc (ix2 r f) + ∑ k : Fin 1024, a (ix2 r k) * b (ix2 f k) := by
  pointwise [k0_pay2]

theorem pay_zero (r : Fin 1024) (f : Fin 512) : k0_pay1 (F := Ideal) (ix2 r f) = 0 := by
  pointwise [k0_pay1]

theorem geom : ∀ t : Fin cfg0.N,
    win0_0.index t = ![t.val, 0] ∧ win0_1.index t = ![0, 0] ∧ win0_2.index t = ![t.val, 0] := by
  decide +kernel

theorem pt_lt (t : Fin cfg0.N) : t.val < 8 := lt_of_lt_of_eq t.isLt N_0

abbrev atK (t : Fin cfg0.N) (k : Fin 1024) : Fin 1024 := k
abbrev atR (t : Fin cfg0.N) (r : Fin 1024) : Fin 8192 := ⟨t.val * 1024 + r.val, by have := pt_lt t; omega⟩
abbrev atC (t : Fin cfg0.N) (f : Fin 512) : Fin 512 := f

theorem blockA (c : Dev nD) (t : Fin cfg0.N) (k : Fin 1024) (r : Fin 1024) :
    (iblk m c 0 t : Vec Ideal S1024x1024 .bf16) (ix2 r k) = arrA m c (ix2 (atR t r) (atK t k)) := by
  blk_ext [iblk, geom t]

theorem blockB (c : Dev nD) (t : Fin cfg0.N) (k : Fin 1024) (f : Fin 512) :
    (iblk m c 1 t : Vec Ideal S512x1024 .bf16) (ix2 f k) = arrB m c (ix2 (atC t f) (atK t k)) := by
  blk_ext [iblk, geom t]

/-- A block of the contracted axis' part of the product. -/
def term (c : Dev nD) (t : Fin cfg0.N) (i : S1024x512.Idx) : EReal :=
  ∑ k : Fin 1024, arrA m c (ix2 (atR t (i 0)) (atK t k)) * arrB m c (ix2 (atC t (i 1)) (atK t k))

theorem step_eq (c : Dev nD) (t : Fin cfg0.N) (acc : Vec Ideal S1024x512 .f32) (i : S1024x512.Idx) :
    k0_pay2 acc (iblk m c 0 t) (iblk m c 1 t) i = HAdd.hAdd (α := EReal) (β := EReal) (γ := EReal) (acc i) (term m c t i) := by
  obtain ⟨r, f, rfl⟩ : ∃ (r : Fin 1024) (f : Fin 512), i = ix2 r f := ⟨i 0, i 1, eq_ix2 i⟩
  refine (pay_step acc _ _ r f).trans (congrArg (HAdd.hAdd (α := EReal) (acc (ix2 r f))) (Finset.sum_congr rfl fun k _ => ?_))
  exact congr (congrArg (HMul.hMul (α := EReal)) (blockA m c t k r)) (blockB m c t k f)

theorem first_eq (c : Dev nD) (t : Fin cfg0.N) (i : S1024x512.Idx) :
    k0_pay2 (k0_pay1 (F := Ideal)) (iblk m c 0 t) (iblk m c 1 t) i = 0 + term m c t i :=
  (step_eq m c t (k0_pay1 (F := Ideal)) i).trans
    (congrArg (fun a : EReal => a + term m c t i) ((congrArg _ (eq_ix2 i)).trans (pay_zero (i 0) (i 1))))

theorem out_eq (c : Dev nD) (t : Fin cfg0.N) (i : S1024x512.Idx) : outsAt0 m c t i = 0 + term m c t i := by
  refine Eq.trans ?_ (first_eq m c t i)
  unfold outsAt0
  frame_out

theorem final (c : Dev nD) : (dats m 0 c).arrAt 2 cfg0.N = prod (arrA m c) (arrB m c) := by
  refine (dats m 0 c).arrAt_eq_of_covers 2 _ (by decide +kernel) fun t hf y => ?_
  obtain ⟨r, f, rfl⟩ : ∃ (r : Fin 1024) (f : Fin 512), y = ix2 r f := ⟨y 0, y 1, eq_ix2 y⟩
  have hN := pt_lt t
  have e : (((cfg0.win 2).blk t).view.emb (ix2 r f) : S8192x512.Idx) = ix2 ⟨t.val * 1024 + r.val, by have := pt_lt t; omega⟩ f := by
    blk_ext [geom t]
  refine Eq.trans ?_ (congrArg _ e.symm)
  blk_simp
  rw [after0_2, out_eq, zero_add]
  rfl
theorem ref_prod (a : FVec Ideal S8192x1024 .bf16) (b : FVec Ideal S512x1024 .f32) :
    Cert.DPaRefIdeal.Read.val_main_v3 (F := Ideal) a b = prod a (truncf .bf16 b bitsLt_bf16_f32) := by
  funext i
  idx_vars i
  unfold prod
  pointwise [Cert.DPaRefIdeal.Read.val_main_v0, Cert.DPaRefIdeal.Read.val_main_v1, Cert.DPaRefIdeal.Read.val_main_v2, Cert.DPaRefIdeal.Read.val_main_v3]

/-- The weights the kernel finds are the host's cast of them. -/
theorem read_b (c : Dev nD) : arrB m c = (truncf .bf16 (m ((c : Thread nD τ).loc main_arg1) : FVec Ideal S512x1024 .f32) bitsLt_bf16_f32) := by
  show V m c main_v0 = _
  unfold_abbrev_sides
  after_results

theorem value (c : Dev nD) : (dats m 0 c).arrAt 2 cfg0.N
    = prod (m ((c : Thread nD τ).loc main_arg0)) (truncf .bf16 (m ((c : Thread nD τ).loc main_arg1) : FVec Ideal S512x1024 .f32) bitsLt_bf16_f32) := by
  refine (final m c).trans ?_
  rw [read_b]
  exact congrArg (fun a => prod a (truncf .bf16 (m ((c : Thread nD τ).loc main_arg1) : FVec Ideal S512x1024 .f32) bitsLt_bf16_f32)) (V_main_arg0 m c)

end Cert.DPaIdeal.Value

end
-- ==== Proof.DWpaValue.lean ====
/-
  The scan's and the pool's branch projection's weight product: what the kernel leaves, block by block, is the product of the two arrays it finds.
-/
module

public import proofs.«01_k».proof.Proof.Gen.DWpaIdeal.Value
public import proofs.«01_k».proof.Proof.Gen.DWpaRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DWpaIdeal.Value

open Cert.DWpaIdeal Cert.DWpaIdeal.Gen

variable (m : (ℓ : Loc nD τ sig) → Buf (Elt Ideal) ℓ) (ρ : Dev nD → PrngReg)

abbrev arrA (c : Dev nD) : FVec Ideal S8192x512 .bf16 := V m c (Pipeline.arrRef spec0 0)
abbrev arrB (c : Dev nD) : FVec Ideal S8192x1024 .bf16 := V m c (Pipeline.arrRef spec0 1)

/-- The product. -/
def prod (a : FVec Ideal S8192x512 .bf16) (b : FVec Ideal S8192x1024 .bf16) : FVec Ideal S512x1024 .f32 := fun i =>
  ∑ k : Fin 8192, a (ix2 k (i 0)) * b (ix2 k (i 1))

theorem pay_step (acc : Vec Ideal S512x1024 .f32) (a : Vec Ideal S2048x512 .bf16) (b : Vec Ideal S2048x1024 .bf16)
    (r : Fin 512) (f : Fin 1024) :
    k0_pay2 acc a b (ix2 r f) = acc (ix2 r f) + ∑ k : Fin 2048, a (ix2 k r) * b (ix2 k f) := by
  pointwise [k0_pay2]

theorem pay_zero (r : Fin 512) (f : Fin 1024) : k0_pay1 (F := Ideal) (ix2 r f) = 0 := by
  pointwise [k0_pay1]

theorem geom : ∀ t : Fin cfg0.N,
    win0_0.index t = ![t.val % 4, 0] ∧ win0_1.index t = ![t.val % 4, 0] ∧ win0_2.index t = ![0, 0] := by
  decide +kernel

theorem pt_lt (t : Fin cfg0.N) : t.val < 4 := lt_of_lt_of_eq t.isLt N_0

abbrev atK (t : Fin cfg0.N) (k : Fin 2048) : Fin 8192 := ⟨t.val % 4 * 2048 + k.val, by have := pt_lt t; omega⟩
abbrev atR (t : Fin cfg0.N) (r : Fin 512) : Fin 512 := r
abbrev atC (t : Fin cfg0.N) (f : Fin 1024) : Fin 1024 := f

theorem blockA (c : Dev nD) (t : Fin cfg0.N) (k : Fin 2048) (r : Fin 512) :
    (iblk m c 0 t : Vec Ideal S2048x512 .bf16) (ix2 k r) = arrA m c (ix2 (atK t k) (atR t r)) := by
  blk_ext [iblk, geom t]

theorem blockB (c : Dev nD) (t : Fin cfg0.N) (k : Fin 2048) (f : Fin 1024) :
    (iblk m c 1 t : Vec Ideal S2048x1024 .bf16) (ix2 k f) = arrB m c (ix2 (atK t k) (atC t f)) := by
  blk_ext [iblk, geom t]

/-- A block of the contracted axis' part of the product. -/
def term (c : Dev nD) (t : Fin cfg0.N) (i : S512x1024.Idx) : EReal :=
  ∑ k : Fin 2048, arrA m c (ix2 (atK t k) (atR t (i 0))) * arrB m c (ix2 (atK t k) (atC t (i 1)))

theorem step_eq (c : Dev nD) (t : Fin cfg0.N) (acc : Vec Ideal S512x1024 .f32) (i : S512x1024.Idx) :
    k0_pay2 acc (iblk m c 0 t) (iblk m c 1 t) i = HAdd.hAdd (α := EReal) (β := EReal) (γ := EReal) (acc i) (term m c t i) := by
  obtain ⟨r, f, rfl⟩ : ∃ (r : Fin 512) (f : Fin 1024), i = ix2 r f := ⟨i 0, i 1, eq_ix2 i⟩
  refine (pay_step acc _ _ r f).trans (congrArg (HAdd.hAdd (α := EReal) (acc (ix2 r f))) (Finset.sum_congr rfl fun k _ => ?_))
  exact congr (congrArg (HMul.hMul (α := EReal)) (blockA m c t k r)) (blockB m c t k f)

theorem first_eq (c : Dev nD) (t : Fin cfg0.N) (i : S512x1024.Idx) :
    k0_pay2 (k0_pay1 (F := Ideal)) (iblk m c 0 t) (iblk m c 1 t) i = 0 + term m c t i :=
  (step_eq m c t (k0_pay1 (F := Ideal)) i).trans
    (congrArg (fun a : EReal => a + term m c t i) ((congrArg _ (eq_ix2 i)).trans (pay_zero (i 0) (i 1))))

theorem acc_first (c : Dev nD) (t : Fin cfg0.N) (h : t.val % 4 = 0) (i : S512x1024.Idx) :
    (outsAt0 m c t.val t.isLt).2 i = 0 + term m c t i := by
  rw [outsAt0_A m c t h (by omega)]
  refine Eq.trans ?_ (first_eq m c t i)
  frame_out

theorem acc_next (c : Dev nD) (t : Fin cfg0.N) (h : ¬t.val % 4 = 0) (i : S512x1024.Idx) :
    (outsAt0 m c t.val t.isLt).2 i
      = (outsAt0 m c (t.val - 1) (Nat.lt_of_le_of_lt (Nat.sub_le _ _) t.isLt)).2 i + term m c t i := by
  refine Eq.trans ?_ (step_eq m c t _ i)
  by_cases hl : t.val % 4 = 3
  · rw [outsAt0_C m c t h hl]
    frame_out
    rw [read_unread_whole]
  · rw [outsAt0_B m c t h hl]
    frame_out
    rw [read_unread_whole]

theorem out_last (c : Dev nD) (t : Fin cfg0.N) (h : t.val % 4 = 3) :
    (outsAt0 m c t.val t.isLt).1 = (outsAt0 m c t.val t.isLt).2 := by
  rw [outsAt0_C m c t (by omega) h]
  frame_out

theorem final (c : Dev nD) : (dats m 0 c).arrAt 2 cfg0.N = prod (arrA m c) (arrB m c) := by
  refine (dats m 0 c).arrAt_eq_of_covers 2 _ (by decide +kernel) fun t hf y => ?_
  obtain ⟨r, f, rfl⟩ : ∃ (r : Fin 512) (f : Fin 1024), y = ix2 r f := ⟨y 0, y 1, eq_ix2 y⟩
  have hN := pt_lt t
  have e : (((cfg0.win 2).blk t).view.emb (ix2 r f) : S512x1024.Idx) = ix2 r f := by
    blk_ext [geom t]
  have hl : t.val % 4 = 3 := (flush0_2 t).mp hf
  refine Eq.trans ?_ (congrArg _ e.symm)
  blk_simp
  rw [after0_2, out_last m c t hl]
  refine (Pipeline.eq_sum_fin_of_reset_step_apply_of_flush (M := EReal) (fun n h => (outsAt0 m c n h).2) 4 (fun _ => 0) (term m c)
    (acc_first m c) (acc_next m c) t hl (ix2 r f)).trans ?_
  rw [zero_add]
  unfold term prod
  refine Fin.sum_mul_add_congr fun s k hl' => ?_
  have e1 : atK ⟨4 * (t.val / 4) + s.val, Pipeline.run_point_lt_of_flush t hl s⟩ k = ⟨s.val * 2048 + k.val, hl'⟩ := Fin.ext (by
    show (4 * (t.val / 4) + s.val) % 4 * 2048 + k.val = s.val * 2048 + k.val; omega)
  show arrA m c (ix2 (atK _ k) (atR _ r)) * arrB m c (ix2 (atK _ k) (atC _ f)) = _
  rw [e1]
  rfl
theorem ref_prod (a : FVec Ideal S8192x512 .bf16) (b : FVec Ideal S8192x1024 .bf16) :
    Cert.DWpaRefIdeal.Read.val_main_v5 (F := Ideal) a b = prod a b := by
  funext i
  idx_vars i
  unfold prod
  pointwise [Cert.DWpaRefIdeal.Read.val_main_v0, Cert.DWpaRefIdeal.Read.val_main_v1, Cert.DWpaRefIdeal.Read.val_main_v2, Cert.DWpaRefIdeal.Read.val_main_v3, Cert.DWpaRefIdeal.Read.val_main_v4, Cert.DWpaRefIdeal.Read.val_main_v5]
  exact Finset.sum_congr rfl fun t _ => mul_comm _ _

theorem value (c : Dev nD) : (dats m 0 c).arrAt 2 cfg0.N
    = prod (m ((c : Thread nD τ).loc main_arg0)) (m ((c : Thread nD τ).loc main_arg1)) := by
  refine (final m c).trans ?_
  rfl

end Cert.DWpaIdeal.Value

end
-- ==== Proof.PcValue.lean ====
/-
  The attention's branch projection: what the kernel leaves, block by block, is the product of the two arrays it finds.
-/
module

public import proofs.«01_k».proof.Proof.Gen.PcIdeal.Value
public import proofs.«01_k».proof.Proof.Gen.PcRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PcIdeal.Value

open Cert.PcIdeal Cert.PcIdeal.Gen

variable (m : (ℓ : Loc nD τ sig) → Buf (Elt Ideal) ℓ) (ρ : Dev nD → PrngReg)

abbrev arrA (c : Dev nD) : FVec Ideal S8192x256 .bf16 := V m c (Pipeline.arrRef spec0 0)
abbrev arrB (c : Dev nD) : FVec Ideal S256x1024 .bf16 := V m c (Pipeline.arrRef spec0 1)

/-- The product. -/
def prod (a : FVec Ideal S8192x256 .bf16) (b : FVec Ideal S256x1024 .bf16) : FVec Ideal S8192x1024 .bf16 := fun i =>
  ∑ k : Fin 256, a (ix2 (i 0) k) * b (ix2 k (i 1))

theorem pay_step (acc : Vec Ideal S1024x1024 .f32) (a : Vec Ideal S1024x256 .bf16) (b : Vec Ideal S256x1024 .bf16)
    (r : Fin 1024) (f : Fin 1024) :
    k0_pay2 acc a b (ix2 r f) = acc (ix2 r f) + ∑ k : Fin 256, a (ix2 r k) * b (ix2 k f) := by
  pointwise [k0_pay2]

theorem pay_zero (r : Fin 1024) (f : Fin 1024) : k0_pay1 (F := Ideal) (ix2 r f) = 0 := by
  pointwise [k0_pay1]

theorem geom : ∀ t : Fin cfg0.N,
    win0_0.index t = ![t.val, 0] ∧ win0_1.index t = ![0, 0] ∧ win0_2.index t = ![t.val, 0] := by
  decide +kernel

theorem pt_lt (t : Fin cfg0.N) : t.val < 8 := lt_of_lt_of_eq t.isLt N_0

abbrev atK (t : Fin cfg0.N) (k : Fin 256) : Fin 256 := k
abbrev atR (t : Fin cfg0.N) (r : Fin 1024) : Fin 8192 := ⟨t.val * 1024 + r.val, by have := pt_lt t; omega⟩
abbrev atC (t : Fin cfg0.N) (f : Fin 1024) : Fin 1024 := f

theorem blockA (c : Dev nD) (t : Fin cfg0.N) (k : Fin 256) (r : Fin 1024) :
    (iblk m c 0 t : Vec Ideal S1024x256 .bf16) (ix2 r k) = arrA m c (ix2 (atR t r) (atK t k)) := by
  blk_ext [iblk, geom t]

theorem blockB (c : Dev nD) (t : Fin cfg0.N) (k : Fin 256) (f : Fin 1024) :
    (iblk m c 1 t : Vec Ideal S256x1024 .bf16) (ix2 k f) = arrB m c (ix2 (atK t k) (atC t f)) := by
  blk_ext [iblk, geom t]

/-- A block of the contracted axis' part of the product. -/
def term (c : Dev nD) (t : Fin cfg0.N) (i : S1024x1024.Idx) : EReal :=
  ∑ k : Fin 256, arrA m c (ix2 (atR t (i 0)) (atK t k)) * arrB m c (ix2 (atK t k) (atC t (i 1)))

theorem step_eq (c : Dev nD) (t : Fin cfg0.N) (acc : Vec Ideal S1024x1024 .f32) (i : S1024x1024.Idx) :
    k0_pay2 acc (iblk m c 0 t) (iblk m c 1 t) i = HAdd.hAdd (α := EReal) (β := EReal) (γ := EReal) (acc i) (term m c t i) := by
  obtain ⟨r, f, rfl⟩ : ∃ (r : Fin 1024) (f : Fin 1024), i = ix2 r f := ⟨i 0, i 1, eq_ix2 i⟩
  refine (pay_step acc _ _ r f).trans (congrArg (HAdd.hAdd (α := EReal) (acc (ix2 r f))) (Finset.sum_congr rfl fun k _ => ?_))
  exact congr (congrArg (HMul.hMul (α := EReal)) (blockA m c t k r)) (blockB m c t k f)

theorem first_eq (c : Dev nD) (t : Fin cfg0.N) (i : S1024x1024.Idx) :
    k0_pay2 (k0_pay1 (F := Ideal)) (iblk m c 0 t) (iblk m c 1 t) i = 0 + term m c t i :=
  (step_eq m c t (k0_pay1 (F := Ideal)) i).trans
    (congrArg (fun a : EReal => a + term m c t i) ((congrArg _ (eq_ix2 i)).trans (pay_zero (i 0) (i 1))))

theorem out_eq (c : Dev nD) (t : Fin cfg0.N) (i : S1024x1024.Idx) : outsAt0 m c t i = 0 + term m c t i := by
  obtain ⟨r, f, rfl⟩ : ∃ (r : Fin 1024) (f : Fin 1024), i = ix2 r f := ⟨i 0, i 1, eq_ix2 i⟩
  have hp : ∀ p : Vec Ideal S1024x1024 .f32, k0_pay3 p (ix2 r f) = p (ix2 r f) := fun p => by
    pointwise [k0_pay3]
  refine Eq.trans ?_ ((hp _).trans (first_eq m c t (ix2 r f)))
  unfold outsAt0
  frame_out

theorem final (c : Dev nD) : (dats m 0 c).arrAt 2 cfg0.N = prod (arrA m c) (arrB m c) := by
  refine (dats m 0 c).arrAt_eq_of_covers 2 _ (by decide +kernel) fun t hf y => ?_
  obtain ⟨r, f, rfl⟩ : ∃ (r : Fin 1024) (f : Fin 1024), y = ix2 r f := ⟨y 0, y 1, eq_ix2 y⟩
  have hN := pt_lt t
  have e : (((cfg0.win 2).blk t).view.emb (ix2 r f) : S8192x1024.Idx) = ix2 ⟨t.val * 1024 + r.val, by have := pt_lt t; omega⟩ f := by
    blk_ext [geom t]
  refine Eq.trans ?_ (congrArg _ e.symm)
  blk_simp
  rw [after0_2, out_eq, zero_add]
  rfl
theorem ref_prod (a : FVec Ideal S8192x256 .bf16) (b : FVec Ideal S256x1024 .f32) :
    Cert.PcRefIdeal.Read.val_main_v2 (F := Ideal) a b = prod a (truncf .bf16 b bitsLt_bf16_f32) := by
  funext i
  idx_vars i
  unfold prod
  pointwise [Cert.PcRefIdeal.Read.val_main_v0, Cert.PcRefIdeal.Read.val_main_v1, Cert.PcRefIdeal.Read.val_main_v2]

/-- The weights the kernel finds are the host's cast of them. -/
theorem read_b (c : Dev nD) : arrB m c = (truncf .bf16 (m ((c : Thread nD τ).loc main_arg1) : FVec Ideal S256x1024 .f32) bitsLt_bf16_f32) := by
  show V m c main_v0 = _
  unfold_abbrev_sides
  after_results

theorem value (c : Dev nD) : (dats m 0 c).arrAt 2 cfg0.N
    = prod (m ((c : Thread nD τ).loc main_arg0)) (truncf .bf16 (m ((c : Thread nD τ).loc main_arg1) : FVec Ideal S256x1024 .f32) bitsLt_bf16_f32) := by
  refine (final m c).trans ?_
  rw [read_b]
  exact congrArg (fun a => prod a (truncf .bf16 (m ((c : Thread nD τ).loc main_arg1) : FVec Ideal S256x1024 .f32) bitsLt_bf16_f32)) (V_main_arg0 m c)

end Cert.PcIdeal.Value

end
-- ==== Proof.DPcValue.lean ====
/-
  The attention's branch projection's gradient in its input: what the kernel leaves, block by block, is the product of the two arrays it finds.
-/
module

public import proofs.«01_k».proof.Proof.Gen.DPcIdeal.Value
public import proofs.«01_k».proof.Proof.Gen.DPcRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DPcIdeal.Value

open Cert.DPcIdeal Cert.DPcIdeal.Gen

variable (m : (ℓ : Loc nD τ sig) → Buf (Elt Ideal) ℓ) (ρ : Dev nD → PrngReg)

abbrev arrA (c : Dev nD) : FVec Ideal S8192x1024 .bf16 := V m c (Pipeline.arrRef spec0 0)
abbrev arrB (c : Dev nD) : FVec Ideal S256x1024 .bf16 := V m c (Pipeline.arrRef spec0 1)

/-- The product. -/
def prod (a : FVec Ideal S8192x1024 .bf16) (b : FVec Ideal S256x1024 .bf16) : FVec Ideal S8192x256 .f32 := fun i =>
  ∑ k : Fin 1024, a (ix2 (i 0) k) * b (ix2 (i 1) k)

theorem pay_step (acc : Vec Ideal S1024x256 .f32) (a : Vec Ideal S1024x1024 .bf16) (b : Vec Ideal S256x1024 .bf16)
    (r : Fin 1024) (f : Fin 256) :
    k0_pay2 acc a b (ix2 r f) = acc (ix2 r f) + ∑ k : Fin 1024, a (ix2 r k) * b (ix2 f k) := by
  pointwise [k0_pay2]

theorem pay_zero (r : Fin 1024) (f : Fin 256) : k0_pay1 (F := Ideal) (ix2 r f) = 0 := by
  pointwise [k0_pay1]

theorem geom : ∀ t : Fin cfg0.N,
    win0_0.index t = ![t.val, 0] ∧ win0_1.index t = ![0, 0] ∧ win0_2.index t = ![t.val, 0] := by
  decide +kernel

theorem pt_lt (t : Fin cfg0.N) : t.val < 8 := lt_of_lt_of_eq t.isLt N_0

abbrev atK (t : Fin cfg0.N) (k : Fin 1024) : Fin 1024 := k
abbrev atR (t : Fin cfg0.N) (r : Fin 1024) : Fin 8192 := ⟨t.val * 1024 + r.val, by have := pt_lt t; omega⟩
abbrev atC (t : Fin cfg0.N) (f : Fin 256) : Fin 256 := f

theorem blockA (c : Dev nD) (t : Fin cfg0.N) (k : Fin 1024) (r : Fin 1024) :
    (iblk m c 0 t : Vec Ideal S1024x1024 .bf16) (ix2 r k) = arrA m c (ix2 (atR t r) (atK t k)) := by
  blk_ext [iblk, geom t]

theorem blockB (c : Dev nD) (t : Fin cfg0.N) (k : Fin 1024) (f : Fin 256) :
    (iblk m c 1 t : Vec Ideal S256x1024 .bf16) (ix2 f k) = arrB m c (ix2 (atC t f) (atK t k)) := by
  blk_ext [iblk, geom t]

/-- A block of the contracted axis' part of the product. -/
def term (c : Dev nD) (t : Fin cfg0.N) (i : S1024x256.Idx) : EReal :=
  ∑ k : Fin 1024, arrA m c (ix2 (atR t (i 0)) (atK t k)) * arrB m c (ix2 (atC t (i 1)) (atK t k))

theorem step_eq (c : Dev nD) (t : Fin cfg0.N) (acc : Vec Ideal S1024x256 .f32) (i : S1024x256.Idx) :
    k0_pay2 acc (iblk m c 0 t) (iblk m c 1 t) i = HAdd.hAdd (α := EReal) (β := EReal) (γ := EReal) (acc i) (term m c t i) := by
  obtain ⟨r, f, rfl⟩ : ∃ (r : Fin 1024) (f : Fin 256), i = ix2 r f := ⟨i 0, i 1, eq_ix2 i⟩
  refine (pay_step acc _ _ r f).trans (congrArg (HAdd.hAdd (α := EReal) (acc (ix2 r f))) (Finset.sum_congr rfl fun k _ => ?_))
  exact congr (congrArg (HMul.hMul (α := EReal)) (blockA m c t k r)) (blockB m c t k f)

theorem first_eq (c : Dev nD) (t : Fin cfg0.N) (i : S1024x256.Idx) :
    k0_pay2 (k0_pay1 (F := Ideal)) (iblk m c 0 t) (iblk m c 1 t) i = 0 + term m c t i :=
  (step_eq m c t (k0_pay1 (F := Ideal)) i).trans
    (congrArg (fun a : EReal => a + term m c t i) ((congrArg _ (eq_ix2 i)).trans (pay_zero (i 0) (i 1))))

theorem out_eq (c : Dev nD) (t : Fin cfg0.N) (i : S1024x256.Idx) : outsAt0 m c t i = 0 + term m c t i := by
  refine Eq.trans ?_ (first_eq m c t i)
  unfold outsAt0
  frame_out

theorem final (c : Dev nD) : (dats m 0 c).arrAt 2 cfg0.N = prod (arrA m c) (arrB m c) := by
  refine (dats m 0 c).arrAt_eq_of_covers 2 _ (by decide +kernel) fun t hf y => ?_
  obtain ⟨r, f, rfl⟩ : ∃ (r : Fin 1024) (f : Fin 256), y = ix2 r f := ⟨y 0, y 1, eq_ix2 y⟩
  have hN := pt_lt t
  have e : (((cfg0.win 2).blk t).view.emb (ix2 r f) : S8192x256.Idx) = ix2 ⟨t.val * 1024 + r.val, by have := pt_lt t; omega⟩ f := by
    blk_ext [geom t]
  refine Eq.trans ?_ (congrArg _ e.symm)
  blk_simp
  rw [after0_2, out_eq, zero_add]
  rfl
theorem ref_prod (a : FVec Ideal S8192x1024 .bf16) (b : FVec Ideal S256x1024 .f32) :
    Cert.DPcRefIdeal.Read.val_main_v3 (F := Ideal) a b = prod a (truncf .bf16 b bitsLt_bf16_f32) := by
  funext i
  idx_vars i
  unfold prod
  pointwise [Cert.DPcRefIdeal.Read.val_main_v0, Cert.DPcRefIdeal.Read.val_main_v1, Cert.DPcRefIdeal.Read.val_main_v2, Cert.DPcRefIdeal.Read.val_main_v3]

/-- The weights the kernel finds are the host's cast of them. -/
theorem read_b (c : Dev nD) : arrB m c = (truncf .bf16 (m ((c : Thread nD τ).loc main_arg1) : FVec Ideal S256x1024 .f32) bitsLt_bf16_f32) := by
  show V m c main_v0 = _
  unfold_abbrev_sides
  after_results

theorem value (c : Dev nD) : (dats m 0 c).arrAt 2 cfg0.N
    = prod (m ((c : Thread nD τ).loc main_arg0)) (truncf .bf16 (m ((c : Thread nD τ).loc main_arg1) : FVec Ideal S256x1024 .f32) bitsLt_bf16_f32) := by
  refine (final m c).trans ?_
  rw [read_b]
  exact congrArg (fun a => prod a (truncf .bf16 (m ((c : Thread nD τ).loc main_arg1) : FVec Ideal S256x1024 .f32) bitsLt_bf16_f32)) (V_main_arg0 m c)

end Cert.DPcIdeal.Value

end
-- ==== Proof.DWpcValue.lean ====
/-
  The attention's branch projection's weight product: what the kernel leaves, block by block, is the product of the two arrays it finds.
-/
module

public import proofs.«01_k».proof.Proof.Gen.DWpcIdeal.Value
public import proofs.«01_k».proof.Proof.Gen.DWpcRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DWpcIdeal.Value

open Cert.DWpcIdeal Cert.DWpcIdeal.Gen

variable (m : (ℓ : Loc nD τ sig) → Buf (Elt Ideal) ℓ) (ρ : Dev nD → PrngReg)

abbrev arrA (c : Dev nD) : FVec Ideal S8192x256 .bf16 := V m c (Pipeline.arrRef spec0 0)
abbrev arrB (c : Dev nD) : FVec Ideal S8192x1024 .bf16 := V m c (Pipeline.arrRef spec0 1)

/-- The product. -/
def prod (a : FVec Ideal S8192x256 .bf16) (b : FVec Ideal S8192x1024 .bf16) : FVec Ideal S256x1024 .f32 := fun i =>
  ∑ k : Fin 8192, a (ix2 k (i 0)) * b (ix2 k (i 1))

theorem pay_step (acc : Vec Ideal S256x1024 .f32) (a : Vec Ideal S2048x256 .bf16) (b : Vec Ideal S2048x1024 .bf16)
    (r : Fin 256) (f : Fin 1024) :
    k0_pay2 acc a b (ix2 r f) = acc (ix2 r f) + ∑ k : Fin 2048, a (ix2 k r) * b (ix2 k f) := by
  pointwise [k0_pay2]

theorem pay_zero (r : Fin 256) (f : Fin 1024) : k0_pay1 (F := Ideal) (ix2 r f) = 0 := by
  pointwise [k0_pay1]

theorem geom : ∀ t : Fin cfg0.N,
    win0_0.index t = ![t.val % 4, 0] ∧ win0_1.index t = ![t.val % 4, 0] ∧ win0_2.index t = ![0, 0] := by
  decide +kernel

theorem pt_lt (t : Fin cfg0.N) : t.val < 4 := lt_of_lt_of_eq t.isLt N_0

abbrev atK (t : Fin cfg0.N) (k : Fin 2048) : Fin 8192 := ⟨t.val % 4 * 2048 + k.val, by have := pt_lt t; omega⟩
abbrev atR (t : Fin cfg0.N) (r : Fin 256) : Fin 256 := r
abbrev atC (t : Fin cfg0.N) (f : Fin 1024) : Fin 1024 := f

theorem blockA (c : Dev nD) (t : Fin cfg0.N) (k : Fin 2048) (r : Fin 256) :
    (iblk m c 0 t : Vec Ideal S2048x256 .bf16) (ix2 k r) = arrA m c (ix2 (atK t k) (atR t r)) := by
  blk_ext [iblk, geom t]

theorem blockB (c : Dev nD) (t : Fin cfg0.N) (k : Fin 2048) (f : Fin 1024) :
    (iblk m c 1 t : Vec Ideal S2048x1024 .bf16) (ix2 k f) = arrB m c (ix2 (atK t k) (atC t f)) := by
  blk_ext [iblk, geom t]

/-- A block of the contracted axis' part of the product. -/
def term (c : Dev nD) (t : Fin cfg0.N) (i : S256x1024.Idx) : EReal :=
  ∑ k : Fin 2048, arrA m c (ix2 (atK t k) (atR t (i 0))) * arrB m c (ix2 (atK t k) (atC t (i 1)))

theorem step_eq (c : Dev nD) (t : Fin cfg0.N) (acc : Vec Ideal S256x1024 .f32) (i : S256x1024.Idx) :
    k0_pay2 acc (iblk m c 0 t) (iblk m c 1 t) i = HAdd.hAdd (α := EReal) (β := EReal) (γ := EReal) (acc i) (term m c t i) := by
  obtain ⟨r, f, rfl⟩ : ∃ (r : Fin 256) (f : Fin 1024), i = ix2 r f := ⟨i 0, i 1, eq_ix2 i⟩
  refine (pay_step acc _ _ r f).trans (congrArg (HAdd.hAdd (α := EReal) (acc (ix2 r f))) (Finset.sum_congr rfl fun k _ => ?_))
  exact congr (congrArg (HMul.hMul (α := EReal)) (blockA m c t k r)) (blockB m c t k f)

theorem first_eq (c : Dev nD) (t : Fin cfg0.N) (i : S256x1024.Idx) :
    k0_pay2 (k0_pay1 (F := Ideal)) (iblk m c 0 t) (iblk m c 1 t) i = 0 + term m c t i :=
  (step_eq m c t (k0_pay1 (F := Ideal)) i).trans
    (congrArg (fun a : EReal => a + term m c t i) ((congrArg _ (eq_ix2 i)).trans (pay_zero (i 0) (i 1))))

theorem acc_first (c : Dev nD) (t : Fin cfg0.N) (h : t.val % 4 = 0) (i : S256x1024.Idx) :
    (outsAt0 m c t.val t.isLt).2 i = 0 + term m c t i := by
  rw [outsAt0_A m c t h (by omega)]
  refine Eq.trans ?_ (first_eq m c t i)
  frame_out

theorem acc_next (c : Dev nD) (t : Fin cfg0.N) (h : ¬t.val % 4 = 0) (i : S256x1024.Idx) :
    (outsAt0 m c t.val t.isLt).2 i
      = (outsAt0 m c (t.val - 1) (Nat.lt_of_le_of_lt (Nat.sub_le _ _) t.isLt)).2 i + term m c t i := by
  refine Eq.trans ?_ (step_eq m c t _ i)
  by_cases hl : t.val % 4 = 3
  · rw [outsAt0_C m c t h hl]
    frame_out
    rw [read_unread_whole]
  · rw [outsAt0_B m c t h hl]
    frame_out
    rw [read_unread_whole]

theorem out_last (c : Dev nD) (t : Fin cfg0.N) (h : t.val % 4 = 3) :
    (outsAt0 m c t.val t.isLt).1 = (outsAt0 m c t.val t.isLt).2 := by
  rw [outsAt0_C m c t (by omega) h]
  frame_out

theorem final (c : Dev nD) : (dats m 0 c).arrAt 2 cfg0.N = prod (arrA m c) (arrB m c) := by
  refine (dats m 0 c).arrAt_eq_of_covers 2 _ (by decide +kernel) fun t hf y => ?_
  obtain ⟨r, f, rfl⟩ : ∃ (r : Fin 256) (f : Fin 1024), y = ix2 r f := ⟨y 0, y 1, eq_ix2 y⟩
  have hN := pt_lt t
  have e : (((cfg0.win 2).blk t).view.emb (ix2 r f) : S256x1024.Idx) = ix2 r f := by
    blk_ext [geom t]
  have hl : t.val % 4 = 3 := (flush0_2 t).mp hf
  refine Eq.trans ?_ (congrArg _ e.symm)
  blk_simp
  rw [after0_2, out_last m c t hl]
  refine (Pipeline.eq_sum_fin_of_reset_step_apply_of_flush (M := EReal) (fun n h => (outsAt0 m c n h).2) 4 (fun _ => 0) (term m c)
    (acc_first m c) (acc_next m c) t hl (ix2 r f)).trans ?_
  rw [zero_add]
  unfold term prod
  refine Fin.sum_mul_add_congr fun s k hl' => ?_
  have e1 : atK ⟨4 * (t.val / 4) + s.val, Pipeline.run_point_lt_of_flush t hl s⟩ k = ⟨s.val * 2048 + k.val, hl'⟩ := Fin.ext (by
    show (4 * (t.val / 4) + s.val) % 4 * 2048 + k.val = s.val * 2048 + k.val; omega)
  show arrA m c (ix2 (atK _ k) (atR _ r)) * arrB m c (ix2 (atK _ k) (atC _ f)) = _
  rw [e1]
  rfl
theorem ref_prod (a : FVec Ideal S8192x256 .bf16) (b : FVec Ideal S8192x1024 .bf16) :
    Cert.DWpcRefIdeal.Read.val_main_v5 (F := Ideal) a b = prod a b := by
  funext i
  idx_vars i
  unfold prod
  pointwise [Cert.DWpcRefIdeal.Read.val_main_v0, Cert.DWpcRefIdeal.Read.val_main_v1, Cert.DWpcRefIdeal.Read.val_main_v2, Cert.DWpcRefIdeal.Read.val_main_v3, Cert.DWpcRefIdeal.Read.val_main_v4, Cert.DWpcRefIdeal.Read.val_main_v5]
  exact Finset.sum_congr rfl fun t _ => mul_comm _ _

theorem value (c : Dev nD) : (dats m 0 c).arrAt 2 cfg0.N
    = prod (m ((c : Thread nD τ).loc main_arg0)) (m ((c : Thread nD τ).loc main_arg1)) := by
  refine (final m c).trans ?_
  rfl

end Cert.DWpcIdeal.Value

end
-- ==== Proof.GatesValue.lean ====
/-
  The gated sum of the three branches: every entry is `σ(p₀ + b₀) y₀ + σ(p₁ + b₁) y₁ + σ(p₂ + b₂) y₂`, in the kernel's
  blocks (`pay_row`) and in the reference's array (`ref_res`).
-/
module

public import proofs.«01_k».proof.Proof.Gen.GatesIdeal.Value
public import proofs.«01_k».proof.Proof.Gen.GatesRefIdeal.Read
public import proofs.«01_k».proof.Proof.DnOutValue
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GatesIdeal.Value

open Cert.GatesIdeal Cert.GatesIdeal.Gen
open Cert.DnOutIdeal.Value (sigm)

variable (m : (ℓ : Loc nD τ sig) → Buf (Elt Ideal) ℓ) (ρ : Dev nD → PrngReg)

/-- Branch `k`'s column `l` among the projected columns and in the bias. -/
def inP (k : Fin 3) (l : Fin 1024) : Fin 8064 := ⟨k.val * 1024 + l.val, by omega⟩
def inB (k : Fin 3) (l : Fin 1024) : Fin 3072 := ⟨k.val * 1024 + l.val, by omega⟩

/-- The sum of the gated branches. -/
def res (P : FVec Ideal S8192x8064 .bf16) (y0 y1 y2 : FVec Ideal S8192x1024 .bf16) (b : FVec Ideal S3072 .f32) : FVec Ideal S8192x1024 .bf16 := fun i =>
  sigm (P (ix2 (i 0) (inP 0 (i 1))) + b (ix1 (inB 0 (i 1)))) * y0 (ix2 (i 0) (i 1))
    + sigm (P (ix2 (i 0) (inP 1 (i 1))) + b (ix1 (inB 1 (i 1)))) * y1 (ix2 (i 0) (i 1))
    + sigm (P (ix2 (i 0) (inP 2 (i 1))) + b (ix1 (inB 2 (i 1)))) * y2 (ix2 (i 0) (i 1))

theorem pay_row (p0 p1 p2 y0 y1 y2 : Vec Ideal S512x1024 .bf16) (b0 b1 b2 : Vec Ideal S1x1024 .f32) (r : Fin 512) (l : Fin 1024) :
    k0_pay1 (k0_pay2 b2) (k0_pay3 p2) (k0_pay4 y1) (k0_pay5 y2) (k0_pay6 p0 y0 b0) (k0_pay7 p1 b1)
        (Scalar.ofBits (F := Ideal) .f32 0x3F800000#32) (ix2 r l)
      = sigm (p0 (ix2 r l) + b0 (ix2 0 l)) * y0 (ix2 r l) + sigm (p1 (ix2 r l) + b1 (ix2 0 l)) * y1 (ix2 r l)
        + sigm (p2 (ix2 r l) + b2 (ix2 0 l)) * y2 (ix2 r l) := by
  unfold sigm
  pointwise [k0_pay1, k0_pay2, k0_pay3, k0_pay4, k0_pay5, k0_pay6, k0_pay7]
  simp only [zero_sub]

theorem geom : ∀ t : Fin cfg0.N,
    win0_0.index t = ![t.val, 0] ∧ win0_1.index t = ![t.val, 1] ∧ win0_2.index t = ![t.val, 2]
    ∧ win0_3.index t = ![t.val, 0] ∧ win0_4.index t = ![t.val, 0] ∧ win0_5.index t = ![t.val, 0]
    ∧ win0_6.index t = ![0, 0] ∧ win0_7.index t = ![0, 0] ∧ win0_8.index t = ![0, 0] ∧ win0_9.index t = ![t.val, 0] := by
  decide +kernel

theorem pt_lt (t : Fin cfg0.N) : t.val < 16 := lt_of_lt_of_eq t.isLt N_0

/-- The token of row `r` of point `t`'s blocks. -/
abbrev tk (t : Fin cfg0.N) (r : Fin 512) : Fin 8192 := ⟨t.val * 512 + r.val, by have := pt_lt t; omega⟩

abbrev argP (c : Dev nD) : FVec Ideal S8192x8064 .bf16 := m (c.tc.loc main_arg0)
abbrev argY0 (c : Dev nD) : FVec Ideal S8192x1024 .bf16 := m (c.tc.loc main_arg1)
abbrev argY1 (c : Dev nD) : FVec Ideal S8192x1024 .bf16 := m (c.tc.loc main_arg2)
abbrev argY2 (c : Dev nD) : FVec Ideal S8192x1024 .bf16 := m (c.tc.loc main_arg3)
abbrev argB (c : Dev nD) : FVec Ideal S3072 .f32 := m (c.tc.loc main_arg4)

theorem blockP0 (c : Dev nD) (t : Fin cfg0.N) (r : Fin 512) (l : Fin 1024) :
    (X0_0 m c t : Vec Ideal S512x1024 .bf16) (ix2 r l) = argP m c (ix2 (tk t r) (inP 0 l)) := by
  unfold X0_0 Pipeline.Window.fill
  rw [dif_pos (moved0_0 t _)]
  blk_ext [iblk, V, geom t]
  all_goals
    change _ = 0 * 1024 + l.val
    omega

theorem blockP1 (c : Dev nD) (t : Fin cfg0.N) (r : Fin 512) (l : Fin 1024) :
    (X0_1 m c t : Vec Ideal S512x1024 .bf16) (ix2 r l) = argP m c (ix2 (tk t r) (inP 1 l)) := by
  unfold X0_1 Pipeline.Window.fill
  rw [dif_pos (moved0_1 t _)]
  blk_ext [iblk, V, geom t]
  all_goals
    change _ = 1 * 1024 + l.val
    omega

theorem blockP2 (c : Dev nD) (t : Fin cfg0.N) (r : Fin 512) (l : Fin 1024) :
    (X0_2 m c t : Vec Ideal S512x1024 .bf16) (ix2 r l) = argP m c (ix2 (tk t r) (inP 2 l)) := by
  unfold X0_2 Pipeline.Window.fill
  rw [dif_pos (moved0_2 t _)]
  blk_ext [iblk, V, geom t]
  all_goals
    change _ = 2 * 1024 + l.val
    omega

theorem blockY0 (c : Dev nD) (t : Fin cfg0.N) (r : Fin 512) (l : Fin 1024) :
    (iblk m c 3 t : Vec Ideal S512x1024 .bf16) (ix2 r l) = argY0 m c (ix2 (tk t r) l) := by
  blk_ext [iblk, V, geom t]

theorem blockY1 (c : Dev nD) (t : Fin cfg0.N) (r : Fin 512) (l : Fin 1024) :
    (iblk m c 4 t : Vec Ideal S512x1024 .bf16) (ix2 r l) = argY1 m c (ix2 (tk t r) l) := by
  blk_ext [iblk, V, geom t]

theorem blockY2 (c : Dev nD) (t : Fin cfg0.N) (r : Fin 512) (l : Fin 1024) :
    (iblk m c 5 t : Vec Ideal S512x1024 .bf16) (ix2 r l) = argY2 m c (ix2 (tk t r) l) := by
  blk_ext [iblk, V, geom t]

theorem read_v1 (c : Dev nD) :
    V m c main_v1 = extractStridedSlice S1x1024 ![0, 0] (shapeCast S3x1024 (argB m c) shapeCasts_S3072_S3x1024) slices_S3x1024_S1x1024_0_0 := by
  unfold_abbrev_sides
  after_results
  rfl

theorem blockB0 (c : Dev nD) (t : Fin cfg0.N) (l : Fin 1024) :
    (iblk m c 6 t : Vec Ideal S1x1024 .f32) (ix2 0 l) = argB m c (ix1 (inB 0 l)) := by
  have e : (extractStridedSlice S1x1024 ![0, 0] (shapeCast S3x1024 (argB m c) shapeCasts_S3072_S3x1024) slices_S3x1024_S1x1024_0_0)
      (ix2 (0 : Fin 1) l) = argB m c (ix1 (inB 0 l)) := by
    pointwise []
    refine congrArg _ (congrArg ix1 (Fin.ext ?_))
    change _ = 0 * 1024 + l.val
    dsimp only <;> omega
  refine Eq.trans ?_ ((congrFun (read_v1 m c) _).trans e)
  blk_ext [iblk, geom t]

theorem read_v2 (c : Dev nD) :
    V m c main_v2 = extractStridedSlice S1x1024 ![1, 0] (shapeCast S3x1024 (argB m c) shapeCasts_S3072_S3x1024) slices_S3x1024_S1x1024_1_0 := by
  unfold_abbrev_sides
  after_results
  rfl

theorem blockB1 (c : Dev nD) (t : Fin cfg0.N) (l : Fin 1024) :
    (iblk m c 7 t : Vec Ideal S1x1024 .f32) (ix2 0 l) = argB m c (ix1 (inB 1 l)) := by
  have e : (extractStridedSlice S1x1024 ![1, 0] (shapeCast S3x1024 (argB m c) shapeCasts_S3072_S3x1024) slices_S3x1024_S1x1024_1_0)
      (ix2 (0 : Fin 1) l) = argB m c (ix1 (inB 1 l)) := by
    pointwise []
    refine congrArg _ (congrArg ix1 (Fin.ext ?_))
    change _ = 1 * 1024 + l.val
    dsimp only <;> omega
  refine Eq.trans ?_ ((congrFun (read_v2 m c) _).trans e)
  blk_ext [iblk, geom t]

theorem read_v3 (c : Dev nD) :
    V m c main_v3 = extractStridedSlice S1x1024 ![2, 0] (shapeCast S3x1024 (argB m c) shapeCasts_S3072_S3x1024) slices_S3x1024_S1x1024_2_0 := by
  unfold_abbrev_sides
  after_results
  rfl

theorem blockB2 (c : Dev nD) (t : Fin cfg0.N) (l : Fin 1024) :
    (iblk m c 8 t : Vec Ideal S1x1024 .f32) (ix2 0 l) = argB m c (ix1 (inB 2 l)) := by
  have e : (extractStridedSlice S1x1024 ![2, 0] (shapeCast S3x1024 (argB m c) shapeCasts_S3072_S3x1024) slices_S3x1024_S1x1024_2_0)
      (ix2 (0 : Fin 1) l) = argB m c (ix1 (inB 2 l)) := by
    pointwise []
    refine congrArg _ (congrArg ix1 (Fin.ext ?_))
    change _ = 2 * 1024 + l.val
    dsimp only <;> omega
  refine Eq.trans ?_ ((congrFun (read_v3 m c) _).trans e)
  blk_ext [iblk, geom t]

theorem final (c : Dev nD) : (dats m 0 c).arrAt 9 cfg0.N = res (argP m c) (argY0 m c) (argY1 m c) (argY2 m c) (argB m c) := by
  refine (dats m 0 c).arrAt_eq_of_covers 9 _ (by decide +kernel) fun t hf y => ?_
  obtain ⟨r, l, rfl⟩ : ∃ (r : Fin 512) (l : Fin 1024), y = ix2 r l := ⟨y 0, y 1, eq_ix2 y⟩
  have e : (((cfg0.win 9).blk t).view.emb (ix2 r l) : S8192x1024.Idx) = ix2 (tk t r) l := by blk_ext [geom t]
  refine Eq.trans ?_ (congrArg _ e.symm)
  blk_simp
  rw [after0_9]
  refine Eq.trans ?_ ((pay_row (X0_0 m c t) (X0_1 m c t) (X0_2 m c t) (iblk m c 3 t) (iblk m c 4 t) (iblk m c 5 t) (iblk m c 6 t)
    (iblk m c 7 t) (iblk m c 8 t) r l).trans ?_)
  · unfold outsAt0
    frame_out
  · rw [blockP0, blockP1, blockP2, blockY0, blockY1, blockY2, blockB0, blockB1, blockB2]
    rfl

section Reference

open Cert.GatesRefIdeal.Read

theorem ref_res (P : FVec Ideal S8192x8064 .bf16) (y0 y1 y2 : FVec Ideal S8192x1024 .bf16) (b : FVec Ideal S3072 .f32) :
    val_main_v26 (F := Ideal) P y0 y1 y2 b = res P y0 y1 y2 b := by
  funext i
  idx_vars i
  unfold res sigm inP inB
  pointwise [val_main_v0, val_main_v1, val_main_v2, val_main_v3, val_main_v4, val_main_v5, val_main_v6, val_main_v7,
    val_main_v8, val_main_v9, val_main_cst, val_main_v10, val_main_v11, val_main_cst_0, val_main_v12,
    val_main_v13, val_main_v14, val_main_v15, val_main_v16, val_main_v17, val_main_v18, val_main_v19,
    val_main_v20, val_main_v21, val_main_v22, val_main_v23, val_main_v24, val_main_v25, val_main_v26]

end Reference

end Cert.GatesIdeal.Value

end
-- ==== Proof.GatesBValue.lean ====
/-
  The gradient of the gated sum of the three branches: with `z = p + b`, a branch's gate has gradient `ct y σ(z) (1 - σ(z))`
  (`dGate`), the branch `ct σ(z)` (`dBranch`) and the bias the sum of the gate's gradient over the rows. The kernel's blocks
  hold these (`pay_gate…`, `pay_branch…`, `pay_bias…`), the bias' summed over sixteen blocks of 512 rows, and so do the
  reference's nine arrays (`ref_gate…`, `ref_branch…`, `ref_bias…`). No hypothesis on the arguments.
-/
module

public import proofs.«01_k».proof.Proof.Gen.GatesBIdeal.Value
public import proofs.«01_k».proof.Proof.Gen.GatesBRefIdeal.Read
public import proofs.«01_k».proof.Proof.GatesValue
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GatesBIdeal.Value

open Cert.GatesBIdeal Cert.GatesBIdeal.Gen
open Cert.DnOutIdeal.Value (sigm sigm_deriv)
open Cert.GatesIdeal.Value (inP inB)

variable (m : (ℓ : Loc nD τ sig) → Buf (Elt Ideal) ℓ) (ρ : Dev nD → PrngReg)

def dGate (p b y ct : EReal) : EReal := ct * y * (sigm (p + b) * (1 - sigm (p + b)))
def dBranch (p b ct : EReal) : EReal := sigm (p + b) * ct

/-! ## The nine arrays, three of each kind -/

section Arrays

variable (k : Fin 3) (P : FVec Ideal S8192x8064 .bf16) (y : FVec Ideal S8192x1024 .bf16) (b : FVec Ideal S3072 .f32)
  (ct : FVec Ideal S8192x1024 .bf16)

/-- The gradient of branch `k`'s gate at a token and a column. -/
def at' (t : Fin 8192) (l : Fin 1024) : EReal := dGate (P (ix2 t (inP k l))) (b (ix1 (inB k l))) (y (ix2 t l)) (ct (ix2 t l))

def outP : FVec Ideal S8192x1024 .bf16 := fun i => at' k P y b ct (i 0) (i 1)
def outY : FVec Ideal S8192x1024 .bf16 := fun i => dBranch (P (ix2 (i 0) (inP k (i 1)))) (b (ix1 (inB k (i 1)))) (ct (ix2 (i 0) (i 1)))
def outB : FVec Ideal S1x1024 .f32 := fun i => ∑ t : Fin 8192, at' k P y b ct t (i 1)

end Arrays

/-! ## The payloads -/

section Payloads

variable (p y ct : Vec Ideal S512x1024 .bf16) (b : Vec Ideal S1x1024 .f32)

theorem pay_gate0 (r : Fin 512) (l : Fin 1024) :
    k0_pay26 (k0_pay5 y) (k0_pay8 p b) (k0_pay11 p b) (k0_pay16 ct) (ix2 r l)
      = dGate (p (ix2 r l)) (b (ix2 0 l)) (y (ix2 r l)) (ct (ix2 r l)) := by
  unfold dGate
  rw [← sigm_deriv]
  pointwise [k0_pay3, k0_pay4, k0_pay5, k0_pay6, k0_pay7, k0_pay8, k0_pay9, k0_pay10, k0_pay11, k0_pay12, k0_pay13, k0_pay14, k0_pay15, k0_pay16,
    k0_pay17, k0_pay18, k0_pay19, k0_pay20, k0_pay21, k0_pay22, k0_pay23, k0_pay24, k0_pay25, k0_pay26, k0_pay27, k0_pay28, k0_pay29, k0_pay30, k0_pay31]
  simp only [zero_sub, mul_one]

theorem pay_branch0 (r : Fin 512) (l : Fin 1024) :
    k0_pay29 (k0_pay10 p b) (k0_pay16 ct) (ix2 r l)
      = dBranch (p (ix2 r l)) (b (ix2 0 l)) (ct (ix2 r l)) := by
  unfold dBranch sigm
  pointwise [k0_pay3, k0_pay4, k0_pay5, k0_pay6, k0_pay7, k0_pay8, k0_pay9, k0_pay10, k0_pay11, k0_pay12, k0_pay13, k0_pay14, k0_pay15, k0_pay16,
    k0_pay17, k0_pay18, k0_pay19, k0_pay20, k0_pay21, k0_pay22, k0_pay23, k0_pay24, k0_pay25, k0_pay26, k0_pay27, k0_pay28, k0_pay29, k0_pay30, k0_pay31]
  simp only [zero_sub]

theorem pay_bias0 (u : Fin 1) (l : Fin 1024) :
    k0_pay25 (k0_pay5 y) (k0_pay8 p b) (k0_pay11 p b) (k0_pay16 ct) (ix2 u l)
      = ∑ r : Fin 512, dGate (p (ix2 r l)) (b (ix2 0 l)) (y (ix2 r l)) (ct (ix2 r l)) := by
  unfold dGate
  simp only [← sigm_deriv]
  pointwise [k0_pay3, k0_pay4, k0_pay5, k0_pay6, k0_pay7, k0_pay8, k0_pay9, k0_pay10, k0_pay11, k0_pay12, k0_pay13, k0_pay14, k0_pay15, k0_pay16,
    k0_pay17, k0_pay18, k0_pay19, k0_pay20, k0_pay21, k0_pay22, k0_pay23, k0_pay24, k0_pay25, k0_pay26, k0_pay27, k0_pay28, k0_pay29, k0_pay30, k0_pay31]
  simp only [zero_sub, mul_one]

theorem pay_gate1 (r : Fin 512) (l : Fin 1024) :
    k0_pay27 (k0_pay21 (k0_pay6 y) (k0_pay12 p b) (Scalar.ofBits (F := Ideal) .f32 0x3F800000#32) ct) (ix2 r l)
      = dGate (p (ix2 r l)) (b (ix2 0 l)) (y (ix2 r l)) (ct (ix2 r l)) := by
  unfold dGate
  rw [← sigm_deriv]
  pointwise [k0_pay3, k0_pay4, k0_pay5, k0_pay6, k0_pay7, k0_pay8, k0_pay9, k0_pay10, k0_pay11, k0_pay12, k0_pay13, k0_pay14, k0_pay15, k0_pay16,
    k0_pay17, k0_pay18, k0_pay19, k0_pay20, k0_pay21, k0_pay22, k0_pay23, k0_pay24, k0_pay25, k0_pay26, k0_pay27, k0_pay28, k0_pay29, k0_pay30, k0_pay31]
  simp only [zero_sub, mul_one]

theorem pay_branch1 (r : Fin 512) (l : Fin 1024) :
    k0_pay30 (k0_pay20 (k0_pay12 p b) (Scalar.ofBits (F := Ideal) .f32 0x3F800000#32) ct) (ix2 r l)
      = dBranch (p (ix2 r l)) (b (ix2 0 l)) (ct (ix2 r l)) := by
  unfold dBranch sigm
  pointwise [k0_pay3, k0_pay4, k0_pay5, k0_pay6, k0_pay7, k0_pay8, k0_pay9, k0_pay10, k0_pay11, k0_pay12, k0_pay13, k0_pay14, k0_pay15, k0_pay16,
    k0_pay17, k0_pay18, k0_pay19, k0_pay20, k0_pay21, k0_pay22, k0_pay23, k0_pay24, k0_pay25, k0_pay26, k0_pay27, k0_pay28, k0_pay29, k0_pay30, k0_pay31]
  simp only [zero_sub]

theorem pay_bias1 (u : Fin 1) (l : Fin 1024) :
    k0_pay23 (k0_pay22 (k0_pay6 y) (k0_pay12 p b) (Scalar.ofBits (F := Ideal) .f32 0x3F800000#32) ct) (ix2 u l)
      = ∑ r : Fin 512, dGate (p (ix2 r l)) (b (ix2 0 l)) (y (ix2 r l)) (ct (ix2 r l)) := by
  unfold dGate
  simp only [← sigm_deriv]
  pointwise [k0_pay3, k0_pay4, k0_pay5, k0_pay6, k0_pay7, k0_pay8, k0_pay9, k0_pay10, k0_pay11, k0_pay12, k0_pay13, k0_pay14, k0_pay15, k0_pay16,
    k0_pay17, k0_pay18, k0_pay19, k0_pay20, k0_pay21, k0_pay22, k0_pay23, k0_pay24, k0_pay25, k0_pay26, k0_pay27, k0_pay28, k0_pay29, k0_pay30, k0_pay31]
  simp only [zero_sub, mul_one]

theorem pay_gate2 (r : Fin 512) (l : Fin 1024) :
    k0_pay28 (k0_pay18 (k0_pay3 b) (k0_pay4 p) (k0_pay7 y) ct) (ix2 r l)
      = dGate (p (ix2 r l)) (b (ix2 0 l)) (y (ix2 r l)) (ct (ix2 r l)) := by
  unfold dGate
  rw [← sigm_deriv]
  pointwise [k0_pay3, k0_pay4, k0_pay5, k0_pay6, k0_pay7, k0_pay8, k0_pay9, k0_pay10, k0_pay11, k0_pay12, k0_pay13, k0_pay14, k0_pay15, k0_pay16,
    k0_pay17, k0_pay18, k0_pay19, k0_pay20, k0_pay21, k0_pay22, k0_pay23, k0_pay24, k0_pay25, k0_pay26, k0_pay27, k0_pay28, k0_pay29, k0_pay30, k0_pay31]
  simp only [zero_sub, mul_one]

theorem pay_branch2 (r : Fin 512) (l : Fin 1024) :
    k0_pay31 (k0_pay17 (k0_pay3 b) (k0_pay4 p) ct) (ix2 r l)
      = dBranch (p (ix2 r l)) (b (ix2 0 l)) (ct (ix2 r l)) := by
  unfold dBranch sigm
  pointwise [k0_pay3, k0_pay4, k0_pay5, k0_pay6, k0_pay7, k0_pay8, k0_pay9, k0_pay10, k0_pay11, k0_pay12, k0_pay13, k0_pay14, k0_pay15, k0_pay16,
    k0_pay17, k0_pay18, k0_pay19, k0_pay20, k0_pay21, k0_pay22, k0_pay23, k0_pay24, k0_pay25, k0_pay26, k0_pay27, k0_pay28, k0_pay29, k0_pay30, k0_pay31]
  simp only [zero_sub]

theorem pay_bias2 (u : Fin 1) (l : Fin 1024) :
    k0_pay19 (k0_pay3 b) (k0_pay4 p) (k0_pay7 y) ct (ix2 u l)
      = ∑ r : Fin 512, dGate (p (ix2 r l)) (b (ix2 0 l)) (y (ix2 r l)) (ct (ix2 r l)) := by
  unfold dGate
  simp only [← sigm_deriv]
  pointwise [k0_pay3, k0_pay4, k0_pay5, k0_pay6, k0_pay7, k0_pay8, k0_pay9, k0_pay10, k0_pay11, k0_pay12, k0_pay13, k0_pay14, k0_pay15, k0_pay16,
    k0_pay17, k0_pay18, k0_pay19, k0_pay20, k0_pay21, k0_pay22, k0_pay23, k0_pay24, k0_pay25, k0_pay26, k0_pay27, k0_pay28, k0_pay29, k0_pay30, k0_pay31]
  simp only [zero_sub, mul_one]

end Payloads

/-! ## The blocks -/

theorem geom : ∀ t : Fin cfg0.N,
    win0_0.index t = ![t.val, 0] ∧ win0_1.index t = ![t.val, 1] ∧ win0_2.index t = ![t.val, 2]
    ∧ win0_3.index t = ![t.val, 0] ∧ win0_4.index t = ![t.val, 0] ∧ win0_5.index t = ![t.val, 0]
    ∧ win0_6.index t = ![0, 0] ∧ win0_7.index t = ![0, 0] ∧ win0_8.index t = ![0, 0] ∧ win0_9.index t = ![t.val, 0]
    ∧ win0_10.index t = ![t.val, 0] ∧ win0_11.index t = ![t.val, 0] ∧ win0_12.index t = ![t.val, 0]
    ∧ win0_13.index t = ![t.val, 0] ∧ win0_14.index t = ![t.val, 0] ∧ win0_15.index t = ![t.val, 0]
    ∧ win0_16.index t = ![0, 0] ∧ win0_17.index t = ![0, 0] ∧ win0_18.index t = ![0, 0] := by
  decide +kernel

theorem pt_lt (t : Fin cfg0.N) : t.val < 16 := lt_of_lt_of_eq t.isLt N_0

/-- The token of row `r` of point `t`'s blocks. -/
abbrev tk (t : Fin cfg0.N) (r : Fin 512) : Fin 8192 := ⟨t.val * 512 + r.val, by have := pt_lt t; omega⟩

abbrev argP (c : Dev nD) : FVec Ideal S8192x8064 .bf16 := m (c.tc.loc main_arg0)
abbrev argY0 (c : Dev nD) : FVec Ideal S8192x1024 .bf16 := m (c.tc.loc main_arg1)
abbrev argY1 (c : Dev nD) : FVec Ideal S8192x1024 .bf16 := m (c.tc.loc main_arg2)
abbrev argY2 (c : Dev nD) : FVec Ideal S8192x1024 .bf16 := m (c.tc.loc main_arg3)
abbrev argB (c : Dev nD) : FVec Ideal S3072 .f32 := m (c.tc.loc main_arg4)
abbrev argC (c : Dev nD) : FVec Ideal S8192x1024 .bf16 := m (c.tc.loc main_arg5)

theorem blockP0 (c : Dev nD) (t : Fin cfg0.N) (r : Fin 512) (l : Fin 1024) :
    (X0_0 m c t : Vec Ideal S512x1024 .bf16) (ix2 r l) = argP m c (ix2 (tk t r) (inP 0 l)) := by
  unfold X0_0 Pipeline.Window.fill
  rw [dif_pos (moved0_0 t _)]
  blk_ext [iblk, V, geom t]
  all_goals
    change _ = 0 * 1024 + l.val
    omega

theorem blockP1 (c : Dev nD) (t : Fin cfg0.N) (r : Fin 512) (l : Fin 1024) :
    (X0_1 m c t : Vec Ideal S512x1024 .bf16) (ix2 r l) = argP m c (ix2 (tk t r) (inP 1 l)) := by
  unfold X0_1 Pipeline.Window.fill
  rw [dif_pos (moved0_1 t _)]
  blk_ext [iblk, V, geom t]
  all_goals
    change _ = 1 * 1024 + l.val
    omega

theorem blockP2 (c : Dev nD) (t : Fin cfg0.N) (r : Fin 512) (l : Fin 1024) :
    (X0_2 m c t : Vec Ideal S512x1024 .bf16) (ix2 r l) = argP m c (ix2 (tk t r) (inP 2 l)) := by
  unfold X0_2 Pipeline.Window.fill
  rw [dif_pos (moved0_2 t _)]
  blk_ext [iblk, V, geom t]
  all_goals
    change _ = 2 * 1024 + l.val
    omega

theorem blockY0 (c : Dev nD) (t : Fin cfg0.N) (r : Fin 512) (l : Fin 1024) :
    (iblk m c 3 t : Vec Ideal S512x1024 .bf16) (ix2 r l) = argY0 m c (ix2 (tk t r) l) := by
  blk_ext [iblk, V, geom t]

theorem blockY1 (c : Dev nD) (t : Fin cfg0.N) (r : Fin 512) (l : Fin 1024) :
    (iblk m c 4 t : Vec Ideal S512x1024 .bf16) (ix2 r l) = argY1 m c (ix2 (tk t r) l) := by
  blk_ext [iblk, V, geom t]

theorem blockY2 (c : Dev nD) (t : Fin cfg0.N) (r : Fin 512) (l : Fin 1024) :
    (iblk m c 5 t : Vec Ideal S512x1024 .bf16) (ix2 r l) = argY2 m c (ix2 (tk t r) l) := by
  blk_ext [iblk, V, geom t]

theorem read_v1 (c : Dev nD) :
    V m c main_v1 = extractStridedSlice S1x1024 ![0, 0] (shapeCast S3x1024 (argB m c) shapeCasts_S3072_S3x1024) slices_S3x1024_S1x1024_0_0 := by
  unfold_abbrev_sides
  after_results
  rfl

theorem blockB0 (c : Dev nD) (t : Fin cfg0.N) (l : Fin 1024) :
    (iblk m c 6 t : Vec Ideal S1x1024 .f32) (ix2 0 l) = argB m c (ix1 (inB 0 l)) := by
  have e : (extractStridedSlice S1x1024 ![0, 0] (shapeCast S3x1024 (argB m c) shapeCasts_S3072_S3x1024) slices_S3x1024_S1x1024_0_0)
      (ix2 (0 : Fin 1) l) = argB m c (ix1 (inB 0 l)) := by
    pointwise []
    refine congrArg _ (congrArg ix1 (Fin.ext ?_))
    change _ = 0 * 1024 + l.val
    dsimp only <;> omega
  refine Eq.trans ?_ ((congrFun (read_v1 m c) _).trans e)
  blk_ext [iblk, geom t]

theorem read_v2 (c : Dev nD) :
    V m c main_v2 = extractStridedSlice S1x1024 ![1, 0] (shapeCast S3x1024 (argB m c) shapeCasts_S3072_S3x1024) slices_S3x1024_S1x1024_1_0 := by
  unfold_abbrev_sides
  after_results
  rfl

theorem blockB1 (c : Dev nD) (t : Fin cfg0.N) (l : Fin 1024) :
    (iblk m c 7 t : Vec Ideal S1x1024 .f32) (ix2 0 l) = argB m c (ix1 (inB 1 l)) := by
  have e : (extractStridedSlice S1x1024 ![1, 0] (shapeCast S3x1024 (argB m c) shapeCasts_S3072_S3x1024) slices_S3x1024_S1x1024_1_0)
      (ix2 (0 : Fin 1) l) = argB m c (ix1 (inB 1 l)) := by
    pointwise []
    refine congrArg _ (congrArg ix1 (Fin.ext ?_))
    change _ = 1 * 1024 + l.val
    dsimp only <;> omega
  refine Eq.trans ?_ ((congrFun (read_v2 m c) _).trans e)
  blk_ext [iblk, geom t]

theorem read_v3 (c : Dev nD) :
    V m c main_v3 = extractStridedSlice S1x1024 ![2, 0] (shapeCast S3x1024 (argB m c) shapeCasts_S3072_S3x1024) slices_S3x1024_S1x1024_2_0 := by
  unfold_abbrev_sides
  after_results
  rfl

theorem blockB2 (c : Dev nD) (t : Fin cfg0.N) (l : Fin 1024) :
    (iblk m c 8 t : Vec Ideal S1x1024 .f32) (ix2 0 l) = argB m c (ix1 (inB 2 l)) := by
  have e : (extractStridedSlice S1x1024 ![2, 0] (shapeCast S3x1024 (argB m c) shapeCasts_S3072_S3x1024) slices_S3x1024_S1x1024_2_0)
      (ix2 (0 : Fin 1) l) = argB m c (ix1 (inB 2 l)) := by
    pointwise []
    refine congrArg _ (congrArg ix1 (Fin.ext ?_))
    change _ = 2 * 1024 + l.val
    dsimp only <;> omega
  refine Eq.trans ?_ ((congrFun (read_v3 m c) _).trans e)
  blk_ext [iblk, geom t]

theorem blockC (c : Dev nD) (t : Fin cfg0.N) (r : Fin 512) (l : Fin 1024) :
    (iblk m c 9 t : Vec Ideal S512x1024 .bf16) (ix2 r l) = argC m c (ix2 (tk t r) l) := by
  blk_ext [iblk, V, geom t]

/-! ## What the kernel leaves -/

theorem stored0 (c : Dev nD) (t : Fin cfg0.N) : (outsAt0 m c t.val t.isLt).1
    = k0_pay26 (k0_pay5 (iblk m c 3 t)) (k0_pay8 (X0_0 m c t) (iblk m c 6 t)) (k0_pay11 (X0_0 m c t) (iblk m c 6 t)) (k0_pay16 (iblk m c 9 t)) := by
  have hN := pt_lt t
  by_cases h : 1 ≤ t.val
  · rw [outsAt0_B m c t (by omega) h (by omega) h (by omega) h]
    frame_out
  · rw [outsAt0_A m c t (by omega) h (by omega) h (by omega) h]
    frame_out

theorem final0 (c : Dev nD) : (dats m 0 c).arrAt 10 cfg0.N = outP 0 (argP m c) (argY0 m c) (argB m c) (argC m c) := by
  refine (dats m 0 c).arrAt_eq_of_covers 10 _ (by decide +kernel) fun t hf y => ?_
  obtain ⟨r, l, rfl⟩ : ∃ (r : Fin 512) (l : Fin 1024), y = ix2 r l := ⟨y 0, y 1, eq_ix2 y⟩
  have e : (((cfg0.win 10).blk t).view.emb (ix2 r l) : S8192x1024.Idx) = ix2 (tk t r) l := by blk_ext [geom t]
  refine Eq.trans ?_ (congrArg _ e.symm)
  blk_simp
  rw [after0_10, stored0]
  refine (pay_gate0 (X0_0 m c t) (iblk m c 3 t) (iblk m c 9 t) (iblk m c 6 t) r l).trans ?_
  rw [blockP0, blockB0, blockY0, blockC]
  rfl

theorem stored1 (c : Dev nD) (t : Fin cfg0.N) : (outsAt0 m c t.val t.isLt).2.1
    = k0_pay27 (k0_pay21 (k0_pay6 (iblk m c 4 t)) (k0_pay12 (X0_1 m c t) (iblk m c 7 t)) (Scalar.ofBits (F := Ideal) .f32 0x3F800000#32) (iblk m c 9 t)) := by
  have hN := pt_lt t
  by_cases h : 1 ≤ t.val
  · rw [outsAt0_B m c t (by omega) h (by omega) h (by omega) h]
    frame_out
  · rw [outsAt0_A m c t (by omega) h (by omega) h (by omega) h]
    frame_out

theorem final1 (c : Dev nD) : (dats m 0 c).arrAt 11 cfg0.N = outP 1 (argP m c) (argY1 m c) (argB m c) (argC m c) := by
  refine (dats m 0 c).arrAt_eq_of_covers 11 _ (by decide +kernel) fun t hf y => ?_
  obtain ⟨r, l, rfl⟩ : ∃ (r : Fin 512) (l : Fin 1024), y = ix2 r l := ⟨y 0, y 1, eq_ix2 y⟩
  have e : (((cfg0.win 11).blk t).view.emb (ix2 r l) : S8192x1024.Idx) = ix2 (tk t r) l := by blk_ext [geom t]
  refine Eq.trans ?_ (congrArg _ e.symm)
  blk_simp
  rw [after0_11, stored1]
  refine (pay_gate1 (X0_1 m c t) (iblk m c 4 t) (iblk m c 9 t) (iblk m c 7 t) r l).trans ?_
  rw [blockP1, blockB1, blockY1, blockC]
  rfl

theorem stored2 (c : Dev nD) (t : Fin cfg0.N) : (outsAt0 m c t.val t.isLt).2.2.1
    = k0_pay28 (k0_pay18 (k0_pay3 (iblk m c 8 t)) (k0_pay4 (X0_2 m c t)) (k0_pay7 (iblk m c 5 t)) (iblk m c 9 t)) := by
  have hN := pt_lt t
  by_cases h : 1 ≤ t.val
  · rw [outsAt0_B m c t (by omega) h (by omega) h (by omega) h]
    frame_out
  · rw [outsAt0_A m c t (by omega) h (by omega) h (by omega) h]
    frame_out

theorem final2 (c : Dev nD) : (dats m 0 c).arrAt 12 cfg0.N = outP 2 (argP m c) (argY2 m c) (argB m c) (argC m c) := by
  refine (dats m 0 c).arrAt_eq_of_covers 12 _ (by decide +kernel) fun t hf y => ?_
  obtain ⟨r, l, rfl⟩ : ∃ (r : Fin 512) (l : Fin 1024), y = ix2 r l := ⟨y 0, y 1, eq_ix2 y⟩
  have e : (((cfg0.win 12).blk t).view.emb (ix2 r l) : S8192x1024.Idx) = ix2 (tk t r) l := by blk_ext [geom t]
  refine Eq.trans ?_ (congrArg _ e.symm)
  blk_simp
  rw [after0_12, stored2]
  refine (pay_gate2 (X0_2 m c t) (iblk m c 5 t) (iblk m c 9 t) (iblk m c 8 t) r l).trans ?_
  rw [blockP2, blockB2, blockY2, blockC]
  rfl

theorem stored3 (c : Dev nD) (t : Fin cfg0.N) : (outsAt0 m c t.val t.isLt).2.2.2.1
    = k0_pay29 (k0_pay10 (X0_0 m c t) (iblk m c 6 t)) (k0_pay16 (iblk m c 9 t)) := by
  have hN := pt_lt t
  by_cases h : 1 ≤ t.val
  · rw [outsAt0_B m c t (by omega) h (by omega) h (by omega) h]
    frame_out
  · rw [outsAt0_A m c t (by omega) h (by omega) h (by omega) h]
    frame_out

theorem final3 (c : Dev nD) : (dats m 0 c).arrAt 13 cfg0.N = outY 0 (argP m c) (argB m c) (argC m c) := by
  refine (dats m 0 c).arrAt_eq_of_covers 13 _ (by decide +kernel) fun t hf y => ?_
  obtain ⟨r, l, rfl⟩ : ∃ (r : Fin 512) (l : Fin 1024), y = ix2 r l := ⟨y 0, y 1, eq_ix2 y⟩
  have e : (((cfg0.win 13).blk t).view.emb (ix2 r l) : S8192x1024.Idx) = ix2 (tk t r) l := by blk_ext [geom t]
  refine Eq.trans ?_ (congrArg _ e.symm)
  blk_simp
  rw [after0_13, stored3]
  refine (pay_branch0 (X0_0 m c t) (iblk m c 9 t) (iblk m c 6 t) r l).trans ?_
  rw [blockP0, blockB0, blockC]
  rfl

theorem stored4 (c : Dev nD) (t : Fin cfg0.N) : (outsAt0 m c t.val t.isLt).2.2.2.2.1
    = k0_pay30 (k0_pay20 (k0_pay12 (X0_1 m c t) (iblk m c 7 t)) (Scalar.ofBits (F := Ideal) .f32 0x3F800000#32) (iblk m c 9 t)) := by
  have hN := pt_lt t
  by_cases h : 1 ≤ t.val
  · rw [outsAt0_B m c t (by omega) h (by omega) h (by omega) h]
    frame_out
  · rw [outsAt0_A m c t (by omega) h (by omega) h (by omega) h]
    frame_out

theorem final4 (c : Dev nD) : (dats m 0 c).arrAt 14 cfg0.N = outY 1 (argP m c) (argB m c) (argC m c) := by
  refine (dats m 0 c).arrAt_eq_of_covers 14 _ (by decide +kernel) fun t hf y => ?_
  obtain ⟨r, l, rfl⟩ : ∃ (r : Fin 512) (l : Fin 1024), y = ix2 r l := ⟨y 0, y 1, eq_ix2 y⟩
  have e : (((cfg0.win 14).blk t).view.emb (ix2 r l) : S8192x1024.Idx) = ix2 (tk t r) l := by blk_ext [geom t]
  refine Eq.trans ?_ (congrArg _ e.symm)
  blk_simp
  rw [after0_14, stored4]
  refine (pay_branch1 (X0_1 m c t) (iblk m c 9 t) (iblk m c 7 t) r l).trans ?_
  rw [blockP1, blockB1, blockC]
  rfl

theorem stored5 (c : Dev nD) (t : Fin cfg0.N) : (outsAt0 m c t.val t.isLt).2.2.2.2.2.1
    = k0_pay31 (k0_pay17 (k0_pay3 (iblk m c 8 t)) (k0_pay4 (X0_2 m c t)) (iblk m c 9 t)) := by
  have hN := pt_lt t
  by_cases h : 1 ≤ t.val
  · rw [outsAt0_B m c t (by omega) h (by omega) h (by omega) h]
    frame_out
  · rw [outsAt0_A m c t (by omega) h (by omega) h (by omega) h]
    frame_out

theorem final5 (c : Dev nD) : (dats m 0 c).arrAt 15 cfg0.N = outY 2 (argP m c) (argB m c) (argC m c) := by
  refine (dats m 0 c).arrAt_eq_of_covers 15 _ (by decide +kernel) fun t hf y => ?_
  obtain ⟨r, l, rfl⟩ : ∃ (r : Fin 512) (l : Fin 1024), y = ix2 r l := ⟨y 0, y 1, eq_ix2 y⟩
  have e : (((cfg0.win 15).blk t).view.emb (ix2 r l) : S8192x1024.Idx) = ix2 (tk t r) l := by blk_ext [geom t]
  refine Eq.trans ?_ (congrArg _ e.symm)
  blk_simp
  rw [after0_15, stored5]
  refine (pay_branch2 (X0_2 m c t) (iblk m c 9 t) (iblk m c 8 t) r l).trans ?_
  rw [blockP2, blockB2, blockC]
  rfl

/-- A point's part of the gradient in a branch's bias. -/
def biasAt (k : Fin 3) (P : FVec Ideal S8192x8064 .bf16) (y : FVec Ideal S8192x1024 .bf16) (b : FVec Ideal S3072 .f32)
    (ct : FVec Ideal S8192x1024 .bf16) (t : Fin cfg0.N) (j : S1x1024.Idx) : EReal :=
  ∑ r : Fin 512, at' k P y b ct (tk t r) (j 1)

theorem bias_eq0 (c : Dev nD) (t : Fin cfg0.N) (j : S1x1024.Idx) :
    k0_pay25 (k0_pay5 (iblk m c 3 t)) (k0_pay8 (X0_0 m c t) (iblk m c 6 t)) (k0_pay11 (X0_0 m c t) (iblk m c 6 t)) (k0_pay16 (iblk m c 9 t)) j
      = biasAt 0 (argP m c) (argY0 m c) (argB m c) (argC m c) t j := by
  obtain ⟨u, l, rfl⟩ : ∃ (u : Fin 1) (l : Fin 1024), j = ix2 u l := ⟨j 0, j 1, eq_ix2 j⟩
  refine (pay_bias0 (X0_0 m c t) (iblk m c 3 t) (iblk m c 9 t) (iblk m c 6 t) u l).trans (Finset.sum_congr rfl fun r _ => ?_)
  rw [blockP0, blockB0, blockY0, blockC]
  rfl

theorem bias_first0 (c : Dev nD) (t : Fin cfg0.N) (h : t.val % 16 = 0) (j : S1x1024.Idx) :
    (outsAt0 m c t.val t.isLt).2.2.2.2.2.2.1 j = 0 + biasAt 0 (argP m c) (argY0 m c) (argB m c) (argC m c) t j := by
  have hN := pt_lt t
  rw [outsAt0_A m c t h (by omega) h (by omega) h (by omega), zero_add, ← bias_eq0]
  frame_out

theorem bias_next0 (c : Dev nD) (t : Fin cfg0.N) (h : ¬ t.val % 16 = 0) (j : S1x1024.Idx) :
    (outsAt0 m c t.val t.isLt).2.2.2.2.2.2.1 j
      = (outsAt0 m c (t.val - 1) (Nat.lt_of_le_of_lt (Nat.sub_le _ _) t.isLt)).2.2.2.2.2.2.1 j + biasAt 0 (argP m c) (argY0 m c) (argB m c) (argC m c) t j := by
  have hN := pt_lt t
  rw [outsAt0_B m c t h (by omega) h (by omega) h (by omega), ← bias_eq0]
  frame_out
  pointwise [k0_pay1, k0_pay2, k0_pay32]

theorem final6 (c : Dev nD) : (dats m 0 c).arrAt 16 cfg0.N = outB 0 (argP m c) (argY0 m c) (argB m c) (argC m c) := by
  refine (dats m 0 c).arrAt_eq_of_after_last 16 t0_15 (by decide +kernel) _ fun j => ?_
  obtain ⟨u, l, rfl⟩ : ∃ (u : Fin 1) (l : Fin 1024), j = ix2 u l := ⟨j 0, j 1, eq_ix2 j⟩
  blk_simp
  rw [after0_16]
  refine (Pipeline.eq_sum_fin_of_reset_step_apply_last (fun n h => (outsAt0 m c n h).2.2.2.2.2.2.1) 16 (fun _ => 0) (biasAt 0 (argP m c) (argY0 m c) (argB m c) (argC m c))
    (bias_first0 m c) (bias_next0 m c) (le_of_eq N_0) t0_15 rfl (ix2 u l)).trans ?_
  rw [zero_add]
  exact Fin.sum_mul_add_fin 16 512 fun t => at' 0 (argP m c) (argY0 m c) (argB m c) (argC m c) t l

theorem bias_eq1 (c : Dev nD) (t : Fin cfg0.N) (j : S1x1024.Idx) :
    k0_pay23 (k0_pay22 (k0_pay6 (iblk m c 4 t)) (k0_pay12 (X0_1 m c t) (iblk m c 7 t)) (Scalar.ofBits (F := Ideal) .f32 0x3F800000#32) (iblk m c 9 t)) j
      = biasAt 1 (argP m c) (argY1 m c) (argB m c) (argC m c) t j := by
  obtain ⟨u, l, rfl⟩ : ∃ (u : Fin 1) (l : Fin 1024), j = ix2 u l := ⟨j 0, j 1, eq_ix2 j⟩
  refine (pay_bias1 (X0_1 m c t) (iblk m c 4 t) (iblk m c 9 t) (iblk m c 7 t) u l).trans (Finset.sum_congr rfl fun r _ => ?_)
  rw [blockP1, blockB1, blockY1, blockC]
  rfl

theorem bias_first1 (c : Dev nD) (t : Fin cfg0.N) (h : t.val % 16 = 0) (j : S1x1024.Idx) :
    (outsAt0 m c t.val t.isLt).2.2.2.2.2.2.2.1 j = 0 + biasAt 1 (argP m c) (argY1 m c) (argB m c) (argC m c) t j := by
  have hN := pt_lt t
  rw [outsAt0_A m c t h (by omega) h (by omega) h (by omega), zero_add, ← bias_eq1]
  frame_out

theorem bias_next1 (c : Dev nD) (t : Fin cfg0.N) (h : ¬ t.val % 16 = 0) (j : S1x1024.Idx) :
    (outsAt0 m c t.val t.isLt).2.2.2.2.2.2.2.1 j
      = (outsAt0 m c (t.val - 1) (Nat.lt_of_le_of_lt (Nat.sub_le _ _) t.isLt)).2.2.2.2.2.2.2.1 j + biasAt 1 (argP m c) (argY1 m c) (argB m c) (argC m c) t j := by
  have hN := pt_lt t
  rw [outsAt0_B m c t h (by omega) h (by omega) h (by omega), ← bias_eq1]
  frame_out
  pointwise [k0_pay1, k0_pay2, k0_pay32]

theorem final7 (c : Dev nD) : (dats m 0 c).arrAt 17 cfg0.N = outB 1 (argP m c) (argY1 m c) (argB m c) (argC m c) := by
  refine (dats m 0 c).arrAt_eq_of_after_last 17 t0_15 (by decide +kernel) _ fun j => ?_
  obtain ⟨u, l, rfl⟩ : ∃ (u : Fin 1) (l : Fin 1024), j = ix2 u l := ⟨j 0, j 1, eq_ix2 j⟩
  blk_simp
  rw [after0_17]
  refine (Pipeline.eq_sum_fin_of_reset_step_apply_last (fun n h => (outsAt0 m c n h).2.2.2.2.2.2.2.1) 16 (fun _ => 0) (biasAt 1 (argP m c) (argY1 m c) (argB m c) (argC m c))
    (bias_first1 m c) (bias_next1 m c) (le_of_eq N_0) t0_15 rfl (ix2 u l)).trans ?_
  rw [zero_add]
  exact Fin.sum_mul_add_fin 16 512 fun t => at' 1 (argP m c) (argY1 m c) (argB m c) (argC m c) t l

theorem bias_eq2 (c : Dev nD) (t : Fin cfg0.N) (j : S1x1024.Idx) :
    k0_pay19 (k0_pay3 (iblk m c 8 t)) (k0_pay4 (X0_2 m c t)) (k0_pay7 (iblk m c 5 t)) (iblk m c 9 t) j
      = biasAt 2 (argP m c) (argY2 m c) (argB m c) (argC m c) t j := by
  obtain ⟨u, l, rfl⟩ : ∃ (u : Fin 1) (l : Fin 1024), j = ix2 u l := ⟨j 0, j 1, eq_ix2 j⟩
  refine (pay_bias2 (X0_2 m c t) (iblk m c 5 t) (iblk m c 9 t) (iblk m c 8 t) u l).trans (Finset.sum_congr rfl fun r _ => ?_)
  rw [blockP2, blockB2, blockY2, blockC]
  rfl

theorem bias_first2 (c : Dev nD) (t : Fin cfg0.N) (h : t.val % 16 = 0) (j : S1x1024.Idx) :
    (outsAt0 m c t.val t.isLt).2.2.2.2.2.2.2.2 j = 0 + biasAt 2 (argP m c) (argY2 m c) (argB m c) (argC m c) t j := by
  have hN := pt_lt t
  rw [outsAt0_A m c t h (by omega) h (by omega) h (by omega), zero_add, ← bias_eq2]
  frame_out

theorem bias_next2 (c : Dev nD) (t : Fin cfg0.N) (h : ¬ t.val % 16 = 0) (j : S1x1024.Idx) :
    (outsAt0 m c t.val t.isLt).2.2.2.2.2.2.2.2 j
      = (outsAt0 m c (t.val - 1) (Nat.lt_of_le_of_lt (Nat.sub_le _ _) t.isLt)).2.2.2.2.2.2.2.2 j + biasAt 2 (argP m c) (argY2 m c) (argB m c) (argC m c) t j := by
  have hN := pt_lt t
  rw [outsAt0_B m c t h (by omega) h (by omega) h (by omega), ← bias_eq2]
  frame_out
  pointwise [k0_pay1, k0_pay2, k0_pay32]

theorem final8 (c : Dev nD) : (dats m 0 c).arrAt 18 cfg0.N = outB 2 (argP m c) (argY2 m c) (argB m c) (argC m c) := by
  refine (dats m 0 c).arrAt_eq_of_after_last 18 t0_15 (by decide +kernel) _ fun j => ?_
  obtain ⟨u, l, rfl⟩ : ∃ (u : Fin 1) (l : Fin 1024), j = ix2 u l := ⟨j 0, j 1, eq_ix2 j⟩
  blk_simp
  rw [after0_18]
  refine (Pipeline.eq_sum_fin_of_reset_step_apply_last (fun n h => (outsAt0 m c n h).2.2.2.2.2.2.2.2) 16 (fun _ => 0) (biasAt 2 (argP m c) (argY2 m c) (argB m c) (argC m c))
    (bias_first2 m c) (bias_next2 m c) (le_of_eq N_0) t0_15 rfl (ix2 u l)).trans ?_
  rw [zero_add]
  exact Fin.sum_mul_add_fin 16 512 fun t => at' 2 (argP m c) (argY2 m c) (argB m c) (argC m c) t l

/-! ## The reference's results are these arrays -/

section Reference

open Cert.GatesBRefIdeal.Read

variable (P : FVec Ideal S8192x8064 .bf16) (y0 y1 y2 : FVec Ideal S8192x1024 .bf16) (b : FVec Ideal S3072 .f32)
  (ct : FVec Ideal S8192x1024 .bf16)

theorem ref_gate0 : val_main_v52 (F := Ideal) P y0 y1 y2 b ct = outP 0 P y0 b ct := by
  funext i
  idx_vars i
  unfold outP at' dGate sigm inP inB
  pointwise [val_main_v0, val_main_v1, val_main_v2, val_main_v3, val_main_v4, val_main_v5, val_main_v6, val_main_v7,
    val_main_v8, val_main_v9, val_main_v10, val_main_cst, val_main_v11, val_main_v12, val_main_cst_0,
    val_main_v13, val_main_v14, val_main_cst_1, val_main_v15, val_main_v16, val_main_v17, val_main_v18,
    val_main_v19, val_main_v20, val_main_v21, val_main_v22, val_main_v23, val_main_v24, val_main_v25,
    val_main_v26, val_main_v27, val_main_v28, val_main_v29, val_main_v30, val_main_v31, val_main_v32,
    val_main_cst_2, val_main_v33, val_main_v34, val_main_v35, val_main_v36, val_main_cst_3, val_main_v37,
    val_main_v38, val_main_v39, val_main_v40, val_main_v41, val_main_cst_4, val_main_v42, val_main_v43,
    val_main_v44, val_main_v45, val_main_cst_5, val_main_v46, val_main_v47, val_main_cst_6, val_main_v48,
    val_main_v49, val_main_v50, val_main_v51, val_main_v52, val_main_v53, val_main_v54, val_main_v55,
    val_main_v56, val_main_v57, val_main_v58, val_main_v59, val_main_v60, val_main_v61, val_main_v62, val_main_v63]
  have q : i1.val / 1024 = 0 := by omega
  have q' : i1.val % 1024 = i1.val := by omega
  have q'' : i1.val < 1024 := i1.isLt
  simp only [q, q', q'', Nat.reduceLeDiff, Nat.reduceSub, Nat.reduceLT, Nat.le_refl, Nat.lt_irrefl, and_true, and_false, true_and, false_and,
    ↓reduceDIte, zero_add, add_zero, Finset.univ_unique, Finset.sum_const, Finset.card_singleton, one_smul, le_refl,
    lt_self_iff_false, nonpos_iff_eq_zero, OfNat.ofNat_ne_zero, one_ne_zero, zero_lt_one, Nat.zero_lt_one]

theorem ref_gate1 : val_main_v53 (F := Ideal) P y0 y1 y2 b ct = outP 1 P y1 b ct := by
  funext i
  idx_vars i
  unfold outP at' dGate sigm inP inB
  pointwise [val_main_v0, val_main_v1, val_main_v2, val_main_v3, val_main_v4, val_main_v5, val_main_v6, val_main_v7,
    val_main_v8, val_main_v9, val_main_v10, val_main_cst, val_main_v11, val_main_v12, val_main_cst_0,
    val_main_v13, val_main_v14, val_main_cst_1, val_main_v15, val_main_v16, val_main_v17, val_main_v18,
    val_main_v19, val_main_v20, val_main_v21, val_main_v22, val_main_v23, val_main_v24, val_main_v25,
    val_main_v26, val_main_v27, val_main_v28, val_main_v29, val_main_v30, val_main_v31, val_main_v32,
    val_main_cst_2, val_main_v33, val_main_v34, val_main_v35, val_main_v36, val_main_cst_3, val_main_v37,
    val_main_v38, val_main_v39, val_main_v40, val_main_v41, val_main_cst_4, val_main_v42, val_main_v43,
    val_main_v44, val_main_v45, val_main_cst_5, val_main_v46, val_main_v47, val_main_cst_6, val_main_v48,
    val_main_v49, val_main_v50, val_main_v51, val_main_v52, val_main_v53, val_main_v54, val_main_v55,
    val_main_v56, val_main_v57, val_main_v58, val_main_v59, val_main_v60, val_main_v61, val_main_v62, val_main_v63]
  have q : (1024 + i1.val) / 1024 = 1 := by omega
  have q' : i1.val % 1024 = i1.val := by omega
  have q'' : i1.val < 1024 := i1.isLt
  simp only [q, q', q'', Nat.reduceLeDiff, Nat.reduceSub, Nat.reduceLT, Nat.le_refl, Nat.lt_irrefl, and_true, and_false, true_and, false_and,
    ↓reduceDIte, zero_add, add_zero, Finset.univ_unique, Finset.sum_const, Finset.card_singleton, one_smul, le_refl,
    lt_self_iff_false, nonpos_iff_eq_zero, OfNat.ofNat_ne_zero, one_ne_zero, zero_lt_one, Nat.zero_lt_one]

theorem ref_gate2 : val_main_v54 (F := Ideal) P y0 y1 y2 b ct = outP 2 P y2 b ct := by
  funext i
  idx_vars i
  unfold outP at' dGate sigm inP inB
  pointwise [val_main_v0, val_main_v1, val_main_v2, val_main_v3, val_main_v4, val_main_v5, val_main_v6, val_main_v7,
    val_main_v8, val_main_v9, val_main_v10, val_main_cst, val_main_v11, val_main_v12, val_main_cst_0,
    val_main_v13, val_main_v14, val_main_cst_1, val_main_v15, val_main_v16, val_main_v17, val_main_v18,
    val_main_v19, val_main_v20, val_main_v21, val_main_v22, val_main_v23, val_main_v24, val_main_v25,
    val_main_v26, val_main_v27, val_main_v28, val_main_v29, val_main_v30, val_main_v31, val_main_v32,
    val_main_cst_2, val_main_v33, val_main_v34, val_main_v35, val_main_v36, val_main_cst_3, val_main_v37,
    val_main_v38, val_main_v39, val_main_v40, val_main_v41, val_main_cst_4, val_main_v42, val_main_v43,
    val_main_v44, val_main_v45, val_main_cst_5, val_main_v46, val_main_v47, val_main_cst_6, val_main_v48,
    val_main_v49, val_main_v50, val_main_v51, val_main_v52, val_main_v53, val_main_v54, val_main_v55,
    val_main_v56, val_main_v57, val_main_v58, val_main_v59, val_main_v60, val_main_v61, val_main_v62, val_main_v63]
  have q : (2048 + i1.val) / 1024 = 2 := by omega
  have q' : i1.val % 1024 = i1.val := by omega
  have q'' : i1.val < 1024 := i1.isLt
  simp only [q, q', q'', Nat.reduceLeDiff, Nat.reduceSub, Nat.reduceLT, Nat.le_refl, Nat.lt_irrefl, and_true, and_false, true_and, false_and,
    ↓reduceDIte, zero_add, add_zero, Finset.univ_unique, Finset.sum_const, Finset.card_singleton, one_smul, le_refl,
    lt_self_iff_false, nonpos_iff_eq_zero, OfNat.ofNat_ne_zero, one_ne_zero, zero_lt_one, Nat.zero_lt_one]

theorem ref_branch0 : val_main_v55 (F := Ideal) P b ct = outY 0 P b ct := by
  funext i
  idx_vars i
  unfold outY dBranch sigm inP inB
  pointwise [val_main_v0, val_main_v1, val_main_v2, val_main_v3, val_main_v4, val_main_v5, val_main_v6, val_main_v7,
    val_main_v8, val_main_v9, val_main_v10, val_main_cst, val_main_v11, val_main_v12, val_main_cst_0,
    val_main_v13, val_main_v14, val_main_cst_1, val_main_v15, val_main_v16, val_main_v17, val_main_v18,
    val_main_v19, val_main_v20, val_main_v21, val_main_v22, val_main_v23, val_main_v24, val_main_v25,
    val_main_v26, val_main_v27, val_main_v28, val_main_v29, val_main_v30, val_main_v31, val_main_v32,
    val_main_cst_2, val_main_v33, val_main_v34, val_main_v35, val_main_v36, val_main_cst_3, val_main_v37,
    val_main_v38, val_main_v39, val_main_v40, val_main_v41, val_main_cst_4, val_main_v42, val_main_v43,
    val_main_v44, val_main_v45, val_main_cst_5, val_main_v46, val_main_v47, val_main_cst_6, val_main_v48,
    val_main_v49, val_main_v50, val_main_v51, val_main_v52, val_main_v53, val_main_v54, val_main_v55,
    val_main_v56, val_main_v57, val_main_v58, val_main_v59, val_main_v60, val_main_v61, val_main_v62, val_main_v63]

theorem ref_branch1 : val_main_v56 (F := Ideal) P b ct = outY 1 P b ct := by
  funext i
  idx_vars i
  unfold outY dBranch sigm inP inB
  pointwise [val_main_v0, val_main_v1, val_main_v2, val_main_v3, val_main_v4, val_main_v5, val_main_v6, val_main_v7,
    val_main_v8, val_main_v9, val_main_v10, val_main_cst, val_main_v11, val_main_v12, val_main_cst_0,
    val_main_v13, val_main_v14, val_main_cst_1, val_main_v15, val_main_v16, val_main_v17, val_main_v18,
    val_main_v19, val_main_v20, val_main_v21, val_main_v22, val_main_v23, val_main_v24, val_main_v25,
    val_main_v26, val_main_v27, val_main_v28, val_main_v29, val_main_v30, val_main_v31, val_main_v32,
    val_main_cst_2, val_main_v33, val_main_v34, val_main_v35, val_main_v36, val_main_cst_3, val_main_v37,
    val_main_v38, val_main_v39, val_main_v40, val_main_v41, val_main_cst_4, val_main_v42, val_main_v43,
    val_main_v44, val_main_v45, val_main_cst_5, val_main_v46, val_main_v47, val_main_cst_6, val_main_v48,
    val_main_v49, val_main_v50, val_main_v51, val_main_v52, val_main_v53, val_main_v54, val_main_v55,
    val_main_v56, val_main_v57, val_main_v58, val_main_v59, val_main_v60, val_main_v61, val_main_v62, val_main_v63]

theorem ref_branch2 : val_main_v57 (F := Ideal) P b ct = outY 2 P b ct := by
  funext i
  idx_vars i
  unfold outY dBranch sigm inP inB
  pointwise [val_main_v0, val_main_v1, val_main_v2, val_main_v3, val_main_v4, val_main_v5, val_main_v6, val_main_v7,
    val_main_v8, val_main_v9, val_main_v10, val_main_cst, val_main_v11, val_main_v12, val_main_cst_0,
    val_main_v13, val_main_v14, val_main_cst_1, val_main_v15, val_main_v16, val_main_v17, val_main_v18,
    val_main_v19, val_main_v20, val_main_v21, val_main_v22, val_main_v23, val_main_v24, val_main_v25,
    val_main_v26, val_main_v27, val_main_v28, val_main_v29, val_main_v30, val_main_v31, val_main_v32,
    val_main_cst_2, val_main_v33, val_main_v34, val_main_v35, val_main_v36, val_main_cst_3, val_main_v37,
    val_main_v38, val_main_v39, val_main_v40, val_main_v41, val_main_cst_4, val_main_v42, val_main_v43,
    val_main_v44, val_main_v45, val_main_cst_5, val_main_v46, val_main_v47, val_main_cst_6, val_main_v48,
    val_main_v49, val_main_v50, val_main_v51, val_main_v52, val_main_v53, val_main_v54, val_main_v55,
    val_main_v56, val_main_v57, val_main_v58, val_main_v59, val_main_v60, val_main_v61, val_main_v62, val_main_v63]

theorem ref_bias0 : val_main_v59 (F := Ideal) P y0 y1 y2 b ct = outB 0 P y0 b ct := by
  funext i
  idx_vars i
  unfold outB at' dGate sigm inP inB
  pointwise [val_main_v0, val_main_v1, val_main_v2, val_main_v3, val_main_v4, val_main_v5, val_main_v6, val_main_v7,
    val_main_v8, val_main_v9, val_main_v10, val_main_cst, val_main_v11, val_main_v12, val_main_cst_0,
    val_main_v13, val_main_v14, val_main_cst_1, val_main_v15, val_main_v16, val_main_v17, val_main_v18,
    val_main_v19, val_main_v20, val_main_v21, val_main_v22, val_main_v23, val_main_v24, val_main_v25,
    val_main_v26, val_main_v27, val_main_v28, val_main_v29, val_main_v30, val_main_v31, val_main_v32,
    val_main_cst_2, val_main_v33, val_main_v34, val_main_v35, val_main_v36, val_main_cst_3, val_main_v37,
    val_main_v38, val_main_v39, val_main_v40, val_main_v41, val_main_cst_4, val_main_v42, val_main_v43,
    val_main_v44, val_main_v45, val_main_cst_5, val_main_v46, val_main_v47, val_main_cst_6, val_main_v48,
    val_main_v49, val_main_v50, val_main_v51, val_main_v52, val_main_v53, val_main_v54, val_main_v55,
    val_main_v56, val_main_v57, val_main_v58, val_main_v59, val_main_v60, val_main_v61, val_main_v62, val_main_v63]
  have q : i1.val / 1024 = 0 := by omega
  have q' : i1.val % 1024 = i1.val := by omega
  have q'' : i1.val < 1024 := i1.isLt
  simp only [q, q', q'', Nat.reduceLeDiff, Nat.reduceSub, Nat.reduceLT, Nat.le_refl, Nat.lt_irrefl, and_true, and_false, true_and, false_and,
    ↓reduceDIte, zero_add, add_zero, Finset.univ_unique, Finset.sum_const, Finset.card_singleton, one_smul, le_refl,
    lt_self_iff_false, nonpos_iff_eq_zero, OfNat.ofNat_ne_zero, one_ne_zero, zero_lt_one, Nat.zero_lt_one]

theorem ref_bias1 : val_main_v61 (F := Ideal) P y0 y1 y2 b ct = outB 1 P y1 b ct := by
  funext i
  idx_vars i
  unfold outB at' dGate sigm inP inB
  pointwise [val_main_v0, val_main_v1, val_main_v2, val_main_v3, val_main_v4, val_main_v5, val_main_v6, val_main_v7,
    val_main_v8, val_main_v9, val_main_v10, val_main_cst, val_main_v11, val_main_v12, val_main_cst_0,
    val_main_v13, val_main_v14, val_main_cst_1, val_main_v15, val_main_v16, val_main_v17, val_main_v18,
    val_main_v19, val_main_v20, val_main_v21, val_main_v22, val_main_v23, val_main_v24, val_main_v25,
    val_main_v26, val_main_v27, val_main_v28, val_main_v29, val_main_v30, val_main_v31, val_main_v32,
    val_main_cst_2, val_main_v33, val_main_v34, val_main_v35, val_main_v36, val_main_cst_3, val_main_v37,
    val_main_v38, val_main_v39, val_main_v40, val_main_v41, val_main_cst_4, val_main_v42, val_main_v43,
    val_main_v44, val_main_v45, val_main_cst_5, val_main_v46, val_main_v47, val_main_cst_6, val_main_v48,
    val_main_v49, val_main_v50, val_main_v51, val_main_v52, val_main_v53, val_main_v54, val_main_v55,
    val_main_v56, val_main_v57, val_main_v58, val_main_v59, val_main_v60, val_main_v61, val_main_v62, val_main_v63]
  have q : (1024 + i1.val) / 1024 = 1 := by omega
  have q' : i1.val % 1024 = i1.val := by omega
  have q'' : i1.val < 1024 := i1.isLt
  simp only [q, q', q'', Nat.reduceLeDiff, Nat.reduceSub, Nat.reduceLT, Nat.le_refl, Nat.lt_irrefl, and_true, and_false, true_and, false_and,
    ↓reduceDIte, zero_add, add_zero, Finset.univ_unique, Finset.sum_const, Finset.card_singleton, one_smul, le_refl,
    lt_self_iff_false, nonpos_iff_eq_zero, OfNat.ofNat_ne_zero, one_ne_zero, zero_lt_one, Nat.zero_lt_one]

theorem ref_bias2 : val_main_v63 (F := Ideal) P y0 y1 y2 b ct = outB 2 P y2 b ct := by
  funext i
  idx_vars i
  unfold outB at' dGate sigm inP inB
  pointwise [val_main_v0, val_main_v1, val_main_v2, val_main_v3, val_main_v4, val_main_v5, val_main_v6, val_main_v7,
    val_main_v8, val_main_v9, val_main_v10, val_main_cst, val_main_v11, val_main_v12, val_main_cst_0,
    val_main_v13, val_main_v14, val_main_cst_1, val_main_v15, val_main_v16, val_main_v17, val_main_v18,
    val_main_v19, val_main_v20, val_main_v21, val_main_v22, val_main_v23, val_main_v24, val_main_v25,
    val_main_v26, val_main_v27, val_main_v28, val_main_v29, val_main_v30, val_main_v31, val_main_v32,
    val_main_cst_2, val_main_v33, val_main_v34, val_main_v35, val_main_v36, val_main_cst_3, val_main_v37,
    val_main_v38, val_main_v39, val_main_v40, val_main_v41, val_main_cst_4, val_main_v42, val_main_v43,
    val_main_v44, val_main_v45, val_main_cst_5, val_main_v46, val_main_v47, val_main_cst_6, val_main_v48,
    val_main_v49, val_main_v50, val_main_v51, val_main_v52, val_main_v53, val_main_v54, val_main_v55,
    val_main_v56, val_main_v57, val_main_v58, val_main_v59, val_main_v60, val_main_v61, val_main_v62, val_main_v63]
  have q : (2048 + i1.val) / 1024 = 2 := by omega
  have q' : i1.val % 1024 = i1.val := by omega
  have q'' : i1.val < 1024 := i1.isLt
  simp only [q, q', q'', Nat.reduceLeDiff, Nat.reduceSub, Nat.reduceLT, Nat.le_refl, Nat.lt_irrefl, and_true, and_false, true_and, false_and,
    ↓reduceDIte, zero_add, add_zero, Finset.univ_unique, Finset.sum_const, Finset.card_singleton, one_smul, le_refl,
    lt_self_iff_false, nonpos_iff_eq_zero, OfNat.ofNat_ne_zero, one_ne_zero, zero_lt_one, Nat.zero_lt_one]

end Reference

end Cert.GatesBIdeal.Value

end
-- ==== Proof.NormBValue.lean ====
/-
  The gradient of the RMS norm before the mixers, the residual's gradient added: the two results of `norm_b` are `outX` and
  `outG`, and so are the reference's. The gain's gradient is summed over sixteen blocks of 512 rows by the kernel.
-/
module

public import proofs.«01_k».proof.Proof.Gen.NormBIdeal.Value
public import proofs.«01_k».proof.Proof.Gen.NormBRefIdeal.Read
public import proofs.«01_k».proof.Proof.FfnBValue
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormBIdeal.Value

open Cert.NormBIdeal Cert.NormBIdeal.Gen
open Cert.FfnBIdeal.Value (meanSq dMean dRow dGain rowOf gainOf)

variable (m : (ℓ : Loc nD τ sig) → Buf (Elt Ideal) ℓ) (ρ : Dev nD → PrngReg)

/-! ## The two arrays -/

section Arrays

variable (x : FVec Ideal S8192x1024 .f32) (g : FVec Ideal S1x1024 .f32) (dh dy : FVec Ideal S8192x1024 .f32)

/-- The gradient in the rows, the residual's included. -/
def outX : FVec Ideal S8192x1024 .f32 := fun i => dRow (rowOf x (i 0)) (gainOf g) (rowOf dh (i 0)) (rowOf dy (i 0)) (i 1)

/-- The gradient in the gain. -/
def outG : FVec Ideal S1x1024 .f32 := fun i => ∑ t : Fin 8192, dGain (rowOf x t) (rowOf dh t) (i 1)

end Arrays

/-! ## The payloads -/

section Payloads

variable (x dh dy : Vec Ideal S512x1024 .f32) (g : Vec Ideal S1x1024 .f32)

theorem pay_row (r : Fin 512) (l : Fin 1024) :
    k0_pay5 x g dh dy (ix2 r l)
      = dRow (fun l => x (ix2 r l)) (fun l => g (ix2 0 l)) (fun l => dh (ix2 r l)) (fun l => dy (ix2 r l)) l := by
  unfold dRow dMean meanSq
  pointwise [k0_pay5, k0_pay3, k0_pay2]
  simp only [Fin.sum_univ_one, Finset.univ_unique, Finset.sum_const, Finset.card_singleton, one_smul]
  abel

theorem pay_gain (u : Fin 1) (l : Fin 1024) :
    k0_pay4 x dh (ix2 u l) = ∑ r : Fin 512, dGain (fun l => x (ix2 r l)) (fun l => dh (ix2 r l)) l := by
  unfold dGain meanSq
  pointwise [k0_pay4, k0_pay3, k0_pay2]

theorem pay_add (a b : Vec Ideal S1x1024 .f32) (u : Fin 1) (l : Fin 1024) : k0_pay1 a b (ix2 u l) = b (ix2 u l) + a (ix2 u l) := by
  pointwise [k0_pay1]

end Payloads

/-! ## The blocks -/

theorem geom : ∀ t : Fin cfg0.N,
    win0_0.index t = ![t.val, 0] ∧ win0_1.index t = ![0, 0] ∧ win0_2.index t = ![t.val, 0] ∧ win0_3.index t = ![t.val, 0]
      ∧ win0_4.index t = ![t.val, 0] ∧ win0_5.index t = ![0, 0] := by decide +kernel

theorem pt_lt (t : Fin cfg0.N) : t.val < 16 := lt_of_lt_of_eq t.isLt N_0

/-- The token of row `r` of point `t`'s blocks. -/
abbrev tk (t : Fin cfg0.N) (r : Fin 512) : Fin 8192 := ⟨t.val * 512 + r.val, by have := pt_lt t; omega⟩

abbrev argX (c : Dev nD) : FVec Ideal S8192x1024 .f32 := m (c.tc.loc main_arg0)
abbrev argG (c : Dev nD) : FVec Ideal S1x1024 .f32 := m (c.tc.loc main_arg1)
abbrev argH (c : Dev nD) : FVec Ideal S8192x1024 .f32 := m (c.tc.loc main_arg2)
abbrev argD (c : Dev nD) : FVec Ideal S8192x1024 .f32 := m (c.tc.loc main_arg3)

theorem blockX (c : Dev nD) (t : Fin cfg0.N) (r : Fin 512) :
    (fun l : Fin 1024 => (iblk m c 0 t : Vec Ideal S512x1024 .f32) (ix2 r l)) = rowOf (argX m c) (tk t r) := by
  funext l
  unfold rowOf
  blk_ext [iblk, V, geom t]

theorem blockG (c : Dev nD) (t : Fin cfg0.N) :
    (fun l : Fin 1024 => (iblk m c 1 t : Vec Ideal S1x1024 .f32) (ix2 0 l)) = gainOf (argG m c) := by
  funext l
  unfold gainOf
  blk_ext [iblk, V, geom t]

theorem blockH (c : Dev nD) (t : Fin cfg0.N) (r : Fin 512) :
    (fun l : Fin 1024 => (iblk m c 2 t : Vec Ideal S512x1024 .f32) (ix2 r l)) = rowOf (argH m c) (tk t r) := by
  funext l
  unfold rowOf
  blk_ext [iblk, V, geom t]

theorem blockD (c : Dev nD) (t : Fin cfg0.N) (r : Fin 512) :
    (fun l : Fin 1024 => (iblk m c 3 t : Vec Ideal S512x1024 .f32) (ix2 r l)) = rowOf (argD m c) (tk t r) := by
  funext l
  unfold rowOf
  blk_ext [iblk, V, geom t]

/-! ## What the kernel leaves -/

theorem stored_row (c : Dev nD) (t : Fin cfg0.N) :
    (outsAt0 m c t.val t.isLt).1 = k0_pay5 (iblk m c 0 t) (iblk m c 1 t) (iblk m c 2 t) (iblk m c 3 t) := by
  have hN := pt_lt t
  by_cases h : 1 ≤ t.val
  · rw [outsAt0_B m c t (by omega) h]
    frame_out
  · rw [outsAt0_A m c t (by omega) h]
    frame_out

theorem final_x (c : Dev nD) : (dats m 0 c).arrAt 4 cfg0.N = outX (argX m c) (argG m c) (argH m c) (argD m c) := by
  refine (dats m 0 c).arrAt_eq_of_covers 4 _ (by decide +kernel) fun t hf y => ?_
  obtain ⟨r, l, rfl⟩ : ∃ (r : Fin 512) (l : Fin 1024), y = ix2 r l := ⟨y 0, y 1, eq_ix2 y⟩
  have e : (((cfg0.win 4).blk t).view.emb (ix2 r l) : S8192x1024.Idx) = ix2 (tk t r) l := by blk_ext [geom t]
  refine Eq.trans ?_ (congrArg _ e.symm)
  blk_simp
  rw [after0_4, stored_row]
  exact (pay_row _ _ _ _ r l).trans (congrFun (congr (congr (congr (congrArg dRow (blockX m c t r)) (blockG m c t))
    (blockH m c t r)) (blockD m c t r)) l)

/-- A point's part of the gradient in the gain. -/
def gainAt (c : Dev nD) (t : Fin cfg0.N) (j : S1x1024.Idx) : EReal :=
  ∑ r : Fin 512, dGain (rowOf (argX m c) (tk t r)) (rowOf (argH m c) (tk t r)) (j 1)

theorem gainAt_eq (c : Dev nD) (t : Fin cfg0.N) (j : S1x1024.Idx) : k0_pay4 (iblk m c 0 t) (iblk m c 2 t) j = gainAt m c t j := by
  obtain ⟨u, l, rfl⟩ : ∃ (u : Fin 1) (l : Fin 1024), j = ix2 u l := ⟨j 0, j 1, eq_ix2 j⟩
  exact (pay_gain _ _ u l).trans (Finset.sum_congr rfl fun r _ =>
    congrFun (congr (congrArg dGain (blockX m c t r)) (blockH m c t r)) l)

theorem gain_first (c : Dev nD) (t : Fin cfg0.N) (h : t.val % 16 = 0) (j : S1x1024.Idx) :
    (outsAt0 m c t.val t.isLt).2 j = 0 + gainAt m c t j := by
  have hN := pt_lt t
  rw [outsAt0_A m c t h (by omega), zero_add, ← gainAt_eq]
  frame_out

theorem gain_next (c : Dev nD) (t : Fin cfg0.N) (h : ¬ t.val % 16 = 0) (j : S1x1024.Idx) :
    (outsAt0 m c t.val t.isLt).2 j
      = (outsAt0 m c (t.val - 1) (Nat.lt_of_le_of_lt (Nat.sub_le _ _) t.isLt)).2 j + gainAt m c t j := by
  have hN := pt_lt t
  rw [outsAt0_B m c t h (by omega), ← gainAt_eq]
  frame_out
  pointwise [k0_pay1]

theorem final_g (c : Dev nD) : (dats m 0 c).arrAt 5 cfg0.N = outG (argX m c) (argH m c) := by
  refine (dats m 0 c).arrAt_eq_of_after_last 5 t0_15 (by decide +kernel) _ fun j => ?_
  obtain ⟨u, l, rfl⟩ : ∃ (u : Fin 1) (l : Fin 1024), j = ix2 u l := ⟨j 0, j 1, eq_ix2 j⟩
  blk_simp
  rw [after0_5]
  refine (Pipeline.eq_sum_fin_of_reset_step_apply_last (fun n h => (outsAt0 m c n h).2) 16 (fun _ => 0) (gainAt m c)
    (gain_first m c) (gain_next m c) (le_of_eq N_0) t0_15 rfl (ix2 u l)).trans ?_
  rw [zero_add]
  exact Fin.sum_mul_add_fin 16 512 fun t => dGain (rowOf (argX m c) t) (rowOf (argH m c) t) l

/-! ## The reference's results are these arrays -/

section Reference

open Cert.NormBRefIdeal.Read

variable (x : FVec Ideal S8192x1024 .f32) (g : FVec Ideal S1x1024 .f32) (dh dy : FVec Ideal S8192x1024 .f32)

theorem ref_x : val_main_v37 (F := Ideal) x g dh dy = outX x g dh dy := by
  funext i
  idx_vars i
  unfold outX rowOf gainOf dRow dMean meanSq
  pointwise [val_main_v0, val_main_v1, val_main_cst, val_main_v2, val_main_v3, val_main_cst_0, val_main_v4, val_main_v5,
    val_main_cst_1, val_main_v6, val_main_v7, val_main_v8, val_main_v9, val_main_cst_2, val_main_v10,
    val_main_v11, val_main_v12, val_main_v13, val_main_v14, val_main_v15, val_main_v16, val_main_v17,
    val_main_cst_3, val_main_v18, val_main_v19, val_main_v20, val_main_v21, val_main_cst_4, val_main_v22,
    val_main_v23, val_main_cst_5, val_main_v24, val_main_v25, val_main_v26, val_main_v27, val_main_v28,
    val_main_cst_6, val_main_v29, val_main_v30, val_main_cst_7, val_main_v31, val_main_v32, val_main_v33,
    val_main_v34, val_main_v35, val_main_v36, val_main_v37, val_main_v38]
  simp only [Fin.sum_univ_one, Finset.univ_unique, Finset.sum_const, Finset.card_singleton, one_smul, add_assoc, zero_add]

theorem ref_g : val_main_v38 (F := Ideal) x dh = outG x dh := by
  funext i
  idx_vars i
  unfold outG rowOf dGain meanSq
  pointwise [val_main_v0, val_main_v1, val_main_cst, val_main_v2, val_main_v3, val_main_cst_0, val_main_v4, val_main_v5,
    val_main_cst_1, val_main_v6, val_main_v7, val_main_v8, val_main_v9, val_main_cst_2, val_main_v10,
    val_main_v11, val_main_v12, val_main_v13, val_main_v14, val_main_v15, val_main_v16, val_main_v17,
    val_main_cst_3, val_main_v18, val_main_v19, val_main_v20, val_main_v21, val_main_cst_4, val_main_v22,
    val_main_v23, val_main_cst_5, val_main_v24, val_main_v25, val_main_v26, val_main_v27, val_main_v28,
    val_main_cst_6, val_main_v29, val_main_v30, val_main_cst_7, val_main_v31, val_main_v32, val_main_v33,
    val_main_v34, val_main_v35, val_main_v36, val_main_v37, val_main_v38]
  simp only [Fin.sum_univ_one, Finset.univ_unique, Finset.sum_const, Finset.card_singleton, one_smul]

end Reference

end Cert.NormBIdeal.Value

end
-- ==== Proof.NormValue.lean ====
/-
  The RMS norm before the mixers: every block of the kernel's result holds its rows' norms (`pay_norm`), and so does the
  reference's array (`ref_res`).
-/
module

public import proofs.«01_k».proof.Proof.Gen.NormIdeal.Value
public import proofs.«01_k».proof.Proof.Gen.NormRefIdeal.Read
public import proofs.«01_k».proof.Proof.FfnBValue
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormIdeal.Value

open Cert.NormIdeal Cert.NormIdeal.Gen
open Cert.FfnBIdeal.Value (meanSq normed)

variable (m : (ℓ : Loc nD τ sig) → Buf (Elt Ideal) ℓ) (ρ : Dev nD → PrngReg)

/-- The normed array. -/
def res (x : FVec Ideal S8192x1024 .f32) (g : FVec Ideal S1x1024 .f32) : FVec Ideal S8192x1024 .bf16 := fun i =>
  normed (fun l => x (ix2 (i 0) l)) (fun l => g (ix2 0 l)) (i 1)

theorem pay_norm (x : Vec Ideal S512x1024 .f32) (g : Vec Ideal S1x1024 .f32) (r : Fin 512) (l : Fin 1024) :
    k0_pay1 x g (ix2 r l) = normed (fun l => x (ix2 r l)) (fun l => g (ix2 0 l)) l := by
  unfold normed meanSq
  pointwise [k0_pay1]

theorem geom : ∀ t : Fin cfg0.N,
    win0_0.index t = ![t.val, 0] ∧ win0_1.index t = ![0, 0] ∧ win0_2.index t = ![t.val, 0] := by decide +kernel

theorem pt_lt (t : Fin cfg0.N) : t.val < 16 := lt_of_lt_of_eq t.isLt N_0

/-- The token of row `r` of point `t`'s blocks. -/
abbrev tk (t : Fin cfg0.N) (r : Fin 512) : Fin 8192 := ⟨t.val * 512 + r.val, by have := pt_lt t; omega⟩

abbrev argX (c : Dev nD) : FVec Ideal S8192x1024 .f32 := m (c.tc.loc main_arg0)
abbrev argG (c : Dev nD) : FVec Ideal S1x1024 .f32 := m (c.tc.loc main_arg1)

theorem blockX (c : Dev nD) (t : Fin cfg0.N) (r : Fin 512) :
    (fun l : Fin 1024 => (iblk m c 0 t : Vec Ideal S512x1024 .f32) (ix2 r l)) = fun l => argX m c (ix2 (tk t r) l) := by
  funext l
  blk_ext [iblk, V, geom t]

theorem blockG (c : Dev nD) (t : Fin cfg0.N) :
    (fun l : Fin 1024 => (iblk m c 1 t : Vec Ideal S1x1024 .f32) (ix2 0 l)) = fun l => argG m c (ix2 0 l) := by
  funext l
  blk_ext [iblk, V, geom t]

theorem final (c : Dev nD) : (dats m 0 c).arrAt 2 cfg0.N = res (argX m c) (argG m c) := by
  refine (dats m 0 c).arrAt_eq_of_covers 2 _ (by decide +kernel) fun t hf y => ?_
  obtain ⟨r, l, rfl⟩ : ∃ (r : Fin 512) (l : Fin 1024), y = ix2 r l := ⟨y 0, y 1, eq_ix2 y⟩
  have e : (((cfg0.win 2).blk t).view.emb (ix2 r l) : S8192x1024.Idx) = ix2 (tk t r) l := by blk_ext [geom t]
  refine Eq.trans ?_ (congrArg _ e.symm)
  blk_simp
  rw [after0_2]
  refine Eq.trans ?_ ((pay_norm _ _ r l).trans (congrFun (congr (congrArg normed (blockX m c t r)) (blockG m c t)) l))
  frame_out

section Reference

open Cert.NormRefIdeal.Read

theorem ref_res (x : FVec Ideal S8192x1024 .f32) (g : FVec Ideal S1x1024 .f32) : val_main_v14 (F := Ideal) x g = res x g := by
  funext i
  idx_vars i
  unfold res normed meanSq
  pointwise [val_main_v0, val_main_v1, val_main_cst, val_main_v2, val_main_v3, val_main_cst_0, val_main_v4, val_main_v5,
    val_main_cst_1, val_main_v6, val_main_v7, val_main_v8, val_main_v9, val_main_v10, val_main_v11, val_main_v12,
    val_main_v13, val_main_v14]

end Reference

end Cert.NormIdeal.Value

end
-- ==== Proof.GateNormValue.lean ====
/-
  The gated RMS norm behind the DeltaNet heads: every block of the kernel's result holds its rows' gated norms (`pay_row`),
  and so does the reference's array (`ref_res`).
-/
module

public import proofs.«01_k».proof.Proof.Gen.GateNormIdeal.Value
public import proofs.«01_k».proof.Proof.Gen.GateNormRefIdeal.Read
public import proofs.«01_k».proof.Proof.DnOutValue
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GateNormIdeal.Value

open Cert.GateNormIdeal Cert.GateNormIdeal.Gen
open Cert.DnOutIdeal.Value (meanSq sigm rowO rowZ rowG)

variable (m : (ℓ : Loc nD τ sig) → Buf (Elt Ideal) ℓ) (ρ : Dev nD → PrngReg)

/-- A row's norm, times the gain and times its gate `z σ(z)`. -/
def gated (x g z : Fin 128 → EReal) (l : Fin 128) : EReal := x l * Ideal.rsqrt (meanSq x) * g l * (z l * sigm (z l))

/-- The gated norms of the two scans' summed outputs, head by head. -/
def res (O : FVec Ideal S8x8192x128 .f32) (P : Vec Ideal S8192x8064 .bf16) (g : Vec Ideal S1x128 .f32) : FVec Ideal S8192x512 .bf16 := fun i =>
  have h : Fin 4 := ⟨(i 1).val / 128, by have : (i 1).val < 512 := (i 1).isLt; omega⟩
  gated (rowO O h (i 0)) (rowG g) (rowZ P h (i 0)) ⟨(i 1).val % 128, Nat.mod_lt _ (by decide)⟩

theorem pay_row (a b : Vec Ideal S1x2048x128 .f32) (z : Vec Ideal S2048x128 .bf16) (g : Vec Ideal S1x128 .f32) (r : Fin 2048) (l : Fin 128) :
    k0_pay1 a b z g (ix2 r l)
      = gated (fun l => a (ix3 0 r l) + b (ix3 0 r l)) (fun l => g (ix2 0 l)) (fun l => z (ix2 r l)) l := by
  unfold gated meanSq sigm
  pointwise [k0_pay1]
  simp only [zero_sub]

theorem geom : ∀ t : Fin cfg0.N,
    win0_0.index t = ![t.val % 4, t.val / 4, 0] ∧ win0_1.index t = ![4 + t.val % 4, t.val / 4, 0]
    ∧ win0_2.index t = ![t.val / 4, 54 + t.val % 4] ∧ win0_3.index t = ![0, 0] ∧ win0_4.index t = ![t.val / 4, t.val % 4] := by
  decide +kernel

theorem pt_lt (t : Fin cfg0.N) : t.val < 16 := lt_of_lt_of_eq t.isLt N_0

/-- The head of point `t`, and the token of row `r` of its blocks. -/
abbrev hd (t : Fin cfg0.N) : Fin 4 := ⟨t.val % 4, by omega⟩
abbrev tk (t : Fin cfg0.N) (r : Fin 2048) : Fin 8192 := ⟨t.val / 4 * 2048 + r.val, by have := pt_lt t; omega⟩

abbrev argO (c : Dev nD) : FVec Ideal S8x8192x128 .f32 := m (c.tc.loc main_arg0)
abbrev argP (c : Dev nD) : Vec Ideal S8192x8064 .bf16 := m (c.tc.loc main_arg1)
abbrev argG (c : Dev nD) : Vec Ideal S1x128 .f32 := m (c.tc.loc main_arg2)

theorem blockO (c : Dev nD) (t : Fin cfg0.N) (r : Fin 2048) :
    (fun l : Fin 128 => HAdd.hAdd (α := EReal) (β := EReal) (γ := EReal) (iblk m c 0 t (ix3 0 r l)) (iblk m c 1 t (ix3 0 r l)))
      = rowO (argO m c) (hd t) (tk t r) := by
  funext l
  unfold rowO
  refine congr (congrArg _ ?_) ?_ <;> blk_ext [iblk, V, geom t]

theorem blockZ (c : Dev nD) (t : Fin cfg0.N) (r : Fin 2048) :
    (fun l : Fin 128 => (iblk m c 2 t : Vec Ideal S2048x128 .bf16) (ix2 r l)) = rowZ (argP m c) (hd t) (tk t r) := by
  funext l
  unfold rowZ
  blk_ext [iblk, V, geom t]

theorem blockG (c : Dev nD) (t : Fin cfg0.N) :
    (fun l : Fin 128 => (iblk m c 3 t : Vec Ideal S1x128 .f32) (ix2 0 l)) = rowG (argG m c) := by
  funext l
  unfold rowG
  blk_ext [iblk, V, geom t]

theorem final (c : Dev nD) : (dats m 0 c).arrAt 4 cfg0.N = res (argO m c) (argP m c) (argG m c) := by
  refine (dats m 0 c).arrAt_eq_of_covers 4 _ (by decide +kernel) fun t hf y => ?_
  obtain ⟨r, l, rfl⟩ : ∃ (r : Fin 2048) (l : Fin 128), y = ix2 r l := ⟨y 0, y 1, eq_ix2 y⟩
  have e : (((cfg0.win 4).blk t).view.emb (ix2 r l) : S8192x512.Idx)
      = ix2 (tk t r) ⟨t.val % 4 * 128 + l.val, by omega⟩ := by blk_ext [geom t]
  refine Eq.trans ?_ (congrArg _ e.symm)
  have e1 : (t.val % 4 * 128 + l.val) / 128 = t.val % 4 := by omega
  have e2 : (t.val % 4 * 128 + l.val) % 128 = l.val := by omega
  simp only [res, ix2_0, ix2_1, e1, e2]
  blk_simp
  rw [after0_4]
  refine Eq.trans ?_ ((pay_row _ _ _ _ r l).trans
    (congrFun (congr (congr (congrArg gated (blockO m c t r)) (blockG m c t)) (blockZ m c t r)) l))
  frame_out

section Reference

open Cert.GateNormRefIdeal.Read

theorem ref_res (O : FVec Ideal S8x8192x128 .f32) (P : Vec Ideal S8192x8064 .bf16) (g : Vec Ideal S1x128 .f32) :
    val_main_v24 (F := Ideal) O P g = res O P g := by
  funext i
  idx_vars i
  unfold res gated rowO rowG rowZ meanSq sigm
  pointwise [val_main_v0, val_main_v1, val_main_v2, val_main_v3, val_main_v4, val_main_v5, val_main_v6, val_main_v7,
    val_main_v8, val_main_cst, val_main_v9, val_main_v10, val_main_cst_0, val_main_v11, val_main_v12,
    val_main_cst_1, val_main_v13, val_main_v14, val_main_v15, val_main_v16, val_main_v17, val_main_v18,
    val_main_v19, val_main_v20, val_main_call0_v0, val_main_call0_v1, val_main_call0_cst, val_main_call0_v2,
    val_main_call0_v3, val_main_call0_cst_0, val_main_call0_v4, val_main_call0_v5, val_main_v21, val_main_v22,
    val_main_v23, val_main_v24]
  have e1 : (i0.val * 4 + i1.val / 128) % 4 = i1.val / 128 := by omega
  have e2 : i1.val / 128 * 128 + i1.val % 128 = i1.val := by omega
  simp only [e1, e2]

end Reference

end Cert.GateNormIdeal.Value

end
-- ==== Proof.RopeValue.lean ====
/-
  The rotary embedding of nine column groups of the projected rows: a query group is turned and scaled, a key group turned,
  a value group kept. The kernel's tables repeat the cosines and sines of `angle` (`spread_apply`); its blocks hold the
  turned rows (`pay_turn`), and so do the reference's nine arrays (`ref_q`, `ref_k`). No hypothesis on the arguments.
-/
module

public import proofs.«01_k».proof.Proof.Gen.RopeIdeal.Value
public import proofs.«01_k».proof.Proof.Gen.RopeRefIdeal.Read
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.RopeIdeal.Value

open Cert.RopeIdeal Cert.RopeIdeal.Gen

variable (m : (ℓ : Loc nD τ sig) → Buf (Elt Ideal) ℓ) (ρ : Dev nD → PrngReg)

/-! ## The angles and the rotation -/

/-- The angle of position `s` and frequency `i`: `s · 10000 ^ (−i / 32)`. -/
def angle (s : Fin 2048) (i : Fin 32) : Ideal .f32 :=
  FloatOps.mulf (FloatOps.sitofp .f32 (BitVec.ofNat 32 s.val))
    (FloatOps.hostPowf (FloatOps.ofBits .f32 0x461C4000#32)
      (FloatOps.hostDivf (FloatOps.hostNegf (FloatOps.sitofp .f32 (BitVec.ofNat 32 i.val))) (FloatOps.ofBits .f32 0x42000000#32)))

def cosAt (s : Fin 2048) (i : Fin 32) : EReal := FloatOps.hostUnary (F := Ideal) (φ := .f32) .cos (angle s i)
def sinAt (s : Fin 2048) (i : Fin 32) : EReal := FloatOps.hostUnary (F := Ideal) (φ := .f32) .sin (angle s i)

/-- The position of a token in its sequence, the frequency of a column, and the columns half a head further on and back. -/
abbrev pos (t : Fin 8192) : Fin 2048 := ⟨t.val % 2048, Nat.mod_lt _ (by decide)⟩
abbrev freq (j : Fin 256) : Fin 32 := ⟨j.val % 32, Nat.mod_lt _ (by decide)⟩
abbrev ahead (j : Fin 256) : Fin 256 := ⟨(j.val + 256 - 224) % 256, Nat.mod_lt _ (by decide)⟩
abbrev back (j : Fin 256) : Fin 256 := ⟨(j.val + 256 - 32) % 256, Nat.mod_lt _ (by decide)⟩

/-- The rotation: a first-half column `j` becomes `y cos − y' sin`, a second-half column `y cos + y' sin`, with `y'` the other
    half's column. -/
def turn (y : Fin 256 → EReal) (t : Fin 8192) (j : Fin 256) : EReal :=
  if j.val % 64 < 32 then y j * cosAt (pos t) (freq j) + -(y (ahead j) * sinAt (pos t) (freq j))
  else y j * cosAt (pos t) (freq j) + y (back j) * sinAt (pos t) (freq j)

def scale : EReal := FloatOps.ofBits (F := Ideal) .f32 0x3E000000#32

/-- Column `j` of the attention's group `g`, in the projected rows. -/
abbrev col (g : Fin 9) (j : Fin 256) : Fin 8064 := ⟨3072 + g.val * 256 + j.val, by omega⟩

def outQ (p : FVec Ideal S8192x8064 .bf16) (g : Fin 9) : FVec Ideal S8192x256 .bf16 :=
  fun i => turn (fun j => p (ix2 (i 0) (col g j))) (i 0) (i 1) * scale
def outK (p : FVec Ideal S8192x8064 .bf16) (g : Fin 9) : FVec Ideal S8192x256 .bf16 :=
  fun i => turn (fun j => p (ix2 (i 0) (col g j))) (i 0) (i 1)
def outV (p : FVec Ideal S8192x8064 .bf16) (g : Fin 9) : FVec Ideal S8192x256 .bf16 := fun i => p (ix2 (i 0) (col g (i 1)))

/-! ## The payloads -/

theorem turn_ahead (x : FVec Ideal S512x256 .f32) (r : Fin 512) (j : Fin 256) :
    dynamicRotate 1 224#32 none x rotates_S512x256_d1 (ix2 r j) = x (ix2 r (ahead j)) := by
  refine dynamicRotate_apply _ _ _ _ _ _ fun b => ?_
  fin_cases b
  · rfl
  · rfl

theorem turn_back (x : FVec Ideal S512x256 .f32) (r : Fin 512) (j : Fin 256) :
    dynamicRotate 1 32#32 none x rotates_S512x256_d1 (ix2 r j) = x (ix2 r (back j)) := by
  refine dynamicRotate_apply _ _ _ _ _ _ fun b => ?_
  fin_cases b
  · rfl
  · rfl

theorem first_half (r : Fin 512) (j : Fin 256) : k0_pay18 (ix2 r j) = if j.val % 64 < 32 then 1#1 else 0#1 := by
  have h : ∀ j : Fin 256, IntOp.cmpi .slt (BitVec.ofNat 32 j.val &&& 63#32) 32#32 = if j.val % 64 < 32 then 1#1 else 0#1 := by decide +kernel
  refine Eq.trans ?_ (h j)
  pointwise [k0_pay18]
  rfl

/-- The kernel's rotation of a block, with the tables at every column. -/
def rotated (cs sn : FVec Ideal S512x256 .f32) (y : FVec Ideal S512x256 .bf16) : FVec Ideal S512x256 .f32 :=
  addf (mulf (extf .f32 y bitsLt_bf16_f32) cs) (mulf (select k0_pay18
    (subf (broadcast S512x256 (Scalar.ofBits .f32 0x00000000#32)) (dynamicRotate 1 224#32 none (extf .f32 y bitsLt_bf16_f32) rotates_S512x256_d1))
    (dynamicRotate 1 32#32 none (extf .f32 y bitsLt_bf16_f32) rotates_S512x256_d1)) sn)

theorem pay_turn (cs sn : FVec Ideal S512x256 .f32) (y : FVec Ideal S512x256 .bf16) (r : Fin 512) (j : Fin 256) :
    rotated cs sn y (ix2 r j) = if j.val % 64 < 32 then y (ix2 r j) * cs (ix2 r j) + -(y (ix2 r (ahead j)) * sn (ix2 r j))
      else y (ix2 r j) * cs (ix2 r j) + y (ix2 r (back j)) * sn (ix2 r j) := by
  pointwise [rotated]
  rw [first_half]
  by_cases hj : j.val % 64 < 32
  · rw [if_pos hj, if_pos hj]
    change _ + (0 - y (ix2 r (ahead j))) * _ = _
    rw [zero_sub, EReal.neg_mul]
  · rw [if_neg hj, if_neg hj]
    rfl

/-! ## The tables -/

/-- The angles of all positions and frequencies, as the host computes them. -/
def angles : FVec Ideal S2048x32 .f32 :=
  mulf (broadcastInDim S2048x32 ![0, 1] bcast_S2048x1_S2048x32_0_1 (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- A table repeated over the two halves and the four heads. -/
def spread (x : FVec Ideal S2048x32 .f32) : FVec Ideal S2048x256 .f32 :=
  shapeCast S2048x256 (broadcastInDim S1x2048x4x64 ![0, 1, 2, 3] bcast_S1x2048x1x64_S1x2048x4x64_0_1_2_3
    (shapeCast S1x2048x1x64 (concatenate S2048x64 1 [⟨S2048x32, x⟩, ⟨S2048x32, x⟩] concatenates_S2048x32_S2048x32_S2048x64_d1)
      shapeCasts_S2048x64_S1x2048x1x64)) shapeCasts_S1x2048x4x64_S2048x256

theorem spread_apply (x : FVec Ideal S2048x32 .f32) (s : Fin 2048) (j : Fin 256) : spread x (ix2 s j) = x (ix2 s (freq j)) := by
  pointwise [spread]
  by_cases h : j.val % 64 < 32
  · rw [dif_pos h]
    congr 2
    exact Fin.ext (by dsimp only; omega)
  · rw [dif_neg h]
    congr 2
    exact Fin.ext (by dsimp only; omega)

theorem cos_table (s : Fin 2048) (i : Fin 32) : Host.cos angles (ix2 s i) = cosAt s i := by
  unfold cosAt angle
  pointwise [angles]

theorem sin_table (s : Fin 2048) (i : Fin 32) : Host.sin angles (ix2 s i) = sinAt s i := by
  unfold sinAt angle
  pointwise [angles]

theorem read_cos (c : Dev nD) : V m c main_v17 = spread (Host.cos angles) := by
  unfold_abbrev_sides
  after_results
  rfl

theorem read_sin (c : Dev nD) : V m c main_v23 = spread (Host.sin angles) := by
  unfold_abbrev_sides
  after_results
  rfl

/-! ## The blocks -/

theorem geom : ∀ t : Fin cfg0.N,
    win0_0.index t = ![t.val, 12] ∧ win0_1.index t = ![t.val, 13] ∧ win0_2.index t = ![t.val, 14] ∧ win0_3.index t = ![t.val, 15] ∧ win0_4.index t = ![t.val, 16] ∧ win0_5.index t = ![t.val, 17] ∧ win0_6.index t = ![t.val, 18] ∧ win0_7.index t = ![t.val, 19] ∧ win0_8.index t = ![t.val, 20] ∧ win0_9.index t = ![t.val % 4, 0] ∧ win0_10.index t = ![t.val % 4, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] := by
  decide +kernel

theorem pt_lt (t : Fin cfg0.N) : t.val < 16 := lt_of_lt_of_eq t.isLt N_0

/-- The token of row `r` of point `t`'s blocks. -/
abbrev tk (t : Fin cfg0.N) (r : Fin 512) : Fin 8192 := ⟨t.val * 512 + r.val, by have := pt_lt t; omega⟩

theorem blockCos (c : Dev nD) (t : Fin cfg0.N) (r : Fin 512) (j : Fin 256) :
    (iblk m c 9 t : Vec Ideal S512x256 .f32) (ix2 r j) = cosAt (pos (tk t r)) (freq j) := by
  refine Eq.trans ?_ ((congrFun (read_cos m c) (ix2 (pos (tk t r)) j)).trans ((spread_apply _ _ _).trans (cos_table _ _)))
  blk_ext [iblk, geom t]
  all_goals
    have := pt_lt t
    omega

theorem blockSin (c : Dev nD) (t : Fin cfg0.N) (r : Fin 512) (j : Fin 256) :
    (iblk m c 10 t : Vec Ideal S512x256 .f32) (ix2 r j) = sinAt (pos (tk t r)) (freq j) := by
  refine Eq.trans ?_ ((congrFun (read_sin m c) (ix2 (pos (tk t r)) j)).trans ((spread_apply _ _ _).trans (sin_table _ _)))
  blk_ext [iblk, geom t]
  all_goals
    have := pt_lt t
    omega

abbrev argP (c : Dev nD) : FVec Ideal S8192x8064 .bf16 := m (c.tc.loc main_arg0)

theorem blockP0 (c : Dev nD) (t : Fin cfg0.N) (r : Fin 512) (j : Fin 256) :
    (X0_0 m c t : Vec Ideal S512x256 .bf16) (ix2 r j) = argP m c (ix2 (tk t r) (col 0 j)) := by
  unfold X0_0 Pipeline.Window.fill
  rw [dif_pos (moved0_0 t _)]
  blk_ext [iblk, V, geom t]
  all_goals
    change _ = 3072 + 0 * 256 + j.val
    omega

theorem blockP1 (c : Dev nD) (t : Fin cfg0.N) (r : Fin 512) (j : Fin 256) :
    (X0_1 m c t : Vec Ideal S512x256 .bf16) (ix2 r j) = argP m c (ix2 (tk t r) (col 1 j)) := by
  unfold X0_1 Pipeline.Window.fill
  rw [dif_pos (moved0_1 t _)]
  blk_ext [iblk, V, geom t]
  all_goals
    change _ = 3072 + 1 * 256 + j.val
    omega

theorem blockP2 (c : Dev nD) (t : Fin cfg0.N) (r : Fin 512) (j : Fin 256) :
    (X0_2 m c t : Vec Ideal S512x256 .bf16) (ix2 r j) = argP m c (ix2 (tk t r) (col 2 j)) := by
  unfold X0_2 Pipeline.Window.fill
  rw [dif_pos (moved0_2 t _)]
  blk_ext [iblk, V, geom t]
  all_goals
    change _ = 3072 + 2 * 256 + j.val
    omega

theorem blockP3 (c : Dev nD) (t : Fin cfg0.N) (r : Fin 512) (j : Fin 256) :
    (X0_3 m c t : Vec Ideal S512x256 .bf16) (ix2 r j) = argP m c (ix2 (tk t r) (col 3 j)) := by
  unfold X0_3 Pipeline.Window.fill
  rw [dif_pos (moved0_3 t _)]
  blk_ext [iblk, V, geom t]
  all_goals
    change _ = 3072 + 3 * 256 + j.val
    omega

theorem blockP4 (c : Dev nD) (t : Fin cfg0.N) (r : Fin 512) (j : Fin 256) :
    (X0_4 m c t : Vec Ideal S512x256 .bf16) (ix2 r j) = argP m c (ix2 (tk t r) (col 4 j)) := by
  unfold X0_4 Pipeline.Window.fill
  rw [dif_pos (moved0_4 t _)]
  blk_ext [iblk, V, geom t]
  all_goals
    change _ = 3072 + 4 * 256 + j.val
    omega

theorem blockP5 (c : Dev nD) (t : Fin cfg0.N) (r : Fin 512) (j : Fin 256) :
    (X0_5 m c t : Vec Ideal S512x256 .bf16) (ix2 r j) = argP m c (ix2 (tk t r) (col 5 j)) := by
  unfold X0_5 Pipeline.Window.fill
  rw [dif_pos (moved0_5 t _)]
  blk_ext [iblk, V, geom t]
  all_goals
    change _ = 3072 + 5 * 256 + j.val
    omega

theorem blockP6 (c : Dev nD) (t : Fin cfg0.N) (r : Fin 512) (j : Fin 256) :
    (X0_6 m c t : Vec Ideal S512x256 .bf16) (ix2 r j) = argP m c (ix2 (tk t r) (col 6 j)) := by
  unfold X0_6 Pipeline.Window.fill
  rw [dif_pos (moved0_6 t _)]
  blk_ext [iblk, V, geom t]
  all_goals
    change _ = 3072 + 6 * 256 + j.val
    omega

theorem blockP7 (c : Dev nD) (t : Fin cfg0.N) (r : Fin 512) (j : Fin 256) :
    (X0_7 m c t : Vec Ideal S512x256 .bf16) (ix2 r j) = argP m c (ix2 (tk t r) (col 7 j)) := by
  unfold X0_7 Pipeline.Window.fill
  rw [dif_pos (moved0_7 t _)]
  blk_ext [iblk, V, geom t]
  all_goals
    change _ = 3072 + 7 * 256 + j.val
    omega

theorem blockP8 (c : Dev nD) (t : Fin cfg0.N) (r : Fin 512) (j : Fin 256) :
    (X0_8 m c t : Vec Ideal S512x256 .bf16) (ix2 r j) = argP m c (ix2 (tk t r) (col 8 j)) := by
  unfold X0_8 Pipeline.Window.fill
  rw [dif_pos (moved0_8 t _)]
  blk_ext [iblk, V, geom t]
  all_goals
    change _ = 3072 + 8 * 256 + j.val
    omega

/-! ## What the kernel leaves -/

/-- A block whose rows are those of `y` of its tokens is left turned. -/
theorem turned (c : Dev nD) (t : Fin cfg0.N) (b : FVec Ideal S512x256 .bf16) (y : Fin 256 → EReal) (r : Fin 512) (j : Fin 256)
    (h : ∀ j, b (ix2 r j) = y j) : rotated (k0_pay6 (iblk m c 9 t)) (k0_pay7 (iblk m c 10 t)) b (ix2 r j) = turn y (tk t r) j := by
  have e6 : k0_pay6 (iblk m c 9 t : Vec Ideal S512x256 .f32) = iblk m c 9 t := shapeCast_id _ _
  have e7 : k0_pay7 (iblk m c 10 t : Vec Ideal S512x256 .f32) = iblk m c 10 t := shapeCast_id _ _
  rw [e6, e7]
  refine (pay_turn (iblk m c 9 t) (iblk m c 10 t) b r j).trans ?_
  rw [blockCos, blockSin, h, h, h]
  rfl

theorem final0 (c : Dev nD) : (dats m 0 c).arrAt 11 cfg0.N = outQ (argP m c) 0 := by
  refine (dats m 0 c).arrAt_eq_of_covers 11 _ (by decide +kernel) fun t hf y => ?_
  obtain ⟨r, j, rfl⟩ : ∃ (r : Fin 512) (j : Fin 256), y = ix2 r j := ⟨y 0, y 1, eq_ix2 y⟩
  have e : (((cfg0.win 11).blk t).view.emb (ix2 r j) : S8192x256.Idx) = ix2 (tk t r) j := by blk_ext [geom t]
  refine Eq.trans ?_ (congrArg _ e.symm)
  blk_simp
  rw [after0_11]
  refine Eq.trans (b := (k0_pay30 (k0_pay21 (k0_pay7 (iblk m c 10 t)) (k0_pay17 (X0_0 m c t) (iblk m c 9 t)) k0_pay18 (k0_pay19 (X0_0 m c t)) (k0_pay20 (X0_0 m c t))) : Vec Ideal S512x256 .bf16) (ix2 r j)) ?_ ?_
  · unfold outsAt0
    frame_out
  · change rotated (k0_pay6 (iblk m c 9 t)) (k0_pay7 (iblk m c 10 t)) (X0_0 m c t) (ix2 r j) * scale = _
    rw [turned m c t _ (fun j => argP m c (ix2 (tk t r) (col 0 j))) r j fun j => blockP0 m c t r j]
    rfl

theorem final1 (c : Dev nD) : (dats m 0 c).arrAt 12 cfg0.N = outQ (argP m c) 1 := by
  refine (dats m 0 c).arrAt_eq_of_covers 12 _ (by decide +kernel) fun t hf y => ?_
  obtain ⟨r, j, rfl⟩ : ∃ (r : Fin 512) (j : Fin 256), y = ix2 r j := ⟨y 0, y 1, eq_ix2 y⟩
  have e : (((cfg0.win 12).blk t).view.emb (ix2 r j) : S8192x256.Idx) = ix2 (tk t r) j := by blk_ext [geom t]
  refine Eq.trans ?_ (congrArg _ e.symm)
  blk_simp
  rw [after0_12]
  refine Eq.trans (b := (k0_pay31 (k0_pay22 (k0_pay6 (iblk m c 9 t)) (k0_pay7 (iblk m c 10 t)) (k0_pay9 (X0_1 m c t))) : Vec Ideal S512x256 .bf16) (ix2 r j)) ?_ ?_
  · unfold outsAt0
    frame_out
  · change rotated (k0_pay6 (iblk m c 9 t)) (k0_pay7 (iblk m c 10 t)) (X0_1 m c t) (ix2 r j) * scale = _
    rw [turned m c t _ (fun j => argP m c (ix2 (tk t r) (col 1 j))) r j fun j => blockP1 m c t r j]
    rfl

theorem final2 (c : Dev nD) : (dats m 0 c).arrAt 13 cfg0.N = outQ (argP m c) 2 := by
  refine (dats m 0 c).arrAt_eq_of_covers 13 _ (by decide +kernel) fun t hf y => ?_
  obtain ⟨r, j, rfl⟩ : ∃ (r : Fin 512) (j : Fin 256), y = ix2 r j := ⟨y 0, y 1, eq_ix2 y⟩
  have e : (((cfg0.win 13).blk t).view.emb (ix2 r j) : S8192x256.Idx) = ix2 (tk t r) j := by blk_ext [geom t]
  refine Eq.trans ?_ (congrArg _ e.symm)
  blk_simp
  rw [after0_13]
  refine Eq.trans (b := (k0_pay32 (k0_pay23 (k0_pay6 (iblk m c 9 t)) (k0_pay7 (iblk m c 10 t)) (k0_pay10 (X0_2 m c t))) : Vec Ideal S512x256 .bf16) (ix2 r j)) ?_ ?_
  · unfold outsAt0
    frame_out
  · change rotated (k0_pay6 (iblk m c 9 t)) (k0_pay7 (iblk m c 10 t)) (X0_2 m c t) (ix2 r j) * scale = _
    rw [turned m c t _ (fun j => argP m c (ix2 (tk t r) (col 2 j))) r j fun j => blockP2 m c t r j]
    rfl

theorem final3 (c : Dev nD) : (dats m 0 c).arrAt 14 cfg0.N = outK (argP m c) 3 := by
  refine (dats m 0 c).arrAt_eq_of_covers 14 _ (by decide +kernel) fun t hf y => ?_
  obtain ⟨r, j, rfl⟩ : ∃ (r : Fin 512) (j : Fin 256), y = ix2 r j := ⟨y 0, y 1, eq_ix2 y⟩
  have e : (((cfg0.win 14).blk t).view.emb (ix2 r j) : S8192x256.Idx) = ix2 (tk t r) j := by blk_ext [geom t]
  refine Eq.trans ?_ (congrArg _ e.symm)
  blk_simp
  rw [after0_14]
  refine Eq.trans (b := (k0_pay33 (k0_pay7 (iblk m c 10 t)) (k0_pay11 (X0_3 m c t)) (k0_pay24 (k0_pay6 (iblk m c 9 t)) (k0_pay11 (X0_3 m c t))) k0_pay25 (k0_pay26 (k0_pay11 (X0_3 m c t))) k0_pay27 : Vec Ideal S512x256 .bf16) (ix2 r j)) ?_ ?_
  · unfold outsAt0
    frame_out
  · change rotated (k0_pay6 (iblk m c 9 t)) (k0_pay7 (iblk m c 10 t)) (X0_3 m c t) (ix2 r j) = _
    exact turned m c t _ (fun j => argP m c (ix2 (tk t r) (col 3 j))) r j fun j => blockP3 m c t r j

theorem final4 (c : Dev nD) : (dats m 0 c).arrAt 15 cfg0.N = outK (argP m c) 4 := by
  refine (dats m 0 c).arrAt_eq_of_covers 15 _ (by decide +kernel) fun t hf y => ?_
  obtain ⟨r, j, rfl⟩ : ∃ (r : Fin 512) (j : Fin 256), y = ix2 r j := ⟨y 0, y 1, eq_ix2 y⟩
  have e : (((cfg0.win 15).blk t).view.emb (ix2 r j) : S8192x256.Idx) = ix2 (tk t r) j := by blk_ext [geom t]
  refine Eq.trans ?_ (congrArg _ e.symm)
  blk_simp
  rw [after0_15]
  refine Eq.trans (b := (k0_pay1 (k0_pay28 (k0_pay6 (iblk m c 9 t)) (k0_pay7 (iblk m c 10 t)) (k0_pay12 (X0_4 m c t))) : Vec Ideal S512x256 .bf16) (ix2 r j)) ?_ ?_
  · unfold outsAt0
    frame_out
  · change rotated (k0_pay6 (iblk m c 9 t)) (k0_pay7 (iblk m c 10 t)) (X0_4 m c t) (ix2 r j) = _
    exact turned m c t _ (fun j => argP m c (ix2 (tk t r) (col 4 j))) r j fun j => blockP4 m c t r j

theorem final5 (c : Dev nD) : (dats m 0 c).arrAt 16 cfg0.N = outK (argP m c) 5 := by
  refine (dats m 0 c).arrAt_eq_of_covers 16 _ (by decide +kernel) fun t hf y => ?_
  obtain ⟨r, j, rfl⟩ : ∃ (r : Fin 512) (j : Fin 256), y = ix2 r j := ⟨y 0, y 1, eq_ix2 y⟩
  have e : (((cfg0.win 16).blk t).view.emb (ix2 r j) : S8192x256.Idx) = ix2 (tk t r) j := by blk_ext [geom t]
  refine Eq.trans ?_ (congrArg _ e.symm)
  blk_simp
  rw [after0_16]
  refine Eq.trans (b := (k0_pay2 (k0_pay29 (k0_pay6 (iblk m c 9 t)) (k0_pay7 (iblk m c 10 t)) (k0_pay13 (X0_5 m c t))) : Vec Ideal S512x256 .bf16) (ix2 r j)) ?_ ?_
  · unfold outsAt0
    frame_out
  · change rotated (k0_pay6 (iblk m c 9 t)) (k0_pay7 (iblk m c 10 t)) (X0_5 m c t) (ix2 r j) = _
    exact turned m c t _ (fun j => argP m c (ix2 (tk t r) (col 5 j))) r j fun j => blockP5 m c t r j

theorem final6 (c : Dev nD) : (dats m 0 c).arrAt 17 cfg0.N = outV (argP m c) 6 := by
  refine (dats m 0 c).arrAt_eq_of_covers 17 _ (by decide +kernel) fun t hf y => ?_
  obtain ⟨r, j, rfl⟩ : ∃ (r : Fin 512) (j : Fin 256), y = ix2 r j := ⟨y 0, y 1, eq_ix2 y⟩
  have e : (((cfg0.win 17).blk t).view.emb (ix2 r j) : S8192x256.Idx) = ix2 (tk t r) j := by blk_ext [geom t]
  refine Eq.trans ?_ (congrArg _ e.symm)
  blk_simp
  rw [after0_17]
  refine Eq.trans (b := (k0_pay3 (k0_pay14 (X0_6 m c t)) : Vec Ideal S512x256 .bf16) (ix2 r j)) ?_ ?_
  · unfold outsAt0
    frame_out
  · exact blockP6 m c t r j

theorem final7 (c : Dev nD) : (dats m 0 c).arrAt 18 cfg0.N = outV (argP m c) 7 := by
  refine (dats m 0 c).arrAt_eq_of_covers 18 _ (by decide +kernel) fun t hf y => ?_
  obtain ⟨r, j, rfl⟩ : ∃ (r : Fin 512) (j : Fin 256), y = ix2 r j := ⟨y 0, y 1, eq_ix2 y⟩
  have e : (((cfg0.win 18).blk t).view.emb (ix2 r j) : S8192x256.Idx) = ix2 (tk t r) j := by blk_ext [geom t]
  refine Eq.trans ?_ (congrArg _ e.symm)
  blk_simp
  rw [after0_18]
  refine Eq.trans (b := (k0_pay4 (k0_pay15 (X0_7 m c t)) : Vec Ideal S512x256 .bf16) (ix2 r j)) ?_ ?_
  · unfold outsAt0
    frame_out
  · exact blockP7 m c t r j

theorem final8 (c : Dev nD) : (dats m 0 c).arrAt 19 cfg0.N = outV (argP m c) 8 := by
  refine (dats m 0 c).arrAt_eq_of_covers 19 _ (by decide +kernel) fun t hf y => ?_
  obtain ⟨r, j, rfl⟩ : ∃ (r : Fin 512) (j : Fin 256), y = ix2 r j := ⟨y 0, y 1, eq_ix2 y⟩
  have e : (((cfg0.win 19).blk t).view.emb (ix2 r j) : S8192x256.Idx) = ix2 (tk t r) j := by blk_ext [geom t]
  refine Eq.trans ?_ (congrArg _ e.symm)
  blk_simp
  rw [after0_19]
  refine Eq.trans (b := (k0_pay5 (k0_pay16 (X0_8 m c t)) : Vec Ideal S512x256 .bf16) (ix2 r j)) ?_ ?_
  · unfold outsAt0
    frame_out
  · exact blockP8 m c t r j

end Cert.RopeIdeal.Value

/-! ## What the reference computes -/

namespace Cert.RopeRefIdeal.Read

open Cert.RopeRefIdeal Cert.RopeRefIdeal.Facts₀ Cert.RopeRefIdeal.Facts
open Cert.RopeIdeal.Value (cosAt sinAt angle pos freq ahead back turn scale col outQ outK outV)

theorem ref_cos (s : Fin 2048) (i : Fin 32) : (val_main_v31 (F := Ideal)) (ix2 s i) = cosAt s i := by
  unfold cosAt angle
  pointwise [val_main_v18, val_main_v19, val_main_v20, val_main_v21, val_main_v22, val_main_v23, val_main_v24, val_main_v25, val_main_v26, val_main_v27, val_main_v28, val_main_v29, val_main_v30, val_main_v31, val_main_cst, val_main_cst_0]

theorem ref_sin (s : Fin 2048) (i : Fin 32) : (val_main_v33 (F := Ideal)) (ix2 s i) = sinAt s i := by
  unfold sinAt angle
  pointwise [val_main_v18, val_main_v19, val_main_v20, val_main_v21, val_main_v22, val_main_v23, val_main_v24, val_main_v25, val_main_v26, val_main_v27, val_main_v28, val_main_v29, val_main_v30, val_main_v33, val_main_cst, val_main_cst_0]

/-- The reference's rotation of a column group. -/
def turnedRows (y : FVec Ideal S8192x256 .f32) : FVec Ideal S8192x256 .f32 :=
  shapeCast S8192x256 (concatenate S4x2048x4x64 3 [⟨S4x2048x4x32, subf
      (mulf (extractStridedSlice S4x2048x4x32 ![0, 0, 0, 0] (shapeCast S4x2048x4x64 y shapeCasts_S8192x256_S4x2048x4x64) slices_S4x2048x4x64_S4x2048x4x32_0_0_0_0) (val_main_v140 (F := Ideal)))
      (mulf (extractStridedSlice S4x2048x4x32 ![0, 0, 0, 32] (shapeCast S4x2048x4x64 y shapeCasts_S8192x256_S4x2048x4x64) slices_S4x2048x4x64_S4x2048x4x32_0_0_0_32) (val_main_v143 (F := Ideal)))⟩,
    ⟨S4x2048x4x32, addf
      (mulf (extractStridedSlice S4x2048x4x32 ![0, 0, 0, 32] (shapeCast S4x2048x4x64 y shapeCasts_S8192x256_S4x2048x4x64) slices_S4x2048x4x64_S4x2048x4x32_0_0_0_32) (val_main_v147 (F := Ideal)))
      (mulf (extractStridedSlice S4x2048x4x32 ![0, 0, 0, 0] (shapeCast S4x2048x4x64 y shapeCasts_S8192x256_S4x2048x4x64) slices_S4x2048x4x64_S4x2048x4x32_0_0_0_0) (val_main_v150 (F := Ideal)))⟩]
    concatenates_S4x2048x4x32_S4x2048x4x32_S4x2048x4x64_d3) shapeCasts_S4x2048x4x64_S8192x256

theorem turn_low (y : Fin 256 → EReal) (t : Fin 8192) (j : Fin 256) (h : j.val % 64 < 32) :
    turn y t j = y j * cosAt (pos t) (freq j) - y (ahead j) * sinAt (pos t) (freq j) := by
  unfold turn
  rw [if_pos h, sub_eq_add_neg]

theorem turn_high (y : Fin 256 → EReal) (t : Fin 8192) (j : Fin 256) (h : ¬ j.val % 64 < 32) :
    turn y t j = y j * cosAt (pos t) (freq j) + y (back j) * sinAt (pos t) (freq j) := by
  unfold turn
  rw [if_neg h]

/-- Entry by entry, a column of the lower half of its head over the reference's tables. -/
theorem turnedRows_low (y : FVec Ideal S8192x256 .f32) (t : Fin 8192) (j : Fin 256) (h : j.val % 64 < 32) :
    turnedRows y (ix2 t j) = y (ix2 t j) * val_main_v31 (F := Ideal) (ix2 (pos t) (freq j))
      - y (ix2 t (ahead j)) * val_main_v33 (F := Ideal) (ix2 (pos t) (freq j)) := by
  pointwise [turnedRows, val_main_v32, val_main_v34, val_main_v139, val_main_v140, val_main_v142, val_main_v143, val_main_v146, val_main_v147, val_main_v149, val_main_v150]
  have hj := j.isLt
  have ea : ∀ p, (⟨j.val / 64 * 64 + (32 + j.val % 64), p⟩ : Fin 256) = ahead j := fun p => Fin.ext (by dsimp only; omega)
  have ef : ∀ p, (⟨j.val % 64, p⟩ : Fin 32) = freq j := fun p => Fin.ext (by dsimp only; omega)
  simp only [h, ea, ef, dif_pos]

/-- The same for a column of the upper half. -/
theorem turnedRows_high (y : FVec Ideal S8192x256 .f32) (t : Fin 8192) (j : Fin 256) (h : ¬ j.val % 64 < 32) :
    turnedRows y (ix2 t j) = y (ix2 t j) * val_main_v31 (F := Ideal) (ix2 (pos t) (freq j))
      + y (ix2 t (back j)) * val_main_v33 (F := Ideal) (ix2 (pos t) (freq j)) := by
  pointwise [turnedRows, val_main_v32, val_main_v34, val_main_v139, val_main_v140, val_main_v142, val_main_v143, val_main_v146, val_main_v147, val_main_v149, val_main_v150]
  have hj := j.isLt
  have ea : ∀ p, (⟨j.val / 64 * 64 + (32 + (j.val % 64 - 32)), p⟩ : Fin 256) = j := fun p => Fin.ext (by dsimp only; omega)
  have eb : ∀ p, (⟨j.val / 64 * 64 + (j.val % 64 - 32), p⟩ : Fin 256) = back j := fun p => Fin.ext (by dsimp only; omega)
  have ef : ∀ p, (⟨j.val % 64 - 32, p⟩ : Fin 32) = freq j := fun p => Fin.ext (by dsimp only; omega)
  simp only [h, ea, eb, ef, dite_false]

theorem turnedRows_apply (y : FVec Ideal S8192x256 .f32) (t : Fin 8192) (j : Fin 256) :
    turnedRows y (ix2 t j) = turn (fun j => y (ix2 t j)) t j := by
  have ec := ref_cos (pos t) (freq j)
  have es := ref_sin (pos t) (freq j)
  by_cases h : j.val % 64 < 32
  · refine (turnedRows_low y t j h).trans (Eq.trans ?_ (turn_low (fun j => y (ix2 t j)) t j h).symm)
    exact congrArg₂ (fun a b : EReal => y (ix2 t j) * a - y (ix2 t (ahead j)) * b) ec es
  · refine (turnedRows_high y t j h).trans (Eq.trans ?_ (turn_high (fun j => y (ix2 t j)) t j h).symm)
    exact congrArg₂ (fun a b : EReal => y (ix2 t j) * a + y (ix2 t (back j)) * b) ec es

theorem ref_col0 (p : FVec Ideal Cert.RopeIdeal.S8192x8064 .bf16) (t : Fin 8192) (j : Fin 256) :
    val_main_v1 (F := Ideal) p (ix2 t j) = p (ix2 t (col 0 j)) := by
  pointwise [val_main_v0, val_main_v1]
  rfl

theorem ref_0 (p : FVec Ideal Cert.RopeIdeal.S8192x8064 .bf16) : val_main_v155 (F := Ideal) p = outQ p 0 := by
  funext i
  obtain ⟨t, j, rfl⟩ : ∃ (t : Fin 8192) (j : Fin 256), i = ix2 t j := ⟨i 0, i 1, eq_ix2 i⟩
  change turnedRows (val_main_v1 (F := Ideal) p) (ix2 t j) * scale = turn (fun j => p (ix2 t (col 0 j))) t j * scale
  rw [turnedRows_apply]
  simp only [ref_col0]

theorem ref_col1 (p : FVec Ideal Cert.RopeIdeal.S8192x8064 .bf16) (t : Fin 8192) (j : Fin 256) :
    val_main_v3 (F := Ideal) p (ix2 t j) = p (ix2 t (col 1 j)) := by
  pointwise [val_main_v2, val_main_v3]
  rfl

theorem ref_1 (p : FVec Ideal Cert.RopeIdeal.S8192x8064 .bf16) : val_main_v156 (F := Ideal) p = outQ p 1 := by
  funext i
  obtain ⟨t, j, rfl⟩ : ∃ (t : Fin 8192) (j : Fin 256), i = ix2 t j := ⟨i 0, i 1, eq_ix2 i⟩
  change turnedRows (val_main_v3 (F := Ideal) p) (ix2 t j) * scale = turn (fun j => p (ix2 t (col 1 j))) t j * scale
  rw [turnedRows_apply]
  simp only [ref_col1]

theorem ref_col2 (p : FVec Ideal Cert.RopeIdeal.S8192x8064 .bf16) (t : Fin 8192) (j : Fin 256) :
    val_main_v5 (F := Ideal) p (ix2 t j) = p (ix2 t (col 2 j)) := by
  pointwise [val_main_v4, val_main_v5]
  rfl

theorem ref_2 (p : FVec Ideal Cert.RopeIdeal.S8192x8064 .bf16) : val_main_v157 (F := Ideal) p = outQ p 2 := by
  funext i
  obtain ⟨t, j, rfl⟩ : ∃ (t : Fin 8192) (j : Fin 256), i = ix2 t j := ⟨i 0, i 1, eq_ix2 i⟩
  change turnedRows (val_main_v5 (F := Ideal) p) (ix2 t j) * scale = turn (fun j => p (ix2 t (col 2 j))) t j * scale
  rw [turnedRows_apply]
  simp only [ref_col2]

theorem ref_col3 (p : FVec Ideal Cert.RopeIdeal.S8192x8064 .bf16) (t : Fin 8192) (j : Fin 256) :
    val_main_v7 (F := Ideal) p (ix2 t j) = p (ix2 t (col 3 j)) := by
  pointwise [val_main_v6, val_main_v7]
  rfl

theorem ref_3 (p : FVec Ideal Cert.RopeIdeal.S8192x8064 .bf16) : val_main_v158 (F := Ideal) p = outK p 3 := by
  funext i
  obtain ⟨t, j, rfl⟩ : ∃ (t : Fin 8192) (j : Fin 256), i = ix2 t j := ⟨i 0, i 1, eq_ix2 i⟩
  change turnedRows (val_main_v7 (F := Ideal) p) (ix2 t j) = turn (fun j => p (ix2 t (col 3 j))) t j
  rw [turnedRows_apply]
  simp only [ref_col3]

theorem ref_col4 (p : FVec Ideal Cert.RopeIdeal.S8192x8064 .bf16) (t : Fin 8192) (j : Fin 256) :
    val_main_v9 (F := Ideal) p (ix2 t j) = p (ix2 t (col 4 j)) := by
  pointwise [val_main_v8, val_main_v9]
  rfl

theorem ref_4 (p : FVec Ideal Cert.RopeIdeal.S8192x8064 .bf16) : val_main_v159 (F := Ideal) p = outK p 4 := by
  funext i
  obtain ⟨t, j, rfl⟩ : ∃ (t : Fin 8192) (j : Fin 256), i = ix2 t j := ⟨i 0, i 1, eq_ix2 i⟩
  change turnedRows (val_main_v9 (F := Ideal) p) (ix2 t j) = turn (fun j => p (ix2 t (col 4 j))) t j
  rw [turnedRows_apply]
  simp only [ref_col4]

theorem ref_col5 (p : FVec Ideal Cert.RopeIdeal.S8192x8064 .bf16) (t : Fin 8192) (j : Fin 256) :
    val_main_v11 (F := Ideal) p (ix2 t j) = p (ix2 t (col 5 j)) := by
  pointwise [val_main_v10, val_main_v11]
  rfl

theorem ref_5 (p : FVec Ideal Cert.RopeIdeal.S8192x8064 .bf16) : val_main_v160 (F := Ideal) p = outK p 5 := by
  funext i
  obtain ⟨t, j, rfl⟩ : ∃ (t : Fin 8192) (j : Fin 256), i = ix2 t j := ⟨i 0, i 1, eq_ix2 i⟩
  change turnedRows (val_main_v11 (F := Ideal) p) (ix2 t j) = turn (fun j => p (ix2 t (col 5 j))) t j
  rw [turnedRows_apply]
  simp only [ref_col5]

theorem ref_col6 (p : FVec Ideal Cert.RopeIdeal.S8192x8064 .bf16) (t : Fin 8192) (j : Fin 256) :
    val_main_v13 (F := Ideal) p (ix2 t j) = p (ix2 t (col 6 j)) := by
  pointwise [val_main_v12, val_main_v13]
  rfl

theorem ref_6 (p : FVec Ideal Cert.RopeIdeal.S8192x8064 .bf16) : val_main_v161 (F := Ideal) p = outV p 6 := by
  funext i
  obtain ⟨t, j, rfl⟩ : ∃ (t : Fin 8192) (j : Fin 256), i = ix2 t j := ⟨i 0, i 1, eq_ix2 i⟩
  exact ref_col6 p t j

theorem ref_col7 (p : FVec Ideal Cert.RopeIdeal.S8192x8064 .bf16) (t : Fin 8192) (j : Fin 256) :
    val_main_v15 (F := Ideal) p (ix2 t j) = p (ix2 t (col 7 j)) := by
  pointwise [val_main_v14, val_main_v15]
  rfl

theorem ref_7 (p : FVec Ideal Cert.RopeIdeal.S8192x8064 .bf16) : val_main_v162 (F := Ideal) p = outV p 7 := by
  funext i
  obtain ⟨t, j, rfl⟩ : ∃ (t : Fin 8192) (j : Fin 256), i = ix2 t j := ⟨i 0, i 1, eq_ix2 i⟩
  exact ref_col7 p t j

theorem ref_col8 (p : FVec Ideal Cert.RopeIdeal.S8192x8064 .bf16) (t : Fin 8192) (j : Fin 256) :
    val_main_v17 (F := Ideal) p (ix2 t j) = p (ix2 t (col 8 j)) := by
  pointwise [val_main_v16, val_main_v17]
  rfl

theorem ref_8 (p : FVec Ideal Cert.RopeIdeal.S8192x8064 .bf16) : val_main_v163 (F := Ideal) p = outV p 8 := by
  funext i
  obtain ⟨t, j, rfl⟩ : ∃ (t : Fin 8192) (j : Fin 256), i = ix2 t j := ⟨i 0, i 1, eq_ix2 i⟩
  exact ref_col8 p t j

end Cert.RopeRefIdeal.Read

end
-- ==== Proof.LossHeadValue.lean ====
/-
  The loss head behind the last norm: the loss, its gradient in the rows and its gradient in the gain are `outL`, `outX` and
  `outG`, for the kernel and for the reference. The loss and the gain's gradient are summed over sixteen blocks of 512 rows
  by the kernel; the half in front of the loss moves over the sum, being a finite number above zero.
-/
module

public import proofs.«01_k».proof.Proof.Gen.LossHeadIdeal.Value
public import proofs.«01_k».proof.Proof.Gen.LossHeadRefIdeal.Read
public import proofs.«01_k».proof.Proof.FfnBValue
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LossHeadIdeal.Value

open Cert.LossHeadIdeal Cert.LossHeadIdeal.Gen
open Cert.FfnBIdeal.Value (meanSq normed dMean dRow dGain rowOf gainOf)

variable (m : (ℓ : Loc nD τ sig) → Buf (Elt Ideal) ℓ) (ρ : Dev nD → PrngReg)

/-! ## The three arrays -/

/-- The error of a row against its target, -/
def err (x g y : Fin 1024 → EReal) (l : Fin 1024) : EReal := normed x g l - y l

/-- the mean of its squares, -/
def rowLoss (x g y : Fin 1024 → EReal) : EReal :=
  Ideal.div (∑ l, err x g y l * err x g y l) (Ideal.ofBits .f32 0x44800000#32)

/-- and the loss's gradient in the normed row. -/
def dErr (x g y : Fin 1024 → EReal) (l : Fin 1024) : EReal :=
  err x g y l * Ideal.div (Ideal.ofBits .f32 0x3F000000#32) (Ideal.ofBits .f32 0x44800000#32)
    + Ideal.div (Ideal.ofBits .f32 0x3F000000#32) (Ideal.ofBits .f32 0x44800000#32) * err x g y l

section Arrays

variable (x : FVec Ideal S8192x1024 .f32) (g : FVec Ideal S1x1024 .f32) (y : FVec Ideal S8192x1024 .f32)

/-- The loss, in every entry of a tile, -/
def outL : FVec Ideal S8x128 .f32 := fun _ =>
  ∑ t : Fin 8192, Ideal.ofBits .f32 0x3F000000#32 * rowLoss (rowOf x t) (gainOf g) (rowOf y t)

/-- its gradient in the rows, -/
def outX : FVec Ideal S8192x1024 .f32 := fun i =>
  dRow (rowOf x (i 0)) (gainOf g) (dErr (rowOf x (i 0)) (gainOf g) (rowOf y (i 0))) (fun _ => 0) (i 1)

/-- and in the gain. -/
def outG : FVec Ideal S1x1024 .f32 := fun i =>
  ∑ t : Fin 8192, dGain (rowOf x t) (dErr (rowOf x t) (gainOf g) (rowOf y t)) (i 1)

end Arrays

/-! ## Two facts of the extended reals -/

theorem half_eq : Ideal.ofBits .f32 0x3F000000#32 = ((1 / 2 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]
  norm_num

/-- Twice a value is its sum with itself. -/
theorem double (c e : EReal) : c * (Ideal.ofBits .f32 0x40000000#32 * e) = e * c + c * e := by
  have h : ∀ z : EReal, ((2 : ℝ) : EReal) * z = z + z := fun z => by
    have := EReal.nsmul_eq_mul 2 z
    rw [two_nsmul] at this
    rw [this]; rfl
  rw [two_eq, mul_left_comm, h, mul_comm e c]

/-- A half in front of a sum stands in front of its terms. -/
theorem half_sum {ι : Type} (s : Finset ι) (f : ι → EReal) :
    Ideal.ofBits .f32 0x3F000000#32 * ∑ t ∈ s, f t = ∑ t ∈ s, Ideal.ofBits .f32 0x3F000000#32 * f t := by
  have h0 : (0 : EReal) ≤ Ideal.ofBits .f32 0x3F000000#32 := by rw [half_eq]; exact_mod_cast (by norm_num : (0 : ℝ) ≤ 1 / 2)
  have h1 : Ideal.ofBits .f32 0x3F000000#32 ≠ ⊤ := by rw [half_eq]; exact EReal.coe_ne_top _
  classical
  induction s using Finset.induction_on with
  | empty => simp
  | insert a s ha ih => rw [Finset.sum_insert ha, Finset.sum_insert ha, EReal.left_distrib_of_nonneg_of_ne_top h0 h1, ih]

/-! ## The payloads -/

section Payloads

variable (x y : Vec Ideal S512x1024 .f32) (g : Vec Ideal S1x1024 .f32)

theorem pay_err (r : Fin 512) (l : Fin 1024) :
    k0_pay12 x g y (ix2 r l) = dErr (fun l => x (ix2 r l)) (fun l => g (ix2 0 l)) (fun l => y (ix2 r l)) l := by
  unfold dErr err normed meanSq
  pointwise [k0_pay12, k0_pay10, k0_pay9, k0_pay7, k0_pay6]
  simp only [Fin.sum_univ_one, Finset.univ_unique, Finset.sum_const, Finset.card_singleton, one_smul, mul_one]

theorem pay_row (r : Fin 512) (l : Fin 1024) :
    k0_pay2 x g (k0_pay7 x) (k0_pay8 x) (k0_pay12 x g y) (ix2 r l)
      = dRow (fun l => x (ix2 r l)) (fun l => g (ix2 0 l))
          (dErr (fun l => x (ix2 r l)) (fun l => g (ix2 0 l)) (fun l => y (ix2 r l))) (fun _ => 0) l := by
  have h := pay_err x y g r
  generalize k0_pay12 x g y = d at h ⊢
  rw [← funext h]
  unfold dRow dMean meanSq
  pointwise [k0_pay2, k0_pay8, k0_pay7, k0_pay6]
  simp only [Fin.sum_univ_one, Finset.univ_unique, Finset.sum_const, Finset.card_singleton, one_smul, zero_add]

theorem pay_gain (u : Fin 1) (l : Fin 1024) :
    k0_pay1 (k0_pay13 x g y) (ix2 u l) = ∑ r : Fin 512, dGain (fun l => x (ix2 r l))
      (dErr (fun l => x (ix2 r l)) (fun l => g (ix2 0 l)) (fun l => y (ix2 r l))) l := by
  have h := fun r l => pay_err x y g r l
  unfold k0_pay13
  generalize k0_pay12 x g y = d at h ⊢
  simp only [← h]
  unfold dGain meanSq
  pointwise [k0_pay1, k0_pay9, k0_pay7, k0_pay6]
  simp only [h]

theorem pay_loss (j : S8x128.Idx) :
    k0_pay3 (k0_pay11 x g y) j = ∑ r : Fin 512, Ideal.ofBits .f32 0x3F000000#32
      * rowLoss (fun l => x (ix2 r l)) (fun l => g (ix2 0 l)) (fun l => y (ix2 r l)) := by
  rw [← half_sum]
  unfold rowLoss err normed meanSq
  pointwise [k0_pay3, k0_pay11, k0_pay10, k0_pay9, k0_pay7, k0_pay6]
  simp only [Fin.sum_univ_one, Finset.univ_unique, Finset.sum_const, Finset.card_singleton, one_smul]

end Payloads

/-! ## The blocks -/

theorem geom : ∀ t : Fin cfg0.N,
    win0_0.index t = ![t.val, 0] ∧ win0_1.index t = ![0, 0] ∧ win0_2.index t = ![t.val, 0] ∧ win0_3.index t = ![0, 0]
      ∧ win0_4.index t = ![t.val, 0] ∧ win0_5.index t = ![0, 0] := by decide +kernel

theorem pt_lt (t : Fin cfg0.N) : t.val < 16 := lt_of_lt_of_eq t.isLt N_0

/-- The token of row `r` of point `t`'s blocks. -/
abbrev tk (t : Fin cfg0.N) (r : Fin 512) : Fin 8192 := ⟨t.val * 512 + r.val, by have := pt_lt t; omega⟩

abbrev argX (c : Dev nD) : FVec Ideal S8192x1024 .f32 := m (c.tc.loc main_arg0)
abbrev argG (c : Dev nD) : FVec Ideal S1x1024 .f32 := m (c.tc.loc main_arg1)
abbrev argY (c : Dev nD) : FVec Ideal S8192x1024 .f32 := m (c.tc.loc main_arg2)

theorem blockX (c : Dev nD) (t : Fin cfg0.N) (r : Fin 512) :
    (fun l : Fin 1024 => (iblk m c 0 t : Vec Ideal S512x1024 .f32) (ix2 r l)) = rowOf (argX m c) (tk t r) := by
  funext l
  unfold rowOf
  blk_ext [iblk, V, geom t]

theorem blockG (c : Dev nD) (t : Fin cfg0.N) :
    (fun l : Fin 1024 => (iblk m c 1 t : Vec Ideal S1x1024 .f32) (ix2 0 l)) = gainOf (argG m c) := by
  funext l
  unfold gainOf
  blk_ext [iblk, V, geom t]

theorem blockY (c : Dev nD) (t : Fin cfg0.N) (r : Fin 512) :
    (fun l : Fin 1024 => (iblk m c 2 t : Vec Ideal S512x1024 .f32) (ix2 r l)) = rowOf (argY m c) (tk t r) := by
  funext l
  unfold rowOf
  blk_ext [iblk, V, geom t]

/-! ## What the kernel leaves -/

theorem stored_row (c : Dev nD) (t : Fin cfg0.N) :
    (outsAt0 m c t.val t.isLt).2.1 = k0_pay2 (iblk m c 0 t) (iblk m c 1 t) (k0_pay7 (iblk m c 0 t)) (k0_pay8 (iblk m c 0 t))
      (k0_pay12 (iblk m c 0 t) (iblk m c 1 t) (iblk m c 2 t)) := by
  have hN := pt_lt t
  by_cases h : 1 ≤ t.val
  · rw [outsAt0_B m c t (by omega) h]
    frame_out
  · rw [outsAt0_A m c t (by omega) h]
    frame_out

theorem final_x (c : Dev nD) : (dats m 0 c).arrAt 4 cfg0.N = outX (argX m c) (argG m c) (argY m c) := by
  refine (dats m 0 c).arrAt_eq_of_covers 4 _ (by decide +kernel) fun t hf y => ?_
  obtain ⟨r, l, rfl⟩ : ∃ (r : Fin 512) (l : Fin 1024), y = ix2 r l := ⟨y 0, y 1, eq_ix2 y⟩
  have e : (((cfg0.win 4).blk t).view.emb (ix2 r l) : S8192x1024.Idx) = ix2 (tk t r) l := by blk_ext [geom t]
  refine Eq.trans ?_ (congrArg _ e.symm)
  blk_simp
  rw [after0_4, stored_row]
  refine (pay_row _ _ _ r l).trans ?_
  rw [blockX m c t r, blockG m c t, blockY m c t r]
  rfl

/-- A point's part of the gradient in the gain, -/
def gainAt (c : Dev nD) (t : Fin cfg0.N) (j : S1x1024.Idx) : EReal :=
  ∑ r : Fin 512, dGain (rowOf (argX m c) (tk t r))
    (dErr (rowOf (argX m c) (tk t r)) (gainOf (argG m c)) (rowOf (argY m c) (tk t r))) (j 1)

/-- and of the loss. -/
def lossAt (c : Dev nD) (t : Fin cfg0.N) (j : S8x128.Idx) : EReal :=
  ∑ r : Fin 512, Ideal.ofBits .f32 0x3F000000#32
    * rowLoss (rowOf (argX m c) (tk t r)) (gainOf (argG m c)) (rowOf (argY m c) (tk t r))

theorem gainAt_eq (c : Dev nD) (t : Fin cfg0.N) (j : S1x1024.Idx) :
    k0_pay1 (k0_pay13 (iblk m c 0 t) (iblk m c 1 t) (iblk m c 2 t)) j = gainAt m c t j := by
  obtain ⟨u, l, rfl⟩ : ∃ (u : Fin 1) (l : Fin 1024), j = ix2 u l := ⟨j 0, j 1, eq_ix2 j⟩
  refine (pay_gain _ _ _ u l).trans (Finset.sum_congr rfl fun r _ => ?_)
  rw [blockX m c t r, blockG m c t, blockY m c t r]
  rfl

theorem lossAt_eq (c : Dev nD) (t : Fin cfg0.N) (j : S8x128.Idx) :
    k0_pay3 (k0_pay11 (iblk m c 0 t) (iblk m c 1 t) (iblk m c 2 t)) j = lossAt m c t j := by
  refine (pay_loss _ _ _ j).trans (Finset.sum_congr rfl fun r _ => ?_)
  rw [blockX m c t r, blockG m c t, blockY m c t r]

theorem gain_first (c : Dev nD) (t : Fin cfg0.N) (h : t.val % 16 = 0) (j : S1x1024.Idx) :
    (outsAt0 m c t.val t.isLt).2.2 j = 0 + gainAt m c t j := by
  have hN := pt_lt t
  rw [outsAt0_A m c t h (by omega), zero_add, ← gainAt_eq]
  frame_out

theorem gain_next (c : Dev nD) (t : Fin cfg0.N) (h : ¬ t.val % 16 = 0) (j : S1x1024.Idx) :
    (outsAt0 m c t.val t.isLt).2.2 j
      = (outsAt0 m c (t.val - 1) (Nat.lt_of_le_of_lt (Nat.sub_le _ _) t.isLt)).2.2 j + gainAt m c t j := by
  have hN := pt_lt t
  rw [outsAt0_B m c t h (by omega), ← gainAt_eq]
  frame_out
  generalize k0_pay13 (F := Ideal) _ _ _ = d
  pointwise [k0_pay4]

theorem loss_first (c : Dev nD) (t : Fin cfg0.N) (h : t.val % 16 = 0) (j : S8x128.Idx) :
    (outsAt0 m c t.val t.isLt).1 j = 0 + lossAt m c t j := by
  have hN := pt_lt t
  rw [outsAt0_A m c t h (by omega), zero_add, ← lossAt_eq]
  frame_out

theorem loss_next (c : Dev nD) (t : Fin cfg0.N) (h : ¬ t.val % 16 = 0) (j : S8x128.Idx) :
    (outsAt0 m c t.val t.isLt).1 j
      = (outsAt0 m c (t.val - 1) (Nat.lt_of_le_of_lt (Nat.sub_le _ _) t.isLt)).1 j + lossAt m c t j := by
  have hN := pt_lt t
  rw [outsAt0_B m c t h (by omega), ← lossAt_eq]
  frame_out
  generalize k0_pay11 (F := Ideal) _ _ _ = d
  pointwise [k0_pay5]

theorem final_g (c : Dev nD) : (dats m 0 c).arrAt 5 cfg0.N = outG (argX m c) (argG m c) (argY m c) := by
  refine (dats m 0 c).arrAt_eq_of_after_last 5 t0_15 (by decide +kernel) _ fun j => ?_
  obtain ⟨u, l, rfl⟩ : ∃ (u : Fin 1) (l : Fin 1024), j = ix2 u l := ⟨j 0, j 1, eq_ix2 j⟩
  blk_simp
  rw [after0_5]
  refine (Pipeline.eq_sum_fin_of_reset_step_apply_last (fun n h => (outsAt0 m c n h).2.2) 16 (fun _ => 0) (gainAt m c)
    (gain_first m c) (gain_next m c) (le_of_eq N_0) t0_15 rfl (ix2 u l)).trans ?_
  rw [zero_add]
  exact Fin.sum_mul_add_fin 16 512 fun t => dGain (rowOf (argX m c) t)
    (dErr (rowOf (argX m c) t) (gainOf (argG m c)) (rowOf (argY m c) t)) l

theorem final_l (c : Dev nD) : (dats m 0 c).arrAt 3 cfg0.N = outL (argX m c) (argG m c) (argY m c) := by
  refine (dats m 0 c).arrAt_eq_of_after_last 3 t0_15 (by decide +kernel) _ fun j => ?_
  obtain ⟨u, l, rfl⟩ : ∃ (u : Fin 8) (l : Fin 128), j = ix2 u l := ⟨j 0, j 1, eq_ix2 j⟩
  blk_simp
  rw [after0_3]
  refine (Pipeline.eq_sum_fin_of_reset_step_apply_last (fun n h => (outsAt0 m c n h).1) 16 (fun _ => 0) (lossAt m c)
    (loss_first m c) (loss_next m c) (le_of_eq N_0) t0_15 rfl (ix2 u l)).trans ?_
  rw [zero_add]
  exact Fin.sum_mul_add_fin 16 512 fun t => Ideal.ofBits .f32 0x3F000000#32
    * rowLoss (rowOf (argX m c) t) (gainOf (argG m c)) (rowOf (argY m c) t)

/-! ## The reference's results are these arrays -/

section Reference

open Cert.LossHeadRefIdeal.Read

variable (x : FVec Ideal S8192x1024 .f32) (g : FVec Ideal S1x1024 .f32) (y : FVec Ideal S8192x1024 .f32)

theorem ref_err (t : Fin 8192) (l : Fin 1024) :
    val_main_v31 (F := Ideal) x g y (ix2 t l) = dErr (rowOf x t) (gainOf g) (rowOf y t) l := by
  unfold dErr
  rw [← double]
  unfold err normed meanSq rowOf gainOf
  pointwise [val_main_v0, val_main_v1, val_main_cst, val_main_v2, val_main_v3, val_main_cst_0, val_main_v4, val_main_v5,
    val_main_cst_1, val_main_v6, val_main_v7, val_main_v8, val_main_v9, val_main_cst_2, val_main_v10, val_main_v11,
    val_main_v12, val_main_v13, val_main_v14, val_main_v15, val_main_v16, val_main_v17, val_main_v18,
    val_main_cst_3, val_main_v19, val_main_v20, val_main_cst_4, val_main_v21, val_main_cst_5, val_main_v22,
    val_main_v23, val_main_cst_6, val_main_v24, val_main_cst_7, val_main_v25, val_main_cst_8, val_main_cst_9,
    val_main_v26, val_main_v27, val_main_cst_10, val_main_v28, val_main_v29, val_main_v30, val_main_v31,
    val_main_v32, val_main_cst_11, val_main_v33, val_main_v34, val_main_v35, val_main_v36, val_main_cst_12,
    val_main_v37, val_main_v38, val_main_cst_13, val_main_v39, val_main_v40, val_main_v41, val_main_v42,
    val_main_v43, val_main_cst_14, val_main_v44, val_main_v45, val_main_cst_15, val_main_v46, val_main_v47,
    val_main_v48, val_main_v49, val_main_v50, val_main_v51, val_main_v52, val_main_v53]

theorem ref_l : val_main_v52 (F := Ideal) x g y = outL x g y := by
  funext i
  idx_vars i
  unfold outL
  rw [← half_sum]
  unfold rowLoss err normed meanSq rowOf gainOf
  pointwise [val_main_v0, val_main_v1, val_main_cst, val_main_v2, val_main_v3, val_main_cst_0, val_main_v4, val_main_v5,
    val_main_cst_1, val_main_v6, val_main_v7, val_main_v8, val_main_v9, val_main_cst_2, val_main_v10, val_main_v11,
    val_main_v12, val_main_v13, val_main_v14, val_main_v15, val_main_v16, val_main_v17, val_main_v18,
    val_main_cst_3, val_main_v19, val_main_v20, val_main_cst_4, val_main_v21, val_main_cst_5, val_main_v22,
    val_main_v23, val_main_cst_6, val_main_v24, val_main_cst_7, val_main_v25, val_main_cst_8, val_main_cst_9,
    val_main_v26, val_main_v27, val_main_cst_10, val_main_v28, val_main_v29, val_main_v30, val_main_v31,
    val_main_v32, val_main_cst_11, val_main_v33, val_main_v34, val_main_v35, val_main_v36, val_main_cst_12,
    val_main_v37, val_main_v38, val_main_cst_13, val_main_v39, val_main_v40, val_main_v41, val_main_v42,
    val_main_v43, val_main_cst_14, val_main_v44, val_main_v45, val_main_cst_15, val_main_v46, val_main_v47,
    val_main_v48, val_main_v49, val_main_v50, val_main_v51, val_main_v52, val_main_v53]

set_option maxHeartbeats 1000000 in
theorem ref_x : val_main_v51 (F := Ideal) x g y = outX x g y := by
  funext i
  obtain ⟨t, l, rfl⟩ : ∃ (t : Fin 8192) (l : Fin 1024), i = ix2 t l := ⟨i 0, i 1, eq_ix2 i⟩
  change _ = dRow (rowOf x t) (gainOf g) (dErr (rowOf x t) (gainOf g) (rowOf y t)) (fun _ => 0) l
  rw [← funext (ref_err x g y t)]
  unfold val_main_v51 val_main_v50 val_main_v49 val_main_v48 val_main_v47 val_main_v46 val_main_v45 val_main_v43 val_main_v42
    val_main_v40 val_main_v39 val_main_v38 val_main_v36
  generalize val_main_v31 (F := Ideal) x g y = d
  unfold rowOf gainOf dRow dMean meanSq
  pointwise [val_main_v0, val_main_v1, val_main_cst, val_main_v2, val_main_v3, val_main_cst_0, val_main_v4, val_main_v5,
    val_main_cst_1, val_main_v6, val_main_v7, val_main_v8, val_main_v9, val_main_cst_2, val_main_v10, val_main_v11,
    val_main_v12, val_main_v13, val_main_v14, val_main_v15, val_main_v16, val_main_v17, val_main_v18,
    val_main_cst_3, val_main_v19, val_main_v20, val_main_cst_4, val_main_v21, val_main_cst_5, val_main_v22,
    val_main_v23, val_main_cst_6, val_main_v24, val_main_cst_7, val_main_v25, val_main_cst_8, val_main_cst_9,
    val_main_v26, val_main_v27, val_main_cst_10, val_main_v28, val_main_v29, val_main_v30, val_main_v32,
    val_main_cst_11, val_main_v33, val_main_v34, val_main_v35, val_main_v36, val_main_cst_12, val_main_v37,
    val_main_v38, val_main_cst_13, val_main_v39, val_main_v40, val_main_v41, val_main_v42, val_main_v43,
    val_main_cst_14, val_main_v44, val_main_v45, val_main_cst_15, val_main_v46, val_main_v47, val_main_v48,
    val_main_v49, val_main_v50, val_main_v51, val_main_v52, val_main_v53]
  simp only [Fin.sum_univ_one, Finset.univ_unique, Finset.sum_const, Finset.card_singleton, one_smul, zero_add]

theorem ref_g : val_main_v53 (F := Ideal) x g y = outG x g y := by
  funext i
  idx_vars i
  have h := ref_err x g y
  unfold outG
  simp only [← funext (h _)]
  unfold val_main_v53 val_main_v37 val_main_v34 val_main_v33 val_main_v32
  generalize val_main_v31 (F := Ideal) x g y = d
  unfold rowOf dGain meanSq
  pointwise [val_main_v0, val_main_v1, val_main_cst, val_main_v2, val_main_v3, val_main_cst_0, val_main_v4, val_main_v5,
    val_main_cst_1, val_main_v6, val_main_v7, val_main_v8, val_main_v9, val_main_cst_2, val_main_v10, val_main_v11,
    val_main_v12, val_main_v13, val_main_v14, val_main_v15, val_main_v16, val_main_v17, val_main_v18,
    val_main_cst_3, val_main_v19, val_main_v20, val_main_cst_4, val_main_v21, val_main_cst_5, val_main_v22,
    val_main_v23, val_main_cst_6, val_main_v24, val_main_cst_7, val_main_v25, val_main_cst_8, val_main_cst_9,
    val_main_v26, val_main_v27, val_main_cst_10, val_main_v28, val_main_v29, val_main_v30, val_main_v32,
    val_main_cst_11, val_main_v33, val_main_v34, val_main_v35, val_main_v36, val_main_cst_12, val_main_v37,
    val_main_v38, val_main_cst_13, val_main_v39, val_main_v40, val_main_v41, val_main_v42, val_main_v43,
    val_main_cst_14, val_main_v44, val_main_v45, val_main_cst_15, val_main_v46, val_main_v47, val_main_v48,
    val_main_v49, val_main_v50, val_main_v51, val_main_v52, val_main_v53]
  simp only [Fin.sum_univ_one, Finset.univ_unique, Finset.sum_const, Finset.card_singleton, one_smul, zero_add]

end Reference

end Cert.LossHeadIdeal.Value

end
-- ==== Proof.AdamWValue.lean ====
/-
  The optimiser's step of the feed-forward weights: from the eight partial gradients, the weights and the two moments, every
  block of the kernel's four results holds the sum, the step and the new moments (`pay_sum`, `pay_mean`, `pay_square`,
  `pay_step`), and so do the reference's arrays (`ref_g`, `ref_d`, `ref_m`, `ref_v`).
-/
module

public import proofs.«01_k».proof.Proof.Gen.AdamWIdeal.Value
public import proofs.«01_k».proof.Proof.Gen.AdamWRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamWIdeal.Value

open Cert.AdamWIdeal Cert.AdamWIdeal.Gen

variable (m : (ℓ : Loc nD τ sig) → Buf (Elt Ideal) ℓ) (ρ : Dev nD → PrngReg)

/-- The sum of the eight partial gradients. -/
def total (p : Fin 8 → EReal) : EReal := p 0 + p 1 + p 2 + p 3 + p 4 + p 5 + p 6 + p 7

/-- The first moment after the step. -/
def mean (g a : EReal) : EReal := Ideal.ofBits .f32 0x3F666666#32 * a + Ideal.ofBits .f32 0x3DCCCCCD#32 * g

/-- The second moment after the step. -/
def square (g b : EReal) : EReal := Ideal.ofBits .f32 0x3F7FBE77#32 * b + Ideal.ofBits .f32 0x3A83126F#32 * (g * g)

/-- The change of the weight: the two moments without their bias, the decay, and the rate. -/
def step (g w a b : EReal) : EReal :=
  Ideal.ofBits .f32 0xBA83126F#32 * (Ideal.div (Ideal.div (mean g a) (Ideal.ofBits .f32 0x3F26BD02#32))
    (Ideal.sqrt (Ideal.div (square g b) (Ideal.ofBits .f32 0x3C231ACC#32)) + Ideal.ofBits .f32 0x322BCC77#32)
    + Ideal.ofBits .f32 0x3C23D70A#32 * w)

/-- The partial gradients and a weight-shaped array, their first two axes of rows joined. -/
def rowsP (p : FVec Ideal S8x4x352x1024 .bf16) : FVec Ideal S8x1408x1024 .bf16 := shapeCast S8x1408x1024 p shapeCasts_S8x4x352x1024_S8x1408x1024
def rows (w : FVec Ideal S4x352x1024 .f32) : FVec Ideal S1408x1024 .f32 := shapeCast S1408x1024 w shapeCasts_S4x352x1024_S1408x1024

/-- The summed gradient at a row and column. -/
def grad (p : FVec Ideal S8x4x352x1024 .bf16) (q : Fin 1408) (l : Fin 1024) : EReal := total fun d => rowsP p (ix3 d q l)

def outG (p : FVec Ideal S8x4x352x1024 .bf16) : FVec Ideal S1408x1024 .f32 := fun i => grad p (i 0) (i 1)
def outD (p : FVec Ideal S8x4x352x1024 .bf16) (w a b : FVec Ideal S4x352x1024 .f32) : FVec Ideal S1408x1024 .f32 := fun i =>
  step (grad p (i 0) (i 1)) (rows w (ix2 (i 0) (i 1))) (rows a (ix2 (i 0) (i 1))) (rows b (ix2 (i 0) (i 1)))
def outM (p : FVec Ideal S8x4x352x1024 .bf16) (a : FVec Ideal S4x352x1024 .f32) : FVec Ideal S1408x1024 .f32 := fun i =>
  mean (grad p (i 0) (i 1)) (rows a (ix2 (i 0) (i 1)))
def outV (p : FVec Ideal S8x4x352x1024 .bf16) (b : FVec Ideal S4x352x1024 .f32) : FVec Ideal S1408x1024 .f32 := fun i =>
  square (grad p (i 0) (i 1)) (rows b (ix2 (i 0) (i 1)))

theorem pay_sum (p0 p1 p2 p3 p4 p5 p6 p7 : Vec Ideal S1x352x1024 .bf16) (r : Fin 352) (l : Fin 1024) :
    k0_pay4 p0 p1 p2 p3 p4 p5 p6 p7 (ix2 r l) = p0 (ix3 0 r l) + p1 (ix3 0 r l) + p2 (ix3 0 r l) + p3 (ix3 0 r l) + p4 (ix3 0 r l) + p5 (ix3 0 r l) + p6 (ix3 0 r l) + p7 (ix3 0 r l) := by
  pointwise [k0_pay4]

theorem pay_mean (g : FVec Ideal S352x1024 .f32) (a : Vec Ideal S352x1024 .f32) (r : Fin 352) (l : Fin 1024) :
    k0_pay1 g (k0_pay5 a) (ix2 r l) = mean (g (ix2 r l)) (a (ix2 r l)) := by
  unfold mean
  pointwise [k0_pay1, k0_pay5]

theorem pay_square (g : FVec Ideal S352x1024 .f32) (b : Vec Ideal S352x1024 .f32) (r : Fin 352) (l : Fin 1024) :
    k0_pay2 g b (ix2 r l) = square (g (ix2 r l)) (b (ix2 r l)) := by
  unfold square
  pointwise [k0_pay2]

theorem pay_step (g : FVec Ideal S352x1024 .f32) (w a b : Vec Ideal S352x1024 .f32) (r : Fin 352) (l : Fin 1024) :
    k0_pay3 g (k0_pay5 a) b w (ix2 r l) = step (g (ix2 r l)) (w (ix2 r l)) (a (ix2 r l)) (b (ix2 r l)) := by
  unfold step mean square
  pointwise [k0_pay3, k0_pay1, k0_pay2, k0_pay5]

theorem geom : ∀ t : Fin cfg0.N,
    win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] := by decide +kernel

theorem pt_lt (t : Fin cfg0.N) : t.val < 4 := lt_of_lt_of_eq t.isLt N_0

/-- The weights' row of row `r` of point `t`'s blocks. -/
abbrev tk (t : Fin cfg0.N) (r : Fin 352) : Fin 1408 := ⟨t.val * 352 + r.val, by have := pt_lt t; omega⟩

abbrev argP (c : Dev nD) : FVec Ideal S8x4x352x1024 .bf16 := m (c.tc.loc main_arg0)
abbrev argW (c : Dev nD) : FVec Ideal S4x352x1024 .f32 := m (c.tc.loc main_arg1)
abbrev argA (c : Dev nD) : FVec Ideal S4x352x1024 .f32 := m (c.tc.loc main_arg2)
abbrev argB (c : Dev nD) : FVec Ideal S4x352x1024 .f32 := m (c.tc.loc main_arg3)

/-- What the kernel finds in its four inputs is the host's reshapes of the arguments. -/
theorem read_p (c : Dev nD) : (V m c main_v3 : FVec Ideal S8x1408x1024 .bf16) = rowsP (argP m c) := by
  unfold_abbrev_sides
  after_results
  rfl

theorem read_w (c : Dev nD) : (V m c main_v0 : FVec Ideal S1408x1024 .f32) = rows (argW m c) := by
  unfold_abbrev_sides
  after_results
  rfl

theorem read_a (c : Dev nD) : (V m c main_v1 : FVec Ideal S1408x1024 .f32) = rows (argA m c) := by
  unfold_abbrev_sides
  after_results
  rfl

theorem read_b (c : Dev nD) : (V m c main_v2 : FVec Ideal S1408x1024 .f32) = rows (argB m c) := by
  unfold_abbrev_sides
  after_results
  rfl

theorem blockP (c : Dev nD) (t : Fin cfg0.N) (d : Fin 8) (r : Fin 352) (l : Fin 1024) :
    (iblk m c 0 t : Vec Ideal S8x352x1024 .bf16) (ix3 d r l) = rowsP (argP m c) (ix3 d (tk t r) l) := by
  rw [← read_p]
  blk_ext [iblk, geom t]

theorem blockW (c : Dev nD) (t : Fin cfg0.N) (r : Fin 352) (l : Fin 1024) :
    (iblk m c 1 t : Vec Ideal S352x1024 .f32) (ix2 r l) = rows (argW m c) (ix2 (tk t r) l) := by
  rw [← read_w]
  blk_ext [iblk, geom t]

theorem blockA (c : Dev nD) (t : Fin cfg0.N) (r : Fin 352) (l : Fin 1024) :
    (iblk m c 2 t : Vec Ideal S352x1024 .f32) (ix2 r l) = rows (argA m c) (ix2 (tk t r) l) := by
  rw [← read_a]
  blk_ext [iblk, geom t]

theorem blockB (c : Dev nD) (t : Fin cfg0.N) (r : Fin 352) (l : Fin 1024) :
    (iblk m c 3 t : Vec Ideal S352x1024 .f32) (ix2 r l) = rows (argB m c) (ix2 (tk t r) l) := by
  rw [← read_b]
  blk_ext [iblk, geom t]

theorem plane0 (x : Vec Ideal S8x352x1024 .bf16) (r : Fin 352) (l : Fin 1024) :
    (View.ld x r0_0 : Vec Ideal S1x352x1024 .bf16) (ix3 0 r l) = x (ix3 0 r l) := by
  refine congrArg x (funext fun a => Fin.ext ?_)
  match a with
  | ⟨0, _⟩ => show 0 + 1 * 0 = 0; rfl
  | ⟨1, _⟩ => show 0 + 1 * r.val = r.val; omega
  | ⟨2, _⟩ => show 0 + 1 * l.val = l.val; omega

theorem plane1 (x : Vec Ideal S8x352x1024 .bf16) (r : Fin 352) (l : Fin 1024) :
    (View.ld x r0_1 : Vec Ideal S1x352x1024 .bf16) (ix3 0 r l) = x (ix3 1 r l) := by
  refine congrArg x (funext fun a => Fin.ext ?_)
  match a with
  | ⟨0, _⟩ => show 1 + 1 * 0 = 1; rfl
  | ⟨1, _⟩ => show 0 + 1 * r.val = r.val; omega
  | ⟨2, _⟩ => show 0 + 1 * l.val = l.val; omega

theorem plane2 (x : Vec Ideal S8x352x1024 .bf16) (r : Fin 352) (l : Fin 1024) :
    (View.ld x r0_2 : Vec Ideal S1x352x1024 .bf16) (ix3 0 r l) = x (ix3 2 r l) := by
  refine congrArg x (funext fun a => Fin.ext ?_)
  match a with
  | ⟨0, _⟩ => show 2 + 1 * 0 = 2; rfl
  | ⟨1, _⟩ => show 0 + 1 * r.val = r.val; omega
  | ⟨2, _⟩ => show 0 + 1 * l.val = l.val; omega

theorem plane3 (x : Vec Ideal S8x352x1024 .bf16) (r : Fin 352) (l : Fin 1024) :
    (View.ld x r0_3 : Vec Ideal S1x352x1024 .bf16) (ix3 0 r l) = x (ix3 3 r l) := by
  refine congrArg x (funext fun a => Fin.ext ?_)
  match a with
  | ⟨0, _⟩ => show 3 + 1 * 0 = 3; rfl
  | ⟨1, _⟩ => show 0 + 1 * r.val = r.val; omega
  | ⟨2, _⟩ => show 0 + 1 * l.val = l.val; omega

theorem plane4 (x : Vec Ideal S8x352x1024 .bf16) (r : Fin 352) (l : Fin 1024) :
    (View.ld x r0_4 : Vec Ideal S1x352x1024 .bf16) (ix3 0 r l) = x (ix3 4 r l) := by
  refine congrArg x (funext fun a => Fin.ext ?_)
  match a with
  | ⟨0, _⟩ => show 4 + 1 * 0 = 4; rfl
  | ⟨1, _⟩ => show 0 + 1 * r.val = r.val; omega
  | ⟨2, _⟩ => show 0 + 1 * l.val = l.val; omega

theorem plane5 (x : Vec Ideal S8x352x1024 .bf16) (r : Fin 352) (l : Fin 1024) :
    (View.ld x r0_5 : Vec Ideal S1x352x1024 .bf16) (ix3 0 r l) = x (ix3 5 r l) := by
  refine congrArg x (funext fun a => Fin.ext ?_)
  match a with
  | ⟨0, _⟩ => show 5 + 1 * 0 = 5; rfl
  | ⟨1, _⟩ => show 0 + 1 * r.val = r.val; omega
  | ⟨2, _⟩ => show 0 + 1 * l.val = l.val; omega

theorem plane6 (x : Vec Ideal S8x352x1024 .bf16) (r : Fin 352) (l : Fin 1024) :
    (View.ld x r0_6 : Vec Ideal S1x352x1024 .bf16) (ix3 0 r l) = x (ix3 6 r l) := by
  refine congrArg x (funext fun a => Fin.ext ?_)
  match a with
  | ⟨0, _⟩ => show 6 + 1 * 0 = 6; rfl
  | ⟨1, _⟩ => show 0 + 1 * r.val = r.val; omega
  | ⟨2, _⟩ => show 0 + 1 * l.val = l.val; omega

theorem plane7 (x : Vec Ideal S8x352x1024 .bf16) (r : Fin 352) (l : Fin 1024) :
    (View.ld x r0_7 : Vec Ideal S1x352x1024 .bf16) (ix3 0 r l) = x (ix3 7 r l) := by
  refine congrArg x (funext fun a => Fin.ext ?_)
  match a with
  | ⟨0, _⟩ => show 7 + 1 * 0 = 7; rfl
  | ⟨1, _⟩ => show 0 + 1 * r.val = r.val; omega
  | ⟨2, _⟩ => show 0 + 1 * l.val = l.val; omega

/-- The sum of a block's eight planes, at a row and column of the block. -/
theorem sum_at (c : Dev nD) (t : Fin cfg0.N) (r : Fin 352) (l : Fin 1024) :
    k0_pay6 (iblk m c 0 t) (iblk m c 1 t) (iblk m c 2 t) (iblk m c 3 t) (ix2 r l) = grad (argP m c) (tk t r) l := by
  unfold k0_pay6
  refine (pay_sum _ _ _ _ _ _ _ _ r l).trans ?_
  rw [plane0, plane1, plane2, plane3, plane4, plane5, plane6, plane7]
  unfold grad total
  simp only [blockP]

theorem whole (x0 : Vec Ideal S8x352x1024 .bf16) (x1 x2 x3 : Vec Ideal S352x1024 .f32) : k0_pay7 x0 x1 x2 x3 = k0_pay5 x2 := by
  unfold k0_pay7
  frame_out

theorem final_g (c : Dev nD) : (dats m 0 c).arrAt 4 cfg0.N = outG (argP m c) := by
  refine (dats m 0 c).arrAt_eq_of_covers 4 _ (by decide +kernel) fun t hf y => ?_
  obtain ⟨r, l, rfl⟩ : ∃ (r : Fin 352) (l : Fin 1024), y = ix2 r l := ⟨y 0, y 1, eq_ix2 y⟩
  have e : (((cfg0.win 4).blk t).view.emb (ix2 r l) : S1408x1024.Idx) = ix2 (tk t r) l := by blk_ext [geom t]
  refine Eq.trans ?_ (congrArg _ e.symm)
  blk_simp
  rw [after0_4]
  refine Eq.trans (b := k0_pay6 (iblk m c 0 t) (iblk m c 1 t) (iblk m c 2 t) (iblk m c 3 t) (ix2 r l)) ?_ ?_
  · frame_out
  · exact sum_at m c t r l

theorem final_d (c : Dev nD) : (dats m 0 c).arrAt 5 cfg0.N = outD (argP m c) (argW m c) (argA m c) (argB m c) := by
  refine (dats m 0 c).arrAt_eq_of_covers 5 _ (by decide +kernel) fun t hf y => ?_
  obtain ⟨r, l, rfl⟩ : ∃ (r : Fin 352) (l : Fin 1024), y = ix2 r l := ⟨y 0, y 1, eq_ix2 y⟩
  have e : (((cfg0.win 5).blk t).view.emb (ix2 r l) : S1408x1024.Idx) = ix2 (tk t r) l := by blk_ext [geom t]
  refine Eq.trans ?_ (congrArg _ e.symm)
  blk_simp
  rw [after0_5]
  refine Eq.trans (b := k0_pay3 (k0_pay6 (iblk m c 0 t) (iblk m c 1 t) (iblk m c 2 t) (iblk m c 3 t)) (k0_pay5 (iblk m c 2 t)) (iblk m c 3 t) (iblk m c 1 t) (ix2 r l)) ?_ ?_
  · frame_out <;> rw [whole]
  · refine (pay_step _ _ _ _ r l).trans ?_
    change step _ _ _ _ = step _ _ _ _
    exact congr (congr (congrArg₂ step (sum_at m c t r l) (blockW m c t r l)) (blockA m c t r l)) (blockB m c t r l)

theorem final_m (c : Dev nD) : (dats m 0 c).arrAt 6 cfg0.N = outM (argP m c) (argA m c) := by
  refine (dats m 0 c).arrAt_eq_of_covers 6 _ (by decide +kernel) fun t hf y => ?_
  obtain ⟨r, l, rfl⟩ : ∃ (r : Fin 352) (l : Fin 1024), y = ix2 r l := ⟨y 0, y 1, eq_ix2 y⟩
  have e : (((cfg0.win 6).blk t).view.emb (ix2 r l) : S1408x1024.Idx) = ix2 (tk t r) l := by blk_ext [geom t]
  refine Eq.trans ?_ (congrArg _ e.symm)
  blk_simp
  rw [after0_6]
  refine Eq.trans (b := k0_pay1 (k0_pay6 (iblk m c 0 t) (iblk m c 1 t) (iblk m c 2 t) (iblk m c 3 t)) (k0_pay5 (iblk m c 2 t)) (ix2 r l)) ?_ ?_
  · frame_out <;> rw [whole]
  · refine (pay_mean _ _ r l).trans ?_
    exact congrArg₂ mean (sum_at m c t r l) (blockA m c t r l)

theorem final_v (c : Dev nD) : (dats m 0 c).arrAt 7 cfg0.N = outV (argP m c) (argB m c) := by
  refine (dats m 0 c).arrAt_eq_of_covers 7 _ (by decide +kernel) fun t hf y => ?_
  obtain ⟨r, l, rfl⟩ : ∃ (r : Fin 352) (l : Fin 1024), y = ix2 r l := ⟨y 0, y 1, eq_ix2 y⟩
  have e : (((cfg0.win 7).blk t).view.emb (ix2 r l) : S1408x1024.Idx) = ix2 (tk t r) l := by blk_ext [geom t]
  refine Eq.trans ?_ (congrArg _ e.symm)
  blk_simp
  rw [after0_7]
  refine Eq.trans (b := k0_pay2 (k0_pay6 (iblk m c 0 t) (iblk m c 1 t) (iblk m c 2 t) (iblk m c 3 t)) (iblk m c 3 t) (ix2 r l)) ?_ ?_
  · frame_out
  · refine (pay_square _ _ r l).trans ?_
    exact congrArg₂ square (sum_at m c t r l) (blockB m c t r l)

section Reference

open Cert.AdamWRefIdeal.Read

theorem ref_sum (p : FVec Ideal S8x4x352x1024 .bf16) (q : Fin 1408) (l : Fin 1024) :
    val_main_v1 (F := Ideal) p (ix3 ⟨q.val / 352, by omega⟩ ⟨q.val % 352, Nat.mod_lt _ (by decide)⟩ l) = grad p q l := by
  unfold grad total rowsP
  pointwise [val_main_v0, val_main_v1, val_main_cst]
  simp only [Fin.sum_univ_eight]

theorem ref_g (p : FVec Ideal S8x4x352x1024 .bf16) : val_main_v26 (F := Ideal) p = outG p := by
  funext i
  obtain ⟨q, l, rfl⟩ : ∃ (q : Fin 1408) (l : Fin 1024), i = ix2 q l := ⟨i 0, i 1, eq_ix2 i⟩
  refine Eq.trans ?_ (ref_sum p q l)
  pointwise [val_main_v26]

theorem ref_m (p : FVec Ideal S8x4x352x1024 .bf16) (a : FVec Ideal S4x352x1024 .f32) : val_main_v28 (F := Ideal) p a = outM p a := by
  funext i
  obtain ⟨q, l, rfl⟩ : ∃ (q : Fin 1408) (l : Fin 1024), i = ix2 q l := ⟨i 0, i 1, eq_ix2 i⟩
  refine Eq.trans ?_ (congrArg (fun g => mean g (rows a (ix2 q l))) (ref_sum p q l))
  unfold mean rows
  pointwise [val_main_v2, val_main_v3, val_main_v4, val_main_v5, val_main_v6, val_main_cst_0, val_main_cst_1, val_main_v28]

theorem ref_v (p : FVec Ideal S8x4x352x1024 .bf16) (b : FVec Ideal S4x352x1024 .f32) : val_main_v29 (F := Ideal) p b = outV p b := by
  funext i
  obtain ⟨q, l, rfl⟩ : ∃ (q : Fin 1408) (l : Fin 1024), i = ix2 q l := ⟨i 0, i 1, eq_ix2 i⟩
  refine Eq.trans ?_ (congrArg (fun g => square g (rows b (ix2 q l))) (ref_sum p q l))
  unfold square rows
  pointwise [val_main_v7, val_main_v8, val_main_v9, val_main_v10, val_main_v11, val_main_v12, val_main_cst_2, val_main_cst_3, val_main_v29]

theorem ref_d (p : FVec Ideal S8x4x352x1024 .bf16) (w a b : FVec Ideal S4x352x1024 .f32) :
    val_main_v27 (F := Ideal) p w a b = outD p w a b := by
  funext i
  obtain ⟨q, l, rfl⟩ : ∃ (q : Fin 1408) (l : Fin 1024), i = ix2 q l := ⟨i 0, i 1, eq_ix2 i⟩
  refine Eq.trans ?_ (congrArg (fun g => step g (rows w (ix2 q l)) (rows a (ix2 q l)) (rows b (ix2 q l))) (ref_sum p q l))
  unfold step mean square rows
  pointwise [val_main_v2, val_main_v3, val_main_v4, val_main_v5, val_main_v6, val_main_cst_0, val_main_cst_1,
    val_main_v7, val_main_v8, val_main_v9, val_main_v10, val_main_v11, val_main_v12, val_main_cst_2, val_main_cst_3,
    val_main_v13, val_main_v14, val_main_v15, val_main_v16, val_main_v17, val_main_v18, val_main_v19, val_main_v20,
    val_main_v21, val_main_v22, val_main_v23, val_main_v24, val_main_v25, val_main_cst_4, val_main_cst_5, val_main_cst_6,
    val_main_cst_7, val_main_cst_8, val_main_v27]

end Reference

end Cert.AdamWIdeal.Value

end
-- ==== Proof.ProjBaValue.lean ====
/-
  The combined projection's last columns, unrounded: what the kernel leaves, block by block, is the product of the two
  arrays it finds.
-/
module

public import proofs.«01_k».proof.Proof.Gen.ProjBaIdeal.Value
public import proofs.«01_k».proof.Proof.Gen.ProjBaRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjBaIdeal.Value

open Cert.ProjBaIdeal Cert.ProjBaIdeal.Gen

variable (m : (ℓ : Loc nD τ sig) → Buf (Elt Ideal) ℓ) (ρ : Dev nD → PrngReg)

abbrev arrA (c : Dev nD) : FVec Ideal S8192x1024 .bf16 := V m c (Pipeline.arrRef spec0 0)
abbrev arrB (c : Dev nD) : FVec Ideal S1024x128 .bf16 := V m c (Pipeline.arrRef spec0 1)

/-- The product. -/
def prod (a : FVec Ideal S8192x1024 .bf16) (b : FVec Ideal S1024x128 .bf16) : FVec Ideal S8192x128 .f32 := fun i =>
  ∑ k : Fin 1024, a (ix2 (i 0) k) * b (ix2 k (i 1))

theorem pay_step (acc : Vec Ideal S1024x128 .f32) (a : Vec Ideal S1024x1024 .bf16) (b : Vec Ideal S1024x128 .bf16)
    (r : Fin 1024) (f : Fin 128) :
    k0_pay2 acc a b (ix2 r f) = acc (ix2 r f) + ∑ k : Fin 1024, a (ix2 r k) * b (ix2 k f) := by
  pointwise [k0_pay2]

theorem pay_zero (r : Fin 1024) (f : Fin 128) : k0_pay1 (F := Ideal) (ix2 r f) = 0 := by
  pointwise [k0_pay1]

theorem geom : ∀ t : Fin cfg0.N,
    win0_0.index t = ![t.val, 0] ∧ win0_1.index t = ![0, 0] ∧ win0_2.index t = ![t.val, 0] := by
  decide +kernel

theorem pt_lt (t : Fin cfg0.N) : t.val < 8 := lt_of_lt_of_eq t.isLt N_0

abbrev atK (t : Fin cfg0.N) (k : Fin 1024) : Fin 1024 := k
abbrev atR (t : Fin cfg0.N) (r : Fin 1024) : Fin 8192 := ⟨t.val * 1024 + r.val, by have := pt_lt t; omega⟩
abbrev atC (t : Fin cfg0.N) (f : Fin 128) : Fin 128 := f

theorem blockA (c : Dev nD) (t : Fin cfg0.N) (k : Fin 1024) (r : Fin 1024) :
    (iblk m c 0 t : Vec Ideal S1024x1024 .bf16) (ix2 r k) = arrA m c (ix2 (atR t r) (atK t k)) := by
  blk_ext [iblk, geom t]

theorem blockB (c : Dev nD) (t : Fin cfg0.N) (k : Fin 1024) (f : Fin 128) :
    (iblk m c 1 t : Vec Ideal S1024x128 .bf16) (ix2 k f) = arrB m c (ix2 (atK t k) (atC t f)) := by
  blk_ext [iblk, geom t]

/-- A block of the contracted axis' part of the product. -/
def term (c : Dev nD) (t : Fin cfg0.N) (i : S1024x128.Idx) : EReal :=
  ∑ k : Fin 1024, arrA m c (ix2 (atR t (i 0)) (atK t k)) * arrB m c (ix2 (atK t k) (atC t (i 1)))

theorem step_eq (c : Dev nD) (t : Fin cfg0.N) (acc : Vec Ideal S1024x128 .f32) (i : S1024x128.Idx) :
    k0_pay2 acc (iblk m c 0 t) (iblk m c 1 t) i = HAdd.hAdd (α := EReal) (β := EReal) (γ := EReal) (acc i) (term m c t i) := by
  obtain ⟨r, f, rfl⟩ : ∃ (r : Fin 1024) (f : Fin 128), i = ix2 r f := ⟨i 0, i 1, eq_ix2 i⟩
  refine (pay_step acc _ _ r f).trans (congrArg (HAdd.hAdd (α := EReal) (acc (ix2 r f))) (Finset.sum_congr rfl fun k _ => ?_))
  exact congr (congrArg (HMul.hMul (α := EReal)) (blockA m c t k r)) (blockB m c t k f)

theorem first_eq (c : Dev nD) (t : Fin cfg0.N) (i : S1024x128.Idx) :
    k0_pay2 (k0_pay1 (F := Ideal)) (iblk m c 0 t) (iblk m c 1 t) i = 0 + term m c t i :=
  (step_eq m c t (k0_pay1 (F := Ideal)) i).trans
    (congrArg (fun a : EReal => a + term m c t i) ((congrArg _ (eq_ix2 i)).trans (pay_zero (i 0) (i 1))))

theorem out_eq (c : Dev nD) (t : Fin cfg0.N) (i : S1024x128.Idx) : outsAt0 m c t i = 0 + term m c t i := by
  refine Eq.trans ?_ (first_eq m c t i)
  unfold outsAt0
  frame_out

theorem final (c : Dev nD) : (dats m 0 c).arrAt 2 cfg0.N = prod (arrA m c) (arrB m c) := by
  refine (dats m 0 c).arrAt_eq_of_covers 2 _ (by decide +kernel) fun t hf y => ?_
  obtain ⟨r, f, rfl⟩ : ∃ (r : Fin 1024) (f : Fin 128), y = ix2 r f := ⟨y 0, y 1, eq_ix2 y⟩
  have hN := pt_lt t
  have e : (((cfg0.win 2).blk t).view.emb (ix2 r f) : S8192x128.Idx) = ix2 ⟨t.val * 1024 + r.val, by have := pt_lt t; omega⟩ f := by
    blk_ext [geom t]
  refine Eq.trans ?_ (congrArg _ e.symm)
  blk_simp
  rw [after0_2, out_eq, zero_add]
  rfl
/-- The weights' columns as the host orders them. -/
def wide (g : FVec Ideal S1024x3072 .f32) (w : FVec Ideal S1024x4880 .f32) : FVec Ideal S1024x8064 .bf16 :=
  truncf .bf16 (concatenate S1024x8064 1 [⟨S1024x3072, g⟩,
    ⟨S1024x2304, extractStridedSlice S1024x2304 ![0, 2576] w slices_S1024x4880_S1024x2304_0_2576⟩,
    ⟨S1024x1536, extractStridedSlice S1024x1536 ![0, 0] w slices_S1024x4880_S1024x1536_0_0⟩,
    ⟨S1024x512, extractStridedSlice S1024x512 ![0, 1536] w slices_S1024x4880_S1024x512_0_1536⟩,
    ⟨S1024x512, extractStridedSlice S1024x512 ![0, 2064] w slices_S1024x4880_S1024x512_0_2064⟩,
    ⟨S1024x16, extractStridedSlice S1024x16 ![0, 2048] w slices_S1024x4880_S1024x16_0_2048⟩,
    ⟨S1024x112, broadcastInDim S1024x112 ![] bcast_S_S1024x112 (constant S_ .f32 0x00000000#32 : FVec Ideal S_ .f32)⟩]
    concatenates_S1024x3072_S1024x2304_S1024x1536_S1024x512_S1024x512_S1024x16_S1024x112_S1024x8064_d1) bitsLt_bf16_f32

/-- The last of them. -/
def cols (g : FVec Ideal S1024x3072 .f32) (w : FVec Ideal S1024x4880 .f32) : FVec Ideal S1024x128 .bf16 :=
  extractStridedSlice S1024x128 ![0, 7936] (wide g w) slices_S1024x8064_S1024x128_0_7936

theorem read_b (c : Dev nD) : arrB m c = cols (m ((c : Thread nD τ).loc main_arg1)) (m ((c : Thread nD τ).loc main_arg2)) := by
  show V m c main_v8 = _
  unfold_abbrev_sides
  after_results
  rfl

theorem ref_prod (h : FVec Ideal S8192x1024 .bf16) (g : FVec Ideal S1024x3072 .f32) (w : FVec Ideal S1024x4880 .f32) :
    Cert.ProjBaRefIdeal.Read.val_main_v3 (F := Ideal) h w = prod h (cols g w) := by
  funext i
  idx_vars i
  unfold prod cols wide
  pointwise [Cert.ProjBaRefIdeal.Read.val_main_v0, Cert.ProjBaRefIdeal.Read.val_main_v1, Cert.ProjBaRefIdeal.Read.val_main_v2, Cert.ProjBaRefIdeal.Read.val_main_c, Cert.ProjBaRefIdeal.Read.val_main_call0_v0, Cert.ProjBaRefIdeal.Read.val_main_v3]
  by_cases h5 : i1.val < 16
  · rw [dif_pos (by omega)]
    exact Finset.sum_congr rfl fun k _ => by rw [dif_neg (by omega), dif_neg (by omega), dif_neg (by omega), dif_neg (by omega), dif_neg (by omega), dif_pos (by omega)]; exact congrArg (fun j => h (ix2 i0 k) * w (ix2 k j)) (Fin.ext (by dsimp only; omega))
  · rw [dif_neg h5]
    refine (show (FloatOps.sitofp (F := Ideal) .f32 0#32 : EReal) = 0 from ?_).trans (Finset.sum_eq_zero fun k _ => ?_).symm
    · show ((((0#32 : BitVec 32).toInt : ℤ) : ℝ) : EReal) = 0
      simp
    · rw [dif_neg (by omega), dif_neg (by omega), dif_neg (by omega), dif_neg (by omega), dif_neg (by omega), dif_neg (by omega)]
      exact mul_zero _

theorem value (c : Dev nD) : (dats m 0 c).arrAt 2 cfg0.N = prod (m ((c : Thread nD τ).loc main_arg0))
    (cols (m ((c : Thread nD τ).loc main_arg1)) (m ((c : Thread nD τ).loc main_arg2))) := by
  refine (final m c).trans ?_
  rw [read_b]
  exact congrArg (fun a => prod a (cols (m ((c : Thread nD τ).loc main_arg1)) (m ((c : Thread nD τ).loc main_arg2)))) (V_main_arg0 m c)

end Cert.ProjBaIdeal.Value

end
-- ==== Proof.lean ====
/- The claims of `Cert.Claim`, assembled: the frames (generated), and for each program the equality of its results with
   its reference's, from the value theorems of the modules beside this one. -/
module

public import proofs.«01_k».proof.Proof.Gen.DnOutRefIdeal.Read
public import proofs.«01_k».proof.Proof.Gen.DnOutIdeal.Value
public import proofs.«01_k».proof.Defs
public import proofs.«01_k».proof.Proof.DnOutValue
public import proofs.«01_k».proof.Proof.FfnBTame
public import proofs.«01_k».proof.Proof.DwgValue
public import proofs.«01_k».proof.Proof.DwdValue
public import proofs.«01_k».proof.Proof.DHValue
public import proofs.«01_k».proof.Proof.DWcatValue
public import proofs.«01_k».proof.Proof.ProjValue
public import proofs.«01_k».proof.Proof.FfnValue
public import proofs.«01_k».proof.Proof.DMergedValue
public import proofs.«01_k».proof.Proof.DWoutValue
public import proofs.«01_k».proof.Proof.OutValue
public import proofs.«01_k».proof.Proof.PaValue
public import proofs.«01_k».proof.Proof.DPaValue
public import proofs.«01_k».proof.Proof.DWpaValue
public import proofs.«01_k».proof.Proof.PcValue
public import proofs.«01_k».proof.Proof.DPcValue
public import proofs.«01_k».proof.Proof.DWpcValue
public import proofs.«01_k».proof.Proof.GatesBValue
public import proofs.«01_k».proof.Proof.NormBValue
public import proofs.«01_k».proof.Proof.GatesValue
public import proofs.«01_k».proof.Proof.NormValue
public import proofs.«01_k».proof.Proof.GateNormValue
public import proofs.«01_k».proof.Proof.RopeValue
public import proofs.«01_k».proof.Proof.LossHeadValue
public import proofs.«01_k».proof.Proof.AdamWValue
public import proofs.«01_k».proof.Proof.ProjBaValue
public import proofs.«01_k».proof.Proof.Gen.DnOut
public import proofs.«01_k».proof.Proof.Gen.DnOut.Skeleton
public import proofs.«01_k».proof.Proof.Gen.DnOut.Launch
public import proofs.«01_k».proof.Proof.Gen.DnOut.Points
public import proofs.«01_k».proof.Proof.Gen.DnOut.Frame
public import proofs.«01_k».proof.Proof.Gen.DnOutIdeal
public import proofs.«01_k».proof.Proof.Gen.DnOutIdeal.Skeleton
public import proofs.«01_k».proof.Proof.Gen.DnOutIdeal.Launch
public import proofs.«01_k».proof.Proof.Gen.DnOutIdeal.Points
public import proofs.«01_k».proof.Proof.Gen.DnOutIdeal.Frame
public import proofs.«01_k».proof.Proof.Gen.DnOutRefIdeal
public import proofs.«01_k».proof.Proof.Gen.FfnB
public import proofs.«01_k».proof.Proof.Gen.FfnBIdeal
public import proofs.«01_k».proof.Proof.Gen.FfnBRefIdeal
public import proofs.«01_k».proof.Proof.Gen.FfnBIdeal.Skeleton
public import proofs.«01_k».proof.Proof.Gen.FfnBIdeal.Launch
public import proofs.«01_k».proof.Proof.Gen.FfnBIdeal.Points
public import proofs.«01_k».proof.Proof.Gen.FfnBRefIdeal.Read
public import proofs.«01_k».proof.Proof.Gen.Dwg
public import proofs.«01_k».proof.Proof.Gen.Dwg.Frame
public import proofs.«01_k».proof.Proof.Gen.DwgIdeal
public import proofs.«01_k».proof.Proof.Gen.DwgIdeal.Value
public import proofs.«01_k».proof.Proof.Gen.DwgRefIdeal
public import proofs.«01_k».proof.Proof.Gen.DwgRefIdeal.Read
public import proofs.«01_k».proof.Proof.Gen.FfnB.Frame
public import proofs.«01_k».proof.Proof.Gen.FfnBIdeal.Frame
public import proofs.«01_k».proof.Proof.Gen.Pre_finite_cotangent
public import proofs.«01_k».proof.Proof.Gen.GatesB
public import proofs.«01_k».proof.Proof.Gen.GatesB.Frame
public import proofs.«01_k».proof.Proof.Gen.GatesBIdeal
public import proofs.«01_k».proof.Proof.Gen.GatesBIdeal.Frame
public import proofs.«01_k».proof.Proof.Gen.GatesBIdeal.Value
public import proofs.«01_k».proof.Proof.Gen.GatesBRefIdeal
public import proofs.«01_k».proof.Proof.Gen.GatesBRefIdeal.Read
public import proofs.«01_k».proof.Proof.Gen.NormB
public import proofs.«01_k».proof.Proof.Gen.NormB.Frame
public import proofs.«01_k».proof.Proof.Gen.NormBIdeal
public import proofs.«01_k».proof.Proof.Gen.NormBIdeal.Frame
public import proofs.«01_k».proof.Proof.Gen.NormBIdeal.Value
public import proofs.«01_k».proof.Proof.Gen.NormBRefIdeal
public import proofs.«01_k».proof.Proof.Gen.NormBRefIdeal.Read
public import proofs.«01_k».proof.Proof.Gen.Gates
public import proofs.«01_k».proof.Proof.Gen.Gates.Frame
public import proofs.«01_k».proof.Proof.Gen.GatesIdeal
public import proofs.«01_k».proof.Proof.Gen.GatesIdeal.Frame
public import proofs.«01_k».proof.Proof.Gen.GatesIdeal.Value
public import proofs.«01_k».proof.Proof.Gen.GatesRefIdeal
public import proofs.«01_k».proof.Proof.Gen.GatesRefIdeal.Read
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Read
public import proofs.«01_k».proof.Proof.Gen.GateNorm
public import proofs.«01_k».proof.Proof.Gen.GateNorm.Frame
public import proofs.«01_k».proof.Proof.Gen.GateNormIdeal
public import proofs.«01_k».proof.Proof.Gen.GateNormIdeal.Frame
public import proofs.«01_k».proof.Proof.Gen.GateNormIdeal.Value
public import proofs.«01_k».proof.Proof.Gen.GateNormRefIdeal
public import proofs.«01_k».proof.Proof.Gen.GateNormRefIdeal.Read
public import proofs.«01_k».proof.Proof.Gen.ProjBa
public import proofs.«01_k».proof.Proof.Gen.ProjBa.Frame
public import proofs.«01_k».proof.Proof.Gen.ProjBaIdeal
public import proofs.«01_k».proof.Proof.Gen.ProjBaIdeal.Frame
public import proofs.«01_k».proof.Proof.Gen.ProjBaIdeal.Value
public import proofs.«01_k».proof.Proof.Gen.ProjBaRefIdeal
public import proofs.«01_k».proof.Proof.Gen.ProjBaRefIdeal.Read
public import proofs.«01_k».proof.Proof.Gen.Rope
public import proofs.«01_k».proof.Proof.Gen.Rope.Frame
public import proofs.«01_k».proof.Proof.Gen.RopeIdeal
public import proofs.«01_k».proof.Proof.Gen.RopeIdeal.Frame
public import proofs.«01_k».proof.Proof.Gen.RopeIdeal.Value
public import proofs.«01_k».proof.Proof.Gen.RopeRefIdeal
public import proofs.«01_k».proof.Proof.Gen.RopeRefIdeal.Read
public import proofs.«01_k».proof.Proof.Gen.LossHead
public import proofs.«01_k».proof.Proof.Gen.LossHead.Frame
public import proofs.«01_k».proof.Proof.Gen.LossHeadIdeal
public import proofs.«01_k».proof.Proof.Gen.LossHeadIdeal.Frame
public import proofs.«01_k».proof.Proof.Gen.LossHeadIdeal.Value
public import proofs.«01_k».proof.Proof.Gen.LossHeadRefIdeal
public import proofs.«01_k».proof.Proof.Gen.LossHeadRefIdeal.Read
public import proofs.«01_k».proof.Proof.Gen.AdamW
public import proofs.«01_k».proof.Proof.Gen.AdamW.Frame
public import proofs.«01_k».proof.Proof.Gen.AdamWIdeal
public import proofs.«01_k».proof.Proof.Gen.AdamWIdeal.Frame
public import proofs.«01_k».proof.Proof.Gen.AdamWIdeal.Value
public import proofs.«01_k».proof.Proof.Gen.AdamWRefIdeal
public import proofs.«01_k».proof.Proof.Gen.AdamWRefIdeal.Read
public import proofs.«01_k».proof.Proof.Gen.Dwd
public import proofs.«01_k».proof.Proof.Gen.Dwd.Frame
public import proofs.«01_k».proof.Proof.Gen.DwdIdeal
public import proofs.«01_k».proof.Proof.Gen.DwdIdeal.Frame
public import proofs.«01_k».proof.Proof.Gen.DwdIdeal.Value
public import proofs.«01_k».proof.Proof.Gen.DwdRefIdeal
public import proofs.«01_k».proof.Proof.Gen.DwdRefIdeal.Read
public import proofs.«01_k».proof.Proof.Gen.DH
public import proofs.«01_k».proof.Proof.Gen.DH.Frame
public import proofs.«01_k».proof.Proof.Gen.DHIdeal
public import proofs.«01_k».proof.Proof.Gen.DHIdeal.Frame
public import proofs.«01_k».proof.Proof.Gen.DHIdeal.Value
public import proofs.«01_k».proof.Proof.Gen.DHRefIdeal
public import proofs.«01_k».proof.Proof.Gen.DHRefIdeal.Read
public import proofs.«01_k».proof.Proof.Gen.DWcat
public import proofs.«01_k».proof.Proof.Gen.DWcat.Frame
public import proofs.«01_k».proof.Proof.Gen.DWcatIdeal
public import proofs.«01_k».proof.Proof.Gen.DWcatIdeal.Frame
public import proofs.«01_k».proof.Proof.Gen.DWcatIdeal.Value
public import proofs.«01_k».proof.Proof.Gen.DWcatRefIdeal
public import proofs.«01_k».proof.Proof.Gen.DWcatRefIdeal.Read
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Read
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Read
public import proofs.«01_k».proof.Proof.Gen.DMerged
public import proofs.«01_k».proof.Proof.Gen.DMerged.Frame
public import proofs.«01_k».proof.Proof.Gen.DMergedIdeal
public import proofs.«01_k».proof.Proof.Gen.DMergedIdeal.Frame
public import proofs.«01_k».proof.Proof.Gen.DMergedIdeal.Value
public import proofs.«01_k».proof.Proof.Gen.DMergedRefIdeal
public import proofs.«01_k».proof.Proof.Gen.DMergedRefIdeal.Read
public import proofs.«01_k».proof.Proof.Gen.DWout
public import proofs.«01_k».proof.Proof.Gen.DWout.Frame
public import proofs.«01_k».proof.Proof.Gen.DWoutIdeal
public import proofs.«01_k».proof.Proof.Gen.DWoutIdeal.Frame
public import proofs.«01_k».proof.Proof.Gen.DWoutIdeal.Value
public import proofs.«01_k».proof.Proof.Gen.DWoutRefIdeal
public import proofs.«01_k».proof.Proof.Gen.DWoutRefIdeal.Read
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Read
public import proofs.«01_k».proof.Proof.Gen.Pa
public import proofs.«01_k».proof.Proof.Gen.Pa.Frame
public import proofs.«01_k».proof.Proof.Gen.PaIdeal
public import proofs.«01_k».proof.Proof.Gen.PaIdeal.Frame
public import proofs.«01_k».proof.Proof.Gen.PaIdeal.Value
public import proofs.«01_k».proof.Proof.Gen.PaRefIdeal
public import proofs.«01_k».proof.Proof.Gen.PaRefIdeal.Read
public import proofs.«01_k».proof.Proof.Gen.DPa
public import proofs.«01_k».proof.Proof.Gen.DPa.Frame
public import proofs.«01_k».proof.Proof.Gen.DPaIdeal
public import proofs.«01_k».proof.Proof.Gen.DPaIdeal.Frame
public import proofs.«01_k».proof.Proof.Gen.DPaIdeal.Value
public import proofs.«01_k».proof.Proof.Gen.DPaRefIdeal
public import proofs.«01_k».proof.Proof.Gen.DPaRefIdeal.Read
public import proofs.«01_k».proof.Proof.Gen.DWpa
public import proofs.«01_k».proof.Proof.Gen.DWpa.Frame
public import proofs.«01_k».proof.Proof.Gen.DWpaIdeal
public import proofs.«01_k».proof.Proof.Gen.DWpaIdeal.Frame
public import proofs.«01_k».proof.Proof.Gen.DWpaIdeal.Value
public import proofs.«01_k».proof.Proof.Gen.DWpaRefIdeal
public import proofs.«01_k».proof.Proof.Gen.DWpaRefIdeal.Read
public import proofs.«01_k».proof.Proof.Gen.Pc
public import proofs.«01_k».proof.Proof.Gen.Pc.Frame
public import proofs.«01_k».proof.Proof.Gen.PcIdeal
public import proofs.«01_k».proof.Proof.Gen.PcIdeal.Frame
public import proofs.«01_k».proof.Proof.Gen.PcIdeal.Value
public import proofs.«01_k».proof.Proof.Gen.PcRefIdeal
public import proofs.«01_k».proof.Proof.Gen.PcRefIdeal.Read
public import proofs.«01_k».proof.Proof.Gen.DPc
public import proofs.«01_k».proof.Proof.Gen.DPc.Frame
public import proofs.«01_k».proof.Proof.Gen.DPcIdeal
public import proofs.«01_k».proof.Proof.Gen.DPcIdeal.Frame
public import proofs.«01_k».proof.Proof.Gen.DPcIdeal.Value
public import proofs.«01_k».proof.Proof.Gen.DPcRefIdeal
public import proofs.«01_k».proof.Proof.Gen.DPcRefIdeal.Read
public import proofs.«01_k».proof.Proof.Gen.DWpc
public import proofs.«01_k».proof.Proof.Gen.DWpc.Frame
public import proofs.«01_k».proof.Proof.Gen.DWpcIdeal
public import proofs.«01_k».proof.Proof.Gen.DWpcIdeal.Frame
public import proofs.«01_k».proof.Proof.Gen.DWpcIdeal.Value
public import proofs.«01_k».proof.Proof.Gen.DWpcRefIdeal
public import proofs.«01_k».proof.Proof.Gen.DWpcRefIdeal.Read
public import Idealize.ShloMosaic.Adequacy
public import Idealize.ShloMosaic.Init

@[expose] public section

noncomputable section

namespace Cert.Proof

open Idealize.ShloMosaic Idealize.SL.Sem

/-! ## The gradient of the scan's output norm and gate -/

section DnOut

open Cert.DnOutIdeal.Value Cert.DnOutRefIdeal.Read

theorem dnOut_ref_frame : Cert.quiescent_DnOutRefIdeal := fun m ρ _ =>
  (θ_run Cert.DnOutRefIdeal.defs _ _).mono (fun r h => ⟨fun c => (h c).2.2.2.2, sem_eq_zero_of_no_sems (by decide) r.2⟩)
    (Cert.DnOutRefIdeal.Value.run (F := Ideal) m ρ)

theorem dnOut_value : Cert.algebraic_DnOutIdeal_DnOutRefIdeal := by
  intro m g m' g' _ hagree
  refine ⟨fun c => gradO (argO m c) (argP m c) (argG m c) (argC m c), fun c => gradO (argO m c) (argP m c) (argG m c) (argC m c),
    fun c => gradZ (argO m c) (argP m c) (argG m c) (argC m c), fun c => gradG (argO m c) (argP m c) (argC m c), ?_, ?_⟩
  · exact (θ_run Cert.DnOutIdeal.defs _ _).mono (fun _ h c => ⟨(h c).1.trans (final_fwd m c),
      (h c).2.1.trans (final_bwd m c), (h c).2.2.1.trans (final_gate m c), (h c).2.2.2.1.trans (final_gain m c),
      (h c).2.2.2.2⟩) (run_blocks (F := Ideal) m g)
  · refine (θ_run Cert.DnOutRefIdeal.defs _ _).mono (fun _ h c => ?_) (Cert.DnOutRefIdeal.Value.run (F := Ideal) m' g')
    obtain ⟨a0, a1, a2, a3⟩ := hagree c
    obtain ⟨h0, h1, h2, h3, hk⟩ := h c
    refine ⟨h0.trans ?_, h1.trans ?_, h2.trans ?_, h3.trans ?_, hk⟩
    · exact (val_main_v54_eq m' c).trans (by rw [a0, a1, a2, a3]; exact ref_gradO _ _ _ _)
    · exact (val_main_v54_eq m' c).trans (by rw [a0, a1, a2, a3]; exact ref_gradO _ _ _ _)
    · exact (val_main_v55_eq m' c).trans (by rw [a0, a1, a2, a3]; exact ref_gradZ _ _ _ _)
    · exact (val_main_v56_eq _ _ _).trans (by rw [a0, a1, a3]; exact ref_gradG _ _ _)

end DnOut

/-! ## The feed-forward's gradient -/

section FfnB

open Cert.FfnBIdeal.Value Cert.FfnBRefIdeal.Read

/-- The program and its idealization are one text, so their kernel bodies are equal. -/
theorem ffnB_bodies : Cert.FfnB.defs₀ (F := Bits) = Cert.FfnBIdeal.defs₀ := by
  unfold Cert.FfnB.defs₀ Cert.FfnBIdeal.defs₀
  refine congrArg Defs.onTc (funext fun l => funext fun a => ?_)
  match l, a with
  | 0, (t, s) => rfl

theorem ffnB_defs : Cert.FfnB.defs (F := Bits) = Cert.FfnBIdeal.defs :=
  congrArg (Pipeline.defs Cert.FfnBIdeal.pcfgs) ffnB_bodies

theorem ffnB_frame : Cert.quiescent_FfnB := fun m ρ _ => by
  rw [ffnB_defs]
  exact Cert.FfnBIdeal.Body.frame (F := Bits) m ρ

theorem ffnB_ref_frame : Cert.quiescent_FfnBRefIdeal := fun m ρ _ =>
  (θ_run Cert.FfnBRefIdeal.defs _ _).mono (fun r h => ⟨fun c => (h c).2.2.2.2.2.2.2, sem_eq_zero_of_no_sems (by decide) r.2⟩)
    (Cert.FfnBRefIdeal.Value.run (F := Ideal) m ρ)

theorem ffnB_value : Cert.algebraic_FfnBIdeal_FfnBRefIdeal_pre_finite_cotangent := by
  intro m g m' g' hpre hagree
  refine ⟨fun c => resX m c, fun c => resG m c, fun c => resA m c, fun c => resB m c, fun c => resS m c, fun c => resH m c,
    fun c => resV m c, ?_, ?_⟩
  · exact (θ_run Cert.FfnBIdeal.defs _ _).mono (fun _ h c => ⟨((h.1 c).1 6).trans (final_x m c), ((h.1 c).1 7).trans (final_g m c),
      ((h.1 c).1 8).trans (final_da m c), ((h.1 c).1 9).trans (final_db m c), ((h.1 c).1 10).trans (final_s m c),
      ((h.1 c).1 11).trans (final_h m c), ((h.1 c).1 12).trans (final_v m c), h.2.1 c⟩)
      (θ_run_and (Cert.FfnBIdeal.Body.run_main (F := Ideal) m g) (Cert.FfnBIdeal.Body.frame (F := Ideal) m g))
  · refine (θ_run Cert.FfnBRefIdeal.defs _ _).mono (fun _ h c => ?_) (Cert.FfnBRefIdeal.Value.run (F := Ideal) m' g')
    obtain ⟨a0, a1, a2, a3, a4, a5⟩ := hagree c
    obtain ⟨h0, h1, h2, h3, h4, h5, h6, hk⟩ := h c
    have hfin := tame (argX m c) (argG m c) (argWg m c) (argWu m c) (argWd m c) (argD m c) (hpre c)
    refine ⟨h0.trans ?_, h1.trans ?_, h2.trans ?_, h3.trans ?_, h4.trans ?_, h5.trans ?_, h6.trans ?_, hk⟩
    · exact (val_main_v58_eq m' c).trans (by rw [a0, a1, a2, a3, a4, a5]; exact ref_outX _ _ _ _ _ _ hfin)
    · exact (val_main_v59_eq m' c).trans (by rw [a0, a1, a2, a3, a4, a5]; exact ref_outG _ _ _ _ _ _ hfin)
    · exact (val_main_v61_eq m' c).trans (by rw [a0, a1, a2, a3, a4, a5]; exact ref_outA _ _ _ _ _ _ hfin)
    · exact (val_main_v63_eq _ _ _ _ _).trans (by rw [a0, a1, a2, a4, a5]; exact ref_outB _ _ _ _ _)
    · exact (val_main_v65_eq _ _ _ _).trans (by rw [a0, a1, a2, a3]; exact ref_outS _ _ _ _)
    · exact (val_main_v66_eq _ _).trans (by rw [a0, a1]; exact ref_outH _ _)
    · exact (val_main_v69_eq _).trans (by rw [a5]; exact ref_outV _)

end FfnB

/-! ## The gate's and the up projection's weight products -/

section Dwg

open Cert.DwgIdeal.Value Cert.DwgRefIdeal.Read

theorem dwg_ref_frame : Cert.quiescent_DwgRefIdeal := fun m ρ _ =>
  (θ_run Cert.DwgRefIdeal.defs _ _).mono (fun r h => ⟨fun c => (h c).2, sem_eq_zero_of_no_sems (by decide) r.2⟩)
    (Cert.DwgRefIdeal.Value.run (F := Ideal) m ρ)

theorem dwg_value : Cert.algebraic_DwgIdeal_DwgRefIdeal := by
  intro m g m' g' _ hagree
  refine ⟨fun c => prod (argH m c) (argD m c), ?_, ?_⟩
  · exact (θ_run Cert.DwgIdeal.defs _ _).mono (fun _ h c => ⟨(h c).1.trans (final m c), (h c).2⟩) (run_blocks (F := Ideal) m g)
  · refine (θ_run Cert.DwgRefIdeal.defs _ _).mono (fun _ h c => ⟨(h c).1.trans ?_, (h c).2⟩) (Cert.DwgRefIdeal.Value.run (F := Ideal) m' g')
    obtain ⟨a0, a1⟩ := hagree c
    exact (val_main_v6_eq _ _).trans (by rw [a0, a1]; exact ref_prod _ _)

end Dwg

section Dwd
open Cert.DwdIdeal Cert.DwdIdeal.Gen Cert.DwdIdeal.Value Cert.DwdRefIdeal.Read

theorem dwd_ref_frame : Cert.quiescent_DwdRefIdeal := fun m ρ _ =>
  (θ_run Cert.DwdRefIdeal.defs _ _).mono (fun r h => ⟨fun c => (h c).2, sem_eq_zero_of_no_sems (by decide) r.2⟩)
    (Cert.DwdRefIdeal.Value.run (F := Ideal) m ρ)

theorem dwd_value : Cert.algebraic_DwdIdeal_DwdRefIdeal := by
  intro m g m' g' _ hagree
  refine ⟨fun c => (dats m 0 c).arrAt 2 cfg0.N, ?_, ?_⟩
  · exact (θ_run Cert.DwdIdeal.defs _ _).mono (fun _ h c => h c)
      (run_blocks (F := Ideal) m g)
  · refine (θ_run Cert.DwdRefIdeal.defs _ _).mono (fun _ h c => ⟨(h c).1.trans ?_, (h c).2⟩)
      (Cert.DwdRefIdeal.Value.run (F := Ideal) m' g')
    obtain ⟨a0, a1⟩ := hagree c
    exact (val_main_v6_eq _ _).trans (by rw [a0, a1]; exact (ref_prod _ _).trans (value m c).symm)

end Dwd

section DH
open Cert.DHIdeal Cert.DHIdeal.Gen Cert.DHIdeal.Value Cert.DHRefIdeal.Read

theorem dH_ref_frame : Cert.quiescent_DHRefIdeal := fun m ρ _ =>
  (θ_run Cert.DHRefIdeal.defs _ _).mono (fun r h => ⟨fun c => (h c).2, sem_eq_zero_of_no_sems (by decide) r.2⟩)
    (Cert.DHRefIdeal.Value.run (F := Ideal) m ρ)

theorem dH_value : Cert.algebraic_DHIdeal_DHRefIdeal := by
  intro m g m' g' _ hagree
  refine ⟨fun c => (dats m 0 c).arrAt 2 cfg0.N, ?_, ?_⟩
  · exact (θ_run Cert.DHIdeal.defs _ _).mono (fun _ h c => h c)
      (run_blocks (F := Ideal) m g)
  · refine (θ_run Cert.DHRefIdeal.defs _ _).mono (fun _ h c => ⟨(h c).1.trans ?_, (h c).2⟩)
      (Cert.DHRefIdeal.Value.run (F := Ideal) m' g')
    obtain ⟨a0, a1, a2, a3, a4, a5, a6, a7, a8⟩ := hagree c
    exact (val_main_v13_eq _ _ _ _ _ _ _ _ _).trans (by rw [a0, a1, a2, a3, a4, a5, a6, a7, a8]; exact (ref_prod _ _ _ _ _ _ _ _ _).trans (value m c).symm)

end DH

section DWcat
open Cert.DWcatIdeal Cert.DWcatIdeal.Gen Cert.DWcatIdeal.Value Cert.DWcatRefIdeal.Read

theorem dWcat_ref_frame : Cert.quiescent_DWcatRefIdeal := fun m ρ _ =>
  (θ_run Cert.DWcatRefIdeal.defs _ _).mono (fun r h => ⟨fun c => (h c).2, sem_eq_zero_of_no_sems (by decide) r.2⟩)
    (Cert.DWcatRefIdeal.Value.run (F := Ideal) m ρ)

theorem dWcat_value : Cert.algebraic_DWcatIdeal_DWcatRefIdeal := by
  intro m g m' g' _ hagree
  refine ⟨fun c => (dats m 0 c).arrAt 2 cfg0.N, ?_, ?_⟩
  · exact (θ_run Cert.DWcatIdeal.defs _ _).mono (fun _ h c => h c)
      (run_blocks (F := Ideal) m g)
  · refine (θ_run Cert.DWcatRefIdeal.defs _ _).mono (fun _ h c => ⟨(h c).1.trans ?_, (h c).2⟩)
      (Cert.DWcatRefIdeal.Value.run (F := Ideal) m' g')
    obtain ⟨a0, a1, a2, a3, a4, a5, a6, a7⟩ := hagree c
    exact (val_main_v23_eq m' c).trans (by rw [a0, a1, a2, a3, a4, a5, a6, a7]; exact (ref_prod _ _ _ _ _ _ _ _).trans (value m c).symm)

end DWcat

section Proj
open Cert.ProjIdeal Cert.ProjIdeal.Gen Cert.ProjIdeal.Value Cert.ProjRefIdeal.Read

theorem proj_ref_frame : Cert.quiescent_ProjRefIdeal := fun m ρ _ =>
  (θ_run Cert.ProjRefIdeal.defs _ _).mono (fun r h => ⟨fun c => (h c).2, sem_eq_zero_of_no_sems (by decide) r.2⟩)
    (Cert.ProjRefIdeal.Value.run (F := Ideal) m ρ)

theorem proj_value : Cert.algebraic_ProjIdeal_ProjRefIdeal := by
  intro m g m' g' _ hagree
  refine ⟨fun c => (dats m 0 c).arrAt 2 cfg0.N, ?_, ?_⟩
  · exact (θ_run Cert.ProjIdeal.defs _ _).mono (fun _ h c => h c)
      (run_blocks (F := Ideal) m g)
  · refine (θ_run Cert.ProjRefIdeal.defs _ _).mono (fun _ h c => ⟨(h c).1.trans ?_, (h c).2⟩)
      (Cert.ProjRefIdeal.Value.run (F := Ideal) m' g')
    obtain ⟨a0, a1, a2⟩ := hagree c
    exact (val_main_v10_eq _ _ _).trans (by rw [a0, a1, a2]; exact (ref_prod _ _ _).trans (value m c).symm)

end Proj

section Ffn
open Cert.FfnIdeal.Value Cert.FfnRefIdeal.Read

theorem ffn_ref_frame : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem ffn_value : Cert.algebraic_FfnIdeal_FfnRefIdeal := by
  intro m g m' g' _ hagree
  refine ⟨fun c => result m c, ?_, ?_⟩
  · exact (θ_run Cert.FfnIdeal.defs _ _).mono (fun _ h c => ⟨(h c).1.trans (final m c), (h c).2⟩)
      (run_blocks (F := Ideal) m g)
  · refine (θ_run Cert.FfnRefIdeal.defs _ _).mono (fun _ h c => ⟨(h c).1.trans ?_, (h c).2⟩)
      (Cert.FfnRefIdeal.Value.run (F := Ideal) m' g')
    obtain ⟨a0, a1, a2, a3, a4⟩ := hagree c
    exact (val_main_v21_eq _ _ _ _ _).trans (by rw [a0, a1, a2, a3, a4]; exact ref_res _ _ _ _ _)

end Ffn

section DMerged
open Cert.DMergedIdeal Cert.DMergedIdeal.Gen Cert.DMergedIdeal.Value Cert.DMergedRefIdeal.Read

theorem dMerged_ref_frame : Cert.quiescent_DMergedRefIdeal := fun m ρ _ =>
  (θ_run Cert.DMergedRefIdeal.defs _ _).mono (fun r h => ⟨fun c => (h c).2, sem_eq_zero_of_no_sems (by decide) r.2⟩)
    (Cert.DMergedRefIdeal.Value.run (F := Ideal) m ρ)

theorem dMerged_value : Cert.algebraic_DMergedIdeal_DMergedRefIdeal := by
  intro m g m' g' _ hagree
  refine ⟨fun c => (dats m 0 c).arrAt 2 cfg0.N, ?_, ?_⟩
  · exact (θ_run Cert.DMergedIdeal.defs _ _).mono (fun _ h c => h c)
      (run_blocks (F := Ideal) m g)
  · refine (θ_run Cert.DMergedRefIdeal.defs _ _).mono (fun _ h c => ⟨(h c).1.trans ?_, (h c).2⟩)
      (Cert.DMergedRefIdeal.Value.run (F := Ideal) m' g')
    obtain ⟨a0, a1⟩ := hagree c
    exact (val_main_v3_eq _ _).trans (by rw [a0, a1]; exact (ref_prod _ _).trans (value m c).symm)

end DMerged

section DWout
open Cert.DWoutIdeal Cert.DWoutIdeal.Gen Cert.DWoutIdeal.Value Cert.DWoutRefIdeal.Read

theorem dWout_ref_frame : Cert.quiescent_DWoutRefIdeal := fun m ρ _ =>
  (θ_run Cert.DWoutRefIdeal.defs _ _).mono (fun r h => ⟨fun c => (h c).2, sem_eq_zero_of_no_sems (by decide) r.2⟩)
    (Cert.DWoutRefIdeal.Value.run (F := Ideal) m ρ)

theorem dWout_value : Cert.algebraic_DWoutIdeal_DWoutRefIdeal := by
  intro m g m' g' _ hagree
  refine ⟨fun c => (dats m 0 c).arrAt 2 cfg0.N, ?_, ?_⟩
  · exact (θ_run Cert.DWoutIdeal.defs _ _).mono (fun _ h c => h c)
      (run_blocks (F := Ideal) m g)
  · refine (θ_run Cert.DWoutRefIdeal.defs _ _).mono (fun _ h c => ⟨(h c).1.trans ?_, (h c).2⟩)
      (Cert.DWoutRefIdeal.Value.run (F := Ideal) m' g')
    obtain ⟨a0, a1⟩ := hagree c
    exact (val_main_v4_eq _ _).trans (by rw [a0, a1]; exact (ref_prod _ _).trans (value m c).symm)

end DWout

section Out
open Cert.OutIdeal Cert.OutIdeal.Gen Cert.OutIdeal.Value Cert.OutRefIdeal.Read

theorem out_ref_frame : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

theorem out_value : Cert.algebraic_OutIdeal_OutRefIdeal := by
  intro m g m' g' _ hagree
  refine ⟨fun c => (dats m 0 c).arrAt 3 cfg0.N, ?_, ?_⟩
  · exact (θ_run Cert.OutIdeal.defs _ _).mono (fun _ h c => h c)
      (run_blocks (F := Ideal) m g)
  · refine (θ_run Cert.OutRefIdeal.defs _ _).mono (fun _ h c => ⟨(h c).1.trans ?_, (h c).2⟩)
      (Cert.OutRefIdeal.Value.run (F := Ideal) m' g')
    obtain ⟨a0, a1, a2⟩ := hagree c
    exact (val_main_v2_eq _ _ _).trans (by rw [a0, a1, a2]; exact (ref_prod _ _ _).trans (value m c).symm)

end Out

section Pa
open Cert.PaIdeal Cert.PaIdeal.Gen Cert.PaIdeal.Value Cert.PaRefIdeal.Read

theorem pa_ref_frame : Cert.quiescent_PaRefIdeal := fun m ρ _ =>
  (θ_run Cert.PaRefIdeal.defs _ _).mono (fun r h => ⟨fun c => (h c).2, sem_eq_zero_of_no_sems (by decide) r.2⟩)
    (Cert.PaRefIdeal.Value.run (F := Ideal) m ρ)

theorem pa_value : Cert.algebraic_PaIdeal_PaRefIdeal := by
  intro m g m' g' _ hagree
  refine ⟨fun c => (dats m 0 c).arrAt 2 cfg0.N, ?_, ?_⟩
  · exact (θ_run Cert.PaIdeal.defs _ _).mono (fun _ h c => h c)
      (run_blocks (F := Ideal) m g)
  · refine (θ_run Cert.PaRefIdeal.defs _ _).mono (fun _ h c => ⟨(h c).1.trans ?_, (h c).2⟩)
      (Cert.PaRefIdeal.Value.run (F := Ideal) m' g')
    obtain ⟨a0, a1⟩ := hagree c
    exact (val_main_v2_eq _ _).trans (by rw [a0, a1]; exact (ref_prod _ _).trans (value m c).symm)

end Pa

section DPa
open Cert.DPaIdeal Cert.DPaIdeal.Gen Cert.DPaIdeal.Value Cert.DPaRefIdeal.Read

theorem dPa_ref_frame : Cert.quiescent_DPaRefIdeal := fun m ρ _ =>
  (θ_run Cert.DPaRefIdeal.defs _ _).mono (fun r h => ⟨fun c => (h c).2, sem_eq_zero_of_no_sems (by decide) r.2⟩)
    (Cert.DPaRefIdeal.Value.run (F := Ideal) m ρ)

theorem dPa_value : Cert.algebraic_DPaIdeal_DPaRefIdeal := by
  intro m g m' g' _ hagree
  refine ⟨fun c => (dats m 0 c).arrAt 2 cfg0.N, ?_, ?_⟩
  · exact (θ_run Cert.DPaIdeal.defs _ _).mono (fun _ h c => h c)
      (run_blocks (F := Ideal) m g)
  · refine (θ_run Cert.DPaRefIdeal.defs _ _).mono (fun _ h c => ⟨(h c).1.trans ?_, (h c).2⟩)
      (Cert.DPaRefIdeal.Value.run (F := Ideal) m' g')
    obtain ⟨a0, a1⟩ := hagree c
    exact (val_main_v3_eq _ _).trans (by rw [a0, a1]; exact (ref_prod _ _).trans (value m c).symm)

end DPa

section DWpa
open Cert.DWpaIdeal Cert.DWpaIdeal.Gen Cert.DWpaIdeal.Value Cert.DWpaRefIdeal.Read

theorem dWpa_ref_frame : Cert.quiescent_DWpaRefIdeal := fun m ρ _ =>
  (θ_run Cert.DWpaRefIdeal.defs _ _).mono (fun r h => ⟨fun c => (h c).2, sem_eq_zero_of_no_sems (by decide) r.2⟩)
    (Cert.DWpaRefIdeal.Value.run (F := Ideal) m ρ)

theorem dWpa_value : Cert.algebraic_DWpaIdeal_DWpaRefIdeal := by
  intro m g m' g' _ hagree
  refine ⟨fun c => (dats m 0 c).arrAt 2 cfg0.N, ?_, ?_⟩
  · exact (θ_run Cert.DWpaIdeal.defs _ _).mono (fun _ h c => h c)
      (run_blocks (F := Ideal) m g)
  · refine (θ_run Cert.DWpaRefIdeal.defs _ _).mono (fun _ h c => ⟨(h c).1.trans ?_, (h c).2⟩)
      (Cert.DWpaRefIdeal.Value.run (F := Ideal) m' g')
    obtain ⟨a0, a1⟩ := hagree c
    exact (val_main_v5_eq _ _).trans (by rw [a0, a1]; exact (ref_prod _ _).trans (value m c).symm)

end DWpa

section Pc
open Cert.PcIdeal Cert.PcIdeal.Gen Cert.PcIdeal.Value Cert.PcRefIdeal.Read

theorem pc_ref_frame : Cert.quiescent_PcRefIdeal := fun m ρ _ =>
  (θ_run Cert.PcRefIdeal.defs _ _).mono (fun r h => ⟨fun c => (h c).2, sem_eq_zero_of_no_sems (by decide) r.2⟩)
    (Cert.PcRefIdeal.Value.run (F := Ideal) m ρ)

theorem pc_value : Cert.algebraic_PcIdeal_PcRefIdeal := by
  intro m g m' g' _ hagree
  refine ⟨fun c => (dats m 0 c).arrAt 2 cfg0.N, ?_, ?_⟩
  · exact (θ_run Cert.PcIdeal.defs _ _).mono (fun _ h c => h c)
      (run_blocks (F := Ideal) m g)
  · refine (θ_run Cert.PcRefIdeal.defs _ _).mono (fun _ h c => ⟨(h c).1.trans ?_, (h c).2⟩)
      (Cert.PcRefIdeal.Value.run (F := Ideal) m' g')
    obtain ⟨a0, a1⟩ := hagree c
    exact (val_main_v2_eq _ _).trans (by rw [a0, a1]; exact (ref_prod _ _).trans (value m c).symm)

end Pc

section DPc
open Cert.DPcIdeal Cert.DPcIdeal.Gen Cert.DPcIdeal.Value Cert.DPcRefIdeal.Read

theorem dPc_ref_frame : Cert.quiescent_DPcRefIdeal := fun m ρ _ =>
  (θ_run Cert.DPcRefIdeal.defs _ _).mono (fun r h => ⟨fun c => (h c).2, sem_eq_zero_of_no_sems (by decide) r.2⟩)
    (Cert.DPcRefIdeal.Value.run (F := Ideal) m ρ)

theorem dPc_value : Cert.algebraic_DPcIdeal_DPcRefIdeal := by
  intro m g m' g' _ hagree
  refine ⟨fun c => (dats m 0 c).arrAt 2 cfg0.N, ?_, ?_⟩
  · exact (θ_run Cert.DPcIdeal.defs _ _).mono (fun _ h c => h c)
      (run_blocks (F := Ideal) m g)
  · refine (θ_run Cert.DPcRefIdeal.defs _ _).mono (fun _ h c => ⟨(h c).1.trans ?_, (h c).2⟩)
      (Cert.DPcRefIdeal.Value.run (F := Ideal) m' g')
    obtain ⟨a0, a1⟩ := hagree c
    exact (val_main_v3_eq _ _).trans (by rw [a0, a1]; exact (ref_prod _ _).trans (value m c).symm)

end DPc

section DWpc
open Cert.DWpcIdeal Cert.DWpcIdeal.Gen Cert.DWpcIdeal.Value Cert.DWpcRefIdeal.Read

theorem dWpc_ref_frame : Cert.quiescent_DWpcRefIdeal := fun m ρ _ =>
  (θ_run Cert.DWpcRefIdeal.defs _ _).mono (fun r h => ⟨fun c => (h c).2, sem_eq_zero_of_no_sems (by decide) r.2⟩)
    (Cert.DWpcRefIdeal.Value.run (F := Ideal) m ρ)

theorem dWpc_value : Cert.algebraic_DWpcIdeal_DWpcRefIdeal := by
  intro m g m' g' _ hagree
  refine ⟨fun c => (dats m 0 c).arrAt 2 cfg0.N, ?_, ?_⟩
  · exact (θ_run Cert.DWpcIdeal.defs _ _).mono (fun _ h c => h c)
      (run_blocks (F := Ideal) m g)
  · refine (θ_run Cert.DWpcRefIdeal.defs _ _).mono (fun _ h c => ⟨(h c).1.trans ?_, (h c).2⟩)
      (Cert.DWpcRefIdeal.Value.run (F := Ideal) m' g')
    obtain ⟨a0, a1⟩ := hagree c
    exact (val_main_v5_eq _ _).trans (by rw [a0, a1]; exact (ref_prod _ _).trans (value m c).symm)

end DWpc

section GatesB

open Cert.GatesBIdeal Cert.GatesBIdeal.Gen Cert.GatesBIdeal.Value Cert.GatesBRefIdeal.Read

theorem gatesB_ref_frame : Cert.quiescent_GatesBRefIdeal := fun m ρ _ =>
  (θ_run Cert.GatesBRefIdeal.defs _ _).mono (fun r h => ⟨fun c => (h c).2.2.2.2.2.2.2.2.2, sem_eq_zero_of_no_sems (by decide) r.2⟩)
    (Cert.GatesBRefIdeal.Value.run (F := Ideal) m ρ)

theorem gatesB_value : Cert.algebraic_GatesBIdeal_GatesBRefIdeal := by
  intro m g m' g' _ hagree
  refine ⟨fun c => outP 0 (argP m c) (argY0 m c) (argB m c) (argC m c),
    fun c => outP 1 (argP m c) (argY1 m c) (argB m c) (argC m c),
    fun c => outP 2 (argP m c) (argY2 m c) (argB m c) (argC m c),
    fun c => outY 0 (argP m c) (argB m c) (argC m c),
    fun c => outY 1 (argP m c) (argB m c) (argC m c),
    fun c => outY 2 (argP m c) (argB m c) (argC m c),
    fun c => outB 0 (argP m c) (argY0 m c) (argB m c) (argC m c),
    fun c => outB 1 (argP m c) (argY1 m c) (argB m c) (argC m c),
    fun c => outB 2 (argP m c) (argY2 m c) (argB m c) (argC m c), ?_, ?_⟩
  · exact (θ_run Cert.GatesBIdeal.defs _ _).mono (fun _ h c => ⟨(h c).1.trans (final0 m c),
      (h c).2.1.trans (final1 m c),
      (h c).2.2.1.trans (final2 m c),
      (h c).2.2.2.1.trans (final3 m c),
      (h c).2.2.2.2.1.trans (final4 m c),
      (h c).2.2.2.2.2.1.trans (final5 m c),
      (h c).2.2.2.2.2.2.1.trans (final6 m c),
      (h c).2.2.2.2.2.2.2.1.trans (final7 m c),
      (h c).2.2.2.2.2.2.2.2.1.trans (final8 m c),
      (h c).2.2.2.2.2.2.2.2.2⟩) (run_blocks (F := Ideal) m g)
  · refine (θ_run Cert.GatesBRefIdeal.defs _ _).mono (fun _ h c => ?_) (Cert.GatesBRefIdeal.Value.run (F := Ideal) m' g')
    obtain ⟨a0, a1, a2, a3, a4, a5⟩ := hagree c
    obtain ⟨h0, h1, h2, h3, h4, h5, h6, h7, h8, hk⟩ := h c
    refine ⟨h0.trans ?_, h1.trans ?_, h2.trans ?_, h3.trans ?_, h4.trans ?_, h5.trans ?_, h6.trans ?_, h7.trans ?_, h8.trans ?_, hk⟩
    · exact (val_main_v52_eq _ _ _ _ _ _).trans (by rw [a0, a1, a2, a3, a4, a5]; exact ref_gate0 _ _ _ _ _ _)
    · exact (val_main_v53_eq _ _ _ _ _ _).trans (by rw [a0, a1, a2, a3, a4, a5]; exact ref_gate1 _ _ _ _ _ _)
    · exact (val_main_v54_eq _ _ _ _ _ _).trans (by rw [a0, a1, a2, a3, a4, a5]; exact ref_gate2 _ _ _ _ _ _)
    · exact (val_main_v55_eq _ _ _).trans (by rw [a0, a4, a5]; exact ref_branch0 _ _ _)
    · exact (val_main_v56_eq _ _ _).trans (by rw [a0, a4, a5]; exact ref_branch1 _ _ _)
    · exact (val_main_v57_eq _ _ _).trans (by rw [a0, a4, a5]; exact ref_branch2 _ _ _)
    · exact (val_main_v59_eq _ _ _ _ _ _).trans (by rw [a0, a1, a2, a3, a4, a5]; exact ref_bias0 _ _ _ _ _ _)
    · exact (val_main_v61_eq _ _ _ _ _ _).trans (by rw [a0, a1, a2, a3, a4, a5]; exact ref_bias1 _ _ _ _ _ _)
    · exact (val_main_v63_eq _ _ _ _ _ _).trans (by rw [a0, a1, a2, a3, a4, a5]; exact ref_bias2 _ _ _ _ _ _)

end GatesB

section NormB

open Cert.NormBIdeal Cert.NormBIdeal.Gen Cert.NormBIdeal.Value Cert.NormBRefIdeal.Read

theorem normB_ref_frame : Cert.quiescent_NormBRefIdeal := fun m ρ _ =>
  (θ_run Cert.NormBRefIdeal.defs _ _).mono (fun r h => ⟨fun c => (h c).2.2, sem_eq_zero_of_no_sems (by decide) r.2⟩)
    (Cert.NormBRefIdeal.Value.run (F := Ideal) m ρ)

theorem normB_value : Cert.algebraic_NormBIdeal_NormBRefIdeal := by
  intro m g m' g' _ hagree
  refine ⟨fun c => outX (argX m c) (argG m c) (argH m c) (argD m c),
    fun c => outG (argX m c) (argH m c), ?_, ?_⟩
  · exact (θ_run Cert.NormBIdeal.defs _ _).mono (fun _ h c => ⟨(h c).1.trans (final_x m c),
      (h c).2.1.trans (final_g m c),
      (h c).2.2⟩) (run_blocks (F := Ideal) m g)
  · refine (θ_run Cert.NormBRefIdeal.defs _ _).mono (fun _ h c => ?_) (Cert.NormBRefIdeal.Value.run (F := Ideal) m' g')
    obtain ⟨a0, a1, a2, a3⟩ := hagree c
    obtain ⟨h0, h1, hk⟩ := h c
    refine ⟨h0.trans ?_, h1.trans ?_, hk⟩
    · exact (val_main_v37_eq m' c).trans (by rw [a0, a1, a2, a3]; exact ref_x _ _ _ _)
    · exact (val_main_v38_eq _ _).trans (by rw [a0, a2]; exact ref_g _ _)

end NormB

section Gates

open Cert.GatesIdeal Cert.GatesIdeal.Gen Cert.GatesIdeal.Value Cert.GatesRefIdeal.Read

theorem gates_ref_frame : Cert.quiescent_GatesRefIdeal := fun m ρ _ =>
  (θ_run Cert.GatesRefIdeal.defs _ _).mono (fun r h => ⟨fun c => (h c).2, sem_eq_zero_of_no_sems (by decide) r.2⟩)
    (Cert.GatesRefIdeal.Value.run (F := Ideal) m ρ)

theorem gates_value : Cert.algebraic_GatesIdeal_GatesRefIdeal := by
  intro m g m' g' _ hagree
  refine ⟨fun c => (dats m 0 c).arrAt 9 cfg0.N, ?_, ?_⟩
  · exact (θ_run Cert.GatesIdeal.defs _ _).mono (fun _ h c => h c) (run_blocks (F := Ideal) m g)
  · refine (θ_run Cert.GatesRefIdeal.defs _ _).mono (fun _ h c => ⟨(h c).1.trans ?_, (h c).2⟩)
      (Cert.GatesRefIdeal.Value.run (F := Ideal) m' g')
    obtain ⟨a0, a1, a2, a3, a4⟩ := hagree c
    exact (val_main_v26_eq _ _ _ _ _).trans (by rw [a0, a1, a2, a3, a4]; exact (ref_res _ _ _ _ _).trans (final m c).symm)

end Gates

section Norm

open Cert.NormIdeal Cert.NormIdeal.Gen Cert.NormIdeal.Value Cert.NormRefIdeal.Read

theorem norm_ref_frame : Cert.quiescent_NormRefIdeal := fun m ρ _ =>
  (θ_run Cert.NormRefIdeal.defs _ _).mono (fun r h => ⟨fun c => (h c).2, sem_eq_zero_of_no_sems (by decide) r.2⟩)
    (Cert.NormRefIdeal.Value.run (F := Ideal) m ρ)

theorem norm_value : Cert.algebraic_NormIdeal_NormRefIdeal := by
  intro m g m' g' _ hagree
  refine ⟨fun c => (dats m 0 c).arrAt 2 cfg0.N, ?_, ?_⟩
  · exact (θ_run Cert.NormIdeal.defs _ _).mono (fun _ h c => h c) (run_blocks (F := Ideal) m g)
  · refine (θ_run Cert.NormRefIdeal.defs _ _).mono (fun _ h c => ⟨(h c).1.trans ?_, (h c).2⟩)
      (Cert.NormRefIdeal.Value.run (F := Ideal) m' g')
    obtain ⟨a0, a1⟩ := hagree c
    exact (val_main_v14_eq _ _).trans (by rw [a0, a1]; exact (ref_res _ _).trans (final m c).symm)

end Norm

section GateNorm

open Cert.GateNormIdeal Cert.GateNormIdeal.Gen Cert.GateNormIdeal.Value Cert.GateNormRefIdeal.Read

theorem gateNorm_ref_frame : Cert.quiescent_GateNormRefIdeal := fun m ρ _ =>
  (θ_run Cert.GateNormRefIdeal.defs _ _).mono (fun r h => ⟨fun c => (h c).2, sem_eq_zero_of_no_sems (by decide) r.2⟩)
    (Cert.GateNormRefIdeal.Value.run (F := Ideal) m ρ)

theorem gateNorm_value : Cert.algebraic_GateNormIdeal_GateNormRefIdeal := by
  intro m g m' g' _ hagree
  refine ⟨fun c => (dats m 0 c).arrAt 4 cfg0.N, ?_, ?_⟩
  · exact (θ_run Cert.GateNormIdeal.defs _ _).mono (fun _ h c => h c) (run_blocks (F := Ideal) m g)
  · refine (θ_run Cert.GateNormRefIdeal.defs _ _).mono (fun _ h c => ⟨(h c).1.trans ?_, (h c).2⟩)
      (Cert.GateNormRefIdeal.Value.run (F := Ideal) m' g')
    obtain ⟨a0, a1, a2⟩ := hagree c
    exact (val_main_v24_eq _ _ _).trans (by rw [a0, a1, a2]; exact (ref_res _ _ _).trans (final m c).symm)

end GateNorm

section Rope

open Cert.RopeIdeal Cert.RopeIdeal.Gen Cert.RopeIdeal.Value Cert.RopeRefIdeal.Read

theorem rope_ref_frame : Cert.quiescent_RopeRefIdeal := fun m ρ _ =>
  (θ_run Cert.RopeRefIdeal.defs _ _).mono (fun r h => ⟨fun c => (h c).2.2.2.2.2.2.2.2.2, sem_eq_zero_of_no_sems (by decide) r.2⟩)
    (Cert.RopeRefIdeal.Value.run (F := Ideal) m ρ)

theorem rope_value : Cert.algebraic_RopeIdeal_RopeRefIdeal := by
  intro m g m' g' _ hagree
  refine ⟨fun c => outQ (argP m c) 0, fun c => outQ (argP m c) 1, fun c => outQ (argP m c) 2, fun c => outK (argP m c) 3, fun c => outK (argP m c) 4, fun c => outK (argP m c) 5, fun c => outV (argP m c) 6, fun c => outV (argP m c) 7, fun c => outV (argP m c) 8, ?_, ?_⟩
  · exact (θ_run Cert.RopeIdeal.defs _ _).mono (fun _ h c => ⟨(h c).1.trans (final0 m c), (h c).2.1.trans (final1 m c), (h c).2.2.1.trans (final2 m c), (h c).2.2.2.1.trans (final3 m c), (h c).2.2.2.2.1.trans (final4 m c), (h c).2.2.2.2.2.1.trans (final5 m c), (h c).2.2.2.2.2.2.1.trans (final6 m c), (h c).2.2.2.2.2.2.2.1.trans (final7 m c), (h c).2.2.2.2.2.2.2.2.1.trans (final8 m c), (h c).2.2.2.2.2.2.2.2.2⟩) (run_blocks (F := Ideal) m g)
  · refine (θ_run Cert.RopeRefIdeal.defs _ _).mono (fun _ h c => ?_) (Cert.RopeRefIdeal.Value.run (F := Ideal) m' g')
    obtain ⟨h0, h1, h2, h3, h4, h5, h6, h7, h8, hk⟩ := h c
    have a0 := hagree c
    refine ⟨h0.trans ?_, h1.trans ?_, h2.trans ?_, h3.trans ?_, h4.trans ?_, h5.trans ?_, h6.trans ?_, h7.trans ?_, h8.trans ?_, hk⟩
    · exact (val_main_v155_eq m' c).trans (by rw [a0]; exact ref_0 _)
    · exact (val_main_v156_eq m' c).trans (by rw [a0]; exact ref_1 _)
    · exact (val_main_v157_eq m' c).trans (by rw [a0]; exact ref_2 _)
    · exact (val_main_v158_eq m' c).trans (by rw [a0]; exact ref_3 _)
    · exact (val_main_v159_eq m' c).trans (by rw [a0]; exact ref_4 _)
    · exact (val_main_v160_eq m' c).trans (by rw [a0]; exact ref_5 _)
    · exact (val_main_v161_eq _).trans (by rw [a0]; exact ref_6 _)
    · exact (val_main_v162_eq _).trans (by rw [a0]; exact ref_7 _)
    · exact (val_main_v163_eq _).trans (by rw [a0]; exact ref_8 _)

end Rope

section LossHead

open Cert.LossHeadIdeal Cert.LossHeadIdeal.Gen Cert.LossHeadIdeal.Value Cert.LossHeadRefIdeal.Read

theorem lossHead_ref_frame : Cert.quiescent_LossHeadRefIdeal := fun m ρ _ =>
  (θ_run Cert.LossHeadRefIdeal.defs _ _).mono (fun r h => ⟨fun c => (h c).2.2.2, sem_eq_zero_of_no_sems (by decide) r.2⟩)
    (Cert.LossHeadRefIdeal.Value.run (F := Ideal) m ρ)

theorem lossHead_value : Cert.algebraic_LossHeadIdeal_LossHeadRefIdeal := by
  intro m g m' g' _ hagree
  refine ⟨fun c => outL (argX m c) (argG m c) (argY m c), fun c => outX (argX m c) (argG m c) (argY m c), fun c => outG (argX m c) (argG m c) (argY m c), ?_, ?_⟩
  · exact (θ_run Cert.LossHeadIdeal.defs _ _).mono (fun _ h c => ⟨(h c).1.trans (final_l m c), (h c).2.1.trans (final_x m c), (h c).2.2.1.trans (final_g m c), (h c).2.2.2⟩) (run_blocks (F := Ideal) m g)
  · refine (θ_run Cert.LossHeadRefIdeal.defs _ _).mono (fun _ h c => ?_) (Cert.LossHeadRefIdeal.Value.run (F := Ideal) m' g')
    obtain ⟨h0, h1, h2, hk⟩ := h c
    obtain ⟨a0, a1, a2⟩ := hagree c
    refine ⟨h0.trans ?_, h1.trans ?_, h2.trans ?_, hk⟩
    · exact (val_main_v52_eq _ _ _).trans (by rw [a0, a1, a2]; exact ref_l _ _ _)
    · exact (val_main_v51_eq m' c).trans (by rw [a0, a1, a2]; exact ref_x _ _ _)
    · exact (val_main_v53_eq _ _ _).trans (by rw [a0, a1, a2]; exact ref_g _ _ _)

end LossHead

section AdamW

open Cert.AdamWIdeal Cert.AdamWIdeal.Gen Cert.AdamWIdeal.Value Cert.AdamWRefIdeal.Read

theorem adamW_ref_frame : Cert.quiescent_AdamWRefIdeal := fun m ρ _ =>
  (θ_run Cert.AdamWRefIdeal.defs _ _).mono (fun r h => ⟨fun c => (h c).2.2.2.2, sem_eq_zero_of_no_sems (by decide) r.2⟩)
    (Cert.AdamWRefIdeal.Value.run (F := Ideal) m ρ)

theorem adamW_value : Cert.algebraic_AdamWIdeal_AdamWRefIdeal := by
  intro m g m' g' _ hagree
  refine ⟨fun c => outG (argP m c), fun c => outD (argP m c) (argW m c) (argA m c) (argB m c), fun c => outM (argP m c) (argA m c), fun c => outV (argP m c) (argB m c), ?_, ?_⟩
  · exact (θ_run Cert.AdamWIdeal.defs _ _).mono (fun _ h c => ⟨(h c).1.trans (final_g m c), (h c).2.1.trans (final_d m c), (h c).2.2.1.trans (final_m m c), (h c).2.2.2.1.trans (final_v m c), (h c).2.2.2.2⟩) (run_blocks (F := Ideal) m g)
  · refine (θ_run Cert.AdamWRefIdeal.defs _ _).mono (fun _ h c => ?_) (Cert.AdamWRefIdeal.Value.run (F := Ideal) m' g')
    obtain ⟨h0, h1, h2, h3, hk⟩ := h c
    obtain ⟨a0, a1, a2, a3⟩ := hagree c
    refine ⟨h0.trans ?_, h1.trans ?_, h2.trans ?_, h3.trans ?_, hk⟩
    · exact (val_main_v26_eq _).trans (by rw [a0]; exact ref_g _)
    · exact (val_main_v27_eq _ _ _ _).trans (by rw [a0, a1, a2, a3]; exact ref_d _ _ _ _)
    · exact (val_main_v28_eq _ _).trans (by rw [a0, a2]; exact ref_m _ _)
    · exact (val_main_v29_eq _ _).trans (by rw [a0, a3]; exact ref_v _ _)

end AdamW

section ProjBa

open Cert.ProjBaIdeal Cert.ProjBaIdeal.Gen Cert.ProjBaIdeal.Value Cert.ProjBaRefIdeal.Read

theorem projBa_ref_frame : Cert.quiescent_ProjBaRefIdeal := fun m ρ _ =>
  (θ_run Cert.ProjBaRefIdeal.defs _ _).mono (fun r h => ⟨fun c => (h c).2, sem_eq_zero_of_no_sems (by decide) r.2⟩)
    (Cert.ProjBaRefIdeal.Value.run (F := Ideal) m ρ)

theorem projBa_value : Cert.algebraic_ProjBaIdeal_ProjBaRefIdeal := by
  intro m g m' g' _ hagree
  refine ⟨fun c => (dats m 0 c).arrAt 2 cfg0.N, ?_, ?_⟩
  · exact (θ_run Cert.ProjBaIdeal.defs _ _).mono (fun _ h c => h c) (run_blocks (F := Ideal) m g)
  · refine (θ_run Cert.ProjBaRefIdeal.defs _ _).mono (fun _ h c => ⟨(h c).1.trans ?_, (h c).2⟩)
      (Cert.ProjBaRefIdeal.Value.run (F := Ideal) m' g')
    obtain ⟨a0, a1, a2⟩ := hagree c
    exact (val_main_v3_eq _ _).trans (by rw [a0, a2]; exact (ref_prod _ _ _).trans (value m c).symm)

end ProjBa

theorem claim : Cert.Claim := ⟨Cert.DnOut.Gen.facts, Cert.DnOutIdeal.Gen.facts, Cert.DnOutRefIdeal.Gen.facts,
  Cert.FfnB.Gen.facts, Cert.FfnBIdeal.Gen.facts, Cert.FfnBRefIdeal.Gen.facts,
  Cert.Dwg.Gen.facts, Cert.DwgIdeal.Gen.facts, Cert.DwgRefIdeal.Gen.facts,
  Cert.Dwd.Gen.facts, Cert.DwdIdeal.Gen.facts, Cert.DwdRefIdeal.Gen.facts,
  Cert.DH.Gen.facts, Cert.DHIdeal.Gen.facts, Cert.DHRefIdeal.Gen.facts,
  Cert.DWcat.Gen.facts, Cert.DWcatIdeal.Gen.facts, Cert.DWcatRefIdeal.Gen.facts,
  Cert.Proj.Gen.facts, Cert.ProjIdeal.Gen.facts, Cert.ProjRefIdeal.Gen.facts,
  Cert.Ffn.Gen.facts, Cert.FfnIdeal.Gen.facts, Cert.FfnRefIdeal.Gen.facts,
  Cert.DMerged.Gen.facts, Cert.DMergedIdeal.Gen.facts, Cert.DMergedRefIdeal.Gen.facts,
  Cert.DWout.Gen.facts, Cert.DWoutIdeal.Gen.facts, Cert.DWoutRefIdeal.Gen.facts,
  Cert.Out.Gen.facts, Cert.OutIdeal.Gen.facts, Cert.OutRefIdeal.Gen.facts,
  Cert.Pa.Gen.facts, Cert.PaIdeal.Gen.facts, Cert.PaRefIdeal.Gen.facts,
  Cert.DPa.Gen.facts, Cert.DPaIdeal.Gen.facts, Cert.DPaRefIdeal.Gen.facts,
  Cert.DWpa.Gen.facts, Cert.DWpaIdeal.Gen.facts, Cert.DWpaRefIdeal.Gen.facts,
  Cert.Pc.Gen.facts, Cert.PcIdeal.Gen.facts, Cert.PcRefIdeal.Gen.facts,
  Cert.DPc.Gen.facts, Cert.DPcIdeal.Gen.facts, Cert.DPcRefIdeal.Gen.facts,
  Cert.DWpc.Gen.facts, Cert.DWpcIdeal.Gen.facts, Cert.DWpcRefIdeal.Gen.facts,
  Cert.GatesB.Gen.facts, Cert.GatesBIdeal.Gen.facts, Cert.GatesBRefIdeal.Gen.facts,
  Cert.NormB.Gen.facts, Cert.NormBIdeal.Gen.facts, Cert.NormBRefIdeal.Gen.facts,
  Cert.Gates.Gen.facts, Cert.GatesIdeal.Gen.facts, Cert.GatesRefIdeal.Gen.facts,
  Cert.Norm.Gen.facts, Cert.NormIdeal.Gen.facts, Cert.NormRefIdeal.Gen.facts,
  Cert.GateNorm.Gen.facts, Cert.GateNormIdeal.Gen.facts, Cert.GateNormRefIdeal.Gen.facts,
  Cert.Rope.Gen.facts, Cert.RopeIdeal.Gen.facts, Cert.RopeRefIdeal.Gen.facts,
  Cert.LossHead.Gen.facts, Cert.LossHeadIdeal.Gen.facts, Cert.LossHeadRefIdeal.Gen.facts,
  Cert.AdamW.Gen.facts, Cert.AdamWIdeal.Gen.facts, Cert.AdamWRefIdeal.Gen.facts,
  Cert.ProjBa.Gen.facts, Cert.ProjBaIdeal.Gen.facts, Cert.ProjBaRefIdeal.Gen.facts,
  Cert.Pre_finite_cotangent.Gen.facts,
  fun m ρ _ => Cert.DnOut.Gen.frame m ρ, fun m ρ _ => Cert.DnOutIdeal.Gen.frame m ρ, dnOut_ref_frame,
  ffnB_frame, fun m ρ _ => Cert.FfnBIdeal.Body.frame m ρ, fun m ρ _ => Cert.FfnBIdeal.Body.frame m ρ,
  ffnB_ref_frame, fun m ρ _ => ffnB_ref_frame m ρ trivial,
  fun m ρ _ => Cert.Dwg.Gen.frame m ρ, fun m ρ _ => Cert.DwgIdeal.Gen.frame m ρ, dwg_ref_frame,
  fun m ρ _ => Cert.Dwd.Gen.frame m ρ, fun m ρ _ => Cert.DwdIdeal.Gen.frame m ρ, dwd_ref_frame,
  fun m ρ _ => Cert.DH.Gen.frame m ρ, fun m ρ _ => Cert.DHIdeal.Gen.frame m ρ, dH_ref_frame,
  fun m ρ _ => Cert.DWcat.Gen.frame m ρ, fun m ρ _ => Cert.DWcatIdeal.Gen.frame m ρ, dWcat_ref_frame,
  fun m ρ _ => Cert.Proj.Gen.frame m ρ, fun m ρ _ => Cert.ProjIdeal.Gen.frame m ρ, proj_ref_frame,
  fun m ρ _ => Cert.Ffn.Gen.frame m ρ, fun m ρ _ => Cert.FfnIdeal.Gen.frame m ρ, ffn_ref_frame,
  fun m ρ _ => Cert.DMerged.Gen.frame m ρ, fun m ρ _ => Cert.DMergedIdeal.Gen.frame m ρ, dMerged_ref_frame,
  fun m ρ _ => Cert.DWout.Gen.frame m ρ, fun m ρ _ => Cert.DWoutIdeal.Gen.frame m ρ, dWout_ref_frame,
  fun m ρ _ => Cert.Out.Gen.frame m ρ, fun m ρ _ => Cert.OutIdeal.Gen.frame m ρ, out_ref_frame,
  fun m ρ _ => Cert.Pa.Gen.frame m ρ, fun m ρ _ => Cert.PaIdeal.Gen.frame m ρ, pa_ref_frame,
  fun m ρ _ => Cert.DPa.Gen.frame m ρ, fun m ρ _ => Cert.DPaIdeal.Gen.frame m ρ, dPa_ref_frame,
  fun m ρ _ => Cert.DWpa.Gen.frame m ρ, fun m ρ _ => Cert.DWpaIdeal.Gen.frame m ρ, dWpa_ref_frame,
  fun m ρ _ => Cert.Pc.Gen.frame m ρ, fun m ρ _ => Cert.PcIdeal.Gen.frame m ρ, pc_ref_frame,
  fun m ρ _ => Cert.DPc.Gen.frame m ρ, fun m ρ _ => Cert.DPcIdeal.Gen.frame m ρ, dPc_ref_frame,
  fun m ρ _ => Cert.DWpc.Gen.frame m ρ, fun m ρ _ => Cert.DWpcIdeal.Gen.frame m ρ, dWpc_ref_frame,
  fun m ρ _ => Cert.GatesB.Gen.frame m ρ, fun m ρ _ => Cert.GatesBIdeal.Gen.frame m ρ, gatesB_ref_frame,
  fun m ρ _ => Cert.NormB.Gen.frame m ρ, fun m ρ _ => Cert.NormBIdeal.Gen.frame m ρ, normB_ref_frame,
  fun m ρ _ => Cert.Gates.Gen.frame m ρ, fun m ρ _ => Cert.GatesIdeal.Gen.frame m ρ, gates_ref_frame,
  fun m ρ _ => Cert.Norm.Gen.frame m ρ, fun m ρ _ => Cert.NormIdeal.Gen.frame m ρ, norm_ref_frame,
  fun m ρ _ => Cert.GateNorm.Gen.frame m ρ, fun m ρ _ => Cert.GateNormIdeal.Gen.frame m ρ, gateNorm_ref_frame,
  fun m ρ _ => Cert.Rope.Gen.frame m ρ, fun m ρ _ => Cert.RopeIdeal.Gen.frame m ρ, rope_ref_frame,
  fun m ρ _ => Cert.LossHead.Gen.frame m ρ, fun m ρ _ => Cert.LossHeadIdeal.Gen.frame m ρ, lossHead_ref_frame,
  fun m ρ _ => Cert.AdamW.Gen.frame m ρ, fun m ρ _ => Cert.AdamWIdeal.Gen.frame m ρ, adamW_ref_frame,
  fun m ρ _ => Cert.ProjBa.Gen.frame m ρ, fun m ρ _ => Cert.ProjBaIdeal.Gen.frame m ρ, projBa_ref_frame,
  trivial, dnOut_value, trivial, ffnB_value, trivial, dwg_value,
  trivial, dwd_value,
  trivial, dH_value,
  trivial, dWcat_value,
  trivial, proj_value,
  trivial, ffn_value,
  trivial, dMerged_value,
  trivial, dWout_value,
  trivial, out_value,
  trivial, pa_value,
  trivial, dPa_value,
  trivial, dWpa_value,
  trivial, pc_value,
  trivial, dPc_value,
  trivial, dWpc_value,
  trivial, gatesB_value,
  trivial, normB_value,
  trivial, gates_value,
  trivial, norm_value,
  trivial, gateNorm_value,
  trivial, rope_value,
  trivial, lossHead_value,
  trivial, adamW_value,
  trivial, projBa_value⟩

end Cert.Proof

end
